-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_UpBwdX (m : (ℓ : Loc Cert.UpBwdX.nD Cert.UpBwdX.τ Cert.UpBwdX.sig) → Buf (Elt Bits) ℓ) : Prop :=
  True

def Pre_UpBwdXIdeal (m : (ℓ : Loc Cert.UpBwdXIdeal.nD Cert.UpBwdXIdeal.τ Cert.UpBwdXIdeal.sig) → Buf (Elt Ideal) ℓ) : Prop :=
  True

def Pre_UpBwdXRefIdeal (m : (ℓ : Loc Cert.UpBwdXRefIdeal.nD Cert.UpBwdXRefIdeal.τ Cert.UpBwdXRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_InBwdXQkv (m : (ℓ : Loc Cert.InBwdXQkv.nD Cert.InBwdXQkv.τ Cert.InBwdXQkv.sig) → Buf (Elt Bits) ℓ) : Prop :=
  True

def Pre_InBwdXQkvIdeal (m : (ℓ : Loc Cert.InBwdXQkvIdeal.nD Cert.InBwdXQkvIdeal.τ Cert.InBwdXQkvIdeal.sig) → Buf (Elt Ideal) ℓ) : Prop :=
  True

def Pre_InBwdXQkvRefIdeal (m : (ℓ : Loc Cert.InBwdXQkvRefIdeal.nD Cert.InBwdXQkvRefIdeal.τ Cert.InBwdXQkvRefIdeal.sig) → Buf (Elt Ideal) ℓ) : Prop :=
  True

def Pre_InBwdXGate (m : (ℓ : Loc Cert.InBwdXGate.nD Cert.InBwdXGate.τ Cert.InBwdXGate.sig) → Buf (Elt Bits) ℓ) : Prop :=
  True

def Pre_InBwdXGateIdeal (m : (ℓ : Loc Cert.InBwdXGateIdeal.nD Cert.InBwdXGateIdeal.τ Cert.InBwdXGateIdeal.sig) → Buf (Elt Ideal) ℓ) : Prop :=
  True

def Pre_InBwdXGateRefIdeal (m : (ℓ : Loc Cert.InBwdXGateRefIdeal.nD Cert.InBwdXGateRefIdeal.τ Cert.InBwdXGateRefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_ProjGate (m : (ℓ : Loc Cert.ProjGate.nD Cert.ProjGate.τ Cert.ProjGate.sig) → Buf (Elt Bits) ℓ) : Prop :=
  True

def Pre_ProjGateIdeal (m : (ℓ : Loc Cert.ProjGateIdeal.nD Cert.ProjGateIdeal.τ Cert.ProjGateIdeal.sig) → Buf (Elt Ideal) ℓ) : Prop :=
  True

def Pre_ProjGateRefIdeal (m : (ℓ : Loc Cert.ProjGateRefIdeal.nD Cert.ProjGateRefIdeal.τ Cert.ProjGateRefIdeal.sig) → Buf (Elt Ideal) ℓ) : Prop :=
  True

def Pre_OutBwdW (m : (ℓ : Loc Cert.OutBwdW.nD Cert.OutBwdW.τ Cert.OutBwdW.sig) → Buf (Elt Bits) ℓ) : Prop :=
  True

def Pre_OutBwdWIdeal (m : (ℓ : Loc Cert.OutBwdWIdeal.nD Cert.OutBwdWIdeal.τ Cert.OutBwdWIdeal.sig) → Buf (Elt Ideal) ℓ) : Prop :=
  True

def Pre_OutBwdWRefIdeal (m : (ℓ : Loc Cert.OutBwdWRefIdeal.nD Cert.OutBwdWRefIdeal.τ Cert.OutBwdWRefIdeal.sig) → Buf (Elt Ideal) ℓ) : Prop :=
  True

def Pre_InBwdW (m : (ℓ : Loc Cert.InBwdW.nD Cert.InBwdW.τ Cert.InBwdW.sig) → Buf (Elt Bits) ℓ) : Prop :=
  True

def Pre_InBwdWIdeal (m : (ℓ : Loc Cert.InBwdWIdeal.nD Cert.InBwdWIdeal.τ Cert.InBwdWIdeal.sig) → Buf (Elt Ideal) ℓ) : Prop :=
  True

def Pre_InBwdWRefIdeal (m : (ℓ : Loc Cert.InBwdWRefIdeal.nD Cert.InBwdWRefIdeal.τ Cert.InBwdWRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_PostNorm (m : (ℓ : Loc Cert.PostNorm.nD Cert.PostNorm.τ Cert.PostNorm.sig) → Buf (Elt Bits) ℓ) : Prop :=
  True

def Pre_PostNormIdeal (m : (ℓ : Loc Cert.PostNormIdeal.nD Cert.PostNormIdeal.τ Cert.PostNormIdeal.sig) → Buf (Elt Ideal) ℓ) : Prop :=
  True

def Pre_PostNormRefIdeal (m : (ℓ : Loc Cert.PostNormRefIdeal.nD Cert.PostNormRefIdeal.τ Cert.PostNormRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_finite_norm [hPre_finite_norm : Cert.Pre_finite_norm.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4))).1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4))).2.1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4))).2.2.1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4))).2.2.2 = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_finite_norm [hPre_finite_norm : Cert.Pre_finite_norm.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4))).1 = (fun _ => 1#1)
    ∧ (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4))).2.1 = (fun _ => 1#1)
    ∧ (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4))).2.2.1 = (fun _ => 1#1)
    ∧ (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4))).2.2.2 = (fun _ => 1#1)

def Pre_Chain (m : (ℓ : Loc Cert.Chain.nD Cert.Chain.τ Cert.Chain.sig) → Buf (Elt Bits) ℓ) : Prop :=
  True

def Pre_ChainIdeal (m : (ℓ : Loc Cert.ChainIdeal.nD Cert.ChainIdeal.τ Cert.ChainIdeal.sig) → Buf (Elt Ideal) ℓ) : Prop :=
  True

def Pre_ChainIdeal_finite_chain [hPre_finite_chain : Cert.Pre_finite_chain.Facts] (m : (ℓ : Loc Cert.ChainIdeal.nD Cert.ChainIdeal.τ Cert.ChainIdeal.sig) → Buf (Elt Ideal) ℓ) : Prop :=
  ∀ c : Dev Cert.ChainIdeal.nD,
    (Cert.Pre_finite_chain.fn (F := Ideal) (m ((c.tc : Thread Cert.ChainIdeal.nD Cert.ChainIdeal.τ).loc Cert.ChainIdeal.main_arg0)) (m ((c.tc : Thread Cert.ChainIdeal.nD Cert.ChainIdeal.τ).loc Cert.ChainIdeal.main_arg1)) (m ((c.tc : Thread Cert.ChainIdeal.nD Cert.ChainIdeal.τ).loc Cert.ChainIdeal.main_arg2)) (m ((c.tc : Thread Cert.ChainIdeal.nD Cert.ChainIdeal.τ).loc Cert.ChainIdeal.main_arg3)) (m ((c.tc : Thread Cert.ChainIdeal.nD Cert.ChainIdeal.τ).loc Cert.ChainIdeal.main_arg4)) (m ((c.tc : Thread Cert.ChainIdeal.nD Cert.ChainIdeal.τ).loc Cert.ChainIdeal.main_arg5))).1 = (fun _ => 1#1)
    ∧ (Cert.Pre_finite_chain.fn (F := Ideal) (m ((c.tc : Thread Cert.ChainIdeal.nD Cert.ChainIdeal.τ).loc Cert.ChainIdeal.main_arg0)) (m ((c.tc : Thread Cert.ChainIdeal.nD Cert.ChainIdeal.τ).loc Cert.ChainIdeal.main_arg1)) (m ((c.tc : Thread Cert.ChainIdeal.nD Cert.ChainIdeal.τ).loc Cert.ChainIdeal.main_arg2)) (m ((c.tc : Thread Cert.ChainIdeal.nD Cert.ChainIdeal.τ).loc Cert.ChainIdeal.main_arg3)) (m ((c.tc : Thread Cert.ChainIdeal.nD Cert.ChainIdeal.τ).loc Cert.ChainIdeal.main_arg4)) (m ((c.tc : Thread Cert.ChainIdeal.nD Cert.ChainIdeal.τ).loc Cert.ChainIdeal.main_arg5))).2.1 = (fun _ => 1#1)
    ∧ (Cert.Pre_finite_chain.fn (F := Ideal) (m ((c.tc : Thread Cert.ChainIdeal.nD Cert.ChainIdeal.τ).loc Cert.ChainIdeal.main_arg0)) (m ((c.tc : Thread Cert.ChainIdeal.nD Cert.ChainIdeal.τ).loc Cert.ChainIdeal.main_arg1)) (m ((c.tc : Thread Cert.ChainIdeal.nD Cert.ChainIdeal.τ).loc Cert.ChainIdeal.main_arg2)) (m ((c.tc : Thread Cert.ChainIdeal.nD Cert.ChainIdeal.τ).loc Cert.ChainIdeal.main_arg3)) (m ((c.tc : Thread Cert.ChainIdeal.nD Cert.ChainIdeal.τ).loc Cert.ChainIdeal.main_arg4)) (m ((c.tc : Thread Cert.ChainIdeal.nD Cert.ChainIdeal.τ).loc Cert.ChainIdeal.main_arg5))).2.2.1 = (fun _ => 1#1)
    ∧ (Cert.Pre_finite_chain.fn (F := Ideal) (m ((c.tc : Thread Cert.ChainIdeal.nD Cert.ChainIdeal.τ).loc Cert.ChainIdeal.main_arg0)) (m ((c.tc : Thread Cert.ChainIdeal.nD Cert.ChainIdeal.τ).loc Cert.ChainIdeal.main_arg1)) (m ((c.tc : Thread Cert.ChainIdeal.nD Cert.ChainIdeal.τ).loc Cert.ChainIdeal.main_arg2)) (m ((c.tc : Thread Cert.ChainIdeal.nD Cert.ChainIdeal.τ).loc Cert.ChainIdeal.main_arg3)) (m ((c.tc : Thread Cert.ChainIdeal.nD Cert.ChainIdeal.τ).loc Cert.ChainIdeal.main_arg4)) (m ((c.tc : Thread Cert.ChainIdeal.nD Cert.ChainIdeal.τ).loc Cert.ChainIdeal.main_arg5))).2.2.2.1 = (fun _ => 1#1)
    ∧ (Cert.Pre_finite_chain.fn (F := Ideal) (m ((c.tc : Thread Cert.ChainIdeal.nD Cert.ChainIdeal.τ).loc Cert.ChainIdeal.main_arg0)) (m ((c.tc : Thread Cert.ChainIdeal.nD Cert.ChainIdeal.τ).loc Cert.ChainIdeal.main_arg1)) (m ((c.tc : Thread Cert.ChainIdeal.nD Cert.ChainIdeal.τ).loc Cert.ChainIdeal.main_arg2)) (m ((c.tc : Thread Cert.ChainIdeal.nD Cert.ChainIdeal.τ).loc Cert.ChainIdeal.main_arg3)) (m ((c.tc : Thread Cert.ChainIdeal.nD Cert.ChainIdeal.τ).loc Cert.ChainIdeal.main_arg4)) (m ((c.tc : Thread Cert.ChainIdeal.nD Cert.ChainIdeal.τ).loc Cert.ChainIdeal.main_arg5))).2.2.2.2.1 = (fun _ => 1#1)
    ∧ (Cert.Pre_finite_chain.fn (F := Ideal) (m ((c.tc : Thread Cert.ChainIdeal.nD Cert.ChainIdeal.τ).loc Cert.ChainIdeal.main_arg0)) (m ((c.tc : Thread Cert.ChainIdeal.nD Cert.ChainIdeal.τ).loc Cert.ChainIdeal.main_arg1)) (m ((c.tc : Thread Cert.ChainIdeal.nD Cert.ChainIdeal.τ).loc Cert.ChainIdeal.main_arg2)) (m ((c.tc : Thread Cert.ChainIdeal.nD Cert.ChainIdeal.τ).loc Cert.ChainIdeal.main_arg3)) (m ((c.tc : Thread Cert.ChainIdeal.nD Cert.ChainIdeal.τ).loc Cert.ChainIdeal.main_arg4)) (m ((c.tc : Thread Cert.ChainIdeal.nD Cert.ChainIdeal.τ).loc Cert.ChainIdeal.main_arg5))).2.2.2.2.2 = (fun _ => 1#1)

def Pre_ChainRefIdeal (m : (ℓ : Loc Cert.ChainRefIdeal.nD Cert.ChainRefIdeal.τ Cert.ChainRefIdeal.sig) → Buf (Elt Ideal) ℓ) : Prop :=
  True

def Pre_ChainRefIdeal_finite_chain [hPre_finite_chain : Cert.Pre_finite_chain.Facts] (m : (ℓ : Loc Cert.ChainRefIdeal.nD Cert.ChainRefIdeal.τ Cert.ChainRefIdeal.sig) → Buf (Elt Ideal) ℓ) : Prop :=
  ∀ c : Dev Cert.ChainRefIdeal.nD,
    (Cert.Pre_finite_chain.fn (F := Ideal) (m ((c.tc : Thread Cert.ChainRefIdeal.nD Cert.ChainRefIdeal.τ).loc Cert.ChainRefIdeal.main_arg0)) (m ((c.tc : Thread Cert.ChainRefIdeal.nD Cert.ChainRefIdeal.τ).loc Cert.ChainRefIdeal.main_arg1)) (m ((c.tc : Thread Cert.ChainRefIdeal.nD Cert.ChainRefIdeal.τ).loc Cert.ChainRefIdeal.main_arg2)) (m ((c.tc : Thread Cert.ChainRefIdeal.nD Cert.ChainRefIdeal.τ).loc Cert.ChainRefIdeal.main_arg3)) (m ((c.tc : Thread Cert.ChainRefIdeal.nD Cert.ChainRefIdeal.τ).loc Cert.ChainRefIdeal.main_arg4)) (m ((c.tc : Thread Cert.ChainRefIdeal.nD Cert.ChainRefIdeal.τ).loc Cert.ChainRefIdeal.main_arg5))).1 = (fun _ => 1#1)
    ∧ (Cert.Pre_finite_chain.fn (F := Ideal) (m ((c.tc : Thread Cert.ChainRefIdeal.nD Cert.ChainRefIdeal.τ).loc Cert.ChainRefIdeal.main_arg0)) (m ((c.tc : Thread Cert.ChainRefIdeal.nD Cert.ChainRefIdeal.τ).loc Cert.ChainRefIdeal.main_arg1)) (m ((c.tc : Thread Cert.ChainRefIdeal.nD Cert.ChainRefIdeal.τ).loc Cert.ChainRefIdeal.main_arg2)) (m ((c.tc : Thread Cert.ChainRefIdeal.nD Cert.ChainRefIdeal.τ).loc Cert.ChainRefIdeal.main_arg3)) (m ((c.tc : Thread Cert.ChainRefIdeal.nD Cert.ChainRefIdeal.τ).loc Cert.ChainRefIdeal.main_arg4)) (m ((c.tc : Thread Cert.ChainRefIdeal.nD Cert.ChainRefIdeal.τ).loc Cert.ChainRefIdeal.main_arg5))).2.1 = (fun _ => 1#1)
    ∧ (Cert.Pre_finite_chain.fn (F := Ideal) (m ((c.tc : Thread Cert.ChainRefIdeal.nD Cert.ChainRefIdeal.τ).loc Cert.ChainRefIdeal.main_arg0)) (m ((c.tc : Thread Cert.ChainRefIdeal.nD Cert.ChainRefIdeal.τ).loc Cert.ChainRefIdeal.main_arg1)) (m ((c.tc : Thread Cert.ChainRefIdeal.nD Cert.ChainRefIdeal.τ).loc Cert.ChainRefIdeal.main_arg2)) (m ((c.tc : Thread Cert.ChainRefIdeal.nD Cert.ChainRefIdeal.τ).loc Cert.ChainRefIdeal.main_arg3)) (m ((c.tc : Thread Cert.ChainRefIdeal.nD Cert.ChainRefIdeal.τ).loc Cert.ChainRefIdeal.main_arg4)) (m ((c.tc : Thread Cert.ChainRefIdeal.nD Cert.ChainRefIdeal.τ).loc Cert.ChainRefIdeal.main_arg5))).2.2.1 = (fun _ => 1#1)
    ∧ (Cert.Pre_finite_chain.fn (F := Ideal) (m ((c.tc : Thread Cert.ChainRefIdeal.nD Cert.ChainRefIdeal.τ).loc Cert.ChainRefIdeal.main_arg0)) (m ((c.tc : Thread Cert.ChainRefIdeal.nD Cert.ChainRefIdeal.τ).loc Cert.ChainRefIdeal.main_arg1)) (m ((c.tc : Thread Cert.ChainRefIdeal.nD Cert.ChainRefIdeal.τ).loc Cert.ChainRefIdeal.main_arg2)) (m ((c.tc : Thread Cert.ChainRefIdeal.nD Cert.ChainRefIdeal.τ).loc Cert.ChainRefIdeal.main_arg3)) (m ((c.tc : Thread Cert.ChainRefIdeal.nD Cert.ChainRefIdeal.τ).loc Cert.ChainRefIdeal.main_arg4)) (m ((c.tc : Thread Cert.ChainRefIdeal.nD Cert.ChainRefIdeal.τ).loc Cert.ChainRefIdeal.main_arg5))).2.2.2.1 = (fun _ => 1#1)
    ∧ (Cert.Pre_finite_chain.fn (F := Ideal) (m ((c.tc : Thread Cert.ChainRefIdeal.nD Cert.ChainRefIdeal.τ).loc Cert.ChainRefIdeal.main_arg0)) (m ((c.tc : Thread Cert.ChainRefIdeal.nD Cert.ChainRefIdeal.τ).loc Cert.ChainRefIdeal.main_arg1)) (m ((c.tc : Thread Cert.ChainRefIdeal.nD Cert.ChainRefIdeal.τ).loc Cert.ChainRefIdeal.main_arg2)) (m ((c.tc : Thread Cert.ChainRefIdeal.nD Cert.ChainRefIdeal.τ).loc Cert.ChainRefIdeal.main_arg3)) (m ((c.tc : Thread Cert.ChainRefIdeal.nD Cert.ChainRefIdeal.τ).loc Cert.ChainRefIdeal.main_arg4)) (m ((c.tc : Thread Cert.ChainRefIdeal.nD Cert.ChainRefIdeal.τ).loc Cert.ChainRefIdeal.main_arg5))).2.2.2.2.1 = (fun _ => 1#1)
    ∧ (Cert.Pre_finite_chain.fn (F := Ideal) (m ((c.tc : Thread Cert.ChainRefIdeal.nD Cert.ChainRefIdeal.τ).loc Cert.ChainRefIdeal.main_arg0)) (m ((c.tc : Thread Cert.ChainRefIdeal.nD Cert.ChainRefIdeal.τ).loc Cert.ChainRefIdeal.main_arg1)) (m ((c.tc : Thread Cert.ChainRefIdeal.nD Cert.ChainRefIdeal.τ).loc Cert.ChainRefIdeal.main_arg2)) (m ((c.tc : Thread Cert.ChainRefIdeal.nD Cert.ChainRefIdeal.τ).loc Cert.ChainRefIdeal.main_arg3)) (m ((c.tc : Thread Cert.ChainRefIdeal.nD Cert.ChainRefIdeal.τ).loc Cert.ChainRefIdeal.main_arg4)) (m ((c.tc : Thread Cert.ChainRefIdeal.nD Cert.ChainRefIdeal.τ).loc Cert.ChainRefIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_UpBwdX [hUpBwdX : Cert.UpBwdX.Facts] : Prop :=
  ∀ (m : (ℓ : Loc Cert.UpBwdX.nD Cert.UpBwdX.τ Cert.UpBwdX.sig) → Buf (Elt Bits) ℓ) (g : Dev Cert.UpBwdX.nD → PrngReg), Pre_UpBwdX m →
    θ_run (Cert.UpBwdX.defs (F := Bits)) (onTc (τ := Cert.UpBwdX.τ) (Cert.UpBwdX.main (F := Bits))) ⟨m, fun _ => 0, g⟩ (fun r => (∀ c : Dev Cert.UpBwdX.nD,
      r.2.mem ((c.tc : Thread Cert.UpBwdX.nD Cert.UpBwdX.τ).loc Cert.UpBwdX.main_arg0) = m ((c.tc : Thread Cert.UpBwdX.nD Cert.UpBwdX.τ).loc Cert.UpBwdX.main_arg0)
      ∧ r.2.mem ((c.tc : Thread Cert.UpBwdX.nD Cert.UpBwdX.τ).loc Cert.UpBwdX.main_arg1) = m ((c.tc : Thread Cert.UpBwdX.nD Cert.UpBwdX.τ).loc Cert.UpBwdX.main_arg1))
      ∧ r.2.sem = fun _ => 0)

def quiescent_UpBwdXIdeal [hUpBwdXIdeal : Cert.UpBwdXIdeal.Facts] : Prop :=
  ∀ (m : (ℓ : Loc Cert.UpBwdXIdeal.nD Cert.UpBwdXIdeal.τ Cert.UpBwdXIdeal.sig) → Buf (Elt Ideal) ℓ) (g : Dev Cert.UpBwdXIdeal.nD → PrngReg), Pre_UpBwdXIdeal m →
    θ_run (Cert.UpBwdXIdeal.defs (F := Ideal)) (onTc (τ := Cert.UpBwdXIdeal.τ) (Cert.UpBwdXIdeal.main (F := Ideal))) ⟨m, fun _ => 0, g⟩ (fun r => (∀ c : Dev Cert.UpBwdXIdeal.nD,
      r.2.mem ((c.tc : Thread Cert.UpBwdXIdeal.nD Cert.UpBwdXIdeal.τ).loc Cert.UpBwdXIdeal.main_arg0) = m ((c.tc : Thread Cert.UpBwdXIdeal.nD Cert.UpBwdXIdeal.τ).loc Cert.UpBwdXIdeal.main_arg0)
      ∧ r.2.mem ((c.tc : Thread Cert.UpBwdXIdeal.nD Cert.UpBwdXIdeal.τ).loc Cert.UpBwdXIdeal.main_arg1) = m ((c.tc : Thread Cert.UpBwdXIdeal.nD Cert.UpBwdXIdeal.τ).loc Cert.UpBwdXIdeal.main_arg1))
      ∧ r.2.sem = fun _ => 0)

def quiescent_UpBwdXRefIdeal [hUpBwdXRefIdeal : Cert.UpBwdXRefIdeal.Facts] : Prop :=
  ∀ (m : (ℓ : Loc Cert.UpBwdXRefIdeal.nD Cert.UpBwdXRefIdeal.τ Cert.UpBwdXRefIdeal.sig) → Buf (Elt Ideal) ℓ) (g : Dev Cert.UpBwdXRefIdeal.nD → PrngReg), Pre_UpBwdXRefIdeal m →
    θ_run (Cert.UpBwdXRefIdeal.defs (F := Ideal)) (onTc (τ := Cert.UpBwdXRefIdeal.τ) (Cert.UpBwdXRefIdeal.main (F := Ideal))) ⟨m, fun _ => 0, g⟩ (fun r => (∀ c : Dev Cert.UpBwdXRefIdeal.nD,
      r.2.mem ((c.tc : Thread Cert.UpBwdXRefIdeal.nD Cert.UpBwdXRefIdeal.τ).loc Cert.UpBwdXRefIdeal.main_arg0) = m ((c.tc : Thread Cert.UpBwdXRefIdeal.nD Cert.UpBwdXRefIdeal.τ).loc Cert.UpBwdXRefIdeal.main_arg0)
      ∧ r.2.mem ((c.tc : Thread Cert.UpBwdXRefIdeal.nD Cert.UpBwdXRefIdeal.τ).loc Cert.UpBwdXRefIdeal.main_arg1) = m ((c.tc : Thread Cert.UpBwdXRefIdeal.nD Cert.UpBwdXRefIdeal.τ).loc Cert.UpBwdXRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_InBwdXQkv [hInBwdXQkv : Cert.InBwdXQkv.Facts] : Prop :=
  ∀ (m : (ℓ : Loc Cert.InBwdXQkv.nD Cert.InBwdXQkv.τ Cert.InBwdXQkv.sig) → Buf (Elt Bits) ℓ) (g : Dev Cert.InBwdXQkv.nD → PrngReg), Pre_InBwdXQkv m →
    θ_run (Cert.InBwdXQkv.defs (F := Bits)) (onTc (τ := Cert.InBwdXQkv.τ) (Cert.InBwdXQkv.main (F := Bits))) ⟨m, fun _ => 0, g⟩ (fun r => (∀ c : Dev Cert.InBwdXQkv.nD,
      r.2.mem ((c.tc : Thread Cert.InBwdXQkv.nD Cert.InBwdXQkv.τ).loc Cert.InBwdXQkv.main_arg0) = m ((c.tc : Thread Cert.InBwdXQkv.nD Cert.InBwdXQkv.τ).loc Cert.InBwdXQkv.main_arg0)
      ∧ r.2.mem ((c.tc : Thread Cert.InBwdXQkv.nD Cert.InBwdXQkv.τ).loc Cert.InBwdXQkv.main_arg1) = m ((c.tc : Thread Cert.InBwdXQkv.nD Cert.InBwdXQkv.τ).loc Cert.InBwdXQkv.main_arg1))
      ∧ r.2.sem = fun _ => 0)

def quiescent_InBwdXQkvIdeal [hInBwdXQkvIdeal : Cert.InBwdXQkvIdeal.Facts] : Prop :=
  ∀ (m : (ℓ : Loc Cert.InBwdXQkvIdeal.nD Cert.InBwdXQkvIdeal.τ Cert.InBwdXQkvIdeal.sig) → Buf (Elt Ideal) ℓ) (g : Dev Cert.InBwdXQkvIdeal.nD → PrngReg), Pre_InBwdXQkvIdeal m →
    θ_run (Cert.InBwdXQkvIdeal.defs (F := Ideal)) (onTc (τ := Cert.InBwdXQkvIdeal.τ) (Cert.InBwdXQkvIdeal.main (F := Ideal))) ⟨m, fun _ => 0, g⟩ (fun r => (∀ c : Dev Cert.InBwdXQkvIdeal.nD,
      r.2.mem ((c.tc : Thread Cert.InBwdXQkvIdeal.nD Cert.InBwdXQkvIdeal.τ).loc Cert.InBwdXQkvIdeal.main_arg0) = m ((c.tc : Thread Cert.InBwdXQkvIdeal.nD Cert.InBwdXQkvIdeal.τ).loc Cert.InBwdXQkvIdeal.main_arg0)
      ∧ r.2.mem ((c.tc : Thread Cert.InBwdXQkvIdeal.nD Cert.InBwdXQkvIdeal.τ).loc Cert.InBwdXQkvIdeal.main_arg1) = m ((c.tc : Thread Cert.InBwdXQkvIdeal.nD Cert.InBwdXQkvIdeal.τ).loc Cert.InBwdXQkvIdeal.main_arg1))
      ∧ r.2.sem = fun _ => 0)

def quiescent_InBwdXQkvRefIdeal [hInBwdXQkvRefIdeal : Cert.InBwdXQkvRefIdeal.Facts] : Prop :=
  ∀ (m : (ℓ : Loc Cert.InBwdXQkvRefIdeal.nD Cert.InBwdXQkvRefIdeal.τ Cert.InBwdXQkvRefIdeal.sig) → Buf (Elt Ideal) ℓ) (g : Dev Cert.InBwdXQkvRefIdeal.nD → PrngReg), Pre_InBwdXQkvRefIdeal m →
    θ_run (Cert.InBwdXQkvRefIdeal.defs (F := Ideal)) (onTc (τ := Cert.InBwdXQkvRefIdeal.τ) (Cert.InBwdXQkvRefIdeal.main (F := Ideal))) ⟨m, fun _ => 0, g⟩ (fun r => (∀ c : Dev Cert.InBwdXQkvRefIdeal.nD,
      r.2.mem ((c.tc : Thread Cert.InBwdXQkvRefIdeal.nD Cert.InBwdXQkvRefIdeal.τ).loc Cert.InBwdXQkvRefIdeal.main_arg0) = m ((c.tc : Thread Cert.InBwdXQkvRefIdeal.nD Cert.InBwdXQkvRefIdeal.τ).loc Cert.InBwdXQkvRefIdeal.main_arg0)
      ∧ r.2.mem ((c.tc : Thread Cert.InBwdXQkvRefIdeal.nD Cert.InBwdXQkvRefIdeal.τ).loc Cert.InBwdXQkvRefIdeal.main_arg1) = m ((c.tc : Thread Cert.InBwdXQkvRefIdeal.nD Cert.InBwdXQkvRefIdeal.τ).loc Cert.InBwdXQkvRefIdeal.main_arg1))
      ∧ r.2.sem = fun _ => 0)

def quiescent_InBwdXGate [hInBwdXGate : Cert.InBwdXGate.Facts] : Prop :=
  ∀ (m : (ℓ : Loc Cert.InBwdXGate.nD Cert.InBwdXGate.τ Cert.InBwdXGate.sig) → Buf (Elt Bits) ℓ) (g : Dev Cert.InBwdXGate.nD → PrngReg), Pre_InBwdXGate m →
    θ_run (Cert.InBwdXGate.defs (F := Bits)) (onTc (τ := Cert.InBwdXGate.τ) (Cert.InBwdXGate.main (F := Bits))) ⟨m, fun _ => 0, g⟩ (fun r => (∀ c : Dev Cert.InBwdXGate.nD,
      r.2.mem ((c.tc : Thread Cert.InBwdXGate.nD Cert.InBwdXGate.τ).loc Cert.InBwdXGate.main_arg0) = m ((c.tc : Thread Cert.InBwdXGate.nD Cert.InBwdXGate.τ).loc Cert.InBwdXGate.main_arg0)
      ∧ r.2.mem ((c.tc : Thread Cert.InBwdXGate.nD Cert.InBwdXGate.τ).loc Cert.InBwdXGate.main_arg1) = m ((c.tc : Thread Cert.InBwdXGate.nD Cert.InBwdXGate.τ).loc Cert.InBwdXGate.main_arg1))
      ∧ r.2.sem = fun _ => 0)

def quiescent_InBwdXGateIdeal [hInBwdXGateIdeal : Cert.InBwdXGateIdeal.Facts] : Prop :=
  ∀ (m : (ℓ : Loc Cert.InBwdXGateIdeal.nD Cert.InBwdXGateIdeal.τ Cert.InBwdXGateIdeal.sig) → Buf (Elt Ideal) ℓ) (g : Dev Cert.InBwdXGateIdeal.nD → PrngReg), Pre_InBwdXGateIdeal m →
    θ_run (Cert.InBwdXGateIdeal.defs (F := Ideal)) (onTc (τ := Cert.InBwdXGateIdeal.τ) (Cert.InBwdXGateIdeal.main (F := Ideal))) ⟨m, fun _ => 0, g⟩ (fun r => (∀ c : Dev Cert.InBwdXGateIdeal.nD,
      r.2.mem ((c.tc : Thread Cert.InBwdXGateIdeal.nD Cert.InBwdXGateIdeal.τ).loc Cert.InBwdXGateIdeal.main_arg0) = m ((c.tc : Thread Cert.InBwdXGateIdeal.nD Cert.InBwdXGateIdeal.τ).loc Cert.InBwdXGateIdeal.main_arg0)
      ∧ r.2.mem ((c.tc : Thread Cert.InBwdXGateIdeal.nD Cert.InBwdXGateIdeal.τ).loc Cert.InBwdXGateIdeal.main_arg1) = m ((c.tc : Thread Cert.InBwdXGateIdeal.nD Cert.InBwdXGateIdeal.τ).loc Cert.InBwdXGateIdeal.main_arg1))
      ∧ r.2.sem = fun _ => 0)

def quiescent_InBwdXGateRefIdeal [hInBwdXGateRefIdeal : Cert.InBwdXGateRefIdeal.Facts] : Prop :=
  ∀ (m : (ℓ : Loc Cert.InBwdXGateRefIdeal.nD Cert.InBwdXGateRefIdeal.τ Cert.InBwdXGateRefIdeal.sig) → Buf (Elt Ideal) ℓ) (g : Dev Cert.InBwdXGateRefIdeal.nD → PrngReg), Pre_InBwdXGateRefIdeal m →
    θ_run (Cert.InBwdXGateRefIdeal.defs (F := Ideal)) (onTc (τ := Cert.InBwdXGateRefIdeal.τ) (Cert.InBwdXGateRefIdeal.main (F := Ideal))) ⟨m, fun _ => 0, g⟩ (fun r => (∀ c : Dev Cert.InBwdXGateRefIdeal.nD,
      r.2.mem ((c.tc : Thread Cert.InBwdXGateRefIdeal.nD Cert.InBwdXGateRefIdeal.τ).loc Cert.InBwdXGateRefIdeal.main_arg0) = m ((c.tc : Thread Cert.InBwdXGateRefIdeal.nD Cert.InBwdXGateRefIdeal.τ).loc Cert.InBwdXGateRefIdeal.main_arg0)
      ∧ r.2.mem ((c.tc : Thread Cert.InBwdXGateRefIdeal.nD Cert.InBwdXGateRefIdeal.τ).loc Cert.InBwdXGateRefIdeal.main_arg1) = m ((c.tc : Thread Cert.InBwdXGateRefIdeal.nD Cert.InBwdXGateRefIdeal.τ).loc Cert.InBwdXGateRefIdeal.main_arg1))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1))
      ∧ r.2.sem = fun _ => 0)

def quiescent_ProjGate [hProjGate : Cert.ProjGate.Facts] : Prop :=
  ∀ (m : (ℓ : Loc Cert.ProjGate.nD Cert.ProjGate.τ Cert.ProjGate.sig) → Buf (Elt Bits) ℓ) (g : Dev Cert.ProjGate.nD → PrngReg), Pre_ProjGate m →
    θ_run (Cert.ProjGate.defs (F := Bits)) (onTc (τ := Cert.ProjGate.τ) (Cert.ProjGate.main (F := Bits))) ⟨m, fun _ => 0, g⟩ (fun r => (∀ c : Dev Cert.ProjGate.nD,
      r.2.mem ((c.tc : Thread Cert.ProjGate.nD Cert.ProjGate.τ).loc Cert.ProjGate.main_arg0) = m ((c.tc : Thread Cert.ProjGate.nD Cert.ProjGate.τ).loc Cert.ProjGate.main_arg0)
      ∧ r.2.mem ((c.tc : Thread Cert.ProjGate.nD Cert.ProjGate.τ).loc Cert.ProjGate.main_arg1) = m ((c.tc : Thread Cert.ProjGate.nD Cert.ProjGate.τ).loc Cert.ProjGate.main_arg1))
      ∧ r.2.sem = fun _ => 0)

def quiescent_ProjGateIdeal [hProjGateIdeal : Cert.ProjGateIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg), Pre_ProjGateIdeal m →
    θ_run (Cert.ProjGateIdeal.defs (F := Ideal)) (onTc (τ := Cert.ProjGateIdeal.τ) (Cert.ProjGateIdeal.main (F := Ideal))) ⟨m, fun _ => 0, g⟩ (fun r => (∀ c : Dev Cert.ProjGateIdeal.nD,
      r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
      ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ r.2.sem = fun _ => 0)

def quiescent_ProjGateRefIdeal [hProjGateRefIdeal : Cert.ProjGateRefIdeal.Facts] : Prop :=
  ∀ (m : (ℓ : Loc Cert.ProjGateRefIdeal.nD Cert.ProjGateRefIdeal.τ Cert.ProjGateRefIdeal.sig) → Buf (Elt Ideal) ℓ) (g : Dev Cert.ProjGateRefIdeal.nD → PrngReg), Pre_ProjGateRefIdeal m →
    θ_run (Cert.ProjGateRefIdeal.defs (F := Ideal)) (onTc (τ := Cert.ProjGateRefIdeal.τ) (Cert.ProjGateRefIdeal.main (F := Ideal))) ⟨m, fun _ => 0, g⟩ (fun r => (∀ c : Dev Cert.ProjGateRefIdeal.nD,
      r.2.mem ((c.tc : Thread Cert.ProjGateRefIdeal.nD Cert.ProjGateRefIdeal.τ).loc Cert.ProjGateRefIdeal.main_arg0) = m ((c.tc : Thread Cert.ProjGateRefIdeal.nD Cert.ProjGateRefIdeal.τ).loc Cert.ProjGateRefIdeal.main_arg0)
      ∧ r.2.mem ((c.tc : Thread Cert.ProjGateRefIdeal.nD Cert.ProjGateRefIdeal.τ).loc Cert.ProjGateRefIdeal.main_arg1) = m ((c.tc : Thread Cert.ProjGateRefIdeal.nD Cert.ProjGateRefIdeal.τ).loc Cert.ProjGateRefIdeal.main_arg1))
      ∧ r.2.sem = fun _ => 0)

def quiescent_OutBwdW [hOutBwdW : Cert.OutBwdW.Facts] : Prop :=
  ∀ (m : (ℓ : Loc Cert.OutBwdW.nD Cert.OutBwdW.τ Cert.OutBwdW.sig) → Buf (Elt Bits) ℓ) (g : Dev Cert.OutBwdW.nD → PrngReg), Pre_OutBwdW m →
    θ_run (Cert.OutBwdW.defs (F := Bits)) (onTc (τ := Cert.OutBwdW.τ) (Cert.OutBwdW.main (F := Bits))) ⟨m, fun _ => 0, g⟩ (fun r => (∀ c : Dev Cert.OutBwdW.nD,
      r.2.mem ((c.tc : Thread Cert.OutBwdW.nD Cert.OutBwdW.τ).loc Cert.OutBwdW.main_arg0) = m ((c.tc : Thread Cert.OutBwdW.nD Cert.OutBwdW.τ).loc Cert.OutBwdW.main_arg0)
      ∧ r.2.mem ((c.tc : Thread Cert.OutBwdW.nD Cert.OutBwdW.τ).loc Cert.OutBwdW.main_arg1) = m ((c.tc : Thread Cert.OutBwdW.nD Cert.OutBwdW.τ).loc Cert.OutBwdW.main_arg1))
      ∧ r.2.sem = fun _ => 0)

def quiescent_OutBwdWIdeal [hOutBwdWIdeal : Cert.OutBwdWIdeal.Facts] : Prop :=
  ∀ (m : (ℓ : Loc Cert.OutBwdWIdeal.nD Cert.OutBwdWIdeal.τ Cert.OutBwdWIdeal.sig) → Buf (Elt Ideal) ℓ) (g : Dev Cert.OutBwdWIdeal.nD → PrngReg), Pre_OutBwdWIdeal m →
    θ_run (Cert.OutBwdWIdeal.defs (F := Ideal)) (onTc (τ := Cert.OutBwdWIdeal.τ) (Cert.OutBwdWIdeal.main (F := Ideal))) ⟨m, fun _ => 0, g⟩ (fun r => (∀ c : Dev Cert.OutBwdWIdeal.nD,
      r.2.mem ((c.tc : Thread Cert.OutBwdWIdeal.nD Cert.OutBwdWIdeal.τ).loc Cert.OutBwdWIdeal.main_arg0) = m ((c.tc : Thread Cert.OutBwdWIdeal.nD Cert.OutBwdWIdeal.τ).loc Cert.OutBwdWIdeal.main_arg0)
      ∧ r.2.mem ((c.tc : Thread Cert.OutBwdWIdeal.nD Cert.OutBwdWIdeal.τ).loc Cert.OutBwdWIdeal.main_arg1) = m ((c.tc : Thread Cert.OutBwdWIdeal.nD Cert.OutBwdWIdeal.τ).loc Cert.OutBwdWIdeal.main_arg1))
      ∧ r.2.sem = fun _ => 0)

def quiescent_OutBwdWRefIdeal [hOutBwdWRefIdeal : Cert.OutBwdWRefIdeal.Facts] : Prop :=
  ∀ (m : (ℓ : Loc Cert.OutBwdWRefIdeal.nD Cert.OutBwdWRefIdeal.τ Cert.OutBwdWRefIdeal.sig) → Buf (Elt Ideal) ℓ) (g : Dev Cert.OutBwdWRefIdeal.nD → PrngReg), Pre_OutBwdWRefIdeal m →
    θ_run (Cert.OutBwdWRefIdeal.defs (F := Ideal)) (onTc (τ := Cert.OutBwdWRefIdeal.τ) (Cert.OutBwdWRefIdeal.main (F := Ideal))) ⟨m, fun _ => 0, g⟩ (fun r => (∀ c : Dev Cert.OutBwdWRefIdeal.nD,
      r.2.mem ((c.tc : Thread Cert.OutBwdWRefIdeal.nD Cert.OutBwdWRefIdeal.τ).loc Cert.OutBwdWRefIdeal.main_arg0) = m ((c.tc : Thread Cert.OutBwdWRefIdeal.nD Cert.OutBwdWRefIdeal.τ).loc Cert.OutBwdWRefIdeal.main_arg0)
      ∧ r.2.mem ((c.tc : Thread Cert.OutBwdWRefIdeal.nD Cert.OutBwdWRefIdeal.τ).loc Cert.OutBwdWRefIdeal.main_arg1) = m ((c.tc : Thread Cert.OutBwdWRefIdeal.nD Cert.OutBwdWRefIdeal.τ).loc Cert.OutBwdWRefIdeal.main_arg1))
      ∧ r.2.sem = fun _ => 0)

def quiescent_InBwdW [hInBwdW : Cert.InBwdW.Facts] : Prop :=
  ∀ (m : (ℓ : Loc Cert.InBwdW.nD Cert.InBwdW.τ Cert.InBwdW.sig) → Buf (Elt Bits) ℓ) (g : Dev Cert.InBwdW.nD → PrngReg), Pre_InBwdW m →
    θ_run (Cert.InBwdW.defs (F := Bits)) (onTc (τ := Cert.InBwdW.τ) (Cert.InBwdW.main (F := Bits))) ⟨m, fun _ => 0, g⟩ (fun r => (∀ c : Dev Cert.InBwdW.nD,
      r.2.mem ((c.tc : Thread Cert.InBwdW.nD Cert.InBwdW.τ).loc Cert.InBwdW.main_arg0) = m ((c.tc : Thread Cert.InBwdW.nD Cert.InBwdW.τ).loc Cert.InBwdW.main_arg0)
      ∧ r.2.mem ((c.tc : Thread Cert.InBwdW.nD Cert.InBwdW.τ).loc Cert.InBwdW.main_arg1) = m ((c.tc : Thread Cert.InBwdW.nD Cert.InBwdW.τ).loc Cert.InBwdW.main_arg1)
      ∧ r.2.mem ((c.tc : Thread Cert.InBwdW.nD Cert.InBwdW.τ).loc Cert.InBwdW.main_arg2) = m ((c.tc : Thread Cert.InBwdW.nD Cert.InBwdW.τ).loc Cert.InBwdW.main_arg2))
      ∧ r.2.sem = fun _ => 0)

def quiescent_InBwdWIdeal [hInBwdWIdeal : Cert.InBwdWIdeal.Facts] : Prop :=
  ∀ (m : (ℓ : Loc Cert.InBwdWIdeal.nD Cert.InBwdWIdeal.τ Cert.InBwdWIdeal.sig) → Buf (Elt Ideal) ℓ) (g : Dev Cert.InBwdWIdeal.nD → PrngReg), Pre_InBwdWIdeal m →
    θ_run (Cert.InBwdWIdeal.defs (F := Ideal)) (onTc (τ := Cert.InBwdWIdeal.τ) (Cert.InBwdWIdeal.main (F := Ideal))) ⟨m, fun _ => 0, g⟩ (fun r => (∀ c : Dev Cert.InBwdWIdeal.nD,
      r.2.mem ((c.tc : Thread Cert.InBwdWIdeal.nD Cert.InBwdWIdeal.τ).loc Cert.InBwdWIdeal.main_arg0) = m ((c.tc : Thread Cert.InBwdWIdeal.nD Cert.InBwdWIdeal.τ).loc Cert.InBwdWIdeal.main_arg0)
      ∧ r.2.mem ((c.tc : Thread Cert.InBwdWIdeal.nD Cert.InBwdWIdeal.τ).loc Cert.InBwdWIdeal.main_arg1) = m ((c.tc : Thread Cert.InBwdWIdeal.nD Cert.InBwdWIdeal.τ).loc Cert.InBwdWIdeal.main_arg1)
      ∧ r.2.mem ((c.tc : Thread Cert.InBwdWIdeal.nD Cert.InBwdWIdeal.τ).loc Cert.InBwdWIdeal.main_arg2) = m ((c.tc : Thread Cert.InBwdWIdeal.nD Cert.InBwdWIdeal.τ).loc Cert.InBwdWIdeal.main_arg2))
      ∧ r.2.sem = fun _ => 0)

def quiescent_InBwdWRefIdeal [hInBwdWRefIdeal : Cert.InBwdWRefIdeal.Facts] : Prop :=
  ∀ (m : (ℓ : Loc Cert.InBwdWRefIdeal.nD Cert.InBwdWRefIdeal.τ Cert.InBwdWRefIdeal.sig) → Buf (Elt Ideal) ℓ) (g : Dev Cert.InBwdWRefIdeal.nD → PrngReg), Pre_InBwdWRefIdeal m →
    θ_run (Cert.InBwdWRefIdeal.defs (F := Ideal)) (onTc (τ := Cert.InBwdWRefIdeal.τ) (Cert.InBwdWRefIdeal.main (F := Ideal))) ⟨m, fun _ => 0, g⟩ (fun r => (∀ c : Dev Cert.InBwdWRefIdeal.nD,
      r.2.mem ((c.tc : Thread Cert.InBwdWRefIdeal.nD Cert.InBwdWRefIdeal.τ).loc Cert.InBwdWRefIdeal.main_arg0) = m ((c.tc : Thread Cert.InBwdWRefIdeal.nD Cert.InBwdWRefIdeal.τ).loc Cert.InBwdWRefIdeal.main_arg0)
      ∧ r.2.mem ((c.tc : Thread Cert.InBwdWRefIdeal.nD Cert.InBwdWRefIdeal.τ).loc Cert.InBwdWRefIdeal.main_arg1) = m ((c.tc : Thread Cert.InBwdWRefIdeal.nD Cert.InBwdWRefIdeal.τ).loc Cert.InBwdWRefIdeal.main_arg1)
      ∧ r.2.mem ((c.tc : Thread Cert.InBwdWRefIdeal.nD Cert.InBwdWRefIdeal.τ).loc Cert.InBwdWRefIdeal.main_arg2) = m ((c.tc : Thread Cert.InBwdWRefIdeal.nD Cert.InBwdWRefIdeal.τ).loc Cert.InBwdWRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6)
      ∧ r.2.mem ((c.tc : Thread Cert.MergeBwd.nD Cert.MergeBwd.τ).loc Cert.MergeBwd.main_arg7) = m ((c.tc : Thread Cert.MergeBwd.nD Cert.MergeBwd.τ).loc Cert.MergeBwd.main_arg7)
      ∧ r.2.mem ((c.tc : Thread Cert.MergeBwd.nD Cert.MergeBwd.τ).loc Cert.MergeBwd.main_arg8) = m ((c.tc : Thread Cert.MergeBwd.nD Cert.MergeBwd.τ).loc Cert.MergeBwd.main_arg8)
      ∧ r.2.mem ((c.tc : Thread Cert.MergeBwd.nD Cert.MergeBwd.τ).loc Cert.MergeBwd.main_arg9) = m ((c.tc : Thread Cert.MergeBwd.nD Cert.MergeBwd.τ).loc Cert.MergeBwd.main_arg9))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7)
      ∧ r.2.mem ((c.tc : Thread Cert.MergeBwdIdeal.nD Cert.MergeBwdIdeal.τ).loc Cert.MergeBwdIdeal.main_arg8) = m ((c.tc : Thread Cert.MergeBwdIdeal.nD Cert.MergeBwdIdeal.τ).loc Cert.MergeBwdIdeal.main_arg8)
      ∧ r.2.mem ((c.tc : Thread Cert.MergeBwdIdeal.nD Cert.MergeBwdIdeal.τ).loc Cert.MergeBwdIdeal.main_arg9) = m ((c.tc : Thread Cert.MergeBwdIdeal.nD Cert.MergeBwdIdeal.τ).loc Cert.MergeBwdIdeal.main_arg9))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6)
      ∧ r.2.mem ((c.tc : Thread Cert.MergeBwdRefIdeal.nD Cert.MergeBwdRefIdeal.τ).loc Cert.MergeBwdRefIdeal.main_arg7) = m ((c.tc : Thread Cert.MergeBwdRefIdeal.nD Cert.MergeBwdRefIdeal.τ).loc Cert.MergeBwdRefIdeal.main_arg7)
      ∧ r.2.mem ((c.tc : Thread Cert.MergeBwdRefIdeal.nD Cert.MergeBwdRefIdeal.τ).loc Cert.MergeBwdRefIdeal.main_arg8) = m ((c.tc : Thread Cert.MergeBwdRefIdeal.nD Cert.MergeBwdRefIdeal.τ).loc Cert.MergeBwdRefIdeal.main_arg8)
      ∧ r.2.mem ((c.tc : Thread Cert.MergeBwdRefIdeal.nD Cert.MergeBwdRefIdeal.τ).loc Cert.MergeBwdRefIdeal.main_arg9) = m ((c.tc : Thread Cert.MergeBwdRefIdeal.nD Cert.MergeBwdRefIdeal.τ).loc Cert.MergeBwdRefIdeal.main_arg9))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1))
      ∧ r.2.sem = fun _ => 0)

def quiescent_PostNorm [hPostNorm : Cert.PostNorm.Facts] : Prop :=
  ∀ (m : (ℓ : Loc Cert.PostNorm.nD Cert.PostNorm.τ Cert.PostNorm.sig) → Buf (Elt Bits) ℓ) (g : Dev Cert.PostNorm.nD → PrngReg), Pre_PostNorm m →
    θ_run (Cert.PostNorm.defs (F := Bits)) (onTc (τ := Cert.PostNorm.τ) (Cert.PostNorm.main (F := Bits))) ⟨m, fun _ => 0, g⟩ (fun r => (∀ c : Dev Cert.PostNorm.nD,
      r.2.mem ((c.tc : Thread Cert.PostNorm.nD Cert.PostNorm.τ).loc Cert.PostNorm.main_arg0) = m ((c.tc : Thread Cert.PostNorm.nD Cert.PostNorm.τ).loc Cert.PostNorm.main_arg0)
      ∧ r.2.mem ((c.tc : Thread Cert.PostNorm.nD Cert.PostNorm.τ).loc Cert.PostNorm.main_arg1) = m ((c.tc : Thread Cert.PostNorm.nD Cert.PostNorm.τ).loc Cert.PostNorm.main_arg1)
      ∧ r.2.mem ((c.tc : Thread Cert.PostNorm.nD Cert.PostNorm.τ).loc Cert.PostNorm.main_arg2) = m ((c.tc : Thread Cert.PostNorm.nD Cert.PostNorm.τ).loc Cert.PostNorm.main_arg2)
      ∧ r.2.mem ((c.tc : Thread Cert.PostNorm.nD Cert.PostNorm.τ).loc Cert.PostNorm.main_arg3) = m ((c.tc : Thread Cert.PostNorm.nD Cert.PostNorm.τ).loc Cert.PostNorm.main_arg3))
      ∧ r.2.sem = fun _ => 0)

def quiescent_PostNormIdeal [hPostNormIdeal : Cert.PostNormIdeal.Facts] : Prop :=
  ∀ (m : (ℓ : Loc Cert.PostNormIdeal.nD Cert.PostNormIdeal.τ Cert.PostNormIdeal.sig) → Buf (Elt Ideal) ℓ) (g : Dev Cert.PostNormIdeal.nD → PrngReg), Pre_PostNormIdeal m →
    θ_run (Cert.PostNormIdeal.defs (F := Ideal)) (onTc (τ := Cert.PostNormIdeal.τ) (Cert.PostNormIdeal.main (F := Ideal))) ⟨m, fun _ => 0, g⟩ (fun r => (∀ c : Dev Cert.PostNormIdeal.nD,
      r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
      ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
      ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2)
      ∧ r.2.mem ((c.tc : Thread Cert.PostNormIdeal.nD Cert.PostNormIdeal.τ).loc Cert.PostNormIdeal.main_arg3) = m ((c.tc : Thread Cert.PostNormIdeal.nD Cert.PostNormIdeal.τ).loc Cert.PostNormIdeal.main_arg3))
      ∧ r.2.sem = fun _ => 0)

def quiescent_PostNormRefIdeal [hPostNormRefIdeal : Cert.PostNormRefIdeal.Facts] : Prop :=
  ∀ (m : (ℓ : Loc Cert.PostNormRefIdeal.nD Cert.PostNormRefIdeal.τ Cert.PostNormRefIdeal.sig) → Buf (Elt Ideal) ℓ) (g : Dev Cert.PostNormRefIdeal.nD → PrngReg), Pre_PostNormRefIdeal m →
    θ_run (Cert.PostNormRefIdeal.defs (F := Ideal)) (onTc (τ := Cert.PostNormRefIdeal.τ) (Cert.PostNormRefIdeal.main (F := Ideal))) ⟨m, fun _ => 0, g⟩ (fun r => (∀ c : Dev Cert.PostNormRefIdeal.nD,
      r.2.mem ((c.tc : Thread Cert.PostNormRefIdeal.nD Cert.PostNormRefIdeal.τ).loc Cert.PostNormRefIdeal.main_arg0) = m ((c.tc : Thread Cert.PostNormRefIdeal.nD Cert.PostNormRefIdeal.τ).loc Cert.PostNormRefIdeal.main_arg0)
      ∧ r.2.mem ((c.tc : Thread Cert.PostNormRefIdeal.nD Cert.PostNormRefIdeal.τ).loc Cert.PostNormRefIdeal.main_arg1) = m ((c.tc : Thread Cert.PostNormRefIdeal.nD Cert.PostNormRefIdeal.τ).loc Cert.PostNormRefIdeal.main_arg1)
      ∧ r.2.mem ((c.tc : Thread Cert.PostNormRefIdeal.nD Cert.PostNormRefIdeal.τ).loc Cert.PostNormRefIdeal.main_arg2) = m ((c.tc : Thread Cert.PostNormRefIdeal.nD Cert.PostNormRefIdeal.τ).loc Cert.PostNormRefIdeal.main_arg2)
      ∧ r.2.mem ((c.tc : Thread Cert.PostNormRefIdeal.nD Cert.PostNormRefIdeal.τ).loc Cert.PostNormRefIdeal.main_arg3) = m ((c.tc : Thread Cert.PostNormRefIdeal.nD Cert.PostNormRefIdeal.τ).loc Cert.PostNormRefIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdIdeal_pre_finite_norm [hNormBwdIdeal : Cert.NormBwdIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_finite_norm m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_NormBwdRefIdeal_pre_finite_norm [hNormBwdRefIdeal : Cert.NormBwdRefIdeal.Facts] [hPre_finite_norm : Cert.Pre_finite_norm.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_finite_norm m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_Chain [hChain : Cert.Chain.Facts] : Prop :=
  ∀ (m : (ℓ : Loc Cert.Chain.nD Cert.Chain.τ Cert.Chain.sig) → Buf (Elt Bits) ℓ) (g : Dev Cert.Chain.nD → PrngReg), Pre_Chain m →
    θ_run (Cert.Chain.defs (F := Bits)) (onTc (τ := Cert.Chain.τ) (Cert.Chain.main (F := Bits))) ⟨m, fun _ => 0, g⟩ (fun r => (∀ c : Dev Cert.Chain.nD,
      r.2.mem ((c.tc : Thread Cert.Chain.nD Cert.Chain.τ).loc Cert.Chain.main_arg0) = m ((c.tc : Thread Cert.Chain.nD Cert.Chain.τ).loc Cert.Chain.main_arg0)
      ∧ r.2.mem ((c.tc : Thread Cert.Chain.nD Cert.Chain.τ).loc Cert.Chain.main_arg1) = m ((c.tc : Thread Cert.Chain.nD Cert.Chain.τ).loc Cert.Chain.main_arg1)
      ∧ r.2.mem ((c.tc : Thread Cert.Chain.nD Cert.Chain.τ).loc Cert.Chain.main_arg2) = m ((c.tc : Thread Cert.Chain.nD Cert.Chain.τ).loc Cert.Chain.main_arg2)
      ∧ r.2.mem ((c.tc : Thread Cert.Chain.nD Cert.Chain.τ).loc Cert.Chain.main_arg3) = m ((c.tc : Thread Cert.Chain.nD Cert.Chain.τ).loc Cert.Chain.main_arg3)
      ∧ r.2.mem ((c.tc : Thread Cert.Chain.nD Cert.Chain.τ).loc Cert.Chain.main_arg4) = m ((c.tc : Thread Cert.Chain.nD Cert.Chain.τ).loc Cert.Chain.main_arg4)
      ∧ r.2.mem ((c.tc : Thread Cert.Chain.nD Cert.Chain.τ).loc Cert.Chain.main_arg5) = m ((c.tc : Thread Cert.Chain.nD Cert.Chain.τ).loc Cert.Chain.main_arg5))
      ∧ r.2.sem = fun _ => 0)

def quiescent_ChainIdeal [hChainIdeal : Cert.ChainIdeal.Facts] : Prop :=
  ∀ (m : (ℓ : Loc Cert.ChainIdeal.nD Cert.ChainIdeal.τ Cert.ChainIdeal.sig) → Buf (Elt Ideal) ℓ) (g : Dev Cert.ChainIdeal.nD → PrngReg), Pre_ChainIdeal m →
    θ_run (Cert.ChainIdeal.defs (F := Ideal)) (onTc (τ := Cert.ChainIdeal.τ) (Cert.ChainIdeal.main (F := Ideal))) ⟨m, fun _ => 0, g⟩ (fun r => (∀ c : Dev Cert.ChainIdeal.nD,
      r.2.mem ((c.tc : Thread Cert.ChainIdeal.nD Cert.ChainIdeal.τ).loc Cert.ChainIdeal.main_arg0) = m ((c.tc : Thread Cert.ChainIdeal.nD Cert.ChainIdeal.τ).loc Cert.ChainIdeal.main_arg0)
      ∧ r.2.mem ((c.tc : Thread Cert.ChainIdeal.nD Cert.ChainIdeal.τ).loc Cert.ChainIdeal.main_arg1) = m ((c.tc : Thread Cert.ChainIdeal.nD Cert.ChainIdeal.τ).loc Cert.ChainIdeal.main_arg1)
      ∧ r.2.mem ((c.tc : Thread Cert.ChainIdeal.nD Cert.ChainIdeal.τ).loc Cert.ChainIdeal.main_arg2) = m ((c.tc : Thread Cert.ChainIdeal.nD Cert.ChainIdeal.τ).loc Cert.ChainIdeal.main_arg2)
      ∧ r.2.mem ((c.tc : Thread Cert.ChainIdeal.nD Cert.ChainIdeal.τ).loc Cert.ChainIdeal.main_arg3) = m ((c.tc : Thread Cert.ChainIdeal.nD Cert.ChainIdeal.τ).loc Cert.ChainIdeal.main_arg3)
      ∧ r.2.mem ((c.tc : Thread Cert.ChainIdeal.nD Cert.ChainIdeal.τ).loc Cert.ChainIdeal.main_arg4) = m ((c.tc : Thread Cert.ChainIdeal.nD Cert.ChainIdeal.τ).loc Cert.ChainIdeal.main_arg4)
      ∧ r.2.mem ((c.tc : Thread Cert.ChainIdeal.nD Cert.ChainIdeal.τ).loc Cert.ChainIdeal.main_arg5) = m ((c.tc : Thread Cert.ChainIdeal.nD Cert.ChainIdeal.τ).loc Cert.ChainIdeal.main_arg5))
      ∧ r.2.sem = fun _ => 0)

def quiescent_ChainIdeal_pre_finite_chain [hChainIdeal : Cert.ChainIdeal.Facts] [hPre_finite_chain : Cert.Pre_finite_chain.Facts] : Prop :=
  ∀ (m : (ℓ : Loc Cert.ChainIdeal.nD Cert.ChainIdeal.τ Cert.ChainIdeal.sig) → Buf (Elt Ideal) ℓ) (g : Dev Cert.ChainIdeal.nD → PrngReg), Pre_ChainIdeal_finite_chain m →
    θ_run (Cert.ChainIdeal.defs (F := Ideal)) (onTc (τ := Cert.ChainIdeal.τ) (Cert.ChainIdeal.main (F := Ideal))) ⟨m, fun _ => 0, g⟩ (fun r => (∀ c : Dev Cert.ChainIdeal.nD,
      r.2.mem ((c.tc : Thread Cert.ChainIdeal.nD Cert.ChainIdeal.τ).loc Cert.ChainIdeal.main_arg0) = m ((c.tc : Thread Cert.ChainIdeal.nD Cert.ChainIdeal.τ).loc Cert.ChainIdeal.main_arg0)
      ∧ r.2.mem ((c.tc : Thread Cert.ChainIdeal.nD Cert.ChainIdeal.τ).loc Cert.ChainIdeal.main_arg1) = m ((c.tc : Thread Cert.ChainIdeal.nD Cert.ChainIdeal.τ).loc Cert.ChainIdeal.main_arg1)
      ∧ r.2.mem ((c.tc : Thread Cert.ChainIdeal.nD Cert.ChainIdeal.τ).loc Cert.ChainIdeal.main_arg2) = m ((c.tc : Thread Cert.ChainIdeal.nD Cert.ChainIdeal.τ).loc Cert.ChainIdeal.main_arg2)
      ∧ r.2.mem ((c.tc : Thread Cert.ChainIdeal.nD Cert.ChainIdeal.τ).loc Cert.ChainIdeal.main_arg3) = m ((c.tc : Thread Cert.ChainIdeal.nD Cert.ChainIdeal.τ).loc Cert.ChainIdeal.main_arg3)
      ∧ r.2.mem ((c.tc : Thread Cert.ChainIdeal.nD Cert.ChainIdeal.τ).loc Cert.ChainIdeal.main_arg4) = m ((c.tc : Thread Cert.ChainIdeal.nD Cert.ChainIdeal.τ).loc Cert.ChainIdeal.main_arg4)
      ∧ r.2.mem ((c.tc : Thread Cert.ChainIdeal.nD Cert.ChainIdeal.τ).loc Cert.ChainIdeal.main_arg5) = m ((c.tc : Thread Cert.ChainIdeal.nD Cert.ChainIdeal.τ).loc Cert.ChainIdeal.main_arg5))
      ∧ r.2.sem = fun _ => 0)

def quiescent_ChainRefIdeal [hChainRefIdeal : Cert.ChainRefIdeal.Facts] : Prop :=
  ∀ (m : (ℓ : Loc Cert.ChainRefIdeal.nD Cert.ChainRefIdeal.τ Cert.ChainRefIdeal.sig) → Buf (Elt Ideal) ℓ) (g : Dev Cert.ChainRefIdeal.nD → PrngReg), Pre_ChainRefIdeal m →
    θ_run (Cert.ChainRefIdeal.defs (F := Ideal)) (onTc (τ := Cert.ChainRefIdeal.τ) (Cert.ChainRefIdeal.main (F := Ideal))) ⟨m, fun _ => 0, g⟩ (fun r => (∀ c : Dev Cert.ChainRefIdeal.nD,
      r.2.mem ((c.tc : Thread Cert.ChainRefIdeal.nD Cert.ChainRefIdeal.τ).loc Cert.ChainRefIdeal.main_arg0) = m ((c.tc : Thread Cert.ChainRefIdeal.nD Cert.ChainRefIdeal.τ).loc Cert.ChainRefIdeal.main_arg0)
      ∧ r.2.mem ((c.tc : Thread Cert.ChainRefIdeal.nD Cert.ChainRefIdeal.τ).loc Cert.ChainRefIdeal.main_arg1) = m ((c.tc : Thread Cert.ChainRefIdeal.nD Cert.ChainRefIdeal.τ).loc Cert.ChainRefIdeal.main_arg1)
      ∧ r.2.mem ((c.tc : Thread Cert.ChainRefIdeal.nD Cert.ChainRefIdeal.τ).loc Cert.ChainRefIdeal.main_arg2) = m ((c.tc : Thread Cert.ChainRefIdeal.nD Cert.ChainRefIdeal.τ).loc Cert.ChainRefIdeal.main_arg2)
      ∧ r.2.mem ((c.tc : Thread Cert.ChainRefIdeal.nD Cert.ChainRefIdeal.τ).loc Cert.ChainRefIdeal.main_arg3) = m ((c.tc : Thread Cert.ChainRefIdeal.nD Cert.ChainRefIdeal.τ).loc Cert.ChainRefIdeal.main_arg3)
      ∧ r.2.mem ((c.tc : Thread Cert.ChainRefIdeal.nD Cert.ChainRefIdeal.τ).loc Cert.ChainRefIdeal.main_arg4) = m ((c.tc : Thread Cert.ChainRefIdeal.nD Cert.ChainRefIdeal.τ).loc Cert.ChainRefIdeal.main_arg4)
      ∧ r.2.mem ((c.tc : Thread Cert.ChainRefIdeal.nD Cert.ChainRefIdeal.τ).loc Cert.ChainRefIdeal.main_arg5) = m ((c.tc : Thread Cert.ChainRefIdeal.nD Cert.ChainRefIdeal.τ).loc Cert.ChainRefIdeal.main_arg5))
      ∧ r.2.sem = fun _ => 0)

def quiescent_ChainRefIdeal_pre_finite_chain [hChainRefIdeal : Cert.ChainRefIdeal.Facts] [hPre_finite_chain : Cert.Pre_finite_chain.Facts] : Prop :=
  ∀ (m : (ℓ : Loc Cert.ChainRefIdeal.nD Cert.ChainRefIdeal.τ Cert.ChainRefIdeal.sig) → Buf (Elt Ideal) ℓ) (g : Dev Cert.ChainRefIdeal.nD → PrngReg), Pre_ChainRefIdeal_finite_chain m →
    θ_run (Cert.ChainRefIdeal.defs (F := Ideal)) (onTc (τ := Cert.ChainRefIdeal.τ) (Cert.ChainRefIdeal.main (F := Ideal))) ⟨m, fun _ => 0, g⟩ (fun r => (∀ c : Dev Cert.ChainRefIdeal.nD,
      r.2.mem ((c.tc : Thread Cert.ChainRefIdeal.nD Cert.ChainRefIdeal.τ).loc Cert.ChainRefIdeal.main_arg0) = m ((c.tc : Thread Cert.ChainRefIdeal.nD Cert.ChainRefIdeal.τ).loc Cert.ChainRefIdeal.main_arg0)
      ∧ r.2.mem ((c.tc : Thread Cert.ChainRefIdeal.nD Cert.ChainRefIdeal.τ).loc Cert.ChainRefIdeal.main_arg1) = m ((c.tc : Thread Cert.ChainRefIdeal.nD Cert.ChainRefIdeal.τ).loc Cert.ChainRefIdeal.main_arg1)
      ∧ r.2.mem ((c.tc : Thread Cert.ChainRefIdeal.nD Cert.ChainRefIdeal.τ).loc Cert.ChainRefIdeal.main_arg2) = m ((c.tc : Thread Cert.ChainRefIdeal.nD Cert.ChainRefIdeal.τ).loc Cert.ChainRefIdeal.main_arg2)
      ∧ r.2.mem ((c.tc : Thread Cert.ChainRefIdeal.nD Cert.ChainRefIdeal.τ).loc Cert.ChainRefIdeal.main_arg3) = m ((c.tc : Thread Cert.ChainRefIdeal.nD Cert.ChainRefIdeal.τ).loc Cert.ChainRefIdeal.main_arg3)
      ∧ r.2.mem ((c.tc : Thread Cert.ChainRefIdeal.nD Cert.ChainRefIdeal.τ).loc Cert.ChainRefIdeal.main_arg4) = m ((c.tc : Thread Cert.ChainRefIdeal.nD Cert.ChainRefIdeal.τ).loc Cert.ChainRefIdeal.main_arg4)
      ∧ r.2.mem ((c.tc : Thread Cert.ChainRefIdeal.nD Cert.ChainRefIdeal.τ).loc Cert.ChainRefIdeal.main_arg5) = m ((c.tc : Thread Cert.ChainRefIdeal.nD Cert.ChainRefIdeal.τ).loc Cert.ChainRefIdeal.main_arg5))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_c3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v115) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_UpBwdX_UpBwdXIdeal : Prop :=
  True

def algebraic_UpBwdXIdeal_UpBwdXRefIdeal [hUpBwdXIdeal : Cert.UpBwdXIdeal.Facts] [hUpBwdXRefIdeal : Cert.UpBwdXRefIdeal.Facts] : Prop :=
  ∀ (m : (ℓ : Loc Cert.UpBwdXIdeal.nD Cert.UpBwdXIdeal.τ Cert.UpBwdXIdeal.sig) → Buf (Elt Ideal) ℓ) (g : Dev Cert.UpBwdXIdeal.nD → PrngReg)
    (m' : (ℓ : Loc Cert.UpBwdXRefIdeal.nD Cert.UpBwdXRefIdeal.τ Cert.UpBwdXRefIdeal.sig) → Buf (Elt Ideal) ℓ) (g' : Dev Cert.UpBwdXRefIdeal.nD → PrngReg), Pre_UpBwdXIdeal m →
    (∀ c : Dev Cert.UpBwdXIdeal.nD,
      m' ((c.tc : Thread Cert.UpBwdXRefIdeal.nD Cert.UpBwdXRefIdeal.τ).loc Cert.UpBwdXRefIdeal.main_arg0) = m ((c.tc : Thread Cert.UpBwdXIdeal.nD Cert.UpBwdXIdeal.τ).loc Cert.UpBwdXIdeal.main_arg0)
      ∧ m' ((c.tc : Thread Cert.UpBwdXRefIdeal.nD Cert.UpBwdXRefIdeal.τ).loc Cert.UpBwdXRefIdeal.main_arg1) = m ((c.tc : Thread Cert.UpBwdXIdeal.nD Cert.UpBwdXIdeal.τ).loc Cert.UpBwdXIdeal.main_arg1)) →
    ∃ (v0 : (c : Dev Cert.UpBwdXIdeal.nD) → Buf (Elt Ideal) ((c.tc : Thread Cert.UpBwdXIdeal.nD Cert.UpBwdXIdeal.τ).loc Cert.UpBwdXIdeal.main_v0)),
      θ_run (Cert.UpBwdXIdeal.defs (F := Ideal)) (onTc (τ := Cert.UpBwdXIdeal.τ) (Cert.UpBwdXIdeal.main (F := Ideal))) ⟨m, fun _ => 0, g⟩ (fun r => ∀ c : Dev Cert.UpBwdXIdeal.nD,
          r.2.mem ((c.tc : Thread Cert.UpBwdXIdeal.nD Cert.UpBwdXIdeal.τ).loc Cert.UpBwdXIdeal.main_v0) = v0 c
          ∧ r.2.mem ((c.tc : Thread Cert.UpBwdXIdeal.nD Cert.UpBwdXIdeal.τ).loc Cert.UpBwdXIdeal.main_arg0) = m ((c.tc : Thread Cert.UpBwdXIdeal.nD Cert.UpBwdXIdeal.τ).loc Cert.UpBwdXIdeal.main_arg0)
          ∧ r.2.mem ((c.tc : Thread Cert.UpBwdXIdeal.nD Cert.UpBwdXIdeal.τ).loc Cert.UpBwdXIdeal.main_arg1) = m ((c.tc : Thread Cert.UpBwdXIdeal.nD Cert.UpBwdXIdeal.τ).loc Cert.UpBwdXIdeal.main_arg1))
      ∧ θ_run (Cert.UpBwdXRefIdeal.defs (F := Ideal)) (onTc (τ := Cert.UpBwdXRefIdeal.τ) (Cert.UpBwdXRefIdeal.main (F := Ideal))) ⟨m', fun _ => 0, g'⟩ (fun r => ∀ c : Dev Cert.UpBwdXRefIdeal.nD,
          r.2.mem ((c.tc : Thread Cert.UpBwdXRefIdeal.nD Cert.UpBwdXRefIdeal.τ).loc Cert.UpBwdXRefIdeal.main_v9) = v0 c
          ∧ r.2.mem ((c.tc : Thread Cert.UpBwdXRefIdeal.nD Cert.UpBwdXRefIdeal.τ).loc Cert.UpBwdXRefIdeal.main_arg0) = m' ((c.tc : Thread Cert.UpBwdXRefIdeal.nD Cert.UpBwdXRefIdeal.τ).loc Cert.UpBwdXRefIdeal.main_arg0)
          ∧ r.2.mem ((c.tc : Thread Cert.UpBwdXRefIdeal.nD Cert.UpBwdXRefIdeal.τ).loc Cert.UpBwdXRefIdeal.main_arg1) = m' ((c.tc : Thread Cert.UpBwdXRefIdeal.nD Cert.UpBwdXRefIdeal.τ).loc Cert.UpBwdXRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_InBwdXQkv_InBwdXQkvIdeal : Prop :=
  True

def algebraic_InBwdXQkvIdeal_InBwdXQkvRefIdeal [hInBwdXQkvIdeal : Cert.InBwdXQkvIdeal.Facts] [hInBwdXQkvRefIdeal : Cert.InBwdXQkvRefIdeal.Facts] : Prop :=
  ∀ (m : (ℓ : Loc Cert.InBwdXQkvIdeal.nD Cert.InBwdXQkvIdeal.τ Cert.InBwdXQkvIdeal.sig) → Buf (Elt Ideal) ℓ) (g : Dev Cert.InBwdXQkvIdeal.nD → PrngReg)
    (m' : (ℓ : Loc Cert.InBwdXQkvRefIdeal.nD Cert.InBwdXQkvRefIdeal.τ Cert.InBwdXQkvRefIdeal.sig) → Buf (Elt Ideal) ℓ) (g' : Dev Cert.InBwdXQkvRefIdeal.nD → PrngReg), Pre_InBwdXQkvIdeal m →
    (∀ c : Dev Cert.InBwdXQkvIdeal.nD,
      m' ((c.tc : Thread Cert.InBwdXQkvRefIdeal.nD Cert.InBwdXQkvRefIdeal.τ).loc Cert.InBwdXQkvRefIdeal.main_arg0) = m ((c.tc : Thread Cert.InBwdXQkvIdeal.nD Cert.InBwdXQkvIdeal.τ).loc Cert.InBwdXQkvIdeal.main_arg0)
      ∧ m' ((c.tc : Thread Cert.InBwdXQkvRefIdeal.nD Cert.InBwdXQkvRefIdeal.τ).loc Cert.InBwdXQkvRefIdeal.main_arg1) = m ((c.tc : Thread Cert.InBwdXQkvIdeal.nD Cert.InBwdXQkvIdeal.τ).loc Cert.InBwdXQkvIdeal.main_arg1)) →
    ∃ (v0 : (c : Dev Cert.InBwdXQkvIdeal.nD) → Buf (Elt Ideal) ((c.tc : Thread Cert.InBwdXQkvIdeal.nD Cert.InBwdXQkvIdeal.τ).loc Cert.InBwdXQkvIdeal.main_v0)),
      θ_run (Cert.InBwdXQkvIdeal.defs (F := Ideal)) (onTc (τ := Cert.InBwdXQkvIdeal.τ) (Cert.InBwdXQkvIdeal.main (F := Ideal))) ⟨m, fun _ => 0, g⟩ (fun r => ∀ c : Dev Cert.InBwdXQkvIdeal.nD,
          r.2.mem ((c.tc : Thread Cert.InBwdXQkvIdeal.nD Cert.InBwdXQkvIdeal.τ).loc Cert.InBwdXQkvIdeal.main_v0) = v0 c
          ∧ r.2.mem ((c.tc : Thread Cert.InBwdXQkvIdeal.nD Cert.InBwdXQkvIdeal.τ).loc Cert.InBwdXQkvIdeal.main_arg0) = m ((c.tc : Thread Cert.InBwdXQkvIdeal.nD Cert.InBwdXQkvIdeal.τ).loc Cert.InBwdXQkvIdeal.main_arg0)
          ∧ r.2.mem ((c.tc : Thread Cert.InBwdXQkvIdeal.nD Cert.InBwdXQkvIdeal.τ).loc Cert.InBwdXQkvIdeal.main_arg1) = m ((c.tc : Thread Cert.InBwdXQkvIdeal.nD Cert.InBwdXQkvIdeal.τ).loc Cert.InBwdXQkvIdeal.main_arg1))
      ∧ θ_run (Cert.InBwdXQkvRefIdeal.defs (F := Ideal)) (onTc (τ := Cert.InBwdXQkvRefIdeal.τ) (Cert.InBwdXQkvRefIdeal.main (F := Ideal))) ⟨m', fun _ => 0, g'⟩ (fun r => ∀ c : Dev Cert.InBwdXQkvRefIdeal.nD,
          r.2.mem ((c.tc : Thread Cert.InBwdXQkvRefIdeal.nD Cert.InBwdXQkvRefIdeal.τ).loc Cert.InBwdXQkvRefIdeal.main_v8) = v0 c
          ∧ r.2.mem ((c.tc : Thread Cert.InBwdXQkvRefIdeal.nD Cert.InBwdXQkvRefIdeal.τ).loc Cert.InBwdXQkvRefIdeal.main_arg0) = m' ((c.tc : Thread Cert.InBwdXQkvRefIdeal.nD Cert.InBwdXQkvRefIdeal.τ).loc Cert.InBwdXQkvRefIdeal.main_arg0)
          ∧ r.2.mem ((c.tc : Thread Cert.InBwdXQkvRefIdeal.nD Cert.InBwdXQkvRefIdeal.τ).loc Cert.InBwdXQkvRefIdeal.main_arg1) = m' ((c.tc : Thread Cert.InBwdXQkvRefIdeal.nD Cert.InBwdXQkvRefIdeal.τ).loc Cert.InBwdXQkvRefIdeal.main_arg1))

def preserves_InBwdXGate_InBwdXGateIdeal : Prop :=
  True

def algebraic_InBwdXGateIdeal_InBwdXGateRefIdeal [hInBwdXGateIdeal : Cert.InBwdXGateIdeal.Facts] [hInBwdXGateRefIdeal : Cert.InBwdXGateRefIdeal.Facts] : Prop :=
  ∀ (m : (ℓ : Loc Cert.InBwdXGateIdeal.nD Cert.InBwdXGateIdeal.τ Cert.InBwdXGateIdeal.sig) → Buf (Elt Ideal) ℓ) (g : Dev Cert.InBwdXGateIdeal.nD → PrngReg)
    (m' : (ℓ : Loc Cert.InBwdXGateRefIdeal.nD Cert.InBwdXGateRefIdeal.τ Cert.InBwdXGateRefIdeal.sig) → Buf (Elt Ideal) ℓ) (g' : Dev Cert.InBwdXGateRefIdeal.nD → PrngReg), Pre_InBwdXGateIdeal m →
    (∀ c : Dev Cert.InBwdXGateIdeal.nD,
      m' ((c.tc : Thread Cert.InBwdXGateRefIdeal.nD Cert.InBwdXGateRefIdeal.τ).loc Cert.InBwdXGateRefIdeal.main_arg0) = m ((c.tc : Thread Cert.InBwdXGateIdeal.nD Cert.InBwdXGateIdeal.τ).loc Cert.InBwdXGateIdeal.main_arg0)
      ∧ m' ((c.tc : Thread Cert.InBwdXGateRefIdeal.nD Cert.InBwdXGateRefIdeal.τ).loc Cert.InBwdXGateRefIdeal.main_arg1) = m ((c.tc : Thread Cert.InBwdXGateIdeal.nD Cert.InBwdXGateIdeal.τ).loc Cert.InBwdXGateIdeal.main_arg1)) →
    ∃ (v0 : (c : Dev Cert.InBwdXGateIdeal.nD) → Buf (Elt Ideal) ((c.tc : Thread Cert.InBwdXGateIdeal.nD Cert.InBwdXGateIdeal.τ).loc Cert.InBwdXGateIdeal.main_v0)),
      θ_run (Cert.InBwdXGateIdeal.defs (F := Ideal)) (onTc (τ := Cert.InBwdXGateIdeal.τ) (Cert.InBwdXGateIdeal.main (F := Ideal))) ⟨m, fun _ => 0, g⟩ (fun r => ∀ c : Dev Cert.InBwdXGateIdeal.nD,
          r.2.mem ((c.tc : Thread Cert.InBwdXGateIdeal.nD Cert.InBwdXGateIdeal.τ).loc Cert.InBwdXGateIdeal.main_v0) = v0 c
          ∧ r.2.mem ((c.tc : Thread Cert.InBwdXGateIdeal.nD Cert.InBwdXGateIdeal.τ).loc Cert.InBwdXGateIdeal.main_arg0) = m ((c.tc : Thread Cert.InBwdXGateIdeal.nD Cert.InBwdXGateIdeal.τ).loc Cert.InBwdXGateIdeal.main_arg0)
          ∧ r.2.mem ((c.tc : Thread Cert.InBwdXGateIdeal.nD Cert.InBwdXGateIdeal.τ).loc Cert.InBwdXGateIdeal.main_arg1) = m ((c.tc : Thread Cert.InBwdXGateIdeal.nD Cert.InBwdXGateIdeal.τ).loc Cert.InBwdXGateIdeal.main_arg1))
      ∧ θ_run (Cert.InBwdXGateRefIdeal.defs (F := Ideal)) (onTc (τ := Cert.InBwdXGateRefIdeal.τ) (Cert.InBwdXGateRefIdeal.main (F := Ideal))) ⟨m', fun _ => 0, g'⟩ (fun r => ∀ c : Dev Cert.InBwdXGateRefIdeal.nD,
          r.2.mem ((c.tc : Thread Cert.InBwdXGateRefIdeal.nD Cert.InBwdXGateRefIdeal.τ).loc Cert.InBwdXGateRefIdeal.main_v6) = v0 c
          ∧ r.2.mem ((c.tc : Thread Cert.InBwdXGateRefIdeal.nD Cert.InBwdXGateRefIdeal.τ).loc Cert.InBwdXGateRefIdeal.main_arg0) = m' ((c.tc : Thread Cert.InBwdXGateRefIdeal.nD Cert.InBwdXGateRefIdeal.τ).loc Cert.InBwdXGateRefIdeal.main_arg0)
          ∧ r.2.mem ((c.tc : Thread Cert.InBwdXGateRefIdeal.nD Cert.InBwdXGateRefIdeal.τ).loc Cert.InBwdXGateRefIdeal.main_arg1) = m' ((c.tc : Thread Cert.InBwdXGateRefIdeal.nD Cert.InBwdXGateRefIdeal.τ).loc Cert.InBwdXGateRefIdeal.main_arg1))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)) →
    ∃ (v0 : (c : Dev Cert.ProjQkvIdeal.nD) → Buf (Elt Ideal) ((c.tc : Thread Cert.ProjQkvIdeal.nD Cert.ProjQkvIdeal.τ).loc Cert.ProjQkvIdeal.main_v0)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v0) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v6) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1))

def preserves_ProjGate_ProjGateIdeal : Prop :=
  True

def algebraic_ProjGateIdeal_ProjGateRefIdeal [hProjGateIdeal : Cert.ProjGateIdeal.Facts] [hProjGateRefIdeal : Cert.ProjGateRefIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg)
    (m' : (ℓ : Loc Cert.ProjGateRefIdeal.nD Cert.ProjGateRefIdeal.τ Cert.ProjGateRefIdeal.sig) → Buf (Elt Ideal) ℓ) (g' : Dev Cert.ProjGateRefIdeal.nD → PrngReg), Pre_ProjGateIdeal m →
    (∀ c : Dev Cert.ProjGateIdeal.nD,
      m' ((c.tc : Thread Cert.ProjGateRefIdeal.nD Cert.ProjGateRefIdeal.τ).loc Cert.ProjGateRefIdeal.main_arg0) = m ((c.tc : Thread Cert.ProjGateIdeal.nD Cert.ProjGateIdeal.τ).loc Cert.ProjGateIdeal.main_arg0)
      ∧ m' ((c.tc : Thread Cert.ProjGateRefIdeal.nD Cert.ProjGateRefIdeal.τ).loc Cert.ProjGateRefIdeal.main_arg1) = m ((c.tc : Thread Cert.ProjGateIdeal.nD Cert.ProjGateIdeal.τ).loc Cert.ProjGateIdeal.main_arg1)) →
    ∃ (v0 : (c : Dev Cert.ProjGateIdeal.nD) → Buf (Elt Ideal) ((c.tc : Thread Cert.ProjGateIdeal.nD Cert.ProjGateIdeal.τ).loc Cert.ProjGateIdeal.main_v0)),
      θ_run (Cert.ProjGateIdeal.defs (F := Ideal)) (onTc (τ := Cert.ProjGateIdeal.τ) (Cert.ProjGateIdeal.main (F := Ideal))) ⟨m, fun _ => 0, g⟩ (fun r => ∀ c : Dev Cert.ProjGateIdeal.nD,
          r.2.mem ((c.tc : Thread Cert.ProjGateIdeal.nD Cert.ProjGateIdeal.τ).loc Cert.ProjGateIdeal.main_v0) = v0 c
          ∧ r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
          ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ θ_run (Cert.ProjGateRefIdeal.defs (F := Ideal)) (onTc (τ := Cert.ProjGateRefIdeal.τ) (Cert.ProjGateRefIdeal.main (F := Ideal))) ⟨m', fun _ => 0, g'⟩ (fun r => ∀ c : Dev Cert.ProjGateRefIdeal.nD,
          r.2.mem ((c.tc : Thread Cert.ProjGateRefIdeal.nD Cert.ProjGateRefIdeal.τ).loc Cert.ProjGateRefIdeal.main_v5) = v0 c
          ∧ r.2.mem ((c.tc : Thread Cert.ProjGateRefIdeal.nD Cert.ProjGateRefIdeal.τ).loc Cert.ProjGateRefIdeal.main_arg0) = m' ((c.tc : Thread Cert.ProjGateRefIdeal.nD Cert.ProjGateRefIdeal.τ).loc Cert.ProjGateRefIdeal.main_arg0)
          ∧ r.2.mem ((c.tc : Thread Cert.ProjGateRefIdeal.nD Cert.ProjGateRefIdeal.τ).loc Cert.ProjGateRefIdeal.main_arg1) = m' ((c.tc : Thread Cert.ProjGateRefIdeal.nD Cert.ProjGateRefIdeal.τ).loc Cert.ProjGateRefIdeal.main_arg1))

def preserves_OutBwdW_OutBwdWIdeal : Prop :=
  True

def algebraic_OutBwdWIdeal_OutBwdWRefIdeal [hOutBwdWIdeal : Cert.OutBwdWIdeal.Facts] [hOutBwdWRefIdeal : Cert.OutBwdWRefIdeal.Facts] : Prop :=
  ∀ (m : (ℓ : Loc Cert.OutBwdWIdeal.nD Cert.OutBwdWIdeal.τ Cert.OutBwdWIdeal.sig) → Buf (Elt Ideal) ℓ) (g : Dev Cert.OutBwdWIdeal.nD → PrngReg)
    (m' : (ℓ : Loc Cert.OutBwdWRefIdeal.nD Cert.OutBwdWRefIdeal.τ Cert.OutBwdWRefIdeal.sig) → Buf (Elt Ideal) ℓ) (g' : Dev Cert.OutBwdWRefIdeal.nD → PrngReg), Pre_OutBwdWIdeal m →
    (∀ c : Dev Cert.OutBwdWIdeal.nD,
      m' ((c.tc : Thread Cert.OutBwdWRefIdeal.nD Cert.OutBwdWRefIdeal.τ).loc Cert.OutBwdWRefIdeal.main_arg0) = m ((c.tc : Thread Cert.OutBwdWIdeal.nD Cert.OutBwdWIdeal.τ).loc Cert.OutBwdWIdeal.main_arg0)
      ∧ m' ((c.tc : Thread Cert.OutBwdWRefIdeal.nD Cert.OutBwdWRefIdeal.τ).loc Cert.OutBwdWRefIdeal.main_arg1) = m ((c.tc : Thread Cert.OutBwdWIdeal.nD Cert.OutBwdWIdeal.τ).loc Cert.OutBwdWIdeal.main_arg1)) →
    ∃ (v0 : (c : Dev Cert.OutBwdWIdeal.nD) → Buf (Elt Ideal) ((c.tc : Thread Cert.OutBwdWIdeal.nD Cert.OutBwdWIdeal.τ).loc Cert.OutBwdWIdeal.main_v0)),
      θ_run (Cert.OutBwdWIdeal.defs (F := Ideal)) (onTc (τ := Cert.OutBwdWIdeal.τ) (Cert.OutBwdWIdeal.main (F := Ideal))) ⟨m, fun _ => 0, g⟩ (fun r => ∀ c : Dev Cert.OutBwdWIdeal.nD,
          r.2.mem ((c.tc : Thread Cert.OutBwdWIdeal.nD Cert.OutBwdWIdeal.τ).loc Cert.OutBwdWIdeal.main_v0) = v0 c
          ∧ r.2.mem ((c.tc : Thread Cert.OutBwdWIdeal.nD Cert.OutBwdWIdeal.τ).loc Cert.OutBwdWIdeal.main_arg0) = m ((c.tc : Thread Cert.OutBwdWIdeal.nD Cert.OutBwdWIdeal.τ).loc Cert.OutBwdWIdeal.main_arg0)
          ∧ r.2.mem ((c.tc : Thread Cert.OutBwdWIdeal.nD Cert.OutBwdWIdeal.τ).loc Cert.OutBwdWIdeal.main_arg1) = m ((c.tc : Thread Cert.OutBwdWIdeal.nD Cert.OutBwdWIdeal.τ).loc Cert.OutBwdWIdeal.main_arg1))
      ∧ θ_run (Cert.OutBwdWRefIdeal.defs (F := Ideal)) (onTc (τ := Cert.OutBwdWRefIdeal.τ) (Cert.OutBwdWRefIdeal.main (F := Ideal))) ⟨m', fun _ => 0, g'⟩ (fun r => ∀ c : Dev Cert.OutBwdWRefIdeal.nD,
          r.2.mem ((c.tc : Thread Cert.OutBwdWRefIdeal.nD Cert.OutBwdWRefIdeal.τ).loc Cert.OutBwdWRefIdeal.main_v6) = v0 c
          ∧ r.2.mem ((c.tc : Thread Cert.OutBwdWRefIdeal.nD Cert.OutBwdWRefIdeal.τ).loc Cert.OutBwdWRefIdeal.main_arg0) = m' ((c.tc : Thread Cert.OutBwdWRefIdeal.nD Cert.OutBwdWRefIdeal.τ).loc Cert.OutBwdWRefIdeal.main_arg0)
          ∧ r.2.mem ((c.tc : Thread Cert.OutBwdWRefIdeal.nD Cert.OutBwdWRefIdeal.τ).loc Cert.OutBwdWRefIdeal.main_arg1) = m' ((c.tc : Thread Cert.OutBwdWRefIdeal.nD Cert.OutBwdWRefIdeal.τ).loc Cert.OutBwdWRefIdeal.main_arg1))

def preserves_InBwdW_InBwdWIdeal : Prop :=
  True

def algebraic_InBwdWIdeal_InBwdWRefIdeal [hInBwdWIdeal : Cert.InBwdWIdeal.Facts] [hInBwdWRefIdeal : Cert.InBwdWRefIdeal.Facts] : Prop :=
  ∀ (m : (ℓ : Loc Cert.InBwdWIdeal.nD Cert.InBwdWIdeal.τ Cert.InBwdWIdeal.sig) → Buf (Elt Ideal) ℓ) (g : Dev Cert.InBwdWIdeal.nD → PrngReg)
    (m' : (ℓ : Loc Cert.InBwdWRefIdeal.nD Cert.InBwdWRefIdeal.τ Cert.InBwdWRefIdeal.sig) → Buf (Elt Ideal) ℓ) (g' : Dev Cert.InBwdWRefIdeal.nD → PrngReg), Pre_InBwdWIdeal m →
    (∀ c : Dev Cert.InBwdWIdeal.nD,
      m' ((c.tc : Thread Cert.InBwdWRefIdeal.nD Cert.InBwdWRefIdeal.τ).loc Cert.InBwdWRefIdeal.main_arg0) = m ((c.tc : Thread Cert.InBwdWIdeal.nD Cert.InBwdWIdeal.τ).loc Cert.InBwdWIdeal.main_arg0)
      ∧ m' ((c.tc : Thread Cert.InBwdWRefIdeal.nD Cert.InBwdWRefIdeal.τ).loc Cert.InBwdWRefIdeal.main_arg1) = m ((c.tc : Thread Cert.InBwdWIdeal.nD Cert.InBwdWIdeal.τ).loc Cert.InBwdWIdeal.main_arg1)
      ∧ m' ((c.tc : Thread Cert.InBwdWRefIdeal.nD Cert.InBwdWRefIdeal.τ).loc Cert.InBwdWRefIdeal.main_arg2) = m ((c.tc : Thread Cert.InBwdWIdeal.nD Cert.InBwdWIdeal.τ).loc Cert.InBwdWIdeal.main_arg2)) →
    ∃ (v0 : (c : Dev Cert.InBwdWIdeal.nD) → Buf (Elt Ideal) ((c.tc : Thread Cert.InBwdWIdeal.nD Cert.InBwdWIdeal.τ).loc Cert.InBwdWIdeal.main_v1)),
      θ_run (Cert.InBwdWIdeal.defs (F := Ideal)) (onTc (τ := Cert.InBwdWIdeal.τ) (Cert.InBwdWIdeal.main (F := Ideal))) ⟨m, fun _ => 0, g⟩ (fun r => ∀ c : Dev Cert.InBwdWIdeal.nD,
          r.2.mem ((c.tc : Thread Cert.InBwdWIdeal.nD Cert.InBwdWIdeal.τ).loc Cert.InBwdWIdeal.main_v1) = v0 c
          ∧ r.2.mem ((c.tc : Thread Cert.InBwdWIdeal.nD Cert.InBwdWIdeal.τ).loc Cert.InBwdWIdeal.main_arg0) = m ((c.tc : Thread Cert.InBwdWIdeal.nD Cert.InBwdWIdeal.τ).loc Cert.InBwdWIdeal.main_arg0)
          ∧ r.2.mem ((c.tc : Thread Cert.InBwdWIdeal.nD Cert.InBwdWIdeal.τ).loc Cert.InBwdWIdeal.main_arg1) = m ((c.tc : Thread Cert.InBwdWIdeal.nD Cert.InBwdWIdeal.τ).loc Cert.InBwdWIdeal.main_arg1)
          ∧ r.2.mem ((c.tc : Thread Cert.InBwdWIdeal.nD Cert.InBwdWIdeal.τ).loc Cert.InBwdWIdeal.main_arg2) = m ((c.tc : Thread Cert.InBwdWIdeal.nD Cert.InBwdWIdeal.τ).loc Cert.InBwdWIdeal.main_arg2))
      ∧ θ_run (Cert.InBwdWRefIdeal.defs (F := Ideal)) (onTc (τ := Cert.InBwdWRefIdeal.τ) (Cert.InBwdWRefIdeal.main (F := Ideal))) ⟨m', fun _ => 0, g'⟩ (fun r => ∀ c : Dev Cert.InBwdWRefIdeal.nD,
          r.2.mem ((c.tc : Thread Cert.InBwdWRefIdeal.nD Cert.InBwdWRefIdeal.τ).loc Cert.InBwdWRefIdeal.main_v11) = v0 c
          ∧ r.2.mem ((c.tc : Thread Cert.InBwdWRefIdeal.nD Cert.InBwdWRefIdeal.τ).loc Cert.InBwdWRefIdeal.main_arg0) = m' ((c.tc : Thread Cert.InBwdWRefIdeal.nD Cert.InBwdWRefIdeal.τ).loc Cert.InBwdWRefIdeal.main_arg0)
          ∧ r.2.mem ((c.tc : Thread Cert.InBwdWRefIdeal.nD Cert.InBwdWRefIdeal.τ).loc Cert.InBwdWRefIdeal.main_arg1) = m' ((c.tc : Thread Cert.InBwdWRefIdeal.nD Cert.InBwdWRefIdeal.τ).loc Cert.InBwdWRefIdeal.main_arg1)
          ∧ r.2.mem ((c.tc : Thread Cert.InBwdWRefIdeal.nD Cert.InBwdWRefIdeal.τ).loc Cert.InBwdWRefIdeal.main_arg2) = m' ((c.tc : Thread Cert.InBwdWRefIdeal.nD Cert.InBwdWRefIdeal.τ).loc Cert.InBwdWRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v34) = v0 c
          ∧ r.2.mem ((c.tc : Thread Cert.MergeRefIdeal.nD Cert.MergeRefIdeal.τ).loc Cert.MergeRefIdeal.main_v36) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)
      ∧ m' ((c.tc : Thread Cert.MergeBwdRefIdeal.nD Cert.MergeBwdRefIdeal.τ).loc Cert.MergeBwdRefIdeal.main_arg7) = m ((c.tc : Thread Cert.MergeBwdIdeal.nD Cert.MergeBwdIdeal.τ).loc Cert.MergeBwdIdeal.main_arg7)
      ∧ m' ((c.tc : Thread Cert.MergeBwdRefIdeal.nD Cert.MergeBwdRefIdeal.τ).loc Cert.MergeBwdRefIdeal.main_arg8) = m ((c.tc : Thread Cert.MergeBwdIdeal.nD Cert.MergeBwdIdeal.τ).loc Cert.MergeBwdIdeal.main_arg8)
      ∧ m' ((c.tc : Thread Cert.MergeBwdRefIdeal.nD Cert.MergeBwdRefIdeal.τ).loc Cert.MergeBwdRefIdeal.main_arg9) = m ((c.tc : Thread Cert.MergeBwdIdeal.nD Cert.MergeBwdIdeal.τ).loc Cert.MergeBwdIdeal.main_arg9)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)) (v4 : (c : Dev Cert.MergeBwdIdeal.nD) → Buf (Elt Ideal) ((c.tc : Thread Cert.MergeBwdIdeal.nD Cert.MergeBwdIdeal.τ).loc Cert.MergeBwdIdeal.main_v0_4)) (v5 : (c : Dev Cert.MergeBwdIdeal.nD) → Buf (Elt Ideal) ((c.tc : Thread Cert.MergeBwdIdeal.nD Cert.MergeBwdIdeal.τ).loc Cert.MergeBwdIdeal.main_v0_5)) (v6 : (c : Dev Cert.MergeBwdIdeal.nD) → Buf (Elt Ideal) ((c.tc : Thread Cert.MergeBwdIdeal.nD Cert.MergeBwdIdeal.τ).loc Cert.MergeBwdIdeal.main_v0_6)) (v7 : (c : Dev Cert.MergeBwdIdeal.nD) → Buf (Elt Ideal) ((c.tc : Thread Cert.MergeBwdIdeal.nD Cert.MergeBwdIdeal.τ).loc Cert.MergeBwdIdeal.main_v0_7)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_v0_4) = v4 c
          ∧ r.2.mem ((c.tc : Thread Cert.MergeBwdIdeal.nD Cert.MergeBwdIdeal.τ).loc Cert.MergeBwdIdeal.main_v0_5) = v5 c
          ∧ r.2.mem ((c.tc : Thread Cert.MergeBwdIdeal.nD Cert.MergeBwdIdeal.τ).loc Cert.MergeBwdIdeal.main_v0_6) = v6 c
          ∧ r.2.mem ((c.tc : Thread Cert.MergeBwdIdeal.nD Cert.MergeBwdIdeal.τ).loc Cert.MergeBwdIdeal.main_v0_7) = v7 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
          ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7)
          ∧ r.2.mem ((c.tc : Thread Cert.MergeBwdIdeal.nD Cert.MergeBwdIdeal.τ).loc Cert.MergeBwdIdeal.main_arg8) = m ((c.tc : Thread Cert.MergeBwdIdeal.nD Cert.MergeBwdIdeal.τ).loc Cert.MergeBwdIdeal.main_arg8)
          ∧ r.2.mem ((c.tc : Thread Cert.MergeBwdIdeal.nD Cert.MergeBwdIdeal.τ).loc Cert.MergeBwdIdeal.main_arg9) = m ((c.tc : Thread Cert.MergeBwdIdeal.nD Cert.MergeBwdIdeal.τ).loc Cert.MergeBwdIdeal.main_arg9))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v66) = v0 c
          ∧ r.2.mem ((c.tc : Thread Cert.MergeBwdRefIdeal.nD Cert.MergeBwdRefIdeal.τ).loc Cert.MergeBwdRefIdeal.main_v56) = v1 c
          ∧ r.2.mem ((c.tc : Thread Cert.MergeBwdRefIdeal.nD Cert.MergeBwdRefIdeal.τ).loc Cert.MergeBwdRefIdeal.main_v47) = v2 c
          ∧ r.2.mem ((c.tc : Thread Cert.MergeBwdRefIdeal.nD Cert.MergeBwdRefIdeal.τ).loc Cert.MergeBwdRefIdeal.main_v75) = v3 c
          ∧ r.2.mem ((c.tc : Thread Cert.MergeBwdRefIdeal.nD Cert.MergeBwdRefIdeal.τ).loc Cert.MergeBwdRefIdeal.main_v76) = v4 c
          ∧ r.2.mem ((c.tc : Thread Cert.MergeBwdRefIdeal.nD Cert.MergeBwdRefIdeal.τ).loc Cert.MergeBwdRefIdeal.main_v77) = v5 c
          ∧ r.2.mem ((c.tc : Thread Cert.MergeBwdRefIdeal.nD Cert.MergeBwdRefIdeal.τ).loc Cert.MergeBwdRefIdeal.main_v78) = v6 c
          ∧ r.2.mem ((c.tc : Thread Cert.MergeBwdRefIdeal.nD Cert.MergeBwdRefIdeal.τ).loc Cert.MergeBwdRefIdeal.main_v73) = v7 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6)
          ∧ r.2.mem ((c.tc : Thread Cert.MergeBwdRefIdeal.nD Cert.MergeBwdRefIdeal.τ).loc Cert.MergeBwdRefIdeal.main_arg7) = m' ((c.tc : Thread Cert.MergeBwdRefIdeal.nD Cert.MergeBwdRefIdeal.τ).loc Cert.MergeBwdRefIdeal.main_arg7)
          ∧ r.2.mem ((c.tc : Thread Cert.MergeBwdRefIdeal.nD Cert.MergeBwdRefIdeal.τ).loc Cert.MergeBwdRefIdeal.main_arg8) = m' ((c.tc : Thread Cert.MergeBwdRefIdeal.nD Cert.MergeBwdRefIdeal.τ).loc Cert.MergeBwdRefIdeal.main_arg8)
          ∧ r.2.mem ((c.tc : Thread Cert.MergeBwdRefIdeal.nD Cert.MergeBwdRefIdeal.τ).loc Cert.MergeBwdRefIdeal.main_arg9) = m' ((c.tc : Thread Cert.MergeBwdRefIdeal.nD Cert.MergeBwdRefIdeal.τ).loc Cert.MergeBwdRefIdeal.main_arg9))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)) →
    ∃ (v0 : (c : Dev Cert.PreNormIdeal.nD) → Buf (Elt Ideal) ((c.tc : Thread Cert.PreNormIdeal.nD Cert.PreNormIdeal.τ).loc Cert.PreNormIdeal.main_v0)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v0) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v12) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1))

def preserves_PostNorm_PostNormIdeal : Prop :=
  True

def algebraic_PostNormIdeal_PostNormRefIdeal [hPostNormIdeal : Cert.PostNormIdeal.Facts] [hPostNormRefIdeal : Cert.PostNormRefIdeal.Facts] : Prop :=
  ∀ (m : (ℓ : Loc Cert.PostNormIdeal.nD Cert.PostNormIdeal.τ Cert.PostNormIdeal.sig) → Buf (Elt Ideal) ℓ) (g : Dev Cert.PostNormIdeal.nD → PrngReg)
    (m' : (ℓ : Loc Cert.PostNormRefIdeal.nD Cert.PostNormRefIdeal.τ Cert.PostNormRefIdeal.sig) → Buf (Elt Ideal) ℓ) (g' : Dev Cert.PostNormRefIdeal.nD → PrngReg), Pre_PostNormIdeal m →
    (∀ c : Dev Cert.PostNormIdeal.nD,
      m' ((c.tc : Thread Cert.PostNormRefIdeal.nD Cert.PostNormRefIdeal.τ).loc Cert.PostNormRefIdeal.main_arg0) = m ((c.tc : Thread Cert.PostNormIdeal.nD Cert.PostNormIdeal.τ).loc Cert.PostNormIdeal.main_arg0)
      ∧ m' ((c.tc : Thread Cert.PostNormRefIdeal.nD Cert.PostNormRefIdeal.τ).loc Cert.PostNormRefIdeal.main_arg1) = m ((c.tc : Thread Cert.PostNormIdeal.nD Cert.PostNormIdeal.τ).loc Cert.PostNormIdeal.main_arg1)
      ∧ m' ((c.tc : Thread Cert.PostNormRefIdeal.nD Cert.PostNormRefIdeal.τ).loc Cert.PostNormRefIdeal.main_arg2) = m ((c.tc : Thread Cert.PostNormIdeal.nD Cert.PostNormIdeal.τ).loc Cert.PostNormIdeal.main_arg2)
      ∧ m' ((c.tc : Thread Cert.PostNormRefIdeal.nD Cert.PostNormRefIdeal.τ).loc Cert.PostNormRefIdeal.main_arg3) = m ((c.tc : Thread Cert.PostNormIdeal.nD Cert.PostNormIdeal.τ).loc Cert.PostNormIdeal.main_arg3)) →
    ∃ (v0 : (c : Dev Cert.PostNormIdeal.nD) → Buf (Elt Ideal) ((c.tc : Thread Cert.PostNormIdeal.nD Cert.PostNormIdeal.τ).loc Cert.PostNormIdeal.main_v0_0)) (v1 : (c : Dev Cert.PostNormIdeal.nD) → Buf (Elt Ideal) ((c.tc : Thread Cert.PostNormIdeal.nD Cert.PostNormIdeal.τ).loc Cert.PostNormIdeal.main_v0_1)),
      θ_run (Cert.PostNormIdeal.defs (F := Ideal)) (onTc (τ := Cert.PostNormIdeal.τ) (Cert.PostNormIdeal.main (F := Ideal))) ⟨m, fun _ => 0, g⟩ (fun r => ∀ c : Dev Cert.PostNormIdeal.nD,
          r.2.mem ((c.tc : Thread Cert.PostNormIdeal.nD Cert.PostNormIdeal.τ).loc Cert.PostNormIdeal.main_v0_0) = v0 c
          ∧ r.2.mem ((c.tc : Thread Cert.PostNormIdeal.nD Cert.PostNormIdeal.τ).loc Cert.PostNormIdeal.main_v0_1) = v1 c
          ∧ r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
          ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
          ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2)
          ∧ r.2.mem ((c.tc : Thread Cert.PostNormIdeal.nD Cert.PostNormIdeal.τ).loc Cert.PostNormIdeal.main_arg3) = m ((c.tc : Thread Cert.PostNormIdeal.nD Cert.PostNormIdeal.τ).loc Cert.PostNormIdeal.main_arg3))
      ∧ θ_run (Cert.PostNormRefIdeal.defs (F := Ideal)) (onTc (τ := Cert.PostNormRefIdeal.τ) (Cert.PostNormRefIdeal.main (F := Ideal))) ⟨m', fun _ => 0, g'⟩ (fun r => ∀ c : Dev Cert.PostNormRefIdeal.nD,
          r.2.mem ((c.tc : Thread Cert.PostNormRefIdeal.nD Cert.PostNormRefIdeal.τ).loc Cert.PostNormRefIdeal.main_v12) = v0 c
          ∧ r.2.mem ((c.tc : Thread Cert.PostNormRefIdeal.nD Cert.PostNormRefIdeal.τ).loc Cert.PostNormRefIdeal.main_v25) = v1 c
          ∧ r.2.mem ((c.tc : Thread Cert.PostNormRefIdeal.nD Cert.PostNormRefIdeal.τ).loc Cert.PostNormRefIdeal.main_arg0) = m' ((c.tc : Thread Cert.PostNormRefIdeal.nD Cert.PostNormRefIdeal.τ).loc Cert.PostNormRefIdeal.main_arg0)
          ∧ r.2.mem ((c.tc : Thread Cert.PostNormRefIdeal.nD Cert.PostNormRefIdeal.τ).loc Cert.PostNormRefIdeal.main_arg1) = m' ((c.tc : Thread Cert.PostNormRefIdeal.nD Cert.PostNormRefIdeal.τ).loc Cert.PostNormRefIdeal.main_arg1)
          ∧ r.2.mem ((c.tc : Thread Cert.PostNormRefIdeal.nD Cert.PostNormRefIdeal.τ).loc Cert.PostNormRefIdeal.main_arg2) = m' ((c.tc : Thread Cert.PostNormRefIdeal.nD Cert.PostNormRefIdeal.τ).loc Cert.PostNormRefIdeal.main_arg2)
          ∧ r.2.mem ((c.tc : Thread Cert.PostNormRefIdeal.nD Cert.PostNormRefIdeal.τ).loc Cert.PostNormRefIdeal.main_arg3) = m' ((c.tc : Thread Cert.PostNormRefIdeal.nD Cert.PostNormRefIdeal.τ).loc Cert.PostNormRefIdeal.main_arg3))

def preserves_NormBwd_NormBwdIdeal : Prop :=
  True

def algebraic_NormBwdIdeal_NormBwdRefIdeal_pre_finite_norm [hNormBwdIdeal : Cert.NormBwdIdeal.Facts] [hNormBwdRefIdeal : Cert.NormBwdRefIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_finite_norm m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v35) = v0 c
          ∧ r.2.mem ((c.tc : Thread Cert.NormBwdRefIdeal.nD Cert.NormBwdRefIdeal.τ).loc Cert.NormBwdRefIdeal.main_v18) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4))

def preserves_Chain_ChainIdeal : Prop :=
  True

def algebraic_ChainIdeal_ChainRefIdeal_pre_finite_chain [hChainIdeal : Cert.ChainIdeal.Facts] [hChainRefIdeal : Cert.ChainRefIdeal.Facts] [hPre_finite_chain : Cert.Pre_finite_chain.Facts] : Prop :=
  ∀ (m : (ℓ : Loc Cert.ChainIdeal.nD Cert.ChainIdeal.τ Cert.ChainIdeal.sig) → Buf (Elt Ideal) ℓ) (g : Dev Cert.ChainIdeal.nD → PrngReg)
    (m' : (ℓ : Loc Cert.ChainRefIdeal.nD Cert.ChainRefIdeal.τ Cert.ChainRefIdeal.sig) → Buf (Elt Ideal) ℓ) (g' : Dev Cert.ChainRefIdeal.nD → PrngReg), Pre_ChainIdeal_finite_chain m →
    (∀ c : Dev Cert.ChainIdeal.nD,
      m' ((c.tc : Thread Cert.ChainRefIdeal.nD Cert.ChainRefIdeal.τ).loc Cert.ChainRefIdeal.main_arg0) = m ((c.tc : Thread Cert.ChainIdeal.nD Cert.ChainIdeal.τ).loc Cert.ChainIdeal.main_arg0)
      ∧ m' ((c.tc : Thread Cert.ChainRefIdeal.nD Cert.ChainRefIdeal.τ).loc Cert.ChainRefIdeal.main_arg1) = m ((c.tc : Thread Cert.ChainIdeal.nD Cert.ChainIdeal.τ).loc Cert.ChainIdeal.main_arg1)
      ∧ m' ((c.tc : Thread Cert.ChainRefIdeal.nD Cert.ChainRefIdeal.τ).loc Cert.ChainRefIdeal.main_arg2) = m ((c.tc : Thread Cert.ChainIdeal.nD Cert.ChainIdeal.τ).loc Cert.ChainIdeal.main_arg2)
      ∧ m' ((c.tc : Thread Cert.ChainRefIdeal.nD Cert.ChainRefIdeal.τ).loc Cert.ChainRefIdeal.main_arg3) = m ((c.tc : Thread Cert.ChainIdeal.nD Cert.ChainIdeal.τ).loc Cert.ChainIdeal.main_arg3)
      ∧ m' ((c.tc : Thread Cert.ChainRefIdeal.nD Cert.ChainRefIdeal.τ).loc Cert.ChainRefIdeal.main_arg4) = m ((c.tc : Thread Cert.ChainIdeal.nD Cert.ChainIdeal.τ).loc Cert.ChainIdeal.main_arg4)
      ∧ m' ((c.tc : Thread Cert.ChainRefIdeal.nD Cert.ChainRefIdeal.τ).loc Cert.ChainRefIdeal.main_arg5) = m ((c.tc : Thread Cert.ChainIdeal.nD Cert.ChainIdeal.τ).loc Cert.ChainIdeal.main_arg5)) →
    ∃ (v0 : (c : Dev Cert.ChainIdeal.nD) → Buf (Elt Ideal) ((c.tc : Thread Cert.ChainIdeal.nD Cert.ChainIdeal.τ).loc Cert.ChainIdeal.main_v0_0)) (v1 : (c : Dev Cert.ChainIdeal.nD) → Buf (Elt Ideal) ((c.tc : Thread Cert.ChainIdeal.nD Cert.ChainIdeal.τ).loc Cert.ChainIdeal.main_v0_1)) (v2 : (c : Dev Cert.ChainIdeal.nD) → Buf (Elt Ideal) ((c.tc : Thread Cert.ChainIdeal.nD Cert.ChainIdeal.τ).loc Cert.ChainIdeal.main_v0_2)) (v3 : (c : Dev Cert.ChainIdeal.nD) → Buf (Elt Ideal) ((c.tc : Thread Cert.ChainIdeal.nD Cert.ChainIdeal.τ).loc Cert.ChainIdeal.main_v0_3)),
      θ_run (Cert.ChainIdeal.defs (F := Ideal)) (onTc (τ := Cert.ChainIdeal.τ) (Cert.ChainIdeal.main (F := Ideal))) ⟨m, fun _ => 0, g⟩ (fun r => ∀ c : Dev Cert.ChainIdeal.nD,
          r.2.mem ((c.tc : Thread Cert.ChainIdeal.nD Cert.ChainIdeal.τ).loc Cert.ChainIdeal.main_v0_0) = v0 c
          ∧ r.2.mem ((c.tc : Thread Cert.ChainIdeal.nD Cert.ChainIdeal.τ).loc Cert.ChainIdeal.main_v0_1) = v1 c
          ∧ r.2.mem ((c.tc : Thread Cert.ChainIdeal.nD Cert.ChainIdeal.τ).loc Cert.ChainIdeal.main_v0_2) = v2 c
          ∧ r.2.mem ((c.tc : Thread Cert.ChainIdeal.nD Cert.ChainIdeal.τ).loc Cert.ChainIdeal.main_v0_3) = v3 c
          ∧ r.2.mem ((c.tc : Thread Cert.ChainIdeal.nD Cert.ChainIdeal.τ).loc Cert.ChainIdeal.main_arg0) = m ((c.tc : Thread Cert.ChainIdeal.nD Cert.ChainIdeal.τ).loc Cert.ChainIdeal.main_arg0)
          ∧ r.2.mem ((c.tc : Thread Cert.ChainIdeal.nD Cert.ChainIdeal.τ).loc Cert.ChainIdeal.main_arg1) = m ((c.tc : Thread Cert.ChainIdeal.nD Cert.ChainIdeal.τ).loc Cert.ChainIdeal.main_arg1)
          ∧ r.2.mem ((c.tc : Thread Cert.ChainIdeal.nD Cert.ChainIdeal.τ).loc Cert.ChainIdeal.main_arg2) = m ((c.tc : Thread Cert.ChainIdeal.nD Cert.ChainIdeal.τ).loc Cert.ChainIdeal.main_arg2)
          ∧ r.2.mem ((c.tc : Thread Cert.ChainIdeal.nD Cert.ChainIdeal.τ).loc Cert.ChainIdeal.main_arg3) = m ((c.tc : Thread Cert.ChainIdeal.nD Cert.ChainIdeal.τ).loc Cert.ChainIdeal.main_arg3)
          ∧ r.2.mem ((c.tc : Thread Cert.ChainIdeal.nD Cert.ChainIdeal.τ).loc Cert.ChainIdeal.main_arg4) = m ((c.tc : Thread Cert.ChainIdeal.nD Cert.ChainIdeal.τ).loc Cert.ChainIdeal.main_arg4)
          ∧ r.2.mem ((c.tc : Thread Cert.ChainIdeal.nD Cert.ChainIdeal.τ).loc Cert.ChainIdeal.main_arg5) = m ((c.tc : Thread Cert.ChainIdeal.nD Cert.ChainIdeal.τ).loc Cert.ChainIdeal.main_arg5))
      ∧ θ_run (Cert.ChainRefIdeal.defs (F := Ideal)) (onTc (τ := Cert.ChainRefIdeal.τ) (Cert.ChainRefIdeal.main (F := Ideal))) ⟨m', fun _ => 0, g'⟩ (fun r => ∀ c : Dev Cert.ChainRefIdeal.nD,
          r.2.mem ((c.tc : Thread Cert.ChainRefIdeal.nD Cert.ChainRefIdeal.τ).loc Cert.ChainRefIdeal.main_v34) = v0 c
          ∧ r.2.mem ((c.tc : Thread Cert.ChainRefIdeal.nD Cert.ChainRefIdeal.τ).loc Cert.ChainRefIdeal.main_v69) = v1 c
          ∧ r.2.mem ((c.tc : Thread Cert.ChainRefIdeal.nD Cert.ChainRefIdeal.τ).loc Cert.ChainRefIdeal.main_v17) = v2 c
          ∧ r.2.mem ((c.tc : Thread Cert.ChainRefIdeal.nD Cert.ChainRefIdeal.τ).loc Cert.ChainRefIdeal.main_v52) = v3 c
          ∧ r.2.mem ((c.tc : Thread Cert.ChainRefIdeal.nD Cert.ChainRefIdeal.τ).loc Cert.ChainRefIdeal.main_arg0) = m' ((c.tc : Thread Cert.ChainRefIdeal.nD Cert.ChainRefIdeal.τ).loc Cert.ChainRefIdeal.main_arg0)
          ∧ r.2.mem ((c.tc : Thread Cert.ChainRefIdeal.nD Cert.ChainRefIdeal.τ).loc Cert.ChainRefIdeal.main_arg1) = m' ((c.tc : Thread Cert.ChainRefIdeal.nD Cert.ChainRefIdeal.τ).loc Cert.ChainRefIdeal.main_arg1)
          ∧ r.2.mem ((c.tc : Thread Cert.ChainRefIdeal.nD Cert.ChainRefIdeal.τ).loc Cert.ChainRefIdeal.main_arg2) = m' ((c.tc : Thread Cert.ChainRefIdeal.nD Cert.ChainRefIdeal.τ).loc Cert.ChainRefIdeal.main_arg2)
          ∧ r.2.mem ((c.tc : Thread Cert.ChainRefIdeal.nD Cert.ChainRefIdeal.τ).loc Cert.ChainRefIdeal.main_arg3) = m' ((c.tc : Thread Cert.ChainRefIdeal.nD Cert.ChainRefIdeal.τ).loc Cert.ChainRefIdeal.main_arg3)
          ∧ r.2.mem ((c.tc : Thread Cert.ChainRefIdeal.nD Cert.ChainRefIdeal.τ).loc Cert.ChainRefIdeal.main_arg4) = m' ((c.tc : Thread Cert.ChainRefIdeal.nD Cert.ChainRefIdeal.τ).loc Cert.ChainRefIdeal.main_arg4)
          ∧ r.2.mem ((c.tc : Thread Cert.ChainRefIdeal.nD Cert.ChainRefIdeal.τ).loc Cert.ChainRefIdeal.main_arg5) = m' ((c.tc : Thread Cert.ChainRefIdeal.nD Cert.ChainRefIdeal.τ).loc Cert.ChainRefIdeal.main_arg5))

def Claim : Prop :=
  ∃ (hKernel : Cert.Kernel.Facts) (hKernelIdeal : Cert.KernelIdeal.Facts) (hReferenceIdeal : Cert.ReferenceIdeal.Facts) (hUpBwdX : Cert.UpBwdX.Facts) (hUpBwdXIdeal : Cert.UpBwdXIdeal.Facts) (hUpBwdXRefIdeal : Cert.UpBwdXRefIdeal.Facts) (hDown : Cert.Down.Facts) (hDownIdeal : Cert.DownIdeal.Facts) (hDownRefIdeal : Cert.DownRefIdeal.Facts) (hInBwdXQkv : Cert.InBwdXQkv.Facts) (hInBwdXQkvIdeal : Cert.InBwdXQkvIdeal.Facts) (hInBwdXQkvRefIdeal : Cert.InBwdXQkvRefIdeal.Facts) (hInBwdXGate : Cert.InBwdXGate.Facts) (hInBwdXGateIdeal : Cert.InBwdXGateIdeal.Facts) (hInBwdXGateRefIdeal : Cert.InBwdXGateRefIdeal.Facts) (hProjQkv : Cert.ProjQkv.Facts) (hProjQkvIdeal : Cert.ProjQkvIdeal.Facts) (hProjQkvRefIdeal : Cert.ProjQkvRefIdeal.Facts) (hProjGate : Cert.ProjGate.Facts) (hProjGateIdeal : Cert.ProjGateIdeal.Facts) (hProjGateRefIdeal : Cert.ProjGateRefIdeal.Facts) (hOutBwdW : Cert.OutBwdW.Facts) (hOutBwdWIdeal : Cert.OutBwdWIdeal.Facts) (hOutBwdWRefIdeal : Cert.OutBwdWRefIdeal.Facts) (hInBwdW : Cert.InBwdW.Facts) (hInBwdWIdeal : Cert.InBwdWIdeal.Facts) (hInBwdWRefIdeal : Cert.InBwdWRefIdeal.Facts) (hMerge : Cert.Merge.Facts) (hMergeIdeal : Cert.MergeIdeal.Facts) (hMergeRefIdeal : Cert.MergeRefIdeal.Facts) (hMergeBwd : Cert.MergeBwd.Facts) (hMergeBwdIdeal : Cert.MergeBwdIdeal.Facts) (hMergeBwdRefIdeal : Cert.MergeBwdRefIdeal.Facts) (hPreNorm : Cert.PreNorm.Facts) (hPreNormIdeal : Cert.PreNormIdeal.Facts) (hPreNormRefIdeal : Cert.PreNormRefIdeal.Facts) (hPostNorm : Cert.PostNorm.Facts) (hPostNormIdeal : Cert.PostNormIdeal.Facts) (hPostNormRefIdeal : Cert.PostNormRefIdeal.Facts) (hNormBwd : Cert.NormBwd.Facts) (hNormBwdIdeal : Cert.NormBwdIdeal.Facts) (hNormBwdRefIdeal : Cert.NormBwdRefIdeal.Facts) (hChain : Cert.Chain.Facts) (hChainIdeal : Cert.ChainIdeal.Facts) (hChainRefIdeal : Cert.ChainRefIdeal.Facts) (hPre_finite : Cert.Pre_finite.Facts) (hPre_finite_norm : Cert.Pre_finite_norm.Facts) (hPre_finite_chain : Cert.Pre_finite_chain.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpBwdX (hUpBwdX := hUpBwdX)
    ∧ quiescent_UpBwdXIdeal (hUpBwdXIdeal := hUpBwdXIdeal)
    ∧ quiescent_UpBwdXRefIdeal (hUpBwdXRefIdeal := hUpBwdXRefIdeal)
    ∧ quiescent_Down (hDown := hDown)
    ∧ quiescent_DownIdeal (hDownIdeal := hDownIdeal)
    ∧ quiescent_DownRefIdeal (hDownRefIdeal := hDownRefIdeal)
    ∧ quiescent_InBwdXQkv (hInBwdXQkv := hInBwdXQkv)
    ∧ quiescent_InBwdXQkvIdeal (hInBwdXQkvIdeal := hInBwdXQkvIdeal)
    ∧ quiescent_InBwdXQkvRefIdeal (hInBwdXQkvRefIdeal := hInBwdXQkvRefIdeal)
    ∧ quiescent_InBwdXGate (hInBwdXGate := hInBwdXGate)
    ∧ quiescent_InBwdXGateIdeal (hInBwdXGateIdeal := hInBwdXGateIdeal)
    ∧ quiescent_InBwdXGateRefIdeal (hInBwdXGateRefIdeal := hInBwdXGateRefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_ProjGate (hProjGate := hProjGate)
    ∧ quiescent_ProjGateIdeal (hProjGateIdeal := hProjGateIdeal)
    ∧ quiescent_ProjGateRefIdeal (hProjGateRefIdeal := hProjGateRefIdeal)
    ∧ quiescent_OutBwdW (hOutBwdW := hOutBwdW)
    ∧ quiescent_OutBwdWIdeal (hOutBwdWIdeal := hOutBwdWIdeal)
    ∧ quiescent_OutBwdWRefIdeal (hOutBwdWRefIdeal := hOutBwdWRefIdeal)
    ∧ quiescent_InBwdW (hInBwdW := hInBwdW)
    ∧ quiescent_InBwdWIdeal (hInBwdWIdeal := hInBwdWIdeal)
    ∧ quiescent_InBwdWRefIdeal (hInBwdWRefIdeal := hInBwdWRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_PostNorm (hPostNorm := hPostNorm)
    ∧ quiescent_PostNormIdeal (hPostNormIdeal := hPostNormIdeal)
    ∧ quiescent_PostNormRefIdeal (hPostNormRefIdeal := hPostNormRefIdeal)
    ∧ quiescent_NormBwd (hNormBwd := hNormBwd)
    ∧ quiescent_NormBwdIdeal (hNormBwdIdeal := hNormBwdIdeal)
    ∧ quiescent_NormBwdIdeal_pre_finite_norm (hNormBwdIdeal := hNormBwdIdeal) (hPre_finite_norm := hPre_finite_norm)
    ∧ quiescent_NormBwdRefIdeal (hNormBwdRefIdeal := hNormBwdRefIdeal)
    ∧ quiescent_NormBwdRefIdeal_pre_finite_norm (hNormBwdRefIdeal := hNormBwdRefIdeal) (hPre_finite_norm := hPre_finite_norm)
    ∧ quiescent_Chain (hChain := hChain)
    ∧ quiescent_ChainIdeal (hChainIdeal := hChainIdeal)
    ∧ quiescent_ChainIdeal_pre_finite_chain (hChainIdeal := hChainIdeal) (hPre_finite_chain := hPre_finite_chain)
    ∧ quiescent_ChainRefIdeal (hChainRefIdeal := hChainRefIdeal)
    ∧ quiescent_ChainRefIdeal_pre_finite_chain (hChainRefIdeal := hChainRefIdeal) (hPre_finite_chain := hPre_finite_chain)
    ∧ preserves_Kernel_KernelIdeal
    ∧ algebraic_KernelIdeal_ReferenceIdeal_pre_finite (hKernelIdeal := hKernelIdeal) (hReferenceIdeal := hReferenceIdeal) (hPre_finite := hPre_finite)
    ∧ preserves_UpBwdX_UpBwdXIdeal
    ∧ algebraic_UpBwdXIdeal_UpBwdXRefIdeal (hUpBwdXIdeal := hUpBwdXIdeal) (hUpBwdXRefIdeal := hUpBwdXRefIdeal)
    ∧ preserves_Down_DownIdeal
    ∧ algebraic_DownIdeal_DownRefIdeal (hDownIdeal := hDownIdeal) (hDownRefIdeal := hDownRefIdeal)
    ∧ preserves_InBwdXQkv_InBwdXQkvIdeal
    ∧ algebraic_InBwdXQkvIdeal_InBwdXQkvRefIdeal (hInBwdXQkvIdeal := hInBwdXQkvIdeal) (hInBwdXQkvRefIdeal := hInBwdXQkvRefIdeal)
    ∧ preserves_InBwdXGate_InBwdXGateIdeal
    ∧ algebraic_InBwdXGateIdeal_InBwdXGateRefIdeal (hInBwdXGateIdeal := hInBwdXGateIdeal) (hInBwdXGateRefIdeal := hInBwdXGateRefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_ProjGate_ProjGateIdeal
    ∧ algebraic_ProjGateIdeal_ProjGateRefIdeal (hProjGateIdeal := hProjGateIdeal) (hProjGateRefIdeal := hProjGateRefIdeal)
    ∧ preserves_OutBwdW_OutBwdWIdeal
    ∧ algebraic_OutBwdWIdeal_OutBwdWRefIdeal (hOutBwdWIdeal := hOutBwdWIdeal) (hOutBwdWRefIdeal := hOutBwdWRefIdeal)
    ∧ preserves_InBwdW_InBwdWIdeal
    ∧ algebraic_InBwdWIdeal_InBwdWRefIdeal (hInBwdWIdeal := hInBwdWIdeal) (hInBwdWRefIdeal := hInBwdWRefIdeal)
    ∧ preserves_Merge_MergeIdeal
    ∧ algebraic_MergeIdeal_MergeRefIdeal (hMergeIdeal := hMergeIdeal) (hMergeRefIdeal := hMergeRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_PreNorm_PreNormIdeal
    ∧ algebraic_PreNormIdeal_PreNormRefIdeal (hPreNormIdeal := hPreNormIdeal) (hPreNormRefIdeal := hPreNormRefIdeal)
    ∧ preserves_PostNorm_PostNormIdeal
    ∧ algebraic_PostNormIdeal_PostNormRefIdeal (hPostNormIdeal := hPostNormIdeal) (hPostNormRefIdeal := hPostNormRefIdeal)
    ∧ preserves_NormBwd_NormBwdIdeal
    ∧ algebraic_NormBwdIdeal_NormBwdRefIdeal_pre_finite_norm (hNormBwdIdeal := hNormBwdIdeal) (hNormBwdRefIdeal := hNormBwdRefIdeal) (hPre_finite_norm := hPre_finite_norm)
    ∧ preserves_Chain_ChainIdeal
    ∧ algebraic_ChainIdeal_ChainRefIdeal_pre_finite_chain (hChainIdeal := hChainIdeal) (hChainRefIdeal := hChainRefIdeal) (hPre_finite_chain := hPre_finite_chain)
-- ==== Pre_finite.lean ====
abbrev S2048x1024 : Shape := ⟨2, ![2048, 1024]⟩
abbrev S1024x8192 : Shape := ⟨2, ![1024, 8192]⟩
abbrev S3x8192 : Shape := ⟨2, ![3, 8192]⟩
abbrev S8192 : Shape := ⟨1, ![8192]⟩
abbrev S4096x1024 : Shape := ⟨2, ![4096, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S1024x8192 : S_.BroadcastsInDim S1024x8192 (![] : Fin 0 → Fin S1024x8192.rank)
  bcast_S_S3x8192 : S_.BroadcastsInDim S3x8192 (![] : Fin 0 → Fin S3x8192.rank)
  bcast_S_S8192 : S_.BroadcastsInDim S8192 (![] : Fin 0 → Fin S8192.rank)
  bcast_S_S4096x1024 : S_.BroadcastsInDim S4096x1024 (![] : Fin 0 → Fin S4096x1024.rank)

variable [Facts]

def fn_part1 {F : FTy → Type} [FloatOps F] (main_v3 : IVec S2048x1024 1) (main_v7 : IVec S1024x8192 1) (main_v10 : IVec S3x8192 1) (main_v13 : IVec S8192 1) (main_v17 : IVec S4096x1024 1) (main_v18 : FVec F S2048x1024 .f32) : IVec S2048x1024 1 × IVec S1024x8192 1 × IVec S3x8192 1 × IVec S8192 1 × IVec S4096x1024 1 × IVec S2048x1024 1 :=
  let main_v19 : FVec F S2048x1024 .f32 := Host.absf main_v18
  let main_cst_4 : FVec F S_ .f32 := constant S_ .f32 0x7F800000#32
  let main_v20 : FVec F S2048x1024 .f32 := broadcastInDim S2048x1024 ![] bcast_S_S2048x1024 main_cst_4
  let main_v21 : IVec S2048x1024 1 := cmpf .olt main_v19 main_v20
  (main_v3, main_v7, main_v10, main_v13, main_v17, main_v21)

def fn {F : FTy → Type} [FloatOps F] (main_arg0 : FVec F S2048x1024 .bf16) (main_arg1 : FVec F S1024x8192 .bf16) (main_arg2 : FVec F S3x8192 .f32) (main_arg3 : FVec F S8192 .f32) (main_arg4 : FVec F S4096x1024 .bf16) (main_arg5 : FVec F S2048x1024 .bf16) : IVec S2048x1024 1 × IVec S1024x8192 1 × IVec S3x8192 1 × IVec S8192 1 × IVec S4096x1024 1 × IVec S2048x1024 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S1024x8192 .f32 := (extf .f32 · bitsLt_bf16_f32) main_arg1
  let main_v5 : FVec F S1024x8192 .f32 := Host.absf main_v4
  let main_cst_0 : FVec F S_ .f32 := constant S_ .f32 0x7F800000#32
  let main_v6 : FVec F S1024x8192 .f32 := broadcastInDim S1024x8192 ![] bcast_S_S1024x8192 main_cst_0
  let main_v7 : IVec S1024x8192 1 := cmpf .olt main_v5 main_v6
  let main_v8 : FVec F S3x8192 .f32 := Host.absf main_arg2
  let main_cst_1 : FVec F S_ .f32 := constant S_ .f32 0x7F800000#32
  let main_v9 : FVec F S3x8192 .f32 := broadcastInDim S3x8192 ![] bcast_S_S3x8192 main_cst_1
  let main_v10 : IVec S3x8192 1 := cmpf .olt main_v8 main_v9
  let main_v11 : FVec F S8192 .f32 := Host.absf main_arg3
  let main_cst_2 : FVec F S_ .f32 := constant S_ .f32 0x7F800000#32
  let main_v12 : FVec F S8192 .f32 := broadcastInDim S8192 ![] bcast_S_S8192 main_cst_2
  let main_v13 : IVec S8192 1 := cmpf .olt main_v11 main_v12
  let main_v14 : FVec F S4096x1024 .f32 := (extf .f32 · bitsLt_bf16_f32) main_arg4
  let main_v15 : FVec F S4096x1024 .f32 := Host.absf main_v14
  let main_cst_3 : FVec F S_ .f32 := constant S_ .f32 0x7F800000#32
  let main_v16 : FVec F S4096x1024 .f32 := broadcastInDim S4096x1024 ![] bcast_S_S4096x1024 main_cst_3
  let main_v17 : IVec S4096x1024 1 := cmpf .olt main_v15 main_v16
  let main_v18 : FVec F S2048x1024 .f32 := (extf .f32 · bitsLt_bf16_f32) main_arg5
  fn_part1 (F := F) main_v3 main_v7 main_v10 main_v13 main_v17 main_v18
-- ==== Pre_finite_chain.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S1x1024 .f32) (main_arg2 : FVec F S2048x1024 .f32) (main_arg3 : FVec F S2048x1024 .f32) (main_arg4 : FVec F S2048x1024 .f32) (main_arg5 : FVec F S1x1024 .f32) : IVec S2048x1024 1 × IVec S1x1024 1 × IVec S2048x1024 1 × IVec S2048x1024 1 × IVec S2048x1024 1 × IVec S1x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_finite_norm.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S1x1024 .f32) (main_arg2 : FVec F S2048x1024 .f32) (main_arg3 : FVec F S2048x1024 .f32) (main_arg4 : FVec F S2048x1024 .f32) : IVec S2048x1024 1 × IVec S1x1024 1 × IVec S2048x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  (main_v2, main_v5, main_v8, main_v11)
-- ==== Kernel.lean ====
abbrev S2048x1024 : Shape := ⟨2, ![2048, 1024]⟩
abbrev S1024x8192 : Shape := ⟨2, ![1024, 8192]⟩
abbrev S3x8192 : Shape := ⟨2, ![3, 8192]⟩
abbrev S8192 : Shape := ⟨1, ![8192]⟩
abbrev S4096x1024 : Shape := ⟨2, ![4096, 1024]⟩
abbrev S3x2x4096 : Shape := ⟨3, ![3, 2, 4096]⟩
abbrev S2x4096 : Shape := ⟨2, ![2, 4096]⟩
abbrev S2x2048x4096 : Shape := ⟨3, ![2, 2048, 4096]⟩
abbrev S1024x1024 : Shape := ⟨2, ![1024, 1024]⟩
abbrev S1x2048x1024 : Shape := ⟨3, ![1, 2048, 1024]⟩
abbrev S8x128 : Shape := ⟨2, ![8, 128]⟩
abbrev S2048x4096 : Shape := ⟨2, ![2048, 4096]⟩
abbrev S2x2048x256 : Shape := ⟨3, ![2, 2048, 256]⟩
abbrev S3x2x256 : Shape := ⟨3, ![3, 2, 256]⟩
abbrev S2x256 : Shape := ⟨2, ![2, 256]⟩
abbrev S2048x256 : Shape := ⟨2, ![2048, 256]⟩
abbrev S1x64x256 : Shape := ⟨3, ![1, 64, 256]⟩
abbrev S64x256 : Shape := ⟨2, ![64, 256]⟩
abbrev S1x16x256 : Shape := ⟨3, ![1, 16, 256]⟩
abbrev S16x256 : Shape := ⟨2, ![16, 256]⟩
abbrev S8x256 : Shape := ⟨2, ![8, 256]⟩
abbrev S56x256 : Shape := ⟨2, ![56, 256]⟩
abbrev S1x1x256 : Shape := ⟨3, ![1, 1, 256]⟩
abbrev S1x256 : Shape := ⟨2, ![1, 256]⟩
abbrev S8x8x256 : Shape := ⟨3, ![8, 8, 256]⟩
abbrev S256 : Shape := ⟨1, ![256]⟩
abbrev S1x8x256 : Shape := ⟨3, ![1, 8, 256]⟩

abbrev nBuf : Space → Nat
  | .hbm => 19
  | .vmem => 49
  | .smem => 0
  | _ => 0

abbrev bufTy : (tb : Table) → Fin (tcTables nBuf tb) → BufTy
  | .hbm, ⟨0, _⟩ => ⟨S2048x1024, .bf16⟩
  | .hbm, ⟨1, _⟩ => ⟨S1024x8192, .bf16⟩
  | .hbm, ⟨2, _⟩ => ⟨S3x8192, .f32⟩
  | .hbm, ⟨3, _⟩ => ⟨S8192, .f32⟩
  | .hbm, ⟨4, _⟩ => ⟨S4096x1024, .bf16⟩
  | .hbm, ⟨5, _⟩ => ⟨S2048x1024, .bf16⟩
  | .hbm, ⟨6, _⟩ => ⟨S3x2x4096, .f32⟩
  | .hbm, ⟨7, _⟩ => ⟨S2x4096, .f32⟩
  | .hbm, ⟨8, _⟩ => ⟨S2x2048x4096, .bf16⟩
  | .hbm, ⟨9, _⟩ => ⟨S2048x4096, .bf16⟩
  | .hbm, ⟨10, _⟩ => ⟨S2x2048x4096, .bf16⟩
  | .hbm, ⟨11, _⟩ => ⟨S2048x4096, .bf16⟩
  | .hbm, ⟨12, _⟩ => ⟨S4096x1024, .bf16⟩
  | .hbm, ⟨13, _⟩ => ⟨S2x2048x4096, .bf16⟩
  | .hbm, ⟨14, _⟩ => ⟨S3x2x4096, .f32⟩
  | .hbm, ⟨15, _⟩ => ⟨S2x4096, .f32⟩
  | .hbm, ⟨16, _⟩ => ⟨S1024x8192, .bf16⟩
  | .hbm, ⟨17, _⟩ => ⟨S3x8192, .f32⟩
  | .hbm, ⟨18, _⟩ => ⟨S8192, .f32⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S8x128, .f32⟩
  | .local _ .vmem, ⟨6, _⟩ => ⟨S2x2048x256, .bf16⟩
  | .local _ .vmem, ⟨7, _⟩ => ⟨S2x2048x256, .bf16⟩
  | .local _ .vmem, ⟨8, _⟩ => ⟨S3x2x256, .f32⟩
  | .local _ .vmem, ⟨9, _⟩ => ⟨S3x2x256, .f32⟩
  | .local _ .vmem, ⟨10, _⟩ => ⟨S2x256, .f32⟩
  | .local _ .vmem, ⟨11, _⟩ => ⟨S2x256, .f32⟩
  | .local _ .vmem, ⟨12, _⟩ => ⟨S2048x256, .bf16⟩
  | .local _ .vmem, ⟨13, _⟩ => ⟨S2048x256, .bf16⟩
  | .local _ .vmem, ⟨14, _⟩ => ⟨S2x2048x256, .bf16⟩
  | .local _ .vmem, ⟨15, _⟩ => ⟨S2x2048x256, .bf16⟩
  | .local _ .vmem, ⟨16, _⟩ => ⟨S2048x1024, .bf16⟩
  | .local _ .vmem, ⟨17, _⟩ => ⟨S1024x1024, .bf16⟩
  | .local _ .vmem, ⟨18, _⟩ => ⟨S1024x1024, .bf16⟩
  | .local _ .vmem, ⟨19, _⟩ => ⟨S2048x1024, .bf16⟩
  | .local _ .vmem, ⟨20, _⟩ => ⟨S2048x1024, .bf16⟩
  | .local _ .vmem, ⟨21, _⟩ => ⟨S8x128, .f32⟩
  | .local _ .vmem, ⟨22, _⟩ => ⟨S2048x1024, .bf16⟩
  | .local _ .vmem, ⟨23, _⟩ => ⟨S2048x1024, .bf16⟩
  | .local _ .vmem, ⟨24, _⟩ => ⟨S2048x1024, .bf16⟩
  | .local _ .vmem, ⟨25, _⟩ => ⟨S1024x1024, .bf16⟩
  | .local _ .vmem, ⟨26, _⟩ => ⟨S1024x1024, .bf16⟩
  | .local _ .vmem, ⟨27, _⟩ => ⟨S8x128, .f32⟩
  | .local _ .vmem, ⟨28, _⟩ => ⟨S2x2048x256, .bf16⟩
  | .local _ .vmem, ⟨29, _⟩ => ⟨S2x2048x256, .bf16⟩
  | .local _ .vmem, ⟨30, _⟩ => ⟨S2x2048x256, .bf16⟩
  | .local _ .vmem, ⟨31, _⟩ => ⟨S2x2048x256, .bf16⟩
  | .local _ .vmem, ⟨32, _⟩ => ⟨S2048x256, .bf16⟩
  | .local _ .vmem, ⟨33, _⟩ => ⟨S2048x256, .bf16⟩
  | .local _ .vmem, ⟨34, _⟩ => ⟨S3x2x256, .f32⟩
  | .local _ .vmem, ⟨35, _⟩ => ⟨S3x2x256, .f32⟩
  | .local _ .vmem, ⟨36, _⟩ => ⟨S2x2048x256, .bf16⟩
  | .local _ .vmem, ⟨37, _⟩ => ⟨S2x2048x256, .bf16⟩
  | .local _ .vmem, ⟨38, _⟩ => ⟨S3x2x256, .f32⟩
  | .local _ .vmem, ⟨39, _⟩ => ⟨S3x2x256, .f32⟩
  | .local _ .vmem, ⟨40, _⟩ => ⟨S2x256, .f32⟩
  | .local _ .vmem, ⟨41, _⟩ => ⟨S2x256, .f32⟩
  | .local _ .vmem, ⟨42, _⟩ => ⟨S2x2048x256, .f32⟩
  | .local _ .vmem, ⟨43, _⟩ => ⟨S2048x1024, .bf16⟩
  | .local _ .vmem, ⟨44, _⟩ => ⟨S1x2048x1024, .bf16⟩
  | .local _ .vmem, ⟨45, _⟩ => ⟨S1x2048x1024, .bf16⟩
  | .local _ .vmem, ⟨46, _⟩ => ⟨S1024x1024, .bf16⟩
  | .local _ .vmem, ⟨47, _⟩ => ⟨S1024x1024, .bf16⟩
  | .local _ .vmem, ⟨48, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg5_1 : Ref sig .tc := ⟨.vmem, 39, rfl⟩
abbrev cc4_stg6_0 : Ref sig .tc := ⟨.vmem, 40, rfl⟩
abbrev cc4_stg6_1 : Ref sig .tc := ⟨.vmem, 41, rfl⟩
abbrev cc4_scratch0 : Ref sig .tc := ⟨.vmem, 42, rfl⟩
abbrev cc5_stg0_0 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_scratch0 : Ref sig .tc := ⟨.vmem, 48, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32
abbrev cc4_sem4_0 : DmaSem sig := 33
abbrev cc4_sem4_1 : DmaSem sig := 34
abbrev cc4_sem5_0 : DmaSem sig := 35
abbrev cc4_sem5_1 : DmaSem sig := 36
abbrev cc4_sem6_0 : DmaSem sig := 37
abbrev cc4_sem6_1 : DmaSem sig := 38
abbrev cc5_sem0_0 : DmaSem sig := 39
abbrev cc5_sem1_0 : DmaSem sig := 40
abbrev cc5_sem1_1 : DmaSem sig := 41
abbrev cc5_sem2_0 : DmaSem sig := 42
abbrev cc5_sem2_1 : DmaSem sig := 43

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![16], ![false]⟩

@[reducible] def k1_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k1_mult1 (k1_t1 : Fin k1_t1_loop.trips) : BitVec 32 :=
  let c0_i32 : BitVec 32 := 0#32
  let c1_i32 : BitVec 32 := 1#32
  let arg6 : BitVec 32 := Scf.iv c0_i32 c1_i32 k1_t1
  let c64_i32 : BitVec 32 := 64#32
  let v1 : BitVec 32 := Scalar.muli arg6 c64_i32
  v1
def k1_off1 (k1_t1 : Fin k1_t1_loop.trips) : Fin 3 → Nat :=
  let c0 : Index := 0#32
  let c0_i32 : BitVec 32 := 0#32
  let c1_i32 : BitVec 32 := 1#32
  let arg6 : BitVec 32 := Scf.iv c0_i32 c1_i32 k1_t1
  let c64_i32 : BitVec 32 := 64#32
  let v1 : BitVec 32 := Scalar.muli arg6 c64_i32
  let v2 : BitVec 32 := v1
  let v3 : Index := Scalar.indexCast v2
  let c0_1 : Index := 0#32
  ![0, v3.toNat, 0]
def k1_mult2 (k1_t1 : Fin k1_t1_loop.trips) : BitVec 32 :=
  let c0_i32 : BitVec 32 := 0#32
  let c1_i32 : BitVec 32 := 1#32
  let arg6 : BitVec 32 := Scf.iv c0_i32 c1_i32 k1_t1
  let c64_i32 : BitVec 32 := 64#32
  let v1 : BitVec 32 := Scalar.muli arg6 c64_i32
  let v2 : BitVec 32 := v1
  let c16_i32 : BitVec 32 := 16#32
  let v7 : BitVec 32 := Scalar.subi v2 c16_i32
  let c0_i32_2 : BitVec 32 := 0#32
  let v8 : BitVec 32 := Scalar.maxsi v7 c0_i32_2
  v8
def k1_off2 (k1_t1 : Fin k1_t1_loop.trips) : Fin 3 → Nat :=
  let c0_3 : Index := 0#32
  let c0_i32 : BitVec 32 := 0#32
  let c1_i32 : BitVec 32 := 1#32
  let arg6 : BitVec 32 := Scf.iv c0_i32 c1_i32 k1_t1
  let c64_i32 : BitVec 32 := 64#32
  let v1 : BitVec 32 := Scalar.muli arg6 c64_i32
  let v2 : BitVec 32 := v1
  let c16_i32 : BitVec 32 := 16#32
  let v7 : BitVec 32 := Scalar.subi v2 c16_i32
  let c0_i32_2 : BitVec 32 := 0#32
  let v8 : BitVec 32 := Scalar.maxsi v7 c0_i32_2
  let v9 : BitVec 32 := v8
  let v10 : Index := Scalar.indexCast v9
  let c0_4 : Index := 0#32
  ![0, v10.toNat, 0]
def k1_mult3 (k1_t1 : Fin k1_t1_loop.trips) : BitVec 32 :=
  let c0_i32 : BitVec 32 := 0#32
  let c1_i32 : BitVec 32 := 1#32
  let arg6 : BitVec 32 := Scf.iv c0_i32 c1_i32 k1_t1
  let c64_i32_20 : BitVec 32 := 64#32
  let v54 : BitVec 32 := Scalar.muli arg6 c64_i32_20
  v54
def k1_off3 (k1_t1 : Fin k1_t1_loop.trips) : Fin 3 → Nat :=
  let c1_21 : Index := 1#32
  let c0_i32 : BitVec 32 := 0#32
  let c1_i32 : BitVec 32 := 1#32
  let arg6 : BitVec 32 := Scf.iv c0_i32 c1_i32 k1_t1
  let c64_i32_20 : BitVec 32 := 64#32
  let v54 : BitVec 32 := Scalar.muli arg6 c64_i32_20
  let v55 : BitVec 32 := v54
  let v56 : Index := Scalar.indexCast v55
  let c0_22 : Index := 0#32
  ![1, v56.toNat, 0]
def k1_mult4 (k1_t1 : Fin k1_t1_loop.trips) : BitVec 32 :=
  let c0_i32 : BitVec 32 := 0#32
  let c1_i32 : BitVec 32 := 1#32
  let arg6 : BitVec 32 := Scf.iv c0_i32 c1_i32 k1_t1
  let c64_i32_20 : BitVec 32 := 64#32
  let v54 : BitVec 32 := Scalar.muli arg6 c64_i32_20
  let v55 : BitVec 32 := v54
  let c16_i32_23 : BitVec 32 := 16#32
  let v60 : BitVec 32 := Scalar.subi v55 c16_i32_23
  let c0_i32_24 : BitVec 32 := 0#32
  let v61 : BitVec 32 := Scalar.maxsi v60 c0_i32_24
  v61
def k1_off4 (k1_t1 : Fin k1_t1_loop.trips) : Fin 3 → Nat :=
  let c1_25 : Index := 1#32
  let c0_i32 : BitVec 32 := 0#32
  let c1_i32 : BitVec 32 := 1#32
  let arg6 : BitVec 32 := Scf.iv c0_i32 c1_i32 k1_t1
  let c64_i32_20 : BitVec 32 := 64#32
  let v54 : BitVec 32 := Scalar.muli arg6 c64_i32_20
  let v55 : BitVec 32 := v54
  let c16_i32_23 : BitVec 32 := 16#32
  let v60 : BitVec 32 := Scalar.subi v55 c16_i32_23
  let c0_i32_24 : BitVec 32 := 0#32
  let v61 : BitVec 32 := Scalar.maxsi v60 c0_i32_24
  let v62 : BitVec 32 := v61
  let v63 : Index := Scalar.indexCast v62
  let c0_26 : Index := 0#32
  ![1, v63.toNat, 0]
def k1_mult5 (k1_t1 : Fin k1_t1_loop.trips) : BitVec 32 :=
  let c0_i32 : BitVec 32 := 0#32
  let c1_i32 : BitVec 32 := 1#32
  let arg6 : BitVec 32 := Scf.iv c0_i32 c1_i32 k1_t1
  let c64_i32_50 : BitVec 32 := 64#32
  let v122 : BitVec 32 := Scalar.muli arg6 c64_i32_50
  v122
def k1_off5 (k1_t1 : Fin k1_t1_loop.trips) : Fin 2 → Nat :=
  let c0_i32 : BitVec 32 := 0#32
  let c1_i32 : BitVec 32 := 1#32
  let arg6 : BitVec 32 := Scf.iv c0_i32 c1_i32 k1_t1
  let c64_i32_50 : BitVec 32 := 64#32
  let v122 : BitVec 32 := Scalar.muli arg6 c64_i32_50
  let v123 : BitVec 32 := v122
  let v124 : Index := Scalar.indexCast v123
  let c0_51 : Index := 0#32
  ![v124.toNat, 0]
def k1_mult6 (k1_t1 : Fin k1_t1_loop.trips) : BitVec 32 :=
  let c0_i32 : BitVec 32 := 0#32
  let c1_i32 : BitVec 32 := 1#32
  let arg6 : BitVec 32 := Scf.iv c0_i32 c1_i32 k1_t1
  let c64_i32_52 : BitVec 32 := 64#32
  let v127 : BitVec 32 := Scalar.muli arg6 c64_i32_52
  v127
def k1_mult7 (k1_t1 : Fin k1_t1_loop.trips) : BitVec 32 :=
  let c0_i32 : BitVec 32 := 0#32
  let c1_i32 : BitVec 32 := 1#32
  let arg6 : BitVec 32 := Scf.iv c0_i32 c1_i32 k1_t1
  let c64_i32_55 : BitVec 32 := 64#32
  let v134 : BitVec 32 := Scalar.muli arg6 c64_i32_55
  v134
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 2 → Memref sig .tc .vmem S2x2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x2x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![1, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![16], ![false]⟩

@[reducible] def k4_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k4_mult1 (k4_t1 : Fin k4_t1_loop.trips) : BitVec 32 :=
  let c0_i32 : BitVec 32 := 0#32
  let c1_i32 : BitVec 32 := 1#32
  let arg9 : BitVec 32 := Scf.iv c0_i32 c1_i32 k4_t1
  let c64_i32 : BitVec 32 := 64#32
  let v41 : BitVec 32 := Scalar.muli arg9 c64_i32
  v41
def k4_off1 (k4_t1 : Fin k4_t1_loop.trips) : Fin 3 → Nat :=
  let c0_32 : Index := 0#32
  let c0_i32 : BitVec 32 := 0#32
  let c1_i32 : BitVec 32 := 1#32
  let arg9 : BitVec 32 := Scf.iv c0_i32 c1_i32 k4_t1
  let c64_i32 : BitVec 32 := 64#32
  let v41 : BitVec 32 := Scalar.muli arg9 c64_i32
  let v42 : BitVec 32 := v41
  let v43 : Index := Scalar.indexCast v42
  let c0_33 : Index := 0#32
  ![0, v43.toNat, 0]
def k4_mult2 (k4_t1 : Fin k4_t1_loop.trips) : BitVec 32 :=
  let c0_i32 : BitVec 32 := 0#32
  let c1_i32 : BitVec 32 := 1#32
  let arg9 : BitVec 32 := Scf.iv c0_i32 c1_i32 k4_t1
  let c64_i32_34 : BitVec 32 := 64#32
  let v47 : BitVec 32 := Scalar.muli arg9 c64_i32_34
  v47
def k4_off2 (k4_t1 : Fin k4_t1_loop.trips) : Fin 3 → Nat :=
  let c1_35 : Index := 1#32
  let c0_i32 : BitVec 32 := 0#32
  let c1_i32 : BitVec 32 := 1#32
  let arg9 : BitVec 32 := Scf.iv c0_i32 c1_i32 k4_t1
  let c64_i32_34 : BitVec 32 := 64#32
  let v47 : BitVec 32 := Scalar.muli arg9 c64_i32_34
  let v48 : BitVec 32 := v47
  let v49 : Index := Scalar.indexCast v48
  let c0_36 : Index := 0#32
  ![1, v49.toNat, 0]
def k4_mult3 (k4_t1 : Fin k4_t1_loop.trips) : BitVec 32 :=
  let c0_i32 : BitVec 32 := 0#32
  let c1_i32 : BitVec 32 := 1#32
  let arg9 : BitVec 32 := Scf.iv c0_i32 c1_i32 k4_t1
  let c64_i32_48 : BitVec 32 := 64#32
  let v85 : BitVec 32 := Scalar.muli arg9 c64_i32_48
  v85
def k4_off3 (k4_t1 : Fin k4_t1_loop.trips) : Fin 2 → Nat :=
  let c0_i32 : BitVec 32 := 0#32
  let c1_i32 : BitVec 32 := 1#32
  let arg9 : BitVec 32 := Scf.iv c0_i32 c1_i32 k4_t1
  let c64_i32_48 : BitVec 32 := 64#32
  let v85 : BitVec 32 := Scalar.muli arg9 c64_i32_48
  let v86 : BitVec 32 := v85
  let v87 : Index := Scalar.indexCast v86
  let c0_49 : Index := 0#32
  ![v87.toNat, 0]
def k4_mult4 (k4_t1 : Fin k4_t1_loop.trips) : BitVec 32 :=
  let c0_i32 : BitVec 32 := 0#32
  let c1_i32 : BitVec 32 := 1#32
  let arg9 : BitVec 32 := Scf.iv c0_i32 c1_i32 k4_t1
  let c64_i32_50 : BitVec 32 := 64#32
  let v94 : BitVec 32 := Scalar.muli arg9 c64_i32_50
  v94
def k4_mult5 (k4_t1 : Fin k4_t1_loop.trips) : BitVec 32 :=
  let c0_i32 : BitVec 32 := 0#32
  let c1_i32 : BitVec 32 := 1#32
  let arg9 : BitVec 32 := Scf.iv c0_i32 c1_i32 k4_t1
  let c64_i32_53 : BitVec 32 := 64#32
  let v100 : BitVec 32 := Scalar.muli arg9 c64_i32_53
  v100
@[reducible] def k4_t2_loop : Scf.Loop 32 :=
  let c0_i32_5 : BitVec 32 := 0#32
  let c32_i32_6 : BitVec 32 := 32#32
  let v9 : BitVec 32 := Scalar.addi c0_i32_5 c32_i32_6
  let c1_i32_7 : BitVec 32 := 1#32
  ⟨c0_i32_5, v9, c1_i32_7⟩
def k4_mult6 (k4_t2 : Fin k4_t2_loop.trips) : BitVec 32 :=
  let c0_i32_5 : BitVec 32 := 0#32
  let c1_i32_7 : BitVec 32 := 1#32
  let arg9 : BitVec 32 := Scf.iv c0_i32_5 c1_i32_7 k4_t2
  let c64_i32 : BitVec 32 := 64#32
  let v41 : BitVec 32 := Scalar.muli arg9 c64_i32
  v41
def k4_off4 (k4_t2 : Fin k4_t2_loop.trips) : Fin 3 → Nat :=
  let c0_32 : Index := 0#32
  let c0_i32_5 : BitVec 32 := 0#32
  let c1_i32_7 : BitVec 32 := 1#32
  let arg9 : BitVec 32 := Scf.iv c0_i32_5 c1_i32_7 k4_t2
  let c64_i32 : BitVec 32 := 64#32
  let v41 : BitVec 32 := Scalar.muli arg9 c64_i32
  let v42 : BitVec 32 := v41
  let v43 : Index := Scalar.indexCast v42
  let c0_33 : Index := 0#32
  ![0, v43.toNat, 0]
def k4_mult7 (k4_t2 : Fin k4_t2_loop.trips) : BitVec 32 :=
  let c0_i32_5 : BitVec 32 := 0#32
  let c1_i32_7 : BitVec 32 := 1#32
  let arg9 : BitVec 32 := Scf.iv c0_i32_5 c1_i32_7 k4_t2
  let c1_i32_34 : BitVec 32 := 1#32
  let v46 : BitVec 32 := Scalar.addi arg9 c1_i32_34
  let c64_i32_35 : BitVec 32 := 64#32
  let v47 : BitVec 32 := Scalar.muli v46 c64_i32_35
  let c2040_i32 : BitVec 32 := 2040#32
  let v48 : BitVec 32 := Scalar.minsi v47 c2040_i32
  v48
def k4_off5 (k4_t2 : Fin k4_t2_loop.trips) : Fin 3 → Nat :=
  let c0_36 : Index := 0#32
  let c0_i32_5 : BitVec 32 := 0#32
  let c1_i32_7 : BitVec 32 := 1#32
  let arg9 : BitVec 32 := Scf.iv c0_i32_5 c1_i32_7 k4_t2
  let c1_i32_34 : BitVec 32 := 1#32
  let v46 : BitVec 32 := Scalar.addi arg9 c1_i32_34
  let c64_i32_35 : BitVec 32 := 64#32
  let v47 : BitVec 32 := Scalar.muli v46 c64_i32_35
  let c2040_i32 : BitVec 32 := 2040#32
  let v48 : BitVec 32 := Scalar.minsi v47 c2040_i32
  let v49 : BitVec 32 := v48
  let v51 : Index := Scalar.indexCast v49
  let c0_37 : Index := 0#32
  ![0, v51.toNat, 0]
def k4_mult8 (k4_t2 : Fin k4_t2_loop.trips) : BitVec 32 :=
  let c0_i32_5 : BitVec 32 := 0#32
  let c1_i32_7 : BitVec 32 := 1#32
  let arg9 : BitVec 32 := Scf.iv c0_i32_5 c1_i32_7 k4_t2
  let c64_i32_50 : BitVec 32 := 64#32
  let v89 : BitVec 32 := Scalar.muli arg9 c64_i32_50
  v89
def k4_mult9 (k4_t2 : Fin k4_t2_loop.trips) : BitVec 32 :=
  let c0_i32_5 : BitVec 32 := 0#32
  let c1_i32_7 : BitVec 32 := 1#32
  let arg9 : BitVec 32 := Scf.iv c0_i32_5 c1_i32_7 k4_t2
  let c64_i32_53 : BitVec 32 := 64#32
  let v95 : BitVec 32 := Scalar.muli arg9 c64_i32_53
  v95
def k4_mult10 (k4_t2 : Fin k4_t2_loop.trips) : BitVec 32 :=
  let c0_i32_5 : BitVec 32 := 0#32
  let c1_i32_7 : BitVec 32 := 1#32
  let arg9 : BitVec 32 := Scf.iv c0_i32_5 c1_i32_7 k4_t2
  let c64_i32_59 : BitVec 32 := 64#32
  let v110 : BitVec 32 := Scalar.muli arg9 c64_i32_59
  v110
def k4_off6 (k4_t2 : Fin k4_t2_loop.trips) : Fin 3 → Nat :=
  let c1_60 : Index := 1#32
  let c0_i32_5 : BitVec 32 := 0#32
  let c1_i32_7 : BitVec 32 := 1#32
  let arg9 : BitVec 32 := Scf.iv c0_i32_5 c1_i32_7 k4_t2
  let c64_i32_59 : BitVec 32 := 64#32
  let v110 : BitVec 32 := Scalar.muli arg9 c64_i32_59
  let v111 : BitVec 32 := v110
  let v112 : Index := Scalar.indexCast v111
  let c0_61 : Index := 0#32
  ![1, v112.toNat, 0]
def k4_mult11 (k4_t2 : Fin k4_t2_loop.trips) : BitVec 32 :=
  let c0_i32_5 : BitVec 32 := 0#32
  let c1_i32_7 : BitVec 32 := 1#32
  let arg9 : BitVec 32 := Scf.iv c0_i32_5 c1_i32_7 k4_t2
  let c1_i32_62 : BitVec 32 := 1#32
  let v115 : BitVec 32 := Scalar.addi arg9 c1_i32_62
  let c64_i32_63 : BitVec 32 := 64#32
  let v116 : BitVec 32 := Scalar.muli v115 c64_i32_63
  let c2040_i32_64 : BitVec 32 := 2040#32
  let v117 : BitVec 32 := Scalar.minsi v116 c2040_i32_64
  v117
def k4_off7 (k4_t2 : Fin k4_t2_loop.trips) : Fin 3 → Nat :=
  let c1_66 : Index := 1#32
  let c0_i32_5 : BitVec 32 := 0#32
  let c1_i32_7 : BitVec 32 := 1#32
  let arg9 : BitVec 32 := Scf.iv c0_i32_5 c1_i32_7 k4_t2
  let c1_i32_62 : BitVec 32 := 1#32
  let v115 : BitVec 32 := Scalar.addi arg9 c1_i32_62
  let c64_i32_63 : BitVec 32 := 64#32
  let v116 : BitVec 32 := Scalar.muli v115 c64_i32_63
  let c2040_i32_64 : BitVec 32 := 2040#32
  let v117 : BitVec 32 := Scalar.minsi v116 c2040_i32_64
  let v118 : BitVec 32 := v117
  let v120 : Index := Scalar.indexCast v118
  let c0_67 : Index := 0#32
  ![1, v120.toNat, 0]
def k4_mult12 (k4_t2 : Fin k4_t2_loop.trips) : BitVec 32 :=
  let c0_i32_5 : BitVec 32 := 0#32
  let c1_i32_7 : BitVec 32 := 1#32
  let arg9 : BitVec 32 := Scf.iv c0_i32_5 c1_i32_7 k4_t2
  let c64_i32_84 : BitVec 32 := 64#32
  let v158 : BitVec 32 := Scalar.muli arg9 c64_i32_84
  v158
def k4_mult13 (k4_t2 : Fin k4_t2_loop.trips) : BitVec 32 :=
  let c0_i32_5 : BitVec 32 := 0#32
  let c1_i32_7 : BitVec 32 := 1#32
  let arg9 : BitVec 32 := Scf.iv c0_i32_5 c1_i32_7 k4_t2
  let c64_i32_87 : BitVec 32 := 64#32
  let v164 : BitVec 32 := Scalar.muli arg9 c64_i32_87
  v164
def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S2x2048x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2x2048x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S3x2x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2x2048x256 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S3x2x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨3, ![1, 8, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage5_0 : Fin 1 → Memref sig .tc .vmem S2048x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false, true]

abbrev stage5_1 : Fin 2 → Memref sig .tc .vmem S1x2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, false]
-- ==== KernelIdeal.lean ====
variable {F : FTy → Type} [FloatOps F] [Named F]
def κ : String → Option EReal := fun
  | "gelu_c" => some ((8943 / 200000 : ℝ) : EReal)
  | "gelu_c3" => some ((26829 / 200000 : ℝ) : EReal)
  | _ => none
-- ==== ReferenceIdeal.lean ====
abbrev S2048x1024 : Shape := ⟨2, ![2048, 1024]⟩
abbrev S1024x8192 : Shape := ⟨2, ![1024, 8192]⟩
abbrev S3x8192 : Shape := ⟨2, ![3, 8192]⟩
abbrev S8192 : Shape := ⟨1, ![8192]⟩
abbrev S4096x1024 : Shape := ⟨2, ![4096, 1024]⟩
abbrev S2048x8192 : Shape := ⟨2, ![2048, 8192]⟩
abbrev S_ : Shape := ⟨0, ![]⟩
abbrev S2x8192 : Shape := ⟨2, ![2, 8192]⟩
abbrev S2050x8192 : Shape := ⟨2, ![2050, 8192]⟩
abbrev S1x8192 : Shape := ⟨2, ![1, 8192]⟩
abbrev S2048x4096 : Shape := ⟨2, ![2048, 4096]⟩
abbrev S1024x4096 : Shape := ⟨2, ![1024, 4096]⟩
abbrev S8192x1024 : Shape := ⟨2, ![8192, 1024]⟩

abbrev nBuf : Space → Nat
  | .hbm => 148
  | .vmem => 0
  | .smem => 0
  | _ => 0

abbrev hbmTy0_0 (i : Nat) : BufTy := match i % 128 with
  | 0 => ⟨S2048x1024, .bf16⟩
  | 1 => ⟨S1024x8192, .bf16⟩
  | 2 => ⟨S3x8192, .f32⟩
  | 3 => ⟨S8192, .f32⟩
  | 4 => ⟨S4096x1024, .bf16⟩
  | 5 => ⟨S2048x1024, .bf16⟩
  | 6 => ⟨S2048x1024, .f32⟩
  | 7 => ⟨S1024x8192, .f32⟩
  | 8 => ⟨S4096x1024, .f32⟩
  | 9 => ⟨S2048x8192, .f32⟩
  | 10 => ⟨S_, .f32⟩
  | 11 => ⟨S2x8192, .f32⟩
  | 12 => ⟨S2050x8192, .f32⟩
  | 13 => ⟨S_, .f32⟩
  | 14 => ⟨S2x8192, .f32⟩
  | 15 => ⟨S1x8192, .f32⟩
  | 16 => ⟨S8192, .f32⟩
  | 17 => ⟨S2048x8192, .f32⟩
  | 18 => ⟨S1x8192, .f32⟩
  | 19 => ⟨S2048x8192, .f32⟩
  | 20 => ⟨S2048x8192, .f32⟩
  | 21 => ⟨S1x8192, .f32⟩
  | 22 => ⟨S8192, .f32⟩
  | 23 => ⟨S2048x8192, .f32⟩
  | 24 => ⟨S1x8192, .f32⟩
  | 25 => ⟨S2048x8192, .f32⟩
  | 26 => ⟨S2048x8192, .f32⟩
  | 27 => ⟨S2048x8192, .f32⟩
  | 28 => ⟨S1x8192, .f32⟩
  | 29 => ⟨S8192, .f32⟩
  | 30 => ⟨S2048x8192, .f32⟩
  | 31 => ⟨S1x8192, .f32⟩
  | 32 => ⟨S2048x8192, .f32⟩
  | 33 => ⟨S2048x8192, .f32⟩
  | 34 => ⟨S2048x8192, .f32⟩
  | 35 => ⟨S1x8192, .f32⟩
  | 36 => ⟨S2048x8192, .f32⟩
  | 37 => ⟨S2048x8192, .f32⟩
  | 38 => ⟨S2048x4096, .f32⟩
  | 39 => ⟨S2048x4096, .f32⟩
  | 40 => ⟨S_, .f32⟩
  | 41 => ⟨S_, .f32⟩
  | 42 => ⟨S_, .f32⟩
  | 43 => ⟨S2048x4096, .f32⟩
  | 44 => ⟨S2048x4096, .f32⟩
  | 45 => ⟨S2048x4096, .f32⟩
  | 46 => ⟨S_, .f32⟩
  | 47 => ⟨S2048x4096, .f32⟩
  | 48 => ⟨S2048x4096, .f32⟩
  | 49 => ⟨S2048x4096, .f32⟩
  | 50 => ⟨S2048x4096, .f32⟩
  | 51 => ⟨S2048x4096, .f32⟩
  | 52 => ⟨S_, .f32⟩
  | 53 => ⟨S2048x4096, .f32⟩
  | 54 => ⟨S2048x4096, .f32⟩
  | 55 => ⟨S2048x4096, .f32⟩
  | 56 => ⟨S_, .f32⟩
  | 57 => ⟨S2048x4096, .f32⟩
  | 58 => ⟨S2048x4096, .f32⟩
  | 59 => ⟨S_, .f32⟩
  | 60 => ⟨S2048x4096, .f32⟩
  | 61 => ⟨S2048x4096, .f32⟩
  | 62 => ⟨S2048x4096, .f32⟩
  | 63 => ⟨S_, .f32⟩
  | 64 => ⟨S2048x4096, .f32⟩
  | 65 => ⟨S2048x4096, .f32⟩
  | 66 => ⟨S_, .f32⟩
  | 67 => ⟨S2048x4096, .f32⟩
  | 68 => ⟨S2048x4096, .f32⟩
  | 69 => ⟨S2048x4096, .f32⟩
  | 70 => ⟨S2048x4096, .f32⟩
  | 71 => ⟨S2048x1024, .f32⟩
  | 72 => ⟨S2048x1024, .f32⟩
  | 73 => ⟨S1024x4096, .f32⟩
  | 74 => ⟨S4096x1024, .f32⟩
  | 75 => ⟨S2048x4096, .f32⟩
  | 76 => ⟨S2048x4096, .f32⟩
  | 77 => ⟨S2048x4096, .f32⟩
  | 78 => ⟨S2048x4096, .f32⟩
  | 79 => ⟨S2048x4096, .f32⟩
  | 80 => ⟨S_, .f32⟩
  | 81 => ⟨S2048x4096, .f32⟩
  | 82 => ⟨S2048x4096, .f32⟩
  | 83 => ⟨S2048x4096, .f32⟩
  | 84 => ⟨S_, .f32⟩
  | 85 => ⟨S2048x4096, .f32⟩
  | 86 => ⟨S2048x4096, .f32⟩
  | 87 => ⟨S2048x4096, .f32⟩
  | 88 => ⟨S2048x4096, .f32⟩
  | 89 => ⟨S2048x4096, .f32⟩
  | 90 => ⟨S2048x4096, .f32⟩
  | 91 => ⟨S2048x4096, .f32⟩
  | 92 => ⟨S2048x8192, .f32⟩
  | 93 => ⟨S_, .f32⟩
  | 94 => ⟨S8192, .f32⟩
  | 95 => ⟨S1x8192, .f32⟩
  | 96 => ⟨S_, .f32⟩
  | 97 => ⟨S8192, .f32⟩
  | 98 => ⟨S2048x8192, .f32⟩
  | 99 => ⟨S2048x8192, .f32⟩
  | 100 => ⟨S2048x8192, .f32⟩
  | 101 => ⟨S_, .f32⟩
  | 102 => ⟨S8192, .f32⟩
  | 103 => ⟨S1x8192, .f32⟩
  | 104 => ⟨S_, .f32⟩
  | 105 => ⟨S8192, .f32⟩
  | 106 => ⟨S_, .f32⟩
  | 107 => ⟨S2050x8192, .f32⟩
  | 108 => ⟨S1x8192, .f32⟩
  | 109 => ⟨S_, .f32⟩
  | 110 => ⟨S3x8192, .f32⟩
  | 111 => ⟨S2048x8192, .f32⟩
  | 112 => ⟨S2048x8192, .f32⟩
  | 113 => ⟨S2048x8192, .f32⟩
  | 114 => ⟨S_, .f32⟩
  | 115 => ⟨S8192, .f32⟩
  | 116 => ⟨S1x8192, .f32⟩
  | 117 => ⟨S_, .f32⟩
  | 118 => ⟨S8192, .f32⟩
  | 119 => ⟨S_, .f32⟩
  | 120 => ⟨S2050x8192, .f32⟩
  | 121 => ⟨S2050x8192, .f32⟩
  | 122 => ⟨S1x8192, .f32⟩
  | 123 => ⟨S_, .f32⟩
  | 124 => ⟨S3x8192, .f32⟩
  | 125 => ⟨S3x8192, .f32⟩
  | 126 => ⟨S2048x8192, .f32⟩
  | 127 => ⟨S2048x8192, .f32⟩
  | _ => ⟨S2048x1024, .bf16⟩

abbrev hbmTy0_1 (i : Nat) : BufTy := match i % 128 with
  | 0 => ⟨S2048x8192, .f32⟩
  | 1 => ⟨S_, .f32⟩
  | 2 => ⟨S8192, .f32⟩
  | 3 => ⟨S1x8192, .f32⟩
  | 4 => ⟨S_, .f32⟩
  | 5 => ⟨S8192, .f32⟩
  | 6 => ⟨S_, .f32⟩
  | 7 => ⟨S2050x8192, .f32⟩
  | 8 => ⟨S2050x8192, .f32⟩
  | 9 => ⟨S1x8192, .f32⟩
  | 10 => ⟨S_, .f32⟩
  | 11 => ⟨S3x8192, .f32⟩
  | 12 => ⟨S3x8192, .f32⟩
  | 13 => ⟨S2x8192, .f32⟩
  | 14 => ⟨S2048x8192, .f32⟩
  | 15 => ⟨S8192x1024, .f32⟩
  | 16 => ⟨S1024x8192, .f32⟩
  | 17 => ⟨S2048x1024, .f32⟩
  | 18 => ⟨S1024x8192, .bf16⟩
  | 19 => ⟨S4096x1024, .bf16⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_11 : Ref sig .tc := ⟨.hbm, 93, rfl⟩
abbrev main_v75 : Ref sig .tc := ⟨.hbm, 94, rfl⟩
abbrev main_v76 : Ref sig .tc := ⟨.hbm, 95, rfl⟩
abbrev main_cst_12 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_13 : Ref sig .tc := ⟨.hbm, 101, rfl⟩
abbrev main_v81 : Ref sig .tc := ⟨.hbm, 102, rfl⟩
abbrev main_v82 : Ref sig .tc := ⟨.hbm, 103, rfl⟩
abbrev main_cst_14 : Ref sig .tc := ⟨.hbm, 104, rfl⟩
abbrev main_v83 : Ref sig .tc := ⟨.hbm, 105, rfl⟩
abbrev main_cst_15 : Ref sig .tc := ⟨.hbm, 106, rfl⟩
abbrev main_v84 : Ref sig .tc := ⟨.hbm, 107, rfl⟩
abbrev main_v85 : Ref sig .tc := ⟨.hbm, 108, rfl⟩
abbrev main_cst_16 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_17 : Ref sig .tc := ⟨.hbm, 114, rfl⟩
abbrev main_v90 : Ref sig .tc := ⟨.hbm, 115, rfl⟩
abbrev main_v91 : Ref sig .tc := ⟨.hbm, 116, rfl⟩
abbrev main_cst_18 : Ref sig .tc := ⟨.hbm, 117, rfl⟩
abbrev main_v92 : Ref sig .tc := ⟨.hbm, 118, rfl⟩
abbrev main_cst_19 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_20 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_21 : Ref sig .tc := ⟨.hbm, 129, rfl⟩
abbrev main_v101 : Ref sig .tc := ⟨.hbm, 130, rfl⟩
abbrev main_v102 : Ref sig .tc := ⟨.hbm, 131, rfl⟩
abbrev main_cst_22 : Ref sig .tc := ⟨.hbm, 132, rfl⟩
abbrev main_v103 : Ref sig .tc := ⟨.hbm, 133, rfl⟩
abbrev main_cst_23 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_24 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩

abbrev nD : Nat := 1
abbrev τ : Topo := Topo.v7x

variable {F : FTy → Type} [FloatOps F]
-- ==== UpBwdX.lean ====
abbrev S2x2048x4096 : Shape := ⟨3, ![2, 2048, 4096]⟩
abbrev S1024x8192 : Shape := ⟨2, ![1024, 8192]⟩
abbrev S2048x1024 : Shape := ⟨2, ![2048, 1024]⟩
abbrev S1x1024x4096 : Shape := ⟨3, ![1, 1024, 4096]⟩
abbrev S1024x4096 : Shape := ⟨2, ![1024, 4096]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x4096, .bf16⟩
  | .hbm, ⟨1, _⟩ => ⟨S1024x8192, .bf16⟩
  | .hbm, ⟨2, _⟩ => ⟨S2048x1024, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== UpBwdXRefIdeal.lean ====
abbrev S2x2048x4096 : Shape := ⟨3, ![2, 2048, 4096]⟩
abbrev S1024x8192 : Shape := ⟨2, ![1024, 8192]⟩
abbrev S_ : Shape := ⟨0, ![]⟩
abbrev S2048x1024 : Shape := ⟨2, ![2048, 1024]⟩
abbrev S2048x8192 : Shape := ⟨2, ![2048, 8192]⟩
abbrev S1x2048x4096 : Shape := ⟨3, ![1, 2048, 4096]⟩
abbrev S2048x4096 : Shape := ⟨2, ![2048, 4096]⟩

abbrev nBuf : Space → Nat
  | .hbm => 13
  | .vmem => 0
  | .smem => 0
  | _ => 0

abbrev bufTy : (tb : Table) → Fin (tcTables nBuf tb) → BufTy
  | .hbm, ⟨0, _⟩ => ⟨S2x2048x4096, .bf16⟩
  | .hbm, ⟨1, _⟩ => ⟨S1024x8192, .bf16⟩
  | .hbm, ⟨2, _⟩ => ⟨S_, .f32⟩
  | .hbm, ⟨3, _⟩ => ⟨S2048x1024, .f32⟩
  | .hbm, ⟨4, _⟩ => ⟨S1024x8192, .f32⟩
  | .hbm, ⟨5, _⟩ => ⟨S2048x8192, .f32⟩
  | .hbm, ⟨6, _⟩ => ⟨S1x2048x4096, .bf16⟩
  | .hbm, ⟨7, _⟩ => ⟨S2048x4096, .bf16⟩
  | .hbm, ⟨8, _⟩ => ⟨S1x2048x4096, .bf16⟩
  | .hbm, ⟨9, _⟩ => ⟨S2048x4096, .bf16⟩
  | .hbm, ⟨10, _⟩ => ⟨S2048x8192, .bf16⟩
  | .hbm, ⟨11, _⟩ => ⟨S2048x8192, .f32⟩
  | .hbm, ⟨12, _⟩ => ⟨S2048x1024, .f32⟩
  | _, _ => ⟨S2x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Down.lean ====
abbrev S2048x4096 : Shape := ⟨2, ![2048, 4096]⟩
abbrev S4096x1024 : Shape := ⟨2, ![4096, 1024]⟩
abbrev S2048x1024 : Shape := ⟨2, ![2048, 1024]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S2048x4096 : Shape := ⟨2, ![2048, 4096]⟩
abbrev S4096x1024 : Shape := ⟨2, ![4096, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x4096, .f32⟩
  | .hbm, ⟨3, _⟩ => ⟨S4096x1024, .f32⟩
  | .hbm, ⟨4, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InBwdXQkv.lean ====
abbrev S30x2048x128 : Shape := ⟨3, ![30, 2048, 128]⟩
abbrev S6912x1024 : Shape := ⟨2, ![6912, 1024]⟩
abbrev S2048x1024 : Shape := ⟨2, ![2048, 1024]⟩
abbrev S30x1024x128 : Shape := ⟨3, ![30, 1024, 128]⟩
abbrev S3840x1024 : Shape := ⟨2, ![3840, 1024]⟩
abbrev S1024x1024 : Shape := ⟨2, ![1024, 1024]⟩
abbrev S8x128 : Shape := ⟨2, ![8, 128]⟩
abbrev S1x1024x128 : Shape := ⟨3, ![1, 1024, 128]⟩
abbrev S1024x128 : Shape := ⟨2, ![1024, 128]⟩
abbrev S1024x3840 : Shape := ⟨2, ![1024, 3840]⟩

abbrev nBuf : Space → Nat
  | .hbm => 3
  | .vmem => 6
  | .smem => 0
  | _ => 0

abbrev bufTy : (tb : Table) → Fin (tcTables nBuf tb) → BufTy
  | .hbm, ⟨0, _⟩ => ⟨S30x2048x128, .bf16⟩
  | .hbm, ⟨1, _⟩ => ⟨S6912x1024, .bf16⟩
  | .hbm, ⟨2, _⟩ => ⟨S2048x1024, .f32⟩
  | .local _ .vmem, ⟨0, _⟩ => ⟨S30x1024x128, .bf16⟩
  | .local _ .vmem, ⟨1, _⟩ => ⟨S30x1024x128, .bf16⟩
  | .local _ .vmem, ⟨2, _⟩ => ⟨S3840x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S30x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S30x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3840x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== InBwdXQkvRefIdeal.lean ====
abbrev S30x2048x128 : Shape := ⟨3, ![30, 2048, 128]⟩
abbrev S6912x1024 : Shape := ⟨2, ![6912, 1024]⟩
abbrev S_ : Shape := ⟨0, ![]⟩
abbrev S2048x1024 : Shape := ⟨2, ![2048, 1024]⟩
abbrev S3840x1024 : Shape := ⟨2, ![3840, 1024]⟩
abbrev S1024x3840 : Shape := ⟨2, ![1024, 3840]⟩
abbrev S2048x3840 : Shape := ⟨2, ![2048, 3840]⟩
abbrev S2048x30x128 : Shape := ⟨3, ![2048, 30, 128]⟩

abbrev nBuf : Space → Nat
  | .hbm => 12
  | .vmem => 0
  | .smem => 0
  | _ => 0

abbrev bufTy : (tb : Table) → Fin (tcTables nBuf tb) → BufTy
  | .hbm, ⟨0, _⟩ => ⟨S30x2048x128, .bf16⟩
  | .hbm, ⟨1, _⟩ => ⟨S6912x1024, .bf16⟩
  | .hbm, ⟨2, _⟩ => ⟨S_, .f32⟩
  | .hbm, ⟨3, _⟩ => ⟨S2048x1024, .f32⟩
  | .hbm, ⟨4, _⟩ => ⟨S3840x1024, .bf16⟩
  | .hbm, ⟨5, _⟩ => ⟨S3840x1024, .f32⟩
  | .hbm, ⟨6, _⟩ => ⟨S1024x3840, .f32⟩
  | .hbm, ⟨7, _⟩ => ⟨S2048x3840, .f32⟩
  | .hbm, ⟨8, _⟩ => ⟨S2048x30x128, .bf16⟩
  | .hbm, ⟨9, _⟩ => ⟨S2048x3840, .bf16⟩
  | .hbm, ⟨10, _⟩ => ⟨S2048x3840, .f32⟩
  | .hbm, ⟨11, _⟩ => ⟨S2048x1024, .f32⟩
  | _, _ => ⟨S30x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InBwdXGate.lean ====
abbrev S2048x3072 : Shape := ⟨2, ![2048, 3072]⟩
abbrev S6912x1024 : Shape := ⟨2, ![6912, 1024]⟩
abbrev S2048x1024 : Shape := ⟨2, ![2048, 1024]⟩
abbrev S1024x768 : Shape := ⟨2, ![1024, 768]⟩
abbrev S768x1024 : Shape := ⟨2, ![768, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x3072, .bf16⟩
  | .hbm, ⟨1, _⟩ => ⟨S6912x1024, .bf16⟩
  | .hbm, ⟨2, _⟩ => ⟨S2048x1024, .f32⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg2 c5_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== InBwdXGateRefIdeal.lean ====
abbrev S2048x3072 : Shape := ⟨2, ![2048, 3072]⟩
abbrev S6912x1024 : Shape := ⟨2, ![6912, 1024]⟩
abbrev S_ : Shape := ⟨0, ![]⟩
abbrev S2048x1024 : Shape := ⟨2, ![2048, 1024]⟩
abbrev S3072x1024 : Shape := ⟨2, ![3072, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S6912x1024, .bf16⟩
  | .hbm, ⟨2, _⟩ => ⟨S_, .f32⟩
  | .hbm, ⟨3, _⟩ => ⟨S2048x1024, .f32⟩
  | .hbm, ⟨4, _⟩ => ⟨S3072x1024, .bf16⟩
  | .hbm, ⟨5, _⟩ => ⟨S3072x1024, .f32⟩
  | .hbm, ⟨6, _⟩ => ⟨S1024x3072, .f32⟩
  | .hbm, ⟨7, _⟩ => ⟨S2048x3072, .f32⟩
  | .hbm, ⟨8, _⟩ => ⟨S2048x3072, .f32⟩
  | .hbm, ⟨9, _⟩ => ⟨S2048x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjQkv.lean ====
abbrev S2048x1024 : Shape := ⟨2, ![2048, 1024]⟩
abbrev S6912x1024 : Shape := ⟨2, ![6912, 1024]⟩
abbrev S30x2048x128 : Shape := ⟨3, ![30, 2048, 128]⟩
abbrev S768x1024 : Shape := ⟨2, ![768, 1024]⟩
abbrev S6x2048x128 : Shape := ⟨3, ![6, 2048, 128]⟩
abbrev S8x128 : Shape := ⟨2, ![8, 128]⟩
abbrev S2048x768 : Shape := ⟨2, ![2048, 768]⟩
abbrev S2048x128 : Shape := ⟨2, ![2048, 128]⟩
abbrev S1x2048x128 : Shape := ⟨3, ![1, 2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S6912x1024, .bf16⟩
  | .hbm, ⟨2, _⟩ => ⟨S30x2048x128, .f32⟩
  | .local _ .vmem, ⟨0, _⟩ => ⟨S2048x1024, .bf16⟩
  | .local _ .vmem, ⟨1, _⟩ => ⟨S768x1024, .bf16⟩
  | .local _ .vmem, ⟨2, _⟩ => ⟨S768x1024, .bf16⟩
  | .local _ .vmem, ⟨3, _⟩ => ⟨S6x2048x128, .f32⟩
  | .local _ .vmem, ⟨4, _⟩ => ⟨S6x2048x128, .f32⟩
  | .local _ .vmem, ⟨5, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S6x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQkvRefIdeal.lean ====
abbrev S2048x1024 : Shape := ⟨2, ![2048, 1024]⟩
abbrev S6912x1024 : Shape := ⟨2, ![6912, 1024]⟩
abbrev S3840x1024 : Shape := ⟨2, ![3840, 1024]⟩
abbrev S1024x3840 : Shape := ⟨2, ![1024, 3840]⟩
abbrev S2048x3840 : Shape := ⟨2, ![2048, 3840]⟩
abbrev S2048x30x128 : Shape := ⟨3, ![2048, 30, 128]⟩
abbrev S30x2048x128 : Shape := ⟨3, ![30, 2048, 128]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S6912x1024, .bf16⟩
  | .hbm, ⟨2, _⟩ => ⟨S2048x1024, .f32⟩
  | .hbm, ⟨3, _⟩ => ⟨S3840x1024, .bf16⟩
  | .hbm, ⟨4, _⟩ => ⟨S3840x1024, .f32⟩
  | .hbm, ⟨5, _⟩ => ⟨S1024x3840, .f32⟩
  | .hbm, ⟨6, _⟩ => ⟨S2048x3840, .f32⟩
  | .hbm, ⟨7, _⟩ => ⟨S2048x30x128, .f32⟩
  | .hbm, ⟨8, _⟩ => ⟨S30x2048x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== ProjGate.lean ====
abbrev S2048x1024 : Shape := ⟨2, ![2048, 1024]⟩
abbrev S6912x1024 : Shape := ⟨2, ![6912, 1024]⟩
abbrev S2048x3072 : Shape := ⟨2, ![2048, 3072]⟩
abbrev S768x1024 : Shape := ⟨2, ![768, 1024]⟩
abbrev S2048x768 : Shape := ⟨2, ![2048, 768]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S6912x1024, .bf16⟩
  | .hbm, ⟨2, _⟩ => ⟨S2048x3072, .bf16⟩
  | .local _ .vmem, ⟨0, _⟩ => ⟨S2048x1024, .bf16⟩
  | .local _ .vmem, ⟨1, _⟩ => ⟨S768x1024, .bf16⟩
  | .local _ .vmem, ⟨2, _⟩ => ⟨S768x1024, .bf16⟩
  | .local _ .vmem, ⟨3, _⟩ => ⟨S2048x768, .bf16⟩
  | .local _ .vmem, ⟨4, _⟩ => ⟨S2048x768, .bf16⟩
  | .local _ .vmem, ⟨5, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg1 c5_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGateRefIdeal.lean ====
abbrev S2048x1024 : Shape := ⟨2, ![2048, 1024]⟩
abbrev S6912x1024 : Shape := ⟨2, ![6912, 1024]⟩
abbrev S3072x1024 : Shape := ⟨2, ![3072, 1024]⟩
abbrev S1024x3072 : Shape := ⟨2, ![1024, 3072]⟩
abbrev S2048x3072 : Shape := ⟨2, ![2048, 3072]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S6912x1024, .bf16⟩
  | .hbm, ⟨2, _⟩ => ⟨S2048x1024, .f32⟩
  | .hbm, ⟨3, _⟩ => ⟨S3072x1024, .bf16⟩
  | .hbm, ⟨4, _⟩ => ⟨S3072x1024, .f32⟩
  | .hbm, ⟨5, _⟩ => ⟨S1024x3072, .f32⟩
  | .hbm, ⟨6, _⟩ => ⟨S2048x3072, .f32⟩
  | .hbm, ⟨7, _⟩ => ⟨S2048x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutBwdW.lean ====
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutBwdWRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InBwdW.lean ====
abbrev S30x2048x128 : Shape := ⟨3, ![30, 2048, 128]⟩
abbrev S2048x3072 : Shape := ⟨2, ![2048, 3072]⟩
abbrev S2048x1024 : Shape := ⟨2, ![2048, 1024]⟩
abbrev S6912x1024 : Shape := ⟨2, ![6912, 1024]⟩
abbrev S6x2048x128 : Shape := ⟨3, ![6, 2048, 128]⟩
abbrev S768x1024 : Shape := ⟨2, ![768, 1024]⟩
abbrev S8x128 : Shape := ⟨2, ![8, 128]⟩
abbrev S1x2048x128 : Shape := ⟨3, ![1, 2048, 128]⟩
abbrev S2048x128 : Shape := ⟨2, ![2048, 128]⟩
abbrev S2048x768 : Shape := ⟨2, ![2048, 768]⟩

abbrev nBuf : Space → Nat
  | .hbm => 5
  | .vmem => 12
  | .smem => 0
  | _ => 0

abbrev bufTy : (tb : Table) → Fin (tcTables nBuf tb) → BufTy
  | .hbm, ⟨0, _⟩ => ⟨S30x2048x128, .bf16⟩
  | .hbm, ⟨1, _⟩ => ⟨S2048x3072, .bf16⟩
  | .hbm, ⟨2, _⟩ => ⟨S2048x1024, .bf16⟩
  | .hbm, ⟨3, _⟩ => ⟨S6912x1024, .bf16⟩
  | .hbm, ⟨4, _⟩ => ⟨S6912x1024, .bf16⟩
  | .local _ .vmem, ⟨0, _⟩ => ⟨S6x2048x128, .bf16⟩
  | .local _ .vmem, ⟨1, _⟩ => ⟨S6x2048x128, .bf16⟩
  | .local _ .vmem, ⟨2, _⟩ => ⟨S2048x1024, .bf16⟩
  | .local _ .vmem, ⟨3, _⟩ => ⟨S768x1024, .bf16⟩
  | .local _ .vmem, ⟨4, _⟩ => ⟨S768x1024, .bf16⟩
  | .local _ .vmem, ⟨5, _⟩ => ⟨S8x128, .f32⟩
  | .local _ .vmem, ⟨6, _⟩ => ⟨S2048x768, .bf16⟩
  | .local _ .vmem, ⟨7, _⟩ => ⟨S2048x768, .bf16⟩
  | .local _ .vmem, ⟨8, _⟩ => ⟨S2048x1024, .bf16⟩
  | .local _ .vmem, ⟨9, _⟩ => ⟨S768x1024, .bf16⟩
  | .local _ .vmem, ⟨10, _⟩ => ⟨S768x1024, .bf16⟩
  | .local _ .vmem, ⟨11, _⟩ => ⟨S8x128, .f32⟩
  | _, _ => ⟨S30x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S6x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg0 c5_i32
  let c0_i32 : BitVec 32 := 0#32
  let c0_i32_0 : BitVec 32 := 0#32
  ![v0.toNat, c0_i32.toNat]

abbrev stage1_0 : Fin 2 → Memref sig .tc .vmem S2048x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, true]

abbrev stage1_2 : Fin 2 → Memref sig .tc .vmem S768x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]
-- ==== InBwdWRefIdeal.lean ====
abbrev S30x2048x128 : Shape := ⟨3, ![30, 2048, 128]⟩
abbrev S2048x3072 : Shape := ⟨2, ![2048, 3072]⟩
abbrev S2048x1024 : Shape := ⟨2, ![2048, 1024]⟩
abbrev S_ : Shape := ⟨0, ![]⟩
abbrev S6912x1024 : Shape := ⟨2, ![6912, 1024]⟩
abbrev S1024x6912 : Shape := ⟨2, ![1024, 6912]⟩
abbrev S2048x6912 : Shape := ⟨2, ![2048, 6912]⟩
abbrev S2048x30x128 : Shape := ⟨3, ![2048, 30, 128]⟩
abbrev S2048x3840 : Shape := ⟨2, ![2048, 3840]⟩

abbrev nBuf : Space → Nat
  | .hbm => 16
  | .vmem => 0
  | .smem => 0
  | _ => 0

abbrev bufTy : (tb : Table) → Fin (tcTables nBuf tb) → BufTy
  | .hbm, ⟨0, _⟩ => ⟨S30x2048x128, .bf16⟩
  | .hbm, ⟨1, _⟩ => ⟨S2048x3072, .bf16⟩
  | .hbm, ⟨2, _⟩ => ⟨S2048x1024, .bf16⟩
  | .hbm, ⟨3, _⟩ => ⟨S_, .f32⟩
  | .hbm, ⟨4, _⟩ => ⟨S6912x1024, .f32⟩
  | .hbm, ⟨5, _⟩ => ⟨S2048x1024, .f32⟩
  | .hbm, ⟨6, _⟩ => ⟨S1024x6912, .f32⟩
  | .hbm, ⟨7, _⟩ => ⟨S2048x6912, .f32⟩
  | .hbm, ⟨8, _⟩ => ⟨S2048x30x128, .bf16⟩
  | .hbm, ⟨9, _⟩ => ⟨S2048x3840, .bf16⟩
  | .hbm, ⟨10, _⟩ => ⟨S2048x6912, .bf16⟩
  | .hbm, ⟨11, _⟩ => ⟨S2048x6912, .f32⟩
  | .hbm, ⟨12, _⟩ => ⟨S6912x1024, .f32⟩
  | .hbm, ⟨13, _⟩ => ⟨S1024x6912, .f32⟩
  | .hbm, ⟨14, _⟩ => ⟨S6912x1024, .f32⟩
  | .hbm, ⟨15, _⟩ => ⟨S6912x1024, .bf16⟩
  | _, _ => ⟨S30x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Merge.lean ====
abbrev S2x2048x128 : Shape := ⟨3, ![2, 2048, 128]⟩
abbrev S4x2048x128 : Shape := ⟨3, ![4, 2048, 128]⟩
abbrev S2048x3072 : Shape := ⟨2, ![2048, 3072]⟩
abbrev S3x1024 : Shape := ⟨2, ![3, 1024]⟩
abbrev S256x1024 : Shape := ⟨2, ![256, 1024]⟩
abbrev S512x1024 : Shape := ⟨2, ![512, 1024]⟩
abbrev S1024x1024 : Shape := ⟨2, ![1024, 1024]⟩
abbrev S2048x1024 : Shape := ⟨2, ![2048, 1024]⟩
abbrev S2x256x128 : Shape := ⟨3, ![2, 256, 128]⟩
abbrev S4x256x128 : Shape := ⟨3, ![4, 256, 128]⟩
abbrev S256x3072 : Shape := ⟨2, ![256, 3072]⟩
abbrev S1x256x128 : Shape := ⟨3, ![1, 256, 128]⟩
abbrev S256x128 : Shape := ⟨2, ![256, 128]⟩
abbrev S256x256 : Shape := ⟨2, ![256, 256]⟩
abbrev S1x1024 : Shape := ⟨2, ![1, 1024]⟩
abbrev S256x512 : Shape := ⟨2, ![256, 512]⟩

abbrev nBuf : Space → Nat
  | .hbm => 11
  | .vmem => 17
  | .smem => 0
  | _ => 0

abbrev bufTy : (tb : Table) → Fin (tcTables nBuf tb) → BufTy
  | .hbm, ⟨0, _⟩ => ⟨S2x2048x128, .f32⟩
  | .hbm, ⟨1, _⟩ => ⟨S4x2048x128, .f32⟩
  | .hbm, ⟨2, _⟩ => ⟨S2x2048x128, .f32⟩
  | .hbm, ⟨3, _⟩ => ⟨S2048x3072, .bf16⟩
  | .hbm, ⟨4, _⟩ => ⟨S3x1024, .f32⟩
  | .hbm, ⟨5, _⟩ => ⟨S256x1024, .bf16⟩
  | .hbm, ⟨6, _⟩ => ⟨S512x1024, .bf16⟩
  | .hbm, ⟨7, _⟩ => ⟨S256x1024, .bf16⟩
  | .hbm, ⟨8, _⟩ => ⟨S1024x1024, .bf16⟩
  | .hbm, ⟨9, _⟩ => ⟨S2048x1024, .bf16⟩
  | .hbm, ⟨10, _⟩ => ⟨S2048x1024, .f32⟩
  | .local _ .vmem, ⟨0, _⟩ => ⟨S2x256x128, .f32⟩
  | .local _ .vmem, ⟨1, _⟩ => ⟨S2x256x128, .f32⟩
  | .local _ .vmem, ⟨2, _⟩ => ⟨S4x256x128, .f32⟩
  | .local _ .vmem, ⟨3, _⟩ => ⟨S4x256x128, .f32⟩
  | .local _ .vmem, ⟨4, _⟩ => ⟨S2x256x128, .f32⟩
  | .local _ .vmem, ⟨5, _⟩ => ⟨S2x256x128, .f32⟩
  | .local _ .vmem, ⟨6, _⟩ => ⟨S256x3072, .bf16⟩
  | .local _ .vmem, ⟨7, _⟩ => ⟨S256x3072, .bf16⟩
  | .local _ .vmem, ⟨8, _⟩ => ⟨S3x1024, .f32⟩
  | .local _ .vmem, ⟨9, _⟩ => ⟨S256x1024, .bf16⟩
  | .local _ .vmem, ⟨10, _⟩ => ⟨S512x1024, .bf16⟩
  | .local _ .vmem, ⟨11, _⟩ => ⟨S256x1024, .bf16⟩
  | .local _ .vmem, ⟨12, _⟩ => ⟨S1024x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | _, _ => ⟨S2x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S2x2048x128 : Shape := ⟨3, ![2, 2048, 128]⟩
abbrev S4x2048x128 : Shape := ⟨3, ![4, 2048, 128]⟩
abbrev S2048x3072 : Shape := ⟨2, ![2048, 3072]⟩
abbrev S3x1024 : Shape := ⟨2, ![3, 1024]⟩
abbrev S256x1024 : Shape := ⟨2, ![256, 1024]⟩
abbrev S512x1024 : Shape := ⟨2, ![512, 1024]⟩
abbrev S1024x1024 : Shape := ⟨2, ![1024, 1024]⟩
abbrev S2048x3x1024 : Shape := ⟨3, ![2048, 3, 1024]⟩
abbrev S1x3x1024 : Shape := ⟨3, ![1, 3, 1024]⟩
abbrev S_ : Shape := ⟨0, ![]⟩
abbrev S2048x1x1024 : Shape := ⟨3, ![2048, 1, 1024]⟩
abbrev S2048x1024 : Shape := ⟨2, ![2048, 1024]⟩
abbrev S2048x2x128 : Shape := ⟨3, ![2048, 2, 128]⟩
abbrev S2048x256 : Shape := ⟨2, ![2048, 256]⟩
abbrev S2048x4x128 : Shape := ⟨3, ![2048, 4, 128]⟩
abbrev S2048x512 : Shape := ⟨2, ![2048, 512]⟩

abbrev nBuf : Space → Nat
  | .hbm => 48
  | .vmem => 0
  | .smem => 0
  | _ => 0

abbrev bufTy : (tb : Table) → Fin (tcTables nBuf tb) → BufTy
  | .hbm, ⟨0, _⟩ => ⟨S2x2048x128, .f32⟩
  | .hbm, ⟨1, _⟩ => ⟨S4x2048x128, .f32⟩
  | .hbm, ⟨2, _⟩ => ⟨S2x2048x128, .f32⟩
  | .hbm, ⟨3, _⟩ => ⟨S2048x3072, .bf16⟩
  | .hbm, ⟨4, _⟩ => ⟨S3x1024, .f32⟩
  | .hbm, ⟨5, _⟩ => ⟨S256x1024, .bf16⟩
  | .hbm, ⟨6, _⟩ => ⟨S512x1024, .bf16⟩
  | .hbm, ⟨7, _⟩ => ⟨S256x1024, .bf16⟩
  | .hbm, ⟨8, _⟩ => ⟨S1024x1024, .bf16⟩
  | .hbm, ⟨9, _⟩ => ⟨S2048x3072, .f32⟩
  | .hbm, ⟨10, _⟩ => ⟨S256x1024, .f32⟩
  | .hbm, ⟨11, _⟩ => ⟨S512x1024, .f32⟩
  | .hbm, ⟨12, _⟩ => ⟨S256x1024, .f32⟩
  | .hbm, ⟨13, _⟩ => ⟨S2048x3x1024, .f32⟩
  | .hbm, ⟨14, _⟩ => ⟨S1x3x1024, .f32⟩
  | .hbm, ⟨15, _⟩ => ⟨S2048x3x1024, .f32⟩
  | .hbm, ⟨16, _⟩ => ⟨S2048x3x1024, .f32⟩
  | .hbm, ⟨17, _⟩ => ⟨S2048x3x1024, .f32⟩
  | .hbm, ⟨18, _⟩ => ⟨S2048x3x1024, .f32⟩
  | .hbm, ⟨19, _⟩ => ⟨S_, .f32⟩
  | .hbm, ⟨20, _⟩ => ⟨S2048x3x1024, .f32⟩
  | .hbm, ⟨21, _⟩ => ⟨S2048x3x1024, .f32⟩
  | .hbm, ⟨22, _⟩ => ⟨S_, .f32⟩
  | .hbm, ⟨23, _⟩ => ⟨S2048x3x1024, .f32⟩
  | .hbm, ⟨24, _⟩ => ⟨S2048x3x1024, .f32⟩
  | .hbm, ⟨25, _⟩ => ⟨S2048x1x1024, .f32⟩
  | .hbm, ⟨26, _⟩ => ⟨S2048x1024, .f32⟩
  | .hbm, ⟨27, _⟩ => ⟨S2048x2x128, .f32⟩
  | .hbm, ⟨28, _⟩ => ⟨S2048x256, .f32⟩
  | .hbm, ⟨29, _⟩ => ⟨S2048x1024, .f32⟩
  | .hbm, ⟨30, _⟩ => ⟨S2048x1024, .f32⟩
  | .hbm, ⟨31, _⟩ => ⟨S2048x1x1024, .f32⟩
  | .hbm, ⟨32, _⟩ => ⟨S2048x1024, .f32⟩
  | .hbm, ⟨33, _⟩ => ⟨S2048x4x128, .f32⟩
  | .hbm, ⟨34, _⟩ => ⟨S2048x512, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1x1024, .f32⟩
  | .hbm, ⟨39, _⟩ => ⟨S2048x1024, .f32⟩
  | .hbm, ⟨40, _⟩ => ⟨S2048x2x128, .f32⟩
  | .hbm, ⟨41, _⟩ => ⟨S2048x256, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .bf16⟩
  | .hbm, ⟨46, _⟩ => ⟨S1024x1024, .f32⟩
  | .hbm, ⟨47, _⟩ => ⟨S2048x1024, .f32⟩
  | _, _ => ⟨S2x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== MergeBwd.lean ====
abbrev S2048x1024 : Shape := ⟨2, ![2048, 1024]⟩
abbrev S2x2048x128 : Shape := ⟨3, ![2, 2048, 128]⟩
abbrev S4x2048x128 : Shape := ⟨3, ![4, 2048, 128]⟩
abbrev S2048x3072 : Shape := ⟨2, ![2048, 3072]⟩
abbrev S3x1024 : Shape := ⟨2, ![3, 1024]⟩
abbrev S256x1024 : Shape := ⟨2, ![256, 1024]⟩
abbrev S512x1024 : Shape := ⟨2, ![512, 1024]⟩
abbrev S1024x1024 : Shape := ⟨2, ![1024, 1024]⟩
abbrev S2x256x128 : Shape := ⟨3, ![2, 256, 128]⟩
abbrev S4x256x128 : Shape := ⟨3, ![4, 256, 128]⟩
abbrev S256x3072 : Shape := ⟨2, ![256, 3072]⟩
abbrev S1x256x128 : Shape := ⟨3, ![1, 256, 128]⟩
abbrev S256x128 : Shape := ⟨2, ![256, 128]⟩
abbrev S256x256 : Shape := ⟨2, ![256, 256]⟩
abbrev S1x1024 : Shape := ⟨2, ![1, 1024]⟩
abbrev S1024 : Shape := ⟨1, ![1024]⟩
abbrev S256x512 : Shape := ⟨2, ![256, 512]⟩

abbrev nBuf : Space → Nat
  | .hbm => 18
  | .vmem => 30
  | .smem => 0
  | _ => 0

abbrev bufTy : (tb : Table) → Fin (tcTables nBuf tb) → BufTy
  | .hbm, ⟨0, _⟩ => ⟨S2048x1024, .bf16⟩
  | .hbm, ⟨1, _⟩ => ⟨S2x2048x128, .f32⟩
  | .hbm, ⟨2, _⟩ => ⟨S4x2048x128, .f32⟩
  | .hbm, ⟨3, _⟩ => ⟨S2x2048x128, .f32⟩
  | .hbm, ⟨4, _⟩ => ⟨S2048x3072, .bf16⟩
  | .hbm, ⟨5, _⟩ => ⟨S3x1024, .f32⟩
  | .hbm, ⟨6, _⟩ => ⟨S256x1024, .bf16⟩
  | .hbm, ⟨7, _⟩ => ⟨S512x1024, .bf16⟩
  | .hbm, ⟨8, _⟩ => ⟨S256x1024, .bf16⟩
  | .hbm, ⟨9, _⟩ => ⟨S1024x1024, .bf16⟩
  | .hbm, ⟨10, _⟩ => ⟨S2x2048x128, .f32⟩
  | .hbm, ⟨11, _⟩ => ⟨S4x2048x128, .f32⟩
  | .hbm, ⟨12, _⟩ => ⟨S2x2048x128, .f32⟩
  | .hbm, ⟨13, _⟩ => ⟨S2048x3072, .bf16⟩
  | .hbm, ⟨14, _⟩ => ⟨S256x1024, .bf16⟩
  | .hbm, ⟨15, _⟩ => ⟨S512x1024, .bf16⟩
  | .hbm, ⟨16, _⟩ => ⟨S256x1024, .bf16⟩
  | .hbm, ⟨17, _⟩ => ⟨S3x1024, .f32⟩
  | .local _ .vmem, ⟨0, _⟩ => ⟨S256x1024, .bf16⟩
  | .local _ .vmem, ⟨1, _⟩ => ⟨S256x1024, .bf16⟩
  | .local _ .vmem, ⟨2, _⟩ => ⟨S2x256x128, .f32⟩
  | .local _ .vmem, ⟨3, _⟩ => ⟨S2x256x128, .f32⟩
  | .local _ .vmem, ⟨4, _⟩ => ⟨S4x256x128, .f32⟩
  | .local _ .vmem, ⟨5, _⟩ => ⟨S4x256x128, .f32⟩
  | .local _ .vmem, ⟨6, _⟩ => ⟨S2x256x128, .f32⟩
  | .local _ .vmem, ⟨7, _⟩ => ⟨S2x256x128, .f32⟩
  | .local _ .vmem, ⟨8, _⟩ => ⟨S256x3072, .bf16⟩
  | .local _ .vmem, ⟨9, _⟩ => ⟨S256x3072, .bf16⟩
  | .local _ .vmem, ⟨10, _⟩ => ⟨S3x1024, .f32⟩
  | .local _ .vmem, ⟨11, _⟩ => ⟨S256x1024, .bf16⟩
  | .local _ .vmem, ⟨12, _⟩ => ⟨S512x1024, .bf16⟩
  | .local _ .vmem, ⟨13, _⟩ => ⟨S256x1024, .bf16⟩
  | .local _ .vmem, ⟨14, _⟩ => ⟨S1024x1024, .bf16⟩
  | .local _ .vmem, ⟨15, _⟩ => ⟨S2x256x128, .f32⟩
  | .local _ .vmem, ⟨16, _⟩ => ⟨S2x256x128, .f32⟩
  | .local _ .vmem, ⟨17, _⟩ => ⟨S4x256x128, .f32⟩
  | .local _ .vmem, ⟨18, _⟩ => ⟨S4x256x128, .f32⟩
  | .local _ .vmem, ⟨19, _⟩ => ⟨S2x256x128, .f32⟩
  | .local _ .vmem, ⟨20, _⟩ => ⟨S2x256x128, .f32⟩
  | .local _ .vmem, ⟨21, _⟩ => ⟨S256x3072, .bf16⟩
  | .local _ .vmem, ⟨22, _⟩ => ⟨S256x3072, .bf16⟩
  | .local _ .vmem, ⟨23, _⟩ => ⟨S256x1024, .bf16⟩
  | .local _ .vmem, ⟨24, _⟩ => ⟨S512x1024, .bf16⟩
  | .local _ .vmem, ⟨25, _⟩ => ⟨S256x1024, .bf16⟩
  | .local _ .vmem, ⟨26, _⟩ => ⟨S3x1024, .f32⟩
  | .local _ .vmem, ⟨27, _⟩ => ⟨S256x1024, .f32⟩
  | .local _ .vmem, ⟨28, _⟩ => ⟨S512x1024, .f32⟩
  | .local _ .vmem, ⟨29, _⟩ => ⟨S256x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem17_0 : DmaSem sig := 26

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v153 : BitVec 1 := Scalar.cmpi .eq arg0 c7_i32
  let v154 : BitVec 32 := Scalar.extui v153
  let c0_i32_116 : BitVec 32 := 0#32
  let v155 : BitVec 1 := Scalar.cmpi .ne v154 c0_i32_116
  v155

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MergeBwdRefIdeal.lean ====
abbrev S2048x1024 : Shape := ⟨2, ![2048, 1024]⟩
abbrev S2x2048x128 : Shape := ⟨3, ![2, 2048, 128]⟩
abbrev S4x2048x128 : Shape := ⟨3, ![4, 2048, 128]⟩
abbrev S2048x3072 : Shape := ⟨2, ![2048, 3072]⟩
abbrev S3x1024 : Shape := ⟨2, ![3, 1024]⟩
abbrev S256x1024 : Shape := ⟨2, ![256, 1024]⟩
abbrev S512x1024 : Shape := ⟨2, ![512, 1024]⟩
abbrev S1024x1024 : Shape := ⟨2, ![1024, 1024]⟩
abbrev S2048x3x1024 : Shape := ⟨3, ![2048, 3, 1024]⟩
abbrev S1x3x1024 : Shape := ⟨3, ![1, 3, 1024]⟩
abbrev S_ : Shape := ⟨0, ![]⟩
abbrev S2048x1x1024 : Shape := ⟨3, ![2048, 1, 1024]⟩
abbrev S2048x2x128 : Shape := ⟨3, ![2048, 2, 128]⟩
abbrev S2048x256 : Shape := ⟨2, ![2048, 256]⟩
abbrev S2048x4x128 : Shape := ⟨3, ![2048, 4, 128]⟩
abbrev S2048x512 : Shape := ⟨2, ![2048, 512]⟩
abbrev S1024x256 : Shape := ⟨2, ![1024, 256]⟩
abbrev S1024x512 : Shape := ⟨2, ![1024, 512]⟩

abbrev nBuf : Space → Nat
  | .hbm => 97
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x2048x128, .f32⟩
  | .hbm, ⟨2, _⟩ => ⟨S4x2048x128, .f32⟩
  | .hbm, ⟨3, _⟩ => ⟨S2x2048x128, .f32⟩
  | .hbm, ⟨4, _⟩ => ⟨S2048x3072, .bf16⟩
  | .hbm, ⟨5, _⟩ => ⟨S3x1024, .f32⟩
  | .hbm, ⟨6, _⟩ => ⟨S256x1024, .bf16⟩
  | .hbm, ⟨7, _⟩ => ⟨S512x1024, .bf16⟩
  | .hbm, ⟨8, _⟩ => ⟨S256x1024, .bf16⟩
  | .hbm, ⟨9, _⟩ => ⟨S1024x1024, .bf16⟩
  | .hbm, ⟨10, _⟩ => ⟨S2048x3072, .f32⟩
  | .hbm, ⟨11, _⟩ => ⟨S256x1024, .f32⟩
  | .hbm, ⟨12, _⟩ => ⟨S512x1024, .f32⟩
  | .hbm, ⟨13, _⟩ => ⟨S256x1024, .f32⟩
  | .hbm, ⟨14, _⟩ => ⟨S2048x3x1024, .f32⟩
  | .hbm, ⟨15, _⟩ => ⟨S1x3x1024, .f32⟩
  | .hbm, ⟨16, _⟩ => ⟨S2048x3x1024, .f32⟩
  | .hbm, ⟨17, _⟩ => ⟨S2048x3x1024, .f32⟩
  | .hbm, ⟨18, _⟩ => ⟨S2048x3x1024, .f32⟩
  | .hbm, ⟨19, _⟩ => ⟨S2048x3x1024, .f32⟩
  | .hbm, ⟨20, _⟩ => ⟨S_, .f32⟩
  | .hbm, ⟨21, _⟩ => ⟨S2048x3x1024, .f32⟩
  | .hbm, ⟨22, _⟩ => ⟨S2048x3x1024, .f32⟩
  | .hbm, ⟨23, _⟩ => ⟨S_, .f32⟩
  | .hbm, ⟨24, _⟩ => ⟨S2048x3x1024, .f32⟩
  | .hbm, ⟨25, _⟩ => ⟨S2048x3x1024, .f32⟩
  | .hbm, ⟨26, _⟩ => ⟨S_, .f32⟩
  | .hbm, ⟨27, _⟩ => ⟨S2048x3x1024, .f32⟩
  | .hbm, ⟨28, _⟩ => ⟨S2048x3x1024, .f32⟩
  | .hbm, ⟨29, _⟩ => ⟨S2048x3x1024, .f32⟩
  | .hbm, ⟨30, _⟩ => ⟨S2048x1x1024, .f32⟩
  | .hbm, ⟨31, _⟩ => ⟨S2048x1024, .f32⟩
  | .hbm, ⟨32, _⟩ => ⟨S2048x2x128, .f32⟩
  | .hbm, ⟨33, _⟩ => ⟨S2048x256, .f32⟩
  | .hbm, ⟨34, _⟩ => ⟨S2048x1024, .f32⟩
  | .hbm, ⟨35, _⟩ => ⟨S2048x1024, .f32⟩
  | .hbm, ⟨36, _⟩ => ⟨S2048x1x1024, .f32⟩
  | .hbm, ⟨37, _⟩ => ⟨S2048x1024, .f32⟩
  | .hbm, ⟨38, _⟩ => ⟨S2048x4x128, .f32⟩
  | .hbm, ⟨39, _⟩ => ⟨S2048x512, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1x1024, .f32⟩
  | .hbm, ⟨44, _⟩ => ⟨S2048x1024, .f32⟩
  | .hbm, ⟨45, _⟩ => ⟨S2048x2x128, .f32⟩
  | .hbm, ⟨46, _⟩ => ⟨S2048x256, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1024x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S1024x256, .f32⟩
  | .hbm, ⟨57, _⟩ => ⟨S256x1024, .f32⟩
  | .hbm, ⟨58, _⟩ => ⟨S2048x256, .f32⟩
  | .hbm, ⟨59, _⟩ => ⟨S2048x2x128, .f32⟩
  | .hbm, ⟨60, _⟩ => ⟨S2x2048x128, .f32⟩
  | .hbm, ⟨61, _⟩ => ⟨S2048x1x1024, .f32⟩
  | .hbm, ⟨62, _⟩ => ⟨S_, .f32⟩
  | .hbm, ⟨63, _⟩ => ⟨S2048x3x1024, .f32⟩
  | .hbm, ⟨64, _⟩ => ⟨S2048x1024, .f32⟩
  | .hbm, ⟨65, _⟩ => ⟨S2048x1024, .f32⟩
  | .hbm, ⟨66, _⟩ => ⟨S1024x512, .f32⟩
  | .hbm, ⟨67, _⟩ => ⟨S512x1024, .f32⟩
  | .hbm, ⟨68, _⟩ => ⟨S2048x512, .f32⟩
  | .hbm, ⟨69, _⟩ => ⟨S2048x4x128, .f32⟩
  | .hbm, ⟨70, _⟩ => ⟨S4x2048x128, .f32⟩
  | .hbm, ⟨71, _⟩ => ⟨S2048x1x1024, .f32⟩
  | .hbm, ⟨72, _⟩ => ⟨S_, .f32⟩
  | .hbm, ⟨73, _⟩ => ⟨S2048x3x1024, .f32⟩
  | .hbm, ⟨74, _⟩ => ⟨S2048x3x1024, .f32⟩
  | .hbm, ⟨75, _⟩ => ⟨S2048x1024, .f32⟩
  | .hbm, ⟨76, _⟩ => ⟨S2048x1024, .f32⟩
  | .hbm, ⟨77, _⟩ => ⟨S1024x256, .f32⟩
  | .hbm, ⟨78, _⟩ => ⟨S256x1024, .f32⟩
  | .hbm, ⟨79, _⟩ => ⟨S2048x256, .f32⟩
  | .hbm, ⟨80, _⟩ => ⟨S2048x2x128, .f32⟩
  | .hbm, ⟨81, _⟩ => ⟨S2x2048x128, .f32⟩
  | .hbm, ⟨82, _⟩ => ⟨S2048x1x1024, .f32⟩
  | .hbm, ⟨83, _⟩ => ⟨S_, .f32⟩
  | .hbm, ⟨84, _⟩ => ⟨S2048x3x1024, .f32⟩
  | .hbm, ⟨85, _⟩ => ⟨S2048x3x1024, .f32⟩
  | .hbm, ⟨86, _⟩ => ⟨S2048x3x1024, .f32⟩
  | .hbm, ⟨87, _⟩ => ⟨S_, .f32⟩
  | .hbm, ⟨88, _⟩ => ⟨S3x1024, .f32⟩
  | .hbm, ⟨89, _⟩ => ⟨S1x3x1024, .f32⟩
  | .hbm, ⟨90, _⟩ => ⟨S_, .f32⟩
  | .hbm, ⟨91, _⟩ => ⟨S3x1024, .f32⟩
  | .hbm, ⟨92, _⟩ => ⟨S2048x3072, .f32⟩
  | .hbm, ⟨93, _⟩ => ⟨S2048x3072, .bf16⟩
  | .hbm, ⟨94, _⟩ => ⟨S256x1024, .bf16⟩
  | .hbm, ⟨95, _⟩ => ⟨S512x1024, .bf16⟩
  | .hbm, ⟨96, _⟩ => ⟨S256x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_2 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_4 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_5 : Ref sig .tc := ⟨.hbm, 87, rfl⟩
abbrev main_v71 : Ref sig .tc := ⟨.hbm, 88, rfl⟩
abbrev main_v72 : Ref sig .tc := ⟨.hbm, 89, rfl⟩
abbrev main_cst_6 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩

abbrev nD : Nat := 1
abbrev τ : Topo := Topo.v7x

variable {F : FTy → Type} [FloatOps F]
-- ==== PreNorm.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreNormRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== PostNorm.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostNormRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== NormBwd.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Chain.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ChainRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S2048, .f32⟩
  | .hbm, ⟨77, _⟩ => ⟨S2048x1, .f32⟩
  | .hbm, ⟨78, _⟩ => ⟨S2048x1024, .f32⟩
  | .hbm, ⟨79, _⟩ => ⟨S2048x1024, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== Proof.KernelIdealRegA.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The first four pipelined regions: what each leaves in its output blocks. -/

@[expose] public section

set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

local notation "Thr" => Thread nD τ
local notation "MemA" => Memref sig Kind.tc Space.vmem S2x2048x256 EltTy.bf16
local notation "MemB" => Memref sig Kind.tc Space.vmem S3x2x256 EltTy.f32
local notation "MemC" => Memref sig Kind.tc Space.vmem S2048x256 EltTy.bf16
local notation "MemD" => Memref sig Kind.tc Space.vmem S2x256 EltTy.f32
local notation "MemF" => Memref sig Kind.tc Space.vmem S2048x1024 EltTy.bf16
local notation "MemG" => Memref sig Kind.tc Space.vmem S1024x1024 EltTy.bf16
local notation "MemH" => Memref sig Kind.tc Space.vmem S8x128 EltTy.f32
local notation "VecA" => Vec F S2x2048x256 EltTy.bf16
local notation "VecF" => Vec F S2048x1024 EltTy.bf16
local notation "VecB" => Vec F S3x2x256 EltTy.f32
local notation "VecG" => Vec F S1024x1024 EltTy.bf16

variable (m : (ℓ : Loc nD τ sig) → Buf (Elt F) ℓ) (ρ : Dev nD → PrngReg)
section Regions
variable (V : (c : Dev nD) → (b : Ref sig .tc) → Buf (Elt F) ((c : Thr).loc b))

/-! # REGION 0 of @main -/

/-! ## The windows' blocks -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs -/

abbrev VO0_2 : View sig .tc .vmem S1x2048x1024 .bf16 := (Memref.whole cc0_stg2_0 : Memref sig .tc .vmem S1x2048x1024 .bf16).view
abbrev ms0_0 (t : Fin cfg0.N) : MemF := win0_0.stage (cfg0.slots t 0)
abbrev hs0_0 (t : Fin cfg0.N) : (ms0_0 t).IsWhole := hstage0_0 ((cfg0.slots t 0).cast nbuf0_0)
abbrev ms0_1 (t : Fin cfg0.N) : MemG := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x1024 .bf16 := win0_2.stage (cfg0.slots t 2)
abbrev hs0_2 (t : Fin cfg0.N) : (ms0_2 t).IsWhole := hstage0_2 ((cfg0.slots t 2).cast nbuf0_2)
abbrev scM0_0 : MemH := Memref.whole cc0_scratch0

theorem scopedRest0_flat (c : Dev nD) :
    (Pipeline.scopedRest spec0 c : sProp 𝕄)
      = iprop((∃ f : Buf (Elt F) ((c : Thr).loc cc0_scratch0), ((c : Thr).loc cc0_scratch0) ↦{fullShare} f) ∗ Pipeline.scopedRestBut spec0 c [cc0_scratch0]) := by
  rw [scopedRest0_split]

theorem PhiA0_eq (c : Dev nD) :
    (Pipeline.ΦA spec0 c : sProp 𝕄)
      = iprop(iprop((∃ d, owns (c : Thr) scM0_0 fullShare d) ∗ Pipeline.scopedRestBut spec0 c [cc0_scratch0]) ∗ (∃ r, prngReg c r)) := by
  unfold Pipeline.ΦA; rw [scopedRest0_flat]; simp only [scM0_0, owns_whole]; try rfl
set_option maxHeartbeats 1000000 in
noncomputable def kernelRun0_A (c : Dev nD) (i : grid0.Coords) (a3 : MemF) (h3 : a3.IsWhole) (a4 : MemG) (h4 : a4.IsWhole) (a5 : Memref sig .tc .vmem S1x2048x1024 .bf16) (h5 : a5.IsWhole) (a6 : MemH) (h6 : a6.IsWhole)
    (x0 : VecF) (x1 : VecG) :
    { L2 : List (View.Piece (Elt F) S1x2048x1024 .bf16) //
      ∀ (E : Set ℕ) (K : PUnit → sProp 𝕄),
        iprop(owns (c : Thr) a3 fullShare x0 ∗ owns (c : Thr) a4 fullShare x1 ∗ (∃ d, owns (c : Thr) a5 fullShare d) ∗ (∃ d, owns (c : Thr) a6 fullShare d)
            ∗ (iprop(owns (c : Thr) a3 fullShare x0 ∗ owns (c : Thr) a4 fullShare x1 ∗ (∃ f, a5.view.loc (c : Thr) ↦[a5.view.set]{fullShare} a5.view.writes (Elt F) f L2) ∗ (∃ d, owns (c : Thr) a6 fullShare d)) -∗ K ⟨⟩))
          ⊢ wp frame (wpE (defs₀ (F := F)) Variants.none c none) E (cc0_ffn_up i a3 h3 a4 h4 a5 h5 a6 h6) K } := by
  refine ⟨?_, fun E K => ?run⟩
  case run =>
    simp only [cc0_ffn_up_eq_skeleton]; unfold cc0_ffn_up_skel
    unfold owns
    iintro ⟨⟨%f0, %hf0, H0⟩, ⟨%f1, %hf1, H1⟩, ⟨%d2, %f2, -, H2⟩, ⟨%ds0, %fs0, -, HS0⟩, Hk⟩
    obtain rfl := h3.eq_unread hf0; obtain rfl := h4.eq_unread hf1
    sl_exec
    sl_step
    iapply Hk
    isplitl [H0]
    · iexists _; isplitr; · ipureintro; exact h3.read_unread _
      iexact H0
    isplitl [H1]
    · iexists _; isplitr; · ipureintro; exact h4.read_unread _
      iexact H1
    isplitl [H2]; · iexists _; iexact H2
    iexists _, _; isplitr; swap; · iexact HS0
    ipureintro; rfl

theorem cover0_A_2 (c : Dev nD) (i : grid0.Coords) (a3 : MemF) (h3 : a3.IsWhole) (a4 : MemG) (h4 : a4.IsWhole) (a5 : Memref sig .tc .vmem S1x2048x1024 .bf16) (h5 : a5.IsWhole) (a6 : MemH) (h6 : a6.IsWhole)
    (x0 : VecF) (x1 : VecG) (y : S1x2048x1024.Idx) :
    ∃ pc ∈ (kernelRun0_A c i a3 h3 a4 h4 a5 h5 a6 h6 x0 x1).1, y ∈ pc.1.set :=
  View.cover_of_tiledL (kernelRun0_A c i a3 h3 a4 h4 a5 h5 a6 h6 x0 x1).1 S1x2048x1024.size (by sl_kernel_rfl) y

def out0_A_2 (c : Dev nD) (i : grid0.Coords) (a3 : MemF) (h3 : a3.IsWhole) (a4 : MemG) (h4 : a4.IsWhole) (a5 : Memref sig .tc .vmem S1x2048x1024 .bf16) (h5 : a5.IsWhole) (a6 : MemH) (h6 : a6.IsWhole)
    (x0 : VecF) (x1 : VecG) : Vec F S1x2048x1024 .bf16 :=
  VO0_2.read (Elt F) (VO0_2.writes (Elt F) VO0_2.junk (kernelRun0_A c i a3 h3 a4 h4 a5 h5 a6 h6 x0 x1).1)

/-! ## What the outputs hold after each point -/

def outsAt0 (c : Dev nD) (t : Fin cfg0.N) : Vec F S1x2048x1024 .bf16 :=
  out0_A_2 c (grid0.coords t) (ms0_0 t) (hs0_0 t) (ms0_1 t) (hs0_1 t) (ms0_2 t) (hs0_2 t) scM0_0 (Memref.isWhole_whole _) (iblk0 V c 0 t) (iblk0 V c 1 t)

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thr) (ms0_0 t) fullShare ((dat0 V c).before 0 t d))
    ∗ (∃ d, owns (c : Thr) (ms0_1 t) fullShare ((dat0 V c).before 1 t d))
    ∗ (∃ d, owns (c : Thr) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thr) (ms0_0 t) fullShare ((dat0 V c).after 0 t)
    ∗ owns (c : Thr) (ms0_1 t) fullShare ((dat0 V c).after 1 t)
    ∗ owns (c : Thr) (ms0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  rw [show (dat0 V c).Φ t.castSucc = Pipeline.ΦA spec0 c from rfl, PhiA0_eq]
  unfold outsAt0
  unfold out0_A_2
  iintro ⟨⟨⟨HS0, HR1⟩, Hg⟩, Ho, ⟨%d0, H0⟩, ⟨%d1, H1⟩, ⟨%d2, H2⟩⟩
  iapply ((kernelRun0_A c (grid0.coords t) _ _ _ _ _ _ _ _ (iblk0 V c 0 t) (iblk0 V c 1 t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [HS0 HR1 Hg]
  · isplitl [HS0 HR1]
    · isplitl [HS0]
      · iexact HS0
      iexact HR1
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main -/

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs -/

abbrev VO1_3 : View sig .tc .vmem S2048x256 .bf16 := (Memref.whole cc1_stg3_0 : MemC).view
abbrev VO1_4 : View sig .tc .vmem S2x2048x256 .bf16 := (Memref.whole cc1_stg4_0 : MemA).view
abbrev ms1_0 (t : Fin cfg1.N) : MemA := win1_0.stage (cfg1.slots t 0)
abbrev hs1_0 (t : Fin cfg1.N) : (ms1_0 t).IsWhole := hstage1_0 ((cfg1.slots t 0).cast nbuf1_0)
abbrev ms1_1 (t : Fin cfg1.N) : MemB := win1_1.stage (cfg1.slots t 1)
abbrev hs1_1 (t : Fin cfg1.N) : (ms1_1 t).IsWhole := hstage1_1 ((cfg1.slots t 1).cast nbuf1_1)
abbrev ms1_2 (t : Fin cfg1.N) : MemD := win1_2.stage (cfg1.slots t 2)
abbrev hs1_2 (t : Fin cfg1.N) : (ms1_2 t).IsWhole := hstage1_2 ((cfg1.slots t 2).cast nbuf1_2)
abbrev ms1_3 (t : Fin cfg1.N) : MemC := win1_3.stage (cfg1.slots t 3)
abbrev hs1_3 (t : Fin cfg1.N) : (ms1_3 t).IsWhole := hstage1_3 ((cfg1.slots t 3).cast nbuf1_3)
abbrev ms1_4 (t : Fin cfg1.N) : MemA := win1_4.stage (cfg1.slots t 4)
abbrev hs1_4 (t : Fin cfg1.N) : (ms1_4 t).IsWhole := hstage1_4 ((cfg1.slots t 4).cast nbuf1_4)
set_option maxHeartbeats 1000000 in
noncomputable def kernelRun1_A (c : Dev nD) (i : grid1.Coords) (a1 : MemA) (h1 : a1.IsWhole) (a2 : MemB) (h2 : a2.IsWhole) (a3 : MemD) (h3 : a3.IsWhole) (a4 : MemC) (h4 : a4.IsWhole) (a5 : MemA) (h5 : a5.IsWhole)
    (x0 : VecA) (x1 : VecB) (x2 : Vec F S2x256 .f32) :
    Σ' (L3 : List (View.Piece (Elt F) S2048x256 .bf16)), { L4 : List (View.Piece (Elt F) S2x2048x256 .bf16) //
      ∀ (E : Set ℕ) (K : PUnit → sProp 𝕄),
        iprop(owns (c : Thr) a1 fullShare x0 ∗ owns (c : Thr) a2 fullShare x1 ∗ owns (c : Thr) a3 fullShare x2 ∗ (∃ d, owns (c : Thr) a4 fullShare d) ∗ (∃ d, owns (c : Thr) a5 fullShare d)
            ∗ (iprop(owns (c : Thr) a1 fullShare x0 ∗ owns (c : Thr) a2 fullShare x1 ∗ owns (c : Thr) a3 fullShare x2 ∗ (∃ f, a4.view.loc (c : Thr) ↦[a4.view.set]{fullShare} a4.view.writes (Elt F) f L3) ∗ (∃ f, a5.view.loc (c : Thr) ↦[a5.view.set]{fullShare} a5.view.writes (Elt F) f L4)) -∗ K ⟨⟩))
          ⊢ wp frame (wpE (defs₀ (F := F)) Variants.none c none) E (cc1_ffn_act i a1 h1 a2 h2 a3 h3 a4 h4 a5 h5) K } := by
  refine ⟨?_, ?_, fun E K => ?run⟩
  case run =>
    simp only [cc1_ffn_act_eq_skeleton]; unfold cc1_ffn_act_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := h1.eq_unread hf0; obtain rfl := h2.eq_unread hf1; obtain rfl := h3.eq_unread hf2
    sl_exec
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]; · iexists _; iexact H3
    iexists _; iexact H4

theorem cover1_A_3 (c : Dev nD) (i : grid1.Coords) (a1 : MemA) (h1 : a1.IsWhole) (a2 : MemB) (h2 : a2.IsWhole) (a3 : MemD) (h3 : a3.IsWhole) (a4 : MemC) (h4 : a4.IsWhole) (a5 : MemA) (h5 : a5.IsWhole)
    (x0 : VecA) (x1 : VecB) (x2 : Vec F S2x256 .f32) (y : S2048x256.Idx) :
    ∃ pc ∈ (kernelRun1_A c i a1 h1 a2 h2 a3 h3 a4 h4 a5 h5 x0 x1 x2).1, y ∈ pc.1.set :=
  View.cover_of_tiledL (kernelRun1_A c i a1 h1 a2 h2 a3 h3 a4 h4 a5 h5 x0 x1 x2).1 S64x256.size (by sl_kernel_rfl) y

def out1_A_3 (c : Dev nD) (i : grid1.Coords) (a1 : MemA) (h1 : a1.IsWhole) (a2 : MemB) (h2 : a2.IsWhole) (a3 : MemD) (h3 : a3.IsWhole) (a4 : MemC) (h4 : a4.IsWhole) (a5 : MemA) (h5 : a5.IsWhole)
    (x0 : VecA) (x1 : VecB) (x2 : Vec F S2x256 .f32) : Vec F S2048x256 .bf16 :=
  VO1_3.read (Elt F) (VO1_3.writes (Elt F) VO1_3.junk (kernelRun1_A c i a1 h1 a2 h2 a3 h3 a4 h4 a5 h5 x0 x1 x2).1)

theorem cover1_A_4 (c : Dev nD) (i : grid1.Coords) (a1 : MemA) (h1 : a1.IsWhole) (a2 : MemB) (h2 : a2.IsWhole) (a3 : MemD) (h3 : a3.IsWhole) (a4 : MemC) (h4 : a4.IsWhole) (a5 : MemA) (h5 : a5.IsWhole)
    (x0 : VecA) (x1 : VecB) (x2 : Vec F S2x256 .f32) (y : S2x2048x256.Idx) :
    ∃ pc ∈ (kernelRun1_A c i a1 h1 a2 h2 a3 h3 a4 h4 a5 h5 x0 x1 x2).2.1, y ∈ pc.1.set :=
  View.cover_of_tiledL (kernelRun1_A c i a1 h1 a2 h2 a3 h3 a4 h4 a5 h5 x0 x1 x2).2.1 S1x64x256.size (by sl_kernel_rfl) y

def out1_A_4 (c : Dev nD) (i : grid1.Coords) (a1 : MemA) (h1 : a1.IsWhole) (a2 : MemB) (h2 : a2.IsWhole) (a3 : MemD) (h3 : a3.IsWhole) (a4 : MemC) (h4 : a4.IsWhole) (a5 : MemA) (h5 : a5.IsWhole)
    (x0 : VecA) (x1 : VecB) (x2 : Vec F S2x256 .f32) : VecA :=
  VO1_4.read (Elt F) (VO1_4.writes (Elt F) VO1_4.junk (kernelRun1_A c i a1 h1 a2 h2 a3 h3 a4 h4 a5 h5 x0 x1 x2).2.1)

/-! ## What the outputs hold after each point -/

def outsAt1 (c : Dev nD) (t : Fin cfg1.N) : Vec F S2048x256 .bf16 × VecA :=
  (out1_A_3 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t))

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t).1
    | ⟨4, _⟩ => (outsAt1 V c t).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t).1 := by dsimp only [dat1]
theorem after1_4 (c : Dev nD) (t : Fin cfg1.N) : (dat1 V c).after 4 t = (outsAt1 V c t).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thr) (ms1_0 t) fullShare ((dat1 V c).before 0 t d))
    ∗ (∃ d, owns (c : Thr) (ms1_1 t) fullShare ((dat1 V c).before 1 t d))
    ∗ (∃ d, owns (c : Thr) (ms1_2 t) fullShare ((dat1 V c).before 2 t d))
    ∗ (∃ d, owns (c : Thr) (ms1_3 t) fullShare ((dat1 V c).before 3 t d))
    ∗ (∃ d, owns (c : Thr) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thr) (ms1_0 t) fullShare ((dat1 V c).after 0 t)
    ∗ owns (c : Thr) (ms1_1 t) fullShare ((dat1 V c).after 1 t)
    ∗ owns (c : Thr) (ms1_2 t) fullShare ((dat1 V c).after 2 t)
    ∗ owns (c : Thr) (ms1_3 t) fullShare ((dat1 V c).after 3 t)
    ∗ owns (c : Thr) (ms1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  unfold outsAt1
  unfold out1_A_3 out1_A_4; (try dsimp only)
  iintro ⟨HΦ, Ho, ⟨%d0, H0⟩, ⟨%d1, H1⟩, ⟨%d2, H2⟩, ⟨%d3, H3⟩, ⟨%d4, H4⟩⟩
  iapply ((kernelRun1_A c (grid1.coords t) _ _ _ _ _ _ _ _ _ _ (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover1_A_3 c _ _ _ _ _ _ _ _ _ _ _ _ _ _)
  unfold owns; iexists _; isplitr
  swap; · iexact H4
  ipureintro; exact View.read_writes_of_cover _ _ _ _ _ (cover1_A_4 c _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main -/

/-! ## The windows' blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs -/

abbrev VO2_2 : View sig .tc .vmem S2048x1024 .bf16 := (Memref.whole cc2_stg2_0 : MemF).view
abbrev ms2_0 (t : Fin cfg2.N) : MemF := win2_0.stage (cfg2.slots t 0)
abbrev hs2_0 (t : Fin cfg2.N) : (ms2_0 t).IsWhole := hstage2_0 ((cfg2.slots t 0).cast nbuf2_0)
abbrev ms2_1 (t : Fin cfg2.N) : MemG := win2_1.stage (cfg2.slots t 1)
abbrev hs2_1 (t : Fin cfg2.N) : (ms2_1 t).IsWhole := hstage2_1 ((cfg2.slots t 1).cast nbuf2_1)
abbrev ms2_2 (t : Fin cfg2.N) : MemF := win2_2.stage (cfg2.slots t 2)
abbrev hs2_2 (t : Fin cfg2.N) : (ms2_2 t).IsWhole := hstage2_2 ((cfg2.slots t 2).cast nbuf2_2)
abbrev scM2_0 : MemH := Memref.whole cc2_scratch0

theorem scopedRest2_flat (c : Dev nD) :
    (Pipeline.scopedRest spec2 c : sProp 𝕄)
      = iprop((∃ f : Buf (Elt F) ((c : Thr).loc cc2_scratch0), ((c : Thr).loc cc2_scratch0) ↦{fullShare} f) ∗ Pipeline.scopedRestBut spec2 c [cc2_scratch0]) := by
  rw [scopedRest2_split]

theorem PhiA2_eq (c : Dev nD) :
    (Pipeline.ΦA spec2 c : sProp 𝕄)
      = iprop(iprop((∃ d, owns (c : Thr) scM2_0 fullShare d) ∗ Pipeline.scopedRestBut spec2 c [cc2_scratch0]) ∗ (∃ r, prngReg c r)) := by
  unfold Pipeline.ΦA; rw [scopedRest2_flat]; simp only [scM2_0, owns_whole]; try rfl
set_option maxHeartbeats 1000000 in
noncomputable def kernelRun2_A (c : Dev nD) (i : grid2.Coords) (a3 : MemF) (h3 : a3.IsWhole) (a4 : MemG) (h4 : a4.IsWhole) (a5 : MemF) (h5 : a5.IsWhole) (a6 : MemH) (h6 : a6.IsWhole)
    (x0 : VecF) (x1 : VecG) :
    { L2 : List (View.Piece (Elt F) S2048x1024 .bf16) //
      ∀ (E : Set ℕ) (K : PUnit → sProp 𝕄),
        iprop(owns (c : Thr) a3 fullShare x0 ∗ owns (c : Thr) a4 fullShare x1 ∗ (∃ d, owns (c : Thr) a5 fullShare d) ∗ (∃ d, owns (c : Thr) a6 fullShare d)
            ∗ (iprop(owns (c : Thr) a3 fullShare x0 ∗ owns (c : Thr) a4 fullShare x1 ∗ (∃ f, a5.view.loc (c : Thr) ↦[a5.view.set]{fullShare} a5.view.writes (Elt F) f L2) ∗ (∃ d, owns (c : Thr) a6 fullShare d)) -∗ K ⟨⟩))
          ⊢ wp frame (wpE (defs₀ (F := F)) Variants.none c none) E (cc2_ffn_down_bwd_x i a3 h3 a4 h4 a5 h5 a6 h6) K } := by
  refine ⟨?_, fun E K => ?run⟩
  case run =>
    simp only [cc2_ffn_down_bwd_x_eq_skeleton]; unfold cc2_ffn_down_bwd_x_skel
    unfold owns
    iintro ⟨⟨%f0, %hf0, H0⟩, ⟨%f1, %hf1, H1⟩, ⟨%d2, %f2, -, H2⟩, ⟨%ds0, %fs0, -, HS0⟩, Hk⟩
    obtain rfl := h3.eq_unread hf0; obtain rfl := h4.eq_unread hf1
    sl_exec
    sl_step
    iapply Hk
    isplitl [H0]
    · iexists _; isplitr; · ipureintro; exact h3.read_unread _
      iexact H0
    isplitl [H1]
    · iexists _; isplitr; · ipureintro; exact h4.read_unread _
      iexact H1
    isplitl [H2]; · iexists _; iexact H2
    iexists _, _; isplitr; swap; · iexact HS0
    ipureintro; rfl

theorem cover2_A_2 (c : Dev nD) (i : grid2.Coords) (a3 : MemF) (h3 : a3.IsWhole) (a4 : MemG) (h4 : a4.IsWhole) (a5 : MemF) (h5 : a5.IsWhole) (a6 : MemH) (h6 : a6.IsWhole)
    (x0 : VecF) (x1 : VecG) (y : S2048x1024.Idx) :
    ∃ pc ∈ (kernelRun2_A c i a3 h3 a4 h4 a5 h5 a6 h6 x0 x1).1, y ∈ pc.1.set :=
  View.cover_of_tiledL (kernelRun2_A c i a3 h3 a4 h4 a5 h5 a6 h6 x0 x1).1 S2048x1024.size (by sl_kernel_rfl) y

def out2_A_2 (c : Dev nD) (i : grid2.Coords) (a3 : MemF) (h3 : a3.IsWhole) (a4 : MemG) (h4 : a4.IsWhole) (a5 : MemF) (h5 : a5.IsWhole) (a6 : MemH) (h6 : a6.IsWhole)
    (x0 : VecF) (x1 : VecG) : VecF :=
  VO2_2.read (Elt F) (VO2_2.writes (Elt F) VO2_2.junk (kernelRun2_A c i a3 h3 a4 h4 a5 h5 a6 h6 x0 x1).1)

/-! ## What the outputs hold after each point -/

def outsAt2 (c : Dev nD) (t : Fin cfg2.N) : VecF :=
  out2_A_2 c (grid2.coords t) (ms2_0 t) (hs2_0 t) (ms2_1 t) (hs2_1 t) (ms2_2 t) (hs2_2 t) scM2_0 (Memref.isWhole_whole _) (iblk2 V c 0 t) (iblk2 V c 1 t)

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thr) (ms2_0 t) fullShare ((dat2 V c).before 0 t d))
    ∗ (∃ d, owns (c : Thr) (ms2_1 t) fullShare ((dat2 V c).before 1 t d))
    ∗ (∃ d, owns (c : Thr) (ms2_2 t) fullShare ((dat2 V c).before 2 t d)))

def bodyPost2 (c : Dev nD) (t : Fin cfg2.N) : sProp 𝕄 :=
  iprop((dat2 V c).Φ t.succ ∗ (dat2 V c).owesAt () t.succ
    ∗ owns (c : Thr) (ms2_0 t) fullShare ((dat2 V c).after 0 t)
    ∗ owns (c : Thr) (ms2_1 t) fullShare ((dat2 V c).after 1 t)
    ∗ owns (c : Thr) (ms2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  rw [show (dat2 V c).Φ t.castSucc = Pipeline.ΦA spec2 c from rfl, PhiA2_eq]
  unfold outsAt2
  unfold out2_A_2
  iintro ⟨⟨⟨HS0, HR1⟩, Hg⟩, Ho, ⟨%d0, H0⟩, ⟨%d1, H1⟩, ⟨%d2, H2⟩⟩
  iapply ((kernelRun2_A c (grid2.coords t) _ _ _ _ _ _ _ _ (iblk2 V c 0 t) (iblk2 V c 1 t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [HS0 HR1 Hg]
  · isplitl [HS0 HR1]
    · isplitl [HS0]
      · iexact HS0
      iexact HR1
    iexact Hg
  isplitl [Ho]; · iexact Ho
  isplitl [H0]; · iexact H0
  isplitl [H1]; · iexact H1
  unfold owns; iexists _; isplitr
  swap; · iexact H2
  ipureintro; exact View.read_writes_of_cover _ _ _ _ _ (cover2_A_2 c _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-! # REGION 3 of @main -/

/-! ## The windows' blocks -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The kernel body on any staging memrefs -/

abbrev VO3_2 : View sig .tc .vmem S1024x1024 .bf16 := (Memref.whole cc3_stg2_0 : MemG).view
abbrev ms3_0 (t : Fin cfg3.N) : MemF := win3_0.stage (cfg3.slots t 0)
abbrev hs3_0 (t : Fin cfg3.N) : (ms3_0 t).IsWhole := hstage3_0 ((cfg3.slots t 0).cast nbuf3_0)
abbrev ms3_1 (t : Fin cfg3.N) : MemF := win3_1.stage (cfg3.slots t 1)
abbrev hs3_1 (t : Fin cfg3.N) : (ms3_1 t).IsWhole := hstage3_1 ((cfg3.slots t 1).cast nbuf3_1)
abbrev ms3_2 (t : Fin cfg3.N) : MemG := win3_2.stage (cfg3.slots t 2)
abbrev hs3_2 (t : Fin cfg3.N) : (ms3_2 t).IsWhole := hstage3_2 ((cfg3.slots t 2).cast nbuf3_2)
abbrev scM3_0 : MemH := Memref.whole cc3_scratch0

theorem scopedRest3_flat (c : Dev nD) :
    (Pipeline.scopedRest spec3 c : sProp 𝕄)
      = iprop((∃ f : Buf (Elt F) ((c : Thr).loc cc3_scratch0), ((c : Thr).loc cc3_scratch0) ↦{fullShare} f) ∗ Pipeline.scopedRestBut spec3 c [cc3_scratch0]) := by
  rw [scopedRest3_split]

theorem PhiA3_eq (c : Dev nD) :
    (Pipeline.ΦA spec3 c : sProp 𝕄)
      = iprop(iprop((∃ d, owns (c : Thr) scM3_0 fullShare d) ∗ Pipeline.scopedRestBut spec3 c [cc3_scratch0]) ∗ (∃ r, prngReg c r)) := by
  unfold Pipeline.ΦA; rw [scopedRest3_flat]; simp only [scM3_0, owns_whole]; try rfl
set_option maxHeartbeats 1000000 in
noncomputable def kernelRun3_A (c : Dev nD) (i : grid3.Coords) (a3 : MemF) (h3 : a3.IsWhole) (a4 : MemF) (h4 : a4.IsWhole) (a5 : MemG) (h5 : a5.IsWhole) (a6 : MemH) (h6 : a6.IsWhole)
    (x0 : VecF) (x1 : VecF) :
    { L2 : List (View.Piece (Elt F) S1024x1024 .bf16) //
      ∀ (E : Set ℕ) (K : PUnit → sProp 𝕄),
        iprop(owns (c : Thr) a3 fullShare x0 ∗ owns (c : Thr) a4 fullShare x1 ∗ (∃ d, owns (c : Thr) a5 fullShare d) ∗ (∃ d, owns (c : Thr) a6 fullShare d)
            ∗ (iprop(owns (c : Thr) a3 fullShare x0 ∗ owns (c : Thr) a4 fullShare x1 ∗ (∃ f, a5.view.loc (c : Thr) ↦[a5.view.set]{fullShare} a5.view.writes (Elt F) f L2) ∗ (∃ d, owns (c : Thr) a6 fullShare d)) -∗ K ⟨⟩))
          ⊢ wp frame (wpE (defs₀ (F := F)) Variants.none c none) E (cc3_ffn_down_bwd_w i a3 h3 a4 h4 a5 h5 a6 h6) K } := by
  refine ⟨?_, fun E K => ?run⟩
  case run =>
    simp only [cc3_ffn_down_bwd_w_eq_skeleton]; unfold cc3_ffn_down_bwd_w_skel
    unfold owns
    iintro ⟨⟨%f0, %hf0, H0⟩, ⟨%f1, %hf1, H1⟩, ⟨%d2, %f2, -, H2⟩, ⟨%ds0, %fs0, -, HS0⟩, Hk⟩
    obtain rfl := h3.eq_unread hf0; obtain rfl := h4.eq_unread hf1
    sl_exec
    sl_step
    iapply Hk
    isplitl [H0]
    · iexists _; isplitr; · ipureintro; exact h3.read_unread _
      iexact H0
    isplitl [H1]
    · iexists _; isplitr; · ipureintro; exact h4.read_unread _
      iexact H1
    isplitl [H2]; · iexists _; iexact H2
    iexists _, _; isplitr; swap; · iexact HS0
    ipureintro; rfl

theorem cover3_A_2 (c : Dev nD) (i : grid3.Coords) (a3 : MemF) (h3 : a3.IsWhole) (a4 : MemF) (h4 : a4.IsWhole) (a5 : MemG) (h5 : a5.IsWhole) (a6 : MemH) (h6 : a6.IsWhole)
    (x0 : VecF) (x1 : VecF) (y : S1024x1024.Idx) :
    ∃ pc ∈ (kernelRun3_A c i a3 h3 a4 h4 a5 h5 a6 h6 x0 x1).1, y ∈ pc.1.set :=
  View.cover_of_tiledL (kernelRun3_A c i a3 h3 a4 h4 a5 h5 a6 h6 x0 x1).1 S1024x1024.size (by sl_kernel_rfl) y

def out3_A_2 (c : Dev nD) (i : grid3.Coords) (a3 : MemF) (h3 : a3.IsWhole) (a4 : MemF) (h4 : a4.IsWhole) (a5 : MemG) (h5 : a5.IsWhole) (a6 : MemH) (h6 : a6.IsWhole)
    (x0 : VecF) (x1 : VecF) : VecG :=
  VO3_2.read (Elt F) (VO3_2.writes (Elt F) VO3_2.junk (kernelRun3_A c i a3 h3 a4 h4 a5 h5 a6 h6 x0 x1).1)

/-! ## What the outputs hold after each point -/

def outsAt3 (c : Dev nD) (t : Fin cfg3.N) : VecG :=
  out3_A_2 c (grid3.coords t) (ms3_0 t) (hs3_0 t) (ms3_1 t) (hs3_1 t) (ms3_2 t) (hs3_2 t) scM3_0 (Memref.isWhole_whole _) (iblk3 V c 0 t) (iblk3 V c 1 t)

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thr) (ms3_0 t) fullShare ((dat3 V c).before 0 t d))
    ∗ (∃ d, owns (c : Thr) (ms3_1 t) fullShare ((dat3 V c).before 1 t d))
    ∗ (∃ d, owns (c : Thr) (ms3_2 t) fullShare ((dat3 V c).before 2 t d)))

def bodyPost3 (c : Dev nD) (t : Fin cfg3.N) : sProp 𝕄 :=
  iprop((dat3 V c).Φ t.succ ∗ (dat3 V c).owesAt () t.succ
    ∗ owns (c : Thr) (ms3_0 t) fullShare ((dat3 V c).after 0 t)
    ∗ owns (c : Thr) (ms3_1 t) fullShare ((dat3 V c).after 1 t)
    ∗ owns (c : Thr) (ms3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  rw [show (dat3 V c).Φ t.castSucc = Pipeline.ΦA spec3 c from rfl, PhiA3_eq]
  unfold outsAt3
  unfold out3_A_2
  iintro ⟨⟨⟨HS0, HR1⟩, Hg⟩, Ho, ⟨%d0, H0⟩, ⟨%d1, H1⟩, ⟨%d2, H2⟩⟩
  iapply ((kernelRun3_A c (grid3.coords t) _ _ _ _ _ _ _ _ (iblk3 V c 0 t) (iblk3 V c 1 t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [HS0 HR1 Hg]
  · isplitl [HS0 HR1]
    · isplitl [HS0]
      · iexact HS0
      iexact HR1
    iexact Hg
  isplitl [Ho]; · iexact Ho
  isplitl [H0]; · iexact H0
  isplitl [H1]; · iexact H1
  unfold owns; iexists _; isplitr
  swap; · iexact H2
  ipureintro; exact View.read_writes_of_cover _ _ _ _ _ (cover3_A_2 c _ _ _ _ _ _ _ _ _ _ _)

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Own
end
-- ==== Proof.KernelIdealRegB.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The last two pipelined regions. The two loops of the fifth pass a scratch buffer from one to the other; the first tiles it. -/

@[expose] public section

set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

local notation "Thr" => Thread nD τ
local notation "MemA" => Memref sig Kind.tc Space.vmem S2x2048x256 EltTy.bf16
local notation "MemB" => Memref sig Kind.tc Space.vmem S3x2x256 EltTy.f32
local notation "MemC" => Memref sig Kind.tc Space.vmem S2048x256 EltTy.bf16
local notation "MemD" => Memref sig Kind.tc Space.vmem S2x256 EltTy.f32
local notation "MemE" => Memref sig Kind.tc Space.vmem S2x2048x256 EltTy.f32
local notation "MemF" => Memref sig Kind.tc Space.vmem S2048x1024 EltTy.bf16
local notation "MemG" => Memref sig Kind.tc Space.vmem S1024x1024 EltTy.bf16
local notation "MemH" => Memref sig Kind.tc Space.vmem S8x128 EltTy.f32
local notation "VecA" => Vec F S2x2048x256 EltTy.bf16
local notation "VecB" => Vec F S3x2x256 EltTy.f32
local notation "VecC" => Vec F S2048x256 EltTy.bf16

variable (m : (ℓ : Loc nD τ sig) → Buf (Elt F) ℓ) (ρ : Dev nD → PrngReg)
section Regions
variable (V : (c : Dev nD) → (b : Ref sig .tc) → Buf (Elt F) ((c : Thr).loc b))

/-! # REGION 4 of @main -/

/-! ## The windows' blocks -/

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The kernel body on any staging memrefs -/

abbrev VO4_4 : View sig .tc .vmem S2x2048x256 .bf16 := (Memref.whole cc4_stg4_0 : MemA).view
abbrev VO4_5 : View sig .tc .vmem S3x2x256 .f32 := (Memref.whole cc4_stg5_0 : MemB).view
abbrev VO4_6 : View sig .tc .vmem S2x256 .f32 := (Memref.whole cc4_stg6_0 : MemD).view
abbrev ms4_0 (t : Fin cfg4.N) : MemA := win4_0.stage (cfg4.slots t 0)
abbrev hs4_0 (t : Fin cfg4.N) : (ms4_0 t).IsWhole := hstage4_0 ((cfg4.slots t 0).cast nbuf4_0)
abbrev ms4_1 (t : Fin cfg4.N) : MemA := win4_1.stage (cfg4.slots t 1)
abbrev hs4_1 (t : Fin cfg4.N) : (ms4_1 t).IsWhole := hstage4_1 ((cfg4.slots t 1).cast nbuf4_1)
abbrev ms4_2 (t : Fin cfg4.N) : MemC := win4_2.stage (cfg4.slots t 2)
abbrev hs4_2 (t : Fin cfg4.N) : (ms4_2 t).IsWhole := hstage4_2 ((cfg4.slots t 2).cast nbuf4_2)
abbrev ms4_3 (t : Fin cfg4.N) : MemB := win4_3.stage (cfg4.slots t 3)
abbrev hs4_3 (t : Fin cfg4.N) : (ms4_3 t).IsWhole := hstage4_3 ((cfg4.slots t 3).cast nbuf4_3)
abbrev ms4_4 (t : Fin cfg4.N) : MemA := win4_4.stage (cfg4.slots t 4)
abbrev hs4_4 (t : Fin cfg4.N) : (ms4_4 t).IsWhole := hstage4_4 ((cfg4.slots t 4).cast nbuf4_4)
abbrev ms4_5 (t : Fin cfg4.N) : MemB := win4_5.stage (cfg4.slots t 5)
abbrev hs4_5 (t : Fin cfg4.N) : (ms4_5 t).IsWhole := hstage4_5 ((cfg4.slots t 5).cast nbuf4_5)
abbrev ms4_6 (t : Fin cfg4.N) : MemD := win4_6.stage (cfg4.slots t 6)
abbrev hs4_6 (t : Fin cfg4.N) : (ms4_6 t).IsWhole := hstage4_6 ((cfg4.slots t 6).cast nbuf4_6)
abbrev scM4_0 : MemE := Memref.whole cc4_scratch0

theorem scopedRest4_flat (c : Dev nD) :
    (Pipeline.scopedRest spec4 c : sProp 𝕄)
      = iprop((∃ f : Buf (Elt F) ((c : Thr).loc cc4_scratch0), ((c : Thr).loc cc4_scratch0) ↦{fullShare} f) ∗ Pipeline.scopedRestBut spec4 c [cc4_scratch0]) := by
  rw [scopedRest4_split]

theorem PhiA4_eq (c : Dev nD) :
    (Pipeline.ΦA spec4 c : sProp 𝕄)
      = iprop(iprop((∃ d, owns (c : Thr) scM4_0 fullShare d) ∗ Pipeline.scopedRestBut spec4 c [cc4_scratch0]) ∗ (∃ r, prngReg c r)) := by
  unfold Pipeline.ΦA; rw [scopedRest4_flat]; simp only [scM4_0, owns_whole]; try rfl

/-! The pieces the first loop stores in the scratch tile it, so the scratch after that loop does not depend on what it held before. -/
theorem scr4_cover  (c : Dev nD) (i : grid4.Coords) (a1 : MemA) (h1 : a1.IsWhole) (a2 : MemA) (h2 : a2.IsWhole) (a3 : MemC) (h3 : a3.IsWhole) (a4 : MemB) (h4 : a4.IsWhole) (a5 : MemA) (h5 : a5.IsWhole) (a6 : MemB) (h6 : a6.IsWhole) (a7 : MemD) (h7 : a7.IsWhole) (a8 : MemE) (h8 : a8.IsWhole)
    (x0 : VecA) (x1 : VecA) (x2 : VecC) (x3 : VecB) (y : S2x2048x256.Idx) :
    ∃ pc ∈ (st_k4_t1 Variants.none c none i a1 h1 a2 h2 a3 h3 a4 h4 a5 h5 a6 h6 a7 h7 a8 h8 (h2.unread x1) (h3.unread x2) (k4_pay26, k4_pay26) (Scf.trips k4_t1_loop.lb k4_t1_loop.ub k4_t1_loop.st)).2, y ∈ pc.1.set :=
  View.cover_of_tiledL (st_k4_t1 Variants.none c none i a1 h1 a2 h2 a3 h3 a4 h4 a5 h5 a6 h6 a7 h7 a8 h8 (h2.unread x1) (h3.unread x2) (k4_pay26, k4_pay26) (Scf.trips k4_t1_loop.lb k4_t1_loop.ub k4_t1_loop.st)).2 S1x64x256.size (by sl_kernel_rfl) y

theorem scr4_eq  (c : Dev nD) (i : grid4.Coords) (a1 : MemA) (h1 : a1.IsWhole) (a2 : MemA) (h2 : a2.IsWhole) (a3 : MemC) (h3 : a3.IsWhole) (a4 : MemB) (h4 : a4.IsWhole) (a5 : MemA) (h5 : a5.IsWhole) (a6 : MemB) (h6 : a6.IsWhole) (a7 : MemD) (h7 : a7.IsWhole) (a8 : MemE) (h8 : a8.IsWhole)
    (x0 : VecA) (x1 : VecA) (x2 : VecC) (x3 : VecB) (f : a8.view.ty.Contents (Elt F)) :
    a8.view.writes (Elt F) f (st_k4_t1 Variants.none c none i a1 h1 a2 h2 a3 h3 a4 h4 a5 h5 a6 h6 a7 h7 a8 h8 (h2.unread x1) (h3.unread x2) (k4_pay26, k4_pay26) (Scf.trips k4_t1_loop.lb k4_t1_loop.ub k4_t1_loop.st)).2
      = h8.unread (View.canon (st_k4_t1 Variants.none c none i a1 h1 a2 h2 a3 h3 a4 h4 a5 h5 a6 h6 a7 h7 a8 h8 (h2.unread x1) (h3.unread x2) (k4_pay26, k4_pay26) (Scf.trips k4_t1_loop.lb k4_t1_loop.ub k4_t1_loop.st)).2) :=
  h8.eq_unread (View.read_writes_eq_canon _ _ _ (scr4_cover c i a1 h1 a2 h2 a3 h3 a4 h4 a5 h5 a6 h6 a7 h7 a8 h8 x0 x1 x2 x3))
set_option maxHeartbeats 20000000 in
noncomputable def kernelRun4_A (c : Dev nD) (i : grid4.Coords) (a1 : MemA) (h1 : a1.IsWhole) (a2 : MemA) (h2 : a2.IsWhole) (a3 : MemC) (h3 : a3.IsWhole) (a4 : MemB) (h4 : a4.IsWhole) (a5 : MemA) (h5 : a5.IsWhole) (a6 : MemB) (h6 : a6.IsWhole) (a7 : MemD) (h7 : a7.IsWhole) (a8 : MemE) (h8 : a8.IsWhole)
    (x0 : VecA) (x1 : VecA) (x2 : VecC) (x3 : VecB) :
    Σ' (L4 : List (View.Piece (Elt F) S2x2048x256 .bf16)), Σ' (L5 : List (View.Piece (Elt F) S3x2x256 .f32)), { L6 : List (View.Piece (Elt F) S2x256 .f32) //
      ∀ (E : Set ℕ) (K : PUnit → sProp 𝕄),
        iprop(owns (c : Thr) a1 fullShare x0 ∗ owns (c : Thr) a2 fullShare x1 ∗ owns (c : Thr) a3 fullShare x2 ∗ owns (c : Thr) a4 fullShare x3 ∗ (∃ d, owns (c : Thr) a5 fullShare d) ∗ (∃ d, owns (c : Thr) a6 fullShare d) ∗ (∃ d, owns (c : Thr) a7 fullShare d) ∗ (∃ d, owns (c : Thr) a8 fullShare d)
            ∗ (iprop(owns (c : Thr) a1 fullShare x0 ∗ owns (c : Thr) a2 fullShare x1 ∗ owns (c : Thr) a3 fullShare x2 ∗ owns (c : Thr) a4 fullShare x3 ∗ (∃ f, a5.view.loc (c : Thr) ↦[a5.view.set]{fullShare} a5.view.writes (Elt F) f L4) ∗ (∃ f, a6.view.loc (c : Thr) ↦[a6.view.set]{fullShare} a6.view.writes (Elt F) f L5) ∗ (∃ f, a7.view.loc (c : Thr) ↦[a7.view.set]{fullShare} a7.view.writes (Elt F) f L6) ∗ (∃ d, owns (c : Thr) a8 fullShare d)) -∗ K ⟨⟩))
          ⊢ wp frame (wpE (defs₀ (F := F)) Variants.none c none) E (cc4_ffn_act_bwd i a1 h1 a2 h2 a3 h3 a4 h4 a5 h5 a6 h6 a7 h7 a8 h8) K } := by
  refine ⟨?_, ?_, ?_, fun E K => ?run⟩
  case run =>
    simp only [cc4_ffn_act_bwd_eq_skeleton]; unfold cc4_ffn_act_bwd_skel
    simp only [k4_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := h1.eq_unread hf0; obtain rfl := h2.eq_unread hf1; obtain rfl := h3.eq_unread hf2; obtain rfl := h4.eq_unread hf3
    set_option sl_exec.maxSteps 3 in sl_exec
    rw [scr4_eq c i a1 h1 a2 h2 a3 h3 a4 h4 a5 h5 a6 h6 a7 h7 a8 h8 x0 x1 x2 x3 fs0]
    sl_exec
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]; · iexists _; iexact H4
    isplitl [H5]; · iexists _; iexact H5
    isplitl [H6]; · iexists _; iexact H6
    iexists _, _; isplitr; swap; · iexact HS0
    ipureintro; rfl

theorem cover4_A_4 (c : Dev nD) (i : grid4.Coords) (a1 : MemA) (h1 : a1.IsWhole) (a2 : MemA) (h2 : a2.IsWhole) (a3 : MemC) (h3 : a3.IsWhole) (a4 : MemB) (h4 : a4.IsWhole) (a5 : MemA) (h5 : a5.IsWhole) (a6 : MemB) (h6 : a6.IsWhole) (a7 : MemD) (h7 : a7.IsWhole) (a8 : MemE) (h8 : a8.IsWhole)
    (x0 : VecA) (x1 : VecA) (x2 : VecC) (x3 : VecB) (y : S2x2048x256.Idx) :
    ∃ pc ∈ (kernelRun4_A c i a1 h1 a2 h2 a3 h3 a4 h4 a5 h5 a6 h6 a7 h7 a8 h8 x0 x1 x2 x3).1, y ∈ pc.1.set :=
  View.cover_of_tiledL (kernelRun4_A c i a1 h1 a2 h2 a3 h3 a4 h4 a5 h5 a6 h6 a7 h7 a8 h8 x0 x1 x2 x3).1 S1x64x256.size (by sl_kernel_rfl) y

def out4_A_4 (c : Dev nD) (i : grid4.Coords) (a1 : MemA) (h1 : a1.IsWhole) (a2 : MemA) (h2 : a2.IsWhole) (a3 : MemC) (h3 : a3.IsWhole) (a4 : MemB) (h4 : a4.IsWhole) (a5 : MemA) (h5 : a5.IsWhole) (a6 : MemB) (h6 : a6.IsWhole) (a7 : MemD) (h7 : a7.IsWhole) (a8 : MemE) (h8 : a8.IsWhole)
    (x0 : VecA) (x1 : VecA) (x2 : VecC) (x3 : VecB) : VecA :=
  VO4_4.read (Elt F) (VO4_4.writes (Elt F) VO4_4.junk (kernelRun4_A c i a1 h1 a2 h2 a3 h3 a4 h4 a5 h5 a6 h6 a7 h7 a8 h8 x0 x1 x2 x3).1)

theorem cover4_A_5 (c : Dev nD) (i : grid4.Coords) (a1 : MemA) (h1 : a1.IsWhole) (a2 : MemA) (h2 : a2.IsWhole) (a3 : MemC) (h3 : a3.IsWhole) (a4 : MemB) (h4 : a4.IsWhole) (a5 : MemA) (h5 : a5.IsWhole) (a6 : MemB) (h6 : a6.IsWhole) (a7 : MemD) (h7 : a7.IsWhole) (a8 : MemE) (h8 : a8.IsWhole)
    (x0 : VecA) (x1 : VecA) (x2 : VecC) (x3 : VecB) (y : S3x2x256.Idx) :
    ∃ pc ∈ (kernelRun4_A c i a1 h1 a2 h2 a3 h3 a4 h4 a5 h5 a6 h6 a7 h7 a8 h8 x0 x1 x2 x3).2.1, y ∈ pc.1.set :=
  View.cover_of_tiledL (kernelRun4_A c i a1 h1 a2 h2 a3 h3 a4 h4 a5 h5 a6 h6 a7 h7 a8 h8 x0 x1 x2 x3).2.1 S1x1x256.size (by sl_kernel_rfl) y

def out4_A_5 (c : Dev nD) (i : grid4.Coords) (a1 : MemA) (h1 : a1.IsWhole) (a2 : MemA) (h2 : a2.IsWhole) (a3 : MemC) (h3 : a3.IsWhole) (a4 : MemB) (h4 : a4.IsWhole) (a5 : MemA) (h5 : a5.IsWhole) (a6 : MemB) (h6 : a6.IsWhole) (a7 : MemD) (h7 : a7.IsWhole) (a8 : MemE) (h8 : a8.IsWhole)
    (x0 : VecA) (x1 : VecA) (x2 : VecC) (x3 : VecB) : VecB :=
  VO4_5.read (Elt F) (VO4_5.writes (Elt F) VO4_5.junk (kernelRun4_A c i a1 h1 a2 h2 a3 h3 a4 h4 a5 h5 a6 h6 a7 h7 a8 h8 x0 x1 x2 x3).2.1)

theorem cover4_A_6 (c : Dev nD) (i : grid4.Coords) (a1 : MemA) (h1 : a1.IsWhole) (a2 : MemA) (h2 : a2.IsWhole) (a3 : MemC) (h3 : a3.IsWhole) (a4 : MemB) (h4 : a4.IsWhole) (a5 : MemA) (h5 : a5.IsWhole) (a6 : MemB) (h6 : a6.IsWhole) (a7 : MemD) (h7 : a7.IsWhole) (a8 : MemE) (h8 : a8.IsWhole)
    (x0 : VecA) (x1 : VecA) (x2 : VecC) (x3 : VecB) (y : S2x256.Idx) :
    ∃ pc ∈ (kernelRun4_A c i a1 h1 a2 h2 a3 h3 a4 h4 a5 h5 a6 h6 a7 h7 a8 h8 x0 x1 x2 x3).2.2.1, y ∈ pc.1.set :=
  View.cover_of_tiledL (kernelRun4_A c i a1 h1 a2 h2 a3 h3 a4 h4 a5 h5 a6 h6 a7 h7 a8 h8 x0 x1 x2 x3).2.2.1 S1x256.size (by sl_kernel_rfl) y

def out4_A_6 (c : Dev nD) (i : grid4.Coords) (a1 : MemA) (h1 : a1.IsWhole) (a2 : MemA) (h2 : a2.IsWhole) (a3 : MemC) (h3 : a3.IsWhole) (a4 : MemB) (h4 : a4.IsWhole) (a5 : MemA) (h5 : a5.IsWhole) (a6 : MemB) (h6 : a6.IsWhole) (a7 : MemD) (h7 : a7.IsWhole) (a8 : MemE) (h8 : a8.IsWhole)
    (x0 : VecA) (x1 : VecA) (x2 : VecC) (x3 : VecB) : Vec F S2x256 .f32 :=
  VO4_6.read (Elt F) (VO4_6.writes (Elt F) VO4_6.junk (kernelRun4_A c i a1 h1 a2 h2 a3 h3 a4 h4 a5 h5 a6 h6 a7 h7 a8 h8 x0 x1 x2 x3).2.2.1)

/-! ## What the outputs hold after each point -/

def outsAt4 (c : Dev nD) (t : Fin cfg4.N) : VecA × VecB × Vec F S2x256 .f32 :=
  (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (iblk4 V c 0 t) (iblk4 V c 1 t) (iblk4 V c 2 t) (iblk4 V c 3 t), out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (iblk4 V c 0 t) (iblk4 V c 1 t) (iblk4 V c 2 t) (iblk4 V c 3 t), out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (iblk4 V c 0 t) (iblk4 V c 1 t) (iblk4 V c 2 t) (iblk4 V c 3 t))

/-! ## The pipeline's proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t).1
    | ⟨5, _⟩ => (outsAt4 V c t).2.1
    | ⟨6, _⟩ => (outsAt4 V c t).2.2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t).1 := by dsimp only [dat4]
theorem after4_5 (c : Dev nD) (t : Fin cfg4.N) : (dat4 V c).after 5 t = (outsAt4 V c t).2.1 := by dsimp only [dat4]
theorem after4_6 (c : Dev nD) (t : Fin cfg4.N) : (dat4 V c).after 6 t = (outsAt4 V c t).2.2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thr) (ms4_0 t) fullShare ((dat4 V c).before 0 t d))
    ∗ (∃ d, owns (c : Thr) (ms4_1 t) fullShare ((dat4 V c).before 1 t d))
    ∗ (∃ d, owns (c : Thr) (ms4_2 t) fullShare ((dat4 V c).before 2 t d))
    ∗ (∃ d, owns (c : Thr) (ms4_3 t) fullShare ((dat4 V c).before 3 t d))
    ∗ (∃ d, owns (c : Thr) (ms4_4 t) fullShare ((dat4 V c).before 4 t d))
    ∗ (∃ d, owns (c : Thr) (ms4_5 t) fullShare ((dat4 V c).before 5 t d))
    ∗ (∃ d, owns (c : Thr) (ms4_6 t) fullShare ((dat4 V c).before 6 t d)))

def bodyPost4 (c : Dev nD) (t : Fin cfg4.N) : sProp 𝕄 :=
  iprop((dat4 V c).Φ t.succ ∗ (dat4 V c).owesAt () t.succ
    ∗ owns (c : Thr) (ms4_0 t) fullShare ((dat4 V c).after 0 t)
    ∗ owns (c : Thr) (ms4_1 t) fullShare ((dat4 V c).after 1 t)
    ∗ owns (c : Thr) (ms4_2 t) fullShare ((dat4 V c).after 2 t)
    ∗ owns (c : Thr) (ms4_3 t) fullShare ((dat4 V c).after 3 t)
    ∗ owns (c : Thr) (ms4_4 t) fullShare ((dat4 V c).after 4 t)
    ∗ owns (c : Thr) (ms4_5 t) fullShare ((dat4 V c).after 5 t)
    ∗ owns (c : Thr) (ms4_6 t) fullShare ((dat4 V c).after 6 t))

set_option maxHeartbeats 800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  rw [show (dat4 V c).Φ t.castSucc = Pipeline.ΦA spec4 c from rfl, PhiA4_eq]
  unfold outsAt4
  unfold out4_A_4 out4_A_5 out4_A_6; (try dsimp only)
  iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun4_A c (grid4.coords t) _ _ _ _ _ _ _ _ _ _ _ _ _ _ _ _ (iblk4 V c 0 t) (iblk4 V c 1 t) (iblk4 V c 2 t) (iblk4 V c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  iintro ⟨H0, H1, H2, H3, ⟨%e4, H4⟩, ⟨%e5, H5⟩, ⟨%e6, H6⟩, HS0⟩
  isplitl [HS0 HR1 Hg]
  · isplitl [HS0 HR1]
    · isplitl [HS0]
      · iexact HS0
      iexact HR1
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover4_A_4 c _ _ _ _ _ _ _ _ _ _ _ _ _ _ _ _ _ _ _ _ _)
  isplitl [H5]
  · unfold owns; iexists _; isplitr
    swap; · iexact H5
    ipureintro; exact View.read_writes_of_cover _ _ _ _ _ (cover4_A_5 c _ _ _ _ _ _ _ _ _ _ _ _ _ _ _ _ _ _ _ _ _)
  unfold owns; iexists _; isplitr
  swap; · iexact H6
  ipureintro; exact View.read_writes_of_cover _ _ _ _ _ (cover4_A_6 c _ _ _ _ _ _ _ _ _ _ _ _ _ _ _ _ _ _ _ _ _)

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

/-! # REGION 5 of @main -/

/-! ## The windows' blocks -/

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The kernel body on any staging memrefs -/

abbrev VO5_2 : View sig .tc .vmem S1024x1024 .bf16 := (Memref.whole cc5_stg2_0 : MemG).view
abbrev ms5_0 (t : Fin cfg5.N) : MemF := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x2048x1024 .bf16 := win5_1.stage (cfg5.slots t 1)
abbrev hs5_1 (t : Fin cfg5.N) : (ms5_1 t).IsWhole := hstage5_1 ((cfg5.slots t 1).cast nbuf5_1)
abbrev ms5_2 (t : Fin cfg5.N) : MemG := win5_2.stage (cfg5.slots t 2)
abbrev hs5_2 (t : Fin cfg5.N) : (ms5_2 t).IsWhole := hstage5_2 ((cfg5.slots t 2).cast nbuf5_2)
abbrev scM5_0 : MemH := Memref.whole cc5_scratch0

theorem scopedRest5_flat (c : Dev nD) :
    (Pipeline.scopedRest spec5 c : sProp 𝕄)
      = iprop((∃ f : Buf (Elt F) ((c : Thr).loc cc5_scratch0), ((c : Thr).loc cc5_scratch0) ↦{fullShare} f) ∗ Pipeline.scopedRestBut spec5 c [cc5_scratch0]) := by
  rw [scopedRest5_split]

theorem PhiA5_eq (c : Dev nD) :
    (Pipeline.ΦA spec5 c : sProp 𝕄)
      = iprop(iprop((∃ d, owns (c : Thr) scM5_0 fullShare d) ∗ Pipeline.scopedRestBut spec5 c [cc5_scratch0]) ∗ (∃ r, prngReg c r)) := by
  unfold Pipeline.ΦA; rw [scopedRest5_flat]; simp only [scM5_0, owns_whole]; try rfl
set_option maxHeartbeats 1000000 in
noncomputable def kernelRun5_A (c : Dev nD) (i : grid5.Coords) (a3 : MemF) (h3 : a3.IsWhole) (a4 : Memref sig .tc .vmem S1x2048x1024 .bf16) (h4 : a4.IsWhole) (a5 : MemG) (h5 : a5.IsWhole) (a6 : MemH) (h6 : a6.IsWhole)
    (x0 : Vec F S2048x1024 .bf16) (x1 : Vec F S1x2048x1024 .bf16) :
    { L2 : List (View.Piece (Elt F) S1024x1024 .bf16) //
      ∀ (E : Set ℕ) (K : PUnit → sProp 𝕄),
        iprop(owns (c : Thr) a3 fullShare x0 ∗ owns (c : Thr) a4 fullShare x1 ∗ (∃ d, owns (c : Thr) a5 fullShare d) ∗ (∃ d, owns (c : Thr) a6 fullShare d)
            ∗ (iprop(owns (c : Thr) a3 fullShare x0 ∗ owns (c : Thr) a4 fullShare x1 ∗ (∃ f, a5.view.loc (c : Thr) ↦[a5.view.set]{fullShare} a5.view.writes (Elt F) f L2) ∗ (∃ d, owns (c : Thr) a6 fullShare d)) -∗ K ⟨⟩))
          ⊢ wp frame (wpE (defs₀ (F := F)) Variants.none c none) E (cc5_ffn_up_bwd_w i a3 h3 a4 h4 a5 h5 a6 h6) K } := by
  refine ⟨?_, fun E K => ?run⟩
  case run =>
    simp only [cc5_ffn_up_bwd_w_eq_skeleton]; unfold cc5_ffn_up_bwd_w_skel
    unfold owns
    iintro ⟨⟨%f0, %hf0, H0⟩, ⟨%f1, %hf1, H1⟩, ⟨%d2, %f2, -, H2⟩, ⟨%ds0, %fs0, -, HS0⟩, Hk⟩
    obtain rfl := h3.eq_unread hf0; obtain rfl := h4.eq_unread hf1
    sl_exec
    sl_step
    iapply Hk
    isplitl [H0]
    · iexists _; isplitr; · ipureintro; exact h3.read_unread _
      iexact H0
    isplitl [H1]
    · iexists _; isplitr; · ipureintro; exact h4.read_unread _
      iexact H1
    isplitl [H2]; · iexists _; iexact H2
    iexists _, _; isplitr; swap; · iexact HS0
    ipureintro; rfl

theorem cover5_A_2 (c : Dev nD) (i : grid5.Coords) (a3 : MemF) (h3 : a3.IsWhole) (a4 : Memref sig .tc .vmem S1x2048x1024 .bf16) (h4 : a4.IsWhole) (a5 : MemG) (h5 : a5.IsWhole) (a6 : MemH) (h6 : a6.IsWhole)
    (x0 : Vec F S2048x1024 .bf16) (x1 : Vec F S1x2048x1024 .bf16) (y : S1024x1024.Idx) :
    ∃ pc ∈ (kernelRun5_A c i a3 h3 a4 h4 a5 h5 a6 h6 x0 x1).1, y ∈ pc.1.set :=
  View.cover_of_tiledL (kernelRun5_A c i a3 h3 a4 h4 a5 h5 a6 h6 x0 x1).1 S1024x1024.size (by sl_kernel_rfl) y

def out5_A_2 (c : Dev nD) (i : grid5.Coords) (a3 : MemF) (h3 : a3.IsWhole) (a4 : Memref sig .tc .vmem S1x2048x1024 .bf16) (h4 : a4.IsWhole) (a5 : MemG) (h5 : a5.IsWhole) (a6 : MemH) (h6 : a6.IsWhole)
    (x0 : Vec F S2048x1024 .bf16) (x1 : Vec F S1x2048x1024 .bf16) : Vec F S1024x1024 .bf16 :=
  VO5_2.read (Elt F) (VO5_2.writes (Elt F) VO5_2.junk (kernelRun5_A c i a3 h3 a4 h4 a5 h5 a6 h6 x0 x1).1)

/-! ## What the outputs hold after each point -/

def outsAt5 (c : Dev nD) (t : Fin cfg5.N) : Vec F S1024x1024 .bf16 :=
  out5_A_2 c (grid5.coords t) (ms5_0 t) (hs5_0 t) (ms5_1 t) (hs5_1 t) (ms5_2 t) (hs5_2 t) scM5_0 (Memref.isWhole_whole _) (iblk5 V c 0 t) (iblk5 V c 1 t)

/-! ## The pipeline's proof data -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thr) (ms5_0 t) fullShare ((dat5 V c).before 0 t d))
    ∗ (∃ d, owns (c : Thr) (ms5_1 t) fullShare ((dat5 V c).before 1 t d))
    ∗ (∃ d, owns (c : Thr) (ms5_2 t) fullShare ((dat5 V c).before 2 t d)))

def bodyPost5 (c : Dev nD) (t : Fin cfg5.N) : sProp 𝕄 :=
  iprop((dat5 V c).Φ t.succ ∗ (dat5 V c).owesAt () t.succ
    ∗ owns (c : Thr) (ms5_0 t) fullShare ((dat5 V c).after 0 t)
    ∗ owns (c : Thr) (ms5_1 t) fullShare ((dat5 V c).after 1 t)
    ∗ owns (c : Thr) (ms5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  rw [show (dat5 V c).Φ t.castSucc = Pipeline.ΦA spec5 c from rfl, PhiA5_eq]
  unfold outsAt5
  unfold out5_A_2
  iintro ⟨⟨⟨HS0, HR1⟩, Hg⟩, Ho, ⟨%d0, H0⟩, ⟨%d1, H1⟩, ⟨%d2, H2⟩⟩
  iapply ((kernelRun5_A c (grid5.coords t) _ _ _ _ _ _ _ _ (iblk5 V c 0 t) (iblk5 V c 1 t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [HS0 HR1 Hg]
  · isplitl [HS0 HR1]
    · isplitl [HS0]
      · iexact HS0
      iexact HR1
    iexact Hg
  isplitl [Ho]; · iexact Ho
  isplitl [H0]; · iexact H0
  isplitl [H1]; · iexact H1
  unfold owns; iexists _; isplitr
  swap; · iexact H2
  ipureintro; exact View.read_writes_of_cover _ _ _ _ _ (cover5_A_2 c _ _ _ _ _ _ _ _ _ _ _)

theorem defs₀_row5 (t : Fin cfg5.N) :
    defs₀ (F := F) .tc cfg5.body (cfg5.bodyArgs t (cfg5.slots t)) = bodyAt5 t := by
  unfold defs₀; rw [Defs.onTc_tc]

theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Regions

end Cert.KernelIdeal.Own
end
-- ==== Proof.KernelIdealRun.lean ====
module

public import proofs.«01_k».proof.Proof.KernelIdealRegA
public import proofs.«01_k».proof.Proof.KernelIdealRegB
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The whole program, from its launch to its return. -/

@[expose] public section

set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

local notation "Thr" => Thread nD τ

variable (m : (ℓ : Loc nD τ sig) → Buf (Elt F) ℓ) (ρ : Dev nD → PrngReg)

/-! # THE RUN -/

abbrev argRefs : List (Ref sig .tc) := [main_arg0, main_arg1, main_arg2, main_arg3, main_arg4, main_arg5]

/-! ## The host stretches -/

theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps6_fresh : (hostOps6 : List (HloOp τ sig (Elt F))).Forall fun op => op.fresh = ∅ := by
  simp only [List.Forall]; repeat' constructor
abbrev hostOps6_W : List (Ref sig .tc) := [main_v8, main_v9]
theorem hostOps6_writes : (hostOps6 : List (HloOp τ sig (Elt F))).Forall fun op => op.writes ⊆ (hostOps6_W.map (Proc.devRef (τ := τ) .tc)).toFinset :=
  StableHlo.forall_writes_sub_of_map rfl
theorem hostOps6_args : ∀ a ∈ argRefs, a ∉ hostOps6_W := ListAll.forall_mem_of_all_decide (by decide +kernel)

/-! ## The buffer contents at each segment boundary -/

abbrev W0 : Dev nD → Valuation τ sig (Elt F) := fun c b => (s₀ m ρ).mem ((c : Dev nD), b)
theorem W0_args (c : Dev nD) : ∀ a ∈ argRefs, W0 m ρ c (Proc.devRef .tc a) = m ((c : Thr).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thr).loc a) :=
  fun a ha => (W1_of m ρ c a (hostOps0_args a ha)).trans (W0_args m ρ c a ha)
abbrev V1 : (c : Dev nD) → (b : Ref sig .tc) → Buf (Elt F) ((c : Thr).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thr).loc a) :=
  fun a ha => (W2_of m ρ c a (argsIn0 a ha)).trans (W1_args m ρ c a ha)
abbrev V2 : (c : Dev nD) → (b : Ref sig .tc) → Buf (Elt F) ((c : Thr).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thr).loc a) :=
  fun a ha => (W3_of m ρ c a (argsIn1 a ha)).trans (W2_args m ρ c a ha)
abbrev V3 : (c : Dev nD) → (b : Ref sig .tc) → Buf (Elt F) ((c : Thr).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thr).loc a) :=
  fun a ha => (W4_of m ρ c a (argsIn2 a ha)).trans (W3_args m ρ c a ha)
abbrev V4 : (c : Dev nD) → (b : Ref sig .tc) → Buf (Elt F) ((c : Thr).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thr).loc a) :=
  fun a ha => (W5_of m ρ c a (argsIn3 a ha)).trans (W4_args m ρ c a ha)
abbrev V5 : (c : Dev nD) → (b : Ref sig .tc) → Buf (Elt F) ((c : Thr).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
theorem W6_of (c : Dev nD) (r : Ref sig .tc) (h : ∀ w : Fin cfg4.W, Pipeline.arrRef spec4 w = r → (cfg4.win w).isOut = false) :
    W6 m ρ c (Proc.devRef .tc r) = W5 m ρ c (Proc.devRef .tc r) := by
  by_cases hw : ∃ w : Fin cfg4.W, Pipeline.arrRef spec4 w = r
  · obtain ⟨w, rfl⟩ := hw
    exact (W6_arr m ρ c w).trans (((dat4 (V5 m ρ) c).arrAt_in w (h w rfl) _).trans (A_eq4 (V5 m ρ) c w))
  · exact W6_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W6_args (c : Dev nD) : ∀ a ∈ argRefs, W6 m ρ c (Proc.devRef .tc a) = m ((c : Thr).loc a) :=
  fun a ha => (W6_of m ρ c a (argsIn4 a ha)).trans (W5_args m ρ c a ha)
abbrev V6 : (c : Dev nD) → (b : Ref sig .tc) → Buf (Elt F) ((c : Thr).loc b) := fun c b => W6 m ρ c b
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

def W7 (c : Dev nD) : Valuation τ sig (Elt F) :=
  Pipeline.withArrays spec5 c (W6 m ρ c) fun w => (dat5 (V6 m ρ) c).arrAt w cfg5.N
theorem W7_arr (c : Dev nD) (w : Fin cfg5.W) :
    W7 m ρ c (Proc.devRef .tc (Pipeline.arrRef spec5 w)) = (dat5 (V6 m ρ) c).arrAt w cfg5.N := by
  unfold W7; exact Pipeline.withArrays_arr spec5 launch5.win.arr_inj c _ _ w
theorem W7_of_ne (c : Dev nD) (b : Ref sig .tc) (hb : ∀ w, Pipeline.arrRef spec5 w ≠ b) :
    W7 m ρ c (Proc.devRef .tc b) = W6 m ρ c (Proc.devRef .tc b) := by
  unfold W7; exact Pipeline.withArrays_of_ne spec5 c _ _ b hb
theorem W7_of (c : Dev nD) (r : Ref sig .tc) (h : ∀ w : Fin cfg5.W, Pipeline.arrRef spec5 w = r → (cfg5.win w).isOut = false) :
    W7 m ρ c (Proc.devRef .tc r) = W6 m ρ c (Proc.devRef .tc r) := by
  by_cases hw : ∃ w : Fin cfg5.W, Pipeline.arrRef spec5 w = r
  · obtain ⟨w, rfl⟩ := hw
    exact (W7_arr m ρ c w).trans (((dat5 (V6 m ρ) c).arrAt_in w (h w rfl) _).trans (A_eq5 (V6 m ρ) c w))
  · exact W7_of_ne m ρ c r fun w e => hw ⟨w, e⟩
theorem argsIn5 : ∀ a ∈ argRefs, ∀ w : Fin cfg5.W, Pipeline.arrRef spec5 w = a → (cfg5.win w).isOut = false :=
  ListAll.forall_mem_of_all_decide (by decide +kernel)
theorem W7_args (c : Dev nD) : ∀ a ∈ argRefs, W7 m ρ c (Proc.devRef .tc a) = m ((c : Thr).loc a) :=
  fun a ha => (W7_of m ρ c a (argsIn5 a ha)).trans (W6_args m ρ c a ha)
abbrev V7 : (c : Dev nD) → (b : Ref sig .tc) → Buf (Elt F) ((c : Thr).loc b) := fun c b => W7 m ρ c b
theorem hF5 (c : Dev nD) (w : Fin cfg5.W) : (dat5 (V6 m ρ) c).arrAt w cfg5.N = V7 m ρ c (Pipeline.arrRef spec5 w) :=
  (W7_arr m ρ c w).symm
theorem hrest5 (c : Dev nD) : ∀ b, b ∉ Finset.univ.image (Pipeline.arrRef spec5) → V7 m ρ c b = V6 m ρ c b :=
  fun b hb => W7_of_ne m ρ c b fun w e => hb (Finset.mem_image.mpr ⟨w, Finset.mem_univ _, e⟩)

abbrev W8 : Dev nD → Valuation τ sig (Elt F) := fun c => StableHlo.after hostOps6 (W7 m ρ c)
theorem W8_of (c : Dev nD) (r : Ref sig .tc) (h : r ∉ hostOps6_W) : W8 m ρ c (Proc.devRef .tc r) = W7 m ρ c (Proc.devRef .tc r) :=
  StableHlo.after_of_writes_sub hostOps6 _ hostOps6_writes h
theorem W8_args (c : Dev nD) : ∀ a ∈ argRefs, W8 m ρ c (Proc.devRef .tc a) = m ((c : Thr).loc a) :=
  fun a ha => (W8_of m ρ c a (hostOps6_args a ha)).trans (W7_args m ρ c a ha)

/-! ### The arguments end as launched -/

theorem W8_main_arg0 (c : Dev nD) : W8 m ρ c (Proc.devRef .tc main_arg0) = m ((c : Thr).loc main_arg0) :=
  W8_args m ρ c main_arg0 (by decide)
theorem W8_main_arg1 (c : Dev nD) : W8 m ρ c (Proc.devRef .tc main_arg1) = m ((c : Thr).loc main_arg1) :=
  W8_args m ρ c main_arg1 (by decide)
theorem W8_main_arg2 (c : Dev nD) : W8 m ρ c (Proc.devRef .tc main_arg2) = m ((c : Thr).loc main_arg2) :=
  W8_args m ρ c main_arg2 (by decide)
theorem W8_main_arg3 (c : Dev nD) : W8 m ρ c (Proc.devRef .tc main_arg3) = m ((c : Thr).loc main_arg3) :=
  W8_args m ρ c main_arg3 (by decide)
theorem W8_main_arg4 (c : Dev nD) : W8 m ρ c (Proc.devRef .tc main_arg4) = m ((c : Thr).loc main_arg4) :=
  W8_args m ρ c main_arg4 (by decide)
theorem W8_main_arg5 (c : Dev nD) : W8 m ρ c (Proc.devRef .tc main_arg5) = m ((c : Thr).loc main_arg5) :=
  W8_args m ρ c main_arg5 (by decide)

/-! ## The proof data family and the thread state -/

abbrev adm : (p : Fin 6) → (pcfgs (F := F) p).Adm := fun p => (cfgs p).toPCfg_adm
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
  | ⟨5, _⟩ => fun c => dat5 (V6 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thr) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thr) (Pipeline.ucRefs τ sig) (W8 m ρ c) ∗ ∃ r, prngReg c r)

/-! ## The regions as segments -/
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thr) (Pipeline.ucRefs τ sig) (W1 m ρ c) ∗ R c)
  post c := iprop(StableHlo.held (c : Thr) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thr) (Pipeline.ucRefs τ sig) (W2 m ρ c) ∗ R c)
  post c := iprop(StableHlo.held (c : Thr) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thr) (Pipeline.ucRefs τ sig) (W3 m ρ c) ∗ R c)
  post c := iprop(StableHlo.held (c : Thr) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thr) (Pipeline.ucRefs τ sig) (W4 m ρ c) ∗ R c)
  post c := iprop(StableHlo.held (c : Thr) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thr) (Pipeline.ucRefs τ sig) (W5 m ρ c) ∗ R c)
  post c := iprop(StableHlo.held (c : Thr) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) (A_eq4 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V6 m ρ) c).loose
  hwaits := Pipeline.hwaits_of_owed_zero _ _ _ _ L lv 5 fun _ _ => rfl
  pre c := iprop(StableHlo.held (c : Thr) (Pipeline.ucRefs τ sig) (W6 m ρ c) ∗ R c)
  post c := iprop(StableHlo.held (c : Thr) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec5 c (V6 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V6 m ρ c) (A_eq5 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V6 m ρ c) (V7 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ),
    .region (reg5 m ρ),
    .host (hseg hostOps6 hostOps6_sub hostOps6_fresh (W7 m ρ)) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
theorem frame : θ_run defs (onTc (τ := τ) (main (F := F))) ⟨m, fun _ => 0, ρ⟩ (fun r => (∀ c : Dev nD,
      r.2.mem ((c.tc : Thr).loc main_arg0) = m ((c.tc : Thr).loc main_arg0)
      ∧ r.2.mem ((c.tc : Thr).loc main_arg1) = m ((c.tc : Thr).loc main_arg1)
      ∧ r.2.mem ((c.tc : Thr).loc main_arg2) = m ((c.tc : Thr).loc main_arg2)
      ∧ r.2.mem ((c.tc : Thr).loc main_arg3) = m ((c.tc : Thr).loc main_arg3)
      ∧ r.2.mem ((c.tc : Thr).loc main_arg4) = m ((c.tc : Thr).loc main_arg4)
      ∧ r.2.mem ((c.tc : Thr).loc main_arg5) = m ((c.tc : Thr).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thr) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thr).loc b)) = StableHlo.held (c : Thr) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thr)).1, b) = W8 m ρ c b)
    (hfin := fun c s' => by
      iintro ⟨⟨Hh, -⟩, HSI⟩
      unfold StableHlo.held
      imodintro
      iapply (pointsTo_read_all (Pipeline.ucRefs τ sig) (fun b => (((c : Thr)).1, b)) (W8 m ρ c) s')
      isplitl [Hh] <;> iassumption)
    (hQ := fun s h hz => ⟨(fun c =>
      ⟨(h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩), funext fun g => hz g (.inr (no_unscoped g.2))⟩)

theorem unchanged : θ_run defs (onTc (τ := τ) (main (F := F))) ⟨m, fun _ => 0, ρ⟩ (fun r => ∀ c : Dev nD,
      r.2.mem ((c.tc : Thr).loc main_arg0) = m ((c.tc : Thr).loc main_arg0)
      ∧ r.2.mem ((c.tc : Thr).loc main_arg1) = m ((c.tc : Thr).loc main_arg1)
      ∧ r.2.mem ((c.tc : Thr).loc main_arg2) = m ((c.tc : Thr).loc main_arg2)
      ∧ r.2.mem ((c.tc : Thr).loc main_arg3) = m ((c.tc : Thr).loc main_arg3)
      ∧ r.2.mem ((c.tc : Thr).loc main_arg4) = m ((c.tc : Thr).loc main_arg4)
      ∧ r.2.mem ((c.tc : Thr).loc main_arg5) = m ((c.tc : Thr).loc main_arg5)) :=
  (θ_run defs _ _).mono (fun _ h => h.1) (frame m ρ)

end Cert.KernelIdeal.Own
end
-- ==== Proof.Results.lean ====
module

public import proofs.«01_k».proof.Proof.KernelIdealRun
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! What the whole program leaves in its results. -/

@[expose] public section

set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the results hold after the run: the last valuation at their references. -/
theorem results : θ_run defs (onTc (τ := τ) (main (F := F))) ⟨m, fun _ => 0, ρ⟩ (fun r => ∀ c : Dev nD,
      r.2.mem ((c.tc : Thread nD τ).loc main_v7) = W8 m ρ c (Proc.devRef .tc main_v7)
      ∧ r.2.mem ((c.tc : Thread nD τ).loc main_v8) = W8 m ρ c (Proc.devRef .tc main_v8)
      ∧ r.2.mem ((c.tc : Thread nD τ).loc main_v9) = W8 m ρ c (Proc.devRef .tc main_v9)
      ∧ r.2.mem ((c.tc : Thread nD τ).loc main_v5) = W8 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨h c _ (mem_uc main_v7 (by decide)),
       h c _ (mem_uc main_v8 (by decide)),
       h c _ (mem_uc main_v9 (by decide)),
       h c _ (mem_uc main_v5 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Own
end
-- ==== Proof.Products.lean ====
/- The four products: what each region leaves in its result array. -/
module

public import proofs.«01_k».proof.Proof.KernelIdealRegA
public import proofs.«01_k».proof.Proof.KernelIdealRegB
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Own

variable (V : (c : Dev nD) → (b : Ref sig .tc) → Buf (Elt Ideal) ((c : Thread nD τ).loc b))

/-- The block product of region 0. -/
theorem pay0_apply (a : Vec Ideal S2048x1024 .bf16) (b : Vec Ideal S1024x1024 .bf16) (z : Fin 1) (r : Fin 2048)
    (l : Fin 1024) :
    k0_pay1 a b (ix3 z r l) = ∑ k : Fin 1024, a (ix2 r k) * b (ix2 k l) := by
  pointwise [k0_pay1]

/-- What region 0 writes: the product of the rows of `h` with the columns of the up weights, gate columns in plane 0,
    value columns in plane 1. -/
def upOf (h : FVec Ideal S2048x1024 .bf16) (w : FVec Ideal S1024x8192 .bf16) : FVec Ideal S2x2048x4096 .bf16 :=
  fun i => ∑ k : Fin 1024, h (ix2 (i 1) k) * w (ix2 k ⟨(i 0).val * 4096 + (i 2).val, by
    have h0 : (i 0).val < 2 := (i 0).isLt
    have h2 : (i 2).val < 4096 := (i 2).isLt
    omega⟩)

theorem index0_0 : ∀ t : Fin grid0.N, win0_0.index t = ![0, 0] := by decide +kernel
theorem index0_1 : ∀ t : Fin grid0.N, win0_1.index t = ![0, t.val] := by decide +kernel
theorem index0_2 : ∀ t : Fin grid0.N, win0_2.index t = ![t.val / 4, 0, t.val % 4] := by decide +kernel

theorem arr0 (c : Dev nD) :
    (dat0 V c).arrAt 2 cfg0.N = upOf (V c main_arg0) (V c main_arg1) := by
  refine (dat0 V c).arrAt_eq_of_covers 2 _ (by decide +kernel) fun t hf y => ?_
  blk_simp
  rw [after0_2]
  unfold outsAt0 out0_A_2
  frame_out
  obtain ⟨z, r, l, rfl⟩ : ∃ (z : Fin 1) (r : Fin 2048) (l : Fin 1024), y = ix3 z r l := ⟨y 0, y 1, y 2, eq_ix3 y⟩
  rw [pay0_apply]
  unfold upOf
  blk_point [iblk0, index0_0 t, index0_1 t, index0_2 t]

/-! Region 2: the down product's gradient at its input; region 3: its weights'; region 5: the up weights'. -/

theorem pay2_apply (a : Vec Ideal S2048x1024 .bf16) (b : Vec Ideal S1024x1024 .bf16) (r : Fin 2048) (l : Fin 1024) :
    k2_pay1 a b (ix2 r l) = ∑ k : Fin 1024, a (ix2 r k) * b (ix2 l k) := by
  pointwise [k2_pay1]

theorem pay3_apply (a b : Vec Ideal S2048x1024 .bf16) (r l : Fin 1024) :
    k3_pay1 a b (ix2 r l) = ∑ k : Fin 2048, a (ix2 k r) * b (ix2 k l) := by
  pointwise [k3_pay1]

theorem pay5_apply (a : Vec Ideal S2048x1024 .bf16) (b : Vec Ideal S1x2048x1024 .bf16) (r l : Fin 1024) :
    k5_pay1 a b (ix2 r l) = ∑ k : Fin 2048, a (ix2 k r) * b (ix3 0 k l) := by
  pointwise [k5_pay1]

def downX (d : FVec Ideal S2048x1024 .bf16) (w : FVec Ideal S4096x1024 .bf16) : FVec Ideal S2048x4096 .bf16 :=
  fun i => ∑ k : Fin 1024, d (ix2 (i 0) k) * w (ix2 (i 1) k)

def downW (a : FVec Ideal S2048x4096 .bf16) (d : FVec Ideal S2048x1024 .bf16) : FVec Ideal S4096x1024 .bf16 :=
  fun i => ∑ k : Fin 2048, a (ix2 k (i 0)) * d (ix2 k (i 1))

/-- The plane and the lane of a column of the 8192: gate columns in plane 0, value columns in plane 1. -/
def plane (j : Fin 8192) : Fin 2 := ⟨j.val / 4096, by omega⟩
def lane (j : Fin 8192) : Fin 4096 := ⟨j.val % 4096, by omega⟩

def upW (h : FVec Ideal S2048x1024 .bf16) (g : FVec Ideal S2x2048x4096 .bf16) : FVec Ideal S1024x8192 .bf16 :=
  fun i => ∑ k : Fin 2048, h (ix2 k (i 0)) * g (ix3 (plane (i 1)) k (lane (i 1)))

theorem index2_0 : ∀ t : Fin grid2.N, win2_0.index t = ![0, 0] := by decide +kernel
theorem index2_1 : ∀ t : Fin grid2.N, win2_1.index t = ![t.val, 0] := by decide +kernel
theorem index2_2 : ∀ t : Fin grid2.N, win2_2.index t = ![0, t.val] := by decide +kernel
theorem index3_0 : ∀ t : Fin grid3.N, win3_0.index t = ![0, t.val] := by decide +kernel
theorem index3_1 : ∀ t : Fin grid3.N, win3_1.index t = ![0, 0] := by decide +kernel
theorem index3_2 : ∀ t : Fin grid3.N, win3_2.index t = ![t.val, 0] := by decide +kernel
theorem index5_0 : ∀ t : Fin grid5.N, win5_0.index t = ![0, 0] := by decide +kernel
theorem index5_1 : ∀ t : Fin grid5.N, win5_1.index t = ![t.val / 4, 0, t.val % 4] := by decide +kernel
theorem index5_2 : ∀ t : Fin grid5.N, win5_2.index t = ![0, t.val] := by decide +kernel

theorem arr2 (c : Dev nD) :
    (dat2 V c).arrAt 2 cfg2.N = downX (V c main_arg5) (V c main_arg4) := by
  refine (dat2 V c).arrAt_eq_of_covers 2 _ (by decide +kernel) fun t hf y => ?_
  blk_simp
  rw [after2_2]
  unfold outsAt2 out2_A_2
  frame_out
  obtain ⟨r, l, rfl⟩ : ∃ (r : Fin 2048) (l : Fin 1024), y = ix2 r l := ⟨y 0, y 1, eq_ix2 y⟩
  rw [pay2_apply]
  unfold downX
  blk_point [iblk2, index2_0 t, index2_1 t, index2_2 t]

theorem arr3 (c : Dev nD) :
    (dat3 V c).arrAt 2 cfg3.N = downW (V c main_v3_0) (V c main_arg5) := by
  refine (dat3 V c).arrAt_eq_of_covers 2 _ (by decide +kernel) fun t hf y => ?_
  blk_simp
  rw [after3_2]
  unfold outsAt3 out3_A_2
  frame_out
  obtain ⟨r, l, rfl⟩ : ∃ (r : Fin 1024) (l : Fin 1024), y = ix2 r l := ⟨y 0, y 1, eq_ix2 y⟩
  rw [pay3_apply]
  unfold downW
  blk_point [iblk3, index3_0 t, index3_1 t, index3_2 t]

theorem arr5 (c : Dev nD) :
    (dat5 V c).arrAt 2 cfg5.N = upW (V c main_arg0) (V c main_v6_0) := by
  refine (dat5 V c).arrAt_eq_of_covers 2 _ (by decide +kernel) fun t hf y => ?_
  blk_simp
  rw [after5_2]
  unfold outsAt5 out5_A_2
  frame_out
  obtain ⟨r, l, rfl⟩ : ∃ (r : Fin 1024) (l : Fin 1024), y = ix2 r l := ⟨y 0, y 1, eq_ix2 y⟩
  rw [pay5_apply]
  unfold upW plane lane
  blk_point [iblk5, index5_0 t, index5_1 t, index5_2 t]

end Cert.KernelIdeal.Value
end
-- ==== Proof.Act.lean ====
/- The convolution and the activation of the FFN: what region 1's payloads are at an index. -/
module

public import proofs.«01_k».proof.Proof.KernelIdealRegA
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen

/-- Row `r - n` of a chunk whose 8 rows before it are the tail's last. -/
def chunkUp (cur : FVec Ideal S64x256 .f32) (tail : FVec Ideal S8x256 .f32) (n : ℕ) (r : Fin 64) (l : Fin 256) : EReal :=
  if h : r.val < n then tail (ix2 (⟨(8 + r.val - n) % 8, Nat.mod_lt _ (by decide)⟩ : Fin 8) l)
  else cur (ix2 (⟨r.val - n, by omega⟩ : Fin 64) l)

theorem pay3_apply1 (v : Vec Ideal S1x64x256 .bf16) (r : Fin 64) (l : Fin 256) :
    k1_pay3 v (ix2 r l) = v (ix3 0 r l) := by
  pointwise [k1_pay3]

theorem sel_slt {α : Type} (r n : ℕ) (hr : r < 64) (hn : n < 64) (a b : α) :
    Scalar.select (IntOp.cmpi .slt (BitVec.ofNat 32 r) (BitVec.ofNat 32 n)) a b = if r < n then a else b := by
  have e : IntOp.cmpi .slt (BitVec.ofNat 32 r) (BitVec.ofNat 32 n) = if r < n then 1#1 else 0#1 := by
    interval_cases r <;> interval_cases n <;> rfl
  rw [e]; split <;> rfl

theorem sel_trip {α : Type} (k : ℕ) (hk : k < 32) (a b : α) :
    Scalar.select (Scalar.cmpi .sgt (Scf.iv 0#32 1#32 k) 0#32) a b = if 0 < k then a else b := by
  have e : Scalar.cmpi .sgt (Scf.iv 0#32 1#32 k) 0#32 = if 0 < k then 1#1 else 0#1 := by
    interval_cases k <;> rfl
  rw [e]; split <;> rfl

theorem trips1 (k : Fin k1_t1_loop.trips) : k.val < 32 := Nat.lt_of_lt_of_le k.isLt k1_t1_abs.2.1

theorem pay4_apply1 (k : Fin k1_t1_loop.trips) (v : Vec Ideal S1x16x256 .bf16) (r : Fin 8) (l : Fin 256) :
    k1_pay4 0#32 1#32 k v (ix2 r l) = if 0 < k.val then v (ix3 0 ⟨8 + r.val, by omega⟩ l) else 0 := by
  pointwise [k1_pay4]
  exact sel_trip _ (trips1 k) _ _

theorem pay9_apply1 (k : Fin k1_t1_loop.trips) (v : Vec Ideal S1x16x256 .bf16) (r : Fin 8) (l : Fin 256) :
    k1_pay9 (Scf.iv 0#32 1#32 k) v (ix2 r l) = if 0 < k.val then v (ix3 0 ⟨8 + r.val, by omega⟩ l) else 0 := by
  pointwise [k1_pay9]
  exact sel_trip _ (trips1 k) _ _

theorem chunkUp_eq (cur : FVec Ideal S64x256 .f32) (tail : FVec Ideal S8x256 .f32) (n : ℕ) (hn : n < 8) (r : Fin 64) (l : Fin 256) :
    (if h : r.val < 8 then
      Scalar.select (IntOp.cmpi .slt (BitVec.ofNat 32 r.val) (BitVec.ofNat 32 n))
        (tail (ix2 (⟨(r.val + 8 - n) % 8, Nat.mod_lt _ (by decide)⟩ : Fin 8) l))
        (cur (ix2 (⟨(r.val + 64 - n) % 64, Nat.mod_lt _ (by decide)⟩ : Fin 64) l))
    else cur (ix2 (⟨(8 + (r.val - 8) + 64 - n) % 64, Nat.mod_lt _ (by decide)⟩ : Fin 64) l))
      = chunkUp cur tail n r l := by
  unfold chunkUp
  rw [sel_slt _ _ r.isLt (by omega)]
  split_ifs with h1 h2 h3
  · congr 3; omega
  · congr 3; omega
  · omega
  · congr 3; omega

theorem pay5_apply1 (k : Fin k1_t1_loop.trips) (v : Vec Ideal S1x64x256 .bf16) (t : Vec Ideal S1x16x256 .bf16) (r : Fin 64) (l : Fin 256) :
    k1_pay5 0#32 1#32 k v t (ix2 r l) = chunkUp (k1_pay3 v) (k1_pay4 0#32 1#32 k t) 1 r l := by
  pointwise [k1_pay5]
  exact chunkUp_eq _ _ 1 (by decide) r l

theorem pay6_apply1 (k : Fin k1_t1_loop.trips) (v : Vec Ideal S1x64x256 .bf16) (t : Vec Ideal S1x16x256 .bf16) (w : Vec Ideal S1x1x256 .f32) (r : Fin 64) (l : Fin 256) :
    k1_pay6 0#32 1#32 k v t w (ix2 r l) = w (ix3 0 0 l) * chunkUp (k1_pay3 v) (k1_pay4 0#32 1#32 k t) 2 r l := by
  pointwise [k1_pay6]
  exact congrArg _ (chunkUp_eq _ _ 2 (by decide) r l)

theorem pay7_apply1 (v6 v26 v39 : FVec Ideal S64x256 .f32) (v40 v45 : Vec Ideal S1x1x256 .f32) (v50 : Vec Ideal S1x256 .f32) (r : Fin 64) (l : Fin 256) :
    k1_pay7 v6 v26 v39 v40 v45 v50 (ix2 r l)
      = v39 (ix2 r l) + v40 (ix3 0 0 l) * v26 (ix2 r l) + v45 (ix3 0 0 l) * v6 (ix2 r l) + v50 (ix2 0 l) := by
  pointwise [k1_pay7]

theorem pay8_apply1 (v : Vec Ideal S1x64x256 .bf16) (r : Fin 64) (l : Fin 256) :
    k1_pay8 v (ix2 r l) = v (ix3 0 r l) := by
  pointwise [k1_pay8]

theorem pay10_apply1 (k : Fin k1_t1_loop.trips) (v : Vec Ideal S1x64x256 .bf16) (t : Vec Ideal S1x16x256 .bf16) (r : Fin 64) (l : Fin 256) :
    k1_pay10 (Scf.iv 0#32 1#32 k) v t (ix2 r l) = chunkUp (k1_pay8 v) (k1_pay9 (Scf.iv 0#32 1#32 k) t) 1 r l := by
  pointwise [k1_pay10]
  exact chunkUp_eq _ _ 1 (by decide) r l

theorem pay11_apply1 (v59 : FVec Ideal S64x256 .f32) (v70 : FVec Ideal S8x256 .f32) (v79 : FVec Ideal S64x256 .f32)
    (v89 v93 v98 : Vec Ideal S1x1x256 .f32) (v103 : Vec Ideal S1x256 .f32) (r : Fin 64) (l : Fin 256) :
    k1_pay11 v59 v70 v79 (iota .tc S8x256 32 [0] iota_S8x256_d0_w32) 2#32 v89 v93 v98 v103 (ix2 r l)
      = v89 (ix3 0 0 l) * chunkUp v59 v70 2 r l + v93 (ix3 0 0 l) * v79 (ix2 r l) + v98 (ix3 0 0 l) * v59 (ix2 r l)
        + v103 (ix2 0 l) := by
  pointwise [k1_pay11]
  rw [← chunkUp_eq _ _ 2 (by decide) r l]

/-- The activation of a gate value: the tanh form of gelu, as the kernel writes it. -/
def geluK (y : EReal) : EReal :=
  Ideal.ofBits .f32 0x3F000000#32 * y *
    (1 + Ideal.tanh (Ideal.ofBits .f32 0x3F4C422A#32 * (y + Named.named (F := Ideal) (φ := .f32) κ "gelu_c" 0x3D372713#32 * y * y * y)))

theorem pay12_apply1 (v53 : FVec Ideal S64x256 .f32) (v59 : FVec Ideal S64x256 .f32) (v70 : FVec Ideal S8x256 .f32) (v79 : FVec Ideal S64x256 .f32)
    (i : IVec S8x256 32) (s : BitVec 32)
    (v89 v93 v98 : Vec Ideal S1x1x256 .f32) (v103 : Vec Ideal S1x256 .f32) (r : Fin 64) (l : Fin 256) :
    k1_pay12 v53 v59 v70 v79 i s v89 v93 v98 v103 (ix2 r l)
      = geluK (v53 (ix2 r l)) * k1_pay11 v59 v70 v79 i s v89 v93 v98 v103 (ix2 r l) := by
  pointwise [k1_pay12]
  rfl

theorem off1_1 : ∀ k : Fin k1_t1_loop.trips, k1_off1 k = ![0, 64 * k.val, 0] := by decide +kernel
theorem off1_2 : ∀ k : Fin k1_t1_loop.trips, k1_off2 k = ![0, 64 * k.val - 16, 0] := by decide +kernel
theorem off1_3 : ∀ k : Fin k1_t1_loop.trips, k1_off3 k = ![1, 64 * k.val, 0] := by decide +kernel
theorem off1_4 : ∀ k : Fin k1_t1_loop.trips, k1_off4 k = ![1, 64 * k.val - 16, 0] := by decide +kernel
theorem off1_5 : ∀ k : Fin k1_t1_loop.trips, k1_off5 k = ![64 * k.val, 0] := by decide +kernel

section
variable (x0 : Vec Ideal S2x2048x256 .bf16) (x1 : Vec Ideal S3x2x256 .f32) (x2 : Vec Ideal S2x256 .f32) (k : Fin k1_t1_loop.trips)

abbrev ldC0 : Vec Ideal S1x64x256 .bf16 := View.ld x0 (Rect.unit (k1_off1 k) S1x64x256.size (k1_off1_inb k))
abbrev ldT0 : Vec Ideal S1x16x256 .bf16 := View.ld x0 (Rect.unit (k1_off2 k) S1x16x256.size (k1_off2_inb k))
abbrev ldC1 : Vec Ideal S1x64x256 .bf16 := View.ld x0 (Rect.unit (k1_off3 k) S1x64x256.size (k1_off3_inb k))
abbrev ldT1 : Vec Ideal S1x16x256 .bf16 := View.ld x0 (Rect.unit (k1_off4 k) S1x16x256.size (k1_off4_inb k))

/-- The gate half of the convolution in chunk `k`. -/
def convG : FVec Ideal S64x256 .f32 :=
  k1_pay7 (k1_pay3 (ldC0 x0 k)) (k1_pay5 0#32 1#32 k (ldC0 x0 k) (ldT0 x0 k))
    (k1_pay6 0#32 1#32 k (ldC0 x0 k) (ldT0 x0 k) (View.ld x1 (Rect.unit ![0, 0, 0] S1x1x256.size inb_S3x2x256_S1x1x256_0_0_0)))
    (View.ld x1 (Rect.unit ![1, 0, 0] S1x1x256.size inb_S3x2x256_S1x1x256_1_0_0))
    (View.ld x1 (Rect.unit ![2, 0, 0] S1x1x256.size inb_S3x2x256_S1x1x256_2_0_0))
    (View.ld x2 (Rect.unit ![0, 0] S1x256.size inb_S2x256_S1x256_0_0))

/-- The value half of the convolution in chunk `k`. -/
def convV : FVec Ideal S64x256 .f32 :=
  k1_pay11 (k1_pay8 (ldC1 x0 k)) (k1_pay9 (Scf.iv 0#32 1#32 k) (ldT1 x0 k))
    (k1_pay10 (Scf.iv 0#32 1#32 k) (ldC1 x0 k) (ldT1 x0 k)) (iota .tc S8x256 32 [0] iota_S8x256_d0_w32) 2#32
    (View.ld x1 (Rect.unit ![0, 1, 0] S1x1x256.size inb_S3x2x256_S1x1x256_0_1_0))
    (View.ld x1 (Rect.unit ![1, 1, 0] S1x1x256.size inb_S3x2x256_S1x1x256_1_1_0))
    (View.ld x1 (Rect.unit ![2, 1, 0] S1x1x256.size inb_S3x2x256_S1x1x256_2_1_0))
    (View.ld x2 (Rect.unit ![1, 0] S1x256.size inb_S2x256_S1x256_1_0))

/-- The activation in chunk `k`. -/
def actC : FVec Ideal S64x256 .bf16 :=
  k1_pay12 (convG x0 x1 x2 k) (k1_pay8 (ldC1 x0 k)) (k1_pay9 (Scf.iv 0#32 1#32 k) (ldT1 x0 k))
    (k1_pay10 (Scf.iv 0#32 1#32 k) (ldC1 x0 k) (ldT1 x0 k)) (iota .tc S8x256 32 [0] iota_S8x256_d0_w32) 2#32
    (View.ld x1 (Rect.unit ![0, 1, 0] S1x1x256.size inb_S3x2x256_S1x1x256_0_1_0))
    (View.ld x1 (Rect.unit ![1, 1, 0] S1x1x256.size inb_S3x2x256_S1x1x256_1_1_0))
    (View.ld x1 (Rect.unit ![2, 1, 0] S1x1x256.size inb_S3x2x256_S1x1x256_2_1_0))
    (View.ld x2 (Rect.unit ![1, 0] S1x256.size inb_S2x256_S1x256_1_0))

theorem tripL1g (c : Dev nD) (i : grid1.Coords) (arg1 : Memref sig .tc .vmem S2x2048x256 .bf16) (harg1 : arg1.IsWhole) (arg2 : Memref sig .tc .vmem S3x2x256 .f32) (harg2 : arg2.IsWhole) (arg3 : Memref sig .tc .vmem S2x256 .f32) (harg3 : arg3.IsWhole) (arg4 : Memref sig .tc .vmem S2048x256 .bf16) (harg4 : arg4.IsWhole) (arg5 : Memref sig .tc .vmem S2x2048x256 .bf16) (harg5 : arg5.IsWhole) :
    ∀ (X1 : BufTy.Contents (Elt Ideal) arg1.view.ty) (X2 : BufTy.Contents (Elt Ideal) arg2.view.ty) (X3 : BufTy.Contents (Elt Ideal) arg3.view.ty),
    tripL_k1_t1 (F := Ideal) Variants.none c none i arg1 harg1 arg2 harg2 arg3 harg3 arg4 harg4 arg5 harg5 X1 X2 X3 k
      = ([⟨Rect.unit (s := S2048x256) (k1_off5 k) S64x256.size (k1_off5_inb k), actC (arg1.view.read (Elt Ideal) X1) (arg2.view.read (Elt Ideal) X2) (arg3.view.read (Elt Ideal) X3) k⟩],
         [⟨Rect.unit (s := S2x2048x256) (k1_off3 k) S1x64x256.size (k1_off3_inb k), k1_pay2 (convV (arg1.view.read (Elt Ideal) X1) (arg2.view.read (Elt Ideal) X2) (arg3.view.read (Elt Ideal) X3) k)⟩,
          ⟨Rect.unit (s := S2x2048x256) (k1_off1 k) S1x64x256.size (k1_off1_inb k), k1_pay1 (convG (arg1.view.read (Elt Ideal) X1) (arg2.view.read (Elt Ideal) X2) (arg3.view.read (Elt Ideal) X3) k)⟩]) := by
  intro X1 X2 X3
  unfold tripL_k1_t1 trip_k1_t1
  rfl

theorem tripL1 (c : Dev nD) (i : grid1.Coords) (arg1 : Memref sig .tc .vmem S2x2048x256 .bf16) (harg1 : arg1.IsWhole) (arg2 : Memref sig .tc .vmem S3x2x256 .f32) (harg2 : arg2.IsWhole) (arg3 : Memref sig .tc .vmem S2x256 .f32) (harg3 : arg3.IsWhole) (arg4 : Memref sig .tc .vmem S2048x256 .bf16) (harg4 : arg4.IsWhole) (arg5 : Memref sig .tc .vmem S2x2048x256 .bf16) (harg5 : arg5.IsWhole) :
    tripL_k1_t1 (F := Ideal) Variants.none c none i arg1 harg1 arg2 harg2 arg3 harg3 arg4 harg4 arg5 harg5 (harg1.unread x0) (harg2.unread x1) (harg3.unread x2) k
      = ([⟨Rect.unit (s := S2048x256) (k1_off5 k) S64x256.size (k1_off5_inb k), actC x0 x1 x2 k⟩],
         [⟨Rect.unit (s := S2x2048x256) (k1_off3 k) S1x64x256.size (k1_off3_inb k), k1_pay2 (convV x0 x1 x2 k)⟩,
          ⟨Rect.unit (s := S2x2048x256) (k1_off1 k) S1x64x256.size (k1_off1_inb k), k1_pay1 (convG x0 x1 x2 k)⟩]) := by
  rw [tripL1g, harg1.read_unread, harg2.read_unread, harg3.read_unread]

/-- Row `R - n` of plane `p` of a block; zero before the first. -/
def upB (p : Fin 2) (R : Fin 2048) (n : ℕ) (l : Fin 256) : EReal :=
  if n ≤ R.val then x0 (ix3 p (⟨R.val - n, by omega⟩ : Fin 2048) l) else 0

def convB (p : Fin 2) (R : Fin 2048) (l : Fin 256) : EReal :=
  x1 (ix3 0 p l) * upB x0 p R 2 l + x1 (ix3 1 p l) * upB x0 p R 1 l + x1 (ix3 2 p l) * x0 (ix3 p R l) + x2 (ix2 p l)

def rowK (r : Fin 64) : Fin 2048 := ⟨64 * k.val + r.val, by have := trips1 k; omega⟩

theorem ldC0_apply (r : Fin 64) (l : Fin 256) : ldC0 x0 k (ix3 0 r l) = x0 (ix3 0 (rowK k r) l) := by
  refine View.ld_unit_apply_of _ _ _ _ _ _ fun a => ?_
  have e := off1_1 k
  fin_cases a <;> simp [e, rowK]

theorem ldC1_apply (r : Fin 64) (l : Fin 256) : ldC1 x0 k (ix3 0 r l) = x0 (ix3 1 (rowK k r) l) := by
  refine View.ld_unit_apply_of _ _ _ _ _ _ fun a => ?_
  have e := off1_3 k
  fin_cases a <;> simp [e, rowK]

theorem ldT0_apply (hk : 0 < k.val) (r : Fin 8) (l : Fin 256) :
    ldT0 x0 k (ix3 0 (⟨8 + r.val, by omega⟩ : Fin 16) l) = x0 (ix3 0 (⟨64 * k.val + r.val - 8, by have := trips1 k; omega⟩ : Fin 2048) l) := by
  refine View.ld_unit_apply_of _ _ _ _ _ _ fun a => ?_
  have e := off1_2 k
  fin_cases a <;> simp [e] <;> omega

theorem ldT1_apply (hk : 0 < k.val) (r : Fin 8) (l : Fin 256) :
    ldT1 x0 k (ix3 0 (⟨8 + r.val, by omega⟩ : Fin 16) l) = x0 (ix3 1 (⟨64 * k.val + r.val - 8, by have := trips1 k; omega⟩ : Fin 2048) l) := by
  refine View.ld_unit_apply_of _ _ _ _ _ _ fun a => ?_
  have e := off1_4 k
  fin_cases a <;> simp [e] <;> omega

theorem up0 (n : ℕ) (hn : n < 8) (r : Fin 64) (l : Fin 256) :
    chunkUp (k1_pay3 (ldC0 x0 k)) (k1_pay4 0#32 1#32 k (ldT0 x0 k)) n r l = upB x0 0 (rowK k r) n l := by
  unfold chunkUp upB
  have hr : (rowK k r).val = 64 * k.val + r.val := rfl
  split_ifs with h1 h2 h2
  · rw [pay4_apply1, if_pos (by omega), ldT0_apply _ _ (by omega)]
    exact congrArg (fun q => x0 (ix3 0 q l)) (Fin.ext (by simp only [rowK]; omega))
  · rw [pay4_apply1, if_neg (by omega)]
  · rw [pay3_apply1, ldC0_apply]
    exact congrArg (fun q => x0 (ix3 0 q l)) (Fin.ext (by simp only [rowK]; omega))
  · omega

theorem up1 (n : ℕ) (hn : n < 8) (r : Fin 64) (l : Fin 256) :
    chunkUp (k1_pay8 (ldC1 x0 k)) (k1_pay9 (Scf.iv 0#32 1#32 k) (ldT1 x0 k)) n r l = upB x0 1 (rowK k r) n l := by
  unfold chunkUp upB
  have hr : (rowK k r).val = 64 * k.val + r.val := rfl
  split_ifs with h1 h2 h2
  · rw [pay9_apply1, if_pos (by omega), ldT1_apply _ _ (by omega)]
    exact congrArg (fun q => x0 (ix3 1 q l)) (Fin.ext (by simp only [rowK]; omega))
  · rw [pay9_apply1, if_neg (by omega)]
  · rw [pay8_apply1, ldC1_apply]
    exact congrArg (fun q => x0 (ix3 1 q l)) (Fin.ext (by simp only [rowK]; omega))
  · omega

theorem ldW {q : Fin 3} {p : Fin 2} (off : Fin 3 → ℕ) (inb) (h : off = ![q.val, p.val, 0]) (l : Fin 256) :
    (View.ld x1 (Rect.unit off S1x1x256.size inb) : Vec Ideal S1x1x256 .f32) (ix3 0 0 l) = x1 (ix3 q p l) := by
  refine View.ld_unit_apply_of _ _ _ _ _ _ fun a => ?_
  subst h; fin_cases a <;> simp

theorem ldBias {p : Fin 2} (off : Fin 2 → ℕ) (inb) (h : off = ![p.val, 0]) (l : Fin 256) :
    (View.ld x2 (Rect.unit off S1x256.size inb) : Vec Ideal S1x256 .f32) (ix2 0 l) = x2 (ix2 p l) := by
  refine View.ld_unit_apply_of _ _ _ _ _ _ fun a => ?_
  subst h; fin_cases a <;> simp

theorem convG_apply (r : Fin 64) (l : Fin 256) : convG x0 x1 x2 k (ix2 r l) = convB x0 x1 x2 0 (rowK k r) l := by
  unfold convG convB
  rw [pay7_apply1, pay6_apply1, pay5_apply1, up0 _ _ 2 (by decide), up0 _ _ 1 (by decide), pay3_apply1, ldC0_apply,
    ldW (q := 0) (p := 0) _ ![0, 0, 0] _ rfl, ldW (q := 1) (p := 0) _ ![1, 0, 0] _ rfl, ldW (q := 2) (p := 0) _ ![2, 0, 0] _ rfl, ldBias (p := 0) _ ![0, 0] _ rfl]

theorem convV_apply (r : Fin 64) (l : Fin 256) : convV x0 x1 x2 k (ix2 r l) = convB x0 x1 x2 1 (rowK k r) l := by
  unfold convV convB
  rw [pay11_apply1, pay10_apply1, up1 _ _ 2 (by decide), up1 _ _ 1 (by decide), pay8_apply1, ldC1_apply,
    ldW (q := 0) (p := 1) _ ![0, 1, 0] _ rfl, ldW (q := 1) (p := 1) _ ![1, 1, 0] _ rfl, ldW (q := 2) (p := 1) _ ![2, 1, 0] _ rfl, ldBias (p := 1) _ ![1, 0] _ rfl]

theorem actC_apply (r : Fin 64) (l : Fin 256) :
    actC x0 x1 x2 k (ix2 r l) = geluK (convB x0 x1 x2 0 (rowK k r) l) * convB x0 x1 x2 1 (rowK k r) l := by
  unfold actC
  rw [pay12_apply1, convG_apply]
  exact congrArg _ (convV_apply x0 x1 x2 k r l)

theorem pay1_apply1 (v : FVec Ideal S64x256 .f32) (r : Fin 64) (l : Fin 256) : k1_pay1 v (ix3 0 r l) = v (ix2 r l) := by
  pointwise [k1_pay1]
theorem pay2_apply1 (v : FVec Ideal S64x256 .f32) (r : Fin 64) (l : Fin 256) : k1_pay2 v (ix3 0 r l) = v (ix2 r l) := by
  pointwise [k1_pay2]

/-- Along the trips, every piece of the activation agrees with the activation of the whole block, and every piece of the
    convolution with the block's convolution. -/
theorem pieces1 (c : Dev nD) (i : grid1.Coords) (arg1 : Memref sig .tc .vmem S2x2048x256 .bf16) (harg1 : arg1.IsWhole) (arg2 : Memref sig .tc .vmem S3x2x256 .f32) (harg2 : arg2.IsWhole) (arg3 : Memref sig .tc .vmem S2x256 .f32) (harg3 : arg3.IsWhole) (arg4 : Memref sig .tc .vmem S2048x256 .bf16) (harg4 : arg4.IsWhole) (arg5 : Memref sig .tc .vmem S2x2048x256 .bf16) (harg5 : arg5.IsWhole) :
    ∀ n : ℕ, n ≤ k1_t1_loop.trips →
    (∀ R l, View.AllAt (pb_k1_t1 (F := Ideal) Variants.none c none i arg1 harg1 arg2 harg2 arg3 harg3 arg4 harg4 arg5 harg5 (harg1.unread x0) (harg2.unread x1) (harg3.unread x2) n).1
        (ix2 R l) (geluK (convB x0 x1 x2 0 R l) * convB x0 x1 x2 1 R l)) ∧
    (∀ p R l, View.AllAt (pb_k1_t1 (F := Ideal) Variants.none c none i arg1 harg1 arg2 harg2 arg3 harg3 arg4 harg4 arg5 harg5 (harg1.unread x0) (harg2.unread x1) (harg3.unread x2) n).2
        (ix3 p R l) (convB x0 x1 x2 p R l)) := by
  intro n
  induction n with
  | zero => intro _; exact ⟨fun _ _ => View.allAt_nil _ _, fun _ _ _ => View.allAt_nil _ _⟩
  | succ n ih =>
    intro hn
    have hs := pb_k1_t1_succ (F := Ideal) Variants.none c none i arg1 harg1 arg2 harg2 arg3 harg3 arg4 harg4 arg5 harg5 (harg1.unread x0) (harg2.unread x1) (harg3.unread x2) ⟨n, hn⟩
    rw [tripL1] at hs
    obtain ⟨ih1, ih2⟩ := ih (by omega)
    rw [show (⟨n, hn⟩ : Fin k1_t1_loop.trips).val = n from rfl] at hs
    rw [hs]
    refine ⟨fun R l => ?_, fun p R l => ?_⟩
    · refine View.allAt_cons_unit _ _ _ _ _ (fun x hx => ?_) (ih1 R l)
      obtain ⟨r, l', rfl⟩ : ∃ (r : Fin 64) (l' : Fin 256), x = ix2 r l' := ⟨x 0, x 1, eq_ix2 x⟩
      rw [off1_5] at hx
      have h0 := hx 0; have h1 := hx 1
      simp at h0 h1
      obtain rfl : R = rowK ⟨n, hn⟩ r := Fin.ext h0
      obtain rfl : l = l' := Fin.ext h1
      exact actC_apply ..
    · refine View.allAt_cons_unit _ _ _ _ _ (fun x hx => ?_) (View.allAt_cons_unit _ _ _ _ _ (fun x hx => ?_) (ih2 p R l))
      · obtain ⟨z, r, l', rfl⟩ : ∃ (z : Fin 1) (r : Fin 64) (l' : Fin 256), x = ix3 z r l' := ⟨x 0, x 1, x 2, eq_ix3 x⟩
        rw [off1_3] at hx
        have h0 := hx 0; have h1 := hx 1; have h2 := hx 2
        simp at h0 h1 h2
        obtain rfl : R = rowK ⟨n, hn⟩ r := Fin.ext h1
        obtain rfl : l = l' := Fin.ext h2
        obtain rfl : p = 1 := Fin.ext (by simpa using h0)
        obtain rfl : z = 0 := Subsingleton.elim _ _
        exact (pay2_apply1 ..).trans (convV_apply ..)
      · obtain ⟨z, r, l', rfl⟩ : ∃ (z : Fin 1) (r : Fin 64) (l' : Fin 256), x = ix3 z r l' := ⟨x 0, x 1, x 2, eq_ix3 x⟩
        rw [off1_1] at hx
        have h0 := hx 0; have h1 := hx 1; have h2 := hx 2
        simp at h0 h1 h2
        obtain rfl : R = rowK ⟨n, hn⟩ r := Fin.ext h1
        obtain rfl : l = l' := Fin.ext h2
        obtain rfl : p = 0 := Fin.ext (by simpa using h0)
        obtain rfl : z = 0 := Subsingleton.elim _ _
        exact (pay1_apply1 ..).trans (convG_apply ..)
theorem out1_3_apply (c : Dev nD) (i : grid1.Coords) (arg1 : Memref sig .tc .vmem S2x2048x256 .bf16) (harg1 : arg1.IsWhole) (arg2 : Memref sig .tc .vmem S3x2x256 .f32) (harg2 : arg2.IsWhole) (arg3 : Memref sig .tc .vmem S2x256 .f32) (harg3 : arg3.IsWhole) (arg4 : Memref sig .tc .vmem S2048x256 .bf16) (harg4 : arg4.IsWhole) (arg5 : Memref sig .tc .vmem S2x2048x256 .bf16) (harg5 : arg5.IsWhole) (R : Fin 2048) (l : Fin 256) :
    Own.out1_A_3 c i arg1 harg1 arg2 harg2 arg3 harg3 arg4 harg4 arg5 harg5 x0 x1 x2 (ix2 R l) = geluK (convB x0 x1 x2 0 R l) * convB x0 x1 x2 1 R l := by
  unfold Own.out1_A_3
  rw [View.read_writes_eq_canon _ _ _ (Own.cover1_A_3 c i arg1 harg1 arg2 harg2 arg3 harg3 arg4 harg4 arg5 harg5 x0 x1 x2)]
  exact View.canon_eq_of_allAt _ _ _ (Own.cover1_A_3 c i arg1 harg1 arg2 harg2 arg3 harg3 arg4 harg4 arg5 harg5 x0 x1 x2 _)
    ((pieces1 x0 x1 x2 c i arg1 harg1 arg2 harg2 arg3 harg3 arg4 harg4 arg5 harg5 k1_t1_loop.trips le_rfl).1 R l)

theorem out1_4_apply (c : Dev nD) (i : grid1.Coords) (arg1 : Memref sig .tc .vmem S2x2048x256 .bf16) (harg1 : arg1.IsWhole) (arg2 : Memref sig .tc .vmem S3x2x256 .f32) (harg2 : arg2.IsWhole) (arg3 : Memref sig .tc .vmem S2x256 .f32) (harg3 : arg3.IsWhole) (arg4 : Memref sig .tc .vmem S2048x256 .bf16) (harg4 : arg4.IsWhole) (arg5 : Memref sig .tc .vmem S2x2048x256 .bf16) (harg5 : arg5.IsWhole) (p : Fin 2) (R : Fin 2048) (l : Fin 256) :
    Own.out1_A_4 c i arg1 harg1 arg2 harg2 arg3 harg3 arg4 harg4 arg5 harg5 x0 x1 x2 (ix3 p R l) = convB x0 x1 x2 p R l := by
  unfold Own.out1_A_4
  rw [View.read_writes_eq_canon _ _ _ (Own.cover1_A_4 c i arg1 harg1 arg2 harg2 arg3 harg3 arg4 harg4 arg5 harg5 x0 x1 x2)]
  exact View.canon_eq_of_allAt _ _ _ (Own.cover1_A_4 c i arg1 harg1 arg2 harg2 arg3 harg3 arg4 harg4 arg5 harg5 x0 x1 x2 _)
    ((pieces1 x0 x1 x2 c i arg1 harg1 arg2 harg2 arg3 harg3 arg4 harg4 arg5 harg5 k1_t1_loop.trips le_rfl).2 p R l)
end

/-- Row `R - n` of plane `p`; zero before the first. -/
def rowUp (u : FVec Ideal S2x2048x4096 .bf16) (p : Fin 2) (R : Fin 2048) (n : ℕ) (l : Fin 4096) : EReal :=
  if n ≤ R.val then u (ix3 p (⟨R.val - n, by omega⟩ : Fin 2048) l) else 0

/-- The depthwise causal convolution of width 3 along the rows. -/
def convOf (u : FVec Ideal S2x2048x4096 .bf16) (w : FVec Ideal S3x2x4096 .f32) (b : FVec Ideal S2x4096 .f32) :
    FVec Ideal S2x2048x4096 .bf16 :=
  fun i => w (ix3 0 (i 0) (i 2)) * rowUp u (i 0) (i 1) 2 (i 2) + w (ix3 1 (i 0) (i 2)) * rowUp u (i 0) (i 1) 1 (i 2)
    + w (ix3 2 (i 0) (i 2)) * u (ix3 (i 0) (i 1) (i 2)) + b (ix2 (i 0) (i 2))

/-- The gated activation: gelu of the gate plane times the value plane. -/
def actOf (y : FVec Ideal S2x2048x4096 .bf16) : FVec Ideal S2048x4096 .bf16 :=
  fun i => geluK (y (ix3 0 (i 0) (i 1))) * y (ix3 1 (i 0) (i 1))

theorem index1_0 : ∀ t : Fin grid1.N, win1_0.index t = ![0, 0, t.val] := by decide +kernel
theorem index1_1 : ∀ t : Fin grid1.N, win1_1.index t = ![0, 0, t.val] := by decide +kernel
theorem index1_2 : ∀ t : Fin grid1.N, win1_2.index t = ![0, t.val] := by decide +kernel
theorem index1_3 : ∀ t : Fin grid1.N, win1_3.index t = ![0, t.val] := by decide +kernel
theorem index1_4 : ∀ t : Fin grid1.N, win1_4.index t = ![0, 0, t.val] := by decide +kernel

variable (V : (c : Dev nD) → (b : Ref sig .tc) → Buf (Elt Ideal) ((c : Thread nD τ).loc b))

/-- Lane `l` of column block `t`. -/
def laneAt (t : Fin cfg1.N) (l : Fin 256) : Fin 4096 := ⟨t.val * 256 + l.val, by
  have h : t.val < 16 := t.isLt
  omega⟩

theorem conv_blk (c : Dev nD) (t : Fin cfg1.N) (p : Fin 2) (R : Fin 2048) (l : Fin 256) :
    convB (Own.iblk1 V c 0 t) (Own.iblk1 V c 1 t) (Own.iblk1 V c 2 t) p R l
      = convOf (V c main_v2) (V c main_v0) (V c main_v1) (ix3 p R (laneAt t l)) := by
  have hu : ∀ R : Fin 2048, Own.iblk1 V c 0 t (ix3 p R l) = V c main_v2 (ix3 p R (laneAt t l)) := fun R => by
    unfold laneAt; blk_point [Own.iblk1, index1_0 t]
  have hw : ∀ q : Fin 3, Own.iblk1 V c 1 t (ix3 q p l) = V c main_v0 (ix3 q p (laneAt t l)) := fun q => by
    unfold laneAt; blk_point [Own.iblk1, index1_1 t]
  have hb : Own.iblk1 V c 2 t (ix2 p l) = V c main_v1 (ix2 p (laneAt t l)) := by
    unfold laneAt; blk_point [Own.iblk1, index1_2 t]
  unfold convB convOf upB rowUp
  simp only [hw, hb, hu]
  rfl

theorem arr1_4 (c : Dev nD) :
    (Own.dat1 V c).arrAt 4 cfg1.N = convOf (V c main_v2) (V c main_v0) (V c main_v1) := by
  refine (Own.dat1 V c).arrAt_eq_of_covers 4 _ (by decide +kernel) fun t hf y => ?_
  blk_simp
  rw [Own.after1_4]
  unfold Own.outsAt1
  obtain ⟨p, R, l, rfl⟩ : ∃ (p : Fin 2) (R : Fin 2048) (l : Fin 256), y = ix3 p R l := ⟨y 0, y 1, y 2, eq_ix3 y⟩
  dsimp only
  rw [out1_4_apply, conv_blk]
  generalize convOf (V c main_v2) (V c main_v0) (V c main_v1) = G
  unfold laneAt
  blk_point [index1_4 t]

theorem arr1_3 (c : Dev nD) :
    (Own.dat1 V c).arrAt 3 cfg1.N = actOf (convOf (V c main_v2) (V c main_v0) (V c main_v1)) := by
  refine (Own.dat1 V c).arrAt_eq_of_covers 3 _ (by decide +kernel) fun t hf y => ?_
  blk_simp
  rw [Own.after1_3]
  unfold Own.outsAt1
  obtain ⟨R, l, rfl⟩ : ∃ (R : Fin 2048) (l : Fin 256), y = ix2 R l := ⟨y 0, y 1, eq_ix2 y⟩
  dsimp only
  rw [out1_3_apply, conv_blk, conv_blk]
  generalize convOf (V c main_v2) (V c main_v0) (V c main_v1) = G
  unfold actOf laneAt
  blk_point [index1_3 t]

end Cert.KernelIdeal.Value
end
-- ==== Proof.BwdA.lean ====
/- The backward pass of the activation and the convolution: what region 4's payloads are at an index. -/
module

public import proofs.«01_k».proof.Proof.Act
public import proofs.«01_k».proof.Proof.KernelIdealRegB

@[expose] public section

set_option maxRecDepth 16384

noncomputable section

open Idealize.ShloMosaic Idealize.ShloMosaic.TcCoe Idealize.SL.Sem

namespace Cert.KernelIdeal.Value

open Cert.KernelIdeal Cert.KernelIdeal.Gen

/-- The tanh inside the gelu. -/
def thK (y : EReal) : EReal :=
  Ideal.tanh (Ideal.ofBits .f32 0x3F4C422A#32 * (y + Named.named (F := Ideal) (φ := .f32) κ "gelu_c" 0x3D372713#32 * y * y * y))

/-- The derivative of the gelu, as the kernel writes it. -/
def dgeluK (y : EReal) : EReal :=
  Ideal.ofBits .f32 0x3F000000#32 * (1 + thK y)
    + Ideal.ofBits .f32 0x3F000000#32 * y * (1 - thK y * thK y) * Ideal.ofBits .f32 0x3F4C422A#32
      * (1 + Named.named (F := Ideal) (φ := .f32) κ "gelu_c3" 0x3E095D4F#32 * y * y)

local notation "Rows8" => FVec Ideal S8x256 FTy.f32
local notation "Rows64" => FVec Ideal S64x256 FTy.f32

theorem pay5_apply4 (v : Vec Ideal S1x64x256 .bf16) (r : Fin 64) (l : Fin 256) :
    k4_pay5 v (ix2 r l) = v (ix3 0 r l) := by
  pointwise [k4_pay5]

theorem pay7_apply4 (v : Vec Ideal S1x64x256 .bf16) (r : Fin 64) (l : Fin 256) :
    k4_pay7 v (ix2 r l) = geluK (v (ix3 0 r l)) := by
  pointwise [k4_pay7, k4_pay6, k4_pay4]
  rfl

theorem pay28_apply4 (v52 : Rows64) (v : Vec Ideal S1x64x256 .bf16) (d : Vec Ideal S64x256 .bf16) (r : Fin 64) (l : Fin 256) :
    k4_pay28 v52 (k4_pay8 v) (k4_pay9 v) (k4_pay10 v) d (ix2 r l) = d (ix2 r l) * v52 (ix2 r l) * dgeluK (v (ix3 0 r l)) := by
  pointwise [k4_pay28, k4_pay27, k4_pay8, k4_pay9, k4_pay10, k4_pay6, k4_pay4]
  rfl

theorem pay29_apply4 (v65 : Rows64) (d : Vec Ideal S64x256 .bf16) (r : Fin 64) (l : Fin 256) :
    k4_pay29 v65 d (ix2 r l) = d (ix2 r l) * v65 (ix2 r l) := by
  pointwise [k4_pay29, k4_pay27]

theorem pay30_apply4 (v52 v69 v77 v82 : Rows64) (d : Vec Ideal S64x256 .bf16) (r : Fin 64) (l : Fin 256) :
    k4_pay30 v52 v69 v77 v82 d (ix3 0 r l) = k4_pay28 v52 v69 v77 v82 d (ix2 r l) := by
  pointwise [k4_pay30]

theorem pay31_apply4 (v65 : Rows64) (d : Vec Ideal S64x256 .bf16) (r : Fin 64) (l : Fin 256) :
    k4_pay31 v65 d (ix3 0 r l) = k4_pay29 v65 d (ix2 r l) := by
  pointwise [k4_pay31]

/-- Row `r` of the 8-row fold of a chunk: the sum of its rows congruent to `r` modulo 8. -/
def fold8 (v : Rows64) (r : Fin 8) (l : Fin 256) : EReal :=
  ∑ j : Fin 8, v (ix2 (⟨j.val * 8 + r.val, by omega⟩ : Fin 64) l)

theorem pay32_apply4 (a : Rows8) (v52 v69 v77 v82 : Rows64) (d : Vec Ideal S64x256 .bf16) (r : Fin 8) (l : Fin 256) :
    k4_pay32 a v52 v69 v77 v82 d (ix2 r l) = a (ix2 r l) + fold8 (k4_pay28 v52 v69 v77 v82 d) r l := by
  pointwise [k4_pay32]
  rfl

theorem pay33_apply4 (a : Rows8) (v65 : Rows64) (d : Vec Ideal S64x256 .bf16) (r : Fin 8) (l : Fin 256) :
    k4_pay33 a v65 d (ix2 r l) = a (ix2 r l) + fold8 (k4_pay29 v65 d) r l := by
  pointwise [k4_pay33]
  rfl

theorem pay34_apply4 (a : Rows8) (l : Fin 256) :
    k4_pay34 a (ix2 0 l) = ∑ r : Fin 8, a (ix2 r l) := by
  pointwise [k4_pay34]

theorem pay35_apply4 (a : Rows8) (l : Fin 256) :
    k4_pay35 a (ix2 0 l) = ∑ r : Fin 8, a (ix2 r l) := by
  pointwise [k4_pay35]

theorem pay44_apply4 (a : Rows8) (l : Fin 256) : k4_pay44 a (ix3 0 0 l) = ∑ r : Fin 8, a (ix2 r l) := by
  pointwise [k4_pay44]
theorem pay45_apply4 (a : Rows8) (l : Fin 256) : k4_pay45 a (ix3 0 0 l) = ∑ r : Fin 8, a (ix2 r l) := by
  pointwise [k4_pay45]
theorem pay46_apply4 (a : Rows8) (l : Fin 256) : k4_pay46 a (ix3 0 0 l) = ∑ r : Fin 8, a (ix2 r l) := by
  pointwise [k4_pay46]
theorem pay1_apply4 (a : Rows8) (l : Fin 256) : k4_pay1 a (ix3 0 0 l) = ∑ r : Fin 8, a (ix2 r l) := by
  pointwise [k4_pay1]
theorem pay2_apply4 (a : Rows8) (l : Fin 256) : k4_pay2 a (ix3 0 0 l) = ∑ r : Fin 8, a (ix2 r l) := by
  pointwise [k4_pay2]
theorem pay3_apply4 (a : Rows8) (l : Fin 256) : k4_pay3 a (ix3 0 0 l) = ∑ r : Fin 8, a (ix2 r l) := by
  pointwise [k4_pay3]

theorem pay26_apply4 (r : Fin 8) (l : Fin 256) : (k4_pay26 : Rows8) (ix2 r l) = 0 := by
  pointwise [k4_pay26]

theorem pay38_apply4 (a v : Rows8) (r : Fin 8) (l : Fin 256) : k4_pay38 a v (ix2 r l) = a (ix2 r l) + v (ix2 r l) := by
  pointwise [k4_pay38]
theorem pay39_apply4 (a v : Rows8) (r : Fin 8) (l : Fin 256) : k4_pay39 a v (ix2 r l) = a (ix2 r l) + v (ix2 r l) := by
  pointwise [k4_pay39]
theorem pay40_apply4 (a v : Rows8) (r : Fin 8) (l : Fin 256) : k4_pay40 a v (ix2 r l) = a (ix2 r l) + v (ix2 r l) := by
  pointwise [k4_pay40]

/-- Row `r` of the 8-row fold of the product of two chunks. -/
def foldMul (a : Rows64) (u : Vec Ideal S1x64x256 .bf16) (r : Fin 8) (l : Fin 256) : EReal :=
  ∑ j : Fin 8, a (ix2 (⟨j.val * 8 + r.val, by omega⟩ : Fin 64) l) * u (ix3 0 (⟨j.val * 8 + r.val, by omega⟩ : Fin 64) l)

theorem pay18_apply4 (a : Rows64) (u : Vec Ideal S1x64x256 .bf16) (r : Fin 8) (l : Fin 256) :
    k4_pay18 a u (ix2 r l) = foldMul a u r l := by
  pointwise [k4_pay18, k4_pay17]
  rfl
theorem pay19_apply4 (a : Rows64) (u : Vec Ideal S1x64x256 .bf16) (r : Fin 8) (l : Fin 256) :
    k4_pay19 a u (ix2 r l) = foldMul a u r l := by
  pointwise [k4_pay19, k4_pay17]
  rfl
theorem pay20_apply4 (a : Rows64) (u : Vec Ideal S1x64x256 .bf16) (r : Fin 8) (l : Fin 256) :
    k4_pay20 a u (ix2 r l) = foldMul a u r l := by
  pointwise [k4_pay20, k4_pay17]
  rfl
theorem pay41_apply4 (c : Rows8) (a : Rows64) (u : Vec Ideal S1x64x256 .bf16) (r : Fin 8) (l : Fin 256) :
    k4_pay41 c a u (ix2 r l) = c (ix2 r l) + foldMul a u r l := by
  pointwise [k4_pay41, k4_pay37]
  rfl
theorem pay42_apply4 (c : Rows8) (a : Rows64) (u : Vec Ideal S1x64x256 .bf16) (r : Fin 8) (l : Fin 256) :
    k4_pay42 c a u (ix2 r l) = c (ix2 r l) + foldMul a u r l := by
  pointwise [k4_pay42, k4_pay37]
  rfl
theorem pay43_apply4 (c : Rows8) (a : Rows64) (u : Vec Ideal S1x64x256 .bf16) (r : Fin 8) (l : Fin 256) :
    k4_pay43 c a u (ix2 r l) = c (ix2 r l) + foldMul a u r l := by
  pointwise [k4_pay43, k4_pay37]
  rfl

theorem trips4 (k : Fin k4_t2_loop.trips) : k.val < 32 := Nat.lt_of_lt_of_le k.isLt k4_t2_abs.2.1
theorem trips4a (k : Fin k4_t1_loop.trips) : k.val < 32 := Nat.lt_of_lt_of_le k.isLt k4_t1_abs.2.1

theorem sel_sge {α : Type} (r n : ℕ) (hr : r < 64) (hn : n < 64) (a b : α) :
    Scalar.select (IntOp.cmpi .sge (BitVec.ofNat 32 r) (BitVec.ofNat 32 n)) a b = if n ≤ r then a else b := by
  have e : IntOp.cmpi .sge (BitVec.ofNat 32 r) (BitVec.ofNat 32 n) = if n ≤ r then 1#1 else 0#1 := by
    interval_cases r <;> interval_cases n <;> rfl
  rw [e]; split <;> rfl

theorem sel_last {α : Type} (k : ℕ) (hk : k < 32) (a b : α) :
    Scalar.select (Scalar.cmpi .slt (Scf.iv 0#32 1#32 k) 31#32) a b = if k < 31 then a else b := by
  have e : Scalar.cmpi .slt (Scf.iv 0#32 1#32 k) 31#32 = if k < 31 then 1#1 else 0#1 := by
    interval_cases k <;> rfl
  rw [e]; split <;> rfl

/-- Row `r + n` of a chunk whose 8 rows after it are the head's. -/
def chunkDown (cur : Rows64) (head : Rows8) (n : ℕ) (r : Fin 64) (l : Fin 256) : EReal :=
  if h : r.val + n < 64 then cur (ix2 (⟨r.val + n, h⟩ : Fin 64) l)
  else head (ix2 (⟨(r.val + n - 64) % 8, Nat.mod_lt _ (by decide)⟩ : Fin 8) l)

theorem pay11_apply4 (v : Vec Ideal S1x64x256 .f32) (r : Fin 64) (l : Fin 256) :
    k4_pay11 v (ix2 r l) = v (ix3 0 r l) := by
  pointwise [k4_pay11]
theorem pay21_apply4 (v : Vec Ideal S1x64x256 .f32) (r : Fin 64) (l : Fin 256) :
    k4_pay21 v (ix2 r l) = v (ix3 0 r l) := by
  pointwise [k4_pay21]

theorem pay12_apply4 (k : Fin k4_t2_loop.trips) (v : Vec Ideal S1x8x256 .f32) (r : Fin 8) (l : Fin 256) :
    k4_pay12 0#32 1#32 k v (ix2 r l) = if k.val < 31 then v (ix3 0 r l) else 0 := by
  pointwise [k4_pay12]
  exact sel_last _ (trips4 k) _ _
theorem pay22_apply4 (k : Fin k4_t2_loop.trips) (v : Vec Ideal S1x8x256 .f32) (r : Fin 8) (l : Fin 256) :
    k4_pay22 (Scf.iv 0#32 1#32 k) v (ix2 r l) = if k.val < 31 then v (ix3 0 r l) else 0 := by
  pointwise [k4_pay22]
  exact sel_last _ (trips4 k) _ _

theorem chunkDown_eq (cur : Rows64) (head : Rows8) (n m : ℕ) (hn : n < 8) (hm : 0 < n) (hm' : m + n = 8)
    (r : Fin 64) (l : Fin 256) :
    (if h : r.val < 56 then cur (ix2 (⟨(r.val + 64 - (56 + m)) % 64, Nat.mod_lt _ (by decide)⟩ : Fin 64) l)
    else
      Scalar.select (IntOp.cmpi .sge (BitVec.ofNat 32 (r.val - 56)) (BitVec.ofNat 32 m))
        (head (ix2 (⟨(r.val - 56 + 8 - m) % 8, Nat.mod_lt _ (by decide)⟩ : Fin 8) l))
        (cur (ix2 (⟨(56 + (r.val - 56) + 64 - (56 + m)) % 64, Nat.mod_lt _ (by decide)⟩ : Fin 64) l)))
      = chunkDown cur head n r l := by
  unfold chunkDown
  rw [sel_sge _ _ (by omega) (by omega)]
  split_ifs with h1 h2 h3 h4
  · exact congrArg (fun q => cur (ix2 q l)) (Fin.ext (by dsimp only; omega))
  · omega
  · omega
  · exact congrArg (fun q => head (ix2 q l)) (Fin.ext (by dsimp only; omega))
  · exact congrArg (fun q => cur (ix2 q l)) (Fin.ext (by dsimp only; omega))
  · omega

theorem pay13_apply4 (k : Fin k4_t2_loop.trips) (v : Vec Ideal S1x64x256 .f32) (t : Vec Ideal S1x8x256 .f32) (r : Fin 64) (l : Fin 256) :
    k4_pay13 0#32 1#32 k v t (ix2 r l) = chunkDown (k4_pay11 v) (k4_pay12 0#32 1#32 k t) 1 r l := by
  pointwise [k4_pay13]
  exact chunkDown_eq _ _ 1 7 (by decide) (by decide) rfl r l
theorem pay14_apply4 (k : Fin k4_t2_loop.trips) (v : Vec Ideal S1x64x256 .f32) (t : Vec Ideal S1x8x256 .f32) (r : Fin 64) (l : Fin 256) :
    k4_pay14 0#32 1#32 k v t (ix2 r l) = chunkDown (k4_pay11 v) (k4_pay12 0#32 1#32 k t) 2 r l := by
  pointwise [k4_pay14]
  exact chunkDown_eq _ _ 2 6 (by decide) (by decide) rfl r l
theorem pay23_apply4 (k : BitVec 32) (v : Rows64) (t : Vec Ideal S1x8x256 .f32) (r : Fin 64) (l : Fin 256) :
    k4_pay23 k v t (ix2 r l) = chunkDown v (k4_pay22 k t) 1 r l := by
  pointwise [k4_pay23]
  exact chunkDown_eq _ _ 1 7 (by decide) (by decide) rfl r l
theorem pay24_apply4 (k : BitVec 32) (v : Rows64) (t : Vec Ideal S1x8x256 .f32) (r : Fin 64) (l : Fin 256) :
    k4_pay24 k v t (ix2 r l) = chunkDown v (k4_pay22 k t) 2 r l := by
  pointwise [k4_pay24]
  exact chunkDown_eq _ _ 2 6 (by decide) (by decide) rfl r l

theorem pay16_apply4 (v64 v73 : Rows64) (v44 : Vec Ideal S1x64x256 .f32) (w2 w1 w0 : Vec Ideal S1x1x256 .f32) (r : Fin 64) (l : Fin 256) :
    k4_pay16 v64 v73 (k4_pay15 v44 w2) w1 w0 (ix3 0 r l)
      = w2 (ix3 0 0 l) * v44 (ix3 0 r l) + w1 (ix3 0 0 l) * v64 (ix2 r l) + w0 (ix3 0 0 l) * v73 (ix2 r l) := by
  pointwise [k4_pay16, k4_pay15, k4_pay11]

theorem pay25_apply4 (k : BitVec 32) (v : Rows64) (t : Vec Ideal S1x8x256 .f32) (w2 w1 w0 : Vec Ideal S1x1x256 .f32) (r : Fin 64) (l : Fin 256) :
    k4_pay25 k v t w2 w1 w0 (ix2 r l)
      = w2 (ix3 0 0 l) * v (ix2 r l) + w1 (ix3 0 0 l) * k4_pay23 k v t (ix2 r l) + w0 (ix3 0 0 l) * k4_pay24 k v t (ix2 r l) := by
  pointwise [k4_pay25]

theorem pay36_apply4 (v : FVec Ideal S64x256 .bf16) (r : Fin 64) (l : Fin 256) : k4_pay36 v (ix3 0 r l) = v (ix2 r l) := by
  pointwise [k4_pay36]

theorem off4_1 : ∀ k : Fin k4_t1_loop.trips, k4_off1 k = ![0, 64 * k.val, 0] := by decide +kernel
theorem off4_2 : ∀ k : Fin k4_t1_loop.trips, k4_off2 k = ![1, 64 * k.val, 0] := by decide +kernel
theorem off4_3 : ∀ k : Fin k4_t1_loop.trips, k4_off3 k = ![64 * k.val, 0] := by decide +kernel
theorem off4_4 : ∀ k : Fin k4_t2_loop.trips, k4_off4 k = ![0, 64 * k.val, 0] := by decide +kernel
theorem off4_5 : ∀ k : Fin k4_t2_loop.trips, k4_off5 k = ![0, min (64 * k.val + 64) 2040, 0] := by decide +kernel
theorem off4_6 : ∀ k : Fin k4_t2_loop.trips, k4_off6 k = ![1, 64 * k.val, 0] := by decide +kernel
theorem off4_7 : ∀ k : Fin k4_t2_loop.trips, k4_off7 k = ![1, min (64 * k.val + 64) 2040, 0] := by decide +kernel

end Cert.KernelIdeal.Value
end
-- ==== Proof.BwdB.lean ====
/- The two loops of region 4: what they carry and what they store. -/
module

public import proofs.«01_k».proof.Proof.BwdA

@[expose] public section

set_option maxRecDepth 16384

noncomputable section

open Idealize.ShloMosaic Idealize.ShloMosaic.TcCoe Idealize.SL.Sem

namespace Cert.KernelIdeal.Value

open Cert.KernelIdeal Cert.KernelIdeal.Gen

local notation "MemA" => Memref sig Kind.tc Space.vmem S2x2048x256 EltTy.bf16
local notation "MemB" => Memref sig Kind.tc Space.vmem S3x2x256 EltTy.f32
local notation "MemC" => Memref sig Kind.tc Space.vmem S2048x256 EltTy.bf16
local notation "MemD" => Memref sig Kind.tc Space.vmem S2x256 EltTy.f32
local notation "MemE" => Memref sig Kind.tc Space.vmem S2x2048x256 EltTy.f32
local notation "Rows8" => FVec Ideal S8x256 FTy.f32

section
variable (u y : Vec Ideal S2x2048x256 .bf16) (da : Vec Ideal S2048x256 .bf16) (w : Vec Ideal S3x2x256 .f32) (d : Vec Ideal S2x2048x256 .f32)

section
variable (k : Fin k4_t1_loop.trips)
abbrev ldY0 : Vec Ideal S1x64x256 .bf16 := View.ld y (Rect.unit (k4_off1 k) S1x64x256.size (k4_off1_inb k))
abbrev ldY1 : Vec Ideal S1x64x256 .bf16 := View.ld y (Rect.unit (k4_off2 k) S1x64x256.size (k4_off2_inb k))
abbrev ldA : Vec Ideal S64x256 .bf16 := View.ld da (Rect.unit (k4_off3 k) S64x256.size (k4_off3_inb k))

/-- The gradient of the gate plane in chunk `k`. -/
def gateC : FVec Ideal S64x256 .f32 :=
  k4_pay28 (k4_pay5 (ldY1 y k)) (k4_pay8 (ldY0 y k)) (k4_pay9 (ldY0 y k)) (k4_pay10 (ldY0 y k)) (ldA da k)

/-- The gradient of the value plane in chunk `k`. -/
def valC : FVec Ideal S64x256 .f32 := k4_pay29 (k4_pay7 (ldY0 y k)) (ldA da k)
end

section
variable (k : Fin k4_t2_loop.trips)
abbrev ldD0 : Vec Ideal S1x64x256 .f32 := View.ld d (Rect.unit (k4_off4 k) S1x64x256.size (k4_off4_inb k))
abbrev ldH0 : Vec Ideal S1x8x256 .f32 := View.ld d (Rect.unit (k4_off5 k) S1x8x256.size (k4_off5_inb k))
abbrev ldD1 : Vec Ideal S1x64x256 .f32 := View.ld d (Rect.unit (k4_off6 k) S1x64x256.size (k4_off6_inb k))
abbrev ldH1 : Vec Ideal S1x8x256 .f32 := View.ld d (Rect.unit (k4_off7 k) S1x8x256.size (k4_off7_inb k))
abbrev ldU0 : Vec Ideal S1x64x256 .bf16 := View.ld u (Rect.unit (k4_off4 k) S1x64x256.size (k4_off4_inb k))
abbrev ldU1 : Vec Ideal S1x64x256 .bf16 := View.ld u (Rect.unit (k4_off6 k) S1x64x256.size (k4_off6_inb k))

/-- The gradient of the input's gate plane in chunk `k`. -/
def duC0 : FVec Ideal S1x64x256 .bf16 :=
  k4_pay16 (k4_pay13 0#32 1#32 k (ldD0 d k) (ldH0 d k)) (k4_pay14 0#32 1#32 k (ldD0 d k) (ldH0 d k))
    (k4_pay15 (ldD0 d k) (View.ld w (Rect.unit ![2, 0, 0] S1x1x256.size inb_S3x2x256_S1x1x256_2_0_0)))
    (View.ld w (Rect.unit ![1, 0, 0] S1x1x256.size inb_S3x2x256_S1x1x256_1_0_0))
    (View.ld w (Rect.unit ![0, 0, 0] S1x1x256.size inb_S3x2x256_S1x1x256_0_0_0))

/-- The gradient of the input's value plane in chunk `k`. -/
def duC1 : FVec Ideal S64x256 .bf16 :=
  k4_pay25 (Scf.iv 0#32 1#32 k) (k4_pay21 (ldD1 d k)) (ldH1 d k)
    (View.ld w (Rect.unit ![2, 1, 0] S1x1x256.size inb_S3x2x256_S1x1x256_2_1_0))
    (View.ld w (Rect.unit ![1, 1, 0] S1x1x256.size inb_S3x2x256_S1x1x256_1_1_0))
    (View.ld w (Rect.unit ![0, 1, 0] S1x1x256.size inb_S3x2x256_S1x1x256_0_1_0))
end

theorem tripR4ag (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) (k : Fin k4_t1_loop.trips) (acc : Rows8 × Rows8) :
    ∀ (X2 : BufTy.Contents (Elt Ideal) arg2.view.ty) (X3 : BufTy.Contents (Elt Ideal) arg3.view.ty),
    tripR_k4_t1 (F := Ideal) Variants.none c none i arg1 harg1 arg2 harg2 arg3 harg3 arg4 harg4 arg5 harg5 arg6 harg6 arg7 harg7 arg8 harg8 X2 X3 k acc
      = (k4_pay32 acc.1 (k4_pay5 (ldY1 (arg2.view.read (Elt Ideal) X2) k)) (k4_pay8 (ldY0 (arg2.view.read (Elt Ideal) X2) k)) (k4_pay9 (ldY0 (arg2.view.read (Elt Ideal) X2) k)) (k4_pay10 (ldY0 (arg2.view.read (Elt Ideal) X2) k)) (ldA (arg3.view.read (Elt Ideal) X3) k),
         k4_pay33 acc.2 (k4_pay7 (ldY0 (arg2.view.read (Elt Ideal) X2) k)) (ldA (arg3.view.read (Elt Ideal) X3) k)) := by
  intro X2 X3
  unfold tripR_k4_t1 trip_k4_t1
  rfl

theorem tripR4a (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) (k : Fin k4_t1_loop.trips) (acc : Rows8 × Rows8) :
    tripR_k4_t1 (F := Ideal) Variants.none c none i arg1 harg1 arg2 harg2 arg3 harg3 arg4 harg4 arg5 harg5 arg6 harg6 arg7 harg7 arg8 harg8 (harg2.unread y) (harg3.unread da) k acc
      = (k4_pay32 acc.1 (k4_pay5 (ldY1 y k)) (k4_pay8 (ldY0 y k)) (k4_pay9 (ldY0 y k)) (k4_pay10 (ldY0 y k)) (ldA da k),
         k4_pay33 acc.2 (k4_pay7 (ldY0 y k)) (ldA da k)) := by
  rw [tripR4ag, harg2.read_unread, harg3.read_unread]

theorem tripL4ag (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) (k : Fin k4_t1_loop.trips) (acc : Rows8 × Rows8) :
    ∀ (X2 : BufTy.Contents (Elt Ideal) arg2.view.ty) (X3 : BufTy.Contents (Elt Ideal) arg3.view.ty),
    tripL_k4_t1 (F := Ideal) Variants.none c none i arg1 harg1 arg2 harg2 arg3 harg3 arg4 harg4 arg5 harg5 arg6 harg6 arg7 harg7 arg8 harg8 X2 X3 k acc
      = [⟨Rect.unit (s := S2x2048x256) (k4_off2 k) S1x64x256.size (k4_off2_inb k), k4_pay31 (k4_pay7 (ldY0 (arg2.view.read (Elt Ideal) X2) k)) (ldA (arg3.view.read (Elt Ideal) X3) k)⟩,
         ⟨Rect.unit (s := S2x2048x256) (k4_off1 k) S1x64x256.size (k4_off1_inb k), k4_pay30 (k4_pay5 (ldY1 (arg2.view.read (Elt Ideal) X2) k)) (k4_pay8 (ldY0 (arg2.view.read (Elt Ideal) X2) k)) (k4_pay9 (ldY0 (arg2.view.read (Elt Ideal) X2) k)) (k4_pay10 (ldY0 (arg2.view.read (Elt Ideal) X2) k)) (ldA (arg3.view.read (Elt Ideal) X3) k)⟩] := by
  intro X2 X3
  unfold tripL_k4_t1 trip_k4_t1
  rfl

theorem tripL4a (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) (k : Fin k4_t1_loop.trips) (acc : Rows8 × Rows8) :
    tripL_k4_t1 (F := Ideal) Variants.none c none i arg1 harg1 arg2 harg2 arg3 harg3 arg4 harg4 arg5 harg5 arg6 harg6 arg7 harg7 arg8 harg8 (harg2.unread y) (harg3.unread da) k acc
      = [⟨Rect.unit (s := S2x2048x256) (k4_off2 k) S1x64x256.size (k4_off2_inb k), k4_pay31 (k4_pay7 (ldY0 y k)) (ldA da k)⟩,
         ⟨Rect.unit (s := S2x2048x256) (k4_off1 k) S1x64x256.size (k4_off1_inb k), k4_pay30 (k4_pay5 (ldY1 y k)) (k4_pay8 (ldY0 y k)) (k4_pay9 (ldY0 y k)) (k4_pay10 (ldY0 y k)) (ldA da k)⟩] := by
  rw [tripL4ag, harg2.read_unread, harg3.read_unread]

theorem tripR4bg (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) (k : Fin k4_t2_loop.trips) (acc : Rows8 × Rows8 × Rows8 × Rows8 × Rows8 × Rows8) :
    ∀ (X1 : BufTy.Contents (Elt Ideal) arg1.view.ty) (X4 : BufTy.Contents (Elt Ideal) arg4.view.ty) (X8 : BufTy.Contents (Elt Ideal) arg8.view.ty),
    tripR_k4_t2 (F := Ideal) Variants.none c none i arg1 harg1 arg2 harg2 arg3 harg3 arg4 harg4 arg5 harg5 arg6 harg6 arg7 harg7 arg8 harg8 X1 X4 X8 k acc
      = (k4_pay38 acc.1 (k4_pay18 (k4_pay14 0#32 1#32 k (ldD0 (arg8.view.read (Elt Ideal) X8) k) (ldH0 (arg8.view.read (Elt Ideal) X8) k)) (ldU0 (arg1.view.read (Elt Ideal) X1) k)),
         k4_pay39 acc.2.1 (k4_pay19 (k4_pay13 0#32 1#32 k (ldD0 (arg8.view.read (Elt Ideal) X8) k) (ldH0 (arg8.view.read (Elt Ideal) X8) k)) (ldU0 (arg1.view.read (Elt Ideal) X1) k)),
         k4_pay40 acc.2.2.1 (k4_pay20 (k4_pay11 (ldD0 (arg8.view.read (Elt Ideal) X8) k)) (ldU0 (arg1.view.read (Elt Ideal) X1) k)),
         k4_pay41 acc.2.2.2.1 (k4_pay24 (Scf.iv 0#32 1#32 k) (k4_pay21 (ldD1 (arg8.view.read (Elt Ideal) X8) k)) (ldH1 (arg8.view.read (Elt Ideal) X8) k)) (ldU1 (arg1.view.read (Elt Ideal) X1) k),
         k4_pay42 acc.2.2.2.2.1 (k4_pay23 (Scf.iv 0#32 1#32 k) (k4_pay21 (ldD1 (arg8.view.read (Elt Ideal) X8) k)) (ldH1 (arg8.view.read (Elt Ideal) X8) k)) (ldU1 (arg1.view.read (Elt Ideal) X1) k),
         k4_pay43 acc.2.2.2.2.2 (k4_pay21 (ldD1 (arg8.view.read (Elt Ideal) X8) k)) (ldU1 (arg1.view.read (Elt Ideal) X1) k)) := by
  intro X1 X4 X8
  unfold tripR_k4_t2 trip_k4_t2
  rfl

theorem tripR4b (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) (k : Fin k4_t2_loop.trips) (acc : Rows8 × Rows8 × Rows8 × Rows8 × Rows8 × Rows8) :
    tripR_k4_t2 (F := Ideal) Variants.none c none i arg1 harg1 arg2 harg2 arg3 harg3 arg4 harg4 arg5 harg5 arg6 harg6 arg7 harg7 arg8 harg8 (harg1.unread u) (harg4.unread w) (harg8.unread d) k acc
      = (k4_pay38 acc.1 (k4_pay18 (k4_pay14 0#32 1#32 k (ldD0 d k) (ldH0 d k)) (ldU0 u k)),
         k4_pay39 acc.2.1 (k4_pay19 (k4_pay13 0#32 1#32 k (ldD0 d k) (ldH0 d k)) (ldU0 u k)),
         k4_pay40 acc.2.2.1 (k4_pay20 (k4_pay11 (ldD0 d k)) (ldU0 u k)),
         k4_pay41 acc.2.2.2.1 (k4_pay24 (Scf.iv 0#32 1#32 k) (k4_pay21 (ldD1 d k)) (ldH1 d k)) (ldU1 u k),
         k4_pay42 acc.2.2.2.2.1 (k4_pay23 (Scf.iv 0#32 1#32 k) (k4_pay21 (ldD1 d k)) (ldH1 d k)) (ldU1 u k),
         k4_pay43 acc.2.2.2.2.2 (k4_pay21 (ldD1 d k)) (ldU1 u k)) := by
  rw [tripR4bg, harg1.read_unread, harg8.read_unread]

theorem tripL4bg (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) (k : Fin k4_t2_loop.trips) (acc : Rows8 × Rows8 × Rows8 × Rows8 × Rows8 × Rows8) :
    ∀ (X1 : BufTy.Contents (Elt Ideal) arg1.view.ty) (X4 : BufTy.Contents (Elt Ideal) arg4.view.ty) (X8 : BufTy.Contents (Elt Ideal) arg8.view.ty),
    tripL_k4_t2 (F := Ideal) Variants.none c none i arg1 harg1 arg2 harg2 arg3 harg3 arg4 harg4 arg5 harg5 arg6 harg6 arg7 harg7 arg8 harg8 X1 X4 X8 k acc
      = [⟨Rect.unit (s := S2x2048x256) (k4_off6 k) S1x64x256.size (k4_off6_inb k), k4_pay36 (duC1 (arg4.view.read (Elt Ideal) X4) (arg8.view.read (Elt Ideal) X8) k)⟩,
         ⟨Rect.unit (s := S2x2048x256) (k4_off4 k) S1x64x256.size (k4_off4_inb k), duC0 (arg4.view.read (Elt Ideal) X4) (arg8.view.read (Elt Ideal) X8) k⟩] := by
  intro X1 X4 X8
  unfold tripL_k4_t2 trip_k4_t2
  rfl

theorem tripL4b (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) (k : Fin k4_t2_loop.trips) (acc : Rows8 × Rows8 × Rows8 × Rows8 × Rows8 × Rows8) :
    tripL_k4_t2 (F := Ideal) Variants.none c none i arg1 harg1 arg2 harg2 arg3 harg3 arg4 harg4 arg5 harg5 arg6 harg6 arg7 harg7 arg8 harg8 (harg1.unread u) (harg4.unread w) (harg8.unread d) k acc
      = [⟨Rect.unit (s := S2x2048x256) (k4_off6 k) S1x64x256.size (k4_off6_inb k), k4_pay36 (duC1 w d k)⟩,
         ⟨Rect.unit (s := S2x2048x256) (k4_off4 k) S1x64x256.size (k4_off4_inb k), duC0 w d k⟩] := by
  rw [tripL4bg, harg4.read_unread, harg8.read_unread]

/-- A row by its number. -/
def rowN (n : ℕ) : Fin 2048 := ⟨n % 2048, Nat.mod_lt _ (by decide)⟩

theorem rowN_eq (R : Fin 2048) (n : ℕ) (h : R.val = n) : R = rowN n := by
  subst h
  exact Fin.ext (Nat.mod_eq_of_lt R.isLt).symm

/-- The gradient of the convolution's output: of the gate plane and of the value plane. -/
def dyB (p : Fin 2) (R : Fin 2048) (l : Fin 256) : EReal :=
  if p = 0 then da (ix2 R l) * y (ix3 1 R l) * dgeluK (y (ix3 0 R l)) else da (ix2 R l) * geluK (y (ix3 0 R l))

/-- Row `R + n` of plane `p`; zero past the last. -/
def dnB (p : Fin 2) (R : Fin 2048) (n : ℕ) (l : Fin 256) : EReal :=
  if h : R.val + n < 2048 then d (ix3 p (⟨R.val + n, h⟩ : Fin 2048) l) else 0

/-- The gradient of the convolution's input. -/
def duB (p : Fin 2) (R : Fin 2048) (l : Fin 256) : EReal :=
  w (ix3 2 p l) * d (ix3 p R l) + w (ix3 1 p l) * dnB d p R 1 l + w (ix3 0 p l) * dnB d p R 2 l

/-- The sum over the first `n` chunks of the rows congruent to `r` modulo 8. -/
def gsum (f : Fin 2048 → EReal) (n : ℕ) (r : Fin 8) : EReal :=
  ∑ k ∈ Finset.range n, ∑ j : Fin 8, f (rowN (64 * k + (j.val * 8 + r.val)))

theorem gsum_zero (f : Fin 2048 → EReal) (r : Fin 8) : gsum f 0 r = 0 := by simp [gsum]

theorem gsum_succ (f : Fin 2048 → EReal) (n : ℕ) (r : Fin 8) :
    gsum f (n + 1) r = gsum f n r + ∑ j : Fin 8, f (rowN (64 * n + (j.val * 8 + r.val))) := Finset.sum_range_succ _ _

theorem gsum_all (f : Fin 2048 → EReal) : ∑ r : Fin 8, gsum f 32 r = ∑ R : Fin 2048, f R := by
  unfold gsum
  simp only [Finset.sum_range (n := 32)]
  rw [← Fintype.sum_prod_type' (f := fun (r : Fin 8) (k : Fin 32) => ∑ j : Fin 8, f (rowN (64 * k.val + (j.val * 8 + r.val)))),
    ← Fintype.sum_prod_type' (f := fun (x : Fin 8 × Fin 32) (j : Fin 8) => f (rowN (64 * x.2.val + (j.val * 8 + x.1.val))))]
  refine Fintype.sum_bijective (fun x : (Fin 8 × Fin 32) × Fin 8 => rowN (64 * x.1.2.val + (x.2.val * 8 + x.1.1.val))) ?_ _ _ fun _ => rfl
  rw [Fintype.bijective_iff_injective_and_card]
  refine ⟨fun a b h => ?_, by simp⟩
  obtain ⟨⟨a1, a2⟩, a3⟩ := a
  obtain ⟨⟨b1, b2⟩, b3⟩ := b
  have h' := congrArg Fin.val h
  simp only [rowN] at h'
  have e1 : a1 = b1 := Fin.ext (by omega)
  have e2 : a2 = b2 := Fin.ext (by omega)
  have e3 : a3 = b3 := Fin.ext (by omega)
  rw [e1, e2, e3]

theorem ldY0_apply (k : Fin k4_t1_loop.trips) (r : Fin 64) (l : Fin 256) : ldY0 y k (ix3 0 r l) = y (ix3 0 (rowN (64 * k.val + r.val)) l) := by
  refine View.ld_unit_apply_of _ _ _ _ _ _ fun a => ?_
  have e := off4_1 k
  have := trips4a k
  fin_cases a <;> simp [e, rowN]
  omega

theorem ldY1_apply (k : Fin k4_t1_loop.trips) (r : Fin 64) (l : Fin 256) : ldY1 y k (ix3 0 r l) = y (ix3 1 (rowN (64 * k.val + r.val)) l) := by
  refine View.ld_unit_apply_of _ _ _ _ _ _ fun a => ?_
  have e := off4_2 k
  have := trips4a k
  fin_cases a <;> simp [e, rowN]
  omega

theorem ldA_apply (k : Fin k4_t1_loop.trips) (r : Fin 64) (l : Fin 256) : ldA da k (ix2 r l) = da (ix2 (rowN (64 * k.val + r.val)) l) := by
  refine View.ld_unit_apply_of _ _ _ _ _ _ fun a => ?_
  have e := off4_3 k
  have := trips4a k
  fin_cases a <;> simp [e, rowN]
  omega

theorem gate_apply (k : Fin k4_t1_loop.trips) (r : Fin 64) (l : Fin 256) :
    k4_pay28 (k4_pay5 (ldY1 y k)) (k4_pay8 (ldY0 y k)) (k4_pay9 (ldY0 y k)) (k4_pay10 (ldY0 y k)) (ldA da k) (ix2 r l)
      = dyB y da 0 (rowN (64 * k.val + r.val)) l := by
  rw [pay28_apply4, pay5_apply4, ldY0_apply, ldY1_apply, ldA_apply]
  rfl

theorem val_apply (k : Fin k4_t1_loop.trips) (r : Fin 64) (l : Fin 256) :
    k4_pay29 (k4_pay7 (ldY0 y k)) (ldA da k) (ix2 r l) = dyB y da 1 (rowN (64 * k.val + r.val)) l := by
  rw [pay29_apply4, pay7_apply4, ldY0_apply, ldA_apply]
  rfl

theorem loop4a (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) :
    ∀ n : ℕ, n ≤ k4_t1_loop.trips →
    (∀ r l, (st_k4_t1 (F := Ideal) Variants.none c none i arg1 harg1 arg2 harg2 arg3 harg3 arg4 harg4 arg5 harg5 arg6 harg6 arg7 harg7 arg8 harg8 (harg2.unread y) (harg3.unread da) (k4_pay26, k4_pay26) n).1.1 (ix2 r l) = gsum (fun R => dyB y da 0 R l) n r) ∧
    (∀ r l, (st_k4_t1 (F := Ideal) Variants.none c none i arg1 harg1 arg2 harg2 arg3 harg3 arg4 harg4 arg5 harg5 arg6 harg6 arg7 harg7 arg8 harg8 (harg2.unread y) (harg3.unread da) (k4_pay26, k4_pay26) n).1.2 (ix2 r l) = gsum (fun R => dyB y da 1 R l) n r) ∧
    (∀ p R l, View.AllAt (st_k4_t1 (F := Ideal) Variants.none c none i arg1 harg1 arg2 harg2 arg3 harg3 arg4 harg4 arg5 harg5 arg6 harg6 arg7 harg7 arg8 harg8 (harg2.unread y) (harg3.unread da) (k4_pay26, k4_pay26) n).2 (ix3 p R l) (dyB y da p R l)) := by
  intro n
  induction n with
  | zero =>
    intro _
    refine ⟨fun r l => ?_, fun r l => ?_, fun p R l => View.allAt_nil _ _⟩
    · rw [gsum_zero]; exact pay26_apply4 r l
    · rw [gsum_zero]; exact pay26_apply4 r l
  | succ n ih =>
    intro hn
    have hs := st_k4_t1_succ (F := Ideal) Variants.none c none i arg1 harg1 arg2 harg2 arg3 harg3 arg4 harg4 arg5 harg5 arg6 harg6 arg7 harg7 arg8 harg8 (harg2.unread y) (harg3.unread da) (k4_pay26, k4_pay26) ⟨n, hn⟩
    rw [tripR4a, tripL4a] at hs
    obtain ⟨ih1, ih2, ih3⟩ := ih (by omega)
    rw [show (⟨n, hn⟩ : Fin k4_t1_loop.trips).val = n from rfl] at hs
    rw [hs]
    refine ⟨fun r l => ?_, fun r l => ?_, fun p R l => ?_⟩
    · rw [gsum_succ, ← ih1]
      refine (pay32_apply4 ..).trans (congrArg _ (Finset.sum_congr rfl fun j _ => ?_))
      exact gate_apply ..
    · rw [gsum_succ, ← ih2]
      refine (pay33_apply4 ..).trans (congrArg _ (Finset.sum_congr rfl fun j _ => ?_))
      exact val_apply ..
    · refine View.allAt_cons_unit _ _ _ _ _ (fun x hx => ?_) (View.allAt_cons_unit _ _ _ _ _ (fun x hx => ?_) (ih3 p R l))
      · obtain ⟨z, r, l', rfl⟩ : ∃ (z : Fin 1) (r : Fin 64) (l' : Fin 256), x = ix3 z r l' := ⟨x 0, x 1, x 2, eq_ix3 x⟩
        rw [off4_2] at hx
        have h0 := hx 0; have h1 := hx 1; have h2 := hx 2
        simp at h0 h1 h2
        obtain rfl : R = rowN (64 * n + r.val) := rowN_eq _ _ h1
        obtain rfl : l = l' := Fin.ext h2
        obtain rfl : p = 1 := Fin.ext (by simpa using h0)
        obtain rfl : z = 0 := Subsingleton.elim _ _
        exact (pay31_apply4 ..).trans (val_apply ..)
      · obtain ⟨z, r, l', rfl⟩ : ∃ (z : Fin 1) (r : Fin 64) (l' : Fin 256), x = ix3 z r l' := ⟨x 0, x 1, x 2, eq_ix3 x⟩
        rw [off4_1] at hx
        have h0 := hx 0; have h1 := hx 1; have h2 := hx 2
        simp at h0 h1 h2
        obtain rfl : R = rowN (64 * n + r.val) := rowN_eq _ _ h1
        obtain rfl : l = l' := Fin.ext h2
        obtain rfl : p = 0 := Fin.ext (by simpa using h0)
        obtain rfl : z = 0 := Subsingleton.elim _ _
        exact (pay30_apply4 ..).trans (gate_apply ..)

theorem ldD0_apply (k : Fin k4_t2_loop.trips) (r : Fin 64) (l : Fin 256) : ldD0 d k (ix3 0 r l) = d (ix3 0 (rowN (64 * k.val + r.val)) l) := by
  refine View.ld_unit_apply_of _ _ _ _ _ _ fun a => ?_
  have e := off4_4 k
  have := trips4 k
  fin_cases a <;> simp [e, rowN]
  omega

theorem ldD1_apply (k : Fin k4_t2_loop.trips) (r : Fin 64) (l : Fin 256) : ldD1 d k (ix3 0 r l) = d (ix3 1 (rowN (64 * k.val + r.val)) l) := by
  refine View.ld_unit_apply_of _ _ _ _ _ _ fun a => ?_
  have e := off4_6 k
  have := trips4 k
  fin_cases a <;> simp [e, rowN]
  omega

theorem ldU0_apply (k : Fin k4_t2_loop.trips) (r : Fin 64) (l : Fin 256) : ldU0 u k (ix3 0 r l) = u (ix3 0 (rowN (64 * k.val + r.val)) l) := by
  refine View.ld_unit_apply_of _ _ _ _ _ _ fun a => ?_
  have e := off4_4 k
  have := trips4 k
  fin_cases a <;> simp [e, rowN]
  omega

theorem ldU1_apply (k : Fin k4_t2_loop.trips) (r : Fin 64) (l : Fin 256) : ldU1 u k (ix3 0 r l) = u (ix3 1 (rowN (64 * k.val + r.val)) l) := by
  refine View.ld_unit_apply_of _ _ _ _ _ _ fun a => ?_
  have e := off4_6 k
  have := trips4 k
  fin_cases a <;> simp [e, rowN]
  omega

theorem ldH0_apply (k : Fin k4_t2_loop.trips) (hk : k.val < 31) (r : Fin 8) (l : Fin 256) :
    ldH0 d k (ix3 0 r l) = d (ix3 0 (⟨64 * k.val + 64 + r.val, by omega⟩ : Fin 2048) l) := by
  refine View.ld_unit_apply_of _ _ _ _ _ _ fun a => ?_
  have e := off4_5 k
  have e' : min (64 * k.val + 64) 2040 = 64 * k.val + 64 := by omega
  fin_cases a <;> simp [e, e']

theorem ldH1_apply (k : Fin k4_t2_loop.trips) (hk : k.val < 31) (r : Fin 8) (l : Fin 256) :
    ldH1 d k (ix3 0 r l) = d (ix3 1 (⟨64 * k.val + 64 + r.val, by omega⟩ : Fin 2048) l) := by
  refine View.ld_unit_apply_of _ _ _ _ _ _ fun a => ?_
  have e := off4_7 k
  have e' : min (64 * k.val + 64) 2040 = 64 * k.val + 64 := by omega
  fin_cases a <;> simp [e, e']

theorem down0 (k : Fin k4_t2_loop.trips) (n : ℕ) (hn : n < 8) (r : Fin 64) (l : Fin 256) :
    chunkDown (k4_pay11 (ldD0 d k)) (k4_pay12 0#32 1#32 k (ldH0 d k)) n r l = dnB d 0 (rowN (64 * k.val + r.val)) n l := by
  have hk := trips4 k
  have hr : (rowN (64 * k.val + r.val)).val = 64 * k.val + r.val := Nat.mod_eq_of_lt (by omega)
  unfold chunkDown dnB
  split_ifs with h1 h2 h2
  · rw [pay11_apply4, ldD0_apply]
    exact congrArg (fun q => d (ix3 0 q l)) (Fin.ext (by simp only [rowN]; omega))
  · omega
  · rw [pay12_apply4, if_pos (by omega), ldH0_apply _ _ (by omega)]
    exact congrArg (fun q => d (ix3 0 q l)) (Fin.ext (by simp only [rowN]; omega))
  · rw [pay12_apply4, if_neg (by omega)]

theorem down1 (k : Fin k4_t2_loop.trips) (n : ℕ) (hn : n < 8) (r : Fin 64) (l : Fin 256) :
    chunkDown (k4_pay21 (ldD1 d k)) (k4_pay22 (Scf.iv 0#32 1#32 k) (ldH1 d k)) n r l = dnB d 1 (rowN (64 * k.val + r.val)) n l := by
  have hk := trips4 k
  have hr : (rowN (64 * k.val + r.val)).val = 64 * k.val + r.val := Nat.mod_eq_of_lt (by omega)
  unfold chunkDown dnB
  split_ifs with h1 h2 h2
  · rw [pay21_apply4, ldD1_apply]
    exact congrArg (fun q => d (ix3 1 q l)) (Fin.ext (by simp only [rowN]; omega))
  · omega
  · rw [pay22_apply4, if_pos (by omega), ldH1_apply _ _ (by omega)]
    exact congrArg (fun q => d (ix3 1 q l)) (Fin.ext (by simp only [rowN]; omega))
  · rw [pay22_apply4, if_neg (by omega)]

theorem duC0_apply (k : Fin k4_t2_loop.trips) (r : Fin 64) (l : Fin 256) :
    duC0 w d k (ix3 0 r l) = duB w d 0 (rowN (64 * k.val + r.val)) l := by
  unfold duC0 duB
  rw [pay16_apply4, pay13_apply4, pay14_apply4, down0 _ _ 1 (by decide), down0 _ _ 2 (by decide), ldD0_apply,
    ldW (q := 0) (p := 0) _ ![0, 0, 0] _ rfl, ldW (q := 1) (p := 0) _ ![1, 0, 0] _ rfl, ldW (q := 2) (p := 0) _ ![2, 0, 0] _ rfl]

theorem duC1_apply (k : Fin k4_t2_loop.trips) (r : Fin 64) (l : Fin 256) :
    duC1 w d k (ix2 r l) = duB w d 1 (rowN (64 * k.val + r.val)) l := by
  unfold duC1 duB
  rw [pay25_apply4, pay23_apply4, pay24_apply4, down1 _ _ 1 (by decide), down1 _ _ 2 (by decide), pay21_apply4, ldD1_apply,
    ldW (q := 0) (p := 1) _ ![0, 1, 0] _ rfl, ldW (q := 1) (p := 1) _ ![1, 1, 0] _ rfl, ldW (q := 2) (p := 1) _ ![2, 1, 0] _ rfl]

/-- One row's contribution to the gradient of the convolution's coefficient `2 - n`. -/
def dwT (p : Fin 2) (n : ℕ) (l : Fin 256) (R : Fin 2048) : EReal := dnB d p R n l * u (ix3 p R l)

theorem dnB_zero (p : Fin 2) (R : Fin 2048) (l : Fin 256) : dnB d p R 0 l = d (ix3 p R l) := by
  unfold dnB
  rw [dif_pos (by omega)]
  rfl

theorem loop4b (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) :
    ∀ n : ℕ, n ≤ k4_t2_loop.trips →
    (∀ r l, (st_k4_t2 (F := Ideal) Variants.none c none i arg1 harg1 arg2 harg2 arg3 harg3 arg4 harg4 arg5 harg5 arg6 harg6 arg7 harg7 arg8 harg8 (harg1.unread u) (harg4.unread w) (harg8.unread d) (k4_pay26, k4_pay26, k4_pay26, k4_pay26, k4_pay26, k4_pay26) n).1.1 (ix2 r l) = gsum (dwT u d 0 2 l) n r) ∧
    (∀ r l, (st_k4_t2 (F := Ideal) Variants.none c none i arg1 harg1 arg2 harg2 arg3 harg3 arg4 harg4 arg5 harg5 arg6 harg6 arg7 harg7 arg8 harg8 (harg1.unread u) (harg4.unread w) (harg8.unread d) (k4_pay26, k4_pay26, k4_pay26, k4_pay26, k4_pay26, k4_pay26) n).1.2.1 (ix2 r l) = gsum (dwT u d 0 1 l) n r) ∧
    (∀ r l, (st_k4_t2 (F := Ideal) Variants.none c none i arg1 harg1 arg2 harg2 arg3 harg3 arg4 harg4 arg5 harg5 arg6 harg6 arg7 harg7 arg8 harg8 (harg1.unread u) (harg4.unread w) (harg8.unread d) (k4_pay26, k4_pay26, k4_pay26, k4_pay26, k4_pay26, k4_pay26) n).1.2.2.1 (ix2 r l) = gsum (dwT u d 0 0 l) n r) ∧
    (∀ r l, (st_k4_t2 (F := Ideal) Variants.none c none i arg1 harg1 arg2 harg2 arg3 harg3 arg4 harg4 arg5 harg5 arg6 harg6 arg7 harg7 arg8 harg8 (harg1.unread u) (harg4.unread w) (harg8.unread d) (k4_pay26, k4_pay26, k4_pay26, k4_pay26, k4_pay26, k4_pay26) n).1.2.2.2.1 (ix2 r l) = gsum (dwT u d 1 2 l) n r) ∧
    (∀ r l, (st_k4_t2 (F := Ideal) Variants.none c none i arg1 harg1 arg2 harg2 arg3 harg3 arg4 harg4 arg5 harg5 arg6 harg6 arg7 harg7 arg8 harg8 (harg1.unread u) (harg4.unread w) (harg8.unread d) (k4_pay26, k4_pay26, k4_pay26, k4_pay26, k4_pay26, k4_pay26) n).1.2.2.2.2.1 (ix2 r l) = gsum (dwT u d 1 1 l) n r) ∧
    (∀ r l, (st_k4_t2 (F := Ideal) Variants.none c none i arg1 harg1 arg2 harg2 arg3 harg3 arg4 harg4 arg5 harg5 arg6 harg6 arg7 harg7 arg8 harg8 (harg1.unread u) (harg4.unread w) (harg8.unread d) (k4_pay26, k4_pay26, k4_pay26, k4_pay26, k4_pay26, k4_pay26) n).1.2.2.2.2.2 (ix2 r l) = gsum (dwT u d 1 0 l) n r) ∧
    (∀ p R l, View.AllAt (st_k4_t2 (F := Ideal) Variants.none c none i arg1 harg1 arg2 harg2 arg3 harg3 arg4 harg4 arg5 harg5 arg6 harg6 arg7 harg7 arg8 harg8 (harg1.unread u) (harg4.unread w) (harg8.unread d) (k4_pay26, k4_pay26, k4_pay26, k4_pay26, k4_pay26, k4_pay26) n).2 (ix3 p R l) (duB w d p R l)) := by
  intro n
  induction n with
  | zero =>
    intro _
    refine ⟨fun r l => ?_, fun r l => ?_, fun r l => ?_, fun r l => ?_, fun r l => ?_, fun r l => ?_, fun p R l => View.allAt_nil _ _⟩ <;>
      (rw [gsum_zero]; exact pay26_apply4 r l)
  | succ n ih =>
    intro hn
    have hs := st_k4_t2_succ (F := Ideal) Variants.none c none i arg1 harg1 arg2 harg2 arg3 harg3 arg4 harg4 arg5 harg5 arg6 harg6 arg7 harg7 arg8 harg8 (harg1.unread u) (harg4.unread w) (harg8.unread d) (k4_pay26, k4_pay26, k4_pay26, k4_pay26, k4_pay26, k4_pay26) ⟨n, hn⟩
    rw [tripR4b, tripL4b] at hs
    obtain ⟨ih1, ih2, ih3, ih4, ih5, ih6, ih7⟩ := ih (by omega)
    rw [show (⟨n, hn⟩ : Fin k4_t2_loop.trips).val = n from rfl] at hs
    rw [hs]
    refine ⟨fun r l => ?_, fun r l => ?_, fun r l => ?_, fun r l => ?_, fun r l => ?_, fun r l => ?_, fun p R l => ?_⟩
    · rw [gsum_succ, ← ih1]
      refine ((pay38_apply4 ..).trans (congrArg _ (pay18_apply4 ..))).trans (congrArg _ (Finset.sum_congr rfl fun j _ => ?_))
      unfold dwT
      rw [pay14_apply4, down0 _ _ 2 (by decide), ldU0_apply]
    · rw [gsum_succ, ← ih2]
      refine ((pay39_apply4 ..).trans (congrArg _ (pay19_apply4 ..))).trans (congrArg _ (Finset.sum_congr rfl fun j _ => ?_))
      unfold dwT
      rw [pay13_apply4, down0 _ _ 1 (by decide), ldU0_apply]
    · rw [gsum_succ, ← ih3]
      refine ((pay40_apply4 ..).trans (congrArg _ (pay20_apply4 ..))).trans (congrArg _ (Finset.sum_congr rfl fun j _ => ?_))
      unfold dwT
      rw [pay11_apply4, ldD0_apply, ldU0_apply, dnB_zero]
    · rw [gsum_succ, ← ih4]
      refine (pay41_apply4 ..).trans (congrArg _ (Finset.sum_congr rfl fun j _ => ?_))
      unfold dwT
      rw [pay24_apply4, down1 _ _ 2 (by decide), ldU1_apply]
    · rw [gsum_succ, ← ih5]
      refine (pay42_apply4 ..).trans (congrArg _ (Finset.sum_congr rfl fun j _ => ?_))
      unfold dwT
      rw [pay23_apply4, down1 _ _ 1 (by decide), ldU1_apply]
    · rw [gsum_succ, ← ih6]
      refine (pay43_apply4 ..).trans (congrArg _ (Finset.sum_congr rfl fun j _ => ?_))
      unfold dwT
      rw [pay21_apply4, ldD1_apply, ldU1_apply, dnB_zero]
    · refine View.allAt_cons_unit _ _ _ _ _ (fun x hx => ?_) (View.allAt_cons_unit _ _ _ _ _ (fun x hx => ?_) (ih7 p R l))
      · obtain ⟨z, r, l', rfl⟩ : ∃ (z : Fin 1) (r : Fin 64) (l' : Fin 256), x = ix3 z r l' := ⟨x 0, x 1, x 2, eq_ix3 x⟩
        rw [off4_6] at hx
        have h0 := hx 0; have h1 := hx 1; have h2 := hx 2
        simp at h0 h1 h2
        obtain rfl : R = rowN (64 * n + r.val) := rowN_eq _ _ h1
        obtain rfl : l = l' := Fin.ext h2
        obtain rfl : p = 1 := Fin.ext (by simpa using h0)
        obtain rfl : z = 0 := Subsingleton.elim _ _
        exact (pay36_apply4 ..).trans (duC1_apply ..)
      · obtain ⟨z, r, l', rfl⟩ : ∃ (z : Fin 1) (r : Fin 64) (l' : Fin 256), x = ix3 z r l' := ⟨x 0, x 1, x 2, eq_ix3 x⟩
        rw [off4_4] at hx
        have h0 := hx 0; have h1 := hx 1; have h2 := hx 2
        simp at h0 h1 h2
        obtain rfl : R = rowN (64 * n + r.val) := rowN_eq _ _ h1
        obtain rfl : l = l' := Fin.ext h2
        obtain rfl : p = 0 := Fin.ext (by simpa using h0)
        obtain rfl : z = 0 := Subsingleton.elim _ _
        exact duC0_apply ..

end

end Cert.KernelIdeal.Value
end
-- ==== Proof.BwdC.lean ====
/- The outputs of region 4: the gradients of the convolution's input, coefficients and bias. -/
module

public import proofs.«01_k».proof.Proof.BwdB

@[expose] public section

set_option maxRecDepth 16384

noncomputable section

open Idealize.ShloMosaic Idealize.ShloMosaic.TcCoe Idealize.SL.Sem

namespace Cert.KernelIdeal.Value

open Cert.KernelIdeal Cert.KernelIdeal.Gen

local notation "MemA" => Memref sig Kind.tc Space.vmem S2x2048x256 EltTy.bf16
local notation "MemB" => Memref sig Kind.tc Space.vmem S3x2x256 EltTy.f32
local notation "MemC" => Memref sig Kind.tc Space.vmem S2048x256 EltTy.bf16
local notation "MemD" => Memref sig Kind.tc Space.vmem S2x256 EltTy.f32
local notation "MemE" => Memref sig Kind.tc Space.vmem S2x2048x256 EltTy.f32

section
variable (x0 x1 : Vec Ideal S2x2048x256 .bf16) (x2 : Vec Ideal S2048x256 .bf16) (x3 : Vec Ideal S3x2x256 .f32)

/-- The scratch: the gradient of the convolution's output. -/
def dyS : Vec Ideal S2x2048x256 .f32 := fun i => dyB x1 x2 (i 0) (i 1) (i 2)

include x0 x3 in
theorem scr4 (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) :
    View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2 = dyS x1 x2 := by
  funext i
  obtain ⟨p, R, l, rfl⟩ : ∃ (p : Fin 2) (R : Fin 2048) (l : Fin 256), i = ix3 p R l := ⟨i 0, i 1, i 2, eq_ix3 i⟩
  exact View.canon_eq_of_allAt _ _ _ (Own.scr4_cover c i arg1 harg1 arg2 harg2 arg3 harg3 arg4 harg4 arg5 harg5 arg6 harg6 arg7 harg7 arg8 harg8 x0 x1 x2 x3 _) ((loop4a x1 x2 c i arg1 harg1 arg2 harg2 arg3 harg3 arg4 harg4 arg5 harg5 arg6 harg6 arg7 harg7 arg8 harg8 _ le_rfl).2.2 p R l)

theorem out4_4_apply (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) (p : Fin 2) (R : Fin 2048) (l : Fin 256) :
    Own.out4_A_4 c i arg1 harg1 arg2 harg2 arg3 harg3 arg4 harg4 arg5 harg5 arg6 harg6 arg7 harg7 arg8 harg8 x0 x1 x2 x3 (ix3 p R l) = duB x3 (dyS x1 x2) p R l := by
  unfold Own.out4_A_4
  rw [View.read_writes_eq_canon _ _ _ (Own.cover4_A_4 c i arg1 harg1 arg2 harg2 arg3 harg3 arg4 harg4 arg5 harg5 arg6 harg6 arg7 harg7 arg8 harg8 x0 x1 x2 x3)]
  have h := (loop4b x0 x3 (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2) c i arg1 harg1 arg2 harg2 arg3 harg3 arg4 harg4 arg5 harg5 arg6 harg6 arg7 harg7 arg8 harg8 (Scf.trips k4_t2_loop.lb k4_t2_loop.ub k4_t2_loop.st) le_rfl).2.2.2.2.2.2 p R l
  have e := View.canon_eq_of_allAt _ _ _ (Own.cover4_A_4 c i arg1 harg1 arg2 harg2 arg3 harg3 arg4 harg4 arg5 harg5 arg6 harg6 arg7 harg7 arg8 harg8 x0 x1 x2 x3 _) h
  rw [scr4 x0 x1 x2 x3] at e
  exact e

theorem fold4a (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) (p : Fin 2) (l : Fin 256) :
    (∑ r : Fin 8, (if p = 0 then (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).1.1 else (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).1.2) (ix2 r l)) = ∑ R : Fin 2048, dyS x1 x2 (ix3 p R l) := by
  have h := loop4a x1 x2 c i arg1 harg1 arg2 harg2 arg3 harg3 arg4 harg4 arg5 harg5 arg6 harg6 arg7 harg7 arg8 harg8 (Scf.trips k4_t1_loop.lb k4_t1_loop.ub k4_t1_loop.st) le_rfl
  refine Eq.trans (Finset.sum_congr rfl fun r _ => ?_) (gsum_all fun R => dyB x1 x2 p R l)
  obtain rfl | rfl : p = 0 ∨ p = 1 := by omega
  · exact h.1 r l
  · exact h.2.1 r l

theorem pieces4_6 (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) :
    (Own.kernelRun4_A (F := Ideal) c i arg1 harg1 arg2 harg2 arg3 harg3 arg4 harg4 arg5 harg5 arg6 harg6 arg7 harg7 arg8 harg8 x0 x1 x2 x3).2.2.1
      = [⟨Rect.unit (s := S2x256) ![1, 0] S1x256.size inb_S2x256_S1x256_1_0, k4_pay35 (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).1.2⟩,
         ⟨Rect.unit (s := S2x256) ![0, 0] S1x256.size inb_S2x256_S1x256_0_0, k4_pay34 (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).1.1⟩] := rfl

theorem out4_6_apply (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) (p : Fin 2) (l : Fin 256) :
    Own.out4_A_6 c i arg1 harg1 arg2 harg2 arg3 harg3 arg4 harg4 arg5 harg5 arg6 harg6 arg7 harg7 arg8 harg8 x0 x1 x2 x3 (ix2 p l) = ∑ R : Fin 2048, dyS x1 x2 (ix3 p R l) := by
  unfold Own.out4_A_6
  rw [View.read_writes_eq_canon _ _ _ (Own.cover4_A_6 c i arg1 harg1 arg2 harg2 arg3 harg3 arg4 harg4 arg5 harg5 arg6 harg6 arg7 harg7 arg8 harg8 x0 x1 x2 x3)]
  refine View.canon_eq_of_allAt _ _ _ (Own.cover4_A_6 c i arg1 harg1 arg2 harg2 arg3 harg3 arg4 harg4 arg5 harg5 arg6 harg6 arg7 harg7 arg8 harg8 x0 x1 x2 x3 _) ?_
  rw [pieces4_6]
  refine View.allAt_cons_unit _ _ _ _ _ (fun x hx => ?_) (View.allAt_cons_unit _ _ _ _ _ (fun x hx => ?_) (View.allAt_nil _ _))
  · obtain ⟨z, l', rfl⟩ : ∃ (z : Fin 1) (l' : Fin 256), x = ix2 z l' := ⟨x 0, x 1, eq_ix2 x⟩
    have h0 := hx 0; have h1 := hx 1
    simp at h0 h1
    obtain rfl : l = l' := Fin.ext h1
    obtain rfl : p = 1 := Fin.ext (by simpa using h0)
    obtain rfl : z = 0 := Subsingleton.elim _ _
    exact (pay35_apply4 ..).trans (fold4a x1 x2 c i arg1 harg1 arg2 harg2 arg3 harg3 arg4 harg4 arg5 harg5 arg6 harg6 arg7 harg7 arg8 harg8 1 l)
  · obtain ⟨z, l', rfl⟩ : ∃ (z : Fin 1) (l' : Fin 256), x = ix2 z l' := ⟨x 0, x 1, eq_ix2 x⟩
    have h0 := hx 0; have h1 := hx 1
    simp at h0 h1
    obtain rfl : l = l' := Fin.ext h1
    obtain rfl : p = 0 := Fin.ext (by simpa using h0)
    obtain rfl : z = 0 := Subsingleton.elim _ _
    exact (pay34_apply4 ..).trans (fold4a x1 x2 c i arg1 harg1 arg2 harg2 arg3 harg3 arg4 harg4 arg5 harg5 arg6 harg6 arg7 harg7 arg8 harg8 0 l)

theorem fold4b_0 (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) (l : Fin 256) :
    (∑ r : Fin 8, (st_k4_t2 (F := Ideal) Variants.none c none i arg1 harg1 arg2 harg2 arg3 harg3 arg4 harg4 arg5 harg5 arg6 harg6 arg7 harg7 arg8 harg8 (harg1.unread x0) (harg4.unread x3) (harg8.unread (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2)) (k4_pay26, k4_pay26, k4_pay26, k4_pay26, k4_pay26, k4_pay26) (Scf.trips k4_t2_loop.lb k4_t2_loop.ub k4_t2_loop.st)).1.1 (ix2 r l)) = ∑ R : Fin 2048, dwT x0 (dyS x1 x2) 0 2 l R := by
  have h := (loop4b x0 x3 (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2) c i arg1 harg1 arg2 harg2 arg3 harg3 arg4 harg4 arg5 harg5 arg6 harg6 arg7 harg7 arg8 harg8 (Scf.trips k4_t2_loop.lb k4_t2_loop.ub k4_t2_loop.st) le_rfl).1
  rw [← gsum_all, ← scr4 x0 x1 x2 x3 c i arg1 harg1 arg2 harg2 arg3 harg3 arg4 harg4 arg5 harg5 arg6 harg6 arg7 harg7 arg8 harg8]
  exact Finset.sum_congr rfl fun r _ => h r l

theorem fold4b_1 (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) (l : Fin 256) :
    (∑ r : Fin 8, (st_k4_t2 (F := Ideal) Variants.none c none i arg1 harg1 arg2 harg2 arg3 harg3 arg4 harg4 arg5 harg5 arg6 harg6 arg7 harg7 arg8 harg8 (harg1.unread x0) (harg4.unread x3) (harg8.unread (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2)) (k4_pay26, k4_pay26, k4_pay26, k4_pay26, k4_pay26, k4_pay26) (Scf.trips k4_t2_loop.lb k4_t2_loop.ub k4_t2_loop.st)).1.2.1 (ix2 r l)) = ∑ R : Fin 2048, dwT x0 (dyS x1 x2) 0 1 l R := by
  have h := (loop4b x0 x3 (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2) c i arg1 harg1 arg2 harg2 arg3 harg3 arg4 harg4 arg5 harg5 arg6 harg6 arg7 harg7 arg8 harg8 (Scf.trips k4_t2_loop.lb k4_t2_loop.ub k4_t2_loop.st) le_rfl).2.1
  rw [← gsum_all, ← scr4 x0 x1 x2 x3 c i arg1 harg1 arg2 harg2 arg3 harg3 arg4 harg4 arg5 harg5 arg6 harg6 arg7 harg7 arg8 harg8]
  exact Finset.sum_congr rfl fun r _ => h r l

theorem fold4b_2 (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) (l : Fin 256) :
    (∑ r : Fin 8, (st_k4_t2 (F := Ideal) Variants.none c none i arg1 harg1 arg2 harg2 arg3 harg3 arg4 harg4 arg5 harg5 arg6 harg6 arg7 harg7 arg8 harg8 (harg1.unread x0) (harg4.unread x3) (harg8.unread (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2)) (k4_pay26, k4_pay26, k4_pay26, k4_pay26, k4_pay26, k4_pay26) (Scf.trips k4_t2_loop.lb k4_t2_loop.ub k4_t2_loop.st)).1.2.2.1 (ix2 r l)) = ∑ R : Fin 2048, dwT x0 (dyS x1 x2) 0 0 l R := by
  have h := (loop4b x0 x3 (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2) c i arg1 harg1 arg2 harg2 arg3 harg3 arg4 harg4 arg5 harg5 arg6 harg6 arg7 harg7 arg8 harg8 (Scf.trips k4_t2_loop.lb k4_t2_loop.ub k4_t2_loop.st) le_rfl).2.2.1
  rw [← gsum_all, ← scr4 x0 x1 x2 x3 c i arg1 harg1 arg2 harg2 arg3 harg3 arg4 harg4 arg5 harg5 arg6 harg6 arg7 harg7 arg8 harg8]
  exact Finset.sum_congr rfl fun r _ => h r l

theorem fold4b_3 (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) (l : Fin 256) :
    (∑ r : Fin 8, (st_k4_t2 (F := Ideal) Variants.none c none i arg1 harg1 arg2 harg2 arg3 harg3 arg4 harg4 arg5 harg5 arg6 harg6 arg7 harg7 arg8 harg8 (harg1.unread x0) (harg4.unread x3) (harg8.unread (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2)) (k4_pay26, k4_pay26, k4_pay26, k4_pay26, k4_pay26, k4_pay26) (Scf.trips k4_t2_loop.lb k4_t2_loop.ub k4_t2_loop.st)).1.2.2.2.1 (ix2 r l)) = ∑ R : Fin 2048, dwT x0 (dyS x1 x2) 1 2 l R := by
  have h := (loop4b x0 x3 (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2) c i arg1 harg1 arg2 harg2 arg3 harg3 arg4 harg4 arg5 harg5 arg6 harg6 arg7 harg7 arg8 harg8 (Scf.trips k4_t2_loop.lb k4_t2_loop.ub k4_t2_loop.st) le_rfl).2.2.2.1
  rw [← gsum_all, ← scr4 x0 x1 x2 x3 c i arg1 harg1 arg2 harg2 arg3 harg3 arg4 harg4 arg5 harg5 arg6 harg6 arg7 harg7 arg8 harg8]
  exact Finset.sum_congr rfl fun r _ => h r l

theorem fold4b_4 (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) (l : Fin 256) :
    (∑ r : Fin 8, (st_k4_t2 (F := Ideal) Variants.none c none i arg1 harg1 arg2 harg2 arg3 harg3 arg4 harg4 arg5 harg5 arg6 harg6 arg7 harg7 arg8 harg8 (harg1.unread x0) (harg4.unread x3) (harg8.unread (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2)) (k4_pay26, k4_pay26, k4_pay26, k4_pay26, k4_pay26, k4_pay26) (Scf.trips k4_t2_loop.lb k4_t2_loop.ub k4_t2_loop.st)).1.2.2.2.2.1 (ix2 r l)) = ∑ R : Fin 2048, dwT x0 (dyS x1 x2) 1 1 l R := by
  have h := (loop4b x0 x3 (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2) c i arg1 harg1 arg2 harg2 arg3 harg3 arg4 harg4 arg5 harg5 arg6 harg6 arg7 harg7 arg8 harg8 (Scf.trips k4_t2_loop.lb k4_t2_loop.ub k4_t2_loop.st) le_rfl).2.2.2.2.1
  rw [← gsum_all, ← scr4 x0 x1 x2 x3 c i arg1 harg1 arg2 harg2 arg3 harg3 arg4 harg4 arg5 harg5 arg6 harg6 arg7 harg7 arg8 harg8]
  exact Finset.sum_congr rfl fun r _ => h r l

theorem fold4b_5 (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) (l : Fin 256) :
    (∑ r : Fin 8, (st_k4_t2 (F := Ideal) Variants.none c none i arg1 harg1 arg2 harg2 arg3 harg3 arg4 harg4 arg5 harg5 arg6 harg6 arg7 harg7 arg8 harg8 (harg1.unread x0) (harg4.unread x3) (harg8.unread (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2)) (k4_pay26, k4_pay26, k4_pay26, k4_pay26, k4_pay26, k4_pay26) (Scf.trips k4_t2_loop.lb k4_t2_loop.ub k4_t2_loop.st)).1.2.2.2.2.2 (ix2 r l)) = ∑ R : Fin 2048, dwT x0 (dyS x1 x2) 1 0 l R := by
  have h := (loop4b x0 x3 (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2) c i arg1 harg1 arg2 harg2 arg3 harg3 arg4 harg4 arg5 harg5 arg6 harg6 arg7 harg7 arg8 harg8 (Scf.trips k4_t2_loop.lb k4_t2_loop.ub k4_t2_loop.st) le_rfl).2.2.2.2.2.1
  rw [← gsum_all, ← scr4 x0 x1 x2 x3 c i arg1 harg1 arg2 harg2 arg3 harg3 arg4 harg4 arg5 harg5 arg6 harg6 arg7 harg7 arg8 harg8]
  exact Finset.sum_congr rfl fun r _ => h r l

theorem pieces4_5 (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) :
    (Own.kernelRun4_A (F := Ideal) c i arg1 harg1 arg2 harg2 arg3 harg3 arg4 harg4 arg5 harg5 arg6 harg6 arg7 harg7 arg8 harg8 x0 x1 x2 x3).2.1
      = [⟨Rect.unit (s := S3x2x256) ![2, 1, 0] S1x1x256.size inb_S3x2x256_S1x1x256_2_1_0, k4_pay3 (st_k4_t2 (F := Ideal) Variants.none c none i arg1 harg1 arg2 harg2 arg3 harg3 arg4 harg4 arg5 harg5 arg6 harg6 arg7 harg7 arg8 harg8 (harg1.unread x0) (harg4.unread x3) (harg8.unread (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2)) (k4_pay26, k4_pay26, k4_pay26, k4_pay26, k4_pay26, k4_pay26) (Scf.trips k4_t2_loop.lb k4_t2_loop.ub k4_t2_loop.st)).1.2.2.2.2.2⟩,
         ⟨Rect.unit (s := S3x2x256) ![1, 1, 0] S1x1x256.size inb_S3x2x256_S1x1x256_1_1_0, k4_pay2 (st_k4_t2 (F := Ideal) Variants.none c none i arg1 harg1 arg2 harg2 arg3 harg3 arg4 harg4 arg5 harg5 arg6 harg6 arg7 harg7 arg8 harg8 (harg1.unread x0) (harg4.unread x3) (harg8.unread (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2)) (k4_pay26, k4_pay26, k4_pay26, k4_pay26, k4_pay26, k4_pay26) (Scf.trips k4_t2_loop.lb k4_t2_loop.ub k4_t2_loop.st)).1.2.2.2.2.1⟩,
         ⟨Rect.unit (s := S3x2x256) ![0, 1, 0] S1x1x256.size inb_S3x2x256_S1x1x256_0_1_0, k4_pay1 (st_k4_t2 (F := Ideal) Variants.none c none i arg1 harg1 arg2 harg2 arg3 harg3 arg4 harg4 arg5 harg5 arg6 harg6 arg7 harg7 arg8 harg8 (harg1.unread x0) (harg4.unread x3) (harg8.unread (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2)) (k4_pay26, k4_pay26, k4_pay26, k4_pay26, k4_pay26, k4_pay26) (Scf.trips k4_t2_loop.lb k4_t2_loop.ub k4_t2_loop.st)).1.2.2.2.1⟩,
         ⟨Rect.unit (s := S3x2x256) ![2, 0, 0] S1x1x256.size inb_S3x2x256_S1x1x256_2_0_0, k4_pay46 (st_k4_t2 (F := Ideal) Variants.none c none i arg1 harg1 arg2 harg2 arg3 harg3 arg4 harg4 arg5 harg5 arg6 harg6 arg7 harg7 arg8 harg8 (harg1.unread x0) (harg4.unread x3) (harg8.unread (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2)) (k4_pay26, k4_pay26, k4_pay26, k4_pay26, k4_pay26, k4_pay26) (Scf.trips k4_t2_loop.lb k4_t2_loop.ub k4_t2_loop.st)).1.2.2.1⟩,
         ⟨Rect.unit (s := S3x2x256) ![1, 0, 0] S1x1x256.size inb_S3x2x256_S1x1x256_1_0_0, k4_pay45 (st_k4_t2 (F := Ideal) Variants.none c none i arg1 harg1 arg2 harg2 arg3 harg3 arg4 harg4 arg5 harg5 arg6 harg6 arg7 harg7 arg8 harg8 (harg1.unread x0) (harg4.unread x3) (harg8.unread (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2)) (k4_pay26, k4_pay26, k4_pay26, k4_pay26, k4_pay26, k4_pay26) (Scf.trips k4_t2_loop.lb k4_t2_loop.ub k4_t2_loop.st)).1.2.1⟩,
         ⟨Rect.unit (s := S3x2x256) ![0, 0, 0] S1x1x256.size inb_S3x2x256_S1x1x256_0_0_0, k4_pay44 (st_k4_t2 (F := Ideal) Variants.none c none i arg1 harg1 arg2 harg2 arg3 harg3 arg4 harg4 arg5 harg5 arg6 harg6 arg7 harg7 arg8 harg8 (harg1.unread x0) (harg4.unread x3) (harg8.unread (View.canon (st_k4_t1 (F := Ideal) Variants.none c none i arg1 harg1 arg2 harg2 arg3 harg3 arg4 harg4 arg5 harg5 arg6 harg6 arg7 harg7 arg8 harg8 (harg2.unread x1) (harg3.unread x2) (k4_pay26, k4_pay26) (Scf.trips k4_t1_loop.lb k4_t1_loop.ub k4_t1_loop.st)).2)) (k4_pay26, k4_pay26, k4_pay26, k4_pay26, k4_pay26, k4_pay26) (Scf.trips k4_t2_loop.lb k4_t2_loop.ub k4_t2_loop.st)).1.1⟩] := rfl

theorem out4_5_apply (c : Dev nD) (i : grid4.Coords) (arg1 : MemA) (harg1 : arg1.IsWhole) (arg2 : MemA) (harg2 : arg2.IsWhole) (arg3 : MemC) (harg3 : arg3.IsWhole) (arg4 : MemB) (harg4 : arg4.IsWhole) (arg5 : MemA) (harg5 : arg5.IsWhole) (arg6 : MemB) (harg6 : arg6.IsWhole) (arg7 : MemD) (harg7 : arg7.IsWhole) (arg8 : MemE) (harg8 : arg8.IsWhole) (q : Fin 3) (p : Fin 2) (l : Fin 256) :
    Own.out4_A_5 c i arg1 harg1 arg2 harg2 arg3 harg3 arg4 harg4 arg5 harg5 arg6 harg6 arg7 harg7 arg8 harg8 x0 x1 x2 x3 (ix3 q p l) = ∑ R : Fin 2048, dwT x0 (dyS x1 x2) p (2 - q.val) l R := by
  unfold Own.out4_A_5
  rw [View.read_writes_eq_canon _ _ _ (Own.cover4_A_5 c i arg1 harg1 arg2 harg2 arg3 harg3 arg4 harg4 arg5 harg5 arg6 harg6 arg7 harg7 arg8 harg8 x0 x1 x2 x3)]
  refine View.canon_eq_of_allAt _ _ _ (Own.cover4_A_5 c i arg1 harg1 arg2 harg2 arg3 harg3 arg4 harg4 arg5 harg5 arg6 harg6 arg7 harg7 arg8 harg8 x0 x1 x2 x3 _) ?_
  rw [pieces4_5]
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))))
  · obtain ⟨z, z', l', rfl⟩ : ∃ (z z' : Fin 1) (l' : Fin 256), x = ix3 z z' l' := ⟨x 0, x 1, x 2, eq_ix3 x⟩
    have h0 := hx 0; have h1 := hx 1; have h2 := hx 2
    simp at h0 h1 h2
    obtain rfl : l = l' := Fin.ext h2
    obtain rfl : q = 2 := Fin.ext (by simpa using h0)
    obtain rfl : p = 1 := Fin.ext (by simpa using h1)
    obtain rfl : z = 0 := Subsingleton.elim _ _
    obtain rfl : z' = 0 := Subsingleton.elim _ _
    exact (pay3_apply4 ..).trans (fold4b_5 x0 x1 x2 x3 c i arg1 harg1 arg2 harg2 arg3 harg3 arg4 harg4 arg5 harg5 arg6 harg6 arg7 harg7 arg8 harg8 l)
  · obtain ⟨z, z', l', rfl⟩ : ∃ (z z' : Fin 1) (l' : Fin 256), x = ix3 z z' l' := ⟨x 0, x 1, x 2, eq_ix3 x⟩
    have h0 := hx 0; have h1 := hx 1; have h2 := hx 2
    simp at h0 h1 h2
    obtain rfl : l = l' := Fin.ext h2
    obtain rfl : q = 1 := Fin.ext (by simpa using h0)
    obtain rfl : p = 1 := Fin.ext (by simpa using h1)
    obtain rfl : z = 0 := Subsingleton.elim _ _
    obtain rfl : z' = 0 := Subsingleton.elim _ _
    exact (pay2_apply4 ..).trans (fold4b_4 x0 x1 x2 x3 c i arg1 harg1 arg2 harg2 arg3 harg3 arg4 harg4 arg5 harg5 arg6 harg6 arg7 harg7 arg8 harg8 l)
  · obtain ⟨z, z', l', rfl⟩ : ∃ (z z' : Fin 1) (l' : Fin 256), x = ix3 z z' l' := ⟨x 0, x 1, x 2, eq_ix3 x⟩
    have h0 := hx 0; have h1 := hx 1; have h2 := hx 2
    simp at h0 h1 h2
    obtain rfl : l = l' := Fin.ext h2
    obtain rfl : q = 0 := Fin.ext (by simpa using h0)
    obtain rfl : p = 1 := Fin.ext (by simpa using h1)
    obtain rfl : z = 0 := Subsingleton.elim _ _
    obtain rfl : z' = 0 := Subsingleton.elim _ _
    exact (pay1_apply4 ..).trans (fold4b_3 x0 x1 x2 x3 c i arg1 harg1 arg2 harg2 arg3 harg3 arg4 harg4 arg5 harg5 arg6 harg6 arg7 harg7 arg8 harg8 l)
  · obtain ⟨z, z', l', rfl⟩ : ∃ (z z' : Fin 1) (l' : Fin 256), x = ix3 z z' l' := ⟨x 0, x 1, x 2, eq_ix3 x⟩
    have h0 := hx 0; have h1 := hx 1; have h2 := hx 2
    simp at h0 h1 h2
    obtain rfl : l = l' := Fin.ext h2
    obtain rfl : q = 2 := Fin.ext (by simpa using h0)
    obtain rfl : p = 0 := Fin.ext (by simpa using h1)
    obtain rfl : z = 0 := Subsingleton.elim _ _
    obtain rfl : z' = 0 := Subsingleton.elim _ _
    exact (pay46_apply4 ..).trans (fold4b_2 x0 x1 x2 x3 c i arg1 harg1 arg2 harg2 arg3 harg3 arg4 harg4 arg5 harg5 arg6 harg6 arg7 harg7 arg8 harg8 l)
  · obtain ⟨z, z', l', rfl⟩ : ∃ (z z' : Fin 1) (l' : Fin 256), x = ix3 z z' l' := ⟨x 0, x 1, x 2, eq_ix3 x⟩
    have h0 := hx 0; have h1 := hx 1; have h2 := hx 2
    simp at h0 h1 h2
    obtain rfl : l = l' := Fin.ext h2
    obtain rfl : q = 1 := Fin.ext (by simpa using h0)
    obtain rfl : p = 0 := Fin.ext (by simpa using h1)
    obtain rfl : z = 0 := Subsingleton.elim _ _
    obtain rfl : z' = 0 := Subsingleton.elim _ _
    exact (pay45_apply4 ..).trans (fold4b_1 x0 x1 x2 x3 c i arg1 harg1 arg2 harg2 arg3 harg3 arg4 harg4 arg5 harg5 arg6 harg6 arg7 harg7 arg8 harg8 l)
  · obtain ⟨z, z', l', rfl⟩ : ∃ (z z' : Fin 1) (l' : Fin 256), x = ix3 z z' l' := ⟨x 0, x 1, x 2, eq_ix3 x⟩
    have h0 := hx 0; have h1 := hx 1; have h2 := hx 2
    simp at h0 h1 h2
    obtain rfl : l = l' := Fin.ext h2
    obtain rfl : q = 0 := Fin.ext (by simpa using h0)
    obtain rfl : p = 0 := Fin.ext (by simpa using h1)
    obtain rfl : z = 0 := Subsingleton.elim _ _
    obtain rfl : z' = 0 := Subsingleton.elim _ _
    exact (pay44_apply4 ..).trans (fold4b_0 x0 x1 x2 x3 c i arg1 harg1 arg2 harg2 arg3 harg3 arg4 harg4 arg5 harg5 arg6 harg6 arg7 harg7 arg8 harg8 l)
end

/-- Row `R + n` of plane `p`; zero past the last. -/
def rowDn (d : FVec Ideal S2x2048x4096 .f32) (p : Fin 2) (R : Fin 2048) (n : ℕ) (l : Fin 4096) : EReal :=
  if h : R.val + n < 2048 then d (ix3 p (⟨R.val + n, h⟩ : Fin 2048) l) else 0

/-- The gradient of the convolution's output. -/
def dyOf (da : FVec Ideal S2048x4096 .bf16) (y : FVec Ideal S2x2048x4096 .bf16) : FVec Ideal S2x2048x4096 .f32 :=
  fun i => if (i 0).val = 0 then da (ix2 (i 1) (i 2)) * y (ix3 1 (i 1) (i 2)) * dgeluK (y (ix3 0 (i 1) (i 2)))
    else da (ix2 (i 1) (i 2)) * geluK (y (ix3 0 (i 1) (i 2)))

/-- The gradient of the convolution's input. -/
def duOf (w : FVec Ideal S3x2x4096 .f32) (d : FVec Ideal S2x2048x4096 .f32) : FVec Ideal S2x2048x4096 .bf16 :=
  fun i => w (ix3 2 (i 0) (i 2)) * d (ix3 (i 0) (i 1) (i 2)) + w (ix3 1 (i 0) (i 2)) * rowDn d (i 0) (i 1) 1 (i 2)
    + w (ix3 0 (i 0) (i 2)) * rowDn d (i 0) (i 1) 2 (i 2)

/-- The gradient of the convolution's coefficients. -/
def dwOf (d : FVec Ideal S2x2048x4096 .f32) (u : FVec Ideal S2x2048x4096 .bf16) : FVec Ideal S3x2x4096 .f32 :=
  fun i => ∑ R : Fin 2048, rowDn d (i 1) R (2 - (i 0).val) (i 2) * u (ix3 (i 1) R (i 2))

/-- The gradient of the convolution's bias. -/
def dbOf (d : FVec Ideal S2x2048x4096 .f32) : FVec Ideal S2x4096 .f32 :=
  fun i => ∑ R : Fin 2048, d (ix3 (i 0) R (i 1))

theorem index4_0 : ∀ t : Fin grid4.N, win4_0.index t = ![0, 0, t.val] := by decide +kernel
theorem index4_1 : ∀ t : Fin grid4.N, win4_1.index t = ![0, 0, t.val] := by decide +kernel
theorem index4_2 : ∀ t : Fin grid4.N, win4_2.index t = ![0, t.val] := by decide +kernel
theorem index4_3 : ∀ t : Fin grid4.N, win4_3.index t = ![0, 0, t.val] := by decide +kernel
theorem index4_4 : ∀ t : Fin grid4.N, win4_4.index t = ![0, 0, t.val] := by decide +kernel
theorem index4_5 : ∀ t : Fin grid4.N, win4_5.index t = ![0, 0, t.val] := by decide +kernel
theorem index4_6 : ∀ t : Fin grid4.N, win4_6.index t = ![0, t.val] := by decide +kernel

variable (V : (c : Dev nD) → (b : Ref sig .tc) → Buf (Elt Ideal) ((c : Thread nD τ).loc b))

/-- Lane `l` of column block `t`. -/
def laneB (t : Fin cfg4.N) (l : Fin 256) : Fin 4096 := ⟨t.val * 256 + l.val, by
  have h : t.val < 16 := t.isLt
  omega⟩

theorem blk_u (c : Dev nD) (t : Fin cfg4.N) (p : Fin 2) (R : Fin 2048) (l : Fin 256) :
    Own.iblk4 V c 0 t (ix3 p R l) = V c main_v2 (ix3 p R (laneB t l)) := by
  unfold laneB; blk_point [Own.iblk4, index4_0 t]

theorem blk_y (c : Dev nD) (t : Fin cfg4.N) (p : Fin 2) (R : Fin 2048) (l : Fin 256) :
    Own.iblk4 V c 1 t (ix3 p R l) = V c main_v3_1 (ix3 p R (laneB t l)) := by
  unfold laneB; blk_point [Own.iblk4, index4_1 t]

theorem blk_a (c : Dev nD) (t : Fin cfg4.N) (R : Fin 2048) (l : Fin 256) :
    Own.iblk4 V c 2 t (ix2 R l) = V c main_v4 (ix2 R (laneB t l)) := by
  unfold laneB; blk_point [Own.iblk4, index4_2 t]

theorem blk_w (c : Dev nD) (t : Fin cfg4.N) (q : Fin 3) (p : Fin 2) (l : Fin 256) :
    Own.iblk4 V c 3 t (ix3 q p l) = V c main_v0 (ix3 q p (laneB t l)) := by
  unfold laneB; blk_point [Own.iblk4, index4_3 t]

theorem blk_dy (c : Dev nD) (t : Fin cfg4.N) (p : Fin 2) (R : Fin 2048) (l : Fin 256) :
    dyS (Own.iblk4 V c 1 t) (Own.iblk4 V c 2 t) (ix3 p R l) = dyOf (V c main_v4) (V c main_v3_1) (ix3 p R (laneB t l)) := by
  show dyB _ _ p R l = _
  unfold dyB dyOf
  rw [blk_y, blk_y, blk_a]
  obtain rfl | rfl : p = 0 ∨ p = 1 := by omega
  · rfl
  · rfl

theorem blk_dn (c : Dev nD) (t : Fin cfg4.N) (p : Fin 2) (R : Fin 2048) (n : ℕ) (l : Fin 256) :
    dnB (dyS (Own.iblk4 V c 1 t) (Own.iblk4 V c 2 t)) p R n l = rowDn (dyOf (V c main_v4) (V c main_v3_1)) p R n (laneB t l) := by
  unfold dnB rowDn
  split
  · exact blk_dy ..
  · rfl

theorem arr4_4 (c : Dev nD) :
    (Own.dat4 V c).arrAt 4 cfg4.N = duOf (V c main_v0) (dyOf (V c main_v4) (V c main_v3_1)) := by
  refine (Own.dat4 V c).arrAt_eq_of_covers 4 _ (by decide +kernel) fun t hf y => ?_
  blk_simp
  rw [Own.after4_4]
  unfold Own.outsAt4
  obtain ⟨p, R, l, rfl⟩ : ∃ (p : Fin 2) (R : Fin 2048) (l : Fin 256), y = ix3 p R l := ⟨y 0, y 1, y 2, eq_ix3 y⟩
  dsimp only
  rw [out4_4_apply]
  have h : duB (Own.iblk4 V c 3 t) (dyS (Own.iblk4 V c 1 t) (Own.iblk4 V c 2 t)) p R l
      = duOf (V c main_v0) (dyOf (V c main_v4) (V c main_v3_1)) (ix3 p R (laneB t l)) := by
    unfold duB duOf
    rw [blk_w, blk_w, blk_w, blk_dy, blk_dn, blk_dn]
    rfl
  rw [h]
  generalize duOf (V c main_v0) (dyOf (V c main_v4) (V c main_v3_1)) = G
  unfold laneB
  blk_point [index4_4 t]

theorem arr4_5 (c : Dev nD) :
    (Own.dat4 V c).arrAt 5 cfg4.N = dwOf (dyOf (V c main_v4) (V c main_v3_1)) (V c main_v2) := by
  refine (Own.dat4 V c).arrAt_eq_of_covers 5 _ (by decide +kernel) fun t hf y => ?_
  blk_simp
  rw [Own.after4_5]
  unfold Own.outsAt4
  obtain ⟨q, p, l, rfl⟩ : ∃ (q : Fin 3) (p : Fin 2) (l : Fin 256), y = ix3 q p l := ⟨y 0, y 1, y 2, eq_ix3 y⟩
  dsimp only
  rw [out4_5_apply]
  have h : (∑ R : Fin 2048, dwT (Own.iblk4 V c 0 t) (dyS (Own.iblk4 V c 1 t) (Own.iblk4 V c 2 t)) p (2 - q.val) l R)
      = dwOf (dyOf (V c main_v4) (V c main_v3_1)) (V c main_v2) (ix3 q p (laneB t l)) := by
    unfold dwT dwOf
    exact Finset.sum_congr rfl fun R _ => by rw [blk_dn, blk_u]; rfl
  rw [h]
  generalize dwOf (dyOf (V c main_v4) (V c main_v3_1)) (V c main_v2) = G
  unfold laneB
  blk_point [index4_5 t]

theorem arr4_6 (c : Dev nD) :
    (Own.dat4 V c).arrAt 6 cfg4.N = dbOf (dyOf (V c main_v4) (V c main_v3_1)) := by
  refine (Own.dat4 V c).arrAt_eq_of_covers 6 _ (by decide +kernel) fun t hf y => ?_
  blk_simp
  rw [Own.after4_6]
  unfold Own.outsAt4
  obtain ⟨p, l, rfl⟩ : ∃ (p : Fin 2) (l : Fin 256), y = ix2 p l := ⟨y 0, y 1, eq_ix2 y⟩
  dsimp only
  rw [out4_6_apply]
  have h : (∑ R : Fin 2048, dyS (Own.iblk4 V c 1 t) (Own.iblk4 V c 2 t) (ix3 p R l))
      = dbOf (dyOf (V c main_v4) (V c main_v3_1)) (ix2 p (laneB t l)) := by
    unfold dbOf
    exact Finset.sum_congr rfl fun R _ => blk_dy ..
  rw [h]
  generalize dbOf (dyOf (V c main_v4) (V c main_v3_1)) = G
  unfold laneB
  blk_point [index4_6 t]

end Cert.KernelIdeal.Value
end
-- ==== Proof.Value.lean ====
/- What the kernel leaves in its results: the gradients as functions of the arguments. -/
module

public import proofs.«01_k».proof.Proof.Results
public import proofs.«01_k».proof.Proof.Products
public import proofs.«01_k».proof.Proof.BwdC

@[expose] public section

set_option maxRecDepth 16384

noncomputable section

open Idealize.ShloMosaic Idealize.ShloMosaic.TcCoe Idealize.SL.Sem

namespace Cert.KernelIdeal.Value

open Cert.KernelIdeal Cert.KernelIdeal.Gen Cert.KernelIdeal.Own

local notation "Thr" => Thread nD τ

/-- The two halves of the convolution's coefficients and of its bias. -/
def halfW (w : FVec Ideal S3x8192 .f32) : FVec Ideal S3x2x4096 .f32 := shapeCast S3x2x4096 w shapeCasts_S3x8192_S3x2x4096
def halfB (b : FVec Ideal S8192 .f32) : FVec Ideal S2x4096 .f32 := shapeCast S2x4096 b shapeCasts_S8192_S2x4096

section
variable (h2 : FVec Ideal S2048x1024 .bf16) (wUp : FVec Ideal S1024x8192 .bf16) (cw : FVec Ideal S3x8192 .f32)
  (cb : FVec Ideal S8192 .f32) (wDown : FVec Ideal S4096x1024 .bf16) (d : FVec Ideal S2048x1024 .bf16)

/-- The convolution's output, the gradient at it, and the results. -/
def yAll : FVec Ideal S2x2048x4096 .bf16 := convOf (upOf h2 wUp) (halfW cw) (halfB cb)
def dyAll : FVec Ideal S2x2048x4096 .f32 := dyOf (downX d wDown) (yAll h2 wUp cw cb)
def gUp : FVec Ideal S1024x8192 .bf16 := upW h2 (duOf (halfW cw) (dyAll h2 wUp cw cb wDown d))
def gCw : FVec Ideal S3x8192 .f32 := shapeCast S3x8192 (dwOf (dyAll h2 wUp cw cb wDown d) (upOf h2 wUp)) shapeCasts_S3x2x4096_S3x8192
def gCb : FVec Ideal S8192 .f32 := shapeCast S8192 (dbOf (dyAll h2 wUp cw cb wDown d)) shapeCasts_S2x4096_S8192
def gDown : FVec Ideal S4096x1024 .bf16 := downW (actOf (yAll h2 wUp cw cb)) d
end

variable (m : (ℓ : Loc nD τ sig) → Buf (Elt Ideal) ℓ) (ρ : Dev nD → PrngReg) (c : Dev nD)

theorem W1_v0 : W1 m ρ c (Proc.devRef .tc main_v0) = halfW (m ((c : Thr).loc main_arg2)) := by
  unfold halfW
  after_results_simp <;> rfl
theorem W1_v1 : W1 m ρ c (Proc.devRef .tc main_v1) = halfB (m ((c : Thr).loc main_arg3)) := by
  unfold halfB
  after_results_simp <;> rfl

theorem arg (a : Ref sig .tc) (h : a ∈ argRefs) : V1 m ρ c a = m ((c : Thr).loc a) := W1_args m ρ c a h

theorem W2_v0 : W2 m ρ c (Proc.devRef .tc main_v0) = halfW (m ((c : Thr).loc main_arg2)) := (W2_of m ρ c main_v0 (by decide +kernel)).trans (W1_v0 m ρ c)
theorem W2_v1 : W2 m ρ c (Proc.devRef .tc main_v1) = halfB (m ((c : Thr).loc main_arg3)) := (W2_of m ρ c main_v1 (by decide +kernel)).trans (W1_v1 m ρ c)
theorem W2_v2 : W2 m ρ c (Proc.devRef .tc main_v2) = upOf (m ((c : Thr).loc main_arg0)) (m ((c : Thr).loc main_arg1)) := by
  refine (W2_arr m ρ c 2).trans ((arr0 (V1 m ρ) c).trans ?_)
  rw [show V1 m ρ c main_arg0 = (m ((c : Thr).loc main_arg0)) from W1_args m ρ c main_arg0 (by decide), show V1 m ρ c main_arg1 = (m ((c : Thr).loc main_arg1)) from W1_args m ρ c main_arg1 (by decide)]

theorem W3_v3_1 : W3 m ρ c (Proc.devRef .tc main_v3_1) = yAll (m ((c : Thr).loc main_arg0)) (m ((c : Thr).loc main_arg1)) (m ((c : Thr).loc main_arg2)) (m ((c : Thr).loc main_arg3)) := by
  refine (W3_arr m ρ c 4).trans ((arr1_4 (V2 m ρ) c).trans ?_)
  rw [show V2 m ρ c main_v2 = _ from W2_v2 m ρ c, show V2 m ρ c main_v0 = _ from W2_v0 m ρ c, show V2 m ρ c main_v1 = _ from W2_v1 m ρ c]
  rfl
theorem W3_v3_0 : W3 m ρ c (Proc.devRef .tc main_v3_0) = actOf (yAll (m ((c : Thr).loc main_arg0)) (m ((c : Thr).loc main_arg1)) (m ((c : Thr).loc main_arg2)) (m ((c : Thr).loc main_arg3))) := by
  refine (W3_arr m ρ c 3).trans ((arr1_3 (V2 m ρ) c).trans ?_)
  rw [show V2 m ρ c main_v2 = _ from W2_v2 m ρ c, show V2 m ρ c main_v0 = _ from W2_v0 m ρ c, show V2 m ρ c main_v1 = _ from W2_v1 m ρ c]
  rfl
theorem W3_v2 : W3 m ρ c (Proc.devRef .tc main_v2) = upOf (m ((c : Thr).loc main_arg0)) (m ((c : Thr).loc main_arg1)) := (W3_of m ρ c main_v2 (by decide +kernel)).trans (W2_v2 m ρ c)
theorem W3_v0 : W3 m ρ c (Proc.devRef .tc main_v0) = halfW (m ((c : Thr).loc main_arg2)) := (W3_of m ρ c main_v0 (by decide +kernel)).trans (W2_v0 m ρ c)

theorem W4_v4 : W4 m ρ c (Proc.devRef .tc main_v4) = downX (m ((c : Thr).loc main_arg5)) (m ((c : Thr).loc main_arg4)) := by
  refine (W4_arr m ρ c 2).trans ((arr2 (V3 m ρ) c).trans ?_)
  rw [show V3 m ρ c main_arg5 = (m ((c : Thr).loc main_arg5)) from W3_args m ρ c main_arg5 (by decide), show V3 m ρ c main_arg4 = (m ((c : Thr).loc main_arg4)) from W3_args m ρ c main_arg4 (by decide)]
theorem W4_v3_0 : W4 m ρ c (Proc.devRef .tc main_v3_0) = actOf (yAll (m ((c : Thr).loc main_arg0)) (m ((c : Thr).loc main_arg1)) (m ((c : Thr).loc main_arg2)) (m ((c : Thr).loc main_arg3))) := (W4_of m ρ c main_v3_0 (by decide +kernel)).trans (W3_v3_0 m ρ c)
theorem W4_v3_1 : W4 m ρ c (Proc.devRef .tc main_v3_1) = yAll (m ((c : Thr).loc main_arg0)) (m ((c : Thr).loc main_arg1)) (m ((c : Thr).loc main_arg2)) (m ((c : Thr).loc main_arg3)) := (W4_of m ρ c main_v3_1 (by decide +kernel)).trans (W3_v3_1 m ρ c)
theorem W4_v2 : W4 m ρ c (Proc.devRef .tc main_v2) = upOf (m ((c : Thr).loc main_arg0)) (m ((c : Thr).loc main_arg1)) := (W4_of m ρ c main_v2 (by decide +kernel)).trans (W3_v2 m ρ c)
theorem W4_v0 : W4 m ρ c (Proc.devRef .tc main_v0) = halfW (m ((c : Thr).loc main_arg2)) := (W4_of m ρ c main_v0 (by decide +kernel)).trans (W3_v0 m ρ c)

theorem W5_v5 : W5 m ρ c (Proc.devRef .tc main_v5) = gDown (m ((c : Thr).loc main_arg0)) (m ((c : Thr).loc main_arg1)) (m ((c : Thr).loc main_arg2)) (m ((c : Thr).loc main_arg3)) (m ((c : Thr).loc main_arg5)) := by
  refine (W5_arr m ρ c 2).trans ((arr3 (V4 m ρ) c).trans ?_)
  rw [show V4 m ρ c main_v3_0 = _ from W4_v3_0 m ρ c, show V4 m ρ c main_arg5 = (m ((c : Thr).loc main_arg5)) from W4_args m ρ c main_arg5 (by decide)]
  rfl
theorem W5_v4 : W5 m ρ c (Proc.devRef .tc main_v4) = downX (m ((c : Thr).loc main_arg5)) (m ((c : Thr).loc main_arg4)) := (W5_of m ρ c main_v4 (by decide +kernel)).trans (W4_v4 m ρ c)
theorem W5_v3_1 : W5 m ρ c (Proc.devRef .tc main_v3_1) = yAll (m ((c : Thr).loc main_arg0)) (m ((c : Thr).loc main_arg1)) (m ((c : Thr).loc main_arg2)) (m ((c : Thr).loc main_arg3)) := (W5_of m ρ c main_v3_1 (by decide +kernel)).trans (W4_v3_1 m ρ c)
theorem W5_v2 : W5 m ρ c (Proc.devRef .tc main_v2) = upOf (m ((c : Thr).loc main_arg0)) (m ((c : Thr).loc main_arg1)) := (W5_of m ρ c main_v2 (by decide +kernel)).trans (W4_v2 m ρ c)
theorem W5_v0 : W5 m ρ c (Proc.devRef .tc main_v0) = halfW (m ((c : Thr).loc main_arg2)) := (W5_of m ρ c main_v0 (by decide +kernel)).trans (W4_v0 m ρ c)

theorem W6_v6_0 : W6 m ρ c (Proc.devRef .tc main_v6_0) = duOf (halfW (m ((c : Thr).loc main_arg2))) (dyAll (m ((c : Thr).loc main_arg0)) (m ((c : Thr).loc main_arg1)) (m ((c : Thr).loc main_arg2)) (m ((c : Thr).loc main_arg3)) (m ((c : Thr).loc main_arg4)) (m ((c : Thr).loc main_arg5))) := by
  refine (W6_arr m ρ c 4).trans ((arr4_4 (V5 m ρ) c).trans ?_)
  rw [show V5 m ρ c main_v0 = _ from W5_v0 m ρ c, show V5 m ρ c main_v4 = _ from W5_v4 m ρ c, show V5 m ρ c main_v3_1 = _ from W5_v3_1 m ρ c]
  rfl
theorem W6_v6_1 : W6 m ρ c (Proc.devRef .tc main_v6_1) = dwOf (dyAll (m ((c : Thr).loc main_arg0)) (m ((c : Thr).loc main_arg1)) (m ((c : Thr).loc main_arg2)) (m ((c : Thr).loc main_arg3)) (m ((c : Thr).loc main_arg4)) (m ((c : Thr).loc main_arg5))) (upOf (m ((c : Thr).loc main_arg0)) (m ((c : Thr).loc main_arg1))) := by
  refine (W6_arr m ρ c 5).trans ((arr4_5 (V5 m ρ) c).trans ?_)
  rw [show V5 m ρ c main_v2 = _ from W5_v2 m ρ c, show V5 m ρ c main_v4 = _ from W5_v4 m ρ c, show V5 m ρ c main_v3_1 = _ from W5_v3_1 m ρ c]
  rfl
theorem W6_v6_2 : W6 m ρ c (Proc.devRef .tc main_v6_2) = dbOf (dyAll (m ((c : Thr).loc main_arg0)) (m ((c : Thr).loc main_arg1)) (m ((c : Thr).loc main_arg2)) (m ((c : Thr).loc main_arg3)) (m ((c : Thr).loc main_arg4)) (m ((c : Thr).loc main_arg5))) := by
  refine (W6_arr m ρ c 6).trans ((arr4_6 (V5 m ρ) c).trans ?_)
  rw [show V5 m ρ c main_v4 = _ from W5_v4 m ρ c, show V5 m ρ c main_v3_1 = _ from W5_v3_1 m ρ c]
  rfl
theorem W6_v5 : W6 m ρ c (Proc.devRef .tc main_v5) = gDown (m ((c : Thr).loc main_arg0)) (m ((c : Thr).loc main_arg1)) (m ((c : Thr).loc main_arg2)) (m ((c : Thr).loc main_arg3)) (m ((c : Thr).loc main_arg5)) := (W6_of m ρ c main_v5 (by decide +kernel)).trans (W5_v5 m ρ c)

theorem W7_v7 : W7 m ρ c (Proc.devRef .tc main_v7) = gUp (m ((c : Thr).loc main_arg0)) (m ((c : Thr).loc main_arg1)) (m ((c : Thr).loc main_arg2)) (m ((c : Thr).loc main_arg3)) (m ((c : Thr).loc main_arg4)) (m ((c : Thr).loc main_arg5)) := by
  refine (W7_arr m ρ c 2).trans ((arr5 (V6 m ρ) c).trans ?_)
  rw [show V6 m ρ c main_v6_0 = _ from W6_v6_0 m ρ c, show V6 m ρ c main_arg0 = (m ((c : Thr).loc main_arg0)) from W6_args m ρ c main_arg0 (by decide)]
  rfl
theorem W7_v6_1 : W7 m ρ c (Proc.devRef .tc main_v6_1) = dwOf (dyAll (m ((c : Thr).loc main_arg0)) (m ((c : Thr).loc main_arg1)) (m ((c : Thr).loc main_arg2)) (m ((c : Thr).loc main_arg3)) (m ((c : Thr).loc main_arg4)) (m ((c : Thr).loc main_arg5))) (upOf (m ((c : Thr).loc main_arg0)) (m ((c : Thr).loc main_arg1))) :=
  (W7_of m ρ c main_v6_1 (by decide +kernel)).trans (W6_v6_1 m ρ c)
theorem W7_v6_2 : W7 m ρ c (Proc.devRef .tc main_v6_2) = dbOf (dyAll (m ((c : Thr).loc main_arg0)) (m ((c : Thr).loc main_arg1)) (m ((c : Thr).loc main_arg2)) (m ((c : Thr).loc main_arg3)) (m ((c : Thr).loc main_arg4)) (m ((c : Thr).loc main_arg5))) :=
  (W7_of m ρ c main_v6_2 (by decide +kernel)).trans (W6_v6_2 m ρ c)
theorem W7_v5 : W7 m ρ c (Proc.devRef .tc main_v5) = gDown (m ((c : Thr).loc main_arg0)) (m ((c : Thr).loc main_arg1)) (m ((c : Thr).loc main_arg2)) (m ((c : Thr).loc main_arg3)) (m ((c : Thr).loc main_arg5)) := (W7_of m ρ c main_v5 (by decide +kernel)).trans (W6_v5 m ρ c)

theorem W8_v7 : W8 m ρ c (Proc.devRef .tc main_v7) = gUp (m ((c : Thr).loc main_arg0)) (m ((c : Thr).loc main_arg1)) (m ((c : Thr).loc main_arg2)) (m ((c : Thr).loc main_arg3)) (m ((c : Thr).loc main_arg4)) (m ((c : Thr).loc main_arg5)) := (W8_of m ρ c main_v7 (by decide +kernel)).trans (W7_v7 m ρ c)
theorem W8_v5 : W8 m ρ c (Proc.devRef .tc main_v5) = gDown (m ((c : Thr).loc main_arg0)) (m ((c : Thr).loc main_arg1)) (m ((c : Thr).loc main_arg2)) (m ((c : Thr).loc main_arg3)) (m ((c : Thr).loc main_arg5)) := (W8_of m ρ c main_v5 (by decide +kernel)).trans (W7_v5 m ρ c)
theorem W8_v8 : W8 m ρ c (Proc.devRef .tc main_v8) = gCw (m ((c : Thr).loc main_arg0)) (m ((c : Thr).loc main_arg1)) (m ((c : Thr).loc main_arg2)) (m ((c : Thr).loc main_arg3)) (m ((c : Thr).loc main_arg4)) (m ((c : Thr).loc main_arg5)) := by
  have e : W8 m ρ c (Proc.devRef .tc main_v8) = shapeCast S3x8192 (W7 m ρ c (Proc.devRef .tc main_v6_1)) shapeCasts_S3x2x4096_S3x8192 := by
    after_results_simp <;> rfl
  rw [e, W7_v6_1]
  rfl
theorem W8_v9 : W8 m ρ c (Proc.devRef .tc main_v9) = gCb (m ((c : Thr).loc main_arg0)) (m ((c : Thr).loc main_arg1)) (m ((c : Thr).loc main_arg2)) (m ((c : Thr).loc main_arg3)) (m ((c : Thr).loc main_arg4)) (m ((c : Thr).loc main_arg5)) := by
  have e : W8 m ρ c (Proc.devRef .tc main_v9) = shapeCast S8192 (W7 m ρ c (Proc.devRef .tc main_v6_2)) shapeCasts_S2x4096_S8192 := by
    after_results_simp <;> rfl
  rw [e, W7_v6_2]
  rfl

end Cert.KernelIdeal.Value
end
-- ==== Proof.Reals.lean ====
/- Arithmetic on the finite extended reals: what the gelu's derivative needs, and the finiteness the precondition gives. -/
module

public import proofs.«01_k».proof.Proof.Value
public import proofs.«01_k».proof.Defs
public import Idealize.ShloMosaic.Lib.IdealHost

@[expose] public section

set_option maxRecDepth 16384

noncomputable section

open Idealize.ShloMosaic Idealize.ShloMosaic.TcCoe Idealize.SL.Sem

namespace Cert.KernelIdeal.Value

open Cert.KernelIdeal Cert.KernelIdeal.Gen

/-- A value that is a real number. -/
def Fn (x : EReal) : Prop := ∃ r : ℝ, x = (r : EReal)

theorem Fn.add {x y : EReal} (hx : Fn x) (hy : Fn y) : Fn (x + y) := by
  obtain ⟨r, rfl⟩ := hx; obtain ⟨s, rfl⟩ := hy
  exact ⟨r + s, (EReal.coe_add r s).symm⟩
theorem Fn.mul {x y : EReal} (hx : Fn x) (hy : Fn y) : Fn (x * y) := by
  obtain ⟨r, rfl⟩ := hx; obtain ⟨s, rfl⟩ := hy
  exact ⟨r * s, (EReal.coe_mul r s).symm⟩
theorem Fn.zero : Fn 0 := ⟨0, rfl⟩
theorem Fn.sum {n : ℕ} {f : Fin n → EReal} (h : ∀ k, Fn (f k)) : Fn (∑ k, f k) :=
  Finset.sum_induction f Fn (fun _ _ => Fn.add) Fn.zero (fun k _ => h k)

theorem half_word : Ideal.ofBits .f32 0x3F000000#32 = ((1 / 2 : ℝ) : EReal) := by
  simp [Ideal.ofBits, Ideal.ieee, -EReal.coe_mul]; norm_num
theorem three_word : Ideal.ofBits .f32 0x40400000#32 = ((3 : ℝ) : EReal) := by
  simp [Ideal.ofBits, Ideal.ieee, -EReal.coe_mul]; norm_num
theorem top_word : Ideal.ofBits .f32 0x7F800000#32 = ⊤ := by
  simp [Ideal.ofBits, Ideal.ieee]
theorem root_word : Fn (Ideal.ofBits .f32 0x3F4C422A#32) := by
  simp only [Ideal.ofBits, Ideal.ieee]
  exact ⟨_, rfl⟩
theorem cube_word : Ideal.div (Ideal.ofBits .f32 0x472EAB00#32) (Ideal.ofBits .f32 0x49742400#32) = ((8943 / 200000 : ℝ) : EReal) := by
  have a : Ideal.ofBits .f32 0x472EAB00#32 = ((44715 : ℝ) : EReal) := by
    simp [Ideal.ofBits, Ideal.ieee, -EReal.coe_mul]; norm_num
  have b : Ideal.ofBits .f32 0x49742400#32 = ((1000000 : ℝ) : EReal) := by
    simp [Ideal.ofBits, Ideal.ieee, -EReal.coe_mul]; norm_num
  rw [a, b, Ideal.div_coe (by norm_num), ← EReal.coe_mul]
  norm_num
theorem cube_named : Named.named (F := Ideal) (φ := .f32) κ "gelu_c" 0x3D372713#32 = ((8943 / 200000 : ℝ) : EReal) := rfl
theorem cube3_named : Named.named (F := Ideal) (φ := .f32) κ "gelu_c3" 0x3E095D4F#32 = ((26829 / 200000 : ℝ) : EReal) := rfl

/-- The quotient the reference has where the kernel has the rational. -/
abbrev cq : EReal := Ideal.div (Ideal.ofBits .f32 0x472EAB00#32) (Ideal.ofBits .f32 0x49742400#32)

/-- The argument's tangent as the reference writes it. -/
def thR (y : EReal) : EReal := Ideal.tanh (Ideal.ofBits .f32 0x3F4C422A#32 * (y + cq * (y * y * y)))

theorem thR_eq (y : EReal) : thR y = thK y := by
  unfold thR thK
  rw [cq, cube_word, cube_named, mul_assoc, mul_assoc, ← mul_assoc (_ : EReal) y (y * y), mul_assoc _ y (y * y)]

theorem gelu_eq (y : EReal) : y * (Ideal.ofBits .f32 0x3F000000#32 * (1 + thR y)) = geluK y := by
  rw [thR_eq]
  unfold geluK thK
  rw [← mul_assoc, mul_comm y]

theorem thK_coe (y : EReal) (h : Fn y) : Fn (thK y) := by
  obtain ⟨r, rfl⟩ := h
  obtain ⟨s, hs⟩ := root_word
  unfold thK
  rw [cube_named, hs]
  simp only [← EReal.coe_mul, ← EReal.coe_add, Ideal.tanh_coe]
  exact ⟨_, rfl⟩

/-- The gate half of the gradient: the reference's sum of three terms is the kernel's product with the derivative. -/
theorem gate_eq {y v d : EReal} (hy : Fn y) (hv : Fn v) (hd : Fn d) :
    d * v * (Ideal.ofBits .f32 0x3F000000#32 * (1 + thR y))
      + Ideal.ofBits .f32 0x3F4C422A#32 * (Ideal.ofBits .f32 0x3F000000#32 * (y * (d * v)) * ((1 + thR y) * (1 - thR y)))
      + cq * (Ideal.ofBits .f32 0x3F4C422A#32 * (Ideal.ofBits .f32 0x3F000000#32 * (y * (d * v)) * ((1 + thR y) * (1 - thR y))))
        * (Ideal.ofBits .f32 0x40400000#32 * (y * y))
      = d * v * dgeluK y := by
  rw [thR_eq]
  obtain ⟨t, ht⟩ := thK_coe y hy
  obtain ⟨s, hs⟩ := root_word
  unfold dgeluK
  rw [ht, hs, cq, cube_word, cube3_named, half_word, three_word]
  obtain ⟨y, rfl⟩ := hy
  obtain ⟨v, rfl⟩ := hv
  obtain ⟨d, rfl⟩ := hd
  rw [show (1 : EReal) = ((1 : ℝ) : EReal) from rfl]
  simp only [← EReal.coe_mul, ← EReal.coe_add, ← EReal.coe_sub]
  congr 1
  ring

theorem Fn.of_lt {x : EReal} (h : Ideal.cmp .olt (max x (-x)) (Ideal.ofBits .f32 0x7F800000#32) = 1#1) : Fn x := by
  rw [top_word] at h
  induction x using EReal.rec with
  | bot => simp [Ideal.cmp] at h
  | coe r => exact ⟨r, rfl⟩
  | top => simp [Ideal.cmp] at h

section
variable [Cert.Pre_finite.Facts] (m : (ℓ : Loc nD τ sig) → Buf (Elt Ideal) ℓ) (h : Cert.Pre_KernelIdeal_finite m) (c : Dev nD)
include h
theorem fin0 (i : S2048x1024.Idx) : Fn (m ((c : Thread nD τ).loc main_arg0) i) := Fn.of_lt (congrFun (h c).1 i)
theorem fin1 (i : S1024x8192.Idx) : Fn (m ((c : Thread nD τ).loc main_arg1) i) := Fn.of_lt (congrFun (h c).2.1 i)
theorem fin2 (i : S3x8192.Idx) : Fn (m ((c : Thread nD τ).loc main_arg2) i) := Fn.of_lt (congrFun (h c).2.2.1 i)
theorem fin3 (i : S8192.Idx) : Fn (m ((c : Thread nD τ).loc main_arg3) i) := Fn.of_lt (congrFun (h c).2.2.2.1 i)
theorem fin4 (i : S4096x1024.Idx) : Fn (m ((c : Thread nD τ).loc main_arg4) i) := Fn.of_lt (congrFun (h c).2.2.2.2.1 i)
theorem fin5 (i : S2048x1024.Idx) : Fn (m ((c : Thread nD τ).loc main_arg5) i) := Fn.of_lt (congrFun (h c).2.2.2.2.2 i)
end

section
variable {h2 : FVec Ideal S2048x1024 .bf16} {wUp : FVec Ideal S1024x8192 .bf16} {cw : FVec Ideal S3x8192 .f32}
  {cb : FVec Ideal S8192 .f32} {wDown : FVec Ideal S4096x1024 .bf16} {d : FVec Ideal S2048x1024 .bf16}

theorem fin_up (h0 : ∀ i, Fn (h2 i)) (h1 : ∀ i, Fn (wUp i)) (i : S2x2048x4096.Idx) : Fn (upOf h2 wUp i) :=
  Fn.sum fun _ => (h0 _).mul (h1 _)
theorem fin_rowUp (h0 : ∀ i, Fn (h2 i)) (h1 : ∀ i, Fn (wUp i)) (p : Fin 2) (R : Fin 2048) (n : ℕ) (l : Fin 4096) :
    Fn (rowUp (upOf h2 wUp) p R n l) := by
  unfold rowUp
  split
  · exact fin_up h0 h1 _
  · exact Fn.zero
theorem fin_y (h0 : ∀ i, Fn (h2 i)) (h1 : ∀ i, Fn (wUp i)) (hw : ∀ i, Fn (cw i)) (hb : ∀ i, Fn (cb i)) (i : S2x2048x4096.Idx) :
    Fn (yAll h2 wUp cw cb i) :=
  (((Fn.mul (hw _) (fin_rowUp h0 h1 _ _ _ _)).add (Fn.mul (hw _) (fin_rowUp h0 h1 _ _ _ _))).add (Fn.mul (hw _) (fin_up h0 h1 _))).add (hb _)
theorem fin_da (h4 : ∀ i, Fn (wDown i)) (h5 : ∀ i, Fn (d i)) (i : S2048x4096.Idx) : Fn (downX d wDown i) :=
  Fn.sum fun _ => (h5 _).mul (h4 _)
end

end Cert.KernelIdeal.Value
end
-- ==== Proof.RefVal.lean ====
/- The reference's results read at an index: the same functions of the arguments as the kernel's. -/
module

public import proofs.«01_k».proof.Proof.Reals
public import proofs.«01_k».proof.Proof.Gen.ReferenceIdeal.Run
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.ReferenceIdeal.Value

open Cert.ReferenceIdeal Cert.ReferenceIdeal.Gen
open Cert.KernelIdeal.Value (plane lane upOf rowUp convOf geluK dgeluK actOf rowDn dyOf duOf dwOf dbOf downX downW upW halfW halfB yAll dyAll gUp gCw gCb gDown
  Fn fin_y fin_da thR thR_eq gelu_eq gate_eq cq)

variable (V0 : Valuation τ sig (Elt Ideal))

abbrev a0 : FVec Ideal S2048x1024 .bf16 := V0 (Proc.devRef .tc main_arg0)
abbrev a1 : FVec Ideal S1024x8192 .bf16 := V0 (Proc.devRef .tc main_arg1)
abbrev a2 : FVec Ideal S3x8192 .f32 := V0 (Proc.devRef .tc main_arg2)
abbrev a3 : FVec Ideal S8192 .f32 := V0 (Proc.devRef .tc main_arg3)
abbrev a4 : FVec Ideal S4096x1024 .bf16 := V0 (Proc.devRef .tc main_arg4)
abbrev a5 : FVec Ideal S2048x1024 .bf16 := V0 (Proc.devRef .tc main_arg5)

/-- The reference's intermediate arrays, at their shapes. -/
abbrev r5 : FVec Ideal S2050x8192 .f32 := res_main_v5 V0
abbrev r9 : FVec Ideal S2048x8192 .f32 := res_main_v9 V0
abbrev r15 : FVec Ideal S2048x8192 .f32 := res_main_v15 V0
abbrev r22 : FVec Ideal S2048x8192 .f32 := res_main_v22 V0
abbrev r29 : FVec Ideal S2048x8192 .f32 := res_main_v29 V0
abbrev r30 : FVec Ideal S2048x4096 .f32 := res_main_v30 V0
abbrev r31 : FVec Ideal S2048x4096 .f32 := res_main_v31 V0
abbrev r43 : FVec Ideal S2048x4096 .f32 := res_main_v43 V0
abbrev r52 : FVec Ideal S2048x4096 .f32 := res_main_v52 V0
abbrev r53 : FVec Ideal S2048x4096 .f32 := res_main_v53 V0
abbrev r54 : FVec Ideal S2048x4096 .f32 := res_main_v54 V0
abbrev r59 : FVec Ideal S2048x4096 .f32 := res_main_v59 V0
abbrev r61 : FVec Ideal S2048x4096 .f32 := res_main_v61 V0
abbrev r68 : FVec Ideal S2048x4096 .f32 := res_main_v68 V0
abbrev r74 : FVec Ideal S2048x8192 .f32 := res_main_v74 V0
abbrev r110 : FVec Ideal S2048x8192 .f32 := res_main_v110 V0

theorem column (j : Fin 8192) : (plane j).val * 4096 + (lane j).val = j.val := by
  unfold plane lane; simp only []; omega

theorem up_at (R : Fin 2048) (j : Fin 8192) :
    upOf (a0 V0) (a1 V0) (ix3 (plane j) R (lane j)) = ∑ k : Fin 1024, a0 V0 (ix2 R k) * a1 V0 (ix2 k j) := by
  have e : ∀ h, (⟨(plane j).val * 4096 + (lane j).val, h⟩ : Fin 8192) = j := fun h => Fin.ext (column j)
  unfold upOf
  refine Finset.sum_congr rfl fun k _ => ?_
  exact congrArg (fun t => a0 V0 (ix2 R k) * a1 V0 (ix2 k t)) (e _)

theorem v5_at (r : Fin 2050) (j : Fin 8192) :
    r5 V0 (ix2 r j) = if h : r.val < 2 then (0 : EReal) else upOf (a0 V0) (a1 V0) (ix3 (plane j) ⟨r.val - 2, by omega⟩ (lane j)) := by
  simp only [up_at]
  pointwise [r5, r9, r15, r22, r29, r30, r31, r43, r52, r53, r54, r59, r61, r68, r74, r110, res_main_v5, res_main_v0, res_main_v1]

/-- The padded rows: `n` rows above row `R`. -/
theorem v5_row (R : Fin 2048) (j : Fin 8192) (n q : ℕ) (hq : n + q = 2) (h : q + R.val < 2050) :
    r5 V0 (ix2 ⟨q + R.val, h⟩ j) = rowUp (upOf (a0 V0) (a1 V0)) (plane j) R n (lane j) := by
  rw [v5_at]
  unfold rowUp
  by_cases hn : n ≤ R.val
  · rw [dif_neg (by simp only []; omega), if_pos hn]
    exact congrArg (fun t => upOf (a0 V0) (a1 V0) (ix3 (plane j) t (lane j))) (Fin.ext (by simp only []; omega))
  · rw [dif_pos (by simp only []; omega), if_neg hn]

theorem v9_at (R : Fin 2048) (j : Fin 8192) : r9 V0 (ix2 R j) = rowUp (upOf (a0 V0) (a1 V0)) (plane j) R 2 (lane j) := by
  rw [← v5_row V0 R j 2 0 rfl (by omega)]
  pointwise [r5, r9, r15, r22, r29, r30, r31, r43, r52, r53, r54, r59, r61, r68, r74, r110, res_main_v9]
theorem v15_at (R : Fin 2048) (j : Fin 8192) : r15 V0 (ix2 R j) = rowUp (upOf (a0 V0) (a1 V0)) (plane j) R 1 (lane j) := by
  rw [← v5_row V0 R j 1 1 rfl (by omega)]
  pointwise [r5, r9, r15, r22, r29, r30, r31, r43, r52, r53, r54, r59, r61, r68, r74, r110, res_main_v15]
theorem v22_at (R : Fin 2048) (j : Fin 8192) : r22 V0 (ix2 R j) = upOf (a0 V0) (a1 V0) (ix3 (plane j) R (lane j)) := by
  refine Eq.trans ?_ (v5_row V0 R j 0 2 rfl (by omega))
  pointwise [r5, r9, r15, r22, r29, r30, r31, r43, r52, r53, r54, r59, r61, r68, r74, r110, res_main_v22]

/-- The two halves of an array of 8192 columns: column `j` is lane `j % 4096` of plane `j / 4096`. -/
theorem halfW_at (w : FVec Ideal S3x8192 .f32) (q : Fin 3) (j : Fin 8192) : halfW w (ix3 q (plane j) (lane j)) = w (ix2 q j) := by
  unfold halfW plane lane
  pointwise
theorem halfB_at (b : FVec Ideal S8192 .f32) (j : Fin 8192) : halfB b (ix2 (plane j) (lane j)) = b (ix1 j) := by
  unfold halfB plane lane
  pointwise
theorem gCw_at (q : Fin 3) (j : Fin 8192) : gCw (a0 V0) (a1 V0) (a2 V0) (a3 V0) (a4 V0) (a5 V0) (ix2 q j)
    = dwOf (dyAll (a0 V0) (a1 V0) (a2 V0) (a3 V0) (a4 V0) (a5 V0)) (upOf (a0 V0) (a1 V0)) (ix3 q (plane j) (lane j)) := by
  unfold gCw plane lane
  pointwise
theorem gCb_at (j : Fin 8192) : gCb (a0 V0) (a1 V0) (a2 V0) (a3 V0) (a4 V0) (a5 V0) (ix1 j)
    = dbOf (dyAll (a0 V0) (a1 V0) (a2 V0) (a3 V0) (a4 V0) (a5 V0)) (ix2 (plane j) (lane j)) := by
  unfold gCb plane lane
  pointwise

theorem v29_at (R : Fin 2048) (j : Fin 8192) :
    r29 V0 (ix2 R j) = yAll (a0 V0) (a1 V0) (a2 V0) (a3 V0) (ix3 (plane j) R (lane j)) := by
  have e : r29 V0 (ix2 R j) = a2 V0 (ix2 0 j) * r9 V0 (ix2 R j) + a2 V0 (ix2 1 j) * r15 V0 (ix2 R j)
      + a2 V0 (ix2 2 j) * r22 V0 (ix2 R j) + a3 V0 (ix1 j) := by
    pointwise [r5, r9, r15, r22, r29, r30, r31, r43, r52, r53, r54, r59, r61, r68, r74, r110, res_main_v29, res_main_v10, res_main_v16, res_main_v23]
  rw [e, v9_at, v15_at, v22_at, ← halfW_at (a2 V0), ← halfW_at (a2 V0), ← halfW_at (a2 V0), ← halfB_at (a3 V0)]
  rfl

/-- Columns of the two halves. -/
def colG (l : Fin 4096) : Fin 8192 := ⟨l.val, by omega⟩
def colV (l : Fin 4096) : Fin 8192 := ⟨4096 + l.val, by omega⟩
theorem plane_colG (l : Fin 4096) : plane (colG l) = 0 := Fin.ext (by unfold plane colG; simp only []; exact Nat.div_eq_of_lt l.isLt)
theorem lane_colG (l : Fin 4096) : lane (colG l) = l := Fin.ext (by unfold lane colG; simp only []; exact Nat.mod_eq_of_lt l.isLt)
theorem plane_colV (l : Fin 4096) : plane (colV l) = 1 := Fin.ext (by unfold plane colV; simp only []; show (4096 + l.val) / 4096 = 1; omega)
theorem lane_colV (l : Fin 4096) : lane (colV l) = l := Fin.ext (by unfold lane colV; simp only []; omega)

/-- The gate and the value half of the convolution. -/
abbrev yG (R : Fin 2048) (l : Fin 4096) : EReal := yAll (a0 V0) (a1 V0) (a2 V0) (a3 V0) (ix3 0 R l)
abbrev yV (R : Fin 2048) (l : Fin 4096) : EReal := yAll (a0 V0) (a1 V0) (a2 V0) (a3 V0) (ix3 1 R l)

theorem v30_at (R : Fin 2048) (l : Fin 4096) : r30 V0 (ix2 R l) = yG V0 R l := by
  have e : r30 V0 (ix2 R l) = r29 V0 (ix2 R (colG l)) := by
    unfold colG
    pointwise [r5, r9, r15, r22, r29, r30, r31, r43, r52, r53, r54, r59, r61, r68, r74, r110, res_main_v30]
  rw [e, v29_at, plane_colG, lane_colG]
theorem v31_at (R : Fin 2048) (l : Fin 4096) : r31 V0 (ix2 R l) = yV V0 R l := by
  have e : r31 V0 (ix2 R l) = r29 V0 (ix2 R (colV l)) := by
    unfold colV
    pointwise [r5, r9, r15, r22, r29, r30, r31, r43, r52, r53, r54, r59, r61, r68, r74, r110, res_main_v31]
  rw [e, v29_at, plane_colV, lane_colV]

theorem v43_at (R : Fin 2048) (l : Fin 4096) : r43 V0 (ix2 R l) = thR (yG V0 R l) := by
  rw [← v30_at]
  unfold thR
  pointwise [r5, r9, r15, r22, r29, r30, r31, r43, r52, r53, r54, r59, r61, r68, r74, r110, res_main_v43, res_main_v32]
theorem v59_at (R : Fin 2048) (l : Fin 4096) : r59 V0 (ix2 R l) = downX (a5 V0) (a4 V0) (ix2 R l) := by
  unfold downX
  pointwise [r5, r9, r15, r22, r29, r30, r31, r43, r52, r53, r54, r59, r61, r68, r74, r110, res_main_v59, res_main_v56, res_main_v2]
theorem v52_at (R : Fin 2048) (l : Fin 4096) : r52 V0 (ix2 R l) = Ideal.ofBits .f32 0x3F000000#32 * (1 + thR (yG V0 R l)) := by
  rw [← v43_at]
  pointwise [r5, r9, r15, r22, r29, r30, r31, r43, r52, r53, r54, r59, r61, r68, r74, r110, res_main_v52]
theorem v53_at (R : Fin 2048) (l : Fin 4096) : r53 V0 (ix2 R l) = geluK (yG V0 R l) := by
  rw [← gelu_eq, ← v52_at, ← v30_at]
  pointwise [r5, r9, r15, r22, r29, r30, r31, r43, r52, r53, r54, r59, r61, r68, r74, r110, res_main_v53]
theorem v54_at (R : Fin 2048) (l : Fin 4096) : r54 V0 (ix2 R l) = actOf (yAll (a0 V0) (a1 V0) (a2 V0) (a3 V0)) (ix2 R l) := by
  refine Eq.trans (b := r53 V0 (ix2 R l) * r31 V0 (ix2 R l)) ?_ ?_
  · pointwise [r5, r9, r15, r22, r29, r30, r31, r43, r52, r53, r54, r59, r61, r68, r74, r110, res_main_v54]
  · rw [v53_at, v31_at]; rfl
theorem v61_at (R : Fin 2048) (l : Fin 4096) : r61 V0 (ix2 R l) = downX (a5 V0) (a4 V0) (ix2 R l) * yV V0 R l := by
  rw [← v59_at, ← v31_at]
  pointwise [r5, r9, r15, r22, r29, r30, r31, r43, r52, r53, r54, r59, r61, r68, r74, r110, res_main_v61]
theorem v68_at (R : Fin 2048) (l : Fin 4096) : r68 V0 (ix2 R l)
    = Ideal.ofBits .f32 0x3F4C422A#32 * (Ideal.ofBits .f32 0x3F000000#32 * (yG V0 R l * (downX (a5 V0) (a4 V0) (ix2 R l) * yV V0 R l))
      * ((1 + thR (yG V0 R l)) * (1 - thR (yG V0 R l)))) := by
  rw [← v43_at, ← v61_at, ← v30_at]
  pointwise [r5, r9, r15, r22, r29, r30, r31, r43, r52, r53, r54, r59, r61, r68, r74, r110, res_main_v68]

variable (h0 : ∀ i, Fn (a0 V0 i)) (h1 : ∀ i, Fn (a1 V0 i)) (h2 : ∀ i, Fn (a2 V0 i)) (h3 : ∀ i, Fn (a3 V0 i)) (h4 : ∀ i, Fn (a4 V0 i)) (h5 : ∀ i, Fn (a5 V0 i))

/-- The gradient at the convolution's output, as one function of the arguments. -/
abbrev dY : FVec Ideal Cert.KernelIdeal.S2x2048x4096 .f32 := dyAll (a0 V0) (a1 V0) (a2 V0) (a3 V0) (a4 V0) (a5 V0)

include h0 h1 h2 h3 h4 h5 in
theorem v74_gate (R : Fin 2048) (l : Fin 4096) : r74 V0 (ix2 R (colG l)) = dY V0 (ix3 0 R l) := by
  have e : r74 V0 (ix2 R (colG l)) = r61 V0 (ix2 R l) * r52 V0 (ix2 R l) + r68 V0 (ix2 R l)
      + cq * r68 V0 (ix2 R l) * (Ideal.ofBits .f32 0x40400000#32 * (r30 V0 (ix2 R l) * r30 V0 (ix2 R l))) := by
    unfold colG
    pointwise [r5, r9, r15, r22, r29, r30, r31, r43, r52, r53, r54, r59, r61, r68, r74, r110, res_main_v74, res_main_v32]
  rw [e, v61_at, v52_at, v68_at, v30_at]
  exact gate_eq (fin_y h0 h1 h2 h3 _) (fin_y h0 h1 h2 h3 _) (fin_da h4 h5 _)

theorem v74_value (R : Fin 2048) (l : Fin 4096) : r74 V0 (ix2 R (colV l)) = dY V0 (ix3 1 R l) := by
  have e : r74 V0 (ix2 R (colV l)) = r53 V0 (ix2 R l) * r59 V0 (ix2 R l) := by
    unfold colV
    pointwise [r5, r9, r15, r22, r29, r30, r31, r43, r52, r53, r54, r59, r61, r68, r74, r110, res_main_v74]
  rw [e, v53_at, v59_at, mul_comm]
  rfl

include h0 h1 h2 h3 h4 h5 in
theorem v74_at (R : Fin 2048) (j : Fin 8192) : r74 V0 (ix2 R j) = dY V0 (ix3 (plane j) R (lane j)) := by
  by_cases hj : j.val < 4096
  · have e : j = colG (lane j) := Fin.ext (Nat.mod_eq_of_lt hj).symm
    rw [e, plane_colG, lane_colG, v74_gate V0 h0 h1 h2 h3 h4 h5]
  · have e : j = colV (lane j) := Fin.ext (by unfold colV lane; simp only []; omega)
    rw [e, plane_colV, lane_colV, v74_value]

include h0 h1 h2 h3 h4 h5 in
theorem v110_at (R : Fin 2048) (j : Fin 8192) :
    r110 V0 (ix2 R j) = duOf (halfW (a2 V0)) (dY V0) (ix3 (plane j) R (lane j)) := by
  unfold duOf rowDn
  show _ = halfW (a2 V0) (ix3 2 (plane j) (lane j)) * dY V0 (ix3 (plane j) R (lane j))
    + halfW (a2 V0) (ix3 1 (plane j) (lane j)) * (if h : R.val + 1 < 2048 then dY V0 (ix3 (plane j) ⟨R.val + 1, h⟩ (lane j)) else 0)
    + halfW (a2 V0) (ix3 0 (plane j) (lane j)) * (if h : R.val + 2 < 2048 then dY V0 (ix3 (plane j) ⟨R.val + 2, h⟩ (lane j)) else 0)
  rw [halfW_at, halfW_at, halfW_at]
  simp only [← v74_at V0 h0 h1 h2 h3 h4 h5]
  pointwise [r5, r9, r15, r22, r29, r30, r31, r43, r52, r53, r54, r59, r61, r68, r74, r110, res_main_v110, res_main_v105, res_main_v23, res_main_v16, res_main_v10]
  congr 1
  · congr 1
    by_cases hR : R.val + 1 < 2048
    · rw [dif_pos (by omega), dif_pos hR]
      exact congrArg (fun t => a2 V0 (ix2 1 j) * r74 V0 (ix2 t j)) (Fin.ext (by simp only []; omega))
    · rw [dif_neg (by omega), dif_neg hR, mul_zero]
  · by_cases hR : R.val + 2 < 2048
    · rw [dif_pos (by omega), dif_pos hR]
      exact congrArg (fun t => a2 V0 (ix2 0 j) * r74 V0 (ix2 t j)) (Fin.ext (by simp only []; omega))
    · rw [dif_neg (by omega), dif_neg hR, mul_zero]

/-- Moving the rows of one factor down is moving the rows of the other up. -/
theorem shift_sum (f g : Fin 2048 → EReal) (n : ℕ) :
    (∑ R : Fin 2048, (if h : R.val + n < 2048 then f ⟨R.val + n, h⟩ else 0) * g R)
      = ∑ R : Fin 2048, f R * (if n ≤ R.val then g ⟨R.val - n, by omega⟩ else 0) := by
  let F : ℕ → EReal := fun k => if h : k < 2048 then f ⟨k, h⟩ else 0
  let G : ℕ → EReal := fun k => if h : k < 2048 then g ⟨k, h⟩ else 0
  have hF : ∀ R : Fin 2048, F R.val = f R := fun R => dif_pos R.isLt
  have hG : ∀ R : Fin 2048, G R.val = g R := fun R => dif_pos R.isLt
  have e1 : (∑ R : Fin 2048, (if h : R.val + n < 2048 then f ⟨R.val + n, h⟩ else 0) * g R) = ∑ k ∈ Finset.range 2048, F (k + n) * G k := by
    rw [← Fin.sum_univ_eq_sum_range (fun k => F (k + n) * G k)]
    exact Finset.sum_congr rfl fun R _ => by rw [hG]
  have e2 : (∑ R : Fin 2048, f R * (if n ≤ R.val then g ⟨R.val - n, by omega⟩ else 0))
      = ∑ k ∈ Finset.range 2048, F k * (if n ≤ k then G (k - n) else 0) := by
    rw [← Fin.sum_univ_eq_sum_range (fun k => F k * (if n ≤ k then G (k - n) else 0))]
    refine Finset.sum_congr rfl fun R _ => ?_
    rw [hF]
    by_cases h : n ≤ R.val
    · rw [if_pos h, if_pos h]
      exact congrArg (f R * ·) (hG ⟨R.val - n, by omega⟩).symm
    · rw [if_neg h, if_neg h]
  have e3 : (∑ k ∈ Finset.range (2048 + n), F k * (if n ≤ k then G (k - n) else 0)) = ∑ k ∈ Finset.range 2048, F k * (if n ≤ k then G (k - n) else 0) := by
    rw [Finset.sum_range_add]
    refine Eq.trans (congrArg _ (Finset.sum_eq_zero fun k _ => ?_)) (add_zero _)
    have z : F (2048 + k) = 0 := dif_neg (by omega)
    rw [z, zero_mul]
  have e4 : (∑ k ∈ Finset.range (n + 2048), F k * (if n ≤ k then G (k - n) else 0)) = ∑ k ∈ Finset.range 2048, F (k + n) * G k := by
    rw [Finset.sum_range_add]
    refine Eq.trans (congrArg₂ (· + ·) (Finset.sum_eq_zero fun k hk => ?_) (Finset.sum_congr rfl fun k _ => ?_)) (zero_add _)
    · rw [if_neg (by have := Finset.mem_range.mp hk; omega), mul_zero]
    · rw [if_pos (by omega), Nat.add_sub_cancel_left, Nat.add_comm]
  rw [e1, e2, ← e3, Nat.add_comm 2048 n, e4]

/-- The gradient of the convolution's coefficients, as the reference sums it: the gradient times the rows moved up. -/
theorem dw_at (d : FVec Ideal Cert.KernelIdeal.S2x2048x4096 .f32) (u : FVec Ideal Cert.KernelIdeal.S2x2048x4096 .bf16) (q : Fin 3) (p : Fin 2) (l : Fin 4096) :
    dwOf d u (ix3 q p l) = ∑ R : Fin 2048, d (ix3 p R l) * rowUp u p R (2 - q.val) l :=
  shift_sum (fun R => d (ix3 p R l)) (fun R => u (ix3 p R l)) (2 - q.val)

/-- One row of coefficients, as the reference sums it. -/
abbrev coefRow (x : FVec Ideal S2048x8192 .f32) : FVec Ideal S1x8192 .f32 :=
  broadcastInDim S1x8192 ![1] bcast_S8192_S1x8192_1 (Host.reduceAdd (shapeCast S1x8192 (Host.reduceAdd (mulf (r74 V0) x) (constant S_ .f32 0x00000000#32) reducesTo_S2048x8192_S8192_d0 h_S_) shapeCasts_S8192_S1x8192) (constant S_ .f32 0x00000000#32) reducesTo_S1x8192_S8192_d0 h_S_)

theorem coefRow_at (x : FVec Ideal S2048x8192 .f32) (j : Fin 8192) :
    coefRow V0 x (ix2 0 j) = ∑ R : Fin 2048, r74 V0 (ix2 R j) * x (ix2 R j) := by
  unfold coefRow
  pointwise
  rw [Fin.sum_univ_one]

include h0 h1 h2 h3 h4 h5 in
theorem res108 :
    addf (addf (pad S3x8192 ![2, 0] ![0, 0] ![0, 0] (coefRow V0 (r22 V0)) (constant S_ .f32 0x00000000#32) pads_S1x8192_S3x8192_200_000 h_S_)
      (pad S3x8192 ![1, 0] ![1, 0] ![0, 0] (coefRow V0 (r15 V0)) (constant S_ .f32 0x00000000#32) pads_S1x8192_S3x8192_110_000 h_S_))
      (pad S3x8192 ![0, 0] ![2, 0] ![0, 0] (coefRow V0 (r9 V0)) (constant S_ .f32 0x00000000#32) pads_S1x8192_S3x8192_020_000 h_S_)
      = gCw (a0 V0) (a1 V0) (a2 V0) (a3 V0) (a4 V0) (a5 V0) := by
  funext i
  obtain ⟨q, j, rfl⟩ : ∃ q j, i = ix2 q j := ⟨i 0, i 1, by funext a; fin_cases a <;> rfl⟩
  rw [gCw_at, dw_at]
  simp only [← v74_at V0 h0 h1 h2 h3 h4 h5]
  have e0 : (∑ R : Fin 2048, r74 V0 (ix2 R j) * rowUp (upOf (a0 V0) (a1 V0)) (plane j) R 2 (lane j)) = coefRow V0 (r9 V0) (ix2 0 j) := by
    rw [coefRow_at]; simp only [v9_at]
  have e1 : (∑ R : Fin 2048, r74 V0 (ix2 R j) * rowUp (upOf (a0 V0) (a1 V0)) (plane j) R 1 (lane j)) = coefRow V0 (r15 V0) (ix2 0 j) := by
    rw [coefRow_at]; simp only [v15_at]
  have e2 : (∑ R : Fin 2048, r74 V0 (ix2 R j) * rowUp (upOf (a0 V0) (a1 V0)) (plane j) R 0 (lane j)) = coefRow V0 (r22 V0) (ix2 0 j) := by
    rw [coefRow_at]; simp only [v22_at]; rfl
  generalize coefRow V0 (r9 V0) = c0 at *
  generalize coefRow V0 (r15 V0) = c1 at *
  generalize coefRow V0 (r22 V0) = c2 at *
  fin_cases q
  · refine Eq.trans ?_ e0.symm
    pointwise
  · refine Eq.trans ?_ e1.symm
    pointwise
  · refine Eq.trans ?_ e2.symm
    pointwise

include h0 h1 h2 h3 h4 h5 in
theorem res77 :
    Host.reduceAdd (shapeCast S1x8192 (Host.reduceAdd (r74 V0) (constant S_ .f32 0x00000000#32) reducesTo_S2048x8192_S8192_d0 h_S_) shapeCasts_S8192_S1x8192) (constant S_ .f32 0x00000000#32) reducesTo_S1x8192_S8192_d0 h_S_
      = gCb (a0 V0) (a1 V0) (a2 V0) (a3 V0) (a4 V0) (a5 V0) := by
  funext i
  obtain ⟨j, rfl⟩ : ∃ j, i = ix1 j := ⟨i 0, by funext a; fin_cases a; rfl⟩
  rw [gCb_at]
  unfold dbOf
  show _ = ∑ R : Fin 2048, dY V0 (ix3 (plane j) R (lane j))
  simp only [← v74_at V0 h0 h1 h2 h3 h4 h5]
  pointwise
  rw [Fin.sum_univ_one]

include h0 h1 h2 h3 h4 h5 in
theorem res114 :
    (truncf .bf16 (transpose S1024x8192 [1, 0] (Host.dotGeneral (φ₁ := .f32) (φ₂ := .f32) dot_S2048x8192_S2048x1024_S8192x1024_0_0_1_1_n_n none (r110 V0) (res_main_v0 V0)) transposes_S8192x1024_S1024x8192_1_0) bitsLt_bf16_f32 : FVec Ideal S1024x8192 .bf16)
      = gUp (a0 V0) (a1 V0) (a2 V0) (a3 V0) (a4 V0) (a5 V0) := by
  funext i
  obtain ⟨r, j, rfl⟩ : ∃ r j, i = ix2 r j := ⟨i 0, i 1, by funext a; fin_cases a <;> rfl⟩
  unfold gUp upW
  show _ = ∑ k : Fin 2048, a0 V0 (ix2 k r) * duOf (halfW (a2 V0)) (dY V0) (ix3 (plane j) k (lane j))
  simp only [← v110_at V0 h0 h1 h2 h3 h4 h5, mul_comm (a0 V0 _)]
  pointwise [r5, r9, r15, r22, r29, r30, r31, r43, r52, r53, r54, r59, r61, r68, r74, r110, res_main_v0]

theorem res115 :
    (truncf .bf16 (transpose S4096x1024 [1, 0] (Host.dotGeneral (φ₁ := .f32) (φ₂ := .f32) dot_S2048x1024_S2048x4096_S1024x4096_0_0_1_1_n_n none (res_main_v56 V0) (r54 V0)) transposes_S1024x4096_S4096x1024_1_0) bitsLt_bf16_f32 : FVec Ideal S4096x1024 .bf16)
      = gDown (a0 V0) (a1 V0) (a2 V0) (a3 V0) (a5 V0) := by
  funext i
  obtain ⟨r, j, rfl⟩ : ∃ r j, i = ix2 r j := ⟨i 0, i 1, by funext a; fin_cases a <;> rfl⟩
  unfold gDown downW
  show _ = ∑ k : Fin 2048, actOf (yAll (a0 V0) (a1 V0) (a2 V0) (a3 V0)) (ix2 k r) * a5 V0 (ix2 k j)
  simp only [← v54_at, mul_comm _ (a5 V0 _)]
  pointwise [r5, r9, r15, r22, r29, r30, r31, r43, r52, r53, r54, r59, r61, r68, r74, r110, res_main_v56]

end Cert.ReferenceIdeal.Value
end
-- ==== Proof.VUpBwdX.lean ====
/- The up product's gradient to its left operand: what the kernel leaves in its result, and that the reference leaves the same. -/
module

public import proofs.«01_k».proof.Defs
public import proofs.«01_k».proof.Proof.Gen.UpBwdXIdeal.Value
public import proofs.«01_k».proof.Proof.Gen.UpBwdXRefIdeal.Run
public import Idealize.ShloMosaic.Lib.Pipeline.ValueKit
public import Idealize.ShloMosaic.Lib.Pointwise
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.UpBwdXIdeal.Value

open Cert.UpBwdXIdeal Cert.UpBwdXIdeal.Gen

variable (m : (ℓ : Loc nD τ sig) → Buf (Elt Ideal) ℓ)

theorem pay1 (a : Vec Ideal S1x1024x4096 .bf16) (b : Vec Ideal S1024x4096 .bf16) (r l : Fin 1024) :
    k0_pay1 a b (ix2 r l) = ∑ k : Fin 4096, a (ix3 0 r k) * b (ix2 l k) := by
  pointwise [k0_pay1]

theorem pay2 (a : Vec Ideal S1x1024x4096 .bf16) (b : Vec Ideal S1024x4096 .bf16) (o : Vec Ideal S1024x1024 .f32) (r l : Fin 1024) :
    k0_pay2 a b o (ix2 r l) = o (ix2 r l) + ∑ k : Fin 4096, a (ix3 0 r k) * b (ix2 l k) := by
  pointwise [k0_pay2, pay1]

/-- The sum over the 8192 columns, the gates' first. -/
def resOf (a : FVec Ideal S2x2048x4096 .bf16) (b : FVec Ideal S1024x8192 .bf16) : FVec Ideal S2048x1024 .f32 :=
  fun i => (∑ k : Fin 4096, a (ix3 0 (i 0) k) * b (ix2 (i 1) ⟨k.val, by omega⟩))
    + ∑ k : Fin 4096, a (ix3 1 (i 0) k) * b (ix2 (i 1) ⟨4096 + k.val, by omega⟩)

theorem index0 : ∀ t : Fin grid0.N, win0_0.index t = ![t.val % 2, t.val / 2, 0] := by decide +kernel
theorem index1 : ∀ t : Fin grid0.N, win0_1.index t = ![0, t.val % 2] := by decide +kernel
theorem index2 : ∀ t : Fin grid0.N, win0_2.index t = ![t.val / 2, 0] := by decide +kernel
theorem last : ∀ t : Fin cfg0.N, (cfg0.win 2).flush t = true → t.val = 1 ∨ t.val = 3 := by decide +kernel

theorem arr0 (c : Dev nD) : (dats m 0 c).arrAt 2 cfg0.N
    = resOf (m ((c.tc : Thread nD τ).loc main_arg0)) (m ((c.tc : Thread nD τ).loc main_arg1)) := by
  refine (dats m 0 c).arrAt_eq_of_covers 2 _ (by decide +kernel) fun t hf y => ?_
  have ht := last t hf
  obtain ⟨u, hu⟩ : ∃ u : Fin cfg0.N, u.val = t.val - 1 := ⟨⟨t.val - 1, lt_of_le_of_lt (Nat.sub_le _ _) t.isLt⟩, rfl⟩
  blk_simp
  rw [after0_2, outsAt0_B m c t (by omega) (by omega)]
  have e : outsAt0 m c (t.val - 1) (Nat.lt_of_le_of_lt (Nat.sub_le _ _) t.isLt) = outsAt0 m c u.val u.isLt := by
    congr 1; exact hu.symm
  rw [e, outsAt0_A m c u (by omega) (by omega)]
  unfold out0_B_2 out0_A_2
  frame_out
  obtain ⟨r, l, rfl⟩ : ∃ (r : Fin 1024) (l : Fin 1024), y = ix2 r l := ⟨y 0, y 1, eq_ix2 y⟩
  rw [pay2, pay1]
  unfold resOf
  rcases ht with ht | ht
  · blk_point [iblk, V_main_arg0, V_main_arg1, index0 t, index1 t, index2 t, index0 u, index1 u, index2 u, hu, ht]
  · blk_point [iblk, V_main_arg0, V_main_arg1, index0 t, index1 t, index2 t, index0 u, index1 u, index2 u, hu, ht]

end Cert.UpBwdXIdeal.Value

namespace Cert.UpBwdXRefIdeal.Value

open Cert.UpBwdXRefIdeal Cert.UpBwdXRefIdeal.Gen

theorem ref_eq (a : FVec Ideal S2x2048x4096 .bf16) (b : FVec Ideal S1024x8192 .bf16) :
    Host.dotGeneral (φ₁ := .f32) (φ₂ := .f32) dot_S2048x8192_S1024x8192_S2048x1024_1_1_0_0_n_n none (extf .f32 (concatenate S2048x8192 1 [⟨S2048x4096, (shapeCast _ (extractStridedSlice S1x2048x4096 ![0, 0, 0] a slices_S2x2048x4096_S1x2048x4096_0_0_0) shapeCasts_S1x2048x4096_S2048x4096)⟩, ⟨S2048x4096, (shapeCast _ (extractStridedSlice S1x2048x4096 ![1, 0, 0] a slices_S2x2048x4096_S1x2048x4096_1_0_0) shapeCasts_S1x2048x4096_S2048x4096)⟩] concatenates_S2048x4096_S2048x4096_S2048x8192_d1) bitsLt_bf16_f32) (extf .f32 b bitsLt_bf16_f32)
      = Cert.UpBwdXIdeal.Value.resOf a b := by
  funext y
  obtain ⟨r, l, rfl⟩ : ∃ (r : Fin 2048) (l : Fin 1024), y = ix2 r l := ⟨y 0, y 1, eq_ix2 y⟩
  unfold Cert.UpBwdXIdeal.Value.resOf
  pointwise []

theorem frame : Cert.quiescent_UpBwdXRefIdeal := fun m ρ _ =>
  (θ_run Cert.UpBwdXRefIdeal.defs _ _).mono
    (fun r h => ⟨fun c => (h c).2, Idealize.ShloMosaic.sem_eq_zero_of_no_sems (by decide) r.2⟩)
    (Cert.UpBwdXRefIdeal.Value.run m ρ)

end Cert.UpBwdXRefIdeal.Value

theorem Cert.UpBwdXIdeal.Value.equal : Cert.algebraic_UpBwdXIdeal_UpBwdXRefIdeal := by
  intro m g m' g' _ harg
  refine ⟨fun c => (Cert.UpBwdXIdeal.Gen.dats m 0 c).arrAt 2 Cert.UpBwdXIdeal.cfg0.N, Cert.UpBwdXIdeal.Value.run_blocks m g, ?_⟩
  refine (θ_run Cert.UpBwdXRefIdeal.defs _ _).mono (fun r h c => ?_) (Cert.UpBwdXRefIdeal.Value.run m' g')
  obtain ⟨e0, e1⟩ := harg c
  obtain ⟨r0, q⟩ := h c
  refine ⟨r0.trans ((Cert.UpBwdXRefIdeal.Value.ref_eq _ _).trans ?_), q⟩
  refine Eq.trans ?_ (Cert.UpBwdXIdeal.Value.arr0 m c).symm
  exact congrArg₂ Cert.UpBwdXIdeal.Value.resOf e0 e1
end
-- ==== Proof.VDown.lean ====
/- The down product: what the kernel leaves in its result, and that the reference leaves the same. -/
module

public import proofs.«01_k».proof.Defs
public import proofs.«01_k».proof.Proof.Gen.DownIdeal.Value
public import proofs.«01_k».proof.Proof.Gen.DownRefIdeal.Run
public import Idealize.ShloMosaic.Lib.Pipeline.ValueKit
public import Idealize.ShloMosaic.Lib.Pointwise
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen

variable (m : (ℓ : Loc nD τ sig) → Buf (Elt Ideal) ℓ)

theorem pay1 (a : Vec Ideal S1024x2048 .bf16) (b : Vec Ideal S2048x1024 .bf16) (r l : Fin 1024) :
    k0_pay1 a b (ix2 r l) = ∑ k : Fin 2048, a (ix2 r k) * b (ix2 k l) := by
  pointwise [k0_pay1]

theorem pay2 (a : Vec Ideal S1024x2048 .bf16) (b : Vec Ideal S2048x1024 .bf16) (o : Vec Ideal S1024x1024 .f32) (r l : Fin 1024) :
    k0_pay2 a b o (ix2 r l) = o (ix2 r l) + ∑ k : Fin 2048, a (ix2 r k) * b (ix2 k l) := by
  pointwise [k0_pay2, pay1]

/-- The sum over the 4096 columns in its two halves. -/
def resOf (a : FVec Ideal S2048x4096 .bf16) (b : FVec Ideal S4096x1024 .bf16) : FVec Ideal S2048x1024 .f32 :=
  fun i => (∑ k : Fin 2048, a (ix2 (i 0) ⟨k.val, by omega⟩) * b (ix2 ⟨k.val, by omega⟩ (i 1)))
    + ∑ k : Fin 2048, a (ix2 (i 0) ⟨2048 + k.val, by omega⟩) * b (ix2 ⟨2048 + k.val, by omega⟩ (i 1))

theorem index0 : ∀ t : Fin grid0.N, win0_0.index t = ![t.val / 2, t.val % 2] := by decide +kernel
theorem index1 : ∀ t : Fin grid0.N, win0_1.index t = ![t.val % 2, 0] := by decide +kernel
theorem index2 : ∀ t : Fin grid0.N, win0_2.index t = ![t.val / 2, 0] := by decide +kernel
theorem last : ∀ t : Fin cfg0.N, (cfg0.win 2).flush t = true → t.val = 1 ∨ t.val = 3 := by decide +kernel

theorem arr0 (c : Dev nD) : (dats m 0 c).arrAt 2 cfg0.N
    = resOf (m ((c.tc : Thread nD τ).loc main_arg0)) (m ((c.tc : Thread nD τ).loc main_arg1)) := by
  refine (dats m 0 c).arrAt_eq_of_covers 2 _ (by decide +kernel) fun t hf y => ?_
  have ht := last t hf
  obtain ⟨u, hu⟩ : ∃ u : Fin cfg0.N, u.val = t.val - 1 := ⟨⟨t.val - 1, lt_of_le_of_lt (Nat.sub_le _ _) t.isLt⟩, rfl⟩
  blk_simp
  rw [after0_2, outsAt0_B m c t (by omega) (by omega)]
  have e : outsAt0 m c (t.val - 1) (Nat.lt_of_le_of_lt (Nat.sub_le _ _) t.isLt) = outsAt0 m c u.val u.isLt := by
    congr 1; exact hu.symm
  rw [e, outsAt0_A m c u (by omega) (by omega)]
  unfold out0_B_2 out0_A_2
  frame_out
  obtain ⟨r, l, rfl⟩ : ∃ (r : Fin 1024) (l : Fin 1024), y = ix2 r l := ⟨y 0, y 1, eq_ix2 y⟩
  rw [pay2, pay1]
  unfold resOf
  rcases ht with ht | ht
  · blk_point [iblk, V_main_arg0, V_main_arg1, index0 t, index1 t, index2 t, index0 u, index1 u, index2 u, hu, ht]
  · blk_point [iblk, V_main_arg0, V_main_arg1, index0 t, index1 t, index2 t, index0 u, index1 u, index2 u, hu, ht]

end Cert.DownIdeal.Value

namespace Cert.DownRefIdeal.Value

open Cert.DownRefIdeal Cert.DownRefIdeal.Gen

theorem ref_eq (a : FVec Ideal S2048x4096 .bf16) (b : FVec Ideal S4096x1024 .bf16) :
    Host.dotGeneral (φ₁ := .f32) (φ₂ := .f32) dot_S2048x4096_S4096x1024_S2048x1024_1_0_0_1_n_n none (extf .f32 a bitsLt_bf16_f32) (extf .f32 b bitsLt_bf16_f32)
      = Cert.DownIdeal.Value.resOf a b := by
  funext y
  obtain ⟨r, l, rfl⟩ : ∃ (r : Fin 2048) (l : Fin 1024), y = ix2 r l := ⟨y 0, y 1, eq_ix2 y⟩
  unfold Cert.DownIdeal.Value.resOf
  pointwise []
  exact (Fin.sum_univ_add (a := 2048) (b := 2048) _).trans rfl

theorem frame : Cert.quiescent_DownRefIdeal := fun m ρ _ =>
  (θ_run Cert.DownRefIdeal.defs _ _).mono
    (fun r h => ⟨fun c => (h c).2, Idealize.ShloMosaic.sem_eq_zero_of_no_sems (by decide) r.2⟩)
    (Cert.DownRefIdeal.Value.run m ρ)

end Cert.DownRefIdeal.Value

theorem Cert.DownIdeal.Value.equal : Cert.algebraic_DownIdeal_DownRefIdeal := by
  intro m g m' g' _ harg
  refine ⟨fun c => (Cert.DownIdeal.Gen.dats m 0 c).arrAt 2 Cert.DownIdeal.cfg0.N, Cert.DownIdeal.Value.run_blocks m g, ?_⟩
  refine (θ_run Cert.DownRefIdeal.defs _ _).mono (fun r h c => ?_) (Cert.DownRefIdeal.Value.run m' g')
  obtain ⟨e0, e1⟩ := harg c
  obtain ⟨r0, q⟩ := h c
  refine ⟨r0.trans ((Cert.DownRefIdeal.Value.ref_eq _ _).trans ?_), q⟩
  refine Eq.trans ?_ (Cert.DownIdeal.Value.arr0 m c).symm
  exact congrArg₂ Cert.DownIdeal.Value.resOf e0 e1
end
-- ==== Proof.VInBwdXQkv.lean ====
/- The mixer's input product's gradient to the normalised activations, from the slabs: what the kernel leaves in its result, and that the reference leaves the same. -/
module

public import proofs.«01_k».proof.Defs
public import proofs.«01_k».proof.Proof.Gen.InBwdXQkvIdeal.Value
public import proofs.«01_k».proof.Proof.Gen.InBwdXQkvRefIdeal.Run
public import Idealize.ShloMosaic.Lib.Pipeline.ValueKit
public import Idealize.ShloMosaic.Lib.Pointwise
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.InBwdXQkvIdeal.Value

open Cert.InBwdXQkvIdeal Cert.InBwdXQkvIdeal.Gen

variable (m : (ℓ : Loc nD τ sig) → Buf (Elt Ideal) ℓ)

theorem cat (f : Fin 30 → FVec Ideal S1024x128 .bf16) (h) (r : Fin 1024) (k : Fin 3840) :
    concatenate S1024x3840 1 (List.ofFn fun n => (⟨S1024x128, f n⟩ : (s : Shape) × (s.Idx → Ideal .bf16))) h
      (ix2 r k) = f ⟨k.val / 128, by omega⟩ (ix2 r ⟨k.val % 128, by omega⟩) :=
  concatenate_ofFn_apply 1 f h rfl 128 rfl _ ⟨k.val / 128, by omega⟩ rfl (ix2 r ⟨k.val % 128, by omega⟩) rfl fun b hb => by
      obtain ⟨b, hb'⟩ := b
      have : b = 0 ∨ b = 1 := by have : b < 2 := hb'; omega
      rcases this with rfl | rfl
      · rfl
      · exact absurd rfl hb

theorem flat (v : Vec Ideal S1x1024x128 .bf16) (r : Fin 1024) (l : Fin 128) :
    shapeCast S1024x128 v shapeCasts_S1x1024x128_S1024x128 (ix2 r l) = v (ix3 0 r l) := by
  pointwise []

theorem pay1 (f : Fin 30 → Vec Ideal S1x1024x128 .bf16) (r : Fin 1024) (k : Fin 3840) :
    k0_pay1 (k0_pay3 (f 0)) (k0_pay4 (f 1)) (k0_pay5 (f 2)) (k0_pay6 (f 3)) (k0_pay7 (f 4)) (k0_pay8 (f 5)) (k0_pay9 (f 6)) (k0_pay10 (f 7)) (k0_pay11 (f 8)) (k0_pay12 (f 9)) (k0_pay13 (f 10)) (k0_pay14 (f 11)) (k0_pay15 (f 12)) (k0_pay16 (f 13)) (k0_pay17 (f 14)) (k0_pay18 (f 15)) (k0_pay19 (f 16)) (k0_pay20 (f 17)) (k0_pay21 (f 18)) (k0_pay22 (f 19)) (k0_pay23 (f 20)) (k0_pay24 (f 21)) (k0_pay25 (f 22)) (f 23) (f 24) (f 25) (f 26) (f 27) (f 28) (f 29) (ix2 r k)
      = f ⟨k.val / 128, by omega⟩ (ix3 0 r ⟨k.val % 128, by omega⟩) :=
  (cat (fun n => shapeCast S1024x128 (f n) shapeCasts_S1x1024x128_S1024x128)
    concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x3840_d1 r k).trans (flat _ r _)

theorem pay1_of (f : Fin 30 → Vec Ideal S1x1024x128 .bf16) (v0 v1 v2 v3 v4 v5 v6 v7 v8 v9 v10 v11 v12 v13 v14 v15 v16 v17 v18 v19 v20 v21 v22 v23 v24 v25 v26 v27 v28 v29 : Vec Ideal S1x1024x128 .bf16)
    (h0 : v0 = f 0) (h1 : v1 = f 1) (h2 : v2 = f 2) (h3 : v3 = f 3) (h4 : v4 = f 4) (h5 : v5 = f 5) (h6 : v6 = f 6) (h7 : v7 = f 7) (h8 : v8 = f 8) (h9 : v9 = f 9) (h10 : v10 = f 10) (h11 : v11 = f 11) (h12 : v12 = f 12) (h13 : v13 = f 13) (h14 : v14 = f 14) (h15 : v15 = f 15) (h16 : v16 = f 16) (h17 : v17 = f 17) (h18 : v18 = f 18) (h19 : v19 = f 19) (h20 : v20 = f 20) (h21 : v21 = f 21) (h22 : v22 = f 22) (h23 : v23 = f 23) (h24 : v24 = f 24) (h25 : v25 = f 25) (h26 : v26 = f 26) (h27 : v27 = f 27) (h28 : v28 = f 28) (h29 : v29 = f 29)
    (r : Fin 1024) (k : Fin 3840) :
    k0_pay1 (k0_pay3 v0) (k0_pay4 v1) (k0_pay5 v2) (k0_pay6 v3) (k0_pay7 v4) (k0_pay8 v5) (k0_pay9 v6) (k0_pay10 v7) (k0_pay11 v8) (k0_pay12 v9) (k0_pay13 v10) (k0_pay14 v11) (k0_pay15 v12) (k0_pay16 v13) (k0_pay17 v14) (k0_pay18 v15) (k0_pay19 v16) (k0_pay20 v17) (k0_pay21 v18) (k0_pay22 v19) (k0_pay23 v20) (k0_pay24 v21) (k0_pay25 v22) v23 v24 v25 v26 v27 v28 v29 (ix2 r k)
      = f ⟨k.val / 128, by omega⟩ (ix3 0 r ⟨k.val % 128, by omega⟩) := by
  subst h0 h1 h2 h3 h4 h5 h6 h7 h8 h9 h10 h11 h12 h13 h14 h15 h16 h17 h18 h19 h20 h21 h22 h23 h24 h25 h26 h27 h28 h29
  exact pay1 f r k

theorem pay2 (a : Vec Ideal S1024x3840 .bf16) (b : Vec Ideal S3840x1024 .bf16) (r l : Fin 1024) :
    k0_pay2 a b (ix2 r l) = ∑ k : Fin 3840, a (ix2 r k) * b (ix2 k l) := by
  pointwise [k0_pay2]

/-- The sum over the slabs' columns, 128 a slab. -/
def resOf (a : FVec Ideal S30x2048x128 .bf16) (b : FVec Ideal S6912x1024 .bf16) : FVec Ideal S2048x1024 .f32 :=
  fun i => ∑ k : Fin 3840, a (ix3 ⟨k.val / 128, by omega⟩ (i 0) ⟨k.val % 128, by omega⟩) * b (ix2 ⟨k.val, by omega⟩ (i 1))

theorem index0 : ∀ t : Fin grid0.N, win0_0.index t = ![0, t.val, 0] := by decide +kernel
theorem index1 : ∀ t : Fin grid0.N, win0_1.index t = ![0, 0] := by decide +kernel
theorem index2 : ∀ t : Fin grid0.N, win0_2.index t = ![t.val, 0] := by decide +kernel

/-- One slab of a block. -/
def slabOf (x : Vec Ideal S30x1024x128 .bf16) (s : Fin 30) : Vec Ideal S1x1024x128 .bf16 := fun i => x (ix3 s (i 1) (i 2))

theorem slab (x : Vec Ideal S30x1024x128 .bf16) (s : Fin 30) (h) :
    View.ld x (Rect.unit ![s.val, 0, 0] ![1, 1024, 128] h) = slabOf x s := by
  funext i
  refine View.ld_unit_apply_of _ _ _ _ _ _ fun b => ?_
  have h0 : (i 0).val = 0 := by have : (i 0).val < 1 := (i 0).isLt; omega
  fin_cases b <;> simp [h0]

theorem weights (c : Dev nD) (t : Fin cfg0.N) (k : Fin 3840) (l : Fin 1024) :
    X0_1 m c t (ix2 k l) = m ((c.tc : Thread nD τ).loc main_arg1) (ix2 ⟨k.val, by omega⟩ l) := by
  unfold X0_1 Pipeline.Window.fill
  rw [dif_pos (moved0_1 t _)]
  blk_point [iblk, V_main_arg1, index1 t]

theorem sum_eq (f g f' g' : Fin 3840 → EReal) (h : ∀ k, f k = f' k) (h' : ∀ k, g k = g' k) : ∑ k, f k * g k = ∑ k, f' k * g' k :=
  Finset.sum_congr rfl fun k _ => congrArg₂ _ (h k) (h' k)

theorem arr0 (c : Dev nD) : (dats m 0 c).arrAt 2 cfg0.N
    = resOf (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold outsAt0 out0_A_2
  frame_out
  obtain ⟨r, l, rfl⟩ : ∃ (r : Fin 1024) (l : Fin 1024), y = ix2 r l := ⟨y 0, y 1, eq_ix2 y⟩
  rw [pay2]
  unfold resOf
  refine sum_eq _ _ _ _ (fun k => (pay1_of (slabOf (iblk m c 0 t)) _ _ _ _ _ _ _ _ _ _ _ _ _ _ _ _ _ _ _ _ _ _ _ _ _ _ _ _ _ _ (slab _ 0 _) (slab _ 1 _) (slab _ 2 _) (slab _ 3 _) (slab _ 4 _) (slab _ 5 _) (slab _ 6 _) (slab _ 7 _) (slab _ 8 _) (slab _ 9 _) (slab _ 10 _) (slab _ 11 _) (slab _ 12 _) (slab _ 13 _) (slab _ 14 _) (slab _ 15 _) (slab _ 16 _) (slab _ 17 _) (slab _ 18 _) (slab _ 19 _) (slab _ 20 _) (slab _ 21 _) (slab _ 22 _) (slab _ 23 _) (slab _ 24 _) (slab _ 25 _) (slab _ 26 _) (slab _ 27 _) (slab _ 28 _) (slab _ 29 _) r k).trans ?_) (fun k => (weights m c t k l).trans ?_)
  · unfold slabOf
    blk_point [iblk, V_main_arg0, index0 t, index2 t]
  · blk_point [index2 t]

end Cert.InBwdXQkvIdeal.Value

namespace Cert.InBwdXQkvRefIdeal.Value

open Cert.InBwdXQkvRefIdeal Cert.InBwdXQkvRefIdeal.Gen

theorem ref_eq (a : FVec Ideal S30x2048x128 .bf16) (b : FVec Ideal S6912x1024 .bf16) :
    Host.dotGeneral (φ₁ := .f32) (φ₂ := .f32) dot_S2048x3840_S1024x3840_S2048x1024_1_1_0_0_n_n none (extf .f32 (shapeCast _ (transpose S2048x30x128 [1, 0, 2] a transposes_S30x2048x128_S2048x30x128_1_0_2) shapeCasts_S2048x30x128_S2048x3840) bitsLt_bf16_f32) (transpose S1024x3840 [1, 0] (extf .f32 (extractStridedSlice S3840x1024 ![0, 0] b slices_S6912x1024_S3840x1024_0_0) bitsLt_bf16_f32) transposes_S3840x1024_S1024x3840_1_0)
      = Cert.InBwdXQkvIdeal.Value.resOf a b := by
  funext y
  obtain ⟨r, l, rfl⟩ : ∃ (r : Fin 2048) (l : Fin 1024), y = ix2 r l := ⟨y 0, y 1, eq_ix2 y⟩
  unfold Cert.InBwdXQkvIdeal.Value.resOf
  pointwise []

theorem frame : Cert.quiescent_InBwdXQkvRefIdeal := fun m ρ _ =>
  (θ_run Cert.InBwdXQkvRefIdeal.defs _ _).mono
    (fun r h => ⟨fun c => (h c).2, Idealize.ShloMosaic.sem_eq_zero_of_no_sems (by decide) r.2⟩)
    (Cert.InBwdXQkvRefIdeal.Value.run m ρ)

end Cert.InBwdXQkvRefIdeal.Value

theorem Cert.InBwdXQkvIdeal.Value.equal : Cert.algebraic_InBwdXQkvIdeal_InBwdXQkvRefIdeal := by
  intro m g m' g' _ harg
  refine ⟨fun c => (Cert.InBwdXQkvIdeal.Gen.dats m 0 c).arrAt 2 Cert.InBwdXQkvIdeal.cfg0.N, Cert.InBwdXQkvIdeal.Value.run_blocks m g, ?_⟩
  refine (θ_run Cert.InBwdXQkvRefIdeal.defs _ _).mono (fun r h c => ?_) (Cert.InBwdXQkvRefIdeal.Value.run m' g')
  obtain ⟨e0, e1⟩ := harg c
  obtain ⟨r0, q⟩ := h c
  refine ⟨r0.trans ((Cert.InBwdXQkvRefIdeal.Value.ref_eq _ _).trans ?_), q⟩
  refine Eq.trans ?_ (Cert.InBwdXQkvIdeal.Value.arr0 m c).symm
  exact congrArg₂ Cert.InBwdXQkvIdeal.Value.resOf e0 e1
end
-- ==== Proof.VInBwdXGate.lean ====
/- The input projection's gradient to its left operand from the gates' columns: what the kernel leaves in its result, and that the reference leaves the same. -/
module

public import proofs.«01_k».proof.Defs
public import proofs.«01_k».proof.Proof.Gen.InBwdXGateIdeal.Value
public import proofs.«01_k».proof.Proof.Gen.InBwdXGateRefIdeal.Run
public import Idealize.ShloMosaic.Lib.Pipeline.ValueKit
public import Idealize.ShloMosaic.Lib.Pointwise
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.InBwdXGateIdeal.Value

open Cert.InBwdXGateIdeal Cert.InBwdXGateIdeal.Gen

variable (m : (ℓ : Loc nD τ sig) → Buf (Elt Ideal) ℓ)

theorem pay1 (a : Vec Ideal S1024x768 .bf16) (b : Vec Ideal S768x1024 .bf16) (r l : Fin 1024) :
    k0_pay1 a b (ix2 r l) = ∑ k : Fin 768, a (ix2 r k) * b (ix2 k l) := by
  pointwise [k0_pay1]

theorem pay2 (a : Vec Ideal S1024x768 .bf16) (b : Vec Ideal S768x1024 .bf16) (o : Vec Ideal S1024x1024 .f32) (r l : Fin 1024) :
    k0_pay2 a b o (ix2 r l) = o (ix2 r l) + ∑ k : Fin 768, a (ix2 r k) * b (ix2 k l) := by
  pointwise [k0_pay2, pay1]

/-- The sum over the 3072 gate columns in its four quarters; the gates' rows of the weights begin at row 3840. -/
def resOf (a : FVec Ideal S2048x3072 .bf16) (b : FVec Ideal S6912x1024 .bf16) : FVec Ideal S2048x1024 .f32 :=
  fun i => (∑ k : Fin 768, a (ix2 (i 0) ⟨k.val, by omega⟩) * b (ix2 ⟨3840 + k.val, by omega⟩ (i 1)))
    + (∑ k : Fin 768, a (ix2 (i 0) ⟨768 + k.val, by omega⟩) * b (ix2 ⟨4608 + k.val, by omega⟩ (i 1)))
    + (∑ k : Fin 768, a (ix2 (i 0) ⟨1536 + k.val, by omega⟩) * b (ix2 ⟨5376 + k.val, by omega⟩ (i 1)))
    + (∑ k : Fin 768, a (ix2 (i 0) ⟨2304 + k.val, by omega⟩) * b (ix2 ⟨6144 + k.val, by omega⟩ (i 1)))

theorem index0 : ∀ t : Fin grid0.N, win0_0.index t = ![t.val / 4, t.val % 4] := by decide +kernel
theorem index1 : ∀ t : Fin grid0.N, win0_1.index t = ![t.val % 4 + 5, 0] := by decide +kernel
theorem index2 : ∀ t : Fin grid0.N, win0_2.index t = ![t.val / 4, 0] := by decide +kernel
theorem last : ∀ t : Fin cfg0.N, (cfg0.win 2).flush t = true → t.val = 3 ∨ t.val = 7 := by decide +kernel

/-- What a point after its row's first leaves, over what the point before left. -/
theorem next (c : Dev nD) (t u : Fin cfg0.N) (h : u.val + 1 = t.val) (h0 : ¬t.val % 4 = 0) :
    outsAt0 m c t.val t.isLt = k0_pay2 (iblk m c 0 t) (iblk m c 1 t) (outsAt0 m c u.val u.isLt) := by
  have h1 : t.val - 1 = u.val := by omega
  rw [outsAt0_B m c t h0 (by omega)]
  have e : outsAt0 m c (t.val - 1) (Nat.lt_of_le_of_lt (Nat.sub_le _ _) t.isLt) = outsAt0 m c u.val u.isLt := by
    congr 1
  rw [e]
  unfold out0_B_2
  frame_out

theorem arr0 (c : Dev nD) : (dats m 0 c).arrAt 2 cfg0.N
    = resOf (m ((c.tc : Thread nD τ).loc main_arg0)) (m ((c.tc : Thread nD τ).loc main_arg1)) := by
  refine (dats m 0 c).arrAt_eq_of_covers 2 _ (by decide +kernel) fun t hf y => ?_
  have ht := last t hf
  obtain ⟨u, hu⟩ : ∃ u : Fin cfg0.N, u.val = t.val - 1 := ⟨⟨t.val - 1, lt_of_le_of_lt (Nat.sub_le _ _) t.isLt⟩, rfl⟩
  obtain ⟨v, hv⟩ : ∃ v : Fin cfg0.N, v.val = t.val - 2 := ⟨⟨t.val - 2, by omega⟩, rfl⟩
  obtain ⟨w, hw⟩ : ∃ w : Fin cfg0.N, w.val = t.val - 3 := ⟨⟨t.val - 3, by omega⟩, rfl⟩
  blk_simp
  rw [after0_2, next m c t u (by omega) (by omega), next m c u v (by omega) (by omega), next m c v w (by omega) (by omega),
    outsAt0_A m c w (by omega) (by omega)]
  unfold out0_A_2
  frame_out
  obtain ⟨r, l, rfl⟩ : ∃ (r : Fin 1024) (l : Fin 1024), y = ix2 r l := ⟨y 0, y 1, eq_ix2 y⟩
  rw [pay2, pay2, pay2, pay1]
  unfold resOf
  rcases ht with ht | ht
  · blk_point [iblk, V_main_arg0, V_main_arg1, index0 t, index1 t, index2 t, index0 u, index1 u, index0 v, index1 v, index0 w, index1 w, hu, hv, hw, ht]
  · blk_point [iblk, V_main_arg0, V_main_arg1, index0 t, index1 t, index2 t, index0 u, index1 u, index0 v, index1 v, index0 w, index1 w, hu, hv, hw, ht]

end Cert.InBwdXGateIdeal.Value

namespace Cert.InBwdXGateRefIdeal.Value

open Cert.InBwdXGateRefIdeal Cert.InBwdXGateRefIdeal.Gen

theorem ref_eq (a : FVec Ideal S2048x3072 .bf16) (b : FVec Ideal S6912x1024 .bf16) :
    Host.dotGeneral (φ₁ := .f32) (φ₂ := .f32) dot_S2048x3072_S1024x3072_S2048x1024_1_1_0_0_n_n none (extf .f32 a bitsLt_bf16_f32) (transpose S1024x3072 [1, 0] (extf .f32 (extractStridedSlice S3072x1024 ![3840, 0] b slices_S6912x1024_S3072x1024_3840_0) bitsLt_bf16_f32) transposes_S3072x1024_S1024x3072_1_0)
      = Cert.InBwdXGateIdeal.Value.resOf a b := by
  funext y
  obtain ⟨r, l, rfl⟩ : ∃ (r : Fin 2048) (l : Fin 1024), y = ix2 r l := ⟨y 0, y 1, eq_ix2 y⟩
  unfold Cert.InBwdXGateIdeal.Value.resOf
  pointwise []
  refine (Fin.sum_univ_add (a := 2304) (b := 768) _).trans (congrArg₂ (· + ·) ?_ ?_)
  · refine (Fin.sum_univ_add (a := 1536) (b := 768) _).trans (congrArg₂ (· + ·) ?_ ?_)
    · refine (Fin.sum_univ_add (a := 768) (b := 768) _).trans (congrArg₂ (· + ·) ?_ ?_)
      · exact Finset.sum_congr rfl fun k _ => rfl
      · exact Finset.sum_congr rfl fun k _ => by congr 3; apply Fin.ext; show 3840 + (768 + k.val) = 4608 + k.val; omega
    · exact Finset.sum_congr rfl fun k _ => by congr 3; apply Fin.ext; show 3840 + (1536 + k.val) = 5376 + k.val; omega
  · exact Finset.sum_congr rfl fun k _ => by congr 3; apply Fin.ext; show 3840 + (2304 + k.val) = 6144 + k.val; omega

theorem frame : Cert.quiescent_InBwdXGateRefIdeal := fun m ρ _ =>
  (θ_run Cert.InBwdXGateRefIdeal.defs _ _).mono
    (fun r h => ⟨fun c => (h c).2, Idealize.ShloMosaic.sem_eq_zero_of_no_sems (by decide) r.2⟩)
    (Cert.InBwdXGateRefIdeal.Value.run m ρ)

end Cert.InBwdXGateRefIdeal.Value

theorem Cert.InBwdXGateIdeal.Value.equal : Cert.algebraic_InBwdXGateIdeal_InBwdXGateRefIdeal := by
  intro m g m' g' _ harg
  refine ⟨fun c => (Cert.InBwdXGateIdeal.Gen.dats m 0 c).arrAt 2 Cert.InBwdXGateIdeal.cfg0.N, Cert.InBwdXGateIdeal.Value.run_blocks m g, ?_⟩
  refine (θ_run Cert.InBwdXGateRefIdeal.defs _ _).mono (fun r h c => ?_) (Cert.InBwdXGateRefIdeal.Value.run m' g')
  obtain ⟨e0, e1⟩ := harg c
  obtain ⟨r0, q⟩ := h c
  refine ⟨r0.trans ((Cert.InBwdXGateRefIdeal.Value.ref_eq _ _).trans ?_), q⟩
  refine Eq.trans ?_ (Cert.InBwdXGateIdeal.Value.arr0 m c).symm
  exact congrArg₂ Cert.InBwdXGateIdeal.Value.resOf e0 e1
end
-- ==== Proof.VProjQkv.lean ====
/- The input projection's slabs: what the kernel leaves in its result, and that the reference leaves the same. -/
module

public import proofs.«01_k».proof.Defs
public import proofs.«01_k».proof.Proof.Gen.ProjQkvIdeal.Value
public import proofs.«01_k».proof.Proof.Gen.ProjQkvRefIdeal.Run
public import Idealize.ShloMosaic.Lib.Pipeline.ValueKit
public import Idealize.ShloMosaic.Lib.Pointwise
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.ProjQkvIdeal.Value

open Cert.ProjQkvIdeal Cert.ProjQkvIdeal.Gen

variable (m : (ℓ : Loc nD τ sig) → Buf (Elt Ideal) ℓ)

theorem pay (a : Vec Ideal S2048x1024 .bf16) (b : Vec Ideal S768x1024 .bf16) (r : Fin 2048) (l : Fin 768) :
    k0_pay1 a b (ix2 r l) = ∑ k : Fin 1024, a (ix2 r k) * b (ix2 l k) := by
  pointwise [k0_pay1]

/-- The product of the activations' rows with the slabs' rows of the weights, 128 rows a slab. -/
def resOf (a : FVec Ideal S2048x1024 .bf16) (b : FVec Ideal S6912x1024 .bf16) : FVec Ideal S30x2048x128 .f32 :=
  fun i => ∑ k : Fin 1024, a (ix2 (i 1) k) * b (ix2 ⟨(i 0).val * 128 + (i 2).val, by
    have h0 : (i 0).val < 30 := (i 0).isLt
    have h2 : (i 2).val < 128 := (i 2).isLt
    omega⟩ k)

theorem slab (a : Vec Ideal S2048x1024 .bf16) (b : Vec Ideal S768x1024 .bf16) (z : Fin 1) (r : Fin 2048) (l : Fin 128) :
    k0_pay2 a b (ix3 z r l) = ∑ k : Fin 1024, a (ix2 r k) * b (ix2 ⟨l.val, by omega⟩ k) ∧
    k0_pay3 a b (ix3 z r l) = ∑ k : Fin 1024, a (ix2 r k) * b (ix2 ⟨128 + l.val, by omega⟩ k) ∧
    k0_pay4 a b (ix3 z r l) = ∑ k : Fin 1024, a (ix2 r k) * b (ix2 ⟨256 + l.val, by omega⟩ k) ∧
    k0_pay5 a b (ix3 z r l) = ∑ k : Fin 1024, a (ix2 r k) * b (ix2 ⟨384 + l.val, by omega⟩ k) ∧
    k0_pay6 a b (ix3 z r l) = ∑ k : Fin 1024, a (ix2 r k) * b (ix2 ⟨512 + l.val, by omega⟩ k) ∧
    k0_pay7 a b (ix3 z r l) = ∑ k : Fin 1024, a (ix2 r k) * b (ix2 ⟨640 + l.val, by omega⟩ k) := by
  refine ⟨?_, ?_, ?_, ?_, ?_, ?_⟩ <;> pointwise [k0_pay2, k0_pay3, k0_pay4, k0_pay5, k0_pay6, k0_pay7, pay]

theorem index0 : ∀ t : Fin grid0.N, win0_0.index t = ![0, 0] := by decide +kernel
theorem index1 : ∀ t : Fin grid0.N, win0_1.index t = ![t.val, 0] := by decide +kernel
theorem index2 : ∀ t : Fin grid0.N, win0_2.index t = ![t.val, 0, 0] := by decide +kernel

theorem read (c : Dev nD) (t : Fin cfg0.N) (w : S30x2048x128.Idx) (q : Fin 768) (r : Fin 2048)
    (a : Vec Ideal S2048x1024 .bf16) (b : Vec Ideal S768x1024 .bf16) (ha : a = iblk m c 0 t) (hb : b = iblk m c 1 t)
    (hw : (w 0).val * 128 + (w 2).val = 768 * t.val + q.val) (hr : (w 1).val = r.val) :
    ∑ k : Fin 1024, a (ix2 r k) * b (ix2 q k)
      = resOf (m ((c.tc : Thread nD τ).loc main_arg0)) (m ((c.tc : Thread nD τ).loc main_arg1)) w := by
  subst ha hb
  unfold resOf
  refine Finset.sum_congr rfl fun k _ => congrArg₂ _ ?_ ?_
  · blk_point [iblk, V_main_arg0, V_main_arg1, index0 t, index1 t, hw, hr]
  · blk_point [iblk, V_main_arg0, V_main_arg1, index0 t, index1 t, hw, hr]

set_option maxHeartbeats 2000000 in
theorem arr0 (c : Dev nD) : (dats m 0 c).arrAt 2 cfg0.N
    = resOf (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold outsAt0 out0_A_2
  frame_out
  canon_tiles x h
  all_goals obtain ⟨z, r, l, rfl⟩ : ∃ (z : Fin 1) (r : Fin 2048) (l : Fin 128), x = ix3 z r l := ⟨x 0, x 1, x 2, eq_ix3 x⟩
  all_goals obtain ⟨p2, p3, p4, p5, p6, p7⟩ := slab (iblk m c 0 t) (iblk m c 1 t) z r l
  all_goals have e0 : ((((View.whole main_v0).slice (win0_2.rect t)).emb y) 0).val = 6 * t.val + (y 0).val := by blk_simp [index2 t]; omega
  all_goals have e1 : ((((View.whole main_v0).slice (win0_2.rect t)).emb y) 1).val = (y 1).val := by blk_simp [index2 t]
  all_goals have e2 : ((((View.whole main_v0).slice (win0_2.rect t)).emb y) 2).val = (y 2).val := by blk_simp [index2 t]
  · have h0' : (y 0).val = 5 + z.val := h0
    have h1' : (y 1).val = r.val := h1
    have h2' : (y 2).val = l.val := h2
    exact p7.trans (read m c t _ ⟨640 + l.val, by omega⟩ r _ _ rfl rfl (by rw [e0, e2]; dsimp only; omega) (e1.trans h1'))
  · have h0' : (y 0).val = 4 + z.val := h0
    have h1' : (y 1).val = r.val := h1
    have h2' : (y 2).val = l.val := h2
    exact p6.trans (read m c t _ ⟨512 + l.val, by omega⟩ r _ _ rfl rfl (by rw [e0, e2]; dsimp only; omega) (e1.trans h1'))
  · have h0' : (y 0).val = 3 + z.val := h0
    have h1' : (y 1).val = r.val := h1
    have h2' : (y 2).val = l.val := h2
    exact p5.trans (read m c t _ ⟨384 + l.val, by omega⟩ r _ _ rfl rfl (by rw [e0, e2]; dsimp only; omega) (e1.trans h1'))
  · have h0' : (y 0).val = 2 + z.val := h0
    have h1' : (y 1).val = r.val := h1
    have h2' : (y 2).val = l.val := h2
    exact p4.trans (read m c t _ ⟨256 + l.val, by omega⟩ r _ _ rfl rfl (by rw [e0, e2]; dsimp only; omega) (e1.trans h1'))
  · have h0' : (y 0).val = 1 + z.val := h0
    have h1' : (y 1).val = r.val := h1
    have h2' : (y 2).val = l.val := h2
    exact p3.trans (read m c t _ ⟨128 + l.val, by omega⟩ r _ _ rfl rfl (by rw [e0, e2]; dsimp only; omega) (e1.trans h1'))
  · have h0' : (y 0).val = z.val := h0
    have h1' : (y 1).val = r.val := h1
    have h2' : (y 2).val = l.val := h2
    exact p2.trans (read m c t _ ⟨l.val, by omega⟩ r _ _ rfl rfl (by rw [e0, e2]; dsimp only; omega) (e1.trans h1'))

end Cert.ProjQkvIdeal.Value

namespace Cert.ProjQkvRefIdeal.Value

open Cert.ProjQkvRefIdeal Cert.ProjQkvRefIdeal.Gen

theorem ref_eq (a : FVec Ideal S2048x1024 .bf16) (b : FVec Ideal S6912x1024 .bf16) :
    transpose S30x2048x128 [1, 0, 2] (shapeCast _ (Host.dotGeneral (φ₁ := .f32) (φ₂ := .f32) dot_S2048x1024_S1024x3840_S2048x3840_1_0_0_1_n_n none (extf .f32 a bitsLt_bf16_f32) (transpose S1024x3840 [1, 0] (extf .f32 (extractStridedSlice S3840x1024 ![0, 0] b slices_S6912x1024_S3840x1024_0_0) bitsLt_bf16_f32) transposes_S3840x1024_S1024x3840_1_0)) shapeCasts_S2048x3840_S2048x30x128) transposes_S2048x30x128_S30x2048x128_1_0_2
      = Cert.ProjQkvIdeal.Value.resOf a b := by
  funext y
  obtain ⟨s, r, l, rfl⟩ : ∃ (s : Fin 30) (r : Fin 2048) (l : Fin 128), y = ix3 s r l := ⟨y 0, y 1, y 2, eq_ix3 y⟩
  unfold Cert.ProjQkvIdeal.Value.resOf
  pointwise []

theorem frame : Cert.quiescent_ProjQkvRefIdeal := fun m ρ _ =>
  (θ_run Cert.ProjQkvRefIdeal.defs _ _).mono
    (fun r h => ⟨fun c => (h c).2, Idealize.ShloMosaic.sem_eq_zero_of_no_sems (by decide) r.2⟩)
    (Cert.ProjQkvRefIdeal.Value.run m ρ)

end Cert.ProjQkvRefIdeal.Value

theorem Cert.ProjQkvIdeal.Value.equal : Cert.algebraic_ProjQkvIdeal_ProjQkvRefIdeal := by
  intro m g m' g' _ harg
  refine ⟨fun c => (Cert.ProjQkvIdeal.Gen.dats m 0 c).arrAt 2 Cert.ProjQkvIdeal.cfg0.N, Cert.ProjQkvIdeal.Value.run_blocks m g, ?_⟩
  refine (θ_run Cert.ProjQkvRefIdeal.defs _ _).mono (fun r h c => ?_) (Cert.ProjQkvRefIdeal.Value.run m' g')
  obtain ⟨e0, e1⟩ := harg c
  obtain ⟨r0, q⟩ := h c
  refine ⟨r0.trans ((Cert.ProjQkvRefIdeal.Value.ref_eq _ _).trans ?_), q⟩
  refine Eq.trans ?_ (Cert.ProjQkvIdeal.Value.arr0 m c).symm
  exact congrArg₂ Cert.ProjQkvIdeal.Value.resOf e0 e1
end
-- ==== Proof.VProjGate.lean ====
/- The input projection's gate columns: what the kernel leaves in its result, and that the reference leaves the same. -/
module

public import proofs.«01_k».proof.Defs
public import proofs.«01_k».proof.Proof.Gen.ProjGateIdeal.Value
public import proofs.«01_k».proof.Proof.Gen.ProjGateRefIdeal.Run
public import Idealize.ShloMosaic.Lib.Pipeline.ValueKit
public import Idealize.ShloMosaic.Lib.Pointwise
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.ProjGateIdeal.Value

open Cert.ProjGateIdeal Cert.ProjGateIdeal.Gen

variable (m : (ℓ : Loc nD τ sig) → Buf (Elt Ideal) ℓ)

theorem pay (a : Vec Ideal S2048x1024 .bf16) (b : Vec Ideal S768x1024 .bf16) (r : Fin 2048) (l : Fin 768) :
    k0_pay1 a b (ix2 r l) = ∑ k : Fin 1024, a (ix2 r k) * b (ix2 l k) := by
  pointwise [k0_pay1]

/-- The product of the activations' rows with the gates' rows of the weights, which begin at row 3840. -/
def resOf (a : FVec Ideal S2048x1024 .bf16) (b : FVec Ideal S6912x1024 .bf16) : FVec Ideal S2048x3072 .bf16 :=
  fun i => ∑ k : Fin 1024, a (ix2 (i 0) k) * b (ix2 ⟨3840 + (i 1).val, by
    have h1 : (i 1).val < 3072 := (i 1).isLt
    omega⟩ k)

theorem index0 : ∀ t : Fin grid0.N, win0_0.index t = ![0, 0] := by decide +kernel
theorem index1 : ∀ t : Fin grid0.N, win0_1.index t = ![t.val + 5, 0] := by decide +kernel
theorem index2 : ∀ t : Fin grid0.N, win0_2.index t = ![0, t.val] := by decide +kernel

theorem arr0 (c : Dev nD) : (dats m 0 c).arrAt 2 cfg0.N
    = resOf (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold outsAt0 out0_A_2
  frame_out
  obtain ⟨r, l, rfl⟩ : ∃ (r : Fin 2048) (l : Fin 768), y = ix2 r l := ⟨y 0, y 1, eq_ix2 y⟩
  rw [pay]
  unfold resOf
  blk_point [iblk, V_main_arg0, V_main_arg1, index0 t, index1 t, index2 t]

end Cert.ProjGateIdeal.Value

namespace Cert.ProjGateRefIdeal.Value

open Cert.ProjGateRefIdeal Cert.ProjGateRefIdeal.Gen

theorem ref_eq (a : FVec Ideal S2048x1024 .bf16) (b : FVec Ideal S6912x1024 .bf16) :
    truncf .bf16 (Host.dotGeneral (φ₁ := .f32) (φ₂ := .f32) dot_S2048x1024_S1024x3072_S2048x3072_1_0_0_1_n_n none (extf .f32 a bitsLt_bf16_f32) (transpose S1024x3072 [1, 0] (extf .f32 (extractStridedSlice S3072x1024 ![3840, 0] b slices_S6912x1024_S3072x1024_3840_0) bitsLt_bf16_f32) transposes_S3072x1024_S1024x3072_1_0)) bitsLt_bf16_f32
      = Cert.ProjGateIdeal.Value.resOf a b := by
  funext y
  obtain ⟨r, l, rfl⟩ : ∃ (r : Fin 2048) (l : Fin 3072), y = ix2 r l := ⟨y 0, y 1, eq_ix2 y⟩
  unfold Cert.ProjGateIdeal.Value.resOf
  pointwise []

theorem frame : Cert.quiescent_ProjGateRefIdeal := fun m ρ _ =>
  (θ_run Cert.ProjGateRefIdeal.defs _ _).mono
    (fun r h => ⟨fun c => (h c).2, Idealize.ShloMosaic.sem_eq_zero_of_no_sems (by decide) r.2⟩)
    (Cert.ProjGateRefIdeal.Value.run m ρ)

end Cert.ProjGateRefIdeal.Value

theorem Cert.ProjGateIdeal.Value.equal : Cert.algebraic_ProjGateIdeal_ProjGateRefIdeal := by
  intro m g m' g' _ harg
  refine ⟨fun c => (Cert.ProjGateIdeal.Gen.dats m 0 c).arrAt 2 Cert.ProjGateIdeal.cfg0.N, Cert.ProjGateIdeal.Value.run_blocks m g, ?_⟩
  refine (θ_run Cert.ProjGateRefIdeal.defs _ _).mono (fun r h c => ?_) (Cert.ProjGateRefIdeal.Value.run m' g')
  obtain ⟨e0, e1⟩ := harg c
  obtain ⟨r0, q⟩ := h c
  refine ⟨r0.trans ((Cert.ProjGateRefIdeal.Value.ref_eq _ _).trans ?_), q⟩
  refine Eq.trans ?_ (Cert.ProjGateIdeal.Value.arr0 m c).symm
  exact congrArg₂ Cert.ProjGateIdeal.Value.resOf e0 e1
end
-- ==== Proof.VOutBwdW.lean ====
/- The output product's gradient to its weights: what the kernel leaves in its result, and that the reference leaves the same. -/
module

public import proofs.«01_k».proof.Defs
public import proofs.«01_k».proof.Proof.Gen.OutBwdWIdeal.Value
public import proofs.«01_k».proof.Proof.Gen.OutBwdWRefIdeal.Run
public import Idealize.ShloMosaic.Lib.Pipeline.ValueKit
public import Idealize.ShloMosaic.Lib.Pointwise
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.OutBwdWIdeal.Value

open Cert.OutBwdWIdeal Cert.OutBwdWIdeal.Gen

variable (m : (ℓ : Loc nD τ sig) → Buf (Elt Ideal) ℓ)

theorem pay (a b : Vec Ideal S2048x1024 .bf16) (r l : Fin 1024) :
    k0_pay1 a b (ix2 r l) = ∑ k : Fin 2048, a (ix2 k r) * b (ix2 k l) := by
  pointwise [k0_pay1]

/-- The product of the left operand's columns with the right operand's. -/
def resOf (a b : FVec Ideal S2048x1024 .bf16) : FVec Ideal S1024x1024 .bf16 :=
  fun i => ∑ k : Fin 2048, a (ix2 k (i 0)) * b (ix2 k (i 1))

theorem index0 : ∀ t : Fin grid0.N, win0_0.index t = ![0, 0] := by decide +kernel
theorem index1 : ∀ t : Fin grid0.N, win0_1.index t = ![0, 0] := by decide +kernel
theorem index2 : ∀ t : Fin grid0.N, win0_2.index t = ![0, 0] := by decide +kernel

theorem arr0 (c : Dev nD) : (dats m 0 c).arrAt 2 cfg0.N
    = resOf (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold outsAt0 out0_A_2
  frame_out
  obtain ⟨r, l, rfl⟩ : ∃ (r : Fin 1024) (l : Fin 1024), y = ix2 r l := ⟨y 0, y 1, eq_ix2 y⟩
  rw [pay]
  unfold resOf
  blk_point [iblk, V_main_arg0, V_main_arg1, index0 t, index1 t, index2 t]

end Cert.OutBwdWIdeal.Value

namespace Cert.OutBwdWRefIdeal.Value

open Cert.OutBwdWRefIdeal Cert.OutBwdWRefIdeal.Gen

theorem ref_eq (a b : FVec Ideal S2048x1024 .bf16) :
    truncf .bf16 (transpose S1024x1024 [1, 0] (Host.dotGeneral (φ₁ := .f32) (φ₂ := .f32) dot_S2048x1024_S2048x1024_S1024x1024_0_0_1_1_n_n none (extf .f32 b bitsLt_bf16_f32) (extf .f32 a bitsLt_bf16_f32)) transposes_S1024x1024_S1024x1024_1_0) bitsLt_bf16_f32
      = Cert.OutBwdWIdeal.Value.resOf a b := by
  funext y
  obtain ⟨r, l, rfl⟩ : ∃ (r : Fin 1024) (l : Fin 1024), y = ix2 r l := ⟨y 0, y 1, eq_ix2 y⟩
  unfold Cert.OutBwdWIdeal.Value.resOf
  pointwise []
  exact Finset.sum_congr rfl fun k _ => mul_comm _ _

theorem frame : Cert.quiescent_OutBwdWRefIdeal := fun m ρ _ =>
  (θ_run Cert.OutBwdWRefIdeal.defs _ _).mono
    (fun r h => ⟨fun c => (h c).2, Idealize.ShloMosaic.sem_eq_zero_of_no_sems (by decide) r.2⟩)
    (Cert.OutBwdWRefIdeal.Value.run m ρ)

end Cert.OutBwdWRefIdeal.Value

theorem Cert.OutBwdWIdeal.Value.equal : Cert.algebraic_OutBwdWIdeal_OutBwdWRefIdeal := by
  intro m g m' g' _ harg
  refine ⟨fun c => (Cert.OutBwdWIdeal.Gen.dats m 0 c).arrAt 2 Cert.OutBwdWIdeal.cfg0.N, Cert.OutBwdWIdeal.Value.run_blocks m g, ?_⟩
  refine (θ_run Cert.OutBwdWRefIdeal.defs _ _).mono (fun r h c => ?_) (Cert.OutBwdWRefIdeal.Value.run m' g')
  obtain ⟨e0, e1⟩ := harg c
  obtain ⟨r0, q⟩ := h c
  refine ⟨r0.trans ((Cert.OutBwdWRefIdeal.Value.ref_eq _ _).trans ?_), q⟩
  refine Eq.trans ?_ (Cert.OutBwdWIdeal.Value.arr0 m c).symm
  exact congrArg₂ Cert.OutBwdWIdeal.Value.resOf e0 e1
end
-- ==== Proof.VInBwdW.lean ====
/- The mixer's input product's gradient to its weights: what the two kernels leave in the result they share, the slabs' rows by the first and the gates' by
   the second, and that the reference leaves the same. -/
module

public import proofs.«01_k».proof.Defs
public import proofs.«01_k».proof.Proof.Gen.InBwdWIdeal.Frame
public import proofs.«01_k».proof.Proof.Gen.InBwdWRefIdeal.Run
public import Idealize.ShloMosaic.Lib.Pipeline.ValueKit
public import Idealize.ShloMosaic.Lib.Pointwise
public import Idealize.ShloMosaic.Lib.Pipeline.RegionsLoop
public import Idealize.ShloMosaic.Lib.Pipeline.FrameSuffix
public import Idealize.ShloMosaic.Lib.Tactic
public import Idealize.ShloMosaic.Lib.Quiescent
public import Idealize.ShloMosaic.Adequacy
public import Idealize.ShloMosaic.Init

@[expose] public section

set_option maxRecDepth 16384

noncomputable section

namespace Cert.InBwdWIdeal.Value

open Cert.InBwdWIdeal Cert.InBwdWIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every run leaves in the result what the second kernel's blocks leave there, and the arguments as they were. -/
theorem run_blocks : θ_run defs (onTc (τ := τ) (main (F := F))) ⟨m, fun _ => 0, ρ⟩ (fun r => ∀ c : Dev nD,
      r.2.mem ((c.tc : Thread nD τ).loc main_v1) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v1 (by decide))).trans (W3_arr m ρ c 2),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end

variable (m : (ℓ : Loc nD τ sig) → Buf (Elt Ideal) ℓ) (ρ : Dev nD → PrngReg)

theorem cat (f : Fin 6 → FVec Ideal S2048x128 .bf16) (h) (k : Fin 2048) (s : Fin 6) (r : Fin 128) :
    concatenate S2048x768 1 (List.ofFn fun n => (⟨S2048x128, f n⟩ : (s : Shape) × (s.Idx → Ideal .bf16))) h
      (ix2 k ⟨128 * s.val + r.val, by omega⟩) = f s (ix2 k r) :=
  concatenate_ofFn_apply 1 f h rfl 128 rfl _ s (by show (128 * s.val + r.val) / 128 = _; omega) (ix2 k r)
    (by show r.val = (128 * s.val + r.val) % 128; omega) fun b hb => by
      obtain ⟨b, hb'⟩ := b
      have : b = 0 ∨ b = 1 := by have : b < 2 := hb'; omega
      rcases this with rfl | rfl
      · rfl
      · exact absurd rfl hb

theorem pay0 (v0 v2 v4 v6 v8 v10 : Vec Ideal S1x2048x128 .bf16) (h : Vec Ideal S2048x1024 .bf16) (s : Fin 6) (r : Fin 128) (l : Fin 1024) :
    k0_pay1 v0 v2 v4 v6 v8 v10 h (ix2 ⟨128 * s.val + r.val, by omega⟩ l)
      = ∑ k : Fin 2048, (![v0, v2, v4, v6, v8, v10] s) (ix3 0 k r) * h (ix2 k l) := by
  have e := cat (fun n => shapeCast S2048x128 (![v0, v2, v4, v6, v8, v10] n) shapeCasts_S1x2048x128_S2048x128) concatenates_S2048x128_S2048x128_S2048x128_S2048x128_S2048x128_S2048x128_S2048x768_d1
  unfold k0_pay1
  generalize hx : concatenate S2048x768 1 _ _ = x
  have hy : ∀ k s r, x (ix2 k ⟨128 * s.val + r.val, by omega⟩)
      = shapeCast S2048x128 (![v0, v2, v4, v6, v8, v10] s) shapeCasts_S1x2048x128_S2048x128 (ix2 k r) := fun k s r => by
    rw [← hx]; exact e k s r
  pointwise [hy]

theorem pay1 (a : Vec Ideal S2048x768 .bf16) (h : Vec Ideal S2048x1024 .bf16) (r : Fin 768) (l : Fin 1024) :
    k1_pay1 a h (ix2 r l) = ∑ k : Fin 2048, a (ix2 k r) * h (ix2 k l) := by
  pointwise [k1_pay1]

/-- The slabs' rows of the gradient. -/
def slabRow (a : FVec Ideal S30x2048x128 .bf16) (h : FVec Ideal S2048x1024 .bf16) : FVec Ideal S6912x1024 .bf16 :=
  fun i => if e : (i 0).val < 3840 then
    ∑ k : Fin 2048, a (ix3 ⟨(i 0).val / 128, by omega⟩ k ⟨(i 0).val % 128, by omega⟩) * h (ix2 k (i 1)) else 0

/-- The gates' rows of the gradient. -/
def gateRow (b : FVec Ideal S2048x3072 .bf16) (h : FVec Ideal S2048x1024 .bf16) : FVec Ideal S6912x1024 .bf16 :=
  fun i => ∑ k : Fin 2048, b (ix2 k ⟨(i 0).val - 3840, by have : (i 0).val < 6912 := (i 0).isLt; omega⟩) * h (ix2 k (i 1))

/-- The gradient. -/
def resOf (a : FVec Ideal S30x2048x128 .bf16) (b : FVec Ideal S2048x3072 .bf16) (h : FVec Ideal S2048x1024 .bf16) :
    FVec Ideal S6912x1024 .bf16 :=
  fun i => if (i 0).val < 3840 then slabRow a h i else gateRow b h i

theorem index0 : ∀ t : Fin grid0.N, win0_0.index t = ![t.val, 0, 0] := by decide +kernel
theorem index1 : ∀ t : Fin grid0.N, win0_1.index t = ![0, 0] := by decide +kernel
theorem index2 : ∀ t : Fin grid0.N, win0_2.index t = ![t.val, 0] := by decide +kernel
theorem index0' : ∀ t : Fin grid1.N, win1_0.index t = ![0, t.val] := by decide +kernel
theorem index1' : ∀ t : Fin grid1.N, win1_1.index t = ![0, 0] := by decide +kernel
theorem index2' : ∀ t : Fin grid1.N, win1_2.index t = ![5 + t.val, 0] := by decide +kernel

theorem V2_arg1 (c : Dev nD) : V2 m ρ c main_arg1 = m ((c : Thread nD τ).loc main_arg1) := W2_args m ρ c _ (by decide)
theorem V2_arg2 (c : Dev nD) : V2 m ρ c main_arg2 = m ((c : Thread nD τ).loc main_arg2) := W2_args m ρ c _ (by decide)

theorem arr0 (c : Dev nD) : (dat0 (V0 m ρ) c).arrAt 2 cfg0.N
    = fun i => if (i 0).val / 768 < 5 then slabRow (m ((c.tc : Thread nD τ).loc main_arg0)) (m ((c.tc : Thread nD τ).loc main_arg2)) i
        else V0 m ρ c main_v0 i := by
  refine (dat0 (V0 m ρ) c).arrAt_eq_of_coversWhere 2 _ (fun β => β (0 : Fin 2) < 5) (by decide +kernel) (fun t hf y => ?_) (fun j => Iff.rfl)
  blk_simp
  rw [after0_2]
  unfold outsAt0 out0_A_2
  frame_out
  obtain ⟨s, r, l, rfl⟩ : ∃ (s : Fin 6) (r : Fin 128) (l : Fin 1024), y = ix2 ⟨128 * s.val + r.val, by omega⟩ l := by
    have h0 : (y 0).val < 768 := (y 0).isLt
    refine ⟨⟨(y 0).val / 128, by omega⟩, ⟨(y 0).val % 128, by omega⟩, y 1, (eq_ix2 y).trans ?_⟩
    congr 1; apply Fin.ext; show (y 0).val = 128 * ((y 0).val / 128) + (y 0).val % 128; omega
  rw [pay0]
  have hl : ∀ k : Fin 2048, (![View.ld (iblk0 (V0 m ρ) c 0 t) (Rect.unit ![0, 0, 0] ![1, 2048, 128] inb_S6x2048x128_S1x2048x128_0_0_0),
            View.ld (iblk0 (V0 m ρ) c 0 t) (Rect.unit ![1, 0, 0] ![1, 2048, 128] inb_S6x2048x128_S1x2048x128_1_0_0),
            View.ld (iblk0 (V0 m ρ) c 0 t) (Rect.unit ![2, 0, 0] ![1, 2048, 128] inb_S6x2048x128_S1x2048x128_2_0_0),
            View.ld (iblk0 (V0 m ρ) c 0 t) (Rect.unit ![3, 0, 0] ![1, 2048, 128] inb_S6x2048x128_S1x2048x128_3_0_0),
            View.ld (iblk0 (V0 m ρ) c 0 t) (Rect.unit ![4, 0, 0] ![1, 2048, 128] inb_S6x2048x128_S1x2048x128_4_0_0),
            View.ld (iblk0 (V0 m ρ) c 0 t) (Rect.unit ![5, 0, 0] ![1, 2048, 128] inb_S6x2048x128_S1x2048x128_5_0_0)] s :
              Vec Ideal S1x2048x128 .bf16) (ix3 0 k r) = iblk0 (V0 m ρ) c 0 t (ix3 s k r) := fun k => by
    fin_cases s <;>
    · refine View.ld_unit_apply_of _ _ _ _ _ _ fun b => ?_
      fin_cases b <;> simp
  refine (Finset.sum_congr rfl fun k _ => congrArg (fun z : EReal => z * (iblk0 (V0 m ρ) c 1 t (ix2 k l) : EReal)) (hl k)).trans ?_
  unfold slabRow
  have e : (((cfg0.win 2).blk t).view.emb (ix2 (⟨128 * s.val + r.val, by omega⟩ : Fin 768) l) (0 : Fin 2)).val < 3840 := by
    have ht : t.val < 5 := t.isLt
    blk_simp [index2 t]
    omega
  refine Eq.trans ?_ (dif_pos e).symm
  blk_point [iblk0, index0 t, index1 t, index2 t]

theorem arr1 (c : Dev nD) : (dat1 (V2 m ρ) c).arrAt 2 cfg1.N
    = fun i => if 5 ≤ (i 0).val / 768 then gateRow (m ((c.tc : Thread nD τ).loc main_arg1)) (m ((c.tc : Thread nD τ).loc main_arg2)) i
        else V2 m ρ c main_v1 i := by
  refine (dat1 (V2 m ρ) c).arrAt_eq_of_coversWhere 2 _ (fun β => 5 ≤ β (0 : Fin 2)) (by decide +kernel) (fun t hf y => ?_) (fun j => Iff.rfl)
  blk_simp
  rw [after1_2]
  unfold outsAt1 out1_A_2
  frame_out
  obtain ⟨r, l, rfl⟩ : ∃ (r : Fin 768) (l : Fin 1024), y = ix2 r l := ⟨y 0, y 1, eq_ix2 y⟩
  rw [pay1]
  unfold gateRow
  blk_point [iblk1, V2_arg1, V2_arg2, index0' t, index1' t, index2' t]
  exact (congrFun (V2_arg2 m ρ c) _).trans (by blk_point [index1' t, index2' t])

theorem V2_v1 (c : Dev nD) : V2 m ρ c main_v1 = (dat0 (V0 m ρ) c).arrAt 2 cfg0.N := by
  refine Eq.trans ?_ (W1_arr m ρ c 2)
  show StableHlo.after hostOps1 (W1 m ρ c) (Proc.devRef .tc main_v1) = W1 m ρ c (Proc.devRef .tc main_v0)
  after_results
  rfl

theorem arrs (c : Dev nD) : (dat1 (V2 m ρ) c).arrAt 2 cfg1.N
    = resOf (m ((c.tc : Thread nD τ).loc main_arg0)) (m ((c.tc : Thread nD τ).loc main_arg1)) (m ((c.tc : Thread nD τ).loc main_arg2)) := by
  rw [arr1, V2_v1, arr0]
  funext i
  unfold resOf
  show (if 5 ≤ (i 0).val / 768 then _ else if (i 0).val / 768 < 5 then _ else _) = if (i 0).val < 3840 then _ else _
  by_cases e : (i 0).val < 3840
  · rw [if_neg (by omega), if_pos (by omega), if_pos e]
  · rw [if_pos (by omega), if_neg e]

end Cert.InBwdWIdeal.Value

namespace Cert.InBwdWRefIdeal.Value

open Cert.InBwdWRefIdeal Cert.InBwdWRefIdeal.Gen
open Idealize.ShloMosaic Idealize.ShloMosaic.TcCoe Idealize.SL.Sem

theorem ref_eq (a : FVec Ideal S30x2048x128 .bf16) (b : FVec Ideal S2048x3072 .bf16) (h : FVec Ideal S2048x1024 .bf16) :
    truncf .bf16 (transpose S6912x1024 [1, 0] (transpose S1024x6912 [1, 0] (Host.dotGeneral (φ₁ := .f32) (φ₂ := .f32) dot_S2048x6912_S2048x1024_S6912x1024_0_0_1_1_n_n none (extf .f32 (concatenate S2048x6912 1 [⟨S2048x3840, (shapeCast _ (transpose S2048x30x128 [1, 0, 2] a transposes_S30x2048x128_S2048x30x128_1_0_2) shapeCasts_S2048x30x128_S2048x3840)⟩, ⟨S2048x3072, b⟩] concatenates_S2048x3840_S2048x3072_S2048x6912_d1) bitsLt_bf16_f32) (extf .f32 h bitsLt_bf16_f32)) transposes_S6912x1024_S1024x6912_1_0) transposes_S1024x6912_S6912x1024_1_0) bitsLt_bf16_f32
      = Cert.InBwdWIdeal.Value.resOf a b h := by
  funext y
  obtain ⟨r, l, rfl⟩ : ∃ (r : Fin 6912) (l : Fin 1024), y = ix2 r l := ⟨y 0, y 1, eq_ix2 y⟩
  unfold Cert.InBwdWIdeal.Value.resOf Cert.InBwdWIdeal.Value.slabRow Cert.InBwdWIdeal.Value.gateRow
  by_cases e : r.val < 3840
  · pointwise [e]
  · pointwise [e]

theorem frame : Cert.quiescent_InBwdWRefIdeal := fun m ρ _ =>
  (θ_run Cert.InBwdWRefIdeal.defs _ _).mono
    (fun r h => ⟨fun c => (h c).2, Idealize.ShloMosaic.sem_eq_zero_of_no_sems (by decide) r.2⟩)
    (Cert.InBwdWRefIdeal.Value.run m ρ)

end Cert.InBwdWRefIdeal.Value

open Idealize.ShloMosaic Idealize.ShloMosaic.TcCoe Idealize.SL.Sem in
theorem Cert.InBwdWIdeal.Value.equal : Cert.algebraic_InBwdWIdeal_InBwdWRefIdeal := by
  intro m g m' g' _ harg
  refine ⟨fun c => (Cert.InBwdWIdeal.Gen.dat1 (Cert.InBwdWIdeal.Gen.V2 m g) c).arrAt 2 Cert.InBwdWIdeal.cfg1.N, Cert.InBwdWIdeal.Value.run_blocks m g, ?_⟩
  refine (θ_run Cert.InBwdWRefIdeal.defs _ _).mono (fun r h c => ?_) (Cert.InBwdWRefIdeal.Value.run m' g')
  obtain ⟨e0, e1, e2⟩ := harg c
  obtain ⟨r0, q⟩ := h c
  refine ⟨r0.trans ((Cert.InBwdWRefIdeal.Value.ref_eq _ _ _).trans ?_), q⟩
  rw [e0, e1, e2]
  exact (Cert.InBwdWIdeal.Value.arrs m g c).symm

end
-- ==== Proof.VMerge.lean ====
/- The mixer's merge: what the kernel leaves in its two results, and that the reference leaves the same. -/
module

public import proofs.«01_k».proof.Defs
public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

local notation "Thr" => Thread nD τ
local notation "VecI" => Vec Ideal S256x1024 EltTy.bf16
local notation "VecJ" => Vec Ideal S1x256x128 EltTy.f32
local notation "VecK" => Vec Ideal S1x1024 EltTy.f32

variable (m : (ℓ : Loc nD τ sig) → Buf (Elt Ideal) ℓ)

/-- One merged value: three gated products, each gate the logistic function of its column plus its bias. -/
def mgS (g0 g1 g2 b0 b1 b2 : EReal) (fa wa : Fin 256 → EReal) (fb wb : Fin 512 → EReal) (fc wc : Fin 256 → EReal) : EReal :=
  Ideal.logistic (g0 + b0) * (∑ k : Fin 256, fa k * wa k) + Ideal.logistic (g1 + b1) * (∑ k : Fin 512, fb k * wb k)
    + Ideal.logistic (g2 + b2) * (∑ k : Fin 256, fc k * wc k)

theorem mgS_congr {g0 g1 g2 b0 b1 b2 : EReal} {fa wa : Fin 256 → EReal} {fb wb : Fin 512 → EReal} {fc wc : Fin 256 → EReal}
    {g0' g1' g2' b0' b1' b2' : EReal} {fa' wa' : Fin 256 → EReal} {fb' wb' : Fin 512 → EReal} {fc' wc' : Fin 256 → EReal}
    (h0 : g0 = g0') (h1 : g1 = g1') (h2 : g2 = g2') (h3 : b0 = b0') (h4 : b1 = b1') (h5 : b2 = b2')
    (ha : ∀ k, fa k = fa' k) (hwa : ∀ k, wa k = wa' k) (hb : ∀ k, fb k = fb' k) (hwb : ∀ k, wb k = wb' k)
    (hc : ∀ k, fc k = fc' k) (hwc : ∀ k, wc k = wc' k) :
    mgS g0 g1 g2 b0 b1 b2 fa wa fb wb fc wc = mgS g0' g1' g2' b0' b1' b2' fa' wa' fb' wb' fc' wc' := by
  obtain rfl := funext ha
  obtain rfl := funext hwa
  obtain rfl := funext hb
  obtain rfl := funext hwb
  obtain rfl := funext hc
  obtain rfl := funext hwc
  subst h0 h1 h2 h3 h4 h5
  rfl

theorem flat (v : VecJ) (r : Fin 256) (l : Fin 128) :
    shapeCast S256x128 v shapeCasts_S1x256x128_S256x128 (ix2 r l) = v (ix3 0 r l) := by
  pointwise []

theorem cat2 (f : Fin 2 → FVec Ideal S256x128 .f32) (h) (r : Fin 256) (k : Fin 256) :
    concatenate S256x256 1 (List.ofFn fun n => (⟨S256x128, f n⟩ : (s : Shape) × (s.Idx → Ideal .f32))) h
      (ix2 r k) = f ⟨k.val / 128, by omega⟩ (ix2 r ⟨k.val % 128, by omega⟩) :=
  concatenate_ofFn_apply 1 f h rfl 128 rfl _ ⟨k.val / 128, by omega⟩ rfl (ix2 r ⟨k.val % 128, by omega⟩) rfl fun b hb => by
      obtain ⟨b, hb'⟩ := b
      have : b = 0 ∨ b = 1 := by have : b < 2 := hb'; omega
      rcases this with rfl | rfl
      · rfl
      · exact absurd rfl hb

theorem cat4 (f : Fin 4 → FVec Ideal S256x128 .f32) (h) (r : Fin 256) (k : Fin 512) :
    concatenate S256x512 1 (List.ofFn fun n => (⟨S256x128, f n⟩ : (s : Shape) × (s.Idx → Ideal .f32))) h
      (ix2 r k) = f ⟨k.val / 128, by omega⟩ (ix2 r ⟨k.val % 128, by omega⟩) :=
  concatenate_ofFn_apply 1 f h rfl 128 rfl _ ⟨k.val / 128, by omega⟩ rfl (ix2 r ⟨k.val % 128, by omega⟩) rfl fun b hb => by
      obtain ⟨b, hb'⟩ := b
      have : b = 0 ∨ b = 1 := by have : b < 2 := hb'; omega
      rcases this with rfl | rfl
      · rfl
      · exact absurd rfl hb

/-- Two slabs side by side. -/
def side2 (v w : VecJ) : FVec Ideal S256x256 .f32 :=
  concatenate S256x256 1 [⟨S256x128, shapeCast S256x128 v shapeCasts_S1x256x128_S256x128⟩, ⟨S256x128, shapeCast S256x128 w shapeCasts_S1x256x128_S256x128⟩] concatenates_S256x128_S256x128_S256x256_d1

/-- Four slabs side by side. -/
def side4 (v w x y : VecJ) : FVec Ideal S256x512 .f32 :=
  concatenate S256x512 1 [⟨S256x128, shapeCast S256x128 v shapeCasts_S1x256x128_S256x128⟩, ⟨S256x128, shapeCast S256x128 w shapeCasts_S1x256x128_S256x128⟩, ⟨S256x128, shapeCast S256x128 x shapeCasts_S1x256x128_S256x128⟩, ⟨S256x128, shapeCast S256x128 y shapeCasts_S1x256x128_S256x128⟩] concatenates_S256x128_S256x128_S256x128_S256x128_S256x512_d1

theorem side2_at (f : Fin 2 → VecJ) {v w : VecJ} (hv : v = f 0) (hw : w = f 1) (r k : Fin 256) :
    side2 v w (ix2 r k) = f ⟨k.val / 128, by omega⟩ (ix3 0 r ⟨k.val % 128, by omega⟩) := by
  subst hv hw
  exact (cat2 (fun n => shapeCast S256x128 (f n) shapeCasts_S1x256x128_S256x128)
    concatenates_S256x128_S256x128_S256x256_d1 r k).trans (flat _ r _)

theorem side4_at (f : Fin 4 → VecJ) {v w x y : VecJ} (hv : v = f 0) (hw : w = f 1)
    (hx : x = f 2) (hy : y = f 3) (r : Fin 256) (k : Fin 512) :
    side4 v w x y (ix2 r k) = f ⟨k.val / 128, by omega⟩ (ix3 0 r ⟨k.val % 128, by omega⟩) := by
  subst hv hw hx hy
  exact (cat4 (fun n => shapeCast S256x128 (f n) shapeCasts_S1x256x128_S256x128)
    concatenates_S256x128_S256x128_S256x128_S256x128_S256x512_d1 r k).trans (flat _ r _)

theorem pay1 (v0 v1 : VecJ) (wa : VecI) (g0 : VecI) (b0 : VecK)
    (u0 u1 u2 u3 : VecJ) (wb : Vec Ideal S512x1024 .bf16) (g1 : VecI) (b1 : VecK)
    (x0 x1 : VecJ) (wc : VecI) (g2 : VecI) (b2 : VecK)
    (r : Fin 256) (l : Fin 1024) :
    k0_pay1 (k0_pay3 v0 v1 wa g0 b0) (k0_pay4 u0 u1 u2 u3 wb) g1 b1 x0 x1 wc g2 b2 (ix2 r l)
      = mgS (g0 (ix2 r l)) (g1 (ix2 r l)) (g2 (ix2 r l)) (b0 (ix2 0 l)) (b1 (ix2 0 l)) (b2 (ix2 0 l))
          (fun k => side2 v0 v1 (ix2 r k)) (fun k => wa (ix2 k l)) (fun k => side4 u0 u1 u2 u3 (ix2 r k)) (fun k => wb (ix2 k l))
          (fun k => side2 x0 x1 (ix2 r k)) (fun k => wc (ix2 k l)) := by
  unfold mgS k0_pay1 k0_pay3 k0_pay4
  dsimp only
  change _ = Ideal.logistic _ * (∑ k : Fin 256, concatenate S256x256 1 _ _ (ix2 r k) * _) + Ideal.logistic _ * (∑ k : Fin 512, concatenate S256x512 1 _ _ (ix2 r k) * _)
    + Ideal.logistic _ * (∑ k : Fin 256, concatenate S256x256 1 _ _ (ix2 r k) * _)
  generalize concatenate S256x256 1 [⟨S256x128, shapeCast S256x128 v0 shapeCasts_S1x256x128_S256x128⟩, ⟨S256x128, shapeCast S256x128 v1 shapeCasts_S1x256x128_S256x128⟩] concatenates_S256x128_S256x128_S256x256_d1 = c0
  generalize concatenate S256x256 1 [⟨S256x128, shapeCast S256x128 x0 shapeCasts_S1x256x128_S256x128⟩, ⟨S256x128, shapeCast S256x128 x1 shapeCasts_S1x256x128_S256x128⟩] concatenates_S256x128_S256x128_S256x256_d1 = c2
  generalize concatenate S256x512 1 _ _ = c1
  pointwise []
  try rfl

theorem pay2 (v16 v28 v29 v30 v37 v39 v43 v45 v46) (w : Vec Ideal S1024x1024 .bf16) (r : Fin 256) (l : Fin 1024) :
    k0_pay2 (F := Ideal) v16 v28 v29 v30 v37 v39 v43 v45 v46 w (ix2 r l)
      = ∑ k : Fin 1024, k0_pay1 v16 v28 v29 v30 v37 v39 v43 v45 v46 (ix2 r k) * w (ix2 k l) := by
  unfold k0_pay2
  generalize k0_pay1 v16 v28 v29 v30 v37 v39 v43 v45 v46 = x
  pointwise []

/-- The merged value of a row and a column. -/
def mgAt (oa : FVec Ideal S2x2048x128 .f32) (ob : FVec Ideal S4x2048x128 .f32) (oc : FVec Ideal S2x2048x128 .f32) (g : FVec Ideal S2048x3072 .bf16)
    (b : FVec Ideal S3x1024 .f32) (wa : FVec Ideal S256x1024 .bf16) (wb : FVec Ideal S512x1024 .bf16) (wc : FVec Ideal S256x1024 .bf16) (r : Fin 2048) (l : Fin 1024) : EReal :=
  mgS (g (ix2 r ⟨l.val, by omega⟩)) (g (ix2 r ⟨1024 + l.val, by omega⟩)) (g (ix2 r ⟨2048 + l.val, by omega⟩)) (b (ix2 0 l)) (b (ix2 1 l)) (b (ix2 2 l))
    (fun k => oa (ix3 ⟨k.val / 128, by omega⟩ r ⟨k.val % 128, by omega⟩)) (fun k => wa (ix2 k l))
    (fun k => ob (ix3 ⟨k.val / 128, by omega⟩ r ⟨k.val % 128, by omega⟩)) (fun k => wb (ix2 k l))
    (fun k => oc (ix3 ⟨k.val / 128, by omega⟩ r ⟨k.val % 128, by omega⟩)) (fun k => wc (ix2 k l))

/-- The merged activations. -/
def resOf (oa : FVec Ideal S2x2048x128 .f32) (ob : FVec Ideal S4x2048x128 .f32) (oc : FVec Ideal S2x2048x128 .f32) (g : FVec Ideal S2048x3072 .bf16)
    (b : FVec Ideal S3x1024 .f32) (wa : FVec Ideal S256x1024 .bf16) (wb : FVec Ideal S512x1024 .bf16) (wc : FVec Ideal S256x1024 .bf16) : FVec Ideal S2048x1024 .bf16 :=
  fun i => mgAt oa ob oc g b wa wb wc (i 0) (i 1)

/-- The merged activations times the output weights. -/
def outOf (oa : FVec Ideal S2x2048x128 .f32) (ob : FVec Ideal S4x2048x128 .f32) (oc : FVec Ideal S2x2048x128 .f32) (g : FVec Ideal S2048x3072 .bf16)
    (b : FVec Ideal S3x1024 .f32) (wa : FVec Ideal S256x1024 .bf16) (wb : FVec Ideal S512x1024 .bf16) (wc : FVec Ideal S256x1024 .bf16) (wo : FVec Ideal S1024x1024 .bf16) :
    FVec Ideal S2048x1024 .f32 :=
  fun i => ∑ k : Fin 1024, mgAt oa ob oc g b wa wb wc (i 0) k * wo (ix2 k (i 1))

theorem index0 : ∀ t : Fin grid0.N, win0_0.index t = ![0, t.val, 0] := by decide +kernel
theorem index1 : ∀ t : Fin grid0.N, win0_1.index t = ![0, t.val, 0] := by decide +kernel
theorem index2 : ∀ t : Fin grid0.N, win0_2.index t = ![0, t.val, 0] := by decide +kernel
theorem index3 : ∀ t : Fin grid0.N, win0_3.index t = ![t.val, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![t.val, 0] := by decide +kernel
theorem index10 : ∀ t : Fin grid0.N, win0_10.index t = ![t.val, 0] := by decide +kernel

/-- One slab of a block of two. -/
def slabOf2 (x : Vec Ideal S2x256x128 .f32) (s : Fin 2) : VecJ := fun i => x (ix3 s (i 1) (i 2))
/-- One slab of a block of four. -/
def slabOf4 (x : Vec Ideal S4x256x128 .f32) (s : Fin 4) : VecJ := fun i => x (ix3 s (i 1) (i 2))

theorem slab2 (x : Vec Ideal S2x256x128 .f32) (s : Fin 2) (h) :
    View.ld x (Rect.unit ![s.val, 0, 0] ![1, 256, 128] h) = slabOf2 x s := by
  funext i
  refine View.ld_unit_apply_of _ _ _ _ _ _ fun b => ?_
  have h0 : (i 0).val = 0 := by have : (i 0).val < 1 := (i 0).isLt; omega
  fin_cases b <;> simp [h0]

theorem slab4 (x : Vec Ideal S4x256x128 .f32) (s : Fin 4) (h) :
    View.ld x (Rect.unit ![s.val, 0, 0] ![1, 256, 128] h) = slabOf4 x s := by
  funext i
  refine View.ld_unit_apply_of _ _ _ _ _ _ fun b => ?_
  have h0 : (i 0).val = 0 := by have : (i 0).val < 1 := (i 0).isLt; omega
  fin_cases b <;> simp [h0]

/-- One gate's columns of a block. -/
def colsOf (x : Vec Ideal S256x3072 .bf16) (i : Fin 3) : VecI :=
  fun j => x (ix2 (j 0) ⟨i.val * 1024 + (j 1).val, by have : (j 1).val < 1024 := (j 1).isLt; omega⟩)
/-- One gate's bias. -/
def rowOf (x : Vec Ideal S3x1024 .f32) (i : Fin 3) : VecK := fun j => x (ix2 i (j 1))

theorem cols (x : Vec Ideal S256x3072 .bf16) (i : Fin 3) (n : Nat) (hn : n = i.val * 1024) (h) :
    View.ld x (Rect.unit ![0, n] ![256, 1024] h) = colsOf x i := by
  subst hn
  funext j
  refine View.ld_unit_apply_of _ _ _ _ _ _ fun b => ?_
  fin_cases b <;> simp

theorem row (x : Vec Ideal S3x1024 .f32) (i : Fin 3) (h) :
    View.ld x (Rect.unit ![i.val, 0] ![1, 1024] h) = rowOf x i := by
  funext j
  refine View.ld_unit_apply_of _ _ _ _ _ _ fun b => ?_
  have h0 : (j 0).val = 0 := by have : (j 0).val < 1 := (j 0).isLt; omega
  fin_cases b <;> simp [h0]

/-- The merged value of a row and a column of a block, from the blocks. -/
theorem ofBlocks (x0 : Vec Ideal S2x256x128 .f32) (x1 : Vec Ideal S4x256x128 .f32) (x2 : Vec Ideal S2x256x128 .f32) (x3 : Vec Ideal S256x3072 .bf16)
    (x4 : Vec Ideal S3x1024 .f32) (x5 : VecI) (x6 : Vec Ideal S512x1024 .bf16) (x7 : VecI) (r : Fin 256) (l : Fin 1024) :
    k0_pay1 (k0_pay3 (View.ld x0 r0_0) (View.ld x0 r0_1) x5 (View.ld x3 r0_3) (View.ld x4 r0_4))
        (k0_pay4 (View.ld x1 r0_5) (View.ld x1 r0_6) (View.ld x1 r0_7) (View.ld x1 r0_8) x6)
        (View.ld x3 r0_10) (View.ld x4 r0_11) (View.ld x2 r0_0) (View.ld x2 r0_1) x7 (View.ld x3 r0_12) (View.ld x4 r0_13) (ix2 r l)
      = mgS (x3 (ix2 r ⟨l.val, by omega⟩)) (x3 (ix2 r ⟨1024 + l.val, by omega⟩)) (x3 (ix2 r ⟨2048 + l.val, by omega⟩)) (x4 (ix2 0 l)) (x4 (ix2 1 l)) (x4 (ix2 2 l))
          (fun k => x0 (ix3 ⟨k.val / 128, by omega⟩ r ⟨k.val % 128, by omega⟩)) (fun k => x5 (ix2 k l))
          (fun k => x1 (ix3 ⟨k.val / 128, by omega⟩ r ⟨k.val % 128, by omega⟩)) (fun k => x6 (ix2 k l))
          (fun k => x2 (ix3 ⟨k.val / 128, by omega⟩ r ⟨k.val % 128, by omega⟩)) (fun k => x7 (ix2 k l)) := by
  have a0 : View.ld x0 r0_0 = slabOf2 x0 0 := slab2 x0 0 _
  have a1 : View.ld x0 r0_1 = slabOf2 x0 1 := slab2 x0 1 _
  have b0 : View.ld x1 r0_5 = slabOf4 x1 0 := slab4 x1 0 _
  have b1 : View.ld x1 r0_6 = slabOf4 x1 1 := slab4 x1 1 _
  have b2 : View.ld x1 r0_7 = slabOf4 x1 2 := slab4 x1 2 _
  have b3 : View.ld x1 r0_8 = slabOf4 x1 3 := slab4 x1 3 _
  have c0 : View.ld x2 r0_0 = slabOf2 x2 0 := slab2 x2 0 _
  have c1 : View.ld x2 r0_1 = slabOf2 x2 1 := slab2 x2 1 _
  have g0 : View.ld x3 r0_3 = colsOf x3 0 := cols x3 0 _ rfl _
  have g1 : View.ld x3 r0_10 = colsOf x3 1 := cols x3 1 _ rfl _
  have g2 : View.ld x3 r0_12 = colsOf x3 2 := cols x3 2 _ rfl _
  have d0 : View.ld x4 r0_4 = rowOf x4 0 := row x4 0 _
  have d1 : View.ld x4 r0_11 = rowOf x4 1 := row x4 1 _
  have d2 : View.ld x4 r0_13 = rowOf x4 2 := row x4 2 _
  refine (pay1 _ _ _ _ _ _ _ _ _ _ _ _ _ _ _ _ _ r l).trans ?_
  refine mgS_congr ?_ ?_ ?_ ?_ ?_ ?_ (fun k => side2_at (slabOf2 x0) a0 a1 r k) (fun k => rfl)
    (fun k => side4_at (slabOf4 x1) b0 b1 b2 b3 r k) (fun k => rfl)
    (fun k => side2_at (slabOf2 x2) c0 c1 r k) (fun k => rfl)
  · rw [g0]
    unfold colsOf
    exact congrArg x3 (congrArg (ix2 r) (Fin.ext (by simp)))
  · rw [g1]
    rfl
  · rw [g2]
    rfl
  · rw [d0]
    rfl
  · rw [d1]
    rfl
  · rw [d2]
    rfl

theorem rd0 (c : Dev nD) (t : Fin cfg0.N) (s : Fin 2) (r : Fin 256) (l : Fin 128) : (iblk m c 0 t) (ix3 s r l)
    = (m ((c.tc : Thr).loc main_arg0)) (ix3 s ⟨t.val * 256 + r.val, by have : t.val < 8 := t.isLt; omega⟩ l) := by
  blk_point [iblk, V_main_arg0, index0 t]
theorem rd1 (c : Dev nD) (t : Fin cfg0.N) (s : Fin 4) (r : Fin 256) (l : Fin 128) : (iblk m c 1 t) (ix3 s r l)
    = (m ((c.tc : Thr).loc main_arg1)) (ix3 s ⟨t.val * 256 + r.val, by have : t.val < 8 := t.isLt; omega⟩ l) := by
  blk_point [iblk, V_main_arg1, index1 t]
theorem rd2 (c : Dev nD) (t : Fin cfg0.N) (s : Fin 2) (r : Fin 256) (l : Fin 128) : (iblk m c 2 t) (ix3 s r l)
    = (m ((c.tc : Thr).loc main_arg2)) (ix3 s ⟨t.val * 256 + r.val, by have : t.val < 8 := t.isLt; omega⟩ l) := by
  blk_point [iblk, V_main_arg2, index2 t]
theorem rd3 (c : Dev nD) (t : Fin cfg0.N) (r : Fin 256) (l : Fin 3072) : (iblk m c 3 t) (ix2 r l)
    = (m ((c.tc : Thr).loc main_arg3)) (ix2 ⟨t.val * 256 + r.val, by have : t.val < 8 := t.isLt; omega⟩ l) := by
  blk_point [iblk, V_main_arg3, index3 t]
theorem rd4 (c : Dev nD) (t : Fin cfg0.N) (i : Fin 3) (l : Fin 1024) : (iblk m c 4 t) (ix2 i l) = (m ((c.tc : Thr).loc main_arg4)) (ix2 i l) := by
  blk_point [iblk, V_main_arg4, index4 t]
theorem rd5 (c : Dev nD) (t : Fin cfg0.N) (k : Fin 256) (l : Fin 1024) : (iblk m c 5 t) (ix2 k l) = (m ((c.tc : Thr).loc main_arg5)) (ix2 k l) := by
  blk_point [iblk, V_main_arg5, index5 t]
theorem rd6 (c : Dev nD) (t : Fin cfg0.N) (k : Fin 512) (l : Fin 1024) : (iblk m c 6 t) (ix2 k l) = (m ((c.tc : Thr).loc main_arg6)) (ix2 k l) := by
  blk_point [iblk, V_main_arg6, index6 t]
theorem rd7 (c : Dev nD) (t : Fin cfg0.N) (k : Fin 256) (l : Fin 1024) : (iblk m c 7 t) (ix2 k l) = (m ((c.tc : Thr).loc main_arg7)) (ix2 k l) := by
  blk_point [iblk, V_main_arg7, index7 t]
theorem rd8 (c : Dev nD) (t : Fin cfg0.N) (k l : Fin 1024) : (iblk m c 8 t) (ix2 k l) = (m ((c.tc : Thr).loc main_arg8)) (ix2 k l) := by
  blk_point [iblk, V_main_arg8, index8 t]

/-- The merged value of a row and a column of a grid point's block. -/
theorem blockAt (c : Dev nD) (t : Fin cfg0.N) (r : Fin 256) (l : Fin 1024) :
    k0_pay1 (k0_pay3 (View.ld (iblk m c 0 t) r0_0) (View.ld (iblk m c 0 t) r0_1) (iblk m c 5 t) (View.ld (iblk m c 3 t) r0_3) (View.ld (iblk m c 4 t) r0_4))
        (k0_pay4 (View.ld (iblk m c 1 t) r0_5) (View.ld (iblk m c 1 t) r0_6) (View.ld (iblk m c 1 t) r0_7) (View.ld (iblk m c 1 t) r0_8) (iblk m c 6 t))
        (View.ld (iblk m c 3 t) r0_10) (View.ld (iblk m c 4 t) r0_11) (View.ld (iblk m c 2 t) r0_0) (View.ld (iblk m c 2 t) r0_1) (iblk m c 7 t)
        (View.ld (iblk m c 3 t) r0_12) (View.ld (iblk m c 4 t) r0_13) (ix2 r l)
      = mgAt (m ((c.tc : Thr).loc main_arg0)) (m ((c.tc : Thr).loc main_arg1)) (m ((c.tc : Thr).loc main_arg2)) (m ((c.tc : Thr).loc main_arg3))
          (m ((c.tc : Thr).loc main_arg4)) (m ((c.tc : Thr).loc main_arg5)) (m ((c.tc : Thr).loc main_arg6)) (m ((c.tc : Thr).loc main_arg7))
          ⟨t.val * 256 + r.val, by have : t.val < 8 := t.isLt; omega⟩ l := by
  refine (ofBlocks (iblk m c 0 t) (iblk m c 1 t) (iblk m c 2 t) (iblk m c 3 t) (iblk m c 4 t) (iblk m c 5 t) (iblk m c 6 t) (iblk m c 7 t) r l).trans ?_
  exact mgS_congr (rd3 m c t _ _) (rd3 m c t _ _) (rd3 m c t _ _) (rd4 m c t _ _) (rd4 m c t _ _) (rd4 m c t _ _)
    (fun k => rd0 m c t _ _ _) (fun k => rd5 m c t _ _) (fun k => rd1 m c t _ _ _) (fun k => rd6 m c t _ _) (fun k => rd2 m c t _ _ _) (fun k => rd7 m c t _ _)

theorem resOf_at (oa : FVec Ideal S2x2048x128 .f32) (ob : FVec Ideal S4x2048x128 .f32) (oc : FVec Ideal S2x2048x128 .f32) (g : FVec Ideal S2048x3072 .bf16)
    (b : FVec Ideal S3x1024 .f32) (wa : FVec Ideal S256x1024 .bf16) (wb : FVec Ideal S512x1024 .bf16) (wc : FVec Ideal S256x1024 .bf16) (r : Fin 2048) (l : Fin 1024)
    (i : S2048x1024.Idx) (h : i = ix2 r l) : resOf oa ob oc g b wa wb wc i = mgAt oa ob oc g b wa wb wc r l := by
  subst h
  rfl

theorem outOf_at (oa : FVec Ideal S2x2048x128 .f32) (ob : FVec Ideal S4x2048x128 .f32) (oc : FVec Ideal S2x2048x128 .f32) (g : FVec Ideal S2048x3072 .bf16)
    (b : FVec Ideal S3x1024 .f32) (wa : FVec Ideal S256x1024 .bf16) (wb : FVec Ideal S512x1024 .bf16) (wc : FVec Ideal S256x1024 .bf16) (wo : FVec Ideal S1024x1024 .bf16) (r : Fin 2048) (l : Fin 1024)
    (i : S2048x1024.Idx) (h : i = ix2 r l) : outOf oa ob oc g b wa wb wc wo i = ∑ k : Fin 1024, mgAt oa ob oc g b wa wb wc r k * wo (ix2 k l) := by
  subst h
  rfl

theorem emb9 (t : Fin cfg0.N) (r : Fin 256) (l : Fin 1024) : (win0_9.blk t).view.emb (ix2 r l)
    = (ix2 ⟨t.val * 256 + r.val, by have : t.val < 8 := t.isLt; omega⟩ l : S2048x1024.Idx) := by
  funext b
  apply Fin.ext
  fin_cases b <;> simp [index9 t]

theorem emb10 (t : Fin cfg0.N) (r : Fin 256) (l : Fin 1024) : (win0_10.blk t).view.emb (ix2 r l)
    = (ix2 ⟨t.val * 256 + r.val, by have : t.val < 8 := t.isLt; omega⟩ l : S2048x1024.Idx) := by
  funext b
  apply Fin.ext
  fin_cases b <;> simp [index10 t]

theorem arr9 (c : Dev nD) : (dats m 0 c).arrAt 9 cfg0.N
    = resOf (m ((c.tc : Thr).loc main_arg0)) (m ((c.tc : Thr).loc main_arg1)) (m ((c.tc : Thr).loc main_arg2)) (m ((c.tc : Thr).loc main_arg3))
          (m ((c.tc : Thr).loc main_arg4)) (m ((c.tc : Thr).loc main_arg5)) (m ((c.tc : Thr).loc main_arg6)) (m ((c.tc : Thr).loc main_arg7)) := by
  refine (dats m 0 c).arrAt_eq_of_covers 9 _ (by decide +kernel) fun t hf y => ?_
  obtain ⟨r, l, rfl⟩ : ∃ (r : Fin 256) (l : Fin 1024), y = ix2 r l := ⟨y 0, y 1, eq_ix2 y⟩
  refine Eq.trans ?_ (resOf_at _ _ _ _ _ _ _ _ _ _ _ (emb9 t r l)).symm
  blk_simp
  rw [after0_9]
  unfold_out out0_9
  frame_out
  exact blockAt m c t r l

theorem sum_eq (f g f' g' : Fin 1024 → EReal) (h : ∀ k, f k = f' k) (h' : ∀ k, g k = g' k) : ∑ k, f k * g k = ∑ k, f' k * g' k :=
  Finset.sum_congr rfl fun k _ => congrArg₂ _ (h k) (h' k)

theorem arr10 (c : Dev nD) : (dats m 0 c).arrAt 10 cfg0.N
    = outOf (m ((c.tc : Thr).loc main_arg0)) (m ((c.tc : Thr).loc main_arg1)) (m ((c.tc : Thr).loc main_arg2)) (m ((c.tc : Thr).loc main_arg3))
          (m ((c.tc : Thr).loc main_arg4)) (m ((c.tc : Thr).loc main_arg5)) (m ((c.tc : Thr).loc main_arg6)) (m ((c.tc : Thr).loc main_arg7)) (m ((c.tc : Thr).loc main_arg8)) := by
  refine (dats m 0 c).arrAt_eq_of_covers 10 _ (by decide +kernel) fun t hf y => ?_
  obtain ⟨r, l, rfl⟩ : ∃ (r : Fin 256) (l : Fin 1024), y = ix2 r l := ⟨y 0, y 1, eq_ix2 y⟩
  refine Eq.trans ?_ (outOf_at _ _ _ _ _ _ _ _ _ _ _ _ (emb10 t r l)).symm
  blk_simp
  rw [after0_10]
  unfold_out out0_10
  frame_out
  refine (pay2 _ _ _ _ _ _ _ _ _ _ r l).trans ?_
  exact sum_eq _ _ _ _ (fun k => blockAt m c t r k) (fun k => rd8 m c t k l)

end Cert.MergeIdeal.Value

namespace Cert.MergeRefIdeal.Value

open Cert.MergeRefIdeal Cert.MergeRefIdeal.Gen

/-- The reference's gates. -/
def gates (g : FVec Ideal S2048x3072 .bf16) (b : FVec Ideal S3x1024 .f32) : FVec Ideal S2048x3x1024 .f32 :=
  Host.divf (broadcastInDim S2048x3x1024 ![] bcast_S_S2048x3x1024 (constant S_ .f32 0x3F800000#32)) (addf (broadcastInDim S2048x3x1024 ![] bcast_S_S2048x3x1024 (constant S_ .f32 0x3F800000#32)) (Host.exp (Host.negf (addf (shapeCast _ (extf .f32 g bitsLt_bf16_f32) shapeCasts_S2048x3072_S2048x3x1024) (broadcastInDim S2048x3x1024 ![0, 1, 2] bcast_S1x3x1024_S2048x3x1024_0_1_2 (broadcastInDim S1x3x1024 ![1, 2] bcast_S3x1024_S1x3x1024_1_2 b))))))

theorem gates_at (g : FVec Ideal S2048x3072 .bf16) (b : FVec Ideal S3x1024 .f32) (r : Fin 2048) (i : Fin 3) (l : Fin 1024) :
    gates g b (ix3 r i l) = Ideal.logistic (g (ix2 r ⟨i.val * 1024 + l.val, by omega⟩) + b (ix2 i l)) := by
  unfold gates Ideal.logistic
  pointwise []

/-- The reference's unrounded sum. -/
def merged (oa : FVec Ideal S2x2048x128 .f32) (ob : FVec Ideal S4x2048x128 .f32) (oc : FVec Ideal S2x2048x128 .f32) (g : FVec Ideal S2048x3072 .bf16)
    (b : FVec Ideal S3x1024 .f32) (wa : FVec Ideal S256x1024 .bf16) (wb : FVec Ideal S512x1024 .bf16) (wc : FVec Ideal S256x1024 .bf16) : FVec Ideal S2048x1024 .f32 :=
  addf (addf (mulf (shapeCast _ (extractStridedSlice S2048x1x1024 ![0, 0, 0] (gates g b) slices_S2048x3x1024_S2048x1x1024_0_0_0) shapeCasts_S2048x1x1024_S2048x1024) (Host.dotGeneral (φ₁ := .f32) (φ₂ := .f32) dot_S2048x256_S256x1024_S2048x1024_1_0_0_1_n_n none (shapeCast _ (transpose S2048x2x128 [1, 0, 2] oa transposes_S2x2048x128_S2048x2x128_1_0_2) shapeCasts_S2048x2x128_S2048x256) (extf .f32 wa bitsLt_bf16_f32))) (mulf (shapeCast _ (extractStridedSlice S2048x1x1024 ![0, 1, 0] (gates g b) slices_S2048x3x1024_S2048x1x1024_0_1_0) shapeCasts_S2048x1x1024_S2048x1024) (Host.dotGeneral (φ₁ := .f32) (φ₂ := .f32) dot_S2048x512_S512x1024_S2048x1024_1_0_0_1_n_n none (shapeCast _ (transpose S2048x4x128 [1, 0, 2] ob transposes_S4x2048x128_S2048x4x128_1_0_2) shapeCasts_S2048x4x128_S2048x512) (extf .f32 wb bitsLt_bf16_f32)))) (mulf (shapeCast _ (extractStridedSlice S2048x1x1024 ![0, 2, 0] (gates g b) slices_S2048x3x1024_S2048x1x1024_0_2_0) shapeCasts_S2048x1x1024_S2048x1024) (Host.dotGeneral (φ₁ := .f32) (φ₂ := .f32) dot_S2048x256_S256x1024_S2048x1024_1_0_0_1_n_n none (shapeCast _ (transpose S2048x2x128 [1, 0, 2] oc transposes_S2x2048x128_S2048x2x128_1_0_2) shapeCasts_S2048x2x128_S2048x256) (extf .f32 wc bitsLt_bf16_f32)))

theorem merged_at (oa : FVec Ideal S2x2048x128 .f32) (ob : FVec Ideal S4x2048x128 .f32) (oc : FVec Ideal S2x2048x128 .f32) (g : FVec Ideal S2048x3072 .bf16)
    (b : FVec Ideal S3x1024 .f32) (wa : FVec Ideal S256x1024 .bf16) (wb : FVec Ideal S512x1024 .bf16) (wc : FVec Ideal S256x1024 .bf16) (r : Fin 2048) (l : Fin 1024) :
    merged oa ob oc g b wa wb wc (ix2 r l) = Cert.MergeIdeal.Value.mgAt oa ob oc g b wa wb wc r l := by
  have e := gates_at g b
  unfold merged Cert.MergeIdeal.Value.mgAt Cert.MergeIdeal.Value.mgS
  generalize gates g b = s at e ⊢
  pointwise [e]

theorem ref_eq1 (oa : FVec Ideal S2x2048x128 .f32) (ob : FVec Ideal S4x2048x128 .f32) (oc : FVec Ideal S2x2048x128 .f32) (g : FVec Ideal S2048x3072 .bf16)
    (b : FVec Ideal S3x1024 .f32) (wa : FVec Ideal S256x1024 .bf16) (wb : FVec Ideal S512x1024 .bf16) (wc : FVec Ideal S256x1024 .bf16) :
    truncf .bf16 (merged oa ob oc g b wa wb wc) bitsLt_bf16_f32
      = Cert.MergeIdeal.Value.resOf oa ob oc g b wa wb wc := by
  funext y
  obtain ⟨r, l, rfl⟩ : ∃ (r : Fin 2048) (l : Fin 1024), y = ix2 r l := ⟨y 0, y 1, eq_ix2 y⟩
  exact merged_at oa ob oc g b wa wb wc r l

theorem ref_eq2 (oa : FVec Ideal S2x2048x128 .f32) (ob : FVec Ideal S4x2048x128 .f32) (oc : FVec Ideal S2x2048x128 .f32) (g : FVec Ideal S2048x3072 .bf16)
    (b : FVec Ideal S3x1024 .f32) (wa : FVec Ideal S256x1024 .bf16) (wb : FVec Ideal S512x1024 .bf16) (wc : FVec Ideal S256x1024 .bf16) (wo : FVec Ideal S1024x1024 .bf16) :
    Host.dotGeneral (φ₁ := .f32) (φ₂ := .f32) dot_S2048x1024_S1024x1024_S2048x1024_1_0_0_1_n_n none (merged oa ob oc g b wa wb wc) (extf .f32 wo bitsLt_bf16_f32)
      = Cert.MergeIdeal.Value.outOf oa ob oc g b wa wb wc wo := by
  funext y
  obtain ⟨r, l, rfl⟩ : ∃ (r : Fin 2048) (l : Fin 1024), y = ix2 r l := ⟨y 0, y 1, eq_ix2 y⟩
  have e := merged_at oa ob oc g b wa wb wc
  unfold Cert.MergeIdeal.Value.outOf
  generalize merged oa ob oc g b wa wb wc = s at e ⊢
  pointwise [e]

theorem frame : Cert.quiescent_MergeRefIdeal := fun m ρ _ =>
  (θ_run Cert.MergeRefIdeal.defs _ _).mono
    (fun r h => ⟨fun c => (h c).2.2, Idealize.ShloMosaic.sem_eq_zero_of_no_sems (by decide) r.2⟩)
    (Cert.MergeRefIdeal.Value.run m ρ)

end Cert.MergeRefIdeal.Value

theorem Cert.MergeIdeal.Value.equal : Cert.algebraic_MergeIdeal_MergeRefIdeal := by
  intro m g m' g' _ harg
  refine ⟨fun c => (Cert.MergeIdeal.Gen.dats m 0 c).arrAt 9 Cert.MergeIdeal.cfg0.N, fun c => (Cert.MergeIdeal.Gen.dats m 0 c).arrAt 10 Cert.MergeIdeal.cfg0.N,
    Cert.MergeIdeal.Value.run_blocks m g, ?_⟩
  refine (θ_run Cert.MergeRefIdeal.defs _ _).mono (fun r h c => ?_) (Cert.MergeRefIdeal.Value.run m' g')
  obtain ⟨e0, e1, e2, e3, e4, e5, e6, e7, e8⟩ := harg c
  obtain ⟨r0, r1, q⟩ := h c
  refine ⟨r0.trans ((Cert.MergeRefIdeal.Value.ref_eq1 _ _ _ _ _ _ _ _).trans ?_), r1.trans ((Cert.MergeRefIdeal.Value.ref_eq2 _ _ _ _ _ _ _ _ _).trans ?_), q⟩
  · refine Eq.trans ?_ (Cert.MergeIdeal.Value.arr9 m c).symm
    rw [e0, e1, e2, e3, e4, e5, e6, e7]
  · refine Eq.trans ?_ (Cert.MergeIdeal.Value.arr10 m c).symm
    rw [e0, e1, e2, e3, e4, e5, e6, e7, e8]
end
-- ==== Proof.VMergeBwdPay.lean ====
/- The merge's backward call: the values of one grid point's stores, from its blocks. -/
module

public import proofs.«01_k».proof.Defs
public import proofs.«01_k».proof.Proof.Gen.MergeBwdIdeal.Skeleton
public import Idealize.ShloMosaic.Lib.Pipeline.ValueKit
public import Idealize.ShloMosaic.Lib.Pointwise
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.MergeBwdIdeal.Value

open Cert.MergeBwdIdeal Cert.MergeBwdIdeal.Gen

local notation "VecA" => Vec Ideal S256x1024 EltTy.bf16
local notation "VecB" => Vec Ideal S1x1024 EltTy.f32
local notation "VecC" => Vec Ideal S1x256x128 EltTy.f32
local notation "VecD" => FVec Ideal S256x1024 FTy.f32
local notation "VecE" => Vec Ideal S512x1024 EltTy.bf16
local notation "VecF" => FVec Ideal S2x2048x128 FTy.f32
local notation "VecG" => FVec Ideal S256x1024 FTy.bf16
local notation "VecH" => Vec Ideal S2x256x128 EltTy.f32
local notation "VecJ" => Vec Ideal S3x1024 EltTy.f32
local notation "VecK" => Vec Ideal S1024x1024 EltTy.bf16
local notation "VecL" => FVec Ideal S4x2048x128 FTy.f32
local notation "VecM" => FVec Ideal S512x1024 FTy.bf16
local notation "VecN" => Vec Ideal S256x1024 EltTy.f32
local notation "VecO" => Vec Ideal S4x256x128 EltTy.f32
local notation "VecP" => Vec Ideal S256x3072 EltTy.bf16

/-- A gate's gradient before its logistic function: the incoming gradient, the branch's product and the gate's value. -/
def dgS (d p s : EReal) : EReal := d * p * s * (1 - s)

theorem flat (v : VecC) (r : Fin 256) (l : Fin 128) :
    shapeCast S256x128 v shapeCasts_S1x256x128_S256x128 (ix2 r l) = v (ix3 0 r l) := by
  pointwise []

theorem cat2 (f : Fin 2 → FVec Ideal S256x128 .f32) (h) (r : Fin 256) (k : Fin 256) :
    concatenate S256x256 1 (List.ofFn fun n => (⟨S256x128, f n⟩ : (s : Shape) × (s.Idx → Ideal .f32))) h
      (ix2 r k) = f ⟨k.val / 128, by omega⟩ (ix2 r ⟨k.val % 128, by omega⟩) :=
  concatenate_ofFn_apply 1 f h rfl 128 rfl _ ⟨k.val / 128, by omega⟩ rfl (ix2 r ⟨k.val % 128, by omega⟩) rfl fun b hb => by
      obtain ⟨b, hb'⟩ := b
      have : b = 0 ∨ b = 1 := by have : b < 2 := hb'; omega
      rcases this with rfl | rfl
      · rfl
      · exact absurd rfl hb

theorem cat4 (f : Fin 4 → FVec Ideal S256x128 .f32) (h) (r : Fin 256) (k : Fin 512) :
    concatenate S256x512 1 (List.ofFn fun n => (⟨S256x128, f n⟩ : (s : Shape) × (s.Idx → Ideal .f32))) h
      (ix2 r k) = f ⟨k.val / 128, by omega⟩ (ix2 r ⟨k.val % 128, by omega⟩) :=
  concatenate_ofFn_apply 1 f h rfl 128 rfl _ ⟨k.val / 128, by omega⟩ rfl (ix2 r ⟨k.val % 128, by omega⟩) rfl fun b hb => by
      obtain ⟨b, hb'⟩ := b
      have : b = 0 ∨ b = 1 := by have : b < 2 := hb'; omega
      rcases this with rfl | rfl
      · rfl
      · exact absurd rfl hb

/-- Two slabs side by side. -/
def side2 (v w : VecC) : FVec Ideal S256x256 .f32 :=
  concatenate S256x256 1 [⟨S256x128, shapeCast S256x128 v shapeCasts_S1x256x128_S256x128⟩, ⟨S256x128, shapeCast S256x128 w shapeCasts_S1x256x128_S256x128⟩] concatenates_S256x128_S256x128_S256x256_d1

/-- Four slabs side by side. -/
def side4 (v w x y : VecC) : FVec Ideal S256x512 .f32 :=
  concatenate S256x512 1 [⟨S256x128, shapeCast S256x128 v shapeCasts_S1x256x128_S256x128⟩, ⟨S256x128, shapeCast S256x128 w shapeCasts_S1x256x128_S256x128⟩, ⟨S256x128, shapeCast S256x128 x shapeCasts_S1x256x128_S256x128⟩, ⟨S256x128, shapeCast S256x128 y shapeCasts_S1x256x128_S256x128⟩] concatenates_S256x128_S256x128_S256x128_S256x128_S256x512_d1

theorem side2_at (f : Fin 2 → VecC) {v w : VecC} (hv : v = f 0) (hw : w = f 1) (r k : Fin 256) :
    side2 v w (ix2 r k) = f ⟨k.val / 128, by omega⟩ (ix3 0 r ⟨k.val % 128, by omega⟩) := by
  subst hv hw
  exact (cat2 (fun n => shapeCast S256x128 (f n) shapeCasts_S1x256x128_S256x128)
    concatenates_S256x128_S256x128_S256x256_d1 r k).trans (flat _ r _)

theorem side4_at (f : Fin 4 → VecC) {v w x y : VecC} (hv : v = f 0) (hw : w = f 1)
    (hx : x = f 2) (hy : y = f 3) (r : Fin 256) (k : Fin 512) :
    side4 v w x y (ix2 r k) = f ⟨k.val / 128, by omega⟩ (ix3 0 r ⟨k.val % 128, by omega⟩) := by
  subst hv hw hx hy
  exact (cat4 (fun n => shapeCast S256x128 (f n) shapeCasts_S1x256x128_S256x128)
    concatenates_S256x128_S256x128_S256x128_S256x128_S256x512_d1 r k).trans (flat _ r _)

theorem pay8 (a : VecA) (w : VecK) (r : Fin 256) (l : Fin 1024) :
    k0_pay8 a w (ix2 r l) = ∑ k : Fin 1024, a (ix2 r k) * w (ix2 l k) := by
  unfold k0_pay8
  pointwise []

theorem pay10 (g : VecA) (b : VecB) (r : Fin 256) (l : Fin 1024) :
    k0_pay10 g b (ix2 r l) = Ideal.logistic (g (ix2 r l) + b (ix2 0 l)) := by
  unfold k0_pay10
  pointwise []

theorem pay26 (g : VecA) (b : VecB) : k0_pay26 g b = k0_pay10 g b := rfl
theorem pay39 (g : VecA) (b : VecB) : k0_pay39 g b = k0_pay10 g b := rfl

theorem pay11 (a : VecA) (w : VecK) (v0 v1 : VecC) (u : VecA)
    (g : VecA) (b : VecB) (r : Fin 256) (l : Fin 1024) :
    k0_pay11 a w v0 v1 u g b (ix2 r l)
      = dgS (k0_pay8 a w (ix2 r l)) (∑ k : Fin 256, side2 v0 v1 (ix2 r k) * u (ix2 k l)) (k0_pay10 g b (ix2 r l)) := by
  unfold k0_pay11 k0_pay9 side2 dgS
  generalize k0_pay8 a w = d
  generalize k0_pay10 g b = s
  dsimp only
  generalize concatenate S256x256 1 _ _ = c
  pointwise []

theorem pay27 (d : VecD) (v0 v1 v2 v3 : VecC) (u : VecE)
    (g : VecA) (b : VecB) (r : Fin 256) (l : Fin 1024) :
    k0_pay27 d (k0_pay21 v0) (k0_pay22 v1) (k0_pay23 v2) (k0_pay24 v3) u g b (ix2 r l)
      = dgS (d (ix2 r l)) (∑ k : Fin 512, side4 v0 v1 v2 v3 (ix2 r k) * u (ix2 k l)) (k0_pay10 g b (ix2 r l)) := by
  unfold k0_pay27 k0_pay25 side4 dgS k0_pay21 k0_pay22 k0_pay23 k0_pay24
  rw [pay26]
  generalize k0_pay10 g b = s
  dsimp only
  generalize concatenate S256x512 1 _ _ = c
  pointwise []

theorem pay41 (d : VecD) (v0 v1 : VecC) (u : VecA)
    (g : VecA) (b : VecB) (r : Fin 256) (l : Fin 1024) :
    k0_pay41 (k0_pay39 g b) (k0_pay40 d v0 v1 u g b) (ix2 r l)
      = dgS (d (ix2 r l)) (∑ k : Fin 256, side2 v0 v1 (ix2 r k) * u (ix2 k l)) (k0_pay10 g b (ix2 r l)) := by
  unfold k0_pay41 k0_pay40 k0_pay38 side2 dgS
  rw [pay39]
  generalize k0_pay10 g b = s
  dsimp only
  generalize concatenate S256x256 1 _ _ = c
  pointwise []

theorem pay18 (d s : VecD) (w : VecA) (r : Fin 256) (l : Fin 128) :
    k0_pay18 d s w (ix3 0 r l) = ∑ k : Fin 1024, d (ix2 r k) * s (ix2 r k) * w (ix2 ⟨l.val, by omega⟩ k) := by
  unfold k0_pay18 k0_pay17 k0_pay16
  pointwise []

theorem pay19 (d s : VecD) (w : VecA) (r : Fin 256) (l : Fin 128) :
    k0_pay19 d s w (ix3 0 r l) = ∑ k : Fin 1024, d (ix2 r k) * s (ix2 r k) * w (ix2 ⟨128 + l.val, by omega⟩ k) := by
  unfold k0_pay19 k0_pay17 k0_pay16
  pointwise []

theorem pay46 (d s : VecD) (w : VecA) (r : Fin 256) (l : Fin 128) :
    k0_pay46 d s w (ix3 0 r l) = ∑ k : Fin 1024, d (ix2 r k) * s (ix2 r k) * w (ix2 ⟨l.val, by omega⟩ k) := by
  unfold k0_pay46 k0_pay45 k0_pay44
  pointwise []

theorem pay47 (d s : VecD) (w : VecA) (r : Fin 256) (l : Fin 128) :
    k0_pay47 d s w (ix3 0 r l) = ∑ k : Fin 1024, d (ix2 r k) * s (ix2 r k) * w (ix2 ⟨128 + l.val, by omega⟩ k) := by
  unfold k0_pay47 k0_pay45 k0_pay44
  pointwise []

theorem pay32 (d : VecD) (g : VecA) (b : VecB) (w : VecE) (r : Fin 256) (l : Fin 128) :
    k0_pay32 d g b w (ix3 0 r l) = ∑ k : Fin 1024, d (ix2 r k) * k0_pay10 g b (ix2 r k) * w (ix2 ⟨l.val, by omega⟩ k) := by
  unfold k0_pay32 k0_pay31 k0_pay30
  rw [pay26]
  generalize k0_pay10 g b = s
  pointwise []

theorem pay34 (d : VecD) (g : VecA) (b : VecB) (w : VecE) (r : Fin 256) (l : Fin 128) :
    k0_pay34 (k0_pay33 d g b w) (ix3 0 r l) = ∑ k : Fin 1024, d (ix2 r k) * k0_pay10 g b (ix2 r k) * w (ix2 ⟨128 + l.val, by omega⟩ k) := by
  unfold k0_pay34 k0_pay33 k0_pay31 k0_pay30
  rw [pay26]
  generalize k0_pay10 g b = s
  pointwise []

theorem pay35 (d : VecD) (g : VecA) (b : VecB) (w : VecE) (r : Fin 256) (l : Fin 128) :
    k0_pay35 (k0_pay31 d g b w) (ix3 0 r l) = ∑ k : Fin 1024, d (ix2 r k) * k0_pay10 g b (ix2 r k) * w (ix2 ⟨256 + l.val, by omega⟩ k) := by
  unfold k0_pay35 k0_pay31 k0_pay30
  rw [pay26]
  generalize k0_pay10 g b = s
  pointwise []

theorem pay36 (d : VecD) (g : VecA) (b : VecB) (w : VecE) (r : Fin 256) (l : Fin 128) :
    k0_pay36 (k0_pay31 d g b w) (ix3 0 r l) = ∑ k : Fin 1024, d (ix2 r k) * k0_pay10 g b (ix2 r k) * w (ix2 ⟨384 + l.val, by omega⟩ k) := by
  unfold k0_pay36 k0_pay31 k0_pay30
  rw [pay26]
  generalize k0_pay10 g b = s
  pointwise []

theorem pay20 (d s : VecD) (v0 v1 : VecC) (acc : VecN) (k : Fin 256) (l : Fin 1024) :
    k0_pay20 d (k0_pay9 v0 v1) s acc (ix2 k l) = acc (ix2 k l) + ∑ r : Fin 256, side2 v0 v1 (ix2 r k) * (d (ix2 r l) * s (ix2 r l)) := by
  unfold k0_pay20 k0_pay16 k0_pay9 side2
  dsimp only
  generalize concatenate S256x256 1 _ _ = c
  pointwise []

theorem pay48 (d s : VecD) (v0 v1 : VecC) (acc : VecN) (k : Fin 256) (l : Fin 1024) :
    k0_pay48 d (k0_pay38 v0 v1) s acc (ix2 k l) = acc (ix2 k l) + ∑ r : Fin 256, side2 v0 v1 (ix2 r k) * (d (ix2 r l) * s (ix2 r l)) := by
  unfold k0_pay48 k0_pay44 k0_pay38 side2
  dsimp only
  generalize concatenate S256x256 1 _ _ = c
  pointwise []

theorem pay37 (d : VecD) (g : VecA) (b : VecB) (v0 v1 v2 v3 : VecC) (acc : Vec Ideal S512x1024 .f32) (k : Fin 512) (l : Fin 1024) :
    k0_pay37 (k0_pay25 (k0_pay21 v0) (k0_pay22 v1) (k0_pay23 v2) (k0_pay24 v3)) (k0_pay30 d g b) acc (ix2 k l)
      = acc (ix2 k l) + ∑ r : Fin 256, side4 v0 v1 v2 v3 (ix2 r k) * (d (ix2 r l) * k0_pay10 g b (ix2 r l)) := by
  unfold k0_pay37 k0_pay25 k0_pay30 side4 k0_pay21 k0_pay22 k0_pay23 k0_pay24
  rw [pay26]
  generalize k0_pay10 g b = s
  dsimp only
  generalize concatenate S256x512 1 _ _ = c
  pointwise []

theorem pay15 (v : VecB) (a : VecA) (w : VecK) (v0 v1 : VecC) (u : VecA)
    (g : VecA) (b : VecB) (l : Fin 1024) :
    k0_pay15 (k0_pay13 v) (k0_pay14 a w v0 v1 u g b) (ix2 0 l) = v (ix2 0 l) + ∑ r : Fin 256, k0_pay11 a w v0 v1 u g b (ix2 r l) := by
  unfold k0_pay15 k0_pay13 k0_pay14
  generalize k0_pay11 a w v0 v1 u g b = x
  pointwise []

theorem pay29 (d : VecD) (c0 c1 c2 c3 : FVec Ideal S256x128 .f32) (u : VecE)
    (g : VecA) (b : VecB) (v : VecB) (l : Fin 1024) :
    k0_pay29 d c0 c1 c2 c3 u g b v (ix2 0 l) = v (ix2 0 l) + ∑ r : Fin 256, k0_pay27 d c0 c1 c2 c3 u g b (ix2 r l) := by
  unfold k0_pay29
  generalize k0_pay27 d c0 c1 c2 c3 u g b = x
  pointwise []

theorem pay43 (s e : VecD) (v : VecB) (l : Fin 1024) :
    k0_pay43 s e v (ix2 0 l) = v (ix2 0 l) + ∑ r : Fin 256, k0_pay41 s e (ix2 r l) := by
  unfold k0_pay43
  generalize k0_pay41 s e = x
  pointwise []

/-- The call's ten arguments. -/
structure Args where
  d : FVec Ideal S2048x1024 .bf16
  oa : VecF
  ob : VecL
  oc : VecF
  g : FVec Ideal S2048x3072 .bf16
  b : FVec Ideal S3x1024 .f32
  wa : VecG
  wb : VecM
  wc : VecG
  wo : FVec Ideal S1024x1024 .bf16

/-- The gradient at the merged value of a row and a column. -/
def dmAt (A : Args) (r : Fin 2048) (l : Fin 1024) : EReal := ∑ k : Fin 1024, A.d (ix2 r k) * A.wo (ix2 l k)
/-- A gate. -/
def sgAt (A : Args) (i : Fin 3) (r : Fin 2048) (l : Fin 1024) : EReal :=
  Ideal.logistic (A.g (ix2 r ⟨i.val * 1024 + l.val, by omega⟩) + A.b (ix2 i l))
/-- A branch's product, of two slabs. -/
def pr2 (o : VecF) (w : VecG) (r : Fin 2048) (l : Fin 1024) : EReal :=
  ∑ k : Fin 256, o (ix3 ⟨k.val / 128, by omega⟩ r ⟨k.val % 128, by omega⟩) * w (ix2 k l)
/-- A branch's product, of four slabs. -/
def pr4 (o : VecL) (w : VecM) (r : Fin 2048) (l : Fin 1024) : EReal :=
  ∑ k : Fin 512, o (ix3 ⟨k.val / 128, by omega⟩ r ⟨k.val % 128, by omega⟩) * w (ix2 k l)
/-- The product of the branch of a number. -/
def prAt (A : Args) (i : Fin 3) (r : Fin 2048) (l : Fin 1024) : EReal :=
  if i.val = 0 then pr2 A.oa A.wa r l else if i.val = 1 then pr4 A.ob A.wb r l else pr2 A.oc A.wc r l
/-- The gradient of a gate before its logistic function. -/
def dgAt (A : Args) (i : Fin 3) (r : Fin 2048) (l : Fin 1024) : EReal := dgS (dmAt A r l) (prAt A i r l) (sgAt A i r l)
/-- The gradient at a branch of two slabs. -/
def do2At (A : Args) (i : Fin 3) (w : VecG) (s : Fin 2) (r : Fin 2048) (l : Fin 128) : EReal :=
  ∑ k : Fin 1024, dmAt A r k * sgAt A i r k * w (ix2 ⟨s.val * 128 + l.val, by omega⟩ k)
/-- The gradient at a branch of four slabs. -/
def do4At (A : Args) (i : Fin 3) (w : VecM) (s : Fin 4) (r : Fin 2048) (l : Fin 128) : EReal :=
  ∑ k : Fin 1024, dmAt A r k * sgAt A i r k * w (ix2 ⟨s.val * 128 + l.val, by omega⟩ k)
/-- A row's part of the gradient of a weight of a branch of two slabs. -/
def dw2 (A : Args) (i : Fin 3) (o : VecF) (k : Fin 256) (l : Fin 1024) (r : Fin 2048) : EReal :=
  o (ix3 ⟨k.val / 128, by omega⟩ r ⟨k.val % 128, by omega⟩) * (dmAt A r l * sgAt A i r l)
/-- A row's part of the gradient of a weight of a branch of four slabs. -/
def dw4 (A : Args) (i : Fin 3) (o : VecL) (k : Fin 512) (l : Fin 1024) (r : Fin 2048) : EReal :=
  o (ix3 ⟨k.val / 128, by omega⟩ r ⟨k.val % 128, by omega⟩) * (dmAt A r l * sgAt A i r l)

def do2Of (A : Args) (i : Fin 3) (w : VecG) : VecF := fun j => do2At A i w (j 0) (j 1) (j 2)
def do4Of (A : Args) (i : Fin 3) (w : VecM) : VecL := fun j => do4At A i w (j 0) (j 1) (j 2)
def dgOf (A : Args) : FVec Ideal S2048x3072 .bf16 := fun j =>
  dgAt A ⟨(j 1).val / 1024, by have : (j 1).val < 3072 := (j 1).isLt; omega⟩ (j 0) ⟨(j 1).val % 1024, by omega⟩
def dw2Of (A : Args) (i : Fin 3) (o : VecF) : VecG := fun j => ∑ r : Fin 2048, dw2 A i o (j 0) (j 1) r
def dw4Of (A : Args) (i : Fin 3) (o : VecL) : VecM := fun j => ∑ r : Fin 2048, dw4 A i o (j 0) (j 1) r
def dbOf (A : Args) : FVec Ideal S3x1024 .f32 := fun j => ∑ r : Fin 2048, dgAt A (j 0) r (j 1)

/-- The blocks of a grid point: the rows `R` of the arguments that have them, all of the others. -/
structure Blk (A : Args) (R : Fin 256 → Fin 2048) (x0 : VecA) (x1 : VecH) (x2 : VecO)
    (x3 : VecH) (x4 : VecP) (x5 : VecJ) (x6 : VecA) (x7 : VecE)
    (x8 : VecA) (x9 : VecK) : Prop where
  h0 : ∀ r k, x0 (ix2 r k) = A.d (ix2 (R r) k)
  h1 : ∀ s r l, x1 (ix3 s r l) = A.oa (ix3 s (R r) l)
  h2 : ∀ s r l, x2 (ix3 s r l) = A.ob (ix3 s (R r) l)
  h3 : ∀ s r l, x3 (ix3 s r l) = A.oc (ix3 s (R r) l)
  h4 : ∀ r l, x4 (ix2 r l) = A.g (ix2 (R r) l)
  h5 : ∀ i l, x5 (ix2 i l) = A.b (ix2 i l)
  h6 : ∀ k l, x6 (ix2 k l) = A.wa (ix2 k l)
  h7 : ∀ k l, x7 (ix2 k l) = A.wb (ix2 k l)
  h8 : ∀ k l, x8 (ix2 k l) = A.wc (ix2 k l)
  h9 : ∀ k l, x9 (ix2 k l) = A.wo (ix2 k l)

/-- One slab of a block of two. -/
def slabOf2 (x : VecH) (s : Fin 2) : VecC := fun i => x (ix3 s (i 1) (i 2))
/-- One slab of a block of four. -/
def slabOf4 (x : VecO) (s : Fin 4) : VecC := fun i => x (ix3 s (i 1) (i 2))

theorem slab2 (x : VecH) (s : Fin 2) (h) :
    View.ld x (Rect.unit ![s.val, 0, 0] ![1, 256, 128] h) = slabOf2 x s := by
  funext i
  refine View.ld_unit_apply_of _ _ _ _ _ _ fun b => ?_
  have h0 : (i 0).val = 0 := by have : (i 0).val < 1 := (i 0).isLt; omega
  fin_cases b <;> simp [h0]

theorem slab4 (x : VecO) (s : Fin 4) (h) :
    View.ld x (Rect.unit ![s.val, 0, 0] ![1, 256, 128] h) = slabOf4 x s := by
  funext i
  refine View.ld_unit_apply_of _ _ _ _ _ _ fun b => ?_
  have h0 : (i 0).val = 0 := by have : (i 0).val < 1 := (i 0).isLt; omega
  fin_cases b <;> simp [h0]

/-- One gate's columns of a block. -/
def colsOf (x : VecP) (i : Fin 3) : VecA :=
  fun j => x (ix2 (j 0) ⟨i.val * 1024 + (j 1).val, by have : (j 1).val < 1024 := (j 1).isLt; omega⟩)
/-- One gate's bias. -/
def rowOf (x : VecJ) (i : Fin 3) : VecB := fun j => x (ix2 i (j 1))

theorem cols (x : VecP) (i : Fin 3) (n : Nat) (hn : n = i.val * 1024) (h) :
    View.ld x (Rect.unit ![0, n] ![256, 1024] h) = colsOf x i := by
  subst hn
  funext j
  refine View.ld_unit_apply_of _ _ _ _ _ _ fun b => ?_
  fin_cases b <;> simp

theorem row (x : VecJ) (i : Fin 3) (h) :
    View.ld x (Rect.unit ![i.val, 0] ![1, 1024] h) = rowOf x i := by
  funext j
  refine View.ld_unit_apply_of _ _ _ _ _ _ fun b => ?_
  have h0 : (j 0).val = 0 := by have : (j 0).val < 1 := (j 0).isLt; omega
  fin_cases b <;> simp [h0]

theorem sum2 {n : Nat} (f g f' g' : Fin n → EReal) (h : ∀ k, f k = f' k) (h' : ∀ k, g k = g' k) : ∑ k, f k * g k = ∑ k, f' k * g' k :=
  Finset.sum_congr rfl fun k _ => congrArg₂ _ (h k) (h' k)

theorem sum3 {n : Nat} (e f g e' f' g' : Fin n → EReal) (h : ∀ k, e k = e' k) (h' : ∀ k, f k = f' k) (h'' : ∀ k, g k = g' k) :
    ∑ k, e k * f k * g k = ∑ k, e' k * f' k * g' k :=
  Finset.sum_congr rfl fun k _ => congrArg₂ _ (congrArg₂ _ (h k) (h' k)) (h'' k)

theorem sum3' {n : Nat} (e f g e' f' g' : Fin n → EReal) (h : ∀ k, e k = e' k) (h' : ∀ k, f k = f' k) (h'' : ∀ k, g k = g' k) :
    ∑ k, e k * (f k * g k) = ∑ k, e' k * (f' k * g' k) :=
  Finset.sum_congr rfl fun k _ => congrArg₂ _ (h k) (congrArg₂ _ (h' k) (h'' k))

variable {A : Args} {R : Fin 256 → Fin 2048} {x0 : VecA} {x1 : VecH} {x2 : VecO}
    {x3 : VecH} {x4 : VecP} {x5 : VecJ} {x6 : VecA} {x7 : VecE}
    {x8 : VecA} {x9 : VecK}

theorem bD (H : Blk A R x0 x1 x2 x3 x4 x5 x6 x7 x8 x9) (r : Fin 256) (l : Fin 1024) : k0_pay8 x0 x9 (ix2 r l) = dmAt A (R r) l :=
  (pay8 x0 x9 r l).trans (sum2 _ _ _ _ (fun k => H.h0 r k) (fun k => H.h9 l k))

theorem bS (H : Blk A R x0 x1 x2 x3 x4 x5 x6 x7 x8 x9) (i : Fin 3) {u : VecA} {v : VecB}
    (hu : u = colsOf x4 i) (hv : v = rowOf x5 i) (r : Fin 256) (l : Fin 1024) : k0_pay10 u v (ix2 r l) = sgAt A i (R r) l := by
  subst hu hv
  exact (pay10 _ _ r l).trans (congrArg _ (congrArg₂ _ (H.h4 _ _) (H.h5 _ _)))

theorem bS0 (H : Blk A R x0 x1 x2 x3 x4 x5 x6 x7 x8 x9) (r : Fin 256) (l : Fin 1024) :
    k0_pay10 (View.ld x4 (Rect.unit ![0, 0] ![256, 1024] inb_S256x3072_S256x1024_0_0)) (View.ld x5 (Rect.unit ![0, 0] ![1, 1024] inb_S3x1024_S1x1024_0_0)) (ix2 r l) = sgAt A 0 (R r) l :=
  bS H 0 (cols x4 0 _ rfl _) (row x5 0 _) r l

theorem bS1 (H : Blk A R x0 x1 x2 x3 x4 x5 x6 x7 x8 x9) (r : Fin 256) (l : Fin 1024) :
    k0_pay10 (View.ld x4 (Rect.unit ![0, 1024] ![256, 1024] inb_S256x3072_S256x1024_0_1024)) (View.ld x5 (Rect.unit ![1, 0] ![1, 1024] inb_S3x1024_S1x1024_1_0)) (ix2 r l) = sgAt A 1 (R r) l :=
  bS H 1 (cols x4 1 _ rfl _) (row x5 1 _) r l

theorem bS2 (H : Blk A R x0 x1 x2 x3 x4 x5 x6 x7 x8 x9) (r : Fin 256) (l : Fin 1024) :
    k0_pay10 (View.ld x4 (Rect.unit ![0, 2048] ![256, 1024] inb_S256x3072_S256x1024_0_2048)) (View.ld x5 (Rect.unit ![2, 0] ![1, 1024] inb_S3x1024_S1x1024_2_0)) (ix2 r l) = sgAt A 2 (R r) l :=
  bS H 2 (cols x4 2 _ rfl _) (row x5 2 _) r l

theorem bA (H : Blk A R x0 x1 x2 x3 x4 x5 x6 x7 x8 x9) (r k : Fin 256) :
    side2 (View.ld x1 (Rect.unit ![0, 0, 0] ![1, 256, 128] inb_S2x256x128_S1x256x128_0_0_0)) (View.ld x1 (Rect.unit ![1, 0, 0] ![1, 256, 128] inb_S2x256x128_S1x256x128_1_0_0)) (ix2 r k) = A.oa (ix3 ⟨k.val / 128, by omega⟩ (R r) ⟨k.val % 128, by omega⟩) :=
  (side2_at (slabOf2 x1) (slab2 x1 0 _) (slab2 x1 1 _) r k).trans (H.h1 _ _ _)

theorem bB (H : Blk A R x0 x1 x2 x3 x4 x5 x6 x7 x8 x9) (r : Fin 256) (k : Fin 512) :
    side4 (View.ld x2 (Rect.unit ![0, 0, 0] ![1, 256, 128] inb_S4x256x128_S1x256x128_0_0_0)) (View.ld x2 (Rect.unit ![1, 0, 0] ![1, 256, 128] inb_S4x256x128_S1x256x128_1_0_0)) (View.ld x2 (Rect.unit ![2, 0, 0] ![1, 256, 128] inb_S4x256x128_S1x256x128_2_0_0)) (View.ld x2 (Rect.unit ![3, 0, 0] ![1, 256, 128] inb_S4x256x128_S1x256x128_3_0_0)) (ix2 r k) = A.ob (ix3 ⟨k.val / 128, by omega⟩ (R r) ⟨k.val % 128, by omega⟩) :=
  (side4_at (slabOf4 x2) (slab4 x2 0 _) (slab4 x2 1 _) (slab4 x2 2 _) (slab4 x2 3 _) r k).trans (H.h2 _ _ _)

theorem bC (H : Blk A R x0 x1 x2 x3 x4 x5 x6 x7 x8 x9) (r k : Fin 256) :
    side2 (View.ld x3 (Rect.unit ![0, 0, 0] ![1, 256, 128] inb_S2x256x128_S1x256x128_0_0_0)) (View.ld x3 (Rect.unit ![1, 0, 0] ![1, 256, 128] inb_S2x256x128_S1x256x128_1_0_0)) (ix2 r k) = A.oc (ix3 ⟨k.val / 128, by omega⟩ (R r) ⟨k.val % 128, by omega⟩) :=
  (side2_at (slabOf2 x3) (slab2 x3 0 _) (slab2 x3 1 _) r k).trans (H.h3 _ _ _)

theorem dgS_congr {d p s d' p' s' : EReal} (h : d = d') (h' : p = p') (h'' : s = s') : dgS d p s = dgS d' p' s' := by
  subst h h' h''
  rfl

theorem bG0 (H : Blk A R x0 x1 x2 x3 x4 x5 x6 x7 x8 x9) (r : Fin 256) (l : Fin 1024) :
    k0_pay11 x0 x9 (View.ld x1 (Rect.unit ![0, 0, 0] ![1, 256, 128] inb_S2x256x128_S1x256x128_0_0_0)) (View.ld x1 (Rect.unit ![1, 0, 0] ![1, 256, 128] inb_S2x256x128_S1x256x128_1_0_0)) x6 (View.ld x4 (Rect.unit ![0, 0] ![256, 1024] inb_S256x3072_S256x1024_0_0)) (View.ld x5 (Rect.unit ![0, 0] ![1, 1024] inb_S3x1024_S1x1024_0_0)) (ix2 r l) = dgAt A 0 (R r) l :=
  (pay11 _ _ _ _ _ _ _ r l).trans (dgS_congr (bD H r l) (sum2 _ _ _ _ (fun k => bA H r k) (fun k => H.h6 k l)) (bS0 H r l))

theorem bG1 (H : Blk A R x0 x1 x2 x3 x4 x5 x6 x7 x8 x9) (r : Fin 256) (l : Fin 1024) :
    k0_pay27 (k0_pay8 x0 x9) (k0_pay21 (View.ld x2 (Rect.unit ![0, 0, 0] ![1, 256, 128] inb_S4x256x128_S1x256x128_0_0_0))) (k0_pay22 (View.ld x2 (Rect.unit ![1, 0, 0] ![1, 256, 128] inb_S4x256x128_S1x256x128_1_0_0))) (k0_pay23 (View.ld x2 (Rect.unit ![2, 0, 0] ![1, 256, 128] inb_S4x256x128_S1x256x128_2_0_0))) (k0_pay24 (View.ld x2 (Rect.unit ![3, 0, 0] ![1, 256, 128] inb_S4x256x128_S1x256x128_3_0_0))) x7 (View.ld x4 (Rect.unit ![0, 1024] ![256, 1024] inb_S256x3072_S256x1024_0_1024)) (View.ld x5 (Rect.unit ![1, 0] ![1, 1024] inb_S3x1024_S1x1024_1_0)) (ix2 r l) = dgAt A 1 (R r) l :=
  (pay27 _ _ _ _ _ _ _ _ r l).trans (dgS_congr (bD H r l) (sum2 _ _ _ _ (fun k => bB H r k) (fun k => H.h7 k l)) (bS1 H r l))

theorem bG2 (H : Blk A R x0 x1 x2 x3 x4 x5 x6 x7 x8 x9) (r : Fin 256) (l : Fin 1024) :
    k0_pay41 (k0_pay39 (View.ld x4 (Rect.unit ![0, 2048] ![256, 1024] inb_S256x3072_S256x1024_0_2048)) (View.ld x5 (Rect.unit ![2, 0] ![1, 1024] inb_S3x1024_S1x1024_2_0))) (k0_pay40 (k0_pay8 x0 x9) (View.ld x3 (Rect.unit ![0, 0, 0] ![1, 256, 128] inb_S2x256x128_S1x256x128_0_0_0)) (View.ld x3 (Rect.unit ![1, 0, 0] ![1, 256, 128] inb_S2x256x128_S1x256x128_1_0_0)) x8 (View.ld x4 (Rect.unit ![0, 2048] ![256, 1024] inb_S256x3072_S256x1024_0_2048)) (View.ld x5 (Rect.unit ![2, 0] ![1, 1024] inb_S3x1024_S1x1024_2_0))) (ix2 r l) = dgAt A 2 (R r) l :=
  (pay41 _ _ _ _ _ _ r l).trans (dgS_congr (bD H r l) (sum2 _ _ _ _ (fun k => bC H r k) (fun k => H.h8 k l)) (bS2 H r l))

theorem idx3 (x : S1x256x128.Idx) (r : Fin 256) (l : Fin 128) (h1 : (x 1).val = r.val) (h2 : (x 2).val = l.val) : x = ix3 0 r l := by
  have e0 : x 0 = (0 : Fin 1) := Fin.ext (by have : (x 0).val < 1 := (x 0).isLt; show (x 0).val = 0; omega)
  have e1 : x 1 = r := Fin.ext h1
  have e2 : x 2 = l := Fin.ext h2
  refine (eq_ix3 x).trans ?_
  rw [e0, e1, e2]

theorem canon2 (p0 p1 : VecC) (f : Fin 2 → EReal) (s : Fin 2) (r : Fin 256) (l : Fin 128)
    (e0 : p0 (ix3 0 r l) = f 0) (e1 : p1 (ix3 0 r l) = f 1) :
    View.canon [(⟨Rect.unit ![1, 0, 0] ![1, 256, 128] inb_S2x256x128_S1x256x128_1_0_0, p1⟩ : View.Piece (Elt Ideal) S2x256x128 .f32),
      ⟨Rect.unit ![0, 0, 0] ![1, 256, 128] inb_S2x256x128_S1x256x128_0_0_0, p0⟩] (ix3 s r l) = f s := by
  canon_tiles x h
  · have h0' : s.val = 1 + (x 0).val := h0
    obtain rfl : s = 1 := Fin.ext (by show s.val = 1; omega)
    obtain rfl := idx3 x r l h1.symm h2.symm
    exact e1
  · have h0' : s.val = 0 + (x 0).val := h0.trans (Nat.zero_add _).symm
    obtain rfl : s = 0 := Fin.ext (by show s.val = 0; omega)
    obtain rfl := idx3 x r l h1.symm h2.symm
    exact e0

theorem canon4 (p0 p1 p2 p3 : VecC) (f : Fin 4 → EReal) (s : Fin 4) (r : Fin 256) (l : Fin 128)
    (e0 : p0 (ix3 0 r l) = f 0) (e1 : p1 (ix3 0 r l) = f 1) (e2 : p2 (ix3 0 r l) = f 2) (e3 : p3 (ix3 0 r l) = f 3) :
    View.canon [(⟨Rect.unit ![3, 0, 0] ![1, 256, 128] inb_S4x256x128_S1x256x128_3_0_0, p3⟩ : View.Piece (Elt Ideal) S4x256x128 .f32),
      ⟨Rect.unit ![2, 0, 0] ![1, 256, 128] inb_S4x256x128_S1x256x128_2_0_0, p2⟩,
      ⟨Rect.unit ![1, 0, 0] ![1, 256, 128] inb_S4x256x128_S1x256x128_1_0_0, p1⟩,
      ⟨Rect.unit ![0, 0, 0] ![1, 256, 128] inb_S4x256x128_S1x256x128_0_0_0, p0⟩] (ix3 s r l) = f s := by
  canon_tiles x h
  · have h0' : s.val = 3 + (x 0).val := h0
    obtain rfl : s = 3 := Fin.ext (by show s.val = 3; omega)
    obtain rfl := idx3 x r l h1.symm h2.symm
    exact e3
  · have h0' : s.val = 2 + (x 0).val := h0
    obtain rfl : s = 2 := Fin.ext (by show s.val = 2; omega)
    obtain rfl := idx3 x r l h1.symm h2.symm
    exact e2
  · have h0' : s.val = 1 + (x 0).val := h0
    obtain rfl : s = 1 := Fin.ext (by show s.val = 1; omega)
    obtain rfl := idx3 x r l h1.symm h2.symm
    exact e1
  · have h0' : s.val = 0 + (x 0).val := h0.trans (Nat.zero_add _).symm
    obtain rfl : s = 0 := Fin.ext (by show s.val = 0; omega)
    obtain rfl := idx3 x r l h1.symm h2.symm
    exact e0

theorem canon3 (p0 p1 p2 : VecA) (f : Fin 3 → Fin 1024 → EReal) (r : Fin 256) (j : Fin 3072)
    (e0 : ∀ l, p0 (ix2 r l) = f 0 l) (e1 : ∀ l, p1 (ix2 r l) = f 1 l) (e2 : ∀ l, p2 (ix2 r l) = f 2 l) :
    View.canon [(⟨Rect.unit ![0, 2048] ![256, 1024] inb_S256x3072_S256x1024_0_2048, p2⟩ : View.Piece (Elt Ideal) S256x3072 .bf16),
      ⟨Rect.unit ![0, 1024] ![256, 1024] inb_S256x3072_S256x1024_0_1024, p1⟩,
      ⟨Rect.unit ![0, 0] ![256, 1024] inb_S256x3072_S256x1024_0_0, p0⟩] (ix2 r j) = f ⟨j.val / 1024, by omega⟩ ⟨j.val % 1024, by omega⟩ := by
  canon_tiles x h
  · have h1' : j.val = 2048 + (x 1).val := h1
    have e : x = ix2 r ⟨j.val % 1024, by omega⟩ := by
      have a0 : x 0 = r := Fin.ext h0.symm
      have a1 : x 1 = (⟨j.val % 1024, by omega⟩ : Fin 1024) := Fin.ext (by show (x 1).val = j.val % 1024; omega)
      refine (eq_ix2 x).trans ?_
      rw [a0, a1]
    have e' : (⟨j.val / 1024, by omega⟩ : Fin 3) = 2 := Fin.ext (by show j.val / 1024 = 2; omega)
    rw [e, e']
    exact e2 _
  · have h1' : j.val = 1024 + (x 1).val := h1
    have e : x = ix2 r ⟨j.val % 1024, by omega⟩ := by
      have a0 : x 0 = r := Fin.ext h0.symm
      have a1 : x 1 = (⟨j.val % 1024, by omega⟩ : Fin 1024) := Fin.ext (by show (x 1).val = j.val % 1024; omega)
      refine (eq_ix2 x).trans ?_
      rw [a0, a1]
    have e' : (⟨j.val / 1024, by omega⟩ : Fin 3) = 1 := Fin.ext (by show j.val / 1024 = 1; omega)
    rw [e, e']
    exact e1 _
  · have h1' : j.val = 0 + (x 1).val := h1.trans (Nat.zero_add _).symm
    have e : x = ix2 r ⟨j.val % 1024, by omega⟩ := by
      have a0 : x 0 = r := Fin.ext h0.symm
      have a1 : x 1 = (⟨j.val % 1024, by omega⟩ : Fin 1024) := Fin.ext (by show (x 1).val = j.val % 1024; omega)
      refine (eq_ix2 x).trans ?_
      rw [a0, a1]
    have e' : (⟨j.val / 1024, by omega⟩ : Fin 3) = 0 := Fin.ext (by show j.val / 1024 = 0; omega)
    rw [e, e']
    exact e0 _

theorem rowEmb (i : Fin 3) (h) (l : Fin 1024) : (Rect.unit (s := S3x1024) ![i.val, 0] ![1, 1024] h).emb (ix2 0 l) = (ix2 i l : S3x1024.Idx) := by
  funext b
  apply Fin.ext
  fin_cases b <;> simp

theorem allEmb (i : Fin 3) (h) (l : Fin 1024) : (Rect.unit (s := S3x1024) ![0, 0] ![3, 1024] h).emb (ix2 i l) = (ix2 i l : S3x1024.Idx) := by
  funext b
  apply Fin.ext
  fin_cases b <;> simp

theorem canonHit (i : Fin 3) (h) (w : VecB) (L : List (View.Piece (Elt Ideal) S3x1024 .f32)) (l : Fin 1024) :
    View.canon ((⟨Rect.unit ![i.val, 0] ![1, 1024] h, w⟩ : View.Piece (Elt Ideal) S3x1024 .f32) :: L) (ix2 i l) = w (ix2 0 l) := by
  have e := View.canon_cons_emb (Rect.unit (s := S3x1024) ![i.val, 0] ![1, 1024] h) w L (ix2 0 l)
  rw [rowEmb i h l] at e
  exact e

theorem canonMiss (i i' : Fin 3) (hi : i.val ≠ i'.val) (h) (w : VecB) (L : List (View.Piece (Elt Ideal) S3x1024 .f32)) (l : Fin 1024) :
    View.canon ((⟨Rect.unit ![i'.val, 0] ![1, 1024] h, w⟩ : View.Piece (Elt Ideal) S3x1024 .f32) :: L) (ix2 i l) = View.canon L (ix2 i l) := by
  refine View.canon_cons_of_not_mem _ _ fun hm => ?_
  have hm' := (Rect.mem_set_unit (inb := h) (i := (ix2 i l : S3x1024.Idx))).mp hm 0
  have a : i'.val ≤ i.val ∧ i.val < i'.val + 1 := hm'
  omega

theorem canonAll (h) (z : VecJ) (i : Fin 3) (l : Fin 1024) :
    View.canon [(⟨Rect.unit ![0, 0] ![3, 1024] h, z⟩ : View.Piece (Elt Ideal) S3x1024 .f32)] (ix2 i l) = z (ix2 i l) := by
  have e := View.canon_cons_emb (Rect.unit (s := S3x1024) ![0, 0] ![3, 1024] h) z [] (ix2 i l)
  rw [allEmb i h l] at e
  exact e

theorem readRow {κ sp} (v : View sig κ sp S3x1024 .f32) (i : Fin 3) (h) (L : List (View.Piece (Elt Ideal) S3x1024 .f32)) (l : Fin 1024) :
    v.readCov L (Rect.unit (s := S3x1024) ![i.val, 0] ![1, 1024] h).toLoadRect (ix2 0 l : S1x1024.Idx) = View.canon L (ix2 i l) := by
  have e := congrFun (View.readCov_eq_canon' v L (Rect.unit (s := S3x1024) ![i.val, 0] ![1, 1024] h).toLoadRect) (ix2 0 l)
  refine e.trans ?_
  rw [← rowEmb i h l]
  rfl

theorem zero7 (i : Fin 3) (l : Fin 1024) : k0_pay7 (F := Ideal) (ix2 i l) = 0 := by
  unfold k0_pay7
  pointwise []
theorem zero4 (k : Fin 256) (l : Fin 1024) : k0_pay4 (F := Ideal) (ix2 k l) = 0 := by
  unfold k0_pay4
  pointwise []
theorem zero5 (k : Fin 512) (l : Fin 1024) : k0_pay5 (F := Ideal) (ix2 k l) = 0 := by
  unfold k0_pay5
  pointwise []
theorem zero6 (k : Fin 256) (l : Fin 1024) : k0_pay6 (F := Ideal) (ix2 k l) = 0 := by
  unfold k0_pay6
  pointwise []

theorem o10 (H : Blk A R x0 x1 x2 x3 x4 x5 x6 x7 x8 x9) (s : Fin 2) (r : Fin 256) (l : Fin 128) :
    View.canon [(⟨Rect.unit ![1, 0, 0] ![1, 256, 128] inb_S2x256x128_S1x256x128_1_0_0, k0_pay19 (k0_pay8 x0 x9) (k0_pay10 (View.ld x4 (Rect.unit ![0, 0] ![256, 1024] inb_S256x3072_S256x1024_0_0)) (View.ld x5 (Rect.unit ![0, 0] ![1, 1024] inb_S3x1024_S1x1024_0_0))) x6⟩ : View.Piece (Elt Ideal) S2x256x128 .f32),
      ⟨Rect.unit ![0, 0, 0] ![1, 256, 128] inb_S2x256x128_S1x256x128_0_0_0, k0_pay18 (k0_pay8 x0 x9) (k0_pay10 (View.ld x4 (Rect.unit ![0, 0] ![256, 1024] inb_S256x3072_S256x1024_0_0)) (View.ld x5 (Rect.unit ![0, 0] ![1, 1024] inb_S3x1024_S1x1024_0_0))) x6⟩] (ix3 s r l)
      = do2At A 0 A.wa s (R r) l :=
  canon2 _ _ (fun s => do2At A 0 A.wa s (R r) l) s r l
    ((pay18 _ _ _ r l).trans (sum3 _ _ _ _ _ _ (fun k => bD H r k) (fun k => bS0 H r k) (fun k => (H.h6 _ k).trans (congrArg (fun n => A.wa (ix2 n k)) (Fin.ext (by simp))))))
    ((pay19 _ _ _ r l).trans (sum3 _ _ _ _ _ _ (fun k => bD H r k) (fun k => bS0 H r k) (fun k => (H.h6 _ k).trans (congrArg (fun n => A.wa (ix2 n k)) (Fin.ext (by simp))))))

theorem o12 (H : Blk A R x0 x1 x2 x3 x4 x5 x6 x7 x8 x9) (s : Fin 2) (r : Fin 256) (l : Fin 128) :
    View.canon [(⟨Rect.unit ![1, 0, 0] ![1, 256, 128] inb_S2x256x128_S1x256x128_1_0_0, k0_pay47 (k0_pay8 x0 x9) (k0_pay39 (View.ld x4 (Rect.unit ![0, 2048] ![256, 1024] inb_S256x3072_S256x1024_0_2048)) (View.ld x5 (Rect.unit ![2, 0] ![1, 1024] inb_S3x1024_S1x1024_2_0))) x8⟩ : View.Piece (Elt Ideal) S2x256x128 .f32),
      ⟨Rect.unit ![0, 0, 0] ![1, 256, 128] inb_S2x256x128_S1x256x128_0_0_0, k0_pay46 (k0_pay8 x0 x9) (k0_pay39 (View.ld x4 (Rect.unit ![0, 2048] ![256, 1024] inb_S256x3072_S256x1024_0_2048)) (View.ld x5 (Rect.unit ![2, 0] ![1, 1024] inb_S3x1024_S1x1024_2_0))) x8⟩] (ix3 s r l)
      = do2At A 2 A.wc s (R r) l :=
  canon2 _ _ (fun s => do2At A 2 A.wc s (R r) l) s r l
    ((pay46 _ _ _ r l).trans (sum3 _ _ _ _ _ _ (fun k => bD H r k) (fun k => bS2 H r k) (fun k => (H.h8 _ k).trans (congrArg (fun n => A.wc (ix2 n k)) (Fin.ext (by simp))))))
    ((pay47 _ _ _ r l).trans (sum3 _ _ _ _ _ _ (fun k => bD H r k) (fun k => bS2 H r k) (fun k => (H.h8 _ k).trans (congrArg (fun n => A.wc (ix2 n k)) (Fin.ext (by simp))))))

theorem o11 (H : Blk A R x0 x1 x2 x3 x4 x5 x6 x7 x8 x9) (s : Fin 4) (r : Fin 256) (l : Fin 128) :
    View.canon [(⟨Rect.unit ![3, 0, 0] ![1, 256, 128] inb_S4x256x128_S1x256x128_3_0_0, k0_pay36 (k0_pay31 (k0_pay8 x0 x9) (View.ld x4 (Rect.unit ![0, 1024] ![256, 1024] inb_S256x3072_S256x1024_0_1024)) (View.ld x5 (Rect.unit ![1, 0] ![1, 1024] inb_S3x1024_S1x1024_1_0)) x7)⟩ : View.Piece (Elt Ideal) S4x256x128 .f32),
      ⟨Rect.unit ![2, 0, 0] ![1, 256, 128] inb_S4x256x128_S1x256x128_2_0_0, k0_pay35 (k0_pay31 (k0_pay8 x0 x9) (View.ld x4 (Rect.unit ![0, 1024] ![256, 1024] inb_S256x3072_S256x1024_0_1024)) (View.ld x5 (Rect.unit ![1, 0] ![1, 1024] inb_S3x1024_S1x1024_1_0)) x7)⟩,
      ⟨Rect.unit ![1, 0, 0] ![1, 256, 128] inb_S4x256x128_S1x256x128_1_0_0, k0_pay34 (k0_pay33 (k0_pay8 x0 x9) (View.ld x4 (Rect.unit ![0, 1024] ![256, 1024] inb_S256x3072_S256x1024_0_1024)) (View.ld x5 (Rect.unit ![1, 0] ![1, 1024] inb_S3x1024_S1x1024_1_0)) x7)⟩,
      ⟨Rect.unit ![0, 0, 0] ![1, 256, 128] inb_S4x256x128_S1x256x128_0_0_0, k0_pay32 (k0_pay8 x0 x9) (View.ld x4 (Rect.unit ![0, 1024] ![256, 1024] inb_S256x3072_S256x1024_0_1024)) (View.ld x5 (Rect.unit ![1, 0] ![1, 1024] inb_S3x1024_S1x1024_1_0)) x7⟩] (ix3 s r l)
      = do4At A 1 A.wb s (R r) l :=
  canon4 _ _ _ _ (fun s => do4At A 1 A.wb s (R r) l) s r l
    ((pay32 _ _ _ _ r l).trans (sum3 _ _ _ _ _ _ (fun k => bD H r k) (fun k => bS1 H r k) (fun k => (H.h7 _ k).trans (congrArg (fun n => A.wb (ix2 n k)) (Fin.ext (by simp))))))
    ((pay34 _ _ _ _ r l).trans (sum3 _ _ _ _ _ _ (fun k => bD H r k) (fun k => bS1 H r k) (fun k => (H.h7 _ k).trans (congrArg (fun n => A.wb (ix2 n k)) (Fin.ext (by simp))))))
    ((pay35 _ _ _ _ r l).trans (sum3 _ _ _ _ _ _ (fun k => bD H r k) (fun k => bS1 H r k) (fun k => (H.h7 _ k).trans (congrArg (fun n => A.wb (ix2 n k)) (Fin.ext (by simp))))))
    ((pay36 _ _ _ _ r l).trans (sum3 _ _ _ _ _ _ (fun k => bD H r k) (fun k => bS1 H r k) (fun k => (H.h7 _ k).trans (congrArg (fun n => A.wb (ix2 n k)) (Fin.ext (by simp))))))

theorem o13 (H : Blk A R x0 x1 x2 x3 x4 x5 x6 x7 x8 x9) (r : Fin 256) (j : Fin 3072) :
    View.canon [(⟨Rect.unit ![0, 2048] ![256, 1024] inb_S256x3072_S256x1024_0_2048, k0_pay42 (k0_pay39 (View.ld x4 (Rect.unit ![0, 2048] ![256, 1024] inb_S256x3072_S256x1024_0_2048)) (View.ld x5 (Rect.unit ![2, 0] ![1, 1024] inb_S3x1024_S1x1024_2_0))) (k0_pay40 (k0_pay8 x0 x9) (View.ld x3 (Rect.unit ![0, 0, 0] ![1, 256, 128] inb_S2x256x128_S1x256x128_0_0_0)) (View.ld x3 (Rect.unit ![1, 0, 0] ![1, 256, 128] inb_S2x256x128_S1x256x128_1_0_0)) x8 (View.ld x4 (Rect.unit ![0, 2048] ![256, 1024] inb_S256x3072_S256x1024_0_2048)) (View.ld x5 (Rect.unit ![2, 0] ![1, 1024] inb_S3x1024_S1x1024_2_0)))⟩ : View.Piece (Elt Ideal) S256x3072 .bf16),
      ⟨Rect.unit ![0, 1024] ![256, 1024] inb_S256x3072_S256x1024_0_1024, k0_pay28 (k0_pay8 x0 x9) (k0_pay21 (View.ld x2 (Rect.unit ![0, 0, 0] ![1, 256, 128] inb_S4x256x128_S1x256x128_0_0_0))) (k0_pay22 (View.ld x2 (Rect.unit ![1, 0, 0] ![1, 256, 128] inb_S4x256x128_S1x256x128_1_0_0))) (k0_pay23 (View.ld x2 (Rect.unit ![2, 0, 0] ![1, 256, 128] inb_S4x256x128_S1x256x128_2_0_0))) (k0_pay24 (View.ld x2 (Rect.unit ![3, 0, 0] ![1, 256, 128] inb_S4x256x128_S1x256x128_3_0_0))) x7 (View.ld x4 (Rect.unit ![0, 1024] ![256, 1024] inb_S256x3072_S256x1024_0_1024)) (View.ld x5 (Rect.unit ![1, 0] ![1, 1024] inb_S3x1024_S1x1024_1_0))⟩,
      ⟨Rect.unit ![0, 0] ![256, 1024] inb_S256x3072_S256x1024_0_0, k0_pay12 x0 x9 (View.ld x1 (Rect.unit ![0, 0, 0] ![1, 256, 128] inb_S2x256x128_S1x256x128_0_0_0)) (View.ld x1 (Rect.unit ![1, 0, 0] ![1, 256, 128] inb_S2x256x128_S1x256x128_1_0_0)) x6 (View.ld x4 (Rect.unit ![0, 0] ![256, 1024] inb_S256x3072_S256x1024_0_0)) (View.ld x5 (Rect.unit ![0, 0] ![1, 1024] inb_S3x1024_S1x1024_0_0))⟩] (ix2 r j)
      = dgAt A ⟨j.val / 1024, by omega⟩ (R r) ⟨j.val % 1024, by omega⟩ :=
  canon3 _ _ _ (fun i l => dgAt A i (R r) l) r j (fun l => bG0 H r l) (fun l => bG1 H r l) (fun l => bG2 H r l)

theorem sc0 (H : Blk A R x0 x1 x2 x3 x4 x5 x6 x7 x8 x9) (acc : VecN) (k : Fin 256) (l : Fin 1024) :
    k0_pay20 (k0_pay8 x0 x9) (k0_pay9 (View.ld x1 (Rect.unit ![0, 0, 0] ![1, 256, 128] inb_S2x256x128_S1x256x128_0_0_0)) (View.ld x1 (Rect.unit ![1, 0, 0] ![1, 256, 128] inb_S2x256x128_S1x256x128_1_0_0))) (k0_pay10 (View.ld x4 (Rect.unit ![0, 0] ![256, 1024] inb_S256x3072_S256x1024_0_0)) (View.ld x5 (Rect.unit ![0, 0] ![1, 1024] inb_S3x1024_S1x1024_0_0))) acc (ix2 k l) = acc (ix2 k l) + ∑ r : Fin 256, dw2 A 0 A.oa k l (R r) :=
  (pay20 _ _ _ _ acc k l).trans (congrArg _ (sum3' _ _ _ _ _ _ (fun r => bA H r k) (fun r => bD H r l) (fun r => bS0 H r l)))

theorem sc1 (H : Blk A R x0 x1 x2 x3 x4 x5 x6 x7 x8 x9) (acc : Vec Ideal S512x1024 .f32) (k : Fin 512) (l : Fin 1024) :
    k0_pay37 (k0_pay25 (k0_pay21 (View.ld x2 (Rect.unit ![0, 0, 0] ![1, 256, 128] inb_S4x256x128_S1x256x128_0_0_0))) (k0_pay22 (View.ld x2 (Rect.unit ![1, 0, 0] ![1, 256, 128] inb_S4x256x128_S1x256x128_1_0_0))) (k0_pay23 (View.ld x2 (Rect.unit ![2, 0, 0] ![1, 256, 128] inb_S4x256x128_S1x256x128_2_0_0))) (k0_pay24 (View.ld x2 (Rect.unit ![3, 0, 0] ![1, 256, 128] inb_S4x256x128_S1x256x128_3_0_0)))) (k0_pay30 (k0_pay8 x0 x9) (View.ld x4 (Rect.unit ![0, 1024] ![256, 1024] inb_S256x3072_S256x1024_0_1024)) (View.ld x5 (Rect.unit ![1, 0] ![1, 1024] inb_S3x1024_S1x1024_1_0))) acc (ix2 k l) = acc (ix2 k l) + ∑ r : Fin 256, dw4 A 1 A.ob k l (R r) :=
  (pay37 _ _ _ _ _ _ _ acc k l).trans (congrArg _ (sum3' _ _ _ _ _ _ (fun r => bB H r k) (fun r => bD H r l) (fun r => bS1 H r l)))

theorem sc2 (H : Blk A R x0 x1 x2 x3 x4 x5 x6 x7 x8 x9) (acc : VecN) (k : Fin 256) (l : Fin 1024) :
    k0_pay48 (k0_pay8 x0 x9) (k0_pay38 (View.ld x3 (Rect.unit ![0, 0, 0] ![1, 256, 128] inb_S2x256x128_S1x256x128_0_0_0)) (View.ld x3 (Rect.unit ![1, 0, 0] ![1, 256, 128] inb_S2x256x128_S1x256x128_1_0_0))) (k0_pay39 (View.ld x4 (Rect.unit ![0, 2048] ![256, 1024] inb_S256x3072_S256x1024_0_2048)) (View.ld x5 (Rect.unit ![2, 0] ![1, 1024] inb_S3x1024_S1x1024_2_0))) acc (ix2 k l) = acc (ix2 k l) + ∑ r : Fin 256, dw2 A 2 A.oc k l (R r) :=
  (pay48 _ _ _ _ acc k l).trans (congrArg _ (sum3' _ _ _ _ _ _ (fun r => bC H r k) (fun r => bD H r l) (fun r => bS2 H r l)))

theorem row0 (H : Blk A R x0 x1 x2 x3 x4 x5 x6 x7 x8 x9) (v : VecB) (l : Fin 1024) :
    k0_pay15 (k0_pay13 v) (k0_pay14 x0 x9 (View.ld x1 (Rect.unit ![0, 0, 0] ![1, 256, 128] inb_S2x256x128_S1x256x128_0_0_0)) (View.ld x1 (Rect.unit ![1, 0, 0] ![1, 256, 128] inb_S2x256x128_S1x256x128_1_0_0)) x6 (View.ld x4 (Rect.unit ![0, 0] ![256, 1024] inb_S256x3072_S256x1024_0_0)) (View.ld x5 (Rect.unit ![0, 0] ![1, 1024] inb_S3x1024_S1x1024_0_0))) (ix2 0 l) = v (ix2 0 l) + ∑ r : Fin 256, dgAt A 0 (R r) l :=
  (pay15 _ _ _ _ _ _ _ _ l).trans (congrArg _ (Finset.sum_congr rfl fun r _ => bG0 H r l))

theorem row1 (H : Blk A R x0 x1 x2 x3 x4 x5 x6 x7 x8 x9) (v : VecB) (l : Fin 1024) :
    k0_pay29 (k0_pay8 x0 x9) (k0_pay21 (View.ld x2 (Rect.unit ![0, 0, 0] ![1, 256, 128] inb_S4x256x128_S1x256x128_0_0_0))) (k0_pay22 (View.ld x2 (Rect.unit ![1, 0, 0] ![1, 256, 128] inb_S4x256x128_S1x256x128_1_0_0))) (k0_pay23 (View.ld x2 (Rect.unit ![2, 0, 0] ![1, 256, 128] inb_S4x256x128_S1x256x128_2_0_0))) (k0_pay24 (View.ld x2 (Rect.unit ![3, 0, 0] ![1, 256, 128] inb_S4x256x128_S1x256x128_3_0_0))) x7 (View.ld x4 (Rect.unit ![0, 1024] ![256, 1024] inb_S256x3072_S256x1024_0_1024)) (View.ld x5 (Rect.unit ![1, 0] ![1, 1024] inb_S3x1024_S1x1024_1_0)) v (ix2 0 l) = v (ix2 0 l) + ∑ r : Fin 256, dgAt A 1 (R r) l :=
  (pay29 _ _ _ _ _ _ _ _ _ l).trans (congrArg _ (Finset.sum_congr rfl fun r _ => bG1 H r l))

theorem row2 (H : Blk A R x0 x1 x2 x3 x4 x5 x6 x7 x8 x9) (v : VecB) (l : Fin 1024) :
    k0_pay43 (k0_pay39 (View.ld x4 (Rect.unit ![0, 2048] ![256, 1024] inb_S256x3072_S256x1024_0_2048)) (View.ld x5 (Rect.unit ![2, 0] ![1, 1024] inb_S3x1024_S1x1024_2_0))) (k0_pay40 (k0_pay8 x0 x9) (View.ld x3 (Rect.unit ![0, 0, 0] ![1, 256, 128] inb_S2x256x128_S1x256x128_0_0_0)) (View.ld x3 (Rect.unit ![1, 0, 0] ![1, 256, 128] inb_S2x256x128_S1x256x128_1_0_0)) x8 (View.ld x4 (Rect.unit ![0, 2048] ![256, 1024] inb_S256x3072_S256x1024_0_2048)) (View.ld x5 (Rect.unit ![2, 0] ![1, 1024] inb_S3x1024_S1x1024_2_0))) v (ix2 0 l) = v (ix2 0 l) + ∑ r : Fin 256, dgAt A 2 (R r) l :=
  (pay43 _ _ _ l).trans (congrArg _ (Finset.sum_congr rfl fun r _ => bG2 H r l))

theorem o17 (H : Blk A R x0 x1 x2 x3 x4 x5 x6 x7 x8 x9) (o : VecJ) (i : Fin 3) (l : Fin 1024) :
    View.canon [(⟨Rect.unit ![2, 0] ![1, 1024] inb_S3x1024_S1x1024_2_0, k0_pay43 (k0_pay39 (View.ld x4 (Rect.unit ![0, 2048] ![256, 1024] inb_S256x3072_S256x1024_0_2048)) (View.ld x5 (Rect.unit ![2, 0] ![1, 1024] inb_S3x1024_S1x1024_2_0))) (k0_pay40 (k0_pay8 x0 x9) (View.ld x3 (Rect.unit ![0, 0, 0] ![1, 256, 128] inb_S2x256x128_S1x256x128_0_0_0)) (View.ld x3 (Rect.unit ![1, 0, 0] ![1, 256, 128] inb_S2x256x128_S1x256x128_1_0_0)) x8 (View.ld x4 (Rect.unit ![0, 2048] ![256, 1024] inb_S256x3072_S256x1024_0_2048)) (View.ld x5 (Rect.unit ![2, 0] ![1, 1024] inb_S3x1024_S1x1024_2_0))) (View.ld o (Rect.unit ![2, 0] ![1, 1024] inb_S3x1024_S1x1024_2_0))⟩ : View.Piece (Elt Ideal) S3x1024 .f32),
      ⟨Rect.unit ![1, 0] ![1, 1024] inb_S3x1024_S1x1024_1_0, k0_pay29 (k0_pay8 x0 x9) (k0_pay21 (View.ld x2 (Rect.unit ![0, 0, 0] ![1, 256, 128] inb_S4x256x128_S1x256x128_0_0_0))) (k0_pay22 (View.ld x2 (Rect.unit ![1, 0, 0] ![1, 256, 128] inb_S4x256x128_S1x256x128_1_0_0))) (k0_pay23 (View.ld x2 (Rect.unit ![2, 0, 0] ![1, 256, 128] inb_S4x256x128_S1x256x128_2_0_0))) (k0_pay24 (View.ld x2 (Rect.unit ![3, 0, 0] ![1, 256, 128] inb_S4x256x128_S1x256x128_3_0_0))) x7 (View.ld x4 (Rect.unit ![0, 1024] ![256, 1024] inb_S256x3072_S256x1024_0_1024)) (View.ld x5 (Rect.unit ![1, 0] ![1, 1024] inb_S3x1024_S1x1024_1_0)) (View.ld o (Rect.unit ![1, 0] ![1, 1024] inb_S3x1024_S1x1024_1_0))⟩,
      ⟨Rect.unit ![0, 0] ![1, 1024] inb_S3x1024_S1x1024_0_0, k0_pay15 (k0_pay13 (View.ld o (Rect.unit ![0, 0] ![1, 1024] inb_S3x1024_S1x1024_0_0))) (k0_pay14 x0 x9 (View.ld x1 (Rect.unit ![0, 0, 0] ![1, 256, 128] inb_S2x256x128_S1x256x128_0_0_0)) (View.ld x1 (Rect.unit ![1, 0, 0] ![1, 256, 128] inb_S2x256x128_S1x256x128_1_0_0)) x6 (View.ld x4 (Rect.unit ![0, 0] ![256, 1024] inb_S256x3072_S256x1024_0_0)) (View.ld x5 (Rect.unit ![0, 0] ![1, 1024] inb_S3x1024_S1x1024_0_0)))⟩] (ix2 i l)
      = o (ix2 i l) + ∑ r : Fin 256, dgAt A i (R r) l := by
  obtain rfl | rfl | rfl : i = 0 ∨ i = 1 ∨ i = 2 := by
    revert i
    decide
  · refine (canonMiss 0 2 (by decide) _ _ _ l).trans ((canonMiss 0 1 (by decide) _ _ _ l).trans ((canonHit 0 _ _ _ l).trans ((row0 H _ l).trans ?_)))
    exact congrArg (· + _) (congrFun (row o 0 _) (ix2 0 l))
  · refine (canonMiss 1 2 (by decide) _ _ _ l).trans ((canonHit 1 _ _ _ l).trans ((row1 H _ l).trans ?_))
    exact congrArg (· + _) (congrFun (row o 1 _) (ix2 0 l))
  · refine (canonHit 2 _ _ _ l).trans ((row2 H _ l).trans ?_)
    exact congrArg (· + _) (congrFun (row o 2 _) (ix2 0 l))

theorem o17A (H : Blk A R x0 x1 x2 x3 x4 x5 x6 x7 x8 x9) {κ sp} (v : View sig κ sp S3x1024 .f32) (i : Fin 3) (l : Fin 1024) :
    View.canon [(⟨Rect.unit ![2, 0] ![1, 1024] inb_S3x1024_S1x1024_2_0, k0_pay43 (k0_pay39 (View.ld x4 (Rect.unit ![0, 2048] ![256, 1024] inb_S256x3072_S256x1024_0_2048)) (View.ld x5 (Rect.unit ![2, 0] ![1, 1024] inb_S3x1024_S1x1024_2_0))) (k0_pay40 (k0_pay8 x0 x9) (View.ld x3 (Rect.unit ![0, 0, 0] ![1, 256, 128] inb_S2x256x128_S1x256x128_0_0_0)) (View.ld x3 (Rect.unit ![1, 0, 0] ![1, 256, 128] inb_S2x256x128_S1x256x128_1_0_0)) x8 (View.ld x4 (Rect.unit ![0, 2048] ![256, 1024] inb_S256x3072_S256x1024_0_2048)) (View.ld x5 (Rect.unit ![2, 0] ![1, 1024] inb_S3x1024_S1x1024_2_0))) (v.readCov [⟨Rect.unit ![1, 0] ![1, 1024] inb_S3x1024_S1x1024_1_0, k0_pay29 (k0_pay8 x0 x9) (k0_pay21 (View.ld x2 (Rect.unit ![0, 0, 0] ![1, 256, 128] inb_S4x256x128_S1x256x128_0_0_0))) (k0_pay22 (View.ld x2 (Rect.unit ![1, 0, 0] ![1, 256, 128] inb_S4x256x128_S1x256x128_1_0_0))) (k0_pay23 (View.ld x2 (Rect.unit ![2, 0, 0] ![1, 256, 128] inb_S4x256x128_S1x256x128_2_0_0))) (k0_pay24 (View.ld x2 (Rect.unit ![3, 0, 0] ![1, 256, 128] inb_S4x256x128_S1x256x128_3_0_0))) x7 (View.ld x4 (Rect.unit ![0, 1024] ![256, 1024] inb_S256x3072_S256x1024_0_1024)) (View.ld x5 (Rect.unit ![1, 0] ![1, 1024] inb_S3x1024_S1x1024_1_0)) (v.readCov [⟨Rect.unit ![0, 0] ![1, 1024] inb_S3x1024_S1x1024_0_0, k0_pay15 (k0_pay13 (v.readCov [⟨Rect.unit ![0, 0] ![3, 1024] inb_S3x1024_S3x1024_0_0, k0_pay7 (F := Ideal)⟩] (Rect.unit ![0, 0] ![1, 1024] inb_S3x1024_S1x1024_0_0).toLoadRect)) (k0_pay14 x0 x9 (View.ld x1 (Rect.unit ![0, 0, 0] ![1, 256, 128] inb_S2x256x128_S1x256x128_0_0_0)) (View.ld x1 (Rect.unit ![1, 0, 0] ![1, 256, 128] inb_S2x256x128_S1x256x128_1_0_0)) x6 (View.ld x4 (Rect.unit ![0, 0] ![256, 1024] inb_S256x3072_S256x1024_0_0)) (View.ld x5 (Rect.unit ![0, 0] ![1, 1024] inb_S3x1024_S1x1024_0_0)))⟩, ⟨Rect.unit ![0, 0] ![3, 1024] inb_S3x1024_S3x1024_0_0, k0_pay7 (F := Ideal)⟩] (Rect.unit ![1, 0] ![1, 1024] inb_S3x1024_S1x1024_1_0).toLoadRect)⟩, ⟨Rect.unit ![0, 0] ![1, 1024] inb_S3x1024_S1x1024_0_0, k0_pay15 (k0_pay13 (v.readCov [⟨Rect.unit ![0, 0] ![3, 1024] inb_S3x1024_S3x1024_0_0, k0_pay7 (F := Ideal)⟩] (Rect.unit ![0, 0] ![1, 1024] inb_S3x1024_S1x1024_0_0).toLoadRect)) (k0_pay14 x0 x9 (View.ld x1 (Rect.unit ![0, 0, 0] ![1, 256, 128] inb_S2x256x128_S1x256x128_0_0_0)) (View.ld x1 (Rect.unit ![1, 0, 0] ![1, 256, 128] inb_S2x256x128_S1x256x128_1_0_0)) x6 (View.ld x4 (Rect.unit ![0, 0] ![256, 1024] inb_S256x3072_S256x1024_0_0)) (View.ld x5 (Rect.unit ![0, 0] ![1, 1024] inb_S3x1024_S1x1024_0_0)))⟩, ⟨Rect.unit ![0, 0] ![3, 1024] inb_S3x1024_S3x1024_0_0, k0_pay7 (F := Ideal)⟩] (Rect.unit ![2, 0] ![1, 1024] inb_S3x1024_S1x1024_2_0).toLoadRect)⟩ : View.Piece (Elt Ideal) S3x1024 .f32),
      ⟨Rect.unit ![1, 0] ![1, 1024] inb_S3x1024_S1x1024_1_0, k0_pay29 (k0_pay8 x0 x9) (k0_pay21 (View.ld x2 (Rect.unit ![0, 0, 0] ![1, 256, 128] inb_S4x256x128_S1x256x128_0_0_0))) (k0_pay22 (View.ld x2 (Rect.unit ![1, 0, 0] ![1, 256, 128] inb_S4x256x128_S1x256x128_1_0_0))) (k0_pay23 (View.ld x2 (Rect.unit ![2, 0, 0] ![1, 256, 128] inb_S4x256x128_S1x256x128_2_0_0))) (k0_pay24 (View.ld x2 (Rect.unit ![3, 0, 0] ![1, 256, 128] inb_S4x256x128_S1x256x128_3_0_0))) x7 (View.ld x4 (Rect.unit ![0, 1024] ![256, 1024] inb_S256x3072_S256x1024_0_1024)) (View.ld x5 (Rect.unit ![1, 0] ![1, 1024] inb_S3x1024_S1x1024_1_0)) (v.readCov [⟨Rect.unit ![0, 0] ![1, 1024] inb_S3x1024_S1x1024_0_0, k0_pay15 (k0_pay13 (v.readCov [⟨Rect.unit ![0, 0] ![3, 1024] inb_S3x1024_S3x1024_0_0, k0_pay7 (F := Ideal)⟩] (Rect.unit ![0, 0] ![1, 1024] inb_S3x1024_S1x1024_0_0).toLoadRect)) (k0_pay14 x0 x9 (View.ld x1 (Rect.unit ![0, 0, 0] ![1, 256, 128] inb_S2x256x128_S1x256x128_0_0_0)) (View.ld x1 (Rect.unit ![1, 0, 0] ![1, 256, 128] inb_S2x256x128_S1x256x128_1_0_0)) x6 (View.ld x4 (Rect.unit ![0, 0] ![256, 1024] inb_S256x3072_S256x1024_0_0)) (View.ld x5 (Rect.unit ![0, 0] ![1, 1024] inb_S3x1024_S1x1024_0_0)))⟩, ⟨Rect.unit ![0, 0] ![3, 1024] inb_S3x1024_S3x1024_0_0, k0_pay7 (F := Ideal)⟩] (Rect.unit ![1, 0] ![1, 1024] inb_S3x1024_S1x1024_1_0).toLoadRect)⟩,
      ⟨Rect.unit ![0, 0] ![1, 1024] inb_S3x1024_S1x1024_0_0, k0_pay15 (k0_pay13 (v.readCov [⟨Rect.unit ![0, 0] ![3, 1024] inb_S3x1024_S3x1024_0_0, k0_pay7 (F := Ideal)⟩] (Rect.unit ![0, 0] ![1, 1024] inb_S3x1024_S1x1024_0_0).toLoadRect)) (k0_pay14 x0 x9 (View.ld x1 (Rect.unit ![0, 0, 0] ![1, 256, 128] inb_S2x256x128_S1x256x128_0_0_0)) (View.ld x1 (Rect.unit ![1, 0, 0] ![1, 256, 128] inb_S2x256x128_S1x256x128_1_0_0)) x6 (View.ld x4 (Rect.unit ![0, 0] ![256, 1024] inb_S256x3072_S256x1024_0_0)) (View.ld x5 (Rect.unit ![0, 0] ![1, 1024] inb_S3x1024_S1x1024_0_0)))⟩,
      ⟨Rect.unit ![0, 0] ![3, 1024] inb_S3x1024_S3x1024_0_0, k0_pay7 (F := Ideal)⟩] (ix2 i l)
      = 0 + ∑ r : Fin 256, dgAt A i (R r) l := by
  obtain rfl | rfl | rfl : i = 0 ∨ i = 1 ∨ i = 2 := by
    revert i
    decide
  · refine (canonMiss 0 2 (by decide) _ _ _ l).trans ((canonMiss 0 1 (by decide) _ _ _ l).trans ((canonHit 0 _ _ _ l).trans ((row0 H _ l).trans ?_)))
    exact congrArg (· + _) ((readRow v 0 _ _ l).trans ((canonAll _ _ 0 l).trans (zero7 0 l)))
  · refine (canonMiss 1 2 (by decide) _ _ _ l).trans ((canonHit 1 _ _ _ l).trans ((row1 H _ l).trans ?_))
    exact congrArg (· + _) ((readRow v 1 _ _ l).trans ((canonMiss 1 0 (by decide) _ _ _ l).trans ((canonAll _ _ 1 l).trans (zero7 1 l))))
  · refine (canonHit 2 _ _ _ l).trans ((row2 H _ l).trans ?_)
    exact congrArg (· + _) ((readRow v 2 _ _ l).trans ((canonMiss 2 1 (by decide) _ _ _ l).trans ((canonMiss 2 0 (by decide) _ _ _ l).trans ((canonAll _ _ 2 l).trans (zero7 2 l)))))

/-- The sum of a function of the rows over the first blocks of 256. -/
def part (F : Fin 2048 → EReal) (n : Nat) : EReal :=
  ∑ t ∈ Finset.range n, ∑ r : Fin 256, F ⟨(t * 256 + r.val) % 2048, Nat.mod_lt _ (by decide)⟩

theorem part_zero (F : Fin 2048 → EReal) : part F 0 = 0 := rfl

theorem part_succ (F : Fin 2048 → EReal) (n : Nat) (hn : n < 8) :
    part F (n + 1) = part F n + ∑ r : Fin 256, F ⟨n * 256 + r.val, by omega⟩ := by
  unfold part
  rw [Finset.sum_range_succ]
  refine congrArg _ (Finset.sum_congr rfl fun r _ => congrArg F (Fin.ext ?_))
  show (n * 256 + r.val) % 2048 = n * 256 + r.val
  omega

theorem part_all (F : Fin 2048 → EReal) : part F 8 = ∑ r : Fin 2048, F r := by
  unfold part
  rw [Finset.sum_range]
  refine (Fintype.sum_prod_type' fun (t : Fin 8) (r : Fin 256) => F ⟨(t.val * 256 + r.val) % 2048, Nat.mod_lt _ (by decide)⟩).symm.trans ?_
  refine Fintype.sum_equiv finProdFinEquiv _ _ fun x => congrArg F (Fin.ext ?_)
  show (x.1.val * 256 + x.2.val) % 2048 = x.2.val + 256 * x.1.val
  omega

end Cert.MergeBwdIdeal.Value
end
-- ==== Proof.VMergeBwdRef.lean ====
/- The merge's backward call: what the reference leaves in its eight results. -/
module

public import proofs.«01_k».proof.Defs
public import proofs.«01_k».proof.Proof.Gen.MergeBwdRefIdeal.Run
public import proofs.«01_k».proof.Proof.VMergeBwdPay
public import Idealize.ShloMosaic.Lib.Pipeline.ValueKit
public import Idealize.ShloMosaic.Lib.Pointwise
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.MergeBwdRefIdeal.Value

open Cert.MergeBwdRefIdeal Cert.MergeBwdRefIdeal.Gen
open Cert.MergeBwdIdeal.Value (Args dgS dmAt sgAt pr2 pr4 prAt dgAt do2At do4At dw2 dw4 do2Of do4Of dgOf dw2Of dw4Of dbOf)
/-- The reference's gates. -/
def gates (A : Args) : FVec Ideal S2048x3x1024 .f32 :=
  Host.divf (broadcastInDim S2048x3x1024 ![] bcast_S_S2048x3x1024 (constant S_ .f32 0x3F800000#32)) (addf (broadcastInDim S2048x3x1024 ![] bcast_S_S2048x3x1024 (constant S_ .f32 0x3F800000#32)) (Host.exp (Host.negf (addf (shapeCast _ (extf .f32 A.g bitsLt_bf16_f32) shapeCasts_S2048x3072_S2048x3x1024) (broadcastInDim S2048x3x1024 ![0, 1, 2] bcast_S1x3x1024_S2048x3x1024_0_1_2 (broadcastInDim S1x3x1024 ![1, 2] bcast_S3x1024_S1x3x1024_1_2 A.b))))))

theorem gates_at (A : Args) (r : Fin 2048) (i : Fin 3) (l : Fin 1024) : gates A (ix3 r i l) = sgAt A i r l := by
  unfold gates sgAt Ideal.logistic
  pointwise []

/-- The reference's gradient at the merged values. -/
def dm (A : Args) : FVec Ideal S2048x1024 .f32 := Host.dotGeneral (φ₁ := .f32) (φ₂ := .f32) dot_S2048x1024_S1024x1024_S2048x1024_1_1_0_0_n_n none (extf .f32 A.d bitsLt_bf16_f32) (extf .f32 A.wo bitsLt_bf16_f32)

theorem dm_at (A : Args) (r : Fin 2048) (l : Fin 1024) : dm A (ix2 r l) = dmAt A r l := by
  unfold dm dmAt
  pointwise []

/-- The reference's product of a branch. -/
def pr_a (A : Args) : FVec Ideal S2048x1024 .f32 := Host.dotGeneral (φ₁ := .f32) (φ₂ := .f32) dot_S2048x256_S256x1024_S2048x1024_1_0_0_1_n_n none (shapeCast _ (transpose S2048x2x128 [1, 0, 2] A.oa transposes_S2x2048x128_S2048x2x128_1_0_2) shapeCasts_S2048x2x128_S2048x256) (extf .f32 A.wa bitsLt_bf16_f32)

theorem pr_a_at (A : Args) (r : Fin 2048) (l : Fin 1024) : pr_a A (ix2 r l) = pr2 A.oa A.wa r l := by
  unfold pr_a pr2
  pointwise []

/-- The reference's product of a branch. -/
def pr_b (A : Args) : FVec Ideal S2048x1024 .f32 := Host.dotGeneral (φ₁ := .f32) (φ₂ := .f32) dot_S2048x512_S512x1024_S2048x1024_1_0_0_1_n_n none (shapeCast _ (transpose S2048x4x128 [1, 0, 2] A.ob transposes_S4x2048x128_S2048x4x128_1_0_2) shapeCasts_S2048x4x128_S2048x512) (extf .f32 A.wb bitsLt_bf16_f32)

theorem pr_b_at (A : Args) (r : Fin 2048) (l : Fin 1024) : pr_b A (ix2 r l) = pr4 A.ob A.wb r l := by
  unfold pr_b pr4
  pointwise []

/-- The reference's product of a branch. -/
def pr_c (A : Args) : FVec Ideal S2048x1024 .f32 := Host.dotGeneral (φ₁ := .f32) (φ₂ := .f32) dot_S2048x256_S256x1024_S2048x1024_1_0_0_1_n_n none (shapeCast _ (transpose S2048x2x128 [1, 0, 2] A.oc transposes_S2x2048x128_S2048x2x128_1_0_2) shapeCasts_S2048x2x128_S2048x256) (extf .f32 A.wc bitsLt_bf16_f32)

theorem pr_c_at (A : Args) (r : Fin 2048) (l : Fin 1024) : pr_c A (ix2 r l) = pr2 A.oc A.wc r l := by
  unfold pr_c pr2
  pointwise []

theorem do_a (A : Args) :
    transpose S2x2048x128 [1, 0, 2] (shapeCast _ (Host.dotGeneral (φ₁ := .f32) (φ₂ := .f32) dot_S2048x1024_S256x1024_S2048x256_1_1_0_0_n_n none (mulf (shapeCast _ (extractStridedSlice S2048x1x1024 ![0, 0, 0] (gates A) slices_S2048x3x1024_S2048x1x1024_0_0_0) shapeCasts_S2048x1x1024_S2048x1024) (dm A)) (extf .f32 A.wa bitsLt_bf16_f32)) shapeCasts_S2048x256_S2048x2x128) transposes_S2048x2x128_S2x2048x128_1_0_2
      = do2Of A 0 A.wa := by
  funext y
  obtain ⟨s, r, l, rfl⟩ : ∃ (s : Fin 2) (r : Fin 2048) (l : Fin 128), y = ix3 s r l := ⟨y 0, y 1, y 2, eq_ix3 y⟩
  change _ = do2At A 0 A.wa s r l
  have e := gates_at A
  have e' := dm_at A
  unfold do2At
  generalize gates A = g at e ⊢
  generalize dm A = d at e' ⊢
  simp only [← e, ← e', mul_comm (d _)]
  pointwise []

theorem dw_a (A : Args) :
    truncf .bf16 (transpose S256x1024 [1, 0] (Host.dotGeneral (φ₁ := .f32) (φ₂ := .f32) dot_S2048x1024_S2048x256_S1024x256_0_0_1_1_n_n none (mulf (shapeCast _ (extractStridedSlice S2048x1x1024 ![0, 0, 0] (gates A) slices_S2048x3x1024_S2048x1x1024_0_0_0) shapeCasts_S2048x1x1024_S2048x1024) (dm A)) (shapeCast _ (transpose S2048x2x128 [1, 0, 2] A.oa transposes_S2x2048x128_S2048x2x128_1_0_2) shapeCasts_S2048x2x128_S2048x256)) transposes_S1024x256_S256x1024_1_0) bitsLt_bf16_f32
      = dw2Of A 0 A.oa := by
  funext y
  obtain ⟨k, l, rfl⟩ : ∃ (k : Fin 256) (l : Fin 1024), y = ix2 k l := ⟨y 0, y 1, eq_ix2 y⟩
  change _ = ∑ r : Fin 2048, dw2 A 0 A.oa k l r
  have e := gates_at A
  have e' := dm_at A
  unfold dw2
  generalize gates A = g at e ⊢
  generalize dm A = d at e' ⊢
  simp only [← e, ← e', mul_comm (A.oa _), mul_comm (d _)]
  pointwise []

theorem do_b (A : Args) :
    transpose S4x2048x128 [1, 0, 2] (shapeCast _ (Host.dotGeneral (φ₁ := .f32) (φ₂ := .f32) dot_S2048x1024_S512x1024_S2048x512_1_1_0_0_n_n none (mulf (shapeCast _ (extractStridedSlice S2048x1x1024 ![0, 1, 0] (gates A) slices_S2048x3x1024_S2048x1x1024_0_1_0) shapeCasts_S2048x1x1024_S2048x1024) (dm A)) (extf .f32 A.wb bitsLt_bf16_f32)) shapeCasts_S2048x512_S2048x4x128) transposes_S2048x4x128_S4x2048x128_1_0_2
      = do4Of A 1 A.wb := by
  funext y
  obtain ⟨s, r, l, rfl⟩ : ∃ (s : Fin 4) (r : Fin 2048) (l : Fin 128), y = ix3 s r l := ⟨y 0, y 1, y 2, eq_ix3 y⟩
  change _ = do4At A 1 A.wb s r l
  have e := gates_at A
  have e' := dm_at A
  unfold do4At
  generalize gates A = g at e ⊢
  generalize dm A = d at e' ⊢
  simp only [← e, ← e', mul_comm (d _)]
  pointwise []

theorem dw_b (A : Args) :
    truncf .bf16 (transpose S512x1024 [1, 0] (Host.dotGeneral (φ₁ := .f32) (φ₂ := .f32) dot_S2048x1024_S2048x512_S1024x512_0_0_1_1_n_n none (mulf (shapeCast _ (extractStridedSlice S2048x1x1024 ![0, 1, 0] (gates A) slices_S2048x3x1024_S2048x1x1024_0_1_0) shapeCasts_S2048x1x1024_S2048x1024) (dm A)) (shapeCast _ (transpose S2048x4x128 [1, 0, 2] A.ob transposes_S4x2048x128_S2048x4x128_1_0_2) shapeCasts_S2048x4x128_S2048x512)) transposes_S1024x512_S512x1024_1_0) bitsLt_bf16_f32
      = dw4Of A 1 A.ob := by
  funext y
  obtain ⟨k, l, rfl⟩ : ∃ (k : Fin 512) (l : Fin 1024), y = ix2 k l := ⟨y 0, y 1, eq_ix2 y⟩
  change _ = ∑ r : Fin 2048, dw4 A 1 A.ob k l r
  have e := gates_at A
  have e' := dm_at A
  unfold dw4
  generalize gates A = g at e ⊢
  generalize dm A = d at e' ⊢
  simp only [← e, ← e', mul_comm (A.ob _), mul_comm (d _)]
  pointwise []

theorem do_c (A : Args) :
    transpose S2x2048x128 [1, 0, 2] (shapeCast _ (Host.dotGeneral (φ₁ := .f32) (φ₂ := .f32) dot_S2048x1024_S256x1024_S2048x256_1_1_0_0_n_n none (mulf (shapeCast _ (extractStridedSlice S2048x1x1024 ![0, 2, 0] (gates A) slices_S2048x3x1024_S2048x1x1024_0_2_0) shapeCasts_S2048x1x1024_S2048x1024) (dm A)) (extf .f32 A.wc bitsLt_bf16_f32)) shapeCasts_S2048x256_S2048x2x128) transposes_S2048x2x128_S2x2048x128_1_0_2
      = do2Of A 2 A.wc := by
  funext y
  obtain ⟨s, r, l, rfl⟩ : ∃ (s : Fin 2) (r : Fin 2048) (l : Fin 128), y = ix3 s r l := ⟨y 0, y 1, y 2, eq_ix3 y⟩
  change _ = do2At A 2 A.wc s r l
  have e := gates_at A
  have e' := dm_at A
  unfold do2At
  generalize gates A = g at e ⊢
  generalize dm A = d at e' ⊢
  simp only [← e, ← e', mul_comm (d _)]
  pointwise []

theorem dw_c (A : Args) :
    truncf .bf16 (transpose S256x1024 [1, 0] (Host.dotGeneral (φ₁ := .f32) (φ₂ := .f32) dot_S2048x1024_S2048x256_S1024x256_0_0_1_1_n_n none (mulf (shapeCast _ (extractStridedSlice S2048x1x1024 ![0, 2, 0] (gates A) slices_S2048x3x1024_S2048x1x1024_0_2_0) shapeCasts_S2048x1x1024_S2048x1024) (dm A)) (shapeCast _ (transpose S2048x2x128 [1, 0, 2] A.oc transposes_S2x2048x128_S2048x2x128_1_0_2) shapeCasts_S2048x2x128_S2048x256)) transposes_S1024x256_S256x1024_1_0) bitsLt_bf16_f32
      = dw2Of A 2 A.oc := by
  funext y
  obtain ⟨k, l, rfl⟩ : ∃ (k : Fin 256) (l : Fin 1024), y = ix2 k l := ⟨y 0, y 1, eq_ix2 y⟩
  change _ = ∑ r : Fin 2048, dw2 A 2 A.oc k l r
  have e := gates_at A
  have e' := dm_at A
  unfold dw2
  generalize gates A = g at e ⊢
  generalize dm A = d at e' ⊢
  simp only [← e, ← e', mul_comm (A.oc _), mul_comm (d _)]
  pointwise []

/-- The reference's gradients of the gates. -/
def dg (A : Args) : FVec Ideal S2048x3x1024 .f32 := mulf (addf (addf (pad S2048x3x1024 ![0, 2, 0] ![0, 0, 0] ![0, 0, 0] (broadcastInDim S2048x1x1024 ![0, 2] bcast_S2048x1024_S2048x1x1024_0_2 (mulf (dm A) (pr_c A))) (constant S_ .f32 0x00000000#32) pads_S2048x1x1024_S2048x3x1024_000_200_000 h_S_) (pad S2048x3x1024 ![0, 1, 0] ![0, 1, 0] ![0, 0, 0] (broadcastInDim S2048x1x1024 ![0, 2] bcast_S2048x1024_S2048x1x1024_0_2 (mulf (dm A) (pr_b A))) (constant S_ .f32 0x00000000#32) pads_S2048x1x1024_S2048x3x1024_000_110_000 h_S_)) (pad S2048x3x1024 ![0, 0, 0] ![0, 2, 0] ![0, 0, 0] (broadcastInDim S2048x1x1024 ![0, 2] bcast_S2048x1024_S2048x1x1024_0_2 (mulf (dm A) (pr_a A))) (constant S_ .f32 0x00000000#32) pads_S2048x1x1024_S2048x3x1024_000_020_000 h_S_)) (mulf (gates A) (subf (broadcastInDim S2048x3x1024 ![] bcast_S_S2048x3x1024 (constant S_ .f32 0x3F800000#32)) (gates A)))

theorem dg_at (A : Args) (r : Fin 2048) (i : Fin 3) (l : Fin 1024) : dg A (ix3 r i l) = dgAt A i r l := by
  have e := gates_at A
  have e' := dm_at A
  have ea := pr_a_at A
  have eb := pr_b_at A
  have ec := pr_c_at A
  unfold dg dgAt dgS prAt
  generalize gates A = g at e ⊢
  generalize dm A = d at e' ⊢
  generalize pr_a A = pa at ea ⊢
  generalize pr_b A = pb at eb ⊢
  generalize pr_c A = pc at ec ⊢
  simp only [← e, ← e', ← ea, ← eb, ← ec, mul_assoc]
  obtain rfl | rfl | rfl : i = 0 ∨ i = 1 ∨ i = 2 := by
    revert i
    decide
  · pointwise []
    exact mul_assoc _ _ _
  · pointwise []
    exact mul_assoc _ _ _
  · pointwise []
    exact mul_assoc _ _ _

theorem d_gates (A : Args) : truncf .bf16 (shapeCast _ (dg A) shapeCasts_S2048x3x1024_S2048x3072) bitsLt_bf16_f32 = dgOf A := by
  funext y
  obtain ⟨r, l, rfl⟩ : ∃ (r : Fin 2048) (l : Fin 3072), y = ix2 r l := ⟨y 0, y 1, eq_ix2 y⟩
  refine Eq.trans ?_ (dg_at A r ⟨l.val / 1024, by omega⟩ ⟨l.val % 1024, by omega⟩)
  generalize dg A = d
  pointwise []

theorem d_bg (A : Args) : Host.reduceAdd (shapeCast _ (Host.reduceAdd (dg A) (constant S_ .f32 0x00000000#32) reducesTo_S2048x3x1024_S3x1024_d0 h_S_) shapeCasts_S3x1024_S1x3x1024) (constant S_ .f32 0x00000000#32) reducesTo_S1x3x1024_S3x1024_d0 h_S_ = dbOf A := by
  funext y
  obtain ⟨i, l, rfl⟩ : ∃ (i : Fin 3) (l : Fin 1024), y = ix2 i l := ⟨y 0, y 1, eq_ix2 y⟩
  change _ = ∑ r : Fin 2048, dgAt A i r l
  have e := dg_at A
  generalize dg A = d at e ⊢
  simp only [← e]
  pointwise []
  exact Fintype.sum_unique _

theorem r_do_a (A : Args) : transpose S2x2048x128 [1, 0, 2] (shapeCast _ (Host.dotGeneral (φ₁ := .f32) (φ₂ := .f32) dot_S2048x1024_S256x1024_S2048x256_1_1_0_0_n_n none (mulf (shapeCast _ (extractStridedSlice S2048x1x1024 ![0, 0, 0] (Host.divf (broadcastInDim S2048x3x1024 ![] bcast_S_S2048x3x1024 (constant S_ .f32 0x3F800000#32)) (addf (broadcastInDim S2048x3x1024 ![] bcast_S_S2048x3x1024 (constant S_ .f32 0x3F800000#32)) (Host.exp (Host.negf (addf (shapeCast _ (extf .f32 A.g bitsLt_bf16_f32) shapeCasts_S2048x3072_S2048x3x1024) (broadcastInDim S2048x3x1024 ![0, 1, 2] bcast_S1x3x1024_S2048x3x1024_0_1_2 (broadcastInDim S1x3x1024 ![1, 2] bcast_S3x1024_S1x3x1024_1_2 A.b))))))) slices_S2048x3x1024_S2048x1x1024_0_0_0) shapeCasts_S2048x1x1024_S2048x1024) (Host.dotGeneral (φ₁ := .f32) (φ₂ := .f32) dot_S2048x1024_S1024x1024_S2048x1024_1_1_0_0_n_n none (extf .f32 A.d bitsLt_bf16_f32) (extf .f32 A.wo bitsLt_bf16_f32))) (extf .f32 A.wa bitsLt_bf16_f32)) shapeCasts_S2048x256_S2048x2x128) transposes_S2048x2x128_S2x2048x128_1_0_2 = do2Of A 0 A.wa := by
  have h := do_a A
  unfold gates dm at h
  exact h

theorem r_do_b (A : Args) : transpose S4x2048x128 [1, 0, 2] (shapeCast _ (Host.dotGeneral (φ₁ := .f32) (φ₂ := .f32) dot_S2048x1024_S512x1024_S2048x512_1_1_0_0_n_n none (mulf (shapeCast _ (extractStridedSlice S2048x1x1024 ![0, 1, 0] (Host.divf (broadcastInDim S2048x3x1024 ![] bcast_S_S2048x3x1024 (constant S_ .f32 0x3F800000#32)) (addf (broadcastInDim S2048x3x1024 ![] bcast_S_S2048x3x1024 (constant S_ .f32 0x3F800000#32)) (Host.exp (Host.negf (addf (shapeCast _ (extf .f32 A.g bitsLt_bf16_f32) shapeCasts_S2048x3072_S2048x3x1024) (broadcastInDim S2048x3x1024 ![0, 1, 2] bcast_S1x3x1024_S2048x3x1024_0_1_2 (broadcastInDim S1x3x1024 ![1, 2] bcast_S3x1024_S1x3x1024_1_2 A.b))))))) slices_S2048x3x1024_S2048x1x1024_0_1_0) shapeCasts_S2048x1x1024_S2048x1024) (Host.dotGeneral (φ₁ := .f32) (φ₂ := .f32) dot_S2048x1024_S1024x1024_S2048x1024_1_1_0_0_n_n none (extf .f32 A.d bitsLt_bf16_f32) (extf .f32 A.wo bitsLt_bf16_f32))) (extf .f32 A.wb bitsLt_bf16_f32)) shapeCasts_S2048x512_S2048x4x128) transposes_S2048x4x128_S4x2048x128_1_0_2 = do4Of A 1 A.wb := by
  have h := do_b A
  unfold gates dm at h
  exact h

theorem r_do_c (A : Args) : transpose S2x2048x128 [1, 0, 2] (shapeCast _ (Host.dotGeneral (φ₁ := .f32) (φ₂ := .f32) dot_S2048x1024_S256x1024_S2048x256_1_1_0_0_n_n none (mulf (shapeCast _ (extractStridedSlice S2048x1x1024 ![0, 2, 0] (Host.divf (broadcastInDim S2048x3x1024 ![] bcast_S_S2048x3x1024 (constant S_ .f32 0x3F800000#32)) (addf (broadcastInDim S2048x3x1024 ![] bcast_S_S2048x3x1024 (constant S_ .f32 0x3F800000#32)) (Host.exp (Host.negf (addf (shapeCast _ (extf .f32 A.g bitsLt_bf16_f32) shapeCasts_S2048x3072_S2048x3x1024) (broadcastInDim S2048x3x1024 ![0, 1, 2] bcast_S1x3x1024_S2048x3x1024_0_1_2 (broadcastInDim S1x3x1024 ![1, 2] bcast_S3x1024_S1x3x1024_1_2 A.b))))))) slices_S2048x3x1024_S2048x1x1024_0_2_0) shapeCasts_S2048x1x1024_S2048x1024) (Host.dotGeneral (φ₁ := .f32) (φ₂ := .f32) dot_S2048x1024_S1024x1024_S2048x1024_1_1_0_0_n_n none (extf .f32 A.d bitsLt_bf16_f32) (extf .f32 A.wo bitsLt_bf16_f32))) (extf .f32 A.wc bitsLt_bf16_f32)) shapeCasts_S2048x256_S2048x2x128) transposes_S2048x2x128_S2x2048x128_1_0_2 = do2Of A 2 A.wc := by
  have h := do_c A
  unfold gates dm at h
  exact h

set_option maxHeartbeats 800000 in
theorem r_d_gates (A : Args) : truncf .bf16 (shapeCast _ (mulf (addf (addf (pad S2048x3x1024 ![0, 2, 0] ![0, 0, 0] ![0, 0, 0] (broadcastInDim S2048x1x1024 ![0, 2] bcast_S2048x1024_S2048x1x1024_0_2 (mulf (Host.dotGeneral (φ₁ := .f32) (φ₂ := .f32) dot_S2048x1024_S1024x1024_S2048x1024_1_1_0_0_n_n none (extf .f32 A.d bitsLt_bf16_f32) (extf .f32 A.wo bitsLt_bf16_f32)) (Host.dotGeneral (φ₁ := .f32) (φ₂ := .f32) dot_S2048x256_S256x1024_S2048x1024_1_0_0_1_n_n none (shapeCast _ (transpose S2048x2x128 [1, 0, 2] A.oc transposes_S2x2048x128_S2048x2x128_1_0_2) shapeCasts_S2048x2x128_S2048x256) (extf .f32 A.wc bitsLt_bf16_f32)))) (constant S_ .f32 0x00000000#32) pads_S2048x1x1024_S2048x3x1024_000_200_000 h_S_) (pad S2048x3x1024 ![0, 1, 0] ![0, 1, 0] ![0, 0, 0] (broadcastInDim S2048x1x1024 ![0, 2] bcast_S2048x1024_S2048x1x1024_0_2 (mulf (Host.dotGeneral (φ₁ := .f32) (φ₂ := .f32) dot_S2048x1024_S1024x1024_S2048x1024_1_1_0_0_n_n none (extf .f32 A.d bitsLt_bf16_f32) (extf .f32 A.wo bitsLt_bf16_f32)) (Host.dotGeneral (φ₁ := .f32) (φ₂ := .f32) dot_S2048x512_S512x1024_S2048x1024_1_0_0_1_n_n none (shapeCast _ (transpose S2048x4x128 [1, 0, 2] A.ob transposes_S4x2048x128_S2048x4x128_1_0_2) shapeCasts_S2048x4x128_S2048x512) (extf .f32 A.wb bitsLt_bf16_f32)))) (constant S_ .f32 0x00000000#32) pads_S2048x1x1024_S2048x3x1024_000_110_000 h_S_)) (pad S2048x3x1024 ![0, 0, 0] ![0, 2, 0] ![0, 0, 0] (broadcastInDim S2048x1x1024 ![0, 2] bcast_S2048x1024_S2048x1x1024_0_2 (mulf (Host.dotGeneral (φ₁ := .f32) (φ₂ := .f32) dot_S2048x1024_S1024x1024_S2048x1024_1_1_0_0_n_n none (extf .f32 A.d bitsLt_bf16_f32) (extf .f32 A.wo bitsLt_bf16_f32)) (Host.dotGeneral (φ₁ := .f32) (φ₂ := .f32) dot_S2048x256_S256x1024_S2048x1024_1_0_0_1_n_n none (shapeCast _ (transpose S2048x2x128 [1, 0, 2] A.oa transposes_S2x2048x128_S2048x2x128_1_0_2) shapeCasts_S2048x2x128_S2048x256) (extf .f32 A.wa bitsLt_bf16_f32)))) (constant S_ .f32 0x00000000#32) pads_S2048x1x1024_S2048x3x1024_000_020_000 h_S_)) (mulf (Host.divf (broadcastInDim S2048x3x1024 ![] bcast_S_S2048x3x1024 (constant S_ .f32 0x3F800000#32)) (addf (broadcastInDim S2048x3x1024 ![] bcast_S_S2048x3x1024 (constant S_ .f32 0x3F800000#32)) (Host.exp (Host.negf (addf (shapeCast _ (extf .f32 A.g bitsLt_bf16_f32) shapeCasts_S2048x3072_S2048x3x1024) (broadcastInDim S2048x3x1024 ![0, 1, 2] bcast_S1x3x1024_S2048x3x1024_0_1_2 (broadcastInDim S1x3x1024 ![1, 2] bcast_S3x1024_S1x3x1024_1_2 A.b))))))) (subf (broadcastInDim S2048x3x1024 ![] bcast_S_S2048x3x1024 (constant S_ .f32 0x3F800000#32)) (Host.divf (broadcastInDim S2048x3x1024 ![] bcast_S_S2048x3x1024 (constant S_ .f32 0x3F800000#32)) (addf (broadcastInDim S2048x3x1024 ![] bcast_S_S2048x3x1024 (constant S_ .f32 0x3F800000#32)) (Host.exp (Host.negf (addf (shapeCast _ (extf .f32 A.g bitsLt_bf16_f32) shapeCasts_S2048x3072_S2048x3x1024) (broadcastInDim S2048x3x1024 ![0, 1, 2] bcast_S1x3x1024_S2048x3x1024_0_1_2 (broadcastInDim S1x3x1024 ![1, 2] bcast_S3x1024_S1x3x1024_1_2 A.b)))))))))) shapeCasts_S2048x3x1024_S2048x3072) bitsLt_bf16_f32 = dgOf A := by
  have h := d_gates A
  unfold dg gates dm pr_a pr_b pr_c at h
  exact h

theorem r_dw_a (A : Args) : truncf .bf16 (transpose S256x1024 [1, 0] (Host.dotGeneral (φ₁ := .f32) (φ₂ := .f32) dot_S2048x1024_S2048x256_S1024x256_0_0_1_1_n_n none (mulf (shapeCast _ (extractStridedSlice S2048x1x1024 ![0, 0, 0] (Host.divf (broadcastInDim S2048x3x1024 ![] bcast_S_S2048x3x1024 (constant S_ .f32 0x3F800000#32)) (addf (broadcastInDim S2048x3x1024 ![] bcast_S_S2048x3x1024 (constant S_ .f32 0x3F800000#32)) (Host.exp (Host.negf (addf (shapeCast _ (extf .f32 A.g bitsLt_bf16_f32) shapeCasts_S2048x3072_S2048x3x1024) (broadcastInDim S2048x3x1024 ![0, 1, 2] bcast_S1x3x1024_S2048x3x1024_0_1_2 (broadcastInDim S1x3x1024 ![1, 2] bcast_S3x1024_S1x3x1024_1_2 A.b))))))) slices_S2048x3x1024_S2048x1x1024_0_0_0) shapeCasts_S2048x1x1024_S2048x1024) (Host.dotGeneral (φ₁ := .f32) (φ₂ := .f32) dot_S2048x1024_S1024x1024_S2048x1024_1_1_0_0_n_n none (extf .f32 A.d bitsLt_bf16_f32) (extf .f32 A.wo bitsLt_bf16_f32))) (shapeCast _ (transpose S2048x2x128 [1, 0, 2] A.oa transposes_S2x2048x128_S2048x2x128_1_0_2) shapeCasts_S2048x2x128_S2048x256)) transposes_S1024x256_S256x1024_1_0) bitsLt_bf16_f32 = dw2Of A 0 A.oa := by
  have h := dw_a A
  unfold gates dm at h
  exact h

theorem r_dw_b (A : Args) : truncf .bf16 (transpose S512x1024 [1, 0] (Host.dotGeneral (φ₁ := .f32) (φ₂ := .f32) dot_S2048x1024_S2048x512_S1024x512_0_0_1_1_n_n none (mulf (shapeCast _ (extractStridedSlice S2048x1x1024 ![0, 1, 0] (Host.divf (broadcastInDim S2048x3x1024 ![] bcast_S_S2048x3x1024 (constant S_ .f32 0x3F800000#32)) (addf (broadcastInDim S2048x3x1024 ![] bcast_S_S2048x3x1024 (constant S_ .f32 0x3F800000#32)) (Host.exp (Host.negf (addf (shapeCast _ (extf .f32 A.g bitsLt_bf16_f32) shapeCasts_S2048x3072_S2048x3x1024) (broadcastInDim S2048x3x1024 ![0, 1, 2] bcast_S1x3x1024_S2048x3x1024_0_1_2 (broadcastInDim S1x3x1024 ![1, 2] bcast_S3x1024_S1x3x1024_1_2 A.b))))))) slices_S2048x3x1024_S2048x1x1024_0_1_0) shapeCasts_S2048x1x1024_S2048x1024) (Host.dotGeneral (φ₁ := .f32) (φ₂ := .f32) dot_S2048x1024_S1024x1024_S2048x1024_1_1_0_0_n_n none (extf .f32 A.d bitsLt_bf16_f32) (extf .f32 A.wo bitsLt_bf16_f32))) (shapeCast _ (transpose S2048x4x128 [1, 0, 2] A.ob transposes_S4x2048x128_S2048x4x128_1_0_2) shapeCasts_S2048x4x128_S2048x512)) transposes_S1024x512_S512x1024_1_0) bitsLt_bf16_f32 = dw4Of A 1 A.ob := by
  have h := dw_b A
  unfold gates dm at h
  exact h

theorem r_dw_c (A : Args) : truncf .bf16 (transpose S256x1024 [1, 0] (Host.dotGeneral (φ₁ := .f32) (φ₂ := .f32) dot_S2048x1024_S2048x256_S1024x256_0_0_1_1_n_n none (mulf (shapeCast _ (extractStridedSlice S2048x1x1024 ![0, 2, 0] (Host.divf (broadcastInDim S2048x3x1024 ![] bcast_S_S2048x3x1024 (constant S_ .f32 0x3F800000#32)) (addf (broadcastInDim S2048x3x1024 ![] bcast_S_S2048x3x1024 (constant S_ .f32 0x3F800000#32)) (Host.exp (Host.negf (addf (shapeCast _ (extf .f32 A.g bitsLt_bf16_f32) shapeCasts_S2048x3072_S2048x3x1024) (broadcastInDim S2048x3x1024 ![0, 1, 2] bcast_S1x3x1024_S2048x3x1024_0_1_2 (broadcastInDim S1x3x1024 ![1, 2] bcast_S3x1024_S1x3x1024_1_2 A.b))))))) slices_S2048x3x1024_S2048x1x1024_0_2_0) shapeCasts_S2048x1x1024_S2048x1024) (Host.dotGeneral (φ₁ := .f32) (φ₂ := .f32) dot_S2048x1024_S1024x1024_S2048x1024_1_1_0_0_n_n none (extf .f32 A.d bitsLt_bf16_f32) (extf .f32 A.wo bitsLt_bf16_f32))) (shapeCast _ (transpose S2048x2x128 [1, 0, 2] A.oc transposes_S2x2048x128_S2048x2x128_1_0_2) shapeCasts_S2048x2x128_S2048x256)) transposes_S1024x256_S256x1024_1_0) bitsLt_bf16_f32 = dw2Of A 2 A.oc := by
  have h := dw_c A
  unfold gates dm at h
  exact h

set_option maxHeartbeats 800000 in
theorem r_d_bg (A : Args) : Host.reduceAdd (shapeCast _ (Host.reduceAdd (mulf (addf (addf (pad S2048x3x1024 ![0, 2, 0] ![0, 0, 0] ![0, 0, 0] (broadcastInDim S2048x1x1024 ![0, 2] bcast_S2048x1024_S2048x1x1024_0_2 (mulf (Host.dotGeneral (φ₁ := .f32) (φ₂ := .f32) dot_S2048x1024_S1024x1024_S2048x1024_1_1_0_0_n_n none (extf .f32 A.d bitsLt_bf16_f32) (extf .f32 A.wo bitsLt_bf16_f32)) (Host.dotGeneral (φ₁ := .f32) (φ₂ := .f32) dot_S2048x256_S256x1024_S2048x1024_1_0_0_1_n_n none (shapeCast _ (transpose S2048x2x128 [1, 0, 2] A.oc transposes_S2x2048x128_S2048x2x128_1_0_2) shapeCasts_S2048x2x128_S2048x256) (extf .f32 A.wc bitsLt_bf16_f32)))) (constant S_ .f32 0x00000000#32) pads_S2048x1x1024_S2048x3x1024_000_200_000 h_S_) (pad S2048x3x1024 ![0, 1, 0] ![0, 1, 0] ![0, 0, 0] (broadcastInDim S2048x1x1024 ![0, 2] bcast_S2048x1024_S2048x1x1024_0_2 (mulf (Host.dotGeneral (φ₁ := .f32) (φ₂ := .f32) dot_S2048x1024_S1024x1024_S2048x1024_1_1_0_0_n_n none (extf .f32 A.d bitsLt_bf16_f32) (extf .f32 A.wo bitsLt_bf16_f32)) (Host.dotGeneral (φ₁ := .f32) (φ₂ := .f32) dot_S2048x512_S512x1024_S2048x1024_1_0_0_1_n_n none (shapeCast _ (transpose S2048x4x128 [1, 0, 2] A.ob transposes_S4x2048x128_S2048x4x128_1_0_2) shapeCasts_S2048x4x128_S2048x512) (extf .f32 A.wb bitsLt_bf16_f32)))) (constant S_ .f32 0x00000000#32) pads_S2048x1x1024_S2048x3x1024_000_110_000 h_S_)) (pad S2048x3x1024 ![0, 0, 0] ![0, 2, 0] ![0, 0, 0] (broadcastInDim S2048x1x1024 ![0, 2] bcast_S2048x1024_S2048x1x1024_0_2 (mulf (Host.dotGeneral (φ₁ := .f32) (φ₂ := .f32) dot_S2048x1024_S1024x1024_S2048x1024_1_1_0_0_n_n none (extf .f32 A.d bitsLt_bf16_f32) (extf .f32 A.wo bitsLt_bf16_f32)) (Host.dotGeneral (φ₁ := .f32) (φ₂ := .f32) dot_S2048x256_S256x1024_S2048x1024_1_0_0_1_n_n none (shapeCast _ (transpose S2048x2x128 [1, 0, 2] A.oa transposes_S2x2048x128_S2048x2x128_1_0_2) shapeCasts_S2048x2x128_S2048x256) (extf .f32 A.wa bitsLt_bf16_f32)))) (constant S_ .f32 0x00000000#32) pads_S2048x1x1024_S2048x3x1024_000_020_000 h_S_)) (mulf (Host.divf (broadcastInDim S2048x3x1024 ![] bcast_S_S2048x3x1024 (constant S_ .f32 0x3F800000#32)) (addf (broadcastInDim S2048x3x1024 ![] bcast_S_S2048x3x1024 (constant S_ .f32 0x3F800000#32)) (Host.exp (Host.negf (addf (shapeCast _ (extf .f32 A.g bitsLt_bf16_f32) shapeCasts_S2048x3072_S2048x3x1024) (broadcastInDim S2048x3x1024 ![0, 1, 2] bcast_S1x3x1024_S2048x3x1024_0_1_2 (broadcastInDim S1x3x1024 ![1, 2] bcast_S3x1024_S1x3x1024_1_2 A.b))))))) (subf (broadcastInDim S2048x3x1024 ![] bcast_S_S2048x3x1024 (constant S_ .f32 0x3F800000#32)) (Host.divf (broadcastInDim S2048x3x1024 ![] bcast_S_S2048x3x1024 (constant S_ .f32 0x3F800000#32)) (addf (broadcastInDim S2048x3x1024 ![] bcast_S_S2048x3x1024 (constant S_ .f32 0x3F800000#32)) (Host.exp (Host.negf (addf (shapeCast _ (extf .f32 A.g bitsLt_bf16_f32) shapeCasts_S2048x3072_S2048x3x1024) (broadcastInDim S2048x3x1024 ![0, 1, 2] bcast_S1x3x1024_S2048x3x1024_0_1_2 (broadcastInDim S1x3x1024 ![1, 2] bcast_S3x1024_S1x3x1024_1_2 A.b)))))))))) (constant S_ .f32 0x00000000#32) reducesTo_S2048x3x1024_S3x1024_d0 h_S_) shapeCasts_S3x1024_S1x3x1024) (constant S_ .f32 0x00000000#32) reducesTo_S1x3x1024_S3x1024_d0 h_S_ = dbOf A := by
  have h := d_bg A
  unfold dg gates dm pr_a pr_b pr_c at h
  exact h

theorem frame : Cert.quiescent_MergeBwdRefIdeal := fun m ρ _ =>
  (θ_run Cert.MergeBwdRefIdeal.defs _ _).mono
    (fun r h => ⟨fun c => (h c).2.2.2.2.2.2.2.2, Idealize.ShloMosaic.sem_eq_zero_of_no_sems (by decide) r.2⟩)
    (Cert.MergeBwdRefIdeal.Value.run m ρ)

end Cert.MergeBwdRefIdeal.Value
end
-- ==== Proof.VMergeBwd.lean ====
/- The merge's backward call: what the kernel leaves in its eight results, and that the reference leaves the same. -/
module

public import proofs.«01_k».proof.Defs
public import proofs.«01_k».proof.Proof.Gen.MergeBwdIdeal.Value
public import proofs.«01_k».proof.Proof.VMergeBwdPay
public import proofs.«01_k».proof.Proof.VMergeBwdRef
public import Idealize.ShloMosaic.Lib.Pipeline.ValueKit
public import Idealize.ShloMosaic.Lib.Pointwise
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.MergeBwdIdeal.Value

open Cert.MergeBwdIdeal Cert.MergeBwdIdeal.Gen
variable (m : (ℓ : Loc nD τ sig) → Buf (Elt Ideal) ℓ)

/-- The call's arguments in a memory. -/
abbrev argsOf (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9)⟩

/-- The rows of a grid point. -/
def rows (t : Fin cfg0.N) (r : Fin 256) : Fin 2048 := ⟨t.val * 256 + r.val, by have : t.val < 8 := t.isLt; omega⟩

theorem index0 : ∀ t : Fin grid0.N, win0_0.index t = ![t.val, 0] := by decide +kernel
theorem index1 : ∀ t : Fin grid0.N, win0_1.index t = ![0, t.val, 0] := by decide +kernel
theorem index2 : ∀ t : Fin grid0.N, win0_2.index t = ![0, t.val, 0] := by decide +kernel
theorem index3 : ∀ t : Fin grid0.N, win0_3.index t = ![0, t.val, 0] := by decide +kernel
theorem index4 : ∀ t : Fin grid0.N, win0_4.index t = ![t.val, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, t.val, 0] := by decide +kernel
theorem index11 : ∀ t : Fin grid0.N, win0_11.index t = ![0, t.val, 0] := by decide +kernel
theorem index12 : ∀ t : Fin grid0.N, win0_12.index t = ![0, t.val, 0] := by decide +kernel
theorem index13 : ∀ t : Fin grid0.N, win0_13.index t = ![t.val, 0] := by decide +kernel
theorem index14 : ∀ t : Fin grid0.N, win0_14.index t = ![0, 0] := by decide +kernel
theorem index15 : ∀ t : Fin grid0.N, win0_15.index t = ![0, 0] := by decide +kernel
theorem index16 : ∀ t : Fin grid0.N, win0_16.index t = ![0, 0] := by decide +kernel
theorem index17 : ∀ t : Fin grid0.N, win0_17.index t = ![0, 0] := by decide +kernel
theorem rd0 (c : Dev nD) (t : Fin cfg0.N) (r : Fin 256) (k : Fin 1024) : (iblk m c 0 t) (ix2 r k)
    = (m ((c.tc : Thread nD τ).loc main_arg0)) (ix2 ⟨t.val * 256 + r.val, by have : t.val < 8 := t.isLt; omega⟩ k) := by
  blk_point [iblk, V_main_arg0, index0 t]
theorem rd1 (c : Dev nD) (t : Fin cfg0.N) (s : Fin 2) (r : Fin 256) (l : Fin 128) : (iblk m c 1 t) (ix3 s r l)
    = (m ((c.tc : Thread nD τ).loc main_arg1)) (ix3 s ⟨t.val * 256 + r.val, by have : t.val < 8 := t.isLt; omega⟩ l) := by
  blk_point [iblk, V_main_arg1, index1 t]
theorem rd2 (c : Dev nD) (t : Fin cfg0.N) (s : Fin 4) (r : Fin 256) (l : Fin 128) : (iblk m c 2 t) (ix3 s r l)
    = (m ((c.tc : Thread nD τ).loc main_arg2)) (ix3 s ⟨t.val * 256 + r.val, by have : t.val < 8 := t.isLt; omega⟩ l) := by
  blk_point [iblk, V_main_arg2, index2 t]
theorem rd3 (c : Dev nD) (t : Fin cfg0.N) (s : Fin 2) (r : Fin 256) (l : Fin 128) : (iblk m c 3 t) (ix3 s r l)
    = (m ((c.tc : Thread nD τ).loc main_arg3)) (ix3 s ⟨t.val * 256 + r.val, by have : t.val < 8 := t.isLt; omega⟩ l) := by
  blk_point [iblk, V_main_arg3, index3 t]
theorem rd4 (c : Dev nD) (t : Fin cfg0.N) (r : Fin 256) (k : Fin 3072) : (iblk m c 4 t) (ix2 r k)
    = (m ((c.tc : Thread nD τ).loc main_arg4)) (ix2 ⟨t.val * 256 + r.val, by have : t.val < 8 := t.isLt; omega⟩ k) := by
  blk_point [iblk, V_main_arg4, index4 t]
theorem rd5 (c : Dev nD) (t : Fin cfg0.N) (i : Fin 3) (k : Fin 1024) : (iblk m c 5 t) (ix2 i k)
    = (m ((c.tc : Thread nD τ).loc main_arg5)) (ix2 i k) := by
  blk_point [iblk, V_main_arg5, index5 t]
theorem rd6 (c : Dev nD) (t : Fin cfg0.N) (i : Fin 256) (k : Fin 1024) : (iblk m c 6 t) (ix2 i k)
    = (m ((c.tc : Thread nD τ).loc main_arg6)) (ix2 i k) := by
  blk_point [iblk, V_main_arg6, index6 t]
theorem rd7 (c : Dev nD) (t : Fin cfg0.N) (i : Fin 512) (k : Fin 1024) : (iblk m c 7 t) (ix2 i k)
    = (m ((c.tc : Thread nD τ).loc main_arg7)) (ix2 i k) := by
  blk_point [iblk, V_main_arg7, index7 t]
theorem rd8 (c : Dev nD) (t : Fin cfg0.N) (i : Fin 256) (k : Fin 1024) : (iblk m c 8 t) (ix2 i k)
    = (m ((c.tc : Thread nD τ).loc main_arg8)) (ix2 i k) := by
  blk_point [iblk, V_main_arg8, index8 t]
theorem rd9 (c : Dev nD) (t : Fin cfg0.N) (i : Fin 1024) (k : Fin 1024) : (iblk m c 9 t) (ix2 i k)
    = (m ((c.tc : Thread nD τ).loc main_arg9)) (ix2 i k) := by
  blk_point [iblk, V_main_arg9, index9 t]

theorem blk (c : Dev nD) (t : Fin cfg0.N) : Blk (argsOf m c) (rows t) (iblk m c 0 t) (iblk m c 1 t) (iblk m c 2 t) (iblk m c 3 t) (iblk m c 4 t) (iblk m c 5 t) (iblk m c 6 t) (iblk m c 7 t) (iblk m c 8 t) (iblk m c 9 t) :=
  ⟨rd0 m c t, rd1 m c t, rd2 m c t, rd3 m c t, rd4 m c t, rd5 m c t, rd6 m c t, rd7 m c t, rd8 m c t, rd9 m c t⟩

theorem emb10 (t : Fin cfg0.N) (s : Fin 2) (r : Fin 256) (l : Fin 128) : (win0_10.blk t).view.emb (ix3 s r l) = (ix3 s (rows t r) l : S2x2048x128.Idx) := by
  unfold rows
  funext b
  apply Fin.ext
  fin_cases b <;> simp [index10 t]
theorem emb11 (t : Fin cfg0.N) (s : Fin 4) (r : Fin 256) (l : Fin 128) : (win0_11.blk t).view.emb (ix3 s r l) = (ix3 s (rows t r) l : S4x2048x128.Idx) := by
  unfold rows
  funext b
  apply Fin.ext
  fin_cases b <;> simp [index11 t]
theorem emb12 (t : Fin cfg0.N) (s : Fin 2) (r : Fin 256) (l : Fin 128) : (win0_12.blk t).view.emb (ix3 s r l) = (ix3 s (rows t r) l : S2x2048x128.Idx) := by
  unfold rows
  funext b
  apply Fin.ext
  fin_cases b <;> simp [index12 t]
theorem emb13 (t : Fin cfg0.N) (r : Fin 256) (l : Fin 3072) : (win0_13.blk t).view.emb (ix2 r l) = (ix2 (rows t r) l : S2048x3072.Idx) := by
  unfold rows
  funext b
  apply Fin.ext
  fin_cases b <;> simp [index13 t]
theorem emb14 (t : Fin cfg0.N) (r : Fin 256) (l : Fin 1024) : (win0_14.blk t).view.emb (ix2 r l) = (ix2 r l : S256x1024.Idx) := by
  funext b
  apply Fin.ext
  fin_cases b <;> simp [index14 t]
theorem emb15 (t : Fin cfg0.N) (r : Fin 512) (l : Fin 1024) : (win0_15.blk t).view.emb (ix2 r l) = (ix2 r l : S512x1024.Idx) := by
  funext b
  apply Fin.ext
  fin_cases b <;> simp [index15 t]
theorem emb16 (t : Fin cfg0.N) (r : Fin 256) (l : Fin 1024) : (win0_16.blk t).view.emb (ix2 r l) = (ix2 r l : S256x1024.Idx) := by
  funext b
  apply Fin.ext
  fin_cases b <;> simp [index16 t]
theorem emb17 (t : Fin cfg0.N) (r : Fin 3) (l : Fin 1024) : (win0_17.blk t).view.emb (ix2 r l) = (ix2 r l : S3x1024.Idx) := by
  funext b
  apply Fin.ext
  fin_cases b <;> simp [index17 t]

theorem do2Of_at (A : Args) (i : Fin 3) (w) (s : Fin 2) (r : Fin 2048) (l : Fin 128) (j : S2x2048x128.Idx) (h : j = ix3 s r l) :
    do2Of A i w j = do2At A i w s r l := by
  subst h
  rfl
theorem do4Of_at (A : Args) (i : Fin 3) (w) (s : Fin 4) (r : Fin 2048) (l : Fin 128) (j : S4x2048x128.Idx) (h : j = ix3 s r l) :
    do4Of A i w j = do4At A i w s r l := by
  subst h
  rfl
theorem dgOf_at (A : Args) (r : Fin 2048) (l : Fin 3072) (j : S2048x3072.Idx) (h : j = ix2 r l) :
    dgOf A j = dgAt A ⟨l.val / 1024, by omega⟩ r ⟨l.val % 1024, by omega⟩ := by
  subst h
  rfl
theorem dw2Of_at (A : Args) (i : Fin 3) (o) (k : Fin 256) (l : Fin 1024) (j : S256x1024.Idx) (h : j = ix2 k l) :
    dw2Of A i o j = ∑ r : Fin 2048, dw2 A i o k l r := by
  subst h
  rfl
theorem dw4Of_at (A : Args) (i : Fin 3) (o) (k : Fin 512) (l : Fin 1024) (j : S512x1024.Idx) (h : j = ix2 k l) :
    dw4Of A i o j = ∑ r : Fin 2048, dw4 A i o k l r := by
  subst h
  rfl
theorem dbOf_at (A : Args) (i : Fin 3) (l : Fin 1024) (j : S3x1024.Idx) (h : j = ix2 i l) : dbOf A j = ∑ r : Fin 2048, dgAt A i r l := by
  subst h
  rfl

/-- The cases of a grid point. -/
theorem cases (t : Fin cfg0.N) : (t.val % 8 = 0 ∧ ¬t.val % 8 = 7) ∨ (¬t.val % 8 = 0 ∧ ¬t.val % 8 = 7) ∨ (¬t.val % 8 = 0 ∧ t.val % 8 = 7) := by
  omega

theorem at10 (c : Dev nD) (t : Fin cfg0.N) (s : Fin 2) (r : Fin 256) (l : Fin 128) : (outsAt0 m c t.val t.isLt).1 (ix3 s r l) = do2At (argsOf m c) 0 (argsOf m c).wa s (rows t r) l := by
  rcases cases t with ⟨h0, h1⟩ | ⟨h0, h1⟩ | ⟨h0, h1⟩
  · rw [outsAt0_A m c t h0 h1]
    dsimp only
    unfold out0_A_10
    frame_out
    exact o10 (blk m c t) s r l
  · rw [outsAt0_B m c t h0 h1]
    dsimp only
    unfold out0_B_10
    frame_out
    exact o10 (blk m c t) s r l
  · rw [outsAt0_C m c t h0 h1]
    dsimp only
    unfold out0_C_10
    frame_out
    exact o10 (blk m c t) s r l

theorem arr10 (c : Dev nD) : (dats m 0 c).arrAt 10 cfg0.N = do2Of (argsOf m c) 0 (argsOf m c).wa := by
  refine (dats m 0 c).arrAt_eq_of_covers 10 _ (by decide +kernel) fun t hf y => ?_
  obtain ⟨s, r, l, rfl⟩ : ∃ (s : Fin 2) (r : Fin 256) (l : Fin 128), y = ix3 s r l := ⟨y 0, y 1, y 2, eq_ix3 y⟩
  refine Eq.trans ?_ (do2Of_at _ _ _ _ _ _ _ (emb10 t s r l)).symm
  blk_simp
  rw [after0_10]
  exact at10 m c t s r l

theorem at11 (c : Dev nD) (t : Fin cfg0.N) (s : Fin 4) (r : Fin 256) (l : Fin 128) : (outsAt0 m c t.val t.isLt).2.1 (ix3 s r l) = do4At (argsOf m c) 1 (argsOf m c).wb s (rows t r) l := by
  rcases cases t with ⟨h0, h1⟩ | ⟨h0, h1⟩ | ⟨h0, h1⟩
  · rw [outsAt0_A m c t h0 h1]
    dsimp only
    unfold out0_A_11
    frame_out
    exact o11 (blk m c t) s r l
  · rw [outsAt0_B m c t h0 h1]
    dsimp only
    unfold out0_B_11
    frame_out
    exact o11 (blk m c t) s r l
  · rw [outsAt0_C m c t h0 h1]
    dsimp only
    unfold out0_C_11
    frame_out
    exact o11 (blk m c t) s r l

theorem arr11 (c : Dev nD) : (dats m 0 c).arrAt 11 cfg0.N = do4Of (argsOf m c) 1 (argsOf m c).wb := by
  refine (dats m 0 c).arrAt_eq_of_covers 11 _ (by decide +kernel) fun t hf y => ?_
  obtain ⟨s, r, l, rfl⟩ : ∃ (s : Fin 4) (r : Fin 256) (l : Fin 128), y = ix3 s r l := ⟨y 0, y 1, y 2, eq_ix3 y⟩
  refine Eq.trans ?_ (do4Of_at _ _ _ _ _ _ _ (emb11 t s r l)).symm
  blk_simp
  rw [after0_11]
  exact at11 m c t s r l

theorem at12 (c : Dev nD) (t : Fin cfg0.N) (s : Fin 2) (r : Fin 256) (l : Fin 128) : (outsAt0 m c t.val t.isLt).2.2.1 (ix3 s r l) = do2At (argsOf m c) 2 (argsOf m c).wc s (rows t r) l := by
  rcases cases t with ⟨h0, h1⟩ | ⟨h0, h1⟩ | ⟨h0, h1⟩
  · rw [outsAt0_A m c t h0 h1]
    dsimp only
    unfold out0_A_12
    frame_out
    exact o12 (blk m c t) s r l
  · rw [outsAt0_B m c t h0 h1]
    dsimp only
    unfold out0_B_12
    frame_out
    exact o12 (blk m c t) s r l
  · rw [outsAt0_C m c t h0 h1]
    dsimp only
    unfold out0_C_12
    frame_out
    exact o12 (blk m c t) s r l

theorem arr12 (c : Dev nD) : (dats m 0 c).arrAt 12 cfg0.N = do2Of (argsOf m c) 2 (argsOf m c).wc := by
  refine (dats m 0 c).arrAt_eq_of_covers 12 _ (by decide +kernel) fun t hf y => ?_
  obtain ⟨s, r, l, rfl⟩ : ∃ (s : Fin 2) (r : Fin 256) (l : Fin 128), y = ix3 s r l := ⟨y 0, y 1, y 2, eq_ix3 y⟩
  refine Eq.trans ?_ (do2Of_at _ _ _ _ _ _ _ (emb12 t s r l)).symm
  blk_simp
  rw [after0_12]
  exact at12 m c t s r l

theorem at13 (c : Dev nD) (t : Fin cfg0.N) (r : Fin 256) (l : Fin 3072) : (outsAt0 m c t.val t.isLt).2.2.2.1 (ix2 r l) = dgAt (argsOf m c) ⟨l.val / 1024, by omega⟩ (rows t r) ⟨l.val % 1024, by omega⟩ := by
  rcases cases t with ⟨h0, h1⟩ | ⟨h0, h1⟩ | ⟨h0, h1⟩
  · rw [outsAt0_A m c t h0 h1]
    dsimp only
    unfold out0_A_13
    frame_out
    exact o13 (blk m c t) r l
  · rw [outsAt0_B m c t h0 h1]
    dsimp only
    unfold out0_B_13
    frame_out
    exact o13 (blk m c t) r l
  · rw [outsAt0_C m c t h0 h1]
    dsimp only
    unfold out0_C_13
    frame_out
    exact o13 (blk m c t) r l

theorem arr13 (c : Dev nD) : (dats m 0 c).arrAt 13 cfg0.N = dgOf (argsOf m c) := by
  refine (dats m 0 c).arrAt_eq_of_covers 13 _ (by decide +kernel) fun t hf y => ?_
  obtain ⟨r, l, rfl⟩ : ∃ (r : Fin 256) (l : Fin 3072), y = ix2 r l := ⟨y 0, y 1, eq_ix2 y⟩
  refine Eq.trans ?_ (dgOf_at _ _ _ _ (emb13 t r l)).symm
  blk_simp
  rw [after0_13]
  exact at13 m c t r l

/-- A value that each grid point adds its rows' part to, from 0 at the first. -/
theorem sumOf (G : (n : Nat) → n < cfg0.N → EReal) (F : Fin 2048 → EReal)
    (hA : ∀ t : Fin cfg0.N, t.val % 8 = 0 → G t.val t.isLt = 0 + ∑ r : Fin 256, F (rows t r))
    (hB : ∀ t u : Fin cfg0.N, u.val + 1 = t.val → ¬t.val % 8 = 0 → G t.val t.isLt = G u.val u.isLt + ∑ r : Fin 256, F (rows t r)) :
    ∀ (n : Nat) (hn : n < cfg0.N), G n hn = part F (n + 1) := by
  intro n
  induction n with
  | zero =>
    intro hn
    refine (hA ⟨0, hn⟩ rfl).trans ?_
    rw [part_succ F 0 (by decide), part_zero]
    rfl
  | succ n ih =>
    intro hn
    have h8 : n + 1 < 8 := hn
    refine (hB ⟨n + 1, hn⟩ ⟨n, Nat.lt_of_succ_lt hn⟩ rfl (by show ¬(n + 1) % 8 = 0; omega)).trans ?_
    rw [part_succ F (n + 1) h8]
    exact congrArg (· + _) (ih _)

theorem prev (c : Dev nD) (t u : Fin cfg0.N) (h : u.val + 1 = t.val) :
    outsAt0 m c (t.val - 1) (Nat.lt_of_le_of_lt (Nat.sub_le _ _) t.isLt) = outsAt0 m c u.val u.isLt := by
  have h1 : t.val - 1 = u.val := by omega
  congr 1

theorem first0 (c : Dev nD) (k : Fin 256) (l : Fin 1024) (t : Fin cfg0.N) (h0 : t.val % 8 = 0) :
    (outsAt0 m c t.val t.isLt).2.2.2.2.2.2.2.2.1 (ix2 k l) = 0 + ∑ r : Fin 256, dw2 (argsOf m c) 0 (argsOf m c).oa k l (rows t r) := by
  rw [outsAt0_A m c t h0 (by omega)]
  dsimp only
  unfold sout0_A_0
  frame_out
  refine (sc0 (blk m c t) _ k l).trans ?_
  rw [zero4]

theorem next0 (c : Dev nD) (k : Fin 256) (l : Fin 1024) (t u : Fin cfg0.N) (h : u.val + 1 = t.val) (h0 : ¬t.val % 8 = 0) :
    (outsAt0 m c t.val t.isLt).2.2.2.2.2.2.2.2.1 (ix2 k l) = (outsAt0 m c u.val u.isLt).2.2.2.2.2.2.2.2.1 (ix2 k l) + ∑ r : Fin 256, dw2 (argsOf m c) 0 (argsOf m c).oa k l (rows t r) := by
  by_cases h1 : t.val % 8 = 7
  · rw [outsAt0_C m c t h0 h1, prev m c t u h]
    dsimp only
    unfold sout0_C_0
    frame_out
    exact (sc0 (blk m c t) _ k l).trans (congrArg (· + _) (congrFun (Memref.IsWhole.read_unread _ _) _))
  · rw [outsAt0_B m c t h0 h1, prev m c t u h]
    dsimp only
    unfold sout0_B_0
    frame_out
    exact (sc0 (blk m c t) _ k l).trans (congrArg (· + _) (congrFun (Memref.IsWhole.read_unread _ _) _))

theorem acc0 (c : Dev nD) (k : Fin 256) (l : Fin 1024) (hn : 7 < cfg0.N) :
    (outsAt0 m c 7 hn).2.2.2.2.2.2.2.2.1 (ix2 k l) = ∑ r : Fin 2048, dw2 (argsOf m c) 0 (argsOf m c).oa k l r :=
  (sumOf (fun n hn => (outsAt0 m c n hn).2.2.2.2.2.2.2.2.1 (ix2 k l)) (dw2 (argsOf m c) 0 (argsOf m c).oa k l) (first0 m c k l) (next0 m c k l) 7 hn).trans (part_all _)

theorem first1 (c : Dev nD) (k : Fin 512) (l : Fin 1024) (t : Fin cfg0.N) (h0 : t.val % 8 = 0) :
    (outsAt0 m c t.val t.isLt).2.2.2.2.2.2.2.2.2.1 (ix2 k l) = 0 + ∑ r : Fin 256, dw4 (argsOf m c) 1 (argsOf m c).ob k l (rows t r) := by
  rw [outsAt0_A m c t h0 (by omega)]
  dsimp only
  unfold sout0_A_1
  frame_out
  refine (sc1 (blk m c t) _ k l).trans ?_
  rw [zero5]

theorem next1 (c : Dev nD) (k : Fin 512) (l : Fin 1024) (t u : Fin cfg0.N) (h : u.val + 1 = t.val) (h0 : ¬t.val % 8 = 0) :
    (outsAt0 m c t.val t.isLt).2.2.2.2.2.2.2.2.2.1 (ix2 k l) = (outsAt0 m c u.val u.isLt).2.2.2.2.2.2.2.2.2.1 (ix2 k l) + ∑ r : Fin 256, dw4 (argsOf m c) 1 (argsOf m c).ob k l (rows t r) := by
  by_cases h1 : t.val % 8 = 7
  · rw [outsAt0_C m c t h0 h1, prev m c t u h]
    dsimp only
    unfold sout0_C_1
    frame_out
    exact (sc1 (blk m c t) _ k l).trans (congrArg (· + _) (congrFun (Memref.IsWhole.read_unread _ _) _))
  · rw [outsAt0_B m c t h0 h1, prev m c t u h]
    dsimp only
    unfold sout0_B_1
    frame_out
    exact (sc1 (blk m c t) _ k l).trans (congrArg (· + _) (congrFun (Memref.IsWhole.read_unread _ _) _))

theorem acc1 (c : Dev nD) (k : Fin 512) (l : Fin 1024) (hn : 7 < cfg0.N) :
    (outsAt0 m c 7 hn).2.2.2.2.2.2.2.2.2.1 (ix2 k l) = ∑ r : Fin 2048, dw4 (argsOf m c) 1 (argsOf m c).ob k l r :=
  (sumOf (fun n hn => (outsAt0 m c n hn).2.2.2.2.2.2.2.2.2.1 (ix2 k l)) (dw4 (argsOf m c) 1 (argsOf m c).ob k l) (first1 m c k l) (next1 m c k l) 7 hn).trans (part_all _)

theorem first2 (c : Dev nD) (k : Fin 256) (l : Fin 1024) (t : Fin cfg0.N) (h0 : t.val % 8 = 0) :
    (outsAt0 m c t.val t.isLt).2.2.2.2.2.2.2.2.2.2 (ix2 k l) = 0 + ∑ r : Fin 256, dw2 (argsOf m c) 2 (argsOf m c).oc k l (rows t r) := by
  rw [outsAt0_A m c t h0 (by omega)]
  dsimp only
  unfold sout0_A_2
  frame_out
  refine (sc2 (blk m c t) _ k l).trans ?_
  rw [zero6]

theorem next2 (c : Dev nD) (k : Fin 256) (l : Fin 1024) (t u : Fin cfg0.N) (h : u.val + 1 = t.val) (h0 : ¬t.val % 8 = 0) :
    (outsAt0 m c t.val t.isLt).2.2.2.2.2.2.2.2.2.2 (ix2 k l) = (outsAt0 m c u.val u.isLt).2.2.2.2.2.2.2.2.2.2 (ix2 k l) + ∑ r : Fin 256, dw2 (argsOf m c) 2 (argsOf m c).oc k l (rows t r) := by
  by_cases h1 : t.val % 8 = 7
  · rw [outsAt0_C m c t h0 h1, prev m c t u h]
    dsimp only
    unfold sout0_C_2
    frame_out
    exact (sc2 (blk m c t) _ k l).trans (congrArg (· + _) (congrFun (Memref.IsWhole.read_unread _ _) _))
  · rw [outsAt0_B m c t h0 h1, prev m c t u h]
    dsimp only
    unfold sout0_B_2
    frame_out
    exact (sc2 (blk m c t) _ k l).trans (congrArg (· + _) (congrFun (Memref.IsWhole.read_unread _ _) _))

theorem acc2 (c : Dev nD) (k : Fin 256) (l : Fin 1024) (hn : 7 < cfg0.N) :
    (outsAt0 m c 7 hn).2.2.2.2.2.2.2.2.2.2 (ix2 k l) = ∑ r : Fin 2048, dw2 (argsOf m c) 2 (argsOf m c).oc k l r :=
  (sumOf (fun n hn => (outsAt0 m c n hn).2.2.2.2.2.2.2.2.2.2 (ix2 k l)) (dw2 (argsOf m c) 2 (argsOf m c).oc k l) (first2 m c k l) (next2 m c k l) 7 hn).trans (part_all _)

theorem firstB (c : Dev nD) (k : Fin 3) (l : Fin 1024) (t : Fin cfg0.N) (h0 : t.val % 8 = 0) :
    (outsAt0 m c t.val t.isLt).2.2.2.2.2.2.2.1 (ix2 k l) = 0 + ∑ r : Fin 256, dgAt (argsOf m c) k (rows t r) l := by
  rw [outsAt0_A m c t h0 (by omega)]
  dsimp only
  unfold out0_A_17
  frame_out
  exact o17A (blk m c t) _ k l

theorem nextB (c : Dev nD) (k : Fin 3) (l : Fin 1024) (t u : Fin cfg0.N) (h : u.val + 1 = t.val) (h0 : ¬t.val % 8 = 0) :
    (outsAt0 m c t.val t.isLt).2.2.2.2.2.2.2.1 (ix2 k l) = (outsAt0 m c u.val u.isLt).2.2.2.2.2.2.2.1 (ix2 k l) + ∑ r : Fin 256, dgAt (argsOf m c) k (rows t r) l := by
  by_cases h1 : t.val % 8 = 7
  · rw [outsAt0_C m c t h0 h1, prev m c t u h]
    dsimp only
    unfold out0_C_17
    frame_out
    exact o17 (blk m c t) _ k l
  · rw [outsAt0_B m c t h0 h1, prev m c t u h]
    dsimp only
    unfold out0_B_17
    frame_out
    exact o17 (blk m c t) _ k l

theorem accB (c : Dev nD) (k : Fin 3) (l : Fin 1024) (hn : 7 < cfg0.N) :
    (outsAt0 m c 7 hn).2.2.2.2.2.2.2.1 (ix2 k l) = ∑ r : Fin 2048, dgAt (argsOf m c) k r l :=
  (sumOf (fun n hn => (outsAt0 m c n hn).2.2.2.2.2.2.2.1 (ix2 k l)) (fun r => dgAt (argsOf m c) k r l) (firstB m c k l) (nextB m c k l) 7 hn).trans (part_all _)

theorem last14 (c : Dev nD) (k : Fin 256) (l : Fin 1024) (t : Fin cfg0.N) (h1 : t.val % 8 = 7) :
    (outsAt0 m c t.val t.isLt).2.2.2.2.1 (ix2 k l) = (outsAt0 m c t.val t.isLt).2.2.2.2.2.2.2.2.1 (ix2 k l) := by
  rw [outsAt0_C m c t (by omega) h1]
  dsimp only
  unfold out0_C_14 sout0_C_0
  frame_out
  rfl

theorem fin14 (c : Dev nD) (t : Fin cfg0.N) (ht : t.val = 7) (k : Fin 256) (l : Fin 1024) :
    (outsAt0 m c t.val t.isLt).2.2.2.2.1 (ix2 k l) = ∑ r : Fin 2048, dw2 (argsOf m c) 0 (argsOf m c).oa k l r := by
  obtain rfl : t = ⟨7, by decide⟩ := Fin.ext ht
  exact (last14 m c k l ⟨7, by decide⟩ rfl).trans (acc0 m c k l _)

theorem only14 : ∀ t : Fin cfg0.N, (cfg0.win 14).flush t = true → t.val = 7 := by decide +kernel

theorem arr14 (c : Dev nD) : (dats m 0 c).arrAt 14 cfg0.N = dw2Of (argsOf m c) 0 (argsOf m c).oa := by
  refine (dats m 0 c).arrAt_eq_of_covers 14 _ (by decide +kernel) fun t hf y => ?_
  have ht := only14 t hf
  obtain ⟨k, l, rfl⟩ : ∃ (k : Fin 256) (l : Fin 1024), y = ix2 k l := ⟨y 0, y 1, eq_ix2 y⟩
  refine Eq.trans ?_ (dw2Of_at _ _ _ _ _ _ (emb14 t k l)).symm
  blk_simp
  rw [after0_14]
  exact fin14 m c t ht k l

theorem last15 (c : Dev nD) (k : Fin 512) (l : Fin 1024) (t : Fin cfg0.N) (h1 : t.val % 8 = 7) :
    (outsAt0 m c t.val t.isLt).2.2.2.2.2.1 (ix2 k l) = (outsAt0 m c t.val t.isLt).2.2.2.2.2.2.2.2.2.1 (ix2 k l) := by
  rw [outsAt0_C m c t (by omega) h1]
  dsimp only
  unfold out0_C_15 sout0_C_1
  frame_out
  rfl

theorem fin15 (c : Dev nD) (t : Fin cfg0.N) (ht : t.val = 7) (k : Fin 512) (l : Fin 1024) :
    (outsAt0 m c t.val t.isLt).2.2.2.2.2.1 (ix2 k l) = ∑ r : Fin 2048, dw4 (argsOf m c) 1 (argsOf m c).ob k l r := by
  obtain rfl : t = ⟨7, by decide⟩ := Fin.ext ht
  exact (last15 m c k l ⟨7, by decide⟩ rfl).trans (acc1 m c k l _)

theorem only15 : ∀ t : Fin cfg0.N, (cfg0.win 15).flush t = true → t.val = 7 := by decide +kernel

theorem arr15 (c : Dev nD) : (dats m 0 c).arrAt 15 cfg0.N = dw4Of (argsOf m c) 1 (argsOf m c).ob := by
  refine (dats m 0 c).arrAt_eq_of_covers 15 _ (by decide +kernel) fun t hf y => ?_
  have ht := only15 t hf
  obtain ⟨k, l, rfl⟩ : ∃ (k : Fin 512) (l : Fin 1024), y = ix2 k l := ⟨y 0, y 1, eq_ix2 y⟩
  refine Eq.trans ?_ (dw4Of_at _ _ _ _ _ _ (emb15 t k l)).symm
  blk_simp
  rw [after0_15]
  exact fin15 m c t ht k l

theorem last16 (c : Dev nD) (k : Fin 256) (l : Fin 1024) (t : Fin cfg0.N) (h1 : t.val % 8 = 7) :
    (outsAt0 m c t.val t.isLt).2.2.2.2.2.2.1 (ix2 k l) = (outsAt0 m c t.val t.isLt).2.2.2.2.2.2.2.2.2.2 (ix2 k l) := by
  rw [outsAt0_C m c t (by omega) h1]
  dsimp only
  unfold out0_C_16 sout0_C_2
  frame_out
  rfl

theorem fin16 (c : Dev nD) (t : Fin cfg0.N) (ht : t.val = 7) (k : Fin 256) (l : Fin 1024) :
    (outsAt0 m c t.val t.isLt).2.2.2.2.2.2.1 (ix2 k l) = ∑ r : Fin 2048, dw2 (argsOf m c) 2 (argsOf m c).oc k l r := by
  obtain rfl : t = ⟨7, by decide⟩ := Fin.ext ht
  exact (last16 m c k l ⟨7, by decide⟩ rfl).trans (acc2 m c k l _)

theorem only16 : ∀ t : Fin cfg0.N, (cfg0.win 16).flush t = true → t.val = 7 := by decide +kernel

theorem arr16 (c : Dev nD) : (dats m 0 c).arrAt 16 cfg0.N = dw2Of (argsOf m c) 2 (argsOf m c).oc := by
  refine (dats m 0 c).arrAt_eq_of_covers 16 _ (by decide +kernel) fun t hf y => ?_
  have ht := only16 t hf
  obtain ⟨k, l, rfl⟩ : ∃ (k : Fin 256) (l : Fin 1024), y = ix2 k l := ⟨y 0, y 1, eq_ix2 y⟩
  refine Eq.trans ?_ (dw2Of_at _ _ _ _ _ _ (emb16 t k l)).symm
  blk_simp
  rw [after0_16]
  exact fin16 m c t ht k l

theorem fin17 (c : Dev nD) (t : Fin cfg0.N) (ht : t.val = 7) (k : Fin 3) (l : Fin 1024) :
    (outsAt0 m c t.val t.isLt).2.2.2.2.2.2.2.1 (ix2 k l) = ∑ r : Fin 2048, dgAt (argsOf m c) k r l := by
  obtain rfl : t = ⟨7, by decide⟩ := Fin.ext ht
  exact accB m c k l _

theorem only17 : ∀ t : Fin cfg0.N, (cfg0.win 17).flush t = true → t.val = 7 := by decide +kernel

theorem arr17 (c : Dev nD) : (dats m 0 c).arrAt 17 cfg0.N = dbOf (argsOf m c) := by
  refine (dats m 0 c).arrAt_eq_of_covers 17 _ (by decide +kernel) fun t hf y => ?_
  have ht := only17 t hf
  obtain ⟨k, l, rfl⟩ : ∃ (k : Fin 3) (l : Fin 1024), y = ix2 k l := ⟨y 0, y 1, eq_ix2 y⟩
  refine Eq.trans ?_ (dbOf_at _ _ _ _ (emb17 t k l)).symm
  blk_simp
  rw [after0_17]
  exact fin17 m c t ht k l

end Cert.MergeBwdIdeal.Value

open Cert.MergeBwdRefIdeal in
/-- The reference's arguments in a memory. -/
abbrev Cert.MergeBwdRefIdeal.Value.argsOf (m : (ℓ : Loc nD τ sig) → Buf (Elt Ideal) ℓ) (c : Dev nD) : Cert.MergeBwdIdeal.Value.Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4),
    m ((c.tc : Thread nD τ).loc main_arg5), m ((c.tc : Thread nD τ).loc main_arg6), m ((c.tc : Thread nD τ).loc main_arg7), m ((c.tc : Thread nD τ).loc main_arg8), m ((c.tc : Thread nD τ).loc main_arg9)⟩

set_option maxHeartbeats 1600000 in
theorem Cert.MergeBwdIdeal.Value.equal : Cert.algebraic_MergeBwdIdeal_MergeBwdRefIdeal := by
  intro m g m' g' _ harg
  refine ⟨fun c => (Cert.MergeBwdIdeal.Gen.dats m 0 c).arrAt 10 Cert.MergeBwdIdeal.cfg0.N, fun c => (Cert.MergeBwdIdeal.Gen.dats m 0 c).arrAt 11 Cert.MergeBwdIdeal.cfg0.N, fun c => (Cert.MergeBwdIdeal.Gen.dats m 0 c).arrAt 12 Cert.MergeBwdIdeal.cfg0.N, fun c => (Cert.MergeBwdIdeal.Gen.dats m 0 c).arrAt 13 Cert.MergeBwdIdeal.cfg0.N, fun c => (Cert.MergeBwdIdeal.Gen.dats m 0 c).arrAt 14 Cert.MergeBwdIdeal.cfg0.N, fun c => (Cert.MergeBwdIdeal.Gen.dats m 0 c).arrAt 15 Cert.MergeBwdIdeal.cfg0.N, fun c => (Cert.MergeBwdIdeal.Gen.dats m 0 c).arrAt 16 Cert.MergeBwdIdeal.cfg0.N, fun c => (Cert.MergeBwdIdeal.Gen.dats m 0 c).arrAt 17 Cert.MergeBwdIdeal.cfg0.N,
    Cert.MergeBwdIdeal.Value.run_blocks m g, ?_⟩
  refine (θ_run Cert.MergeBwdRefIdeal.defs _ _).mono (fun r h c => ?_) (Cert.MergeBwdRefIdeal.Value.run m' g')
  obtain ⟨e0, e1, e2, e3, e4, e5, e6, e7, e8, e9⟩ := harg c
  have e : Cert.MergeBwdRefIdeal.Value.argsOf m' c = Cert.MergeBwdIdeal.Value.argsOf m c := by
    unfold Cert.MergeBwdRefIdeal.Value.argsOf
    rw [e0, e1, e2, e3, e4, e5, e6, e7, e8, e9]
  obtain ⟨r0, r1, r2, r3, r4, r5, r6, r7, q⟩ := h c
  refine ⟨r0.trans ?_, r1.trans ?_, r2.trans ?_, r3.trans ?_, r4.trans ?_, r5.trans ?_, r6.trans ?_, r7.trans ?_, q⟩
  · refine Eq.trans ?_ (Cert.MergeBwdIdeal.Value.arr10 m c).symm
    rw [← e]
    exact Cert.MergeBwdRefIdeal.Value.r_do_a (Cert.MergeBwdRefIdeal.Value.argsOf m' c)
  · refine Eq.trans ?_ (Cert.MergeBwdIdeal.Value.arr11 m c).symm
    rw [← e]
    exact Cert.MergeBwdRefIdeal.Value.r_do_b (Cert.MergeBwdRefIdeal.Value.argsOf m' c)
  · refine Eq.trans ?_ (Cert.MergeBwdIdeal.Value.arr12 m c).symm
    rw [← e]
    exact Cert.MergeBwdRefIdeal.Value.r_do_c (Cert.MergeBwdRefIdeal.Value.argsOf m' c)
  · refine Eq.trans ?_ (Cert.MergeBwdIdeal.Value.arr13 m c).symm
    rw [← e]
    exact Cert.MergeBwdRefIdeal.Value.r_d_gates (Cert.MergeBwdRefIdeal.Value.argsOf m' c)
  · refine Eq.trans ?_ (Cert.MergeBwdIdeal.Value.arr14 m c).symm
    rw [← e]
    exact Cert.MergeBwdRefIdeal.Value.r_dw_a (Cert.MergeBwdRefIdeal.Value.argsOf m' c)
  · refine Eq.trans ?_ (Cert.MergeBwdIdeal.Value.arr15 m c).symm
    rw [← e]
    exact Cert.MergeBwdRefIdeal.Value.r_dw_b (Cert.MergeBwdRefIdeal.Value.argsOf m' c)
  · refine Eq.trans ?_ (Cert.MergeBwdIdeal.Value.arr16 m c).symm
    rw [← e]
    exact Cert.MergeBwdRefIdeal.Value.r_dw_c (Cert.MergeBwdRefIdeal.Value.argsOf m' c)
  · refine Eq.trans ?_ (Cert.MergeBwdIdeal.Value.arr17 m c).symm
    rw [← e]
    exact Cert.MergeBwdRefIdeal.Value.r_d_bg (Cert.MergeBwdRefIdeal.Value.argsOf m' c)
end
-- ==== Proof.VPreNorm.lean ====
/- The norm before a block: what the kernel leaves in its result, and that the reference leaves the same. -/
module

public import proofs.«01_k».proof.Defs
public import proofs.«01_k».proof.Proof.Gen.PreNormIdeal.Value
public import proofs.«01_k».proof.Proof.Gen.PreNormRefIdeal.Run
public import Idealize.ShloMosaic.Lib.Pipeline.ValueKit
public import Idealize.ShloMosaic.Lib.Pointwise
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Norm

/-- The mean of a row's squares, plus the small constant. -/
def meanSq (f : Fin 1024 → EReal) : EReal :=
  Ideal.div (∑ k : Fin 1024, f k * f k) (Ideal.ofBits .f32 0x44800000#32) + Ideal.ofBits .f32 0x358637BD#32

/-- One column of a normed row, with the column's gain. -/
def normAt (f : Fin 1024 → EReal) (l : Fin 1024) (g : EReal) : EReal := f l * Ideal.rsqrt (meanSq f) * g

end Cert.Norm

open Cert.Norm

namespace Cert.PreNormIdeal.Value

open Cert.PreNormIdeal Cert.PreNormIdeal.Gen

variable (m : (ℓ : Loc nD τ sig) → Buf (Elt Ideal) ℓ)

theorem pay (a : Vec Ideal S512x1024 .f32) (b : Vec Ideal S1x1024 .f32) (r : Fin 512) (l : Fin 1024) :
    k0_pay1 a b (ix2 r l) = normAt (fun k => a (ix2 r k)) l (b (ix2 0 l)) := by
  unfold normAt meanSq
  pointwise [k0_pay1]

/-- The normed rows. -/
def resOf (a : FVec Ideal S2048x1024 .f32) (b : FVec Ideal S1x1024 .f32) : FVec Ideal S2048x1024 .bf16 :=
  fun i => normAt (fun k => a (ix2 (i 0) k)) (i 1) (b (ix2 0 (i 1)))

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

theorem arr0 (c : Dev nD) : (dats m 0 c).arrAt 2 cfg0.N
    = resOf (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  frame_out
  obtain ⟨r, l, rfl⟩ : ∃ (r : Fin 512) (l : Fin 1024), y = ix2 r l := ⟨y 0, y 1, eq_ix2 y⟩
  rw [pay]
  unfold resOf
  blk_point [iblk, V_main_arg0, V_main_arg1, index0 t, index1 t, index2 t]

end Cert.PreNormIdeal.Value

namespace Cert.PreNormRefIdeal.Value

open Cert.PreNormRefIdeal Cert.PreNormRefIdeal.Gen

theorem ref_eq (a : FVec Ideal S2048x1024 .f32) (b : FVec Ideal S1x1024 .f32) :
    truncf .bf16 (mulf (mulf a (broadcastInDim S2048x1024 ![0, 1] bcast_S2048x1_S2048x1024_0_1 (Host.rsqrt (addf (Host.divf (broadcastInDim S2048x1 ![0] bcast_S2048_S2048x1_0 (Host.reduceAdd (mulf a a) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 b)) bitsLt_bf16_f32
      = Cert.PreNormIdeal.Value.resOf a b := by
  funext y
  obtain ⟨r, l, rfl⟩ : ∃ (r : Fin 2048) (l : Fin 1024), y = ix2 r l := ⟨y 0, y 1, eq_ix2 y⟩
  unfold Cert.PreNormIdeal.Value.resOf normAt meanSq
  pointwise []

theorem frame : Cert.quiescent_PreNormRefIdeal := fun m ρ _ =>
  (θ_run Cert.PreNormRefIdeal.defs _ _).mono
    (fun r h => ⟨fun c => (h c).2, Idealize.ShloMosaic.sem_eq_zero_of_no_sems (by decide) r.2⟩)
    (Cert.PreNormRefIdeal.Value.run m ρ)

end Cert.PreNormRefIdeal.Value

theorem Cert.PreNormIdeal.Value.equal : Cert.algebraic_PreNormIdeal_PreNormRefIdeal := by
  intro m g m' g' _ harg
  refine ⟨fun c => (Cert.PreNormIdeal.Gen.dats m 0 c).arrAt 2 Cert.PreNormIdeal.cfg0.N, Cert.PreNormIdeal.Value.run_blocks m g, ?_⟩
  refine (θ_run Cert.PreNormRefIdeal.defs _ _).mono (fun r h c => ?_) (Cert.PreNormRefIdeal.Value.run m' g')
  obtain ⟨e0, e1⟩ := harg c
  obtain ⟨r0, q⟩ := h c
  refine ⟨r0.trans ((Cert.PreNormRefIdeal.Value.ref_eq _ _).trans ?_), q⟩
  refine Eq.trans ?_ (Cert.PreNormIdeal.Value.arr0 m c).symm
  exact congrArg₂ Cert.PreNormIdeal.Value.resOf e0 e1
end
-- ==== Proof.VPostNorm.lean ====
/- The norm after a block, added to the stream, and the sum normed again: what the kernel leaves in its two results, and
   that the reference leaves the same. -/
module

public import proofs.«01_k».proof.Proof.VPreNorm
public import proofs.«01_k».proof.Proof.Gen.PostNormIdeal.Value
public import proofs.«01_k».proof.Proof.Gen.PostNormRefIdeal.Run

@[expose] public section

set_option maxRecDepth 16384

noncomputable section

open Idealize.ShloMosaic Idealize.ShloMosaic.TcCoe Idealize.SL.Sem
open Idealize.ShloMosaic.Pipeline (Dat)
open Cert.Norm

namespace Cert.PostNormIdeal.Value

open Cert.PostNormIdeal Cert.PostNormIdeal.Gen

variable (m : (ℓ : Loc nD τ sig) → Buf (Elt Ideal) ℓ)

theorem pay1 (x f : Vec Ideal S512x1024 .f32) (p : Vec Ideal S1x1024 .f32) (r : Fin 512) (l : Fin 1024) :
    k0_pay1 x f p (ix2 r l) = x (ix2 r l) + normAt (fun k => f (ix2 r k)) l (p (ix2 0 l)) := by
  unfold normAt meanSq
  pointwise [k0_pay1]

theorem pay2 (x f : Vec Ideal S512x1024 .f32) (p n : Vec Ideal S1x1024 .f32) (r : Fin 512) (l : Fin 1024) :
    k0_pay2 x f p n (ix2 r l) = normAt (fun k => k0_pay1 x f p (ix2 r k)) l (n (ix2 0 l)) := by
  unfold normAt meanSq k0_pay2
  generalize k0_pay1 x f p = z
  pointwise []

/-- The stream after the block. -/
def sumOf (x f : FVec Ideal S2048x1024 .f32) (p : FVec Ideal S1x1024 .f32) : FVec Ideal S2048x1024 .f32 :=
  fun i => x i + normAt (fun k => f (ix2 (i 0) k)) (i 1) (p (ix2 0 (i 1)))

/-- The stream after the block, normed. -/
def resOf (x f : FVec Ideal S2048x1024 .f32) (p n : FVec Ideal S1x1024 .f32) : FVec Ideal S2048x1024 .bf16 :=
  fun i => normAt (fun k => sumOf x f p (ix2 (i 0) k)) (i 1) (n (ix2 0 (i 1)))

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel

theorem arr4 (c : Dev nD) : (dats m 0 c).arrAt 4 cfg0.N
    = sumOf (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  unfold out0_4
  frame_out
  obtain ⟨r, l, rfl⟩ : ∃ (r : Fin 512) (l : Fin 1024), y = ix2 r l := ⟨y 0, y 1, eq_ix2 y⟩
  rw [pay1]
  unfold sumOf
  blk_point [iblk, V_main_arg0, V_main_arg1, V_main_arg2, index0 t, index1 t, index2 t, index4 t]

theorem arr5 (c : Dev nD) : (dats m 0 c).arrAt 5 cfg0.N
    = resOf (m ((c.tc : Thread nD τ).loc main_arg0)) (m ((c.tc : Thread nD τ).loc main_arg1)) (m ((c.tc : Thread nD τ).loc main_arg2))
        (m ((c.tc : Thread nD τ).loc main_arg3)) := by
  refine (dats m 0 c).arrAt_eq_of_covers 5 _ (by decide +kernel) fun t hf y => ?_
  blk_simp
  rw [after0_5]
  unfold out0_5
  frame_out
  obtain ⟨r, l, rfl⟩ : ∃ (r : Fin 512) (l : Fin 1024), y = ix2 r l := ⟨y 0, y 1, eq_ix2 y⟩
  rw [pay2]
  simp only [pay1]
  unfold resOf sumOf
  blk_point [iblk, V_main_arg0, V_main_arg1, V_main_arg2, V_main_arg3, index0 t, index1 t, index2 t, index3 t, index5 t]

end Cert.PostNormIdeal.Value

namespace Cert.PostNormRefIdeal.Value

open Cert.PostNormRefIdeal Cert.PostNormRefIdeal.Gen

/-- The reference's norm of all rows. -/
def rms (a : FVec Ideal S2048x1024 .f32) (b : FVec Ideal S1x1024 .f32) : FVec Ideal S2048x1024 .f32 :=
  mulf (mulf a (broadcastInDim S2048x1024 ![0, 1] bcast_S2048x1_S2048x1024_0_1 (Host.rsqrt (addf (Host.divf (broadcastInDim S2048x1 ![0] bcast_S2048_S2048x1_0 (Host.reduceAdd (mulf a a) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 b)

theorem rms_at (a : FVec Ideal S2048x1024 .f32) (b : FVec Ideal S1x1024 .f32) (r : Fin 2048) (l : Fin 1024) :
    rms a b (ix2 r l) = normAt (fun k => a (ix2 r k)) l (b (ix2 0 l)) := by
  unfold rms normAt meanSq
  pointwise []

theorem sum_eq (x f : FVec Ideal S2048x1024 .f32) (p : FVec Ideal S1x1024 .f32) :
    addf x (rms f p) = Cert.PostNormIdeal.Value.sumOf x f p := by
  funext y
  obtain ⟨r, l, rfl⟩ : ∃ (r : Fin 2048) (l : Fin 1024), y = ix2 r l := ⟨y 0, y 1, eq_ix2 y⟩
  exact congrArg (x (ix2 r l) + ·) (rms_at f p r l)

theorem res_eq (x f : FVec Ideal S2048x1024 .f32) (p n : FVec Ideal S1x1024 .f32) :
    truncf .bf16 (rms (addf x (rms f p)) n) bitsLt_bf16_f32 = Cert.PostNormIdeal.Value.resOf x f p n := by
  rw [sum_eq]
  funext y
  obtain ⟨r, l, rfl⟩ : ∃ (r : Fin 2048) (l : Fin 1024), y = ix2 r l := ⟨y 0, y 1, eq_ix2 y⟩
  exact rms_at _ n r l

theorem frame : Cert.quiescent_PostNormRefIdeal := fun m ρ _ =>
  (θ_run Cert.PostNormRefIdeal.defs _ _).mono
    (fun r h => ⟨fun c => (h c).2.2, Idealize.ShloMosaic.sem_eq_zero_of_no_sems (by decide) r.2⟩)
    (Cert.PostNormRefIdeal.Value.run m ρ)

end Cert.PostNormRefIdeal.Value

theorem Cert.PostNormIdeal.Value.equal : Cert.algebraic_PostNormIdeal_PostNormRefIdeal := by
  intro m g m' g' _ harg
  refine ⟨fun c => (Cert.PostNormIdeal.Gen.dats m 0 c).arrAt 4 Cert.PostNormIdeal.cfg0.N,
    fun c => (Cert.PostNormIdeal.Gen.dats m 0 c).arrAt 5 Cert.PostNormIdeal.cfg0.N, Cert.PostNormIdeal.Value.run_blocks m g, ?_⟩
  refine (θ_run Cert.PostNormRefIdeal.defs _ _).mono (fun r h c => ?_) (Cert.PostNormRefIdeal.Value.run m' g')
  obtain ⟨e0, e1, e2, e3⟩ := harg c
  obtain ⟨r0, r1, q⟩ := h c
  refine ⟨r0.trans ((Cert.PostNormRefIdeal.Value.sum_eq _ _ _).trans (Eq.trans ?_ (Cert.PostNormIdeal.Value.arr4 m c).symm)),
    r1.trans ((Cert.PostNormRefIdeal.Value.res_eq _ _ _ _).trans (Eq.trans ?_ (Cert.PostNormIdeal.Value.arr5 m c).symm)), q⟩
  · rw [e0, e1, e2]
  · rw [e0, e1, e2, e3]
end
-- ==== Proof.VNormBwd.lean ====
/- The norm's gradient: what the kernel leaves in its two results, and that the reference leaves the same when the
   arguments that are multiplied are finite. -/
module

public import proofs.«01_k».proof.Proof.VPreNorm
public import proofs.«01_k».proof.Proof.Reals
public import proofs.«01_k».proof.Proof.Gen.NormBwdIdeal.Value
public import proofs.«01_k».proof.Proof.Gen.NormBwdRefIdeal.Run

@[expose] public section

set_option maxRecDepth 16384

noncomputable section

open Idealize.ShloMosaic Idealize.ShloMosaic.TcCoe Idealize.SL.Sem
open Idealize.ShloMosaic.Pipeline (Dat)

namespace Cert.Norm

open Cert.KernelIdeal.Value (Fn)

theorem width_word : Ideal.ofBits .f32 0x44800000#32 = ((1024 : ℝ) : EReal) := by
  simp [Ideal.ofBits, Ideal.ieee, -EReal.coe_mul]; norm_num
theorem neg_half_word : Ideal.ofBits .f32 0xBF000000#32 = ((-1 / 2 : ℝ) : EReal) := by
  simp [Ideal.ofBits, Ideal.ieee, -EReal.coe_mul]; norm_num
theorem eps_word : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

theorem coe_sum {n : ℕ} (f : Fin n → ℝ) : ∑ k, (f k : EReal) = ((∑ k, f k : ℝ) : EReal) :=
  (map_sum (⟨⟨fun r : ℝ => (r : EReal), rfl⟩, EReal.coe_add⟩ : ℝ →+ EReal) f Finset.univ).symm

/-- The gradient at one column of a row, from the row `x` and the gradient `d` at the row's normed values. -/
def bwdAt (x d : Fin 1024 → EReal) (l : Fin 1024) : EReal :=
  Ideal.rsqrt (meanSq x) * (d l - x l * Ideal.rsqrt (meanSq x)
    * Ideal.div (∑ k : Fin 1024, d k * (x k * Ideal.rsqrt (meanSq x))) (Ideal.ofBits .f32 0x44800000#32))

/-- The gradient at the mean of the squares, spread over the row, as the reference has it. -/
def ctAt (x d : Fin 1024 → EReal) : EReal :=
  Ideal.div ((∑ k : Fin 1024, x k * d k) * (Ideal.ofBits .f32 0xBF000000#32 * Ideal.div (Ideal.rsqrt (meanSq x)) (meanSq x)))
    (Ideal.ofBits .f32 0x44800000#32)

/-- For finite rows the reference's three terms are the kernel's product, and it is finite. -/
theorem bwd_eq (x d : Fin 1024 → EReal) (hx : ∀ k, Fn (x k)) (hd : ∀ k, Fn (d k)) (l : Fin 1024) :
    d l * Ideal.rsqrt (meanSq x) + x l * ctAt x d + ctAt x d * x l = bwdAt x d l ∧ Fn (bwdAt x d l) := by
  choose y hy using hx
  choose c hc using hd
  obtain rfl : x = fun k => (y k : EReal) := funext hy
  obtain rfl : d = fun k => (c k : EReal) := funext hc
  obtain ⟨e, he, hw⟩ := eps_word
  have hv : 0 < (∑ k, y k * y k) * (1 / 1024) + e :=
    add_pos_of_nonneg_of_pos (mul_nonneg (Finset.sum_nonneg fun k _ => mul_self_nonneg _) (by norm_num)) he
  have hm : meanSq (fun k => (y k : EReal)) = (((∑ k, y k * y k) * (1 / 1024) + e : ℝ) : EReal) := by
    unfold meanSq
    rw [hw, width_word, Ideal.div_coe (by norm_num)]
    simp only [← EReal.coe_mul, coe_sum, ← EReal.coe_add]
  unfold ctAt bwdAt
  rw [hm, width_word, neg_half_word]
  generalize (∑ k, y k * y k) * (1 / 1024) + e = v at hv
  rw [Ideal.rsqrt_coe, if_neg (not_lt.mpr hv.le), if_neg hv.ne', Ideal.div_coe hv.ne', Ideal.div_coe (by norm_num), Ideal.div_coe (by norm_num)]
  simp only [← EReal.coe_mul, coe_sum, ← EReal.coe_add, ← EReal.coe_sub]
  refine ⟨congrArg _ ?_, _, rfl⟩
  have hs : 0 < Real.sqrt v := Real.sqrt_pos.mpr hv
  have h2 : v = Real.sqrt v * Real.sqrt v := (Real.mul_self_sqrt hv.le).symm
  have hsum : ∑ k, c k * (y k * (Real.sqrt v)⁻¹) = (∑ k, y k * c k) * (Real.sqrt v)⁻¹ := by
    rw [Finset.sum_mul]
    exact Finset.sum_congr rfl fun k _ => by ring
  rw [hsum]
  generalize Real.sqrt v = s at hs h2
  subst h2
  field_simp
  ring

/-- The sum of a function of the rows over the first blocks of 512. -/
def part (F : Fin 2048 → EReal) (n : Nat) : EReal :=
  ∑ t ∈ Finset.range n, ∑ r : Fin 512, F ⟨(t * 512 + r.val) % 2048, Nat.mod_lt _ (by decide)⟩

theorem part_zero (F : Fin 2048 → EReal) : part F 0 = 0 := rfl

theorem part_succ (F : Fin 2048 → EReal) (n : Nat) (hn : n < 4) :
    part F (n + 1) = part F n + ∑ r : Fin 512, F ⟨n * 512 + r.val, by omega⟩ := by
  unfold part
  rw [Finset.sum_range_succ]
  refine congrArg _ (Finset.sum_congr rfl fun r _ => congrArg F (Fin.ext ?_))
  show (n * 512 + r.val) % 2048 = n * 512 + r.val
  omega

theorem part_all (F : Fin 2048 → EReal) : part F 4 = ∑ r : Fin 2048, F r := by
  unfold part
  rw [Finset.sum_range]
  refine (Fintype.sum_prod_type' fun (t : Fin 4) (r : Fin 512) => F ⟨(t.val * 512 + r.val) % 2048, Nat.mod_lt _ (by decide)⟩).symm.trans ?_
  refine Fintype.sum_equiv finProdFinEquiv _ _ fun x => congrArg F (Fin.ext ?_)
  show (x.1.val * 512 + x.2.val) % 2048 = x.2.val + 512 * x.1.val
  omega

end Cert.Norm

open Cert.Norm

namespace Cert.NormBwdIdeal.Value

open Cert.NormBwdIdeal Cert.NormBwdIdeal.Gen

variable (m : (ℓ : Loc nD τ sig) → Buf (Elt Ideal) ℓ)

theorem pay3 (a : Vec Ideal S512x1024 .f32) (r : Fin 512) : k0_pay3 a (ix2 r 0) = Ideal.rsqrt (meanSq fun k => a (ix2 r k)) := by
  unfold meanSq
  pointwise [k0_pay3]

theorem pay4 (a : Vec Ideal S512x1024 .f32) (r : Fin 512) (l : Fin 1024) :
    k0_pay4 a (ix2 r l) = a (ix2 r l) * Ideal.rsqrt (meanSq fun k => a (ix2 r k)) := by
  rw [← pay3]
  unfold k0_pay4
  generalize k0_pay3 a = z
  pointwise []

theorem pay5 (a d e : Vec Ideal S512x1024 .f32) (g : Vec Ideal S1x1024 .f32) (s : Vec Ideal S512x1024 .f32) (r : Fin 512) (l : Fin 1024) :
    k0_pay5 a d e g s (ix2 r l)
      = bwdAt (fun k => a (ix2 r k)) (fun k => (d (ix2 r k) + e (ix2 r k)) * g (ix2 0 k)) l + s (ix2 r l) := by
  unfold bwdAt
  dsimp only
  rw [← pay3]
  have h4 : ∀ k, k0_pay4 a (ix2 r k) = a (ix2 r k) * k0_pay3 a (ix2 r 0) := fun k => (pay4 a r k).trans (congrArg _ (pay3 a r).symm)
  simp only [← h4]
  unfold k0_pay5 k0_pay2
  generalize k0_pay4 a = z
  generalize k0_pay3 a = w
  pointwise []

theorem pay1 (a d e : Vec Ideal S512x1024 .f32) (o : Vec Ideal S1x1024 .f32) (l : Fin 1024) :
    k0_pay1 (k0_pay7 o) (k0_pay8 a d e) (ix2 0 l)
      = o (ix2 0 l) + ∑ r : Fin 512, (d (ix2 r l) + e (ix2 r l)) * (a (ix2 r l) * Ideal.rsqrt (meanSq fun k => a (ix2 r k))) := by
  have h4 : ∀ r : Fin 512, a (ix2 r l) * Ideal.rsqrt (meanSq fun k => a (ix2 r k)) = k0_pay4 a (ix2 r l) := fun r => (pay4 a r l).symm
  simp only [h4]
  unfold k0_pay1 k0_pay7 k0_pay8 k0_pay2
  generalize k0_pay4 a = z
  pointwise []

/-- The gradient at the norm's input, plus the stream's. -/
def dxOf (x : FVec Ideal S2048x1024 .f32) (g : FVec Ideal S1x1024 .f32) (d e s : FVec Ideal S2048x1024 .f32) : FVec Ideal S2048x1024 .f32 :=
  fun i => bwdAt (fun k => x (ix2 (i 0) k)) (fun k => (d (ix2 (i 0) k) + e (ix2 (i 0) k)) * g (ix2 0 k)) (i 1) + s (ix2 (i 0) (i 1))

/-- One row's part of the gradient of the gains. -/
def dgAt (x d e : FVec Ideal S2048x1024 .f32) (l : Fin 1024) (r : Fin 2048) : EReal :=
  (d (ix2 r l) + e (ix2 r l)) * (x (ix2 r l) * Ideal.rsqrt (meanSq fun k => x (ix2 r k)))

/-- The gradient of the gains. -/
def dgOf (x d e : FVec Ideal S2048x1024 .f32) : FVec Ideal S1x1024 .f32 := fun i => ∑ r : Fin 2048, dgAt x d e (i 1) r

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![0, 0] := by decide +kernel

/-- The rows of a grid point's block. -/
def rows (t : Fin cfg0.N) (r : Fin 512) : Fin 2048 := ⟨t.val * 512 + r.val, by have : t.val < 4 := t.isLt; omega⟩

theorem rd0 (c : Dev nD) (t : Fin cfg0.N) (r : Fin 512) (l : Fin 1024) : (iblk m c 0 t) (ix2 r l) = (m ((c.tc : Thread nD τ).loc main_arg0)) (ix2 (rows t r) l) := by
  unfold rows
  blk_point [iblk, V_main_arg0, index0 t]
theorem rd1 (c : Dev nD) (t : Fin cfg0.N) (l : Fin 1024) : (iblk m c 1 t) (ix2 0 l) = (m ((c.tc : Thread nD τ).loc main_arg1)) (ix2 0 l) := by
  blk_point [iblk, V_main_arg1, index1 t]
theorem rd2 (c : Dev nD) (t : Fin cfg0.N) (r : Fin 512) (l : Fin 1024) : (iblk m c 2 t) (ix2 r l) = (m ((c.tc : Thread nD τ).loc main_arg2)) (ix2 (rows t r) l) := by
  unfold rows
  blk_point [iblk, V_main_arg2, index2 t]
theorem rd3 (c : Dev nD) (t : Fin cfg0.N) (r : Fin 512) (l : Fin 1024) : (iblk m c 3 t) (ix2 r l) = (m ((c.tc : Thread nD τ).loc main_arg3)) (ix2 (rows t r) l) := by
  unfold rows
  blk_point [iblk, V_main_arg3, index3 t]
theorem rd4 (c : Dev nD) (t : Fin cfg0.N) (r : Fin 512) (l : Fin 1024) : (iblk m c 4 t) (ix2 r l) = (m ((c.tc : Thread nD τ).loc main_arg4)) (ix2 (rows t r) l) := by
  unfold rows
  blk_point [iblk, V_main_arg4, index4 t]

theorem dxOf_at (x g d e s) (r : Fin 2048) (l : Fin 1024) (i : S2048x1024.Idx) (h : i = ix2 r l) : dxOf x g d e s i
    = bwdAt (fun k => x (ix2 r k)) (fun k => (d (ix2 r k) + e (ix2 r k)) * g (ix2 0 k)) l + s (ix2 r l) := by
  subst h
  rfl

theorem emb5 (t : Fin cfg0.N) (r : Fin 512) (l : Fin 1024) : (win0_5.blk t).view.emb (ix2 r l) = (ix2 (rows t r) l : S2048x1024.Idx) := by
  funext b
  apply Fin.ext
  fin_cases b <;> simp [index5 t, rows]

theorem emb6 (t : Fin cfg0.N) (l : Fin 1024) : (win0_6.blk t).view.emb (ix2 0 l) = (ix2 0 l : S1x1024.Idx) := by
  funext b
  apply Fin.ext
  fin_cases b <;> simp [index6 t]

theorem at5 (c : Dev nD) (t : Fin cfg0.N) (r : Fin 512) (l : Fin 1024) : (outsAt0 m c t.val t.isLt).1 (ix2 r l)
    = k0_pay5 (iblk m c 0 t) (iblk m c 2 t) (iblk m c 3 t) (iblk m c 1 t) (iblk m c 4 t) (ix2 r l) := by
  by_cases h0 : t.val % 4 = 0
  · rw [outsAt0_A m c t h0]
    dsimp only
    unfold out0_A_5
    frame_out
    try rfl
  · rw [outsAt0_B m c t h0]
    dsimp only
    unfold out0_B_5
    frame_out
    try rfl

theorem arr5 (c : Dev nD) : (dats m 0 c).arrAt 5 cfg0.N
    = dxOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (dats m 0 c).arrAt_eq_of_covers 5 _ (by decide +kernel) fun t hf y => ?_
  obtain ⟨r, l, rfl⟩ : ∃ (r : Fin 512) (l : Fin 1024), y = ix2 r l := ⟨y 0, y 1, eq_ix2 y⟩
  refine Eq.trans ?_ (dxOf_at _ _ _ _ _ _ _ _ (emb5 t r l)).symm
  blk_simp
  rw [after0_5]
  refine (at5 m c t r l).trans ((pay5 _ _ _ _ _ r l).trans ?_)
  simp only [rd0, rd1, rd2, rd3, rd4]

theorem blockSum (c : Dev nD) (t : Fin cfg0.N) (o : Vec Ideal S1x1024 .f32) (l : Fin 1024) :
    k0_pay1 (k0_pay7 o) (k0_pay8 (iblk m c 0 t) (iblk m c 2 t) (iblk m c 3 t)) (ix2 0 l)
      = o (ix2 0 l) + ∑ r : Fin 512, dgAt (m ((c.tc : Thread nD τ).loc main_arg0)) (m ((c.tc : Thread nD τ).loc main_arg2)) (m ((c.tc : Thread nD τ).loc main_arg3)) l (rows t r) := by
  refine (pay1 _ _ _ _ l).trans ?_
  unfold dgAt
  simp only [rd0, rd2, rd3]

theorem first6 (c : Dev nD) (l : Fin 1024) (t : Fin cfg0.N) (h0 : t.val % 4 = 0) : (outsAt0 m c t.val t.isLt).2 (ix2 0 l)
    = 0 + ∑ r : Fin 512, dgAt (m ((c.tc : Thread nD τ).loc main_arg0)) (m ((c.tc : Thread nD τ).loc main_arg2)) (m ((c.tc : Thread nD τ).loc main_arg3)) l (rows t r) := by
  rw [outsAt0_A m c t h0]
  dsimp only
  unfold out0_A_6
  frame_out
  refine (blockSum m c t _ l).trans (congrArg (· + _) ?_)
  pointwise [k0_pay6]

theorem next6 (c : Dev nD) (l : Fin 1024) (t : Fin cfg0.N) (h0 : ¬t.val % 4 = 0) : (outsAt0 m c t.val t.isLt).2 (ix2 0 l)
    = (outsAt0 m c (t.val - 1) (Nat.lt_of_le_of_lt (Nat.sub_le _ _) t.isLt)).2 (ix2 0 l)
      + ∑ r : Fin 512, dgAt (m ((c.tc : Thread nD τ).loc main_arg0)) (m ((c.tc : Thread nD τ).loc main_arg2)) (m ((c.tc : Thread nD τ).loc main_arg3)) l (rows t r) := by
  rw [outsAt0_B m c t h0]
  dsimp only
  unfold out0_B_6
  frame_out
  exact blockSum m c t _ l

theorem acc6 (c : Dev nD) (l : Fin 1024) : ∀ (n : Nat) (hn : n < cfg0.N), (outsAt0 m c n hn).2 (ix2 0 l)
    = part (dgAt (m ((c.tc : Thread nD τ).loc main_arg0)) (m ((c.tc : Thread nD τ).loc main_arg2)) (m ((c.tc : Thread nD τ).loc main_arg3)) l) (n + 1) := by
  intro n
  induction n with
  | zero =>
    intro hn
    refine (first6 m c l ⟨0, hn⟩ rfl).trans ?_
    rw [part_succ _ 0 (by decide), part_zero]
    rfl
  | succ n ih =>
    intro hn
    have h4 : n + 1 < 4 := hn
    refine (next6 m c l ⟨n + 1, hn⟩ (by show ¬(n + 1) % 4 = 0; omega)).trans ?_
    rw [part_succ _ (n + 1) h4]
    exact congrArg (· + _) (ih _)

theorem dgOf_at (x d e) (l : Fin 1024) (i : S1x1024.Idx) (h : i = ix2 0 l) : dgOf x d e i = ∑ r : Fin 2048, dgAt x d e l r := by
  subst h
  rfl

theorem fin6 (c : Dev nD) (t : Fin cfg0.N) (ht : t.val = 3) (l : Fin 1024) : (outsAt0 m c t.val t.isLt).2 (ix2 0 l)
    = ∑ r : Fin 2048, dgAt (m ((c.tc : Thread nD τ).loc main_arg0)) (m ((c.tc : Thread nD τ).loc main_arg2)) (m ((c.tc : Thread nD τ).loc main_arg3)) l r := by
  obtain rfl : t = ⟨3, by decide⟩ := Fin.ext ht
  exact (acc6 m c l 3 _).trans (part_all _)

theorem only6 : ∀ t : Fin cfg0.N, (cfg0.win 6).flush t = true → t.val = 3 := by decide +kernel

theorem arr6 (c : Dev nD) : (dats m 0 c).arrAt 6 cfg0.N
    = dgOf (m ((c.tc : Thread nD τ).loc main_arg0)) (m ((c.tc : Thread nD τ).loc main_arg2)) (m ((c.tc : Thread nD τ).loc main_arg3)) := by
  refine (dats m 0 c).arrAt_eq_of_covers 6 _ (by decide +kernel) fun t hf y => ?_
  have ht := only6 t hf
  obtain ⟨z, l, rfl⟩ : ∃ (z : Fin 1) (l : Fin 1024), y = ix2 z l := ⟨y 0, y 1, eq_ix2 y⟩
  obtain rfl : z = 0 := Subsingleton.elim _ _
  refine Eq.trans ?_ (dgOf_at _ _ _ _ _ (emb6 t l)).symm
  blk_simp
  rw [after0_6]
  exact fin6 m c t ht l

end Cert.NormBwdIdeal.Value

namespace Cert.NormBwdRefIdeal.Value

open Cert.NormBwdRefIdeal Cert.NormBwdRefIdeal.Gen Cert.KernelIdeal.Value

/-- The reference's mean of the squares plus the constant. -/
def vCol (x : FVec Ideal S2048x1024 .f32) : FVec Ideal S2048x1 .f32 :=
  addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

theorem vCol_at (x : FVec Ideal S2048x1024 .f32) (r : Fin 2048) : vCol x (ix2 r 0) = meanSq fun k => x (ix2 r k) := by
  unfold vCol meanSq
  pointwise []

/-- The reference's gradient at the normed rows. -/
def dn (g : FVec Ideal S1x1024 .f32) (d : FVec Ideal S2048x1024 .f32) : FVec Ideal S2048x1024 .f32 :=
  mulf d (broadcastInDim S2048x1024 ![0, 1] bcast_S1x1024_S2048x1024_0_1 g)

theorem dn_at (g : FVec Ideal S1x1024 .f32) (d : FVec Ideal S2048x1024 .f32) (r : Fin 2048) (k : Fin 1024) :
    dn g d (ix2 r k) = d (ix2 r k) * g (ix2 0 k) := by
  unfold dn
  pointwise []

theorem add_at (a b : FVec Ideal S2048x1024 .f32) (r : Fin 2048) (k : Fin 1024) : addf a b (ix2 r k) = a (ix2 r k) + b (ix2 r k) := by
  pointwise []

/-- The reference's gradient at the squares. -/
def ct (x n : FVec Ideal S2048x1024 .f32) : FVec Ideal S2048 .f32 :=
  Host.reduceAdd (Host.divf (mulf (shapeCast _ (Host.reduceAdd (mulf x n) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (vCol x)) (vCol x)))) (broadcastInDim S2048x1 ![] bcast_S_S2048x1 (constant S_ .f32 0x44800000#32))) (constant S_ .f32 0x00000000#32) reducesTo_S2048x1_S2048_d1 h_S_

theorem ct_at (x n : FVec Ideal S2048x1024 .f32) (r : Fin 2048) : ct x n (ix1 r) = ctAt (fun k => x (ix2 r k)) (fun k => n (ix2 r k)) := by
  unfold ctAt
  rw [← vCol_at]
  unfold ct
  generalize vCol x = v
  pointwise []
  exact Fintype.sum_unique _

/-- The reference's gradient at the norm's input. -/
def dxRef (x n : FVec Ideal S2048x1024 .f32) : FVec Ideal S2048x1024 .f32 :=
  addf (addf (mulf n (broadcastInDim S2048x1024 ![0, 1] bcast_S2048x1_S2048x1024_0_1 (Host.rsqrt (vCol x)))) (mulf x (broadcastInDim S2048x1024 ![0] bcast_S2048_S2048x1024_0 (ct x n)))) (mulf (broadcastInDim S2048x1024 ![0] bcast_S2048_S2048x1024_0 (ct x n)) x)

theorem dxRef_at (x n : FVec Ideal S2048x1024 .f32) (r : Fin 2048) (hx : ∀ k : Fin 1024, Fn (x (ix2 r k))) (hn : ∀ k : Fin 1024, Fn (n (ix2 r k))) (l : Fin 1024) :
    dxRef x n (ix2 r l) = bwdAt (fun k => x (ix2 r k)) (fun k => n (ix2 r k)) l := by
  rw [← (bwd_eq _ _ hx hn l).1, ← ct_at, ← vCol_at]
  unfold dxRef
  generalize ct x n = u
  generalize vCol x = v
  pointwise []

/-- The reference's gradient of the gains. -/
def dgRef (x d : FVec Ideal S2048x1024 .f32) : FVec Ideal S1x1024 .f32 :=
  shapeCast _ (Host.reduceAdd (mulf (mulf x (broadcastInDim S2048x1024 ![0, 1] bcast_S2048x1_S2048x1024_0_1 (Host.rsqrt (vCol x)))) d) (constant S_ .f32 0x00000000#32) reducesTo_S2048x1024_S1024_d0 h_S_) shapeCasts_S1024_S1x1024

theorem dgRef_at (x d : FVec Ideal S2048x1024 .f32) (l : Fin 1024) :
    dgRef x d (ix2 0 l) = ∑ r : Fin 2048, d (ix2 r l) * (x (ix2 r l) * Ideal.rsqrt (meanSq fun k => x (ix2 r k))) := by
  simp only [← vCol_at, mul_comm (d _)]
  unfold dgRef
  generalize vCol x = v
  pointwise []

theorem dx_eq (x : FVec Ideal S2048x1024 .f32) (g : FVec Ideal S1x1024 .f32) (d e s : FVec Ideal S2048x1024 .f32)
    (hx : ∀ i, Fn (x i)) (hg : ∀ i, Fn (g i)) (hd : ∀ i, Fn (d i)) (he : ∀ i, Fn (e i)) :
    addf (dxRef x (dn g (addf d e))) s = Cert.NormBwdIdeal.Value.dxOf x g d e s := by
  funext y
  obtain ⟨r, l, rfl⟩ : ∃ (r : Fin 2048) (l : Fin 1024), y = ix2 r l := ⟨y 0, y 1, eq_ix2 y⟩
  refine Eq.trans ?_ (Cert.NormBwdIdeal.Value.dxOf_at x g d e s r l _ rfl).symm
  have hn : ∀ k : Fin 1024, dn g (addf d e) (ix2 r k) = (d (ix2 r k) + e (ix2 r k)) * g (ix2 0 k) := fun k => by rw [dn_at, add_at]
  rw [add_at, dxRef_at x _ r (fun k => hx _) (fun k => (hn k).symm ▸ ((hd _).add (he _)).mul (hg _))]
  simp only [hn]

theorem dg_eq (x d e : FVec Ideal S2048x1024 .f32) : dgRef x (addf d e) = Cert.NormBwdIdeal.Value.dgOf x d e := by
  funext y
  obtain ⟨z, l, rfl⟩ : ∃ (z : Fin 1) (l : Fin 1024), y = ix2 z l := ⟨y 0, y 1, eq_ix2 y⟩
  obtain rfl : z = 0 := Subsingleton.elim _ _
  refine Eq.trans ?_ (Cert.NormBwdIdeal.Value.dgOf_at x d e l _ rfl).symm
  rw [dgRef_at]
  simp only [add_at]
  rfl

theorem frame : Cert.quiescent_NormBwdRefIdeal := fun m ρ _ =>
  (θ_run Cert.NormBwdRefIdeal.defs _ _).mono
    (fun r h => ⟨fun c => (h c).2.2, Idealize.ShloMosaic.sem_eq_zero_of_no_sems (by decide) r.2⟩)
    (Cert.NormBwdRefIdeal.Value.run m ρ)

end Cert.NormBwdRefIdeal.Value

instance Cert.NormBwdIdeal.Value.preFacts : Cert.Pre_finite_norm.Facts where
  bcast_S_S2048x1024 := by decide
  bcast_S_S1x1024 := by decide

open Cert.KernelIdeal.Value in
theorem Cert.NormBwdIdeal.Value.equal : Cert.algebraic_NormBwdIdeal_NormBwdRefIdeal_pre_finite_norm := by
  intro m g m' g' hpre harg
  refine ⟨fun c => (Cert.NormBwdIdeal.Gen.dats m 0 c).arrAt 5 Cert.NormBwdIdeal.cfg0.N,
    fun c => (Cert.NormBwdIdeal.Gen.dats m 0 c).arrAt 6 Cert.NormBwdIdeal.cfg0.N, Cert.NormBwdIdeal.Value.run_blocks m g, ?_⟩
  refine (θ_run Cert.NormBwdRefIdeal.defs _ _).mono (fun r h c => ?_) (Cert.NormBwdRefIdeal.Value.run m' g')
  obtain ⟨e0, e1, e2, e3, e4⟩ := harg c
  obtain ⟨r0, r1, q⟩ := h c
  refine ⟨(r0.trans (Cert.NormBwdRefIdeal.Value.dx_eq (m' ((c.tc : Thread Cert.NormBwdRefIdeal.nD Cert.NormBwdRefIdeal.τ).loc Cert.NormBwdRefIdeal.main_arg0)) (m' ((c.tc : Thread Cert.NormBwdRefIdeal.nD Cert.NormBwdRefIdeal.τ).loc Cert.NormBwdRefIdeal.main_arg1)) (m' ((c.tc : Thread Cert.NormBwdRefIdeal.nD Cert.NormBwdRefIdeal.τ).loc Cert.NormBwdRefIdeal.main_arg2)) (m' ((c.tc : Thread Cert.NormBwdRefIdeal.nD Cert.NormBwdRefIdeal.τ).loc Cert.NormBwdRefIdeal.main_arg3)) (m' ((c.tc : Thread Cert.NormBwdRefIdeal.nD Cert.NormBwdRefIdeal.τ).loc Cert.NormBwdRefIdeal.main_arg4))
      (fun i => ?_) (fun i => ?_) (fun i => ?_) (fun i => ?_))).trans ?_, (r1.trans (Cert.NormBwdRefIdeal.Value.dg_eq (m' ((c.tc : Thread Cert.NormBwdRefIdeal.nD Cert.NormBwdRefIdeal.τ).loc Cert.NormBwdRefIdeal.main_arg0)) (m' ((c.tc : Thread Cert.NormBwdRefIdeal.nD Cert.NormBwdRefIdeal.τ).loc Cert.NormBwdRefIdeal.main_arg2)) (m' ((c.tc : Thread Cert.NormBwdRefIdeal.nD Cert.NormBwdRefIdeal.τ).loc Cert.NormBwdRefIdeal.main_arg3)))).trans ?_, q⟩
  · exact (congrArg Fn (congrFun e0 i)).mpr (Fn.of_lt (congrFun (hpre c).1 i))
  · exact (congrArg Fn (congrFun e1 i)).mpr (Fn.of_lt (congrFun (hpre c).2.1 i))
  · exact (congrArg Fn (congrFun e2 i)).mpr (Fn.of_lt (congrFun (hpre c).2.2.1 i))
  · exact (congrArg Fn (congrFun e3 i)).mpr (Fn.of_lt (congrFun (hpre c).2.2.2 i))
  · rw [e0, e1, e2, e3, e4]
    exact (Cert.NormBwdIdeal.Value.arr5 m c).symm
  · rw [e0, e2, e3]
    exact (Cert.NormBwdIdeal.Value.arr6 m c).symm
end
-- ==== Proof.VChain.lean ====
/- The two chained norms' gradients: what the kernel leaves in its four results, and that the reference leaves the
   same when the arguments are finite. -/
module

public import proofs.«01_k».proof.Proof.VNormBwd
public import proofs.«01_k».proof.Proof.Gen.ChainIdeal.Value
public import proofs.«01_k».proof.Proof.Gen.ChainRefIdeal.Run

@[expose] public section

set_option maxRecDepth 16384

noncomputable section

open Idealize.ShloMosaic Idealize.ShloMosaic.TcCoe Idealize.SL.Sem
open Idealize.ShloMosaic.Pipeline (Dat)
open Cert.Norm Cert.KernelIdeal.Value

namespace Cert.ChainIdeal.Value

open Cert.ChainIdeal Cert.ChainIdeal.Gen
open Cert.NormBwdRefIdeal.Value (dn dn_at add_at dxRef dxRef_at dgRef dgRef_at)

variable (m : (ℓ : Loc nD τ sig) → Buf (Elt Ideal) ℓ) (c : Dev nD)

local notation "Blk" => Vec Ideal S512x1024 EltTy.f32
local notation "Row" => Vec Ideal S1x1024 EltTy.f32
local notation "Arr" => FVec Ideal S2048x1024 FTy.f32

/-- The constant the kernel adds to the mean of the squares. -/
abbrev eps : Ideal .f32 := Scalar.ofBits .f32 0x358637BD#32

theorem pay8 (a : Blk) (r : Fin 512) : k0_pay8 a (ix2 r 0) = Ideal.rsqrt (meanSq fun k => a (ix2 r k)) := by
  unfold meanSq
  pointwise [k0_pay8]

theorem pay1 (a : Blk) (r : Fin 512) : k0_pay1 (k0_pay12 a) eps (ix2 r 0) = Ideal.rsqrt (meanSq fun k => a (ix2 r k)) := by
  unfold meanSq
  pointwise [k0_pay1, k0_pay12]

theorem pay9 (a : Blk) (r : Fin 512) (l : Fin 1024) : k0_pay9 a (ix2 r l) = a (ix2 r l) * k0_pay8 a (ix2 r 0) := by
  unfold k0_pay9
  generalize k0_pay8 a = z
  pointwise []

theorem pay2 (a : Blk) (r : Fin 512) (l : Fin 1024) :
    k0_pay2 a (k0_pay12 a) eps (ix2 r l) = a (ix2 r l) * k0_pay1 (k0_pay12 a) eps (ix2 r 0) := by
  unfold k0_pay2
  generalize k0_pay1 (k0_pay12 a) eps = z
  pointwise []

theorem pay11 (d a : Blk) (g : Row) (s : Blk) (r : Fin 512) (l : Fin 1024) :
    k0_pay11 d a g s (ix2 r l) = bwdAt (fun k => a (ix2 r k)) (fun k => d (ix2 r k) * g (ix2 0 k)) l + s (ix2 r l) := by
  unfold bwdAt
  dsimp only
  simp only [← pay8 a, ← pay9 a]
  unfold k0_pay11
  generalize k0_pay9 a = z
  generalize k0_pay8 a = w
  pointwise []

theorem pay3 (w a : Blk) (g : Row) (r : Fin 512) (l : Fin 1024) :
    k0_pay3 w a g (k0_pay12 a) eps (ix2 r l) = bwdAt (fun k => a (ix2 r k)) (fun k => w (ix2 r k) * g (ix2 0 k)) l := by
  unfold bwdAt
  dsimp only
  simp only [← pay1 a, ← pay2 a]
  unfold k0_pay3
  generalize k0_pay2 a (k0_pay12 a) eps = z
  generalize k0_pay1 (k0_pay12 a) eps = v
  pointwise []

theorem pay6 (d a : Blk) (o : Row) (l : Fin 1024) : k0_pay6 (k0_pay10 d a) o (ix2 0 l)
    = o (ix2 0 l) + ∑ r : Fin 512, d (ix2 r l) * (a (ix2 r l) * Ideal.rsqrt (meanSq fun k => a (ix2 r k))) := by
  simp only [← pay8 a, ← pay9 a]
  unfold k0_pay6 k0_pay10
  generalize k0_pay9 a = z
  pointwise []

theorem pay7 (w a : Blk) (o : Row) (l : Fin 1024) : k0_pay7 w a (k0_pay12 a) eps o (ix2 0 l)
    = o (ix2 0 l) + ∑ r : Fin 512, w (ix2 r l) * (a (ix2 r l) * Ideal.rsqrt (meanSq fun k => a (ix2 r k))) := by
  simp only [← pay1 a, ← pay2 a]
  unfold k0_pay7
  generalize k0_pay2 a (k0_pay12 a) eps = z
  pointwise []

/-- The gradient at the upper norm's input, plus the stream's. -/
def dxOf (x d s : Arr) (g : FVec Ideal S1x1024 .f32) : Arr :=
  fun i => bwdAt (fun k => x (ix2 (i 0) k)) (fun k => d (ix2 (i 0) k) * g (ix2 0 k)) (i 1) + s (ix2 (i 0) (i 1))

/-- The gradient at the lower norm's input. -/
def dyOf (y w : Arr) (g : FVec Ideal S1x1024 .f32) : FVec Ideal S2048x1024 .bf16 :=
  fun i => bwdAt (fun k => y (ix2 (i 0) k)) (fun k => w (ix2 (i 0) k) * g (ix2 0 k)) (i 1)

/-- One row's part of the gradient of a norm's gains. -/
def gain (x d : Arr) (l : Fin 1024) (r : Fin 2048) : EReal :=
  d (ix2 r l) * (x (ix2 r l) * Ideal.rsqrt (meanSq fun k => x (ix2 r k)))

/-- The gradient of a norm's gains. -/
def gains (x d : Arr) : FVec Ideal S1x1024 .f32 := fun i => ∑ r : Fin 2048, gain x d (i 1) r

abbrev X : Arr := m ((c.tc : Thread nD τ).loc main_arg0)
abbrev G : FVec Ideal S1x1024 .f32 := m ((c.tc : Thread nD τ).loc main_arg1)
abbrev D : Arr := m ((c.tc : Thread nD τ).loc main_arg2)
abbrev S : Arr := m ((c.tc : Thread nD τ).loc main_arg3)
abbrev Y : Arr := m ((c.tc : Thread nD τ).loc main_arg4)
abbrev H : FVec Ideal S1x1024 .f32 := m ((c.tc : Thread nD τ).loc main_arg5)
/-- The first result. -/
def W : Arr := dxOf (X m c) (D m c) (S m c) (G m c)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![0, 0] := by decide +kernel
theorem index6 : ∀ t : Fin grid0.N, win0_6.index t = ![t.val, 0] := by decide +kernel
theorem index7 : ∀ t : Fin grid0.N, win0_7.index t = ![t.val, 0] := by decide +kernel
theorem index8 : ∀ t : Fin grid0.N, win0_8.index t = ![0, 0] := by decide +kernel
theorem index9 : ∀ t : Fin grid0.N, win0_9.index t = ![0, 0] := by decide +kernel

/-- The rows of a grid point's block. -/
def rows (t : Fin cfg0.N) (r : Fin 512) : Fin 2048 := ⟨t.val * 512 + r.val, by have : t.val < 4 := t.isLt; omega⟩

variable (t : Fin cfg0.N) (r : Fin 512) (l : Fin 1024)

theorem rd0 : (iblk m c 0 t) (ix2 r l) = X m c (ix2 (rows t r) l) := by
  unfold rows X
  blk_point [iblk, V_main_arg0, index0 t]
theorem rd1 : (iblk m c 1 t) (ix2 0 l) = G m c (ix2 0 l) := by
  unfold G
  blk_point [iblk, V_main_arg1, index1 t]
theorem rd2 : (iblk m c 2 t) (ix2 r l) = D m c (ix2 (rows t r) l) := by
  unfold rows D
  blk_point [iblk, V_main_arg2, index2 t]
theorem rd3 : (iblk m c 3 t) (ix2 r l) = S m c (ix2 (rows t r) l) := by
  unfold rows S
  blk_point [iblk, V_main_arg3, index3 t]
theorem rd4 : (iblk m c 4 t) (ix2 r l) = Y m c (ix2 (rows t r) l) := by
  unfold rows Y
  blk_point [iblk, V_main_arg4, index4 t]
theorem rd5 : (iblk m c 5 t) (ix2 0 l) = H m c (ix2 0 l) := by
  unfold H
  blk_point [iblk, V_main_arg5, index5 t]

theorem emb6 : (win0_6.blk t).view.emb (ix2 r l) = (ix2 (rows t r) l : S2048x1024.Idx) := by
  funext b
  apply Fin.ext
  fin_cases b <;> simp [index6 t, rows]
theorem emb7 : (win0_7.blk t).view.emb (ix2 r l) = (ix2 (rows t r) l : S2048x1024.Idx) := by
  funext b
  apply Fin.ext
  fin_cases b <;> simp [index7 t, rows]
theorem emb8 : (win0_8.blk t).view.emb (ix2 0 l) = (ix2 0 l : S1x1024.Idx) := by
  funext b
  apply Fin.ext
  fin_cases b <;> simp [index8 t]
theorem emb9 : (win0_9.blk t).view.emb (ix2 0 l) = (ix2 0 l : S1x1024.Idx) := by
  funext b
  apply Fin.ext
  fin_cases b <;> simp [index9 t]

/-- The first result's block, as the body has it. -/
abbrev wBlk : FVec Ideal S512x1024 .f32 := k0_pay11 (iblk m c 2 t) (iblk m c 0 t) (iblk m c 1 t) (iblk m c 3 t)

theorem wBlk_at : wBlk m c t (ix2 r l) = W m c (ix2 (rows t r) l) := by
  refine (pay11 _ _ _ _ r l).trans ?_
  simp only [rd0, rd1, rd2, rd3]
  rfl

theorem at6 : (outsAt0 m c t.val t.isLt).1 (ix2 r l) = wBlk m c t (ix2 r l) := by
  by_cases h0 : t.val % 4 = 0
  · rw [outsAt0_A m c t h0]
    dsimp only
    unfold out0_A_6
    frame_out
    try rfl
  · rw [outsAt0_B m c t h0]
    dsimp only
    unfold out0_B_6
    frame_out
    try rfl

theorem at7 : (outsAt0 m c t.val t.isLt).2.1 (ix2 r l)
    = k0_pay3 (wBlk m c t) (iblk m c 4 t) (iblk m c 5 t) (k0_pay12 (iblk m c 4 t)) eps (ix2 r l) := by
  by_cases h0 : t.val % 4 = 0
  · rw [outsAt0_A m c t h0]
    dsimp only
    unfold out0_A_7
    frame_out
    try rfl
  · rw [outsAt0_B m c t h0]
    dsimp only
    unfold out0_B_7
    frame_out
    try rfl

theorem eq_at {e : FTy} (f : FVec Ideal S2048x1024 e) (i : S2048x1024.Idx) (r : Fin 2048) (h : i = ix2 r l) : f i = f (ix2 r l) := congrArg f h

theorem arr6 : (dats m 0 c).arrAt 6 cfg0.N = W m c := by
  refine (dats m 0 c).arrAt_eq_of_covers 6 _ (by decide +kernel) fun t hf y => ?_
  obtain ⟨r, l, rfl⟩ : ∃ (r : Fin 512) (l : Fin 1024), y = ix2 r l := ⟨y 0, y 1, eq_ix2 y⟩
  refine Eq.trans ?_ (eq_at l (W m c) _ _ (emb6 t r l)).symm
  blk_simp
  rw [after0_6]
  exact (at6 m c t r l).trans (wBlk_at m c t r l)

theorem arr7 : (dats m 0 c).arrAt 7 cfg0.N = dyOf (Y m c) (W m c) (H m c) := by
  refine (dats m 0 c).arrAt_eq_of_covers 7 _ (by decide +kernel) fun t hf y => ?_
  obtain ⟨r, l, rfl⟩ : ∃ (r : Fin 512) (l : Fin 1024), y = ix2 r l := ⟨y 0, y 1, eq_ix2 y⟩
  refine Eq.trans ?_ (eq_at l (dyOf (Y m c) (W m c) (H m c)) _ _ (emb7 t r l)).symm
  blk_simp
  rw [after0_7]
  refine (at7 m c t r l).trans ((pay3 _ _ _ r l).trans ?_)
  simp only [wBlk_at, rd4, rd5]
  rfl

theorem sum8 (o : Row) : k0_pay6 (k0_pay10 (iblk m c 2 t) (iblk m c 0 t)) o (ix2 0 l)
    = o (ix2 0 l) + ∑ r : Fin 512, gain (X m c) (D m c) l (rows t r) := by
  refine (pay6 _ _ _ l).trans ?_
  unfold gain
  simp only [rd0, rd2]

theorem sum9 (o : Row) : k0_pay7 (wBlk m c t) (iblk m c 4 t) (k0_pay12 (iblk m c 4 t)) eps o (ix2 0 l)
    = o (ix2 0 l) + ∑ r : Fin 512, gain (Y m c) (W m c) l (rows t r) := by
  refine (pay7 _ _ _ l).trans ?_
  unfold gain
  simp only [wBlk_at, rd4]

theorem first8 (h0 : t.val % 4 = 0) : (outsAt0 m c t.val t.isLt).2.2.1 (ix2 0 l) = 0 + ∑ r : Fin 512, gain (X m c) (D m c) l (rows t r) := by
  rw [outsAt0_A m c t h0]
  dsimp only
  unfold out0_A_8
  frame_out
  refine (sum8 m c t l _).trans (congrArg (· + _) ?_)
  pointwise [k0_pay4]

theorem first9 (h0 : t.val % 4 = 0) : (outsAt0 m c t.val t.isLt).2.2.2 (ix2 0 l) = 0 + ∑ r : Fin 512, gain (Y m c) (W m c) l (rows t r) := by
  rw [outsAt0_A m c t h0]
  dsimp only
  unfold out0_A_9
  frame_out
  refine (sum9 m c t l _).trans (congrArg (· + _) ?_)
  pointwise [k0_pay5]

theorem next8 (h0 : ¬t.val % 4 = 0) : (outsAt0 m c t.val t.isLt).2.2.1 (ix2 0 l)
    = (outsAt0 m c (t.val - 1) (Nat.lt_of_le_of_lt (Nat.sub_le _ _) t.isLt)).2.2.1 (ix2 0 l) + ∑ r : Fin 512, gain (X m c) (D m c) l (rows t r) := by
  rw [outsAt0_B m c t h0]
  dsimp only
  unfold out0_B_8
  frame_out
  exact sum8 m c t l _

theorem next9 (h0 : ¬t.val % 4 = 0) : (outsAt0 m c t.val t.isLt).2.2.2 (ix2 0 l)
    = (outsAt0 m c (t.val - 1) (Nat.lt_of_le_of_lt (Nat.sub_le _ _) t.isLt)).2.2.2 (ix2 0 l) + ∑ r : Fin 512, gain (Y m c) (W m c) l (rows t r) := by
  rw [outsAt0_B m c t h0]
  dsimp only
  unfold out0_B_9
  frame_out
  exact sum9 m c t l _

theorem acc (F : Fin 2048 → EReal) (O : (n : Nat) → n < 4 → EReal)
    (h0 : O 0 (by decide) = 0 + ∑ r : Fin 512, F ⟨0 * 512 + r.val, by omega⟩)
    (hs : ∀ (n : Nat) (hn : n + 1 < 4), O (n + 1) hn = O n (by omega) + ∑ r : Fin 512, F ⟨(n + 1) * 512 + r.val, by omega⟩) :
    O 3 (by decide) = ∑ r : Fin 2048, F r := by
  have h : ∀ (n : Nat) (hn : n < 4), O n hn = part F (n + 1) := by
    intro n
    induction n with
    | zero => exact fun hn => h0.trans (by rw [part_succ _ 0 (by decide), part_zero])
    | succ n ih => exact fun hn => (hs n hn).trans (by rw [part_succ _ (n + 1) hn, ih])
  exact (h 3 _).trans (part_all F)

theorem only8 : ∀ t : Fin cfg0.N, (cfg0.win 8).flush t = true → t.val = 3 := by decide +kernel
theorem only9 : ∀ t : Fin cfg0.N, (cfg0.win 9).flush t = true → t.val = 3 := by decide +kernel

theorem gains_at (x d : Arr) (i : S1x1024.Idx) (h : i = ix2 0 l) : gains x d i = ∑ r : Fin 2048, gain x d l r := by
  subst h
  rfl

theorem fin8 (ht : t.val = 3) : (outsAt0 m c t.val t.isLt).2.2.1 (ix2 0 l) = ∑ r : Fin 2048, gain (X m c) (D m c) l r := by
  obtain rfl : t = ⟨3, by decide⟩ := Fin.ext ht
  exact acc _ (fun n hn => (outsAt0 m c n hn).2.2.1 (ix2 0 l)) (first8 m c ⟨0, by decide⟩ l rfl)
    (fun n hn => next8 m c ⟨n + 1, hn⟩ l (by show ¬(n + 1) % 4 = 0; omega))

theorem arr8 : (dats m 0 c).arrAt 8 cfg0.N = gains (X m c) (D m c) := by
  refine (dats m 0 c).arrAt_eq_of_covers 8 _ (by decide +kernel) fun t hf y => ?_
  have ht := only8 t hf
  obtain ⟨z, l, rfl⟩ : ∃ (z : Fin 1) (l : Fin 1024), y = ix2 z l := ⟨y 0, y 1, eq_ix2 y⟩
  obtain rfl : z = 0 := Subsingleton.elim _ _
  refine Eq.trans ?_ (gains_at l _ _ _ (emb8 _ l)).symm
  blk_simp
  rw [after0_8]
  exact fin8 m c t l ht

theorem fin9 (ht : t.val = 3) : (outsAt0 m c t.val t.isLt).2.2.2 (ix2 0 l) = ∑ r : Fin 2048, gain (Y m c) (W m c) l r := by
  obtain rfl : t = ⟨3, by decide⟩ := Fin.ext ht
  exact acc _ (fun n hn => (outsAt0 m c n hn).2.2.2 (ix2 0 l)) (first9 m c ⟨0, by decide⟩ l rfl)
    (fun n hn => next9 m c ⟨n + 1, hn⟩ l (by show ¬(n + 1) % 4 = 0; omega))

theorem arr9 : (dats m 0 c).arrAt 9 cfg0.N = gains (Y m c) (W m c) := by
  refine (dats m 0 c).arrAt_eq_of_covers 9 _ (by decide +kernel) fun t hf y => ?_
  have ht := only9 t hf
  obtain ⟨z, l, rfl⟩ : ∃ (z : Fin 1) (l : Fin 1024), y = ix2 z l := ⟨y 0, y 1, eq_ix2 y⟩
  obtain rfl : z = 0 := Subsingleton.elim _ _
  refine Eq.trans ?_ (gains_at l _ _ _ (emb9 _ l)).symm
  blk_simp
  rw [after0_9]
  exact fin9 m c t l ht

/-- The reference's first result is the kernel's, and it is finite. -/
theorem w_eq (x d s : Arr) (g : FVec Ideal S1x1024 .f32) (hx : ∀ i, Fn (x i)) (hd : ∀ i, Fn (d i)) (hs : ∀ i, Fn (s i)) (hg : ∀ i, Fn (g i)) :
    addf (dxRef x (dn g d)) s = dxOf x d s g ∧ ∀ i, Fn (dxOf x d s g i) := by
  refine ⟨?_, fun i => Fn.add (bwd_eq _ _ (fun k => hx _) (fun k => (hd _).mul (hg _)) _).2 (hs _)⟩
  funext i
  obtain ⟨r, l, rfl⟩ : ∃ (r : Fin 2048) (l : Fin 1024), i = ix2 r l := ⟨i 0, i 1, eq_ix2 i⟩
  refine (add_at _ s r l).trans ?_
  rw [dxRef_at x _ r (fun k => hx _) (fun k => (dn_at g d r k).symm ▸ (hd _).mul (hg _))]
  simp only [dn_at]
  rfl

theorem y_eq (y w : Arr) (g : FVec Ideal S1x1024 .f32) (hy : ∀ i, Fn (y i)) (hw : ∀ i, Fn (w i)) (hg : ∀ i, Fn (g i)) :
    ∀ hb, truncf .bf16 (dxRef y (dn g w)) hb = dyOf y w g := by
  intro hb
  funext i
  obtain ⟨r, l, rfl⟩ : ∃ (r : Fin 2048) (l : Fin 1024), i = ix2 r l := ⟨i 0, i 1, eq_ix2 i⟩
  refine (dxRef_at y (dn g w) r (fun k => hy _) (fun k => (dn_at g w r k).symm ▸ (hw _).mul (hg _)) l).trans ?_
  simp only [dn_at]
  rfl

theorem g_eq (x d : Arr) : dgRef x d = gains x d := by
  funext y
  obtain ⟨z, l, rfl⟩ : ∃ (z : Fin 1) (l : Fin 1024), y = ix2 z l := ⟨y 0, y 1, eq_ix2 y⟩
  obtain rfl : z = 0 := Subsingleton.elim _ _
  exact dgRef_at x d l

end Cert.ChainIdeal.Value

theorem Cert.ChainRefIdeal.Value.frame : Cert.quiescent_ChainRefIdeal := fun m ρ _ =>
  (θ_run Cert.ChainRefIdeal.defs _ _).mono
    (fun r h => ⟨fun c => (h c).2.2.2.2, Idealize.ShloMosaic.sem_eq_zero_of_no_sems (by decide) r.2⟩)
    (Cert.ChainRefIdeal.Value.run m ρ)

instance Cert.ChainIdeal.Value.preFacts : Cert.Pre_finite_chain.Facts where
  bcast_S_S2048x1024 := by decide
  bcast_S_S1x1024 := by decide

open Cert.ChainIdeal.Value in
theorem Cert.ChainIdeal.Value.equal : Cert.algebraic_ChainIdeal_ChainRefIdeal_pre_finite_chain := by
  intro m g m' g' hpre harg
  refine ⟨fun c => (Cert.ChainIdeal.Gen.dats m 0 c).arrAt 6 Cert.ChainIdeal.cfg0.N, fun c => (Cert.ChainIdeal.Gen.dats m 0 c).arrAt 7 Cert.ChainIdeal.cfg0.N,
    fun c => (Cert.ChainIdeal.Gen.dats m 0 c).arrAt 8 Cert.ChainIdeal.cfg0.N, fun c => (Cert.ChainIdeal.Gen.dats m 0 c).arrAt 9 Cert.ChainIdeal.cfg0.N,
    Cert.ChainIdeal.Value.run_blocks m g, ?_⟩
  refine (θ_run Cert.ChainRefIdeal.defs _ _).mono (fun r h c => ?_) (Cert.ChainRefIdeal.Value.run m' g')
  obtain ⟨e0, e1, e2, e3, e4, e5⟩ := harg c
  obtain ⟨p0, p1, p2, p3, p4, p5⟩ := hpre c
  obtain ⟨r0, r1, r2, r3, q⟩ := h c
  have w := w_eq (X m c) (D m c) (S m c) (G m c) (fun i => Fn.of_lt (congrFun p0 i)) (fun i => Fn.of_lt (congrFun p2 i))
    (fun i => Fn.of_lt (congrFun p3 i)) (fun i => Fn.of_lt (congrFun p1 i))
  refine ⟨r0.trans ?_, r1.trans ?_, r2.trans ?_, r3.trans ?_, q⟩
  · rw [e0, e1, e2, e3]
    exact w.1.trans (arr6 m c).symm
  · unfold Cert.ChainRefIdeal.Value.res_main_v69
    rw [e0, e1, e2, e3, e4, e5]
    refine Eq.trans ?_ (arr7 m c).symm
    refine Eq.trans ?_ (y_eq (Y m c) (W m c) (H m c) (fun i => Fn.of_lt (congrFun p4 i)) w.2 (fun i => Fn.of_lt (congrFun p5 i)) (by decide))
    exact congrArg (fun v => truncf .bf16 (Cert.NormBwdRefIdeal.Value.dxRef (Y m c) (Cert.NormBwdRefIdeal.Value.dn (H m c) v)) (by decide)) w.1
  · rw [e0, e2]
    exact (g_eq (X m c) (D m c)).trans (arr8 m c).symm
  · unfold Cert.ChainRefIdeal.Value.res_main_v52
    rw [e0, e1, e2, e3, e4]
    exact (congrArg (Cert.NormBwdRefIdeal.Value.dgRef (Y m c)) w.1).trans ((g_eq _ _).trans (arr9 m c).symm)

end
-- ==== Proof.lean ====
/- The frames of the kernel at the bit patterns and at the exact arithmetic, of the reference, the two named
   constants, and the equality of the kernel's results with the reference's at the exact arithmetic; and the same for
   the calls taken one by one. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.RefVal
public import proofs.«01_k».proof.Proof.Gen.UpBwdX.Frame
public import proofs.«01_k».proof.Proof.Gen.UpBwdXIdeal.Value
public import proofs.«01_k».proof.Proof.Gen.UpBwdXRefIdeal.Run
public import proofs.«01_k».proof.Proof.Gen.Down.Frame
public import proofs.«01_k».proof.Proof.Gen.DownIdeal.Value
public import proofs.«01_k».proof.Proof.Gen.DownRefIdeal.Run
public import proofs.«01_k».proof.Proof.Gen.InBwdXQkv.Frame
public import proofs.«01_k».proof.Proof.Gen.InBwdXQkvIdeal.Value
public import proofs.«01_k».proof.Proof.Gen.InBwdXQkvRefIdeal.Run
public import proofs.«01_k».proof.Proof.Gen.InBwdXGate.Frame
public import proofs.«01_k».proof.Proof.Gen.InBwdXGateIdeal.Value
public import proofs.«01_k».proof.Proof.Gen.InBwdXGateRefIdeal.Run
public import proofs.«01_k».proof.Proof.Gen.ProjQkv.Frame
public import proofs.«01_k».proof.Proof.Gen.ProjQkvIdeal.Value
public import proofs.«01_k».proof.Proof.Gen.ProjQkvRefIdeal.Run
public import proofs.«01_k».proof.Proof.Gen.ProjGate.Frame
public import proofs.«01_k».proof.Proof.Gen.ProjGateIdeal.Value
public import proofs.«01_k».proof.Proof.Gen.ProjGateRefIdeal.Run
public import proofs.«01_k».proof.Proof.Gen.OutBwdW.Frame
public import proofs.«01_k».proof.Proof.Gen.OutBwdWIdeal.Value
public import proofs.«01_k».proof.Proof.Gen.OutBwdWRefIdeal.Run
public import proofs.«01_k».proof.Proof.Gen.InBwdW.Frame
public import proofs.«01_k».proof.Proof.Gen.InBwdWIdeal.Frame
public import proofs.«01_k».proof.Proof.Gen.InBwdWRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.MergeBwd.Frame
public import proofs.«01_k».proof.Proof.Gen.MergeBwdIdeal.Value
public import proofs.«01_k».proof.Proof.Gen.MergeBwdRefIdeal.Run
public import proofs.«01_k».proof.Proof.Gen.PreNorm.Frame
public import proofs.«01_k».proof.Proof.Gen.PreNormIdeal.Value
public import proofs.«01_k».proof.Proof.Gen.PreNormRefIdeal.Run
public import proofs.«01_k».proof.Proof.Gen.PostNorm.Frame
public import proofs.«01_k».proof.Proof.Gen.PostNormIdeal.Value
public import proofs.«01_k».proof.Proof.Gen.PostNormRefIdeal.Run
public import proofs.«01_k».proof.Proof.Gen.NormBwd.Frame
public import proofs.«01_k».proof.Proof.Gen.NormBwdIdeal.Value
public import proofs.«01_k».proof.Proof.Gen.NormBwdRefIdeal.Run
public import proofs.«01_k».proof.Proof.Gen.Chain.Frame
public import proofs.«01_k».proof.Proof.Gen.ChainIdeal.Value
public import proofs.«01_k».proof.Proof.Gen.ChainRefIdeal.Run
public import proofs.«01_k».proof.Proof.VUpBwdX
public import proofs.«01_k».proof.Proof.VDown
public import proofs.«01_k».proof.Proof.VInBwdXQkv
public import proofs.«01_k».proof.Proof.VInBwdXGate
public import proofs.«01_k».proof.Proof.VProjQkv
public import proofs.«01_k».proof.Proof.VProjGate
public import proofs.«01_k».proof.Proof.VOutBwdW
public import proofs.«01_k».proof.Proof.VInBwdW
public import proofs.«01_k».proof.Proof.VMerge
public import proofs.«01_k».proof.Proof.VMergeBwd
public import proofs.«01_k».proof.Proof.VPreNorm
public import proofs.«01_k».proof.Proof.VPostNorm
public import proofs.«01_k».proof.Proof.VNormBwd
public import proofs.«01_k».proof.Proof.VChain
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem named : Cert.preserves_Kernel_KernelIdeal :=
  ⟨IdealRules.named_const.statement _ _ _ _ _ rfl, IdealRules.named_const.statement _ _ _ _ _ rfl⟩

theorem frameRef : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run m ρ)

instance preFacts : Cert.Pre_finite.Facts where
  bitsLt_bf16_f32 := by decide
  bcast_S_S2048x1024 := by decide
  bcast_S_S1024x8192 := by decide
  bcast_S_S3x8192 := by decide
  bcast_S_S8192 := by decide
  bcast_S_S4096x1024 := by decide

open Cert.KernelIdeal.Value in
theorem equal : Cert.algebraic_KernelIdeal_ReferenceIdeal_pre_finite := by
  intro m g m' g' hpre harg
  refine ⟨fun c => Cert.KernelIdeal.Own.W8 m g c (Proc.devRef .tc Cert.KernelIdeal.main_v7),
    fun c => Cert.KernelIdeal.Own.W8 m g c (Proc.devRef .tc Cert.KernelIdeal.main_v8),
    fun c => Cert.KernelIdeal.Own.W8 m g c (Proc.devRef .tc Cert.KernelIdeal.main_v9),
    fun c => Cert.KernelIdeal.Own.W8 m g c (Proc.devRef .tc Cert.KernelIdeal.main_v5),
    Cert.KernelIdeal.Own.results m g, ?_⟩
  refine (θ_run Cert.ReferenceIdeal.defs _ _).mono (fun r h c => ?_) (Cert.ReferenceIdeal.Value.run m' g')
  obtain ⟨e0, e1, e2, e3, e4, e5⟩ := harg c
  have f0 : ∀ i, Fn (Cert.ReferenceIdeal.Value.a0 (StableHlo.launchContents m' c) i) := fun i => (congrArg Fn (congrFun e0 i)).mpr (fin0 m hpre c i)
  have f1 : ∀ i, Fn (Cert.ReferenceIdeal.Value.a1 (StableHlo.launchContents m' c) i) := fun i => (congrArg Fn (congrFun e1 i)).mpr (fin1 m hpre c i)
  have f2 : ∀ i, Fn (Cert.ReferenceIdeal.Value.a2 (StableHlo.launchContents m' c) i) := fun i => (congrArg Fn (congrFun e2 i)).mpr (fin2 m hpre c i)
  have f3 : ∀ i, Fn (Cert.ReferenceIdeal.Value.a3 (StableHlo.launchContents m' c) i) := fun i => (congrArg Fn (congrFun e3 i)).mpr (fin3 m hpre c i)
  have f4 : ∀ i, Fn (Cert.ReferenceIdeal.Value.a4 (StableHlo.launchContents m' c) i) := fun i => (congrArg Fn (congrFun e4 i)).mpr (fin4 m hpre c i)
  have f5 : ∀ i, Fn (Cert.ReferenceIdeal.Value.a5 (StableHlo.launchContents m' c) i) := fun i => (congrArg Fn (congrFun e5 i)).mpr (fin5 m hpre c i)
  obtain ⟨r0, r1, r2, r3, q⟩ := h c
  have x0 : Cert.ReferenceIdeal.Value.a0 (StableHlo.launchContents m' c) = m ((c.tc : Thread Cert.KernelIdeal.nD Cert.KernelIdeal.τ).loc Cert.KernelIdeal.main_arg0) := e0
  have x1 : Cert.ReferenceIdeal.Value.a1 (StableHlo.launchContents m' c) = m ((c.tc : Thread Cert.KernelIdeal.nD Cert.KernelIdeal.τ).loc Cert.KernelIdeal.main_arg1) := e1
  have x2 : Cert.ReferenceIdeal.Value.a2 (StableHlo.launchContents m' c) = m ((c.tc : Thread Cert.KernelIdeal.nD Cert.KernelIdeal.τ).loc Cert.KernelIdeal.main_arg2) := e2
  have x3 : Cert.ReferenceIdeal.Value.a3 (StableHlo.launchContents m' c) = m ((c.tc : Thread Cert.KernelIdeal.nD Cert.KernelIdeal.τ).loc Cert.KernelIdeal.main_arg3) := e3
  have x4 : Cert.ReferenceIdeal.Value.a4 (StableHlo.launchContents m' c) = m ((c.tc : Thread Cert.KernelIdeal.nD Cert.KernelIdeal.τ).loc Cert.KernelIdeal.main_arg4) := e4
  have x5 : Cert.ReferenceIdeal.Value.a5 (StableHlo.launchContents m' c) = m ((c.tc : Thread Cert.KernelIdeal.nD Cert.KernelIdeal.τ).loc Cert.KernelIdeal.main_arg5) := e5
  have y0 := Cert.ReferenceIdeal.Value.res114 _ f0 f1 f2 f3 f4 f5
  have y1 := Cert.ReferenceIdeal.Value.res108 _ f0 f1 f2 f3 f4 f5
  have y2 := Cert.ReferenceIdeal.Value.res77 _ f0 f1 f2 f3 f4 f5
  have y3 := Cert.ReferenceIdeal.Value.res115 (StableHlo.launchContents m' c)
  rw [x0, x1, x2, x3, x4, x5] at y0 y1 y2
  rw [x0, x1, x2, x3, x5] at y3
  exact ⟨r0.trans (y0.trans (W8_v7 m g c).symm), r1.trans (y1.trans (W8_v8 m g c).symm), r2.trans (y2.trans (W8_v9 m g c).symm),
    r3.trans (y3.trans (W8_v5 m g c).symm), q⟩

theorem claim : Cert.Claim :=
  ⟨Cert.Kernel.Gen.facts, Cert.KernelIdeal.Gen.facts, Cert.ReferenceIdeal.Gen.facts,
    Cert.UpBwdX.Gen.facts, Cert.UpBwdXIdeal.Gen.facts, Cert.UpBwdXRefIdeal.Gen.facts,
    Cert.Down.Gen.facts, Cert.DownIdeal.Gen.facts, Cert.DownRefIdeal.Gen.facts,
    Cert.InBwdXQkv.Gen.facts, Cert.InBwdXQkvIdeal.Gen.facts, Cert.InBwdXQkvRefIdeal.Gen.facts,
    Cert.InBwdXGate.Gen.facts, Cert.InBwdXGateIdeal.Gen.facts, Cert.InBwdXGateRefIdeal.Gen.facts,
    Cert.ProjQkv.Gen.facts, Cert.ProjQkvIdeal.Gen.facts, Cert.ProjQkvRefIdeal.Gen.facts,
    Cert.ProjGate.Gen.facts, Cert.ProjGateIdeal.Gen.facts, Cert.ProjGateRefIdeal.Gen.facts,
    Cert.OutBwdW.Gen.facts, Cert.OutBwdWIdeal.Gen.facts, Cert.OutBwdWRefIdeal.Gen.facts,
    Cert.InBwdW.Gen.facts, Cert.InBwdWIdeal.Gen.facts, Cert.InBwdWRefIdeal.Gen.facts,
    Cert.Merge.Gen.facts, Cert.MergeIdeal.Gen.facts, Cert.MergeRefIdeal.Gen.facts,
    Cert.MergeBwd.Gen.facts, Cert.MergeBwdIdeal.Gen.facts, Cert.MergeBwdRefIdeal.Gen.facts,
    Cert.PreNorm.Gen.facts, Cert.PreNormIdeal.Gen.facts, Cert.PreNormRefIdeal.Gen.facts,
    Cert.PostNorm.Gen.facts, Cert.PostNormIdeal.Gen.facts, Cert.PostNormRefIdeal.Gen.facts,
    Cert.NormBwd.Gen.facts, Cert.NormBwdIdeal.Gen.facts, Cert.NormBwdRefIdeal.Gen.facts,
    Cert.Chain.Gen.facts, Cert.ChainIdeal.Gen.facts, Cert.ChainRefIdeal.Gen.facts,
    preFacts, Cert.NormBwdIdeal.Value.preFacts, Cert.ChainIdeal.Value.preFacts,
    fun m ρ _ => Cert.Kernel.Own.frame m ρ, fun m ρ _ => Cert.KernelIdeal.Own.frame m ρ,
    fun m ρ _ => Cert.KernelIdeal.Own.frame m ρ, frameRef, fun m ρ _ => frameRef m ρ trivial,
    fun m ρ _ => Cert.UpBwdX.Gen.frame m ρ, fun m ρ _ => Cert.UpBwdXIdeal.Gen.frame m ρ, Cert.UpBwdXRefIdeal.Value.frame,
    fun m ρ _ => Cert.Down.Gen.frame m ρ, fun m ρ _ => Cert.DownIdeal.Gen.frame m ρ, Cert.DownRefIdeal.Value.frame,
    fun m ρ _ => Cert.InBwdXQkv.Gen.frame m ρ, fun m ρ _ => Cert.InBwdXQkvIdeal.Gen.frame m ρ, Cert.InBwdXQkvRefIdeal.Value.frame,
    fun m ρ _ => Cert.InBwdXGate.Gen.frame m ρ, fun m ρ _ => Cert.InBwdXGateIdeal.Gen.frame m ρ, Cert.InBwdXGateRefIdeal.Value.frame,
    fun m ρ _ => Cert.ProjQkv.Gen.frame m ρ, fun m ρ _ => Cert.ProjQkvIdeal.Gen.frame m ρ, Cert.ProjQkvRefIdeal.Value.frame,
    fun m ρ _ => Cert.ProjGate.Gen.frame m ρ, fun m ρ _ => Cert.ProjGateIdeal.Gen.frame m ρ, Cert.ProjGateRefIdeal.Value.frame,
    fun m ρ _ => Cert.OutBwdW.Gen.frame m ρ, fun m ρ _ => Cert.OutBwdWIdeal.Gen.frame m ρ, Cert.OutBwdWRefIdeal.Value.frame,
    fun m ρ _ => Cert.InBwdW.Gen.frame m ρ, fun m ρ _ => Cert.InBwdWIdeal.Gen.frame m ρ, Cert.InBwdWRefIdeal.Value.frame,
    fun m ρ _ => Cert.Merge.Gen.frame m ρ, fun m ρ _ => Cert.MergeIdeal.Gen.frame m ρ, Cert.MergeRefIdeal.Value.frame,
    fun m ρ _ => Cert.MergeBwd.Gen.frame m ρ, fun m ρ _ => Cert.MergeBwdIdeal.Gen.frame m ρ, Cert.MergeBwdRefIdeal.Value.frame,
    fun m ρ _ => Cert.PreNorm.Gen.frame m ρ, fun m ρ _ => Cert.PreNormIdeal.Gen.frame m ρ, Cert.PreNormRefIdeal.Value.frame,
    fun m ρ _ => Cert.PostNorm.Gen.frame m ρ, fun m ρ _ => Cert.PostNormIdeal.Gen.frame m ρ, Cert.PostNormRefIdeal.Value.frame,
    fun m ρ _ => Cert.NormBwd.Gen.frame m ρ, fun m ρ _ => Cert.NormBwdIdeal.Gen.frame m ρ,
    fun m ρ _ => Cert.NormBwdIdeal.Gen.frame m ρ, Cert.NormBwdRefIdeal.Value.frame, fun m ρ _ => Cert.NormBwdRefIdeal.Value.frame m ρ trivial,
    fun m ρ _ => Cert.Chain.Gen.frame m ρ, fun m ρ _ => Cert.ChainIdeal.Gen.frame m ρ,
    fun m ρ _ => Cert.ChainIdeal.Gen.frame m ρ, Cert.ChainRefIdeal.Value.frame, fun m ρ _ => Cert.ChainRefIdeal.Value.frame m ρ trivial,
    named, equal,
    trivial, Cert.UpBwdXIdeal.Value.equal,
    trivial, Cert.DownIdeal.Value.equal,
    trivial, Cert.InBwdXQkvIdeal.Value.equal,
    trivial, Cert.InBwdXGateIdeal.Value.equal,
    trivial, Cert.ProjQkvIdeal.Value.equal,
    trivial, Cert.ProjGateIdeal.Value.equal,
    trivial, Cert.OutBwdWIdeal.Value.equal,
    trivial, Cert.InBwdWIdeal.Value.equal,
    trivial, Cert.MergeIdeal.Value.equal,
    trivial, Cert.MergeBwdIdeal.Value.equal,
    trivial, Cert.PreNormIdeal.Value.equal,
    trivial, Cert.PostNormIdeal.Value.equal,
    trivial, Cert.NormBwdIdeal.Value.equal,
    trivial, Cert.ChainIdeal.Value.equal⟩

end Cert.Proof

end
